-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.2.2 = (fun _ => 1#1)

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_PbDw (m : (ℓ : Loc Cert.PbDw.nD Cert.PbDw.τ Cert.PbDw.sig) → Buf (Elt Bits) ℓ) : Prop :=
  True

def Pre_PbDwIdeal (m : (ℓ : Loc Cert.PbDwIdeal.nD Cert.PbDwIdeal.τ Cert.PbDwIdeal.sig) → Buf (Elt Ideal) ℓ) : Prop :=
  True

def Pre_PbDwRefIdeal (m : (ℓ : Loc Cert.PbDwRefIdeal.nD Cert.PbDwRefIdeal.τ Cert.PbDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_PbDx (m : (ℓ : Loc Cert.PbDx.nD Cert.PbDx.τ Cert.PbDx.sig) → Buf (Elt Bits) ℓ) : Prop :=
  True

def Pre_PbDxIdeal (m : (ℓ : Loc Cert.PbDxIdeal.nD Cert.PbDxIdeal.τ Cert.PbDxIdeal.sig) → Buf (Elt Ideal) ℓ) : Prop :=
  True

def Pre_PbDxRefIdeal (m : (ℓ : Loc Cert.PbDxRefIdeal.nD Cert.PbDxRefIdeal.τ Cert.PbDxRefIdeal.sig) → Buf (Elt Ideal) ℓ) : Prop :=
  True

def Pre_InFw (m : (ℓ : Loc Cert.InFw.nD Cert.InFw.τ Cert.InFw.sig) → Buf (Elt Bits) ℓ) : Prop :=
  True

def Pre_InFwIdeal (m : (ℓ : Loc Cert.InFwIdeal.nD Cert.InFwIdeal.τ Cert.InFwIdeal.sig) → Buf (Elt Ideal) ℓ) : Prop :=
  True

def Pre_InFwRefIdeal (m : (ℓ : Loc Cert.InFwRefIdeal.nD Cert.InFwRefIdeal.τ Cert.InFwRefIdeal.sig) → Buf (Elt Ideal) ℓ) : Prop :=
  True

def Pre_UpFw (m : (ℓ : Loc Cert.UpFw.nD Cert.UpFw.τ Cert.UpFw.sig) → Buf (Elt Bits) ℓ) : Prop :=
  True

def Pre_UpFwIdeal (m : (ℓ : Loc Cert.UpFwIdeal.nD Cert.UpFwIdeal.τ Cert.UpFwIdeal.sig) → Buf (Elt Ideal) ℓ) : Prop :=
  True

def Pre_UpFwRefIdeal (m : (ℓ : Loc Cert.UpFwRefIdeal.nD Cert.UpFwRefIdeal.τ Cert.UpFwRefIdeal.sig) → Buf (Elt Ideal) ℓ) : Prop :=
  True

def Pre_DownFw (m : (ℓ : Loc Cert.DownFw.nD Cert.DownFw.τ Cert.DownFw.sig) → Buf (Elt Bits) ℓ) : Prop :=
  True

def Pre_DownFwIdeal (m : (ℓ : Loc Cert.DownFwIdeal.nD Cert.DownFwIdeal.τ Cert.DownFwIdeal.sig) → Buf (Elt Ideal) ℓ) : Prop :=
  True

def Pre_DownFwRefIdeal (m : (ℓ : Loc Cert.DownFwRefIdeal.nD Cert.DownFwRefIdeal.τ Cert.DownFwRefIdeal.sig) → Buf (Elt Ideal) ℓ) : Prop :=
  True

def Pre_OutFw (m : (ℓ : Loc Cert.OutFw.nD Cert.OutFw.τ Cert.OutFw.sig) → Buf (Elt Bits) ℓ) : Prop :=
  True

def Pre_OutFwIdeal (m : (ℓ : Loc Cert.OutFwIdeal.nD Cert.OutFwIdeal.τ Cert.OutFwIdeal.sig) → Buf (Elt Ideal) ℓ) : Prop :=
  True

def Pre_OutFwRefIdeal (m : (ℓ : Loc Cert.OutFwRefIdeal.nD Cert.OutFwRefIdeal.τ Cert.OutFwRefIdeal.sig) → Buf (Elt Ideal) ℓ) : Prop :=
  True

def Pre_PbFw (m : (ℓ : Loc Cert.PbFw.nD Cert.PbFw.τ Cert.PbFw.sig) → Buf (Elt Bits) ℓ) : Prop :=
  True

def Pre_PbFwIdeal (m : (ℓ : Loc Cert.PbFwIdeal.nD Cert.PbFwIdeal.τ Cert.PbFwIdeal.sig) → Buf (Elt Ideal) ℓ) : Prop :=
  True

def Pre_PbFwRefIdeal (m : (ℓ : Loc Cert.PbFwRefIdeal.nD Cert.PbFwRefIdeal.τ Cert.PbFwRefIdeal.sig) → Buf (Elt Ideal) ℓ) : Prop :=
  True

def Pre_ActBw (m : (ℓ : Loc Cert.ActBw.nD Cert.ActBw.τ Cert.ActBw.sig) → Buf (Elt Bits) ℓ) : Prop :=
  True

def Pre_ActBwIdeal (m : (ℓ : Loc Cert.ActBwIdeal.nD Cert.ActBwIdeal.τ Cert.ActBwIdeal.sig) → Buf (Elt Ideal) ℓ) : Prop :=
  True

def Pre_ActBwIdeal_bounded [hPre_bounded : Cert.Pre_bounded.Facts] (m : (ℓ : Loc Cert.ActBwIdeal.nD Cert.ActBwIdeal.τ Cert.ActBwIdeal.sig) → Buf (Elt Ideal) ℓ) : Prop :=
  ∀ c : Dev Cert.ActBwIdeal.nD,
    (Cert.Pre_bounded.fn (F := Ideal) (m ((c.tc : Thread Cert.ActBwIdeal.nD Cert.ActBwIdeal.τ).loc Cert.ActBwIdeal.main_arg0)) (m ((c.tc : Thread Cert.ActBwIdeal.nD Cert.ActBwIdeal.τ).loc Cert.ActBwIdeal.main_arg1)) (m ((c.tc : Thread Cert.ActBwIdeal.nD Cert.ActBwIdeal.τ).loc Cert.ActBwIdeal.main_arg2))) = (fun _ => 1#1)

def Pre_ActBwRefIdeal (m : (ℓ : Loc Cert.ActBwRefIdeal.nD Cert.ActBwRefIdeal.τ Cert.ActBwRefIdeal.sig) → Buf (Elt Ideal) ℓ) : Prop :=
  True

def Pre_ActBwRefIdeal_bounded [hPre_bounded : Cert.Pre_bounded.Facts] (m : (ℓ : Loc Cert.ActBwRefIdeal.nD Cert.ActBwRefIdeal.τ Cert.ActBwRefIdeal.sig) → Buf (Elt Ideal) ℓ) : Prop :=
  ∀ c : Dev Cert.ActBwRefIdeal.nD,
    (Cert.Pre_bounded.fn (F := Ideal) (m ((c.tc : Thread Cert.ActBwRefIdeal.nD Cert.ActBwRefIdeal.τ).loc Cert.ActBwRefIdeal.main_arg0)) (m ((c.tc : Thread Cert.ActBwRefIdeal.nD Cert.ActBwRefIdeal.τ).loc Cert.ActBwRefIdeal.main_arg1)) (m ((c.tc : Thread Cert.ActBwRefIdeal.nD Cert.ActBwRefIdeal.τ).loc Cert.ActBwRefIdeal.main_arg2))) = (fun _ => 1#1)

def Pre_MergeFw (m : (ℓ : Loc Cert.MergeFw.nD Cert.MergeFw.τ Cert.MergeFw.sig) → Buf (Elt Bits) ℓ) : Prop :=
  True

def Pre_MergeFwIdeal (m : (ℓ : Loc Cert.MergeFwIdeal.nD Cert.MergeFwIdeal.τ Cert.MergeFwIdeal.sig) → Buf (Elt Ideal) ℓ) : Prop :=
  True

def Pre_MergeFwRefIdeal (m : (ℓ : Loc Cert.MergeFwRefIdeal.nD Cert.MergeFwRefIdeal.τ Cert.MergeFwRefIdeal.sig) → Buf (Elt Ideal) ℓ) : Prop :=
  True

def Pre_MergeBw (m : (ℓ : Loc Cert.MergeBw.nD Cert.MergeBw.τ Cert.MergeBw.sig) → Buf (Elt Bits) ℓ) : Prop :=
  True

def Pre_MergeBwIdeal (m : (ℓ : Loc Cert.MergeBwIdeal.nD Cert.MergeBwIdeal.τ Cert.MergeBwIdeal.sig) → Buf (Elt Ideal) ℓ) : Prop :=
  True

def Pre_MergeBwRefIdeal (m : (ℓ : Loc Cert.MergeBwRefIdeal.nD Cert.MergeBwRefIdeal.τ Cert.MergeBwRefIdeal.sig) → Buf (Elt Ideal) ℓ) : Prop :=
  True

def Pre_SmallFw (m : (ℓ : Loc Cert.SmallFw.nD Cert.SmallFw.τ Cert.SmallFw.sig) → Buf (Elt Bits) ℓ) : Prop :=
  True

def Pre_SmallFwIdeal (m : (ℓ : Loc Cert.SmallFwIdeal.nD Cert.SmallFwIdeal.τ Cert.SmallFwIdeal.sig) → Buf (Elt Ideal) ℓ) : Prop :=
  True

def Pre_SmallFwRefIdeal (m : (ℓ : Loc Cert.SmallFwRefIdeal.nD Cert.SmallFwRefIdeal.τ Cert.SmallFwRefIdeal.sig) → Buf (Elt Ideal) ℓ) : Prop :=
  True

def Pre_NormFw (m : (ℓ : Loc Cert.NormFw.nD Cert.NormFw.τ Cert.NormFw.sig) → Buf (Elt Bits) ℓ) : Prop :=
  True

def Pre_NormFwIdeal (m : (ℓ : Loc Cert.NormFwIdeal.nD Cert.NormFwIdeal.τ Cert.NormFwIdeal.sig) → Buf (Elt Ideal) ℓ) : Prop :=
  True

def Pre_NormFwRefIdeal (m : (ℓ : Loc Cert.NormFwRefIdeal.nD Cert.NormFwRefIdeal.τ Cert.NormFwRefIdeal.sig) → Buf (Elt Ideal) ℓ) : Prop :=
  True

def Pre_NormBw (m : (ℓ : Loc Cert.NormBw.nD Cert.NormBw.τ Cert.NormBw.sig) → Buf (Elt Bits) ℓ) : Prop :=
  True

def Pre_NormBwIdeal (m : (ℓ : Loc Cert.NormBwIdeal.nD Cert.NormBwIdeal.τ Cert.NormBwIdeal.sig) → Buf (Elt Ideal) ℓ) : Prop :=
  True

def Pre_NormBwRefIdeal (m : (ℓ : Loc Cert.NormBwRefIdeal.nD Cert.NormBwRefIdeal.τ Cert.NormBwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_PbDw [hPbDw : Cert.PbDw.Facts] : Prop :=
  ∀ (m : (ℓ : Loc Cert.PbDw.nD Cert.PbDw.τ Cert.PbDw.sig) → Buf (Elt Bits) ℓ) (g : Dev Cert.PbDw.nD → PrngReg), Pre_PbDw m →
    θ_run (Cert.PbDw.defs (F := Bits)) (onTc (τ := Cert.PbDw.τ) (Cert.PbDw.main (F := Bits))) ⟨m, fun _ => 0, g⟩ (fun r => (∀ c : Dev Cert.PbDw.nD,
      r.2.mem ((c.tc : Thread Cert.PbDw.nD Cert.PbDw.τ).loc Cert.PbDw.main_arg0) = m ((c.tc : Thread Cert.PbDw.nD Cert.PbDw.τ).loc Cert.PbDw.main_arg0)
      ∧ r.2.mem ((c.tc : Thread Cert.PbDw.nD Cert.PbDw.τ).loc Cert.PbDw.main_arg1) = m ((c.tc : Thread Cert.PbDw.nD Cert.PbDw.τ).loc Cert.PbDw.main_arg1))
      ∧ r.2.sem = fun _ => 0)

def quiescent_PbDwIdeal [hPbDwIdeal : Cert.PbDwIdeal.Facts] : Prop :=
  ∀ (m : (ℓ : Loc Cert.PbDwIdeal.nD Cert.PbDwIdeal.τ Cert.PbDwIdeal.sig) → Buf (Elt Ideal) ℓ) (g : Dev Cert.PbDwIdeal.nD → PrngReg), Pre_PbDwIdeal m →
    θ_run (Cert.PbDwIdeal.defs (F := Ideal)) (onTc (τ := Cert.PbDwIdeal.τ) (Cert.PbDwIdeal.main (F := Ideal))) ⟨m, fun _ => 0, g⟩ (fun r => (∀ c : Dev Cert.PbDwIdeal.nD,
      r.2.mem ((c.tc : Thread Cert.PbDwIdeal.nD Cert.PbDwIdeal.τ).loc Cert.PbDwIdeal.main_arg0) = m ((c.tc : Thread Cert.PbDwIdeal.nD Cert.PbDwIdeal.τ).loc Cert.PbDwIdeal.main_arg0)
      ∧ r.2.mem ((c.tc : Thread Cert.PbDwIdeal.nD Cert.PbDwIdeal.τ).loc Cert.PbDwIdeal.main_arg1) = m ((c.tc : Thread Cert.PbDwIdeal.nD Cert.PbDwIdeal.τ).loc Cert.PbDwIdeal.main_arg1))
      ∧ r.2.sem = fun _ => 0)

def quiescent_PbDwRefIdeal [hPbDwRefIdeal : Cert.PbDwRefIdeal.Facts] : Prop :=
  ∀ (m : (ℓ : Loc Cert.PbDwRefIdeal.nD Cert.PbDwRefIdeal.τ Cert.PbDwRefIdeal.sig) → Buf (Elt Ideal) ℓ) (g : Dev Cert.PbDwRefIdeal.nD → PrngReg), Pre_PbDwRefIdeal m →
    θ_run (Cert.PbDwRefIdeal.defs (F := Ideal)) (onTc (τ := Cert.PbDwRefIdeal.τ) (Cert.PbDwRefIdeal.main (F := Ideal))) ⟨m, fun _ => 0, g⟩ (fun r => (∀ c : Dev Cert.PbDwRefIdeal.nD,
      r.2.mem ((c.tc : Thread Cert.PbDwRefIdeal.nD Cert.PbDwRefIdeal.τ).loc Cert.PbDwRefIdeal.main_arg0) = m ((c.tc : Thread Cert.PbDwRefIdeal.nD Cert.PbDwRefIdeal.τ).loc Cert.PbDwRefIdeal.main_arg0)
      ∧ r.2.mem ((c.tc : Thread Cert.PbDwRefIdeal.nD Cert.PbDwRefIdeal.τ).loc Cert.PbDwRefIdeal.main_arg1) = m ((c.tc : Thread Cert.PbDwRefIdeal.nD Cert.PbDwRefIdeal.τ).loc Cert.PbDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_PbDx [hPbDx : Cert.PbDx.Facts] : Prop :=
  ∀ (m : (ℓ : Loc Cert.PbDx.nD Cert.PbDx.τ Cert.PbDx.sig) → Buf (Elt Bits) ℓ) (g : Dev Cert.PbDx.nD → PrngReg), Pre_PbDx m →
    θ_run (Cert.PbDx.defs (F := Bits)) (onTc (τ := Cert.PbDx.τ) (Cert.PbDx.main (F := Bits))) ⟨m, fun _ => 0, g⟩ (fun r => (∀ c : Dev Cert.PbDx.nD,
      r.2.mem ((c.tc : Thread Cert.PbDx.nD Cert.PbDx.τ).loc Cert.PbDx.main_arg0) = m ((c.tc : Thread Cert.PbDx.nD Cert.PbDx.τ).loc Cert.PbDx.main_arg0)
      ∧ r.2.mem ((c.tc : Thread Cert.PbDx.nD Cert.PbDx.τ).loc Cert.PbDx.main_arg1) = m ((c.tc : Thread Cert.PbDx.nD Cert.PbDx.τ).loc Cert.PbDx.main_arg1))
      ∧ r.2.sem = fun _ => 0)

def quiescent_PbDxIdeal [hPbDxIdeal : Cert.PbDxIdeal.Facts] : Prop :=
  ∀ (m : (ℓ : Loc Cert.PbDxIdeal.nD Cert.PbDxIdeal.τ Cert.PbDxIdeal.sig) → Buf (Elt Ideal) ℓ) (g : Dev Cert.PbDxIdeal.nD → PrngReg), Pre_PbDxIdeal m →
    θ_run (Cert.PbDxIdeal.defs (F := Ideal)) (onTc (τ := Cert.PbDxIdeal.τ) (Cert.PbDxIdeal.main (F := Ideal))) ⟨m, fun _ => 0, g⟩ (fun r => (∀ c : Dev Cert.PbDxIdeal.nD,
      r.2.mem ((c.tc : Thread Cert.PbDxIdeal.nD Cert.PbDxIdeal.τ).loc Cert.PbDxIdeal.main_arg0) = m ((c.tc : Thread Cert.PbDxIdeal.nD Cert.PbDxIdeal.τ).loc Cert.PbDxIdeal.main_arg0)
      ∧ r.2.mem ((c.tc : Thread Cert.PbDxIdeal.nD Cert.PbDxIdeal.τ).loc Cert.PbDxIdeal.main_arg1) = m ((c.tc : Thread Cert.PbDxIdeal.nD Cert.PbDxIdeal.τ).loc Cert.PbDxIdeal.main_arg1))
      ∧ r.2.sem = fun _ => 0)

def quiescent_PbDxRefIdeal [hPbDxRefIdeal : Cert.PbDxRefIdeal.Facts] : Prop :=
  ∀ (m : (ℓ : Loc Cert.PbDxRefIdeal.nD Cert.PbDxRefIdeal.τ Cert.PbDxRefIdeal.sig) → Buf (Elt Ideal) ℓ) (g : Dev Cert.PbDxRefIdeal.nD → PrngReg), Pre_PbDxRefIdeal m →
    θ_run (Cert.PbDxRefIdeal.defs (F := Ideal)) (onTc (τ := Cert.PbDxRefIdeal.τ) (Cert.PbDxRefIdeal.main (F := Ideal))) ⟨m, fun _ => 0, g⟩ (fun r => (∀ c : Dev Cert.PbDxRefIdeal.nD,
      r.2.mem ((c.tc : Thread Cert.PbDxRefIdeal.nD Cert.PbDxRefIdeal.τ).loc Cert.PbDxRefIdeal.main_arg0) = m ((c.tc : Thread Cert.PbDxRefIdeal.nD Cert.PbDxRefIdeal.τ).loc Cert.PbDxRefIdeal.main_arg0)
      ∧ r.2.mem ((c.tc : Thread Cert.PbDxRefIdeal.nD Cert.PbDxRefIdeal.τ).loc Cert.PbDxRefIdeal.main_arg1) = m ((c.tc : Thread Cert.PbDxRefIdeal.nD Cert.PbDxRefIdeal.τ).loc Cert.PbDxRefIdeal.main_arg1))
      ∧ r.2.sem = fun _ => 0)

def quiescent_InFw [hInFw : Cert.InFw.Facts] : Prop :=
  ∀ (m : (ℓ : Loc Cert.InFw.nD Cert.InFw.τ Cert.InFw.sig) → Buf (Elt Bits) ℓ) (g : Dev Cert.InFw.nD → PrngReg), Pre_InFw m →
    θ_run (Cert.InFw.defs (F := Bits)) (onTc (τ := Cert.InFw.τ) (Cert.InFw.main (F := Bits))) ⟨m, fun _ => 0, g⟩ (fun r => (∀ c : Dev Cert.InFw.nD,
      r.2.mem ((c.tc : Thread Cert.InFw.nD Cert.InFw.τ).loc Cert.InFw.main_arg0) = m ((c.tc : Thread Cert.InFw.nD Cert.InFw.τ).loc Cert.InFw.main_arg0)
      ∧ r.2.mem ((c.tc : Thread Cert.InFw.nD Cert.InFw.τ).loc Cert.InFw.main_arg1) = m ((c.tc : Thread Cert.InFw.nD Cert.InFw.τ).loc Cert.InFw.main_arg1))
      ∧ r.2.sem = fun _ => 0)

def quiescent_InFwIdeal [hInFwIdeal : Cert.InFwIdeal.Facts] : Prop :=
  ∀ (m : (ℓ : Loc Cert.InFwIdeal.nD Cert.InFwIdeal.τ Cert.InFwIdeal.sig) → Buf (Elt Ideal) ℓ) (g : Dev Cert.InFwIdeal.nD → PrngReg), Pre_InFwIdeal m →
    θ_run (Cert.InFwIdeal.defs (F := Ideal)) (onTc (τ := Cert.InFwIdeal.τ) (Cert.InFwIdeal.main (F := Ideal))) ⟨m, fun _ => 0, g⟩ (fun r => (∀ c : Dev Cert.InFwIdeal.nD,
      r.2.mem ((c.tc : Thread Cert.InFwIdeal.nD Cert.InFwIdeal.τ).loc Cert.InFwIdeal.main_arg0) = m ((c.tc : Thread Cert.InFwIdeal.nD Cert.InFwIdeal.τ).loc Cert.InFwIdeal.main_arg0)
      ∧ r.2.mem ((c.tc : Thread Cert.InFwIdeal.nD Cert.InFwIdeal.τ).loc Cert.InFwIdeal.main_arg1) = m ((c.tc : Thread Cert.InFwIdeal.nD Cert.InFwIdeal.τ).loc Cert.InFwIdeal.main_arg1))
      ∧ r.2.sem = fun _ => 0)

def quiescent_InFwRefIdeal [hInFwRefIdeal : Cert.InFwRefIdeal.Facts] : Prop :=
  ∀ (m : (ℓ : Loc Cert.InFwRefIdeal.nD Cert.InFwRefIdeal.τ Cert.InFwRefIdeal.sig) → Buf (Elt Ideal) ℓ) (g : Dev Cert.InFwRefIdeal.nD → PrngReg), Pre_InFwRefIdeal m →
    θ_run (Cert.InFwRefIdeal.defs (F := Ideal)) (onTc (τ := Cert.InFwRefIdeal.τ) (Cert.InFwRefIdeal.main (F := Ideal))) ⟨m, fun _ => 0, g⟩ (fun r => (∀ c : Dev Cert.InFwRefIdeal.nD,
      r.2.mem ((c.tc : Thread Cert.InFwRefIdeal.nD Cert.InFwRefIdeal.τ).loc Cert.InFwRefIdeal.main_arg0) = m ((c.tc : Thread Cert.InFwRefIdeal.nD Cert.InFwRefIdeal.τ).loc Cert.InFwRefIdeal.main_arg0)
      ∧ r.2.mem ((c.tc : Thread Cert.InFwRefIdeal.nD Cert.InFwRefIdeal.τ).loc Cert.InFwRefIdeal.main_arg1) = m ((c.tc : Thread Cert.InFwRefIdeal.nD Cert.InFwRefIdeal.τ).loc Cert.InFwRefIdeal.main_arg1))
      ∧ r.2.sem = fun _ => 0)

def quiescent_UpFw [hUpFw : Cert.UpFw.Facts] : Prop :=
  ∀ (m : (ℓ : Loc Cert.UpFw.nD Cert.UpFw.τ Cert.UpFw.sig) → Buf (Elt Bits) ℓ) (g : Dev Cert.UpFw.nD → PrngReg), Pre_UpFw m →
    θ_run (Cert.UpFw.defs (F := Bits)) (onTc (τ := Cert.UpFw.τ) (Cert.UpFw.main (F := Bits))) ⟨m, fun _ => 0, g⟩ (fun r => (∀ c : Dev Cert.UpFw.nD,
      r.2.mem ((c.tc : Thread Cert.UpFw.nD Cert.UpFw.τ).loc Cert.UpFw.main_arg0) = m ((c.tc : Thread Cert.UpFw.nD Cert.UpFw.τ).loc Cert.UpFw.main_arg0)
      ∧ r.2.mem ((c.tc : Thread Cert.UpFw.nD Cert.UpFw.τ).loc Cert.UpFw.main_arg1) = m ((c.tc : Thread Cert.UpFw.nD Cert.UpFw.τ).loc Cert.UpFw.main_arg1))
      ∧ r.2.sem = fun _ => 0)

def quiescent_UpFwIdeal [hUpFwIdeal : Cert.UpFwIdeal.Facts] : Prop :=
  ∀ (m : (ℓ : Loc Cert.UpFwIdeal.nD Cert.UpFwIdeal.τ Cert.UpFwIdeal.sig) → Buf (Elt Ideal) ℓ) (g : Dev Cert.UpFwIdeal.nD → PrngReg), Pre_UpFwIdeal m →
    θ_run (Cert.UpFwIdeal.defs (F := Ideal)) (onTc (τ := Cert.UpFwIdeal.τ) (Cert.UpFwIdeal.main (F := Ideal))) ⟨m, fun _ => 0, g⟩ (fun r => (∀ c : Dev Cert.UpFwIdeal.nD,
      r.2.mem ((c.tc : Thread Cert.UpFwIdeal.nD Cert.UpFwIdeal.τ).loc Cert.UpFwIdeal.main_arg0) = m ((c.tc : Thread Cert.UpFwIdeal.nD Cert.UpFwIdeal.τ).loc Cert.UpFwIdeal.main_arg0)
      ∧ r.2.mem ((c.tc : Thread Cert.UpFwIdeal.nD Cert.UpFwIdeal.τ).loc Cert.UpFwIdeal.main_arg1) = m ((c.tc : Thread Cert.UpFwIdeal.nD Cert.UpFwIdeal.τ).loc Cert.UpFwIdeal.main_arg1))
      ∧ r.2.sem = fun _ => 0)

def quiescent_UpFwRefIdeal [hUpFwRefIdeal : Cert.UpFwRefIdeal.Facts] : Prop :=
  ∀ (m : (ℓ : Loc Cert.UpFwRefIdeal.nD Cert.UpFwRefIdeal.τ Cert.UpFwRefIdeal.sig) → Buf (Elt Ideal) ℓ) (g : Dev Cert.UpFwRefIdeal.nD → PrngReg), Pre_UpFwRefIdeal m →
    θ_run (Cert.UpFwRefIdeal.defs (F := Ideal)) (onTc (τ := Cert.UpFwRefIdeal.τ) (Cert.UpFwRefIdeal.main (F := Ideal))) ⟨m, fun _ => 0, g⟩ (fun r => (∀ c : Dev Cert.UpFwRefIdeal.nD,
      r.2.mem ((c.tc : Thread Cert.UpFwRefIdeal.nD Cert.UpFwRefIdeal.τ).loc Cert.UpFwRefIdeal.main_arg0) = m ((c.tc : Thread Cert.UpFwRefIdeal.nD Cert.UpFwRefIdeal.τ).loc Cert.UpFwRefIdeal.main_arg0)
      ∧ r.2.mem ((c.tc : Thread Cert.UpFwRefIdeal.nD Cert.UpFwRefIdeal.τ).loc Cert.UpFwRefIdeal.main_arg1) = m ((c.tc : Thread Cert.UpFwRefIdeal.nD Cert.UpFwRefIdeal.τ).loc Cert.UpFwRefIdeal.main_arg1))
      ∧ r.2.sem = fun _ => 0)

def quiescent_DownFw [hDownFw : Cert.DownFw.Facts] : Prop :=
  ∀ (m : (ℓ : Loc Cert.DownFw.nD Cert.DownFw.τ Cert.DownFw.sig) → Buf (Elt Bits) ℓ) (g : Dev Cert.DownFw.nD → PrngReg), Pre_DownFw m →
    θ_run (Cert.DownFw.defs (F := Bits)) (onTc (τ := Cert.DownFw.τ) (Cert.DownFw.main (F := Bits))) ⟨m, fun _ => 0, g⟩ (fun r => (∀ c : Dev Cert.DownFw.nD,
      r.2.mem ((c.tc : Thread Cert.DownFw.nD Cert.DownFw.τ).loc Cert.DownFw.main_arg0) = m ((c.tc : Thread Cert.DownFw.nD Cert.DownFw.τ).loc Cert.DownFw.main_arg0)
      ∧ r.2.mem ((c.tc : Thread Cert.DownFw.nD Cert.DownFw.τ).loc Cert.DownFw.main_arg1) = m ((c.tc : Thread Cert.DownFw.nD Cert.DownFw.τ).loc Cert.DownFw.main_arg1)
      ∧ r.2.mem ((c.tc : Thread Cert.DownFw.nD Cert.DownFw.τ).loc Cert.DownFw.main_arg2) = m ((c.tc : Thread Cert.DownFw.nD Cert.DownFw.τ).loc Cert.DownFw.main_arg2))
      ∧ r.2.sem = fun _ => 0)

def quiescent_DownFwIdeal [hDownFwIdeal : Cert.DownFwIdeal.Facts] : Prop :=
  ∀ (m : (ℓ : Loc Cert.DownFwIdeal.nD Cert.DownFwIdeal.τ Cert.DownFwIdeal.sig) → Buf (Elt Ideal) ℓ) (g : Dev Cert.DownFwIdeal.nD → PrngReg), Pre_DownFwIdeal m →
    θ_run (Cert.DownFwIdeal.defs (F := Ideal)) (onTc (τ := Cert.DownFwIdeal.τ) (Cert.DownFwIdeal.main (F := Ideal))) ⟨m, fun _ => 0, g⟩ (fun r => (∀ c : Dev Cert.DownFwIdeal.nD,
      r.2.mem ((c.tc : Thread Cert.DownFwIdeal.nD Cert.DownFwIdeal.τ).loc Cert.DownFwIdeal.main_arg0) = m ((c.tc : Thread Cert.DownFwIdeal.nD Cert.DownFwIdeal.τ).loc Cert.DownFwIdeal.main_arg0)
      ∧ r.2.mem ((c.tc : Thread Cert.DownFwIdeal.nD Cert.DownFwIdeal.τ).loc Cert.DownFwIdeal.main_arg1) = m ((c.tc : Thread Cert.DownFwIdeal.nD Cert.DownFwIdeal.τ).loc Cert.DownFwIdeal.main_arg1)
      ∧ r.2.mem ((c.tc : Thread Cert.DownFwIdeal.nD Cert.DownFwIdeal.τ).loc Cert.DownFwIdeal.main_arg2) = m ((c.tc : Thread Cert.DownFwIdeal.nD Cert.DownFwIdeal.τ).loc Cert.DownFwIdeal.main_arg2))
      ∧ r.2.sem = fun _ => 0)

def quiescent_DownFwRefIdeal [hDownFwRefIdeal : Cert.DownFwRefIdeal.Facts] : Prop :=
  ∀ (m : (ℓ : Loc Cert.DownFwRefIdeal.nD Cert.DownFwRefIdeal.τ Cert.DownFwRefIdeal.sig) → Buf (Elt Ideal) ℓ) (g : Dev Cert.DownFwRefIdeal.nD → PrngReg), Pre_DownFwRefIdeal m →
    θ_run (Cert.DownFwRefIdeal.defs (F := Ideal)) (onTc (τ := Cert.DownFwRefIdeal.τ) (Cert.DownFwRefIdeal.main (F := Ideal))) ⟨m, fun _ => 0, g⟩ (fun r => (∀ c : Dev Cert.DownFwRefIdeal.nD,
      r.2.mem ((c.tc : Thread Cert.DownFwRefIdeal.nD Cert.DownFwRefIdeal.τ).loc Cert.DownFwRefIdeal.main_arg0) = m ((c.tc : Thread Cert.DownFwRefIdeal.nD Cert.DownFwRefIdeal.τ).loc Cert.DownFwRefIdeal.main_arg0)
      ∧ r.2.mem ((c.tc : Thread Cert.DownFwRefIdeal.nD Cert.DownFwRefIdeal.τ).loc Cert.DownFwRefIdeal.main_arg1) = m ((c.tc : Thread Cert.DownFwRefIdeal.nD Cert.DownFwRefIdeal.τ).loc Cert.DownFwRefIdeal.main_arg1)
      ∧ r.2.mem ((c.tc : Thread Cert.DownFwRefIdeal.nD Cert.DownFwRefIdeal.τ).loc Cert.DownFwRefIdeal.main_arg2) = m ((c.tc : Thread Cert.DownFwRefIdeal.nD Cert.DownFwRefIdeal.τ).loc Cert.DownFwRefIdeal.main_arg2))
      ∧ r.2.sem = fun _ => 0)

def quiescent_OutFw [hOutFw : Cert.OutFw.Facts] : Prop :=
  ∀ (m : (ℓ : Loc Cert.OutFw.nD Cert.OutFw.τ Cert.OutFw.sig) → Buf (Elt Bits) ℓ) (g : Dev Cert.OutFw.nD → PrngReg), Pre_OutFw m →
    θ_run (Cert.OutFw.defs (F := Bits)) (onTc (τ := Cert.OutFw.τ) (Cert.OutFw.main (F := Bits))) ⟨m, fun _ => 0, g⟩ (fun r => (∀ c : Dev Cert.OutFw.nD,
      r.2.mem ((c.tc : Thread Cert.OutFw.nD Cert.OutFw.τ).loc Cert.OutFw.main_arg0) = m ((c.tc : Thread Cert.OutFw.nD Cert.OutFw.τ).loc Cert.OutFw.main_arg0)
      ∧ r.2.mem ((c.tc : Thread Cert.OutFw.nD Cert.OutFw.τ).loc Cert.OutFw.main_arg1) = m ((c.tc : Thread Cert.OutFw.nD Cert.OutFw.τ).loc Cert.OutFw.main_arg1))
      ∧ r.2.sem = fun _ => 0)

def quiescent_OutFwIdeal [hOutFwIdeal : Cert.OutFwIdeal.Facts] : Prop :=
  ∀ (m : (ℓ : Loc Cert.OutFwIdeal.nD Cert.OutFwIdeal.τ Cert.OutFwIdeal.sig) → Buf (Elt Ideal) ℓ) (g : Dev Cert.OutFwIdeal.nD → PrngReg), Pre_OutFwIdeal m →
    θ_run (Cert.OutFwIdeal.defs (F := Ideal)) (onTc (τ := Cert.OutFwIdeal.τ) (Cert.OutFwIdeal.main (F := Ideal))) ⟨m, fun _ => 0, g⟩ (fun r => (∀ c : Dev Cert.OutFwIdeal.nD,
      r.2.mem ((c.tc : Thread Cert.OutFwIdeal.nD Cert.OutFwIdeal.τ).loc Cert.OutFwIdeal.main_arg0) = m ((c.tc : Thread Cert.OutFwIdeal.nD Cert.OutFwIdeal.τ).loc Cert.OutFwIdeal.main_arg0)
      ∧ r.2.mem ((c.tc : Thread Cert.OutFwIdeal.nD Cert.OutFwIdeal.τ).loc Cert.OutFwIdeal.main_arg1) = m ((c.tc : Thread Cert.OutFwIdeal.nD Cert.OutFwIdeal.τ).loc Cert.OutFwIdeal.main_arg1))
      ∧ r.2.sem = fun _ => 0)

def quiescent_OutFwRefIdeal [hOutFwRefIdeal : Cert.OutFwRefIdeal.Facts] : Prop :=
  ∀ (m : (ℓ : Loc Cert.OutFwRefIdeal.nD Cert.OutFwRefIdeal.τ Cert.OutFwRefIdeal.sig) → Buf (Elt Ideal) ℓ) (g : Dev Cert.OutFwRefIdeal.nD → PrngReg), Pre_OutFwRefIdeal m →
    θ_run (Cert.OutFwRefIdeal.defs (F := Ideal)) (onTc (τ := Cert.OutFwRefIdeal.τ) (Cert.OutFwRefIdeal.main (F := Ideal))) ⟨m, fun _ => 0, g⟩ (fun r => (∀ c : Dev Cert.OutFwRefIdeal.nD,
      r.2.mem ((c.tc : Thread Cert.OutFwRefIdeal.nD Cert.OutFwRefIdeal.τ).loc Cert.OutFwRefIdeal.main_arg0) = m ((c.tc : Thread Cert.OutFwRefIdeal.nD Cert.OutFwRefIdeal.τ).loc Cert.OutFwRefIdeal.main_arg0)
      ∧ r.2.mem ((c.tc : Thread Cert.OutFwRefIdeal.nD Cert.OutFwRefIdeal.τ).loc Cert.OutFwRefIdeal.main_arg1) = m ((c.tc : Thread Cert.OutFwRefIdeal.nD Cert.OutFwRefIdeal.τ).loc Cert.OutFwRefIdeal.main_arg1))
      ∧ r.2.sem = fun _ => 0)

def quiescent_PbFw [hPbFw : Cert.PbFw.Facts] : Prop :=
  ∀ (m : (ℓ : Loc Cert.PbFw.nD Cert.PbFw.τ Cert.PbFw.sig) → Buf (Elt Bits) ℓ) (g : Dev Cert.PbFw.nD → PrngReg), Pre_PbFw m →
    θ_run (Cert.PbFw.defs (F := Bits)) (onTc (τ := Cert.PbFw.τ) (Cert.PbFw.main (F := Bits))) ⟨m, fun _ => 0, g⟩ (fun r => (∀ c : Dev Cert.PbFw.nD,
      r.2.mem ((c.tc : Thread Cert.PbFw.nD Cert.PbFw.τ).loc Cert.PbFw.main_arg0) = m ((c.tc : Thread Cert.PbFw.nD Cert.PbFw.τ).loc Cert.PbFw.main_arg0)
      ∧ r.2.mem ((c.tc : Thread Cert.PbFw.nD Cert.PbFw.τ).loc Cert.PbFw.main_arg1) = m ((c.tc : Thread Cert.PbFw.nD Cert.PbFw.τ).loc Cert.PbFw.main_arg1))
      ∧ r.2.sem = fun _ => 0)

def quiescent_PbFwIdeal [hPbFwIdeal : Cert.PbFwIdeal.Facts] : Prop :=
  ∀ (m : (ℓ : Loc Cert.PbFwIdeal.nD Cert.PbFwIdeal.τ Cert.PbFwIdeal.sig) → Buf (Elt Ideal) ℓ) (g : Dev Cert.PbFwIdeal.nD → PrngReg), Pre_PbFwIdeal m →
    θ_run (Cert.PbFwIdeal.defs (F := Ideal)) (onTc (τ := Cert.PbFwIdeal.τ) (Cert.PbFwIdeal.main (F := Ideal))) ⟨m, fun _ => 0, g⟩ (fun r => (∀ c : Dev Cert.PbFwIdeal.nD,
      r.2.mem ((c.tc : Thread Cert.PbFwIdeal.nD Cert.PbFwIdeal.τ).loc Cert.PbFwIdeal.main_arg0) = m ((c.tc : Thread Cert.PbFwIdeal.nD Cert.PbFwIdeal.τ).loc Cert.PbFwIdeal.main_arg0)
      ∧ r.2.mem ((c.tc : Thread Cert.PbFwIdeal.nD Cert.PbFwIdeal.τ).loc Cert.PbFwIdeal.main_arg1) = m ((c.tc : Thread Cert.PbFwIdeal.nD Cert.PbFwIdeal.τ).loc Cert.PbFwIdeal.main_arg1))
      ∧ r.2.sem = fun _ => 0)

def quiescent_PbFwRefIdeal [hPbFwRefIdeal : Cert.PbFwRefIdeal.Facts] : Prop :=
  ∀ (m : (ℓ : Loc Cert.PbFwRefIdeal.nD Cert.PbFwRefIdeal.τ Cert.PbFwRefIdeal.sig) → Buf (Elt Ideal) ℓ) (g : Dev Cert.PbFwRefIdeal.nD → PrngReg), Pre_PbFwRefIdeal m →
    θ_run (Cert.PbFwRefIdeal.defs (F := Ideal)) (onTc (τ := Cert.PbFwRefIdeal.τ) (Cert.PbFwRefIdeal.main (F := Ideal))) ⟨m, fun _ => 0, g⟩ (fun r => (∀ c : Dev Cert.PbFwRefIdeal.nD,
      r.2.mem ((c.tc : Thread Cert.PbFwRefIdeal.nD Cert.PbFwRefIdeal.τ).loc Cert.PbFwRefIdeal.main_arg0) = m ((c.tc : Thread Cert.PbFwRefIdeal.nD Cert.PbFwRefIdeal.τ).loc Cert.PbFwRefIdeal.main_arg0)
      ∧ r.2.mem ((c.tc : Thread Cert.PbFwRefIdeal.nD Cert.PbFwRefIdeal.τ).loc Cert.PbFwRefIdeal.main_arg1) = m ((c.tc : Thread Cert.PbFwRefIdeal.nD Cert.PbFwRefIdeal.τ).loc Cert.PbFwRefIdeal.main_arg1))
      ∧ r.2.sem = fun _ => 0)

def quiescent_ActBw [hActBw : Cert.ActBw.Facts] : Prop :=
  ∀ (m : (ℓ : Loc Cert.ActBw.nD Cert.ActBw.τ Cert.ActBw.sig) → Buf (Elt Bits) ℓ) (g : Dev Cert.ActBw.nD → PrngReg), Pre_ActBw m →
    θ_run (Cert.ActBw.defs (F := Bits)) (onTc (τ := Cert.ActBw.τ) (Cert.ActBw.main (F := Bits))) ⟨m, fun _ => 0, g⟩ (fun r => (∀ c : Dev Cert.ActBw.nD,
      r.2.mem ((c.tc : Thread Cert.ActBw.nD Cert.ActBw.τ).loc Cert.ActBw.main_arg0) = m ((c.tc : Thread Cert.ActBw.nD Cert.ActBw.τ).loc Cert.ActBw.main_arg0)
      ∧ r.2.mem ((c.tc : Thread Cert.ActBw.nD Cert.ActBw.τ).loc Cert.ActBw.main_arg1) = m ((c.tc : Thread Cert.ActBw.nD Cert.ActBw.τ).loc Cert.ActBw.main_arg1)
      ∧ r.2.mem ((c.tc : Thread Cert.ActBw.nD Cert.ActBw.τ).loc Cert.ActBw.main_arg2) = m ((c.tc : Thread Cert.ActBw.nD Cert.ActBw.τ).loc Cert.ActBw.main_arg2))
      ∧ r.2.sem = fun _ => 0)

def quiescent_ActBwIdeal [hActBwIdeal : Cert.ActBwIdeal.Facts] : Prop :=
  ∀ (m : (ℓ : Loc Cert.ActBwIdeal.nD Cert.ActBwIdeal.τ Cert.ActBwIdeal.sig) → Buf (Elt Ideal) ℓ) (g : Dev Cert.ActBwIdeal.nD → PrngReg), Pre_ActBwIdeal m →
    θ_run (Cert.ActBwIdeal.defs (F := Ideal)) (onTc (τ := Cert.ActBwIdeal.τ) (Cert.ActBwIdeal.main (F := Ideal))) ⟨m, fun _ => 0, g⟩ (fun r => (∀ c : Dev Cert.ActBwIdeal.nD,
      r.2.mem ((c.tc : Thread Cert.ActBwIdeal.nD Cert.ActBwIdeal.τ).loc Cert.ActBwIdeal.main_arg0) = m ((c.tc : Thread Cert.ActBwIdeal.nD Cert.ActBwIdeal.τ).loc Cert.ActBwIdeal.main_arg0)
      ∧ r.2.mem ((c.tc : Thread Cert.ActBwIdeal.nD Cert.ActBwIdeal.τ).loc Cert.ActBwIdeal.main_arg1) = m ((c.tc : Thread Cert.ActBwIdeal.nD Cert.ActBwIdeal.τ).loc Cert.ActBwIdeal.main_arg1)
      ∧ r.2.mem ((c.tc : Thread Cert.ActBwIdeal.nD Cert.ActBwIdeal.τ).loc Cert.ActBwIdeal.main_arg2) = m ((c.tc : Thread Cert.ActBwIdeal.nD Cert.ActBwIdeal.τ).loc Cert.ActBwIdeal.main_arg2))
      ∧ r.2.sem = fun _ => 0)

def quiescent_ActBwIdeal_pre_bounded [hActBwIdeal : Cert.ActBwIdeal.Facts] [hPre_bounded : Cert.Pre_bounded.Facts] : Prop :=
  ∀ (m : (ℓ : Loc Cert.ActBwIdeal.nD Cert.ActBwIdeal.τ Cert.ActBwIdeal.sig) → Buf (Elt Ideal) ℓ) (g : Dev Cert.ActBwIdeal.nD → PrngReg), Pre_ActBwIdeal_bounded m →
    θ_run (Cert.ActBwIdeal.defs (F := Ideal)) (onTc (τ := Cert.ActBwIdeal.τ) (Cert.ActBwIdeal.main (F := Ideal))) ⟨m, fun _ => 0, g⟩ (fun r => (∀ c : Dev Cert.ActBwIdeal.nD,
      r.2.mem ((c.tc : Thread Cert.ActBwIdeal.nD Cert.ActBwIdeal.τ).loc Cert.ActBwIdeal.main_arg0) = m ((c.tc : Thread Cert.ActBwIdeal.nD Cert.ActBwIdeal.τ).loc Cert.ActBwIdeal.main_arg0)
      ∧ r.2.mem ((c.tc : Thread Cert.ActBwIdeal.nD Cert.ActBwIdeal.τ).loc Cert.ActBwIdeal.main_arg1) = m ((c.tc : Thread Cert.ActBwIdeal.nD Cert.ActBwIdeal.τ).loc Cert.ActBwIdeal.main_arg1)
      ∧ r.2.mem ((c.tc : Thread Cert.ActBwIdeal.nD Cert.ActBwIdeal.τ).loc Cert.ActBwIdeal.main_arg2) = m ((c.tc : Thread Cert.ActBwIdeal.nD Cert.ActBwIdeal.τ).loc Cert.ActBwIdeal.main_arg2))
      ∧ r.2.sem = fun _ => 0)

def quiescent_ActBwRefIdeal [hActBwRefIdeal : Cert.ActBwRefIdeal.Facts] : Prop :=
  ∀ (m : (ℓ : Loc Cert.ActBwRefIdeal.nD Cert.ActBwRefIdeal.τ Cert.ActBwRefIdeal.sig) → Buf (Elt Ideal) ℓ) (g : Dev Cert.ActBwRefIdeal.nD → PrngReg), Pre_ActBwRefIdeal m →
    θ_run (Cert.ActBwRefIdeal.defs (F := Ideal)) (onTc (τ := Cert.ActBwRefIdeal.τ) (Cert.ActBwRefIdeal.main (F := Ideal))) ⟨m, fun _ => 0, g⟩ (fun r => (∀ c : Dev Cert.ActBwRefIdeal.nD,
      r.2.mem ((c.tc : Thread Cert.ActBwRefIdeal.nD Cert.ActBwRefIdeal.τ).loc Cert.ActBwRefIdeal.main_arg0) = m ((c.tc : Thread Cert.ActBwRefIdeal.nD Cert.ActBwRefIdeal.τ).loc Cert.ActBwRefIdeal.main_arg0)
      ∧ r.2.mem ((c.tc : Thread Cert.ActBwRefIdeal.nD Cert.ActBwRefIdeal.τ).loc Cert.ActBwRefIdeal.main_arg1) = m ((c.tc : Thread Cert.ActBwRefIdeal.nD Cert.ActBwRefIdeal.τ).loc Cert.ActBwRefIdeal.main_arg1)
      ∧ r.2.mem ((c.tc : Thread Cert.ActBwRefIdeal.nD Cert.ActBwRefIdeal.τ).loc Cert.ActBwRefIdeal.main_arg2) = m ((c.tc : Thread Cert.ActBwRefIdeal.nD Cert.ActBwRefIdeal.τ).loc Cert.ActBwRefIdeal.main_arg2))
      ∧ r.2.sem = fun _ => 0)

def quiescent_ActBwRefIdeal_pre_bounded [hActBwRefIdeal : Cert.ActBwRefIdeal.Facts] [hPre_bounded : Cert.Pre_bounded.Facts] : Prop :=
  ∀ (m : (ℓ : Loc Cert.ActBwRefIdeal.nD Cert.ActBwRefIdeal.τ Cert.ActBwRefIdeal.sig) → Buf (Elt Ideal) ℓ) (g : Dev Cert.ActBwRefIdeal.nD → PrngReg), Pre_ActBwRefIdeal_bounded m →
    θ_run (Cert.ActBwRefIdeal.defs (F := Ideal)) (onTc (τ := Cert.ActBwRefIdeal.τ) (Cert.ActBwRefIdeal.main (F := Ideal))) ⟨m, fun _ => 0, g⟩ (fun r => (∀ c : Dev Cert.ActBwRefIdeal.nD,
      r.2.mem ((c.tc : Thread Cert.ActBwRefIdeal.nD Cert.ActBwRefIdeal.τ).loc Cert.ActBwRefIdeal.main_arg0) = m ((c.tc : Thread Cert.ActBwRefIdeal.nD Cert.ActBwRefIdeal.τ).loc Cert.ActBwRefIdeal.main_arg0)
      ∧ r.2.mem ((c.tc : Thread Cert.ActBwRefIdeal.nD Cert.ActBwRefIdeal.τ).loc Cert.ActBwRefIdeal.main_arg1) = m ((c.tc : Thread Cert.ActBwRefIdeal.nD Cert.ActBwRefIdeal.τ).loc Cert.ActBwRefIdeal.main_arg1)
      ∧ r.2.mem ((c.tc : Thread Cert.ActBwRefIdeal.nD Cert.ActBwRefIdeal.τ).loc Cert.ActBwRefIdeal.main_arg2) = m ((c.tc : Thread Cert.ActBwRefIdeal.nD Cert.ActBwRefIdeal.τ).loc Cert.ActBwRefIdeal.main_arg2))
      ∧ r.2.sem = fun _ => 0)

def quiescent_MergeFw [hMergeFw : Cert.MergeFw.Facts] : Prop :=
  ∀ (m : (ℓ : Loc Cert.MergeFw.nD Cert.MergeFw.τ Cert.MergeFw.sig) → Buf (Elt Bits) ℓ) (g : Dev Cert.MergeFw.nD → PrngReg), Pre_MergeFw m →
    θ_run (Cert.MergeFw.defs (F := Bits)) (onTc (τ := Cert.MergeFw.τ) (Cert.MergeFw.main (F := Bits))) ⟨m, fun _ => 0, g⟩ (fun r => (∀ c : Dev Cert.MergeFw.nD,
      r.2.mem ((c.tc : Thread Cert.MergeFw.nD Cert.MergeFw.τ).loc Cert.MergeFw.main_arg0) = m ((c.tc : Thread Cert.MergeFw.nD Cert.MergeFw.τ).loc Cert.MergeFw.main_arg0)
      ∧ r.2.mem ((c.tc : Thread Cert.MergeFw.nD Cert.MergeFw.τ).loc Cert.MergeFw.main_arg1) = m ((c.tc : Thread Cert.MergeFw.nD Cert.MergeFw.τ).loc Cert.MergeFw.main_arg1)
      ∧ r.2.mem ((c.tc : Thread Cert.MergeFw.nD Cert.MergeFw.τ).loc Cert.MergeFw.main_arg2) = m ((c.tc : Thread Cert.MergeFw.nD Cert.MergeFw.τ).loc Cert.MergeFw.main_arg2))
      ∧ r.2.sem = fun _ => 0)

def quiescent_MergeFwIdeal [hMergeFwIdeal : Cert.MergeFwIdeal.Facts] : Prop :=
  ∀ (m : (ℓ : Loc Cert.MergeFwIdeal.nD Cert.MergeFwIdeal.τ Cert.MergeFwIdeal.sig) → Buf (Elt Ideal) ℓ) (g : Dev Cert.MergeFwIdeal.nD → PrngReg), Pre_MergeFwIdeal m →
    θ_run (Cert.MergeFwIdeal.defs (F := Ideal)) (onTc (τ := Cert.MergeFwIdeal.τ) (Cert.MergeFwIdeal.main (F := Ideal))) ⟨m, fun _ => 0, g⟩ (fun r => (∀ c : Dev Cert.MergeFwIdeal.nD,
      r.2.mem ((c.tc : Thread Cert.MergeFwIdeal.nD Cert.MergeFwIdeal.τ).loc Cert.MergeFwIdeal.main_arg0) = m ((c.tc : Thread Cert.MergeFwIdeal.nD Cert.MergeFwIdeal.τ).loc Cert.MergeFwIdeal.main_arg0)
      ∧ r.2.mem ((c.tc : Thread Cert.MergeFwIdeal.nD Cert.MergeFwIdeal.τ).loc Cert.MergeFwIdeal.main_arg1) = m ((c.tc : Thread Cert.MergeFwIdeal.nD Cert.MergeFwIdeal.τ).loc Cert.MergeFwIdeal.main_arg1)
      ∧ r.2.mem ((c.tc : Thread Cert.MergeFwIdeal.nD Cert.MergeFwIdeal.τ).loc Cert.MergeFwIdeal.main_arg2) = m ((c.tc : Thread Cert.MergeFwIdeal.nD Cert.MergeFwIdeal.τ).loc Cert.MergeFwIdeal.main_arg2))
      ∧ r.2.sem = fun _ => 0)

def quiescent_MergeFwRefIdeal [hMergeFwRefIdeal : Cert.MergeFwRefIdeal.Facts] : Prop :=
  ∀ (m : (ℓ : Loc Cert.MergeFwRefIdeal.nD Cert.MergeFwRefIdeal.τ Cert.MergeFwRefIdeal.sig) → Buf (Elt Ideal) ℓ) (g : Dev Cert.MergeFwRefIdeal.nD → PrngReg), Pre_MergeFwRefIdeal m →
    θ_run (Cert.MergeFwRefIdeal.defs (F := Ideal)) (onTc (τ := Cert.MergeFwRefIdeal.τ) (Cert.MergeFwRefIdeal.main (F := Ideal))) ⟨m, fun _ => 0, g⟩ (fun r => (∀ c : Dev Cert.MergeFwRefIdeal.nD,
      r.2.mem ((c.tc : Thread Cert.MergeFwRefIdeal.nD Cert.MergeFwRefIdeal.τ).loc Cert.MergeFwRefIdeal.main_arg0) = m ((c.tc : Thread Cert.MergeFwRefIdeal.nD Cert.MergeFwRefIdeal.τ).loc Cert.MergeFwRefIdeal.main_arg0)
      ∧ r.2.mem ((c.tc : Thread Cert.MergeFwRefIdeal.nD Cert.MergeFwRefIdeal.τ).loc Cert.MergeFwRefIdeal.main_arg1) = m ((c.tc : Thread Cert.MergeFwRefIdeal.nD Cert.MergeFwRefIdeal.τ).loc Cert.MergeFwRefIdeal.main_arg1)
      ∧ r.2.mem ((c.tc : Thread Cert.MergeFwRefIdeal.nD Cert.MergeFwRefIdeal.τ).loc Cert.MergeFwRefIdeal.main_arg2) = m ((c.tc : Thread Cert.MergeFwRefIdeal.nD Cert.MergeFwRefIdeal.τ).loc Cert.MergeFwRefIdeal.main_arg2))
      ∧ r.2.sem = fun _ => 0)

def quiescent_MergeBw [hMergeBw : Cert.MergeBw.Facts] : Prop :=
  ∀ (m : (ℓ : Loc Cert.MergeBw.nD Cert.MergeBw.τ Cert.MergeBw.sig) → Buf (Elt Bits) ℓ) (g : Dev Cert.MergeBw.nD → PrngReg), Pre_MergeBw m →
    θ_run (Cert.MergeBw.defs (F := Bits)) (onTc (τ := Cert.MergeBw.τ) (Cert.MergeBw.main (F := Bits))) ⟨m, fun _ => 0, g⟩ (fun r => (∀ c : Dev Cert.MergeBw.nD,
      r.2.mem ((c.tc : Thread Cert.MergeBw.nD Cert.MergeBw.τ).loc Cert.MergeBw.main_arg0) = m ((c.tc : Thread Cert.MergeBw.nD Cert.MergeBw.τ).loc Cert.MergeBw.main_arg0)
      ∧ r.2.mem ((c.tc : Thread Cert.MergeBw.nD Cert.MergeBw.τ).loc Cert.MergeBw.main_arg1) = m ((c.tc : Thread Cert.MergeBw.nD Cert.MergeBw.τ).loc Cert.MergeBw.main_arg1)
      ∧ r.2.mem ((c.tc : Thread Cert.MergeBw.nD Cert.MergeBw.τ).loc Cert.MergeBw.main_arg2) = m ((c.tc : Thread Cert.MergeBw.nD Cert.MergeBw.τ).loc Cert.MergeBw.main_arg2)
      ∧ r.2.mem ((c.tc : Thread Cert.MergeBw.nD Cert.MergeBw.τ).loc Cert.MergeBw.main_arg3) = m ((c.tc : Thread Cert.MergeBw.nD Cert.MergeBw.τ).loc Cert.MergeBw.main_arg3)
      ∧ r.2.mem ((c.tc : Thread Cert.MergeBw.nD Cert.MergeBw.τ).loc Cert.MergeBw.main_arg4) = m ((c.tc : Thread Cert.MergeBw.nD Cert.MergeBw.τ).loc Cert.MergeBw.main_arg4))
      ∧ r.2.sem = fun _ => 0)

def quiescent_MergeBwIdeal [hMergeBwIdeal : Cert.MergeBwIdeal.Facts] : Prop :=
  ∀ (m : (ℓ : Loc Cert.MergeBwIdeal.nD Cert.MergeBwIdeal.τ Cert.MergeBwIdeal.sig) → Buf (Elt Ideal) ℓ) (g : Dev Cert.MergeBwIdeal.nD → PrngReg), Pre_MergeBwIdeal m →
    θ_run (Cert.MergeBwIdeal.defs (F := Ideal)) (onTc (τ := Cert.MergeBwIdeal.τ) (Cert.MergeBwIdeal.main (F := Ideal))) ⟨m, fun _ => 0, g⟩ (fun r => (∀ c : Dev Cert.MergeBwIdeal.nD,
      r.2.mem ((c.tc : Thread Cert.MergeBwIdeal.nD Cert.MergeBwIdeal.τ).loc Cert.MergeBwIdeal.main_arg0) = m ((c.tc : Thread Cert.MergeBwIdeal.nD Cert.MergeBwIdeal.τ).loc Cert.MergeBwIdeal.main_arg0)
      ∧ r.2.mem ((c.tc : Thread Cert.MergeBwIdeal.nD Cert.MergeBwIdeal.τ).loc Cert.MergeBwIdeal.main_arg1) = m ((c.tc : Thread Cert.MergeBwIdeal.nD Cert.MergeBwIdeal.τ).loc Cert.MergeBwIdeal.main_arg1)
      ∧ r.2.mem ((c.tc : Thread Cert.MergeBwIdeal.nD Cert.MergeBwIdeal.τ).loc Cert.MergeBwIdeal.main_arg2) = m ((c.tc : Thread Cert.MergeBwIdeal.nD Cert.MergeBwIdeal.τ).loc Cert.MergeBwIdeal.main_arg2)
      ∧ r.2.mem ((c.tc : Thread Cert.MergeBwIdeal.nD Cert.MergeBwIdeal.τ).loc Cert.MergeBwIdeal.main_arg3) = m ((c.tc : Thread Cert.MergeBwIdeal.nD Cert.MergeBwIdeal.τ).loc Cert.MergeBwIdeal.main_arg3)
      ∧ r.2.mem ((c.tc : Thread Cert.MergeBwIdeal.nD Cert.MergeBwIdeal.τ).loc Cert.MergeBwIdeal.main_arg4) = m ((c.tc : Thread Cert.MergeBwIdeal.nD Cert.MergeBwIdeal.τ).loc Cert.MergeBwIdeal.main_arg4))
      ∧ r.2.sem = fun _ => 0)

def quiescent_MergeBwRefIdeal [hMergeBwRefIdeal : Cert.MergeBwRefIdeal.Facts] : Prop :=
  ∀ (m : (ℓ : Loc Cert.MergeBwRefIdeal.nD Cert.MergeBwRefIdeal.τ Cert.MergeBwRefIdeal.sig) → Buf (Elt Ideal) ℓ) (g : Dev Cert.MergeBwRefIdeal.nD → PrngReg), Pre_MergeBwRefIdeal m →
    θ_run (Cert.MergeBwRefIdeal.defs (F := Ideal)) (onTc (τ := Cert.MergeBwRefIdeal.τ) (Cert.MergeBwRefIdeal.main (F := Ideal))) ⟨m, fun _ => 0, g⟩ (fun r => (∀ c : Dev Cert.MergeBwRefIdeal.nD,
      r.2.mem ((c.tc : Thread Cert.MergeBwRefIdeal.nD Cert.MergeBwRefIdeal.τ).loc Cert.MergeBwRefIdeal.main_arg0) = m ((c.tc : Thread Cert.MergeBwRefIdeal.nD Cert.MergeBwRefIdeal.τ).loc Cert.MergeBwRefIdeal.main_arg0)
      ∧ r.2.mem ((c.tc : Thread Cert.MergeBwRefIdeal.nD Cert.MergeBwRefIdeal.τ).loc Cert.MergeBwRefIdeal.main_arg1) = m ((c.tc : Thread Cert.MergeBwRefIdeal.nD Cert.MergeBwRefIdeal.τ).loc Cert.MergeBwRefIdeal.main_arg1)
      ∧ r.2.mem ((c.tc : Thread Cert.MergeBwRefIdeal.nD Cert.MergeBwRefIdeal.τ).loc Cert.MergeBwRefIdeal.main_arg2) = m ((c.tc : Thread Cert.MergeBwRefIdeal.nD Cert.MergeBwRefIdeal.τ).loc Cert.MergeBwRefIdeal.main_arg2)
      ∧ r.2.mem ((c.tc : Thread Cert.MergeBwRefIdeal.nD Cert.MergeBwRefIdeal.τ).loc Cert.MergeBwRefIdeal.main_arg3) = m ((c.tc : Thread Cert.MergeBwRefIdeal.nD Cert.MergeBwRefIdeal.τ).loc Cert.MergeBwRefIdeal.main_arg3)
      ∧ r.2.mem ((c.tc : Thread Cert.MergeBwRefIdeal.nD Cert.MergeBwRefIdeal.τ).loc Cert.MergeBwRefIdeal.main_arg4) = m ((c.tc : Thread Cert.MergeBwRefIdeal.nD Cert.MergeBwRefIdeal.τ).loc Cert.MergeBwRefIdeal.main_arg4))
      ∧ r.2.sem = fun _ => 0)

def quiescent_SmallFw [hSmallFw : Cert.SmallFw.Facts] : Prop :=
  ∀ (m : (ℓ : Loc Cert.SmallFw.nD Cert.SmallFw.τ Cert.SmallFw.sig) → Buf (Elt Bits) ℓ) (g : Dev Cert.SmallFw.nD → PrngReg), Pre_SmallFw m →
    θ_run (Cert.SmallFw.defs (F := Bits)) (onTc (τ := Cert.SmallFw.τ) (Cert.SmallFw.main (F := Bits))) ⟨m, fun _ => 0, g⟩ (fun r => (∀ c : Dev Cert.SmallFw.nD,
      r.2.mem ((c.tc : Thread Cert.SmallFw.nD Cert.SmallFw.τ).loc Cert.SmallFw.main_arg0) = m ((c.tc : Thread Cert.SmallFw.nD Cert.SmallFw.τ).loc Cert.SmallFw.main_arg0)
      ∧ r.2.mem ((c.tc : Thread Cert.SmallFw.nD Cert.SmallFw.τ).loc Cert.SmallFw.main_arg1) = m ((c.tc : Thread Cert.SmallFw.nD Cert.SmallFw.τ).loc Cert.SmallFw.main_arg1))
      ∧ r.2.sem = fun _ => 0)

def quiescent_SmallFwIdeal [hSmallFwIdeal : Cert.SmallFwIdeal.Facts] : Prop :=
  ∀ (m : (ℓ : Loc Cert.SmallFwIdeal.nD Cert.SmallFwIdeal.τ Cert.SmallFwIdeal.sig) → Buf (Elt Ideal) ℓ) (g : Dev Cert.SmallFwIdeal.nD → PrngReg), Pre_SmallFwIdeal m →
    θ_run (Cert.SmallFwIdeal.defs (F := Ideal)) (onTc (τ := Cert.SmallFwIdeal.τ) (Cert.SmallFwIdeal.main (F := Ideal))) ⟨m, fun _ => 0, g⟩ (fun r => (∀ c : Dev Cert.SmallFwIdeal.nD,
      r.2.mem ((c.tc : Thread Cert.SmallFwIdeal.nD Cert.SmallFwIdeal.τ).loc Cert.SmallFwIdeal.main_arg0) = m ((c.tc : Thread Cert.SmallFwIdeal.nD Cert.SmallFwIdeal.τ).loc Cert.SmallFwIdeal.main_arg0)
      ∧ r.2.mem ((c.tc : Thread Cert.SmallFwIdeal.nD Cert.SmallFwIdeal.τ).loc Cert.SmallFwIdeal.main_arg1) = m ((c.tc : Thread Cert.SmallFwIdeal.nD Cert.SmallFwIdeal.τ).loc Cert.SmallFwIdeal.main_arg1))
      ∧ r.2.sem = fun _ => 0)

def quiescent_SmallFwRefIdeal [hSmallFwRefIdeal : Cert.SmallFwRefIdeal.Facts] : Prop :=
  ∀ (m : (ℓ : Loc Cert.SmallFwRefIdeal.nD Cert.SmallFwRefIdeal.τ Cert.SmallFwRefIdeal.sig) → Buf (Elt Ideal) ℓ) (g : Dev Cert.SmallFwRefIdeal.nD → PrngReg), Pre_SmallFwRefIdeal m →
    θ_run (Cert.SmallFwRefIdeal.defs (F := Ideal)) (onTc (τ := Cert.SmallFwRefIdeal.τ) (Cert.SmallFwRefIdeal.main (F := Ideal))) ⟨m, fun _ => 0, g⟩ (fun r => (∀ c : Dev Cert.SmallFwRefIdeal.nD,
      r.2.mem ((c.tc : Thread Cert.SmallFwRefIdeal.nD Cert.SmallFwRefIdeal.τ).loc Cert.SmallFwRefIdeal.main_arg0) = m ((c.tc : Thread Cert.SmallFwRefIdeal.nD Cert.SmallFwRefIdeal.τ).loc Cert.SmallFwRefIdeal.main_arg0)
      ∧ r.2.mem ((c.tc : Thread Cert.SmallFwRefIdeal.nD Cert.SmallFwRefIdeal.τ).loc Cert.SmallFwRefIdeal.main_arg1) = m ((c.tc : Thread Cert.SmallFwRefIdeal.nD Cert.SmallFwRefIdeal.τ).loc Cert.SmallFwRefIdeal.main_arg1))
      ∧ r.2.sem = fun _ => 0)

def quiescent_NormFw [hNormFw : Cert.NormFw.Facts] : Prop :=
  ∀ (m : (ℓ : Loc Cert.NormFw.nD Cert.NormFw.τ Cert.NormFw.sig) → Buf (Elt Bits) ℓ) (g : Dev Cert.NormFw.nD → PrngReg), Pre_NormFw m →
    θ_run (Cert.NormFw.defs (F := Bits)) (onTc (τ := Cert.NormFw.τ) (Cert.NormFw.main (F := Bits))) ⟨m, fun _ => 0, g⟩ (fun r => (∀ c : Dev Cert.NormFw.nD,
      r.2.mem ((c.tc : Thread Cert.NormFw.nD Cert.NormFw.τ).loc Cert.NormFw.main_arg0) = m ((c.tc : Thread Cert.NormFw.nD Cert.NormFw.τ).loc Cert.NormFw.main_arg0)
      ∧ r.2.mem ((c.tc : Thread Cert.NormFw.nD Cert.NormFw.τ).loc Cert.NormFw.main_arg1) = m ((c.tc : Thread Cert.NormFw.nD Cert.NormFw.τ).loc Cert.NormFw.main_arg1)
      ∧ r.2.mem ((c.tc : Thread Cert.NormFw.nD Cert.NormFw.τ).loc Cert.NormFw.main_arg2) = m ((c.tc : Thread Cert.NormFw.nD Cert.NormFw.τ).loc Cert.NormFw.main_arg2)
      ∧ r.2.mem ((c.tc : Thread Cert.NormFw.nD Cert.NormFw.τ).loc Cert.NormFw.main_arg3) = m ((c.tc : Thread Cert.NormFw.nD Cert.NormFw.τ).loc Cert.NormFw.main_arg3)
      ∧ r.2.mem ((c.tc : Thread Cert.NormFw.nD Cert.NormFw.τ).loc Cert.NormFw.main_arg4) = m ((c.tc : Thread Cert.NormFw.nD Cert.NormFw.τ).loc Cert.NormFw.main_arg4)
      ∧ r.2.mem ((c.tc : Thread Cert.NormFw.nD Cert.NormFw.τ).loc Cert.NormFw.main_arg5) = m ((c.tc : Thread Cert.NormFw.nD Cert.NormFw.τ).loc Cert.NormFw.main_arg5)
      ∧ r.2.mem ((c.tc : Thread Cert.NormFw.nD Cert.NormFw.τ).loc Cert.NormFw.main_arg6) = m ((c.tc : Thread Cert.NormFw.nD Cert.NormFw.τ).loc Cert.NormFw.main_arg6))
      ∧ r.2.sem = fun _ => 0)

def quiescent_NormFwIdeal [hNormFwIdeal : Cert.NormFwIdeal.Facts] : Prop :=
  ∀ (m : (ℓ : Loc Cert.NormFwIdeal.nD Cert.NormFwIdeal.τ Cert.NormFwIdeal.sig) → Buf (Elt Ideal) ℓ) (g : Dev Cert.NormFwIdeal.nD → PrngReg), Pre_NormFwIdeal m →
    θ_run (Cert.NormFwIdeal.defs (F := Ideal)) (onTc (τ := Cert.NormFwIdeal.τ) (Cert.NormFwIdeal.main (F := Ideal))) ⟨m, fun _ => 0, g⟩ (fun r => (∀ c : Dev Cert.NormFwIdeal.nD,
      r.2.mem ((c.tc : Thread Cert.NormFwIdeal.nD Cert.NormFwIdeal.τ).loc Cert.NormFwIdeal.main_arg0) = m ((c.tc : Thread Cert.NormFwIdeal.nD Cert.NormFwIdeal.τ).loc Cert.NormFwIdeal.main_arg0)
      ∧ r.2.mem ((c.tc : Thread Cert.NormFwIdeal.nD Cert.NormFwIdeal.τ).loc Cert.NormFwIdeal.main_arg1) = m ((c.tc : Thread Cert.NormFwIdeal.nD Cert.NormFwIdeal.τ).loc Cert.NormFwIdeal.main_arg1)
      ∧ r.2.mem ((c.tc : Thread Cert.NormFwIdeal.nD Cert.NormFwIdeal.τ).loc Cert.NormFwIdeal.main_arg2) = m ((c.tc : Thread Cert.NormFwIdeal.nD Cert.NormFwIdeal.τ).loc Cert.NormFwIdeal.main_arg2)
      ∧ r.2.mem ((c.tc : Thread Cert.NormFwIdeal.nD Cert.NormFwIdeal.τ).loc Cert.NormFwIdeal.main_arg3) = m ((c.tc : Thread Cert.NormFwIdeal.nD Cert.NormFwIdeal.τ).loc Cert.NormFwIdeal.main_arg3)
      ∧ r.2.mem ((c.tc : Thread Cert.NormFwIdeal.nD Cert.NormFwIdeal.τ).loc Cert.NormFwIdeal.main_arg4) = m ((c.tc : Thread Cert.NormFwIdeal.nD Cert.NormFwIdeal.τ).loc Cert.NormFwIdeal.main_arg4)
      ∧ r.2.mem ((c.tc : Thread Cert.NormFwIdeal.nD Cert.NormFwIdeal.τ).loc Cert.NormFwIdeal.main_arg5) = m ((c.tc : Thread Cert.NormFwIdeal.nD Cert.NormFwIdeal.τ).loc Cert.NormFwIdeal.main_arg5)
      ∧ r.2.mem ((c.tc : Thread Cert.NormFwIdeal.nD Cert.NormFwIdeal.τ).loc Cert.NormFwIdeal.main_arg6) = m ((c.tc : Thread Cert.NormFwIdeal.nD Cert.NormFwIdeal.τ).loc Cert.NormFwIdeal.main_arg6))
      ∧ r.2.sem = fun _ => 0)

def quiescent_NormFwRefIdeal [hNormFwRefIdeal : Cert.NormFwRefIdeal.Facts] : Prop :=
  ∀ (m : (ℓ : Loc Cert.NormFwRefIdeal.nD Cert.NormFwRefIdeal.τ Cert.NormFwRefIdeal.sig) → Buf (Elt Ideal) ℓ) (g : Dev Cert.NormFwRefIdeal.nD → PrngReg), Pre_NormFwRefIdeal m →
    θ_run (Cert.NormFwRefIdeal.defs (F := Ideal)) (onTc (τ := Cert.NormFwRefIdeal.τ) (Cert.NormFwRefIdeal.main (F := Ideal))) ⟨m, fun _ => 0, g⟩ (fun r => (∀ c : Dev Cert.NormFwRefIdeal.nD,
      r.2.mem ((c.tc : Thread Cert.NormFwRefIdeal.nD Cert.NormFwRefIdeal.τ).loc Cert.NormFwRefIdeal.main_arg0) = m ((c.tc : Thread Cert.NormFwRefIdeal.nD Cert.NormFwRefIdeal.τ).loc Cert.NormFwRefIdeal.main_arg0)
      ∧ r.2.mem ((c.tc : Thread Cert.NormFwRefIdeal.nD Cert.NormFwRefIdeal.τ).loc Cert.NormFwRefIdeal.main_arg1) = m ((c.tc : Thread Cert.NormFwRefIdeal.nD Cert.NormFwRefIdeal.τ).loc Cert.NormFwRefIdeal.main_arg1)
      ∧ r.2.mem ((c.tc : Thread Cert.NormFwRefIdeal.nD Cert.NormFwRefIdeal.τ).loc Cert.NormFwRefIdeal.main_arg2) = m ((c.tc : Thread Cert.NormFwRefIdeal.nD Cert.NormFwRefIdeal.τ).loc Cert.NormFwRefIdeal.main_arg2)
      ∧ r.2.mem ((c.tc : Thread Cert.NormFwRefIdeal.nD Cert.NormFwRefIdeal.τ).loc Cert.NormFwRefIdeal.main_arg3) = m ((c.tc : Thread Cert.NormFwRefIdeal.nD Cert.NormFwRefIdeal.τ).loc Cert.NormFwRefIdeal.main_arg3)
      ∧ r.2.mem ((c.tc : Thread Cert.NormFwRefIdeal.nD Cert.NormFwRefIdeal.τ).loc Cert.NormFwRefIdeal.main_arg4) = m ((c.tc : Thread Cert.NormFwRefIdeal.nD Cert.NormFwRefIdeal.τ).loc Cert.NormFwRefIdeal.main_arg4)
      ∧ r.2.mem ((c.tc : Thread Cert.NormFwRefIdeal.nD Cert.NormFwRefIdeal.τ).loc Cert.NormFwRefIdeal.main_arg5) = m ((c.tc : Thread Cert.NormFwRefIdeal.nD Cert.NormFwRefIdeal.τ).loc Cert.NormFwRefIdeal.main_arg5)
      ∧ r.2.mem ((c.tc : Thread Cert.NormFwRefIdeal.nD Cert.NormFwRefIdeal.τ).loc Cert.NormFwRefIdeal.main_arg6) = m ((c.tc : Thread Cert.NormFwRefIdeal.nD Cert.NormFwRefIdeal.τ).loc Cert.NormFwRefIdeal.main_arg6))
      ∧ r.2.sem = fun _ => 0)

def quiescent_NormBw [hNormBw : Cert.NormBw.Facts] : Prop :=
  ∀ (m : (ℓ : Loc Cert.NormBw.nD Cert.NormBw.τ Cert.NormBw.sig) → Buf (Elt Bits) ℓ) (g : Dev Cert.NormBw.nD → PrngReg), Pre_NormBw m →
    θ_run (Cert.NormBw.defs (F := Bits)) (onTc (τ := Cert.NormBw.τ) (Cert.NormBw.main (F := Bits))) ⟨m, fun _ => 0, g⟩ (fun r => (∀ c : Dev Cert.NormBw.nD,
      r.2.mem ((c.tc : Thread Cert.NormBw.nD Cert.NormBw.τ).loc Cert.NormBw.main_arg0) = m ((c.tc : Thread Cert.NormBw.nD Cert.NormBw.τ).loc Cert.NormBw.main_arg0)
      ∧ r.2.mem ((c.tc : Thread Cert.NormBw.nD Cert.NormBw.τ).loc Cert.NormBw.main_arg1) = m ((c.tc : Thread Cert.NormBw.nD Cert.NormBw.τ).loc Cert.NormBw.main_arg1)
      ∧ r.2.mem ((c.tc : Thread Cert.NormBw.nD Cert.NormBw.τ).loc Cert.NormBw.main_arg2) = m ((c.tc : Thread Cert.NormBw.nD Cert.NormBw.τ).loc Cert.NormBw.main_arg2)
      ∧ r.2.mem ((c.tc : Thread Cert.NormBw.nD Cert.NormBw.τ).loc Cert.NormBw.main_arg3) = m ((c.tc : Thread Cert.NormBw.nD Cert.NormBw.τ).loc Cert.NormBw.main_arg3)
      ∧ r.2.mem ((c.tc : Thread Cert.NormBw.nD Cert.NormBw.τ).loc Cert.NormBw.main_arg4) = m ((c.tc : Thread Cert.NormBw.nD Cert.NormBw.τ).loc Cert.NormBw.main_arg4)
      ∧ r.2.mem ((c.tc : Thread Cert.NormBw.nD Cert.NormBw.τ).loc Cert.NormBw.main_arg5) = m ((c.tc : Thread Cert.NormBw.nD Cert.NormBw.τ).loc Cert.NormBw.main_arg5)
      ∧ r.2.mem ((c.tc : Thread Cert.NormBw.nD Cert.NormBw.τ).loc Cert.NormBw.main_arg6) = m ((c.tc : Thread Cert.NormBw.nD Cert.NormBw.τ).loc Cert.NormBw.main_arg6)
      ∧ r.2.mem ((c.tc : Thread Cert.NormBw.nD Cert.NormBw.τ).loc Cert.NormBw.main_arg7) = m ((c.tc : Thread Cert.NormBw.nD Cert.NormBw.τ).loc Cert.NormBw.main_arg7))
      ∧ r.2.sem = fun _ => 0)

def quiescent_NormBwIdeal [hNormBwIdeal : Cert.NormBwIdeal.Facts] : Prop :=
  ∀ (m : (ℓ : Loc Cert.NormBwIdeal.nD Cert.NormBwIdeal.τ Cert.NormBwIdeal.sig) → Buf (Elt Ideal) ℓ) (g : Dev Cert.NormBwIdeal.nD → PrngReg), Pre_NormBwIdeal m →
    θ_run (Cert.NormBwIdeal.defs (F := Ideal)) (onTc (τ := Cert.NormBwIdeal.τ) (Cert.NormBwIdeal.main (F := Ideal))) ⟨m, fun _ => 0, g⟩ (fun r => (∀ c : Dev Cert.NormBwIdeal.nD,
      r.2.mem ((c.tc : Thread Cert.NormBwIdeal.nD Cert.NormBwIdeal.τ).loc Cert.NormBwIdeal.main_arg0) = m ((c.tc : Thread Cert.NormBwIdeal.nD Cert.NormBwIdeal.τ).loc Cert.NormBwIdeal.main_arg0)
      ∧ r.2.mem ((c.tc : Thread Cert.NormBwIdeal.nD Cert.NormBwIdeal.τ).loc Cert.NormBwIdeal.main_arg1) = m ((c.tc : Thread Cert.NormBwIdeal.nD Cert.NormBwIdeal.τ).loc Cert.NormBwIdeal.main_arg1)
      ∧ r.2.mem ((c.tc : Thread Cert.NormBwIdeal.nD Cert.NormBwIdeal.τ).loc Cert.NormBwIdeal.main_arg2) = m ((c.tc : Thread Cert.NormBwIdeal.nD Cert.NormBwIdeal.τ).loc Cert.NormBwIdeal.main_arg2)
      ∧ r.2.mem ((c.tc : Thread Cert.NormBwIdeal.nD Cert.NormBwIdeal.τ).loc Cert.NormBwIdeal.main_arg3) = m ((c.tc : Thread Cert.NormBwIdeal.nD Cert.NormBwIdeal.τ).loc Cert.NormBwIdeal.main_arg3)
      ∧ r.2.mem ((c.tc : Thread Cert.NormBwIdeal.nD Cert.NormBwIdeal.τ).loc Cert.NormBwIdeal.main_arg4) = m ((c.tc : Thread Cert.NormBwIdeal.nD Cert.NormBwIdeal.τ).loc Cert.NormBwIdeal.main_arg4)
      ∧ r.2.mem ((c.tc : Thread Cert.NormBwIdeal.nD Cert.NormBwIdeal.τ).loc Cert.NormBwIdeal.main_arg5) = m ((c.tc : Thread Cert.NormBwIdeal.nD Cert.NormBwIdeal.τ).loc Cert.NormBwIdeal.main_arg5)
      ∧ r.2.mem ((c.tc : Thread Cert.NormBwIdeal.nD Cert.NormBwIdeal.τ).loc Cert.NormBwIdeal.main_arg6) = m ((c.tc : Thread Cert.NormBwIdeal.nD Cert.NormBwIdeal.τ).loc Cert.NormBwIdeal.main_arg6)
      ∧ r.2.mem ((c.tc : Thread Cert.NormBwIdeal.nD Cert.NormBwIdeal.τ).loc Cert.NormBwIdeal.main_arg7) = m ((c.tc : Thread Cert.NormBwIdeal.nD Cert.NormBwIdeal.τ).loc Cert.NormBwIdeal.main_arg7))
      ∧ r.2.sem = fun _ => 0)

def quiescent_NormBwRefIdeal [hNormBwRefIdeal : Cert.NormBwRefIdeal.Facts] : Prop :=
  ∀ (m : (ℓ : Loc Cert.NormBwRefIdeal.nD Cert.NormBwRefIdeal.τ Cert.NormBwRefIdeal.sig) → Buf (Elt Ideal) ℓ) (g : Dev Cert.NormBwRefIdeal.nD → PrngReg), Pre_NormBwRefIdeal m →
    θ_run (Cert.NormBwRefIdeal.defs (F := Ideal)) (onTc (τ := Cert.NormBwRefIdeal.τ) (Cert.NormBwRefIdeal.main (F := Ideal))) ⟨m, fun _ => 0, g⟩ (fun r => (∀ c : Dev Cert.NormBwRefIdeal.nD,
      r.2.mem ((c.tc : Thread Cert.NormBwRefIdeal.nD Cert.NormBwRefIdeal.τ).loc Cert.NormBwRefIdeal.main_arg0) = m ((c.tc : Thread Cert.NormBwRefIdeal.nD Cert.NormBwRefIdeal.τ).loc Cert.NormBwRefIdeal.main_arg0)
      ∧ r.2.mem ((c.tc : Thread Cert.NormBwRefIdeal.nD Cert.NormBwRefIdeal.τ).loc Cert.NormBwRefIdeal.main_arg1) = m ((c.tc : Thread Cert.NormBwRefIdeal.nD Cert.NormBwRefIdeal.τ).loc Cert.NormBwRefIdeal.main_arg1)
      ∧ r.2.mem ((c.tc : Thread Cert.NormBwRefIdeal.nD Cert.NormBwRefIdeal.τ).loc Cert.NormBwRefIdeal.main_arg2) = m ((c.tc : Thread Cert.NormBwRefIdeal.nD Cert.NormBwRefIdeal.τ).loc Cert.NormBwRefIdeal.main_arg2)
      ∧ r.2.mem ((c.tc : Thread Cert.NormBwRefIdeal.nD Cert.NormBwRefIdeal.τ).loc Cert.NormBwRefIdeal.main_arg3) = m ((c.tc : Thread Cert.NormBwRefIdeal.nD Cert.NormBwRefIdeal.τ).loc Cert.NormBwRefIdeal.main_arg3)
      ∧ r.2.mem ((c.tc : Thread Cert.NormBwRefIdeal.nD Cert.NormBwRefIdeal.τ).loc Cert.NormBwRefIdeal.main_arg4) = m ((c.tc : Thread Cert.NormBwRefIdeal.nD Cert.NormBwRefIdeal.τ).loc Cert.NormBwRefIdeal.main_arg4)
      ∧ r.2.mem ((c.tc : Thread Cert.NormBwRefIdeal.nD Cert.NormBwRefIdeal.τ).loc Cert.NormBwRefIdeal.main_arg5) = m ((c.tc : Thread Cert.NormBwRefIdeal.nD Cert.NormBwRefIdeal.τ).loc Cert.NormBwRefIdeal.main_arg5)
      ∧ r.2.mem ((c.tc : Thread Cert.NormBwRefIdeal.nD Cert.NormBwRefIdeal.τ).loc Cert.NormBwRefIdeal.main_arg6) = m ((c.tc : Thread Cert.NormBwRefIdeal.nD Cert.NormBwRefIdeal.τ).loc Cert.NormBwRefIdeal.main_arg6)
      ∧ r.2.mem ((c.tc : Thread Cert.NormBwRefIdeal.nD Cert.NormBwRefIdeal.τ).loc Cert.NormBwRefIdeal.main_arg7) = m ((c.tc : Thread Cert.NormBwRefIdeal.nD Cert.NormBwRefIdeal.τ).loc Cert.NormBwRefIdeal.main_arg7))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v95_0)) (v1 : (c : Dev Cert.KernelIdeal.nD) → Buf (Elt Ideal) ((c.tc : Thread Cert.KernelIdeal.nD Cert.KernelIdeal.τ).loc Cert.KernelIdeal.main_v95_4)) (v2 : (c : Dev Cert.KernelIdeal.nD) → Buf (Elt Ideal) ((c.tc : Thread Cert.KernelIdeal.nD Cert.KernelIdeal.τ).loc Cert.KernelIdeal.main_v95_1)) (v3 : (c : Dev Cert.KernelIdeal.nD) → Buf (Elt Ideal) ((c.tc : Thread Cert.KernelIdeal.nD Cert.KernelIdeal.τ).loc Cert.KernelIdeal.main_v95_5)) (v4 : (c : Dev Cert.KernelIdeal.nD) → Buf (Elt Ideal) ((c.tc : Thread Cert.KernelIdeal.nD Cert.KernelIdeal.τ).loc Cert.KernelIdeal.main_v95_2)) (v5 : (c : Dev Cert.KernelIdeal.nD) → Buf (Elt Ideal) ((c.tc : Thread Cert.KernelIdeal.nD Cert.KernelIdeal.τ).loc Cert.KernelIdeal.main_v95_6)) (v6 : (c : Dev Cert.KernelIdeal.nD) → Buf (Elt Ideal) ((c.tc : Thread Cert.KernelIdeal.nD Cert.KernelIdeal.τ).loc Cert.KernelIdeal.main_v95_3)) (v7 : (c : Dev Cert.KernelIdeal.nD) → Buf (Elt Ideal) ((c.tc : Thread Cert.KernelIdeal.nD Cert.KernelIdeal.τ).loc Cert.KernelIdeal.main_v95_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95_0) = v0 c
          ∧ r.2.mem ((c.tc : Thread Cert.KernelIdeal.nD Cert.KernelIdeal.τ).loc Cert.KernelIdeal.main_v95_4) = v1 c
          ∧ r.2.mem ((c.tc : Thread Cert.KernelIdeal.nD Cert.KernelIdeal.τ).loc Cert.KernelIdeal.main_v95_1) = v2 c
          ∧ r.2.mem ((c.tc : Thread Cert.KernelIdeal.nD Cert.KernelIdeal.τ).loc Cert.KernelIdeal.main_v95_5) = v3 c
          ∧ r.2.mem ((c.tc : Thread Cert.KernelIdeal.nD Cert.KernelIdeal.τ).loc Cert.KernelIdeal.main_v95_2) = v4 c
          ∧ r.2.mem ((c.tc : Thread Cert.KernelIdeal.nD Cert.KernelIdeal.τ).loc Cert.KernelIdeal.main_v95_6) = v5 c
          ∧ r.2.mem ((c.tc : Thread Cert.KernelIdeal.nD Cert.KernelIdeal.τ).loc Cert.KernelIdeal.main_v95_3) = v6 c
          ∧ r.2.mem ((c.tc : Thread Cert.KernelIdeal.nD Cert.KernelIdeal.τ).loc Cert.KernelIdeal.main_v95_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_v185) = v2 c
          ∧ r.2.mem ((c.tc : Thread Cert.ReferenceIdeal.nD Cert.ReferenceIdeal.τ).loc Cert.ReferenceIdeal.main_v186) = v3 c
          ∧ r.2.mem ((c.tc : Thread Cert.ReferenceIdeal.nD Cert.ReferenceIdeal.τ).loc Cert.ReferenceIdeal.main_v187) = v4 c
          ∧ r.2.mem ((c.tc : Thread Cert.ReferenceIdeal.nD Cert.ReferenceIdeal.τ).loc Cert.ReferenceIdeal.main_v188) = v5 c
          ∧ r.2.mem ((c.tc : Thread Cert.ReferenceIdeal.nD Cert.ReferenceIdeal.τ).loc Cert.ReferenceIdeal.main_v174) = v6 c
          ∧ r.2.mem ((c.tc : Thread Cert.ReferenceIdeal.nD Cert.ReferenceIdeal.τ).loc Cert.ReferenceIdeal.main_v182) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v8) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v13) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v8) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_PbDw_PbDwIdeal : Prop :=
  True

def algebraic_PbDwIdeal_PbDwRefIdeal [hPbDwIdeal : Cert.PbDwIdeal.Facts] [hPbDwRefIdeal : Cert.PbDwRefIdeal.Facts] : Prop :=
  ∀ (m : (ℓ : Loc Cert.PbDwIdeal.nD Cert.PbDwIdeal.τ Cert.PbDwIdeal.sig) → Buf (Elt Ideal) ℓ) (g : Dev Cert.PbDwIdeal.nD → PrngReg)
    (m' : (ℓ : Loc Cert.PbDwRefIdeal.nD Cert.PbDwRefIdeal.τ Cert.PbDwRefIdeal.sig) → Buf (Elt Ideal) ℓ) (g' : Dev Cert.PbDwRefIdeal.nD → PrngReg), Pre_PbDwIdeal m →
    (∀ c : Dev Cert.PbDwIdeal.nD,
      m' ((c.tc : Thread Cert.PbDwRefIdeal.nD Cert.PbDwRefIdeal.τ).loc Cert.PbDwRefIdeal.main_arg0) = m ((c.tc : Thread Cert.PbDwIdeal.nD Cert.PbDwIdeal.τ).loc Cert.PbDwIdeal.main_arg0)
      ∧ m' ((c.tc : Thread Cert.PbDwRefIdeal.nD Cert.PbDwRefIdeal.τ).loc Cert.PbDwRefIdeal.main_arg1) = m ((c.tc : Thread Cert.PbDwIdeal.nD Cert.PbDwIdeal.τ).loc Cert.PbDwIdeal.main_arg1)) →
    ∃ (v0 : (c : Dev Cert.PbDwIdeal.nD) → Buf (Elt Ideal) ((c.tc : Thread Cert.PbDwIdeal.nD Cert.PbDwIdeal.τ).loc Cert.PbDwIdeal.main_v0)),
      θ_run (Cert.PbDwIdeal.defs (F := Ideal)) (onTc (τ := Cert.PbDwIdeal.τ) (Cert.PbDwIdeal.main (F := Ideal))) ⟨m, fun _ => 0, g⟩ (fun r => ∀ c : Dev Cert.PbDwIdeal.nD,
          r.2.mem ((c.tc : Thread Cert.PbDwIdeal.nD Cert.PbDwIdeal.τ).loc Cert.PbDwIdeal.main_v0) = v0 c
          ∧ r.2.mem ((c.tc : Thread Cert.PbDwIdeal.nD Cert.PbDwIdeal.τ).loc Cert.PbDwIdeal.main_arg0) = m ((c.tc : Thread Cert.PbDwIdeal.nD Cert.PbDwIdeal.τ).loc Cert.PbDwIdeal.main_arg0)
          ∧ r.2.mem ((c.tc : Thread Cert.PbDwIdeal.nD Cert.PbDwIdeal.τ).loc Cert.PbDwIdeal.main_arg1) = m ((c.tc : Thread Cert.PbDwIdeal.nD Cert.PbDwIdeal.τ).loc Cert.PbDwIdeal.main_arg1))
      ∧ θ_run (Cert.PbDwRefIdeal.defs (F := Ideal)) (onTc (τ := Cert.PbDwRefIdeal.τ) (Cert.PbDwRefIdeal.main (F := Ideal))) ⟨m', fun _ => 0, g'⟩ (fun r => ∀ c : Dev Cert.PbDwRefIdeal.nD,
          r.2.mem ((c.tc : Thread Cert.PbDwRefIdeal.nD Cert.PbDwRefIdeal.τ).loc Cert.PbDwRefIdeal.main_v8) = v0 c
          ∧ r.2.mem ((c.tc : Thread Cert.PbDwRefIdeal.nD Cert.PbDwRefIdeal.τ).loc Cert.PbDwRefIdeal.main_arg0) = m' ((c.tc : Thread Cert.PbDwRefIdeal.nD Cert.PbDwRefIdeal.τ).loc Cert.PbDwRefIdeal.main_arg0)
          ∧ r.2.mem ((c.tc : Thread Cert.PbDwRefIdeal.nD Cert.PbDwRefIdeal.τ).loc Cert.PbDwRefIdeal.main_arg1) = m' ((c.tc : Thread Cert.PbDwRefIdeal.nD Cert.PbDwRefIdeal.τ).loc Cert.PbDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v7) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v7) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v7) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_PbDx_PbDxIdeal : Prop :=
  True

def algebraic_PbDxIdeal_PbDxRefIdeal [hPbDxIdeal : Cert.PbDxIdeal.Facts] [hPbDxRefIdeal : Cert.PbDxRefIdeal.Facts] : Prop :=
  ∀ (m : (ℓ : Loc Cert.PbDxIdeal.nD Cert.PbDxIdeal.τ Cert.PbDxIdeal.sig) → Buf (Elt Ideal) ℓ) (g : Dev Cert.PbDxIdeal.nD → PrngReg)
    (m' : (ℓ : Loc Cert.PbDxRefIdeal.nD Cert.PbDxRefIdeal.τ Cert.PbDxRefIdeal.sig) → Buf (Elt Ideal) ℓ) (g' : Dev Cert.PbDxRefIdeal.nD → PrngReg), Pre_PbDxIdeal m →
    (∀ c : Dev Cert.PbDxIdeal.nD,
      m' ((c.tc : Thread Cert.PbDxRefIdeal.nD Cert.PbDxRefIdeal.τ).loc Cert.PbDxRefIdeal.main_arg0) = m ((c.tc : Thread Cert.PbDxIdeal.nD Cert.PbDxIdeal.τ).loc Cert.PbDxIdeal.main_arg0)
      ∧ m' ((c.tc : Thread Cert.PbDxRefIdeal.nD Cert.PbDxRefIdeal.τ).loc Cert.PbDxRefIdeal.main_arg1) = m ((c.tc : Thread Cert.PbDxIdeal.nD Cert.PbDxIdeal.τ).loc Cert.PbDxIdeal.main_arg1)) →
    ∃ (v0 : (c : Dev Cert.PbDxIdeal.nD) → Buf (Elt Ideal) ((c.tc : Thread Cert.PbDxIdeal.nD Cert.PbDxIdeal.τ).loc Cert.PbDxIdeal.main_v0)),
      θ_run (Cert.PbDxIdeal.defs (F := Ideal)) (onTc (τ := Cert.PbDxIdeal.τ) (Cert.PbDxIdeal.main (F := Ideal))) ⟨m, fun _ => 0, g⟩ (fun r => ∀ c : Dev Cert.PbDxIdeal.nD,
          r.2.mem ((c.tc : Thread Cert.PbDxIdeal.nD Cert.PbDxIdeal.τ).loc Cert.PbDxIdeal.main_v0) = v0 c
          ∧ r.2.mem ((c.tc : Thread Cert.PbDxIdeal.nD Cert.PbDxIdeal.τ).loc Cert.PbDxIdeal.main_arg0) = m ((c.tc : Thread Cert.PbDxIdeal.nD Cert.PbDxIdeal.τ).loc Cert.PbDxIdeal.main_arg0)
          ∧ r.2.mem ((c.tc : Thread Cert.PbDxIdeal.nD Cert.PbDxIdeal.τ).loc Cert.PbDxIdeal.main_arg1) = m ((c.tc : Thread Cert.PbDxIdeal.nD Cert.PbDxIdeal.τ).loc Cert.PbDxIdeal.main_arg1))
      ∧ θ_run (Cert.PbDxRefIdeal.defs (F := Ideal)) (onTc (τ := Cert.PbDxRefIdeal.τ) (Cert.PbDxRefIdeal.main (F := Ideal))) ⟨m', fun _ => 0, g'⟩ (fun r => ∀ c : Dev Cert.PbDxRefIdeal.nD,
          r.2.mem ((c.tc : Thread Cert.PbDxRefIdeal.nD Cert.PbDxRefIdeal.τ).loc Cert.PbDxRefIdeal.main_v7) = v0 c
          ∧ r.2.mem ((c.tc : Thread Cert.PbDxRefIdeal.nD Cert.PbDxRefIdeal.τ).loc Cert.PbDxRefIdeal.main_arg0) = m' ((c.tc : Thread Cert.PbDxRefIdeal.nD Cert.PbDxRefIdeal.τ).loc Cert.PbDxRefIdeal.main_arg0)
          ∧ r.2.mem ((c.tc : Thread Cert.PbDxRefIdeal.nD Cert.PbDxRefIdeal.τ).loc Cert.PbDxRefIdeal.main_arg1) = m' ((c.tc : Thread Cert.PbDxRefIdeal.nD Cert.PbDxRefIdeal.τ).loc Cert.PbDxRefIdeal.main_arg1))

def preserves_InFw_InFwIdeal : Prop :=
  True

def algebraic_InFwIdeal_InFwRefIdeal [hInFwIdeal : Cert.InFwIdeal.Facts] [hInFwRefIdeal : Cert.InFwRefIdeal.Facts] : Prop :=
  ∀ (m : (ℓ : Loc Cert.InFwIdeal.nD Cert.InFwIdeal.τ Cert.InFwIdeal.sig) → Buf (Elt Ideal) ℓ) (g : Dev Cert.InFwIdeal.nD → PrngReg)
    (m' : (ℓ : Loc Cert.InFwRefIdeal.nD Cert.InFwRefIdeal.τ Cert.InFwRefIdeal.sig) → Buf (Elt Ideal) ℓ) (g' : Dev Cert.InFwRefIdeal.nD → PrngReg), Pre_InFwIdeal m →
    (∀ c : Dev Cert.InFwIdeal.nD,
      m' ((c.tc : Thread Cert.InFwRefIdeal.nD Cert.InFwRefIdeal.τ).loc Cert.InFwRefIdeal.main_arg0) = m ((c.tc : Thread Cert.InFwIdeal.nD Cert.InFwIdeal.τ).loc Cert.InFwIdeal.main_arg0)
      ∧ m' ((c.tc : Thread Cert.InFwRefIdeal.nD Cert.InFwRefIdeal.τ).loc Cert.InFwRefIdeal.main_arg1) = m ((c.tc : Thread Cert.InFwIdeal.nD Cert.InFwIdeal.τ).loc Cert.InFwIdeal.main_arg1)) →
    ∃ (v0 : (c : Dev Cert.InFwIdeal.nD) → Buf (Elt Ideal) ((c.tc : Thread Cert.InFwIdeal.nD Cert.InFwIdeal.τ).loc Cert.InFwIdeal.main_v0)),
      θ_run (Cert.InFwIdeal.defs (F := Ideal)) (onTc (τ := Cert.InFwIdeal.τ) (Cert.InFwIdeal.main (F := Ideal))) ⟨m, fun _ => 0, g⟩ (fun r => ∀ c : Dev Cert.InFwIdeal.nD,
          r.2.mem ((c.tc : Thread Cert.InFwIdeal.nD Cert.InFwIdeal.τ).loc Cert.InFwIdeal.main_v0) = v0 c
          ∧ r.2.mem ((c.tc : Thread Cert.InFwIdeal.nD Cert.InFwIdeal.τ).loc Cert.InFwIdeal.main_arg0) = m ((c.tc : Thread Cert.InFwIdeal.nD Cert.InFwIdeal.τ).loc Cert.InFwIdeal.main_arg0)
          ∧ r.2.mem ((c.tc : Thread Cert.InFwIdeal.nD Cert.InFwIdeal.τ).loc Cert.InFwIdeal.main_arg1) = m ((c.tc : Thread Cert.InFwIdeal.nD Cert.InFwIdeal.τ).loc Cert.InFwIdeal.main_arg1))
      ∧ θ_run (Cert.InFwRefIdeal.defs (F := Ideal)) (onTc (τ := Cert.InFwRefIdeal.τ) (Cert.InFwRefIdeal.main (F := Ideal))) ⟨m', fun _ => 0, g'⟩ (fun r => ∀ c : Dev Cert.InFwRefIdeal.nD,
          r.2.mem ((c.tc : Thread Cert.InFwRefIdeal.nD Cert.InFwRefIdeal.τ).loc Cert.InFwRefIdeal.main_v3) = v0 c
          ∧ r.2.mem ((c.tc : Thread Cert.InFwRefIdeal.nD Cert.InFwRefIdeal.τ).loc Cert.InFwRefIdeal.main_arg0) = m' ((c.tc : Thread Cert.InFwRefIdeal.nD Cert.InFwRefIdeal.τ).loc Cert.InFwRefIdeal.main_arg0)
          ∧ r.2.mem ((c.tc : Thread Cert.InFwRefIdeal.nD Cert.InFwRefIdeal.τ).loc Cert.InFwRefIdeal.main_arg1) = m' ((c.tc : Thread Cert.InFwRefIdeal.nD Cert.InFwRefIdeal.τ).loc Cert.InFwRefIdeal.main_arg1))

def preserves_UpFw_UpFwIdeal : Prop :=
  True

def algebraic_UpFwIdeal_UpFwRefIdeal [hUpFwIdeal : Cert.UpFwIdeal.Facts] [hUpFwRefIdeal : Cert.UpFwRefIdeal.Facts] : Prop :=
  ∀ (m : (ℓ : Loc Cert.UpFwIdeal.nD Cert.UpFwIdeal.τ Cert.UpFwIdeal.sig) → Buf (Elt Ideal) ℓ) (g : Dev Cert.UpFwIdeal.nD → PrngReg)
    (m' : (ℓ : Loc Cert.UpFwRefIdeal.nD Cert.UpFwRefIdeal.τ Cert.UpFwRefIdeal.sig) → Buf (Elt Ideal) ℓ) (g' : Dev Cert.UpFwRefIdeal.nD → PrngReg), Pre_UpFwIdeal m →
    (∀ c : Dev Cert.UpFwIdeal.nD,
      m' ((c.tc : Thread Cert.UpFwRefIdeal.nD Cert.UpFwRefIdeal.τ).loc Cert.UpFwRefIdeal.main_arg0) = m ((c.tc : Thread Cert.UpFwIdeal.nD Cert.UpFwIdeal.τ).loc Cert.UpFwIdeal.main_arg0)
      ∧ m' ((c.tc : Thread Cert.UpFwRefIdeal.nD Cert.UpFwRefIdeal.τ).loc Cert.UpFwRefIdeal.main_arg1) = m ((c.tc : Thread Cert.UpFwIdeal.nD Cert.UpFwIdeal.τ).loc Cert.UpFwIdeal.main_arg1)) →
    ∃ (v0 : (c : Dev Cert.UpFwIdeal.nD) → Buf (Elt Ideal) ((c.tc : Thread Cert.UpFwIdeal.nD Cert.UpFwIdeal.τ).loc Cert.UpFwIdeal.main_v0)),
      θ_run (Cert.UpFwIdeal.defs (F := Ideal)) (onTc (τ := Cert.UpFwIdeal.τ) (Cert.UpFwIdeal.main (F := Ideal))) ⟨m, fun _ => 0, g⟩ (fun r => ∀ c : Dev Cert.UpFwIdeal.nD,
          r.2.mem ((c.tc : Thread Cert.UpFwIdeal.nD Cert.UpFwIdeal.τ).loc Cert.UpFwIdeal.main_v0) = v0 c
          ∧ r.2.mem ((c.tc : Thread Cert.UpFwIdeal.nD Cert.UpFwIdeal.τ).loc Cert.UpFwIdeal.main_arg0) = m ((c.tc : Thread Cert.UpFwIdeal.nD Cert.UpFwIdeal.τ).loc Cert.UpFwIdeal.main_arg0)
          ∧ r.2.mem ((c.tc : Thread Cert.UpFwIdeal.nD Cert.UpFwIdeal.τ).loc Cert.UpFwIdeal.main_arg1) = m ((c.tc : Thread Cert.UpFwIdeal.nD Cert.UpFwIdeal.τ).loc Cert.UpFwIdeal.main_arg1))
      ∧ θ_run (Cert.UpFwRefIdeal.defs (F := Ideal)) (onTc (τ := Cert.UpFwRefIdeal.τ) (Cert.UpFwRefIdeal.main (F := Ideal))) ⟨m', fun _ => 0, g'⟩ (fun r => ∀ c : Dev Cert.UpFwRefIdeal.nD,
          r.2.mem ((c.tc : Thread Cert.UpFwRefIdeal.nD Cert.UpFwRefIdeal.τ).loc Cert.UpFwRefIdeal.main_v3) = v0 c
          ∧ r.2.mem ((c.tc : Thread Cert.UpFwRefIdeal.nD Cert.UpFwRefIdeal.τ).loc Cert.UpFwRefIdeal.main_arg0) = m' ((c.tc : Thread Cert.UpFwRefIdeal.nD Cert.UpFwRefIdeal.τ).loc Cert.UpFwRefIdeal.main_arg0)
          ∧ r.2.mem ((c.tc : Thread Cert.UpFwRefIdeal.nD Cert.UpFwRefIdeal.τ).loc Cert.UpFwRefIdeal.main_arg1) = m' ((c.tc : Thread Cert.UpFwRefIdeal.nD Cert.UpFwRefIdeal.τ).loc Cert.UpFwRefIdeal.main_arg1))

def preserves_DownFw_DownFwIdeal : Prop :=
  True

def algebraic_DownFwIdeal_DownFwRefIdeal [hDownFwIdeal : Cert.DownFwIdeal.Facts] [hDownFwRefIdeal : Cert.DownFwRefIdeal.Facts] : Prop :=
  ∀ (m : (ℓ : Loc Cert.DownFwIdeal.nD Cert.DownFwIdeal.τ Cert.DownFwIdeal.sig) → Buf (Elt Ideal) ℓ) (g : Dev Cert.DownFwIdeal.nD → PrngReg)
    (m' : (ℓ : Loc Cert.DownFwRefIdeal.nD Cert.DownFwRefIdeal.τ Cert.DownFwRefIdeal.sig) → Buf (Elt Ideal) ℓ) (g' : Dev Cert.DownFwRefIdeal.nD → PrngReg), Pre_DownFwIdeal m →
    (∀ c : Dev Cert.DownFwIdeal.nD,
      m' ((c.tc : Thread Cert.DownFwRefIdeal.nD Cert.DownFwRefIdeal.τ).loc Cert.DownFwRefIdeal.main_arg0) = m ((c.tc : Thread Cert.DownFwIdeal.nD Cert.DownFwIdeal.τ).loc Cert.DownFwIdeal.main_arg0)
      ∧ m' ((c.tc : Thread Cert.DownFwRefIdeal.nD Cert.DownFwRefIdeal.τ).loc Cert.DownFwRefIdeal.main_arg1) = m ((c.tc : Thread Cert.DownFwIdeal.nD Cert.DownFwIdeal.τ).loc Cert.DownFwIdeal.main_arg1)
      ∧ m' ((c.tc : Thread Cert.DownFwRefIdeal.nD Cert.DownFwRefIdeal.τ).loc Cert.DownFwRefIdeal.main_arg2) = m ((c.tc : Thread Cert.DownFwIdeal.nD Cert.DownFwIdeal.τ).loc Cert.DownFwIdeal.main_arg2)) →
    ∃ (v0 : (c : Dev Cert.DownFwIdeal.nD) → Buf (Elt Ideal) ((c.tc : Thread Cert.DownFwIdeal.nD Cert.DownFwIdeal.τ).loc Cert.DownFwIdeal.main_v0)),
      θ_run (Cert.DownFwIdeal.defs (F := Ideal)) (onTc (τ := Cert.DownFwIdeal.τ) (Cert.DownFwIdeal.main (F := Ideal))) ⟨m, fun _ => 0, g⟩ (fun r => ∀ c : Dev Cert.DownFwIdeal.nD,
          r.2.mem ((c.tc : Thread Cert.DownFwIdeal.nD Cert.DownFwIdeal.τ).loc Cert.DownFwIdeal.main_v0) = v0 c
          ∧ r.2.mem ((c.tc : Thread Cert.DownFwIdeal.nD Cert.DownFwIdeal.τ).loc Cert.DownFwIdeal.main_arg0) = m ((c.tc : Thread Cert.DownFwIdeal.nD Cert.DownFwIdeal.τ).loc Cert.DownFwIdeal.main_arg0)
          ∧ r.2.mem ((c.tc : Thread Cert.DownFwIdeal.nD Cert.DownFwIdeal.τ).loc Cert.DownFwIdeal.main_arg1) = m ((c.tc : Thread Cert.DownFwIdeal.nD Cert.DownFwIdeal.τ).loc Cert.DownFwIdeal.main_arg1)
          ∧ r.2.mem ((c.tc : Thread Cert.DownFwIdeal.nD Cert.DownFwIdeal.τ).loc Cert.DownFwIdeal.main_arg2) = m ((c.tc : Thread Cert.DownFwIdeal.nD Cert.DownFwIdeal.τ).loc Cert.DownFwIdeal.main_arg2))
      ∧ θ_run (Cert.DownFwRefIdeal.defs (F := Ideal)) (onTc (τ := Cert.DownFwRefIdeal.τ) (Cert.DownFwRefIdeal.main (F := Ideal))) ⟨m', fun _ => 0, g'⟩ (fun r => ∀ c : Dev Cert.DownFwRefIdeal.nD,
          r.2.mem ((c.tc : Thread Cert.DownFwRefIdeal.nD Cert.DownFwRefIdeal.τ).loc Cert.DownFwRefIdeal.main_v8) = v0 c
          ∧ r.2.mem ((c.tc : Thread Cert.DownFwRefIdeal.nD Cert.DownFwRefIdeal.τ).loc Cert.DownFwRefIdeal.main_arg0) = m' ((c.tc : Thread Cert.DownFwRefIdeal.nD Cert.DownFwRefIdeal.τ).loc Cert.DownFwRefIdeal.main_arg0)
          ∧ r.2.mem ((c.tc : Thread Cert.DownFwRefIdeal.nD Cert.DownFwRefIdeal.τ).loc Cert.DownFwRefIdeal.main_arg1) = m' ((c.tc : Thread Cert.DownFwRefIdeal.nD Cert.DownFwRefIdeal.τ).loc Cert.DownFwRefIdeal.main_arg1)
          ∧ r.2.mem ((c.tc : Thread Cert.DownFwRefIdeal.nD Cert.DownFwRefIdeal.τ).loc Cert.DownFwRefIdeal.main_arg2) = m' ((c.tc : Thread Cert.DownFwRefIdeal.nD Cert.DownFwRefIdeal.τ).loc Cert.DownFwRefIdeal.main_arg2))

def preserves_OutFw_OutFwIdeal : Prop :=
  True

def algebraic_OutFwIdeal_OutFwRefIdeal [hOutFwIdeal : Cert.OutFwIdeal.Facts] [hOutFwRefIdeal : Cert.OutFwRefIdeal.Facts] : Prop :=
  ∀ (m : (ℓ : Loc Cert.OutFwIdeal.nD Cert.OutFwIdeal.τ Cert.OutFwIdeal.sig) → Buf (Elt Ideal) ℓ) (g : Dev Cert.OutFwIdeal.nD → PrngReg)
    (m' : (ℓ : Loc Cert.OutFwRefIdeal.nD Cert.OutFwRefIdeal.τ Cert.OutFwRefIdeal.sig) → Buf (Elt Ideal) ℓ) (g' : Dev Cert.OutFwRefIdeal.nD → PrngReg), Pre_OutFwIdeal m →
    (∀ c : Dev Cert.OutFwIdeal.nD,
      m' ((c.tc : Thread Cert.OutFwRefIdeal.nD Cert.OutFwRefIdeal.τ).loc Cert.OutFwRefIdeal.main_arg0) = m ((c.tc : Thread Cert.OutFwIdeal.nD Cert.OutFwIdeal.τ).loc Cert.OutFwIdeal.main_arg0)
      ∧ m' ((c.tc : Thread Cert.OutFwRefIdeal.nD Cert.OutFwRefIdeal.τ).loc Cert.OutFwRefIdeal.main_arg1) = m ((c.tc : Thread Cert.OutFwIdeal.nD Cert.OutFwIdeal.τ).loc Cert.OutFwIdeal.main_arg1)) →
    ∃ (v0 : (c : Dev Cert.OutFwIdeal.nD) → Buf (Elt Ideal) ((c.tc : Thread Cert.OutFwIdeal.nD Cert.OutFwIdeal.τ).loc Cert.OutFwIdeal.main_v0)),
      θ_run (Cert.OutFwIdeal.defs (F := Ideal)) (onTc (τ := Cert.OutFwIdeal.τ) (Cert.OutFwIdeal.main (F := Ideal))) ⟨m, fun _ => 0, g⟩ (fun r => ∀ c : Dev Cert.OutFwIdeal.nD,
          r.2.mem ((c.tc : Thread Cert.OutFwIdeal.nD Cert.OutFwIdeal.τ).loc Cert.OutFwIdeal.main_v0) = v0 c
          ∧ r.2.mem ((c.tc : Thread Cert.OutFwIdeal.nD Cert.OutFwIdeal.τ).loc Cert.OutFwIdeal.main_arg0) = m ((c.tc : Thread Cert.OutFwIdeal.nD Cert.OutFwIdeal.τ).loc Cert.OutFwIdeal.main_arg0)
          ∧ r.2.mem ((c.tc : Thread Cert.OutFwIdeal.nD Cert.OutFwIdeal.τ).loc Cert.OutFwIdeal.main_arg1) = m ((c.tc : Thread Cert.OutFwIdeal.nD Cert.OutFwIdeal.τ).loc Cert.OutFwIdeal.main_arg1))
      ∧ θ_run (Cert.OutFwRefIdeal.defs (F := Ideal)) (onTc (τ := Cert.OutFwRefIdeal.τ) (Cert.OutFwRefIdeal.main (F := Ideal))) ⟨m', fun _ => 0, g'⟩ (fun r => ∀ c : Dev Cert.OutFwRefIdeal.nD,
          r.2.mem ((c.tc : Thread Cert.OutFwRefIdeal.nD Cert.OutFwRefIdeal.τ).loc Cert.OutFwRefIdeal.main_v3) = v0 c
          ∧ r.2.mem ((c.tc : Thread Cert.OutFwRefIdeal.nD Cert.OutFwRefIdeal.τ).loc Cert.OutFwRefIdeal.main_arg0) = m' ((c.tc : Thread Cert.OutFwRefIdeal.nD Cert.OutFwRefIdeal.τ).loc Cert.OutFwRefIdeal.main_arg0)
          ∧ r.2.mem ((c.tc : Thread Cert.OutFwRefIdeal.nD Cert.OutFwRefIdeal.τ).loc Cert.OutFwRefIdeal.main_arg1) = m' ((c.tc : Thread Cert.OutFwRefIdeal.nD Cert.OutFwRefIdeal.τ).loc Cert.OutFwRefIdeal.main_arg1))

def preserves_PbFw_PbFwIdeal : Prop :=
  True

def algebraic_PbFwIdeal_PbFwRefIdeal [hPbFwIdeal : Cert.PbFwIdeal.Facts] [hPbFwRefIdeal : Cert.PbFwRefIdeal.Facts] : Prop :=
  ∀ (m : (ℓ : Loc Cert.PbFwIdeal.nD Cert.PbFwIdeal.τ Cert.PbFwIdeal.sig) → Buf (Elt Ideal) ℓ) (g : Dev Cert.PbFwIdeal.nD → PrngReg)
    (m' : (ℓ : Loc Cert.PbFwRefIdeal.nD Cert.PbFwRefIdeal.τ Cert.PbFwRefIdeal.sig) → Buf (Elt Ideal) ℓ) (g' : Dev Cert.PbFwRefIdeal.nD → PrngReg), Pre_PbFwIdeal m →
    (∀ c : Dev Cert.PbFwIdeal.nD,
      m' ((c.tc : Thread Cert.PbFwRefIdeal.nD Cert.PbFwRefIdeal.τ).loc Cert.PbFwRefIdeal.main_arg0) = m ((c.tc : Thread Cert.PbFwIdeal.nD Cert.PbFwIdeal.τ).loc Cert.PbFwIdeal.main_arg0)
      ∧ m' ((c.tc : Thread Cert.PbFwRefIdeal.nD Cert.PbFwRefIdeal.τ).loc Cert.PbFwRefIdeal.main_arg1) = m ((c.tc : Thread Cert.PbFwIdeal.nD Cert.PbFwIdeal.τ).loc Cert.PbFwIdeal.main_arg1)) →
    ∃ (v0 : (c : Dev Cert.PbFwIdeal.nD) → Buf (Elt Ideal) ((c.tc : Thread Cert.PbFwIdeal.nD Cert.PbFwIdeal.τ).loc Cert.PbFwIdeal.main_v0)),
      θ_run (Cert.PbFwIdeal.defs (F := Ideal)) (onTc (τ := Cert.PbFwIdeal.τ) (Cert.PbFwIdeal.main (F := Ideal))) ⟨m, fun _ => 0, g⟩ (fun r => ∀ c : Dev Cert.PbFwIdeal.nD,
          r.2.mem ((c.tc : Thread Cert.PbFwIdeal.nD Cert.PbFwIdeal.τ).loc Cert.PbFwIdeal.main_v0) = v0 c
          ∧ r.2.mem ((c.tc : Thread Cert.PbFwIdeal.nD Cert.PbFwIdeal.τ).loc Cert.PbFwIdeal.main_arg0) = m ((c.tc : Thread Cert.PbFwIdeal.nD Cert.PbFwIdeal.τ).loc Cert.PbFwIdeal.main_arg0)
          ∧ r.2.mem ((c.tc : Thread Cert.PbFwIdeal.nD Cert.PbFwIdeal.τ).loc Cert.PbFwIdeal.main_arg1) = m ((c.tc : Thread Cert.PbFwIdeal.nD Cert.PbFwIdeal.τ).loc Cert.PbFwIdeal.main_arg1))
      ∧ θ_run (Cert.PbFwRefIdeal.defs (F := Ideal)) (onTc (τ := Cert.PbFwRefIdeal.τ) (Cert.PbFwRefIdeal.main (F := Ideal))) ⟨m', fun _ => 0, g'⟩ (fun r => ∀ c : Dev Cert.PbFwRefIdeal.nD,
          r.2.mem ((c.tc : Thread Cert.PbFwRefIdeal.nD Cert.PbFwRefIdeal.τ).loc Cert.PbFwRefIdeal.main_v3) = v0 c
          ∧ r.2.mem ((c.tc : Thread Cert.PbFwRefIdeal.nD Cert.PbFwRefIdeal.τ).loc Cert.PbFwRefIdeal.main_arg0) = m' ((c.tc : Thread Cert.PbFwRefIdeal.nD Cert.PbFwRefIdeal.τ).loc Cert.PbFwRefIdeal.main_arg0)
          ∧ r.2.mem ((c.tc : Thread Cert.PbFwRefIdeal.nD Cert.PbFwRefIdeal.τ).loc Cert.PbFwRefIdeal.main_arg1) = m' ((c.tc : Thread Cert.PbFwRefIdeal.nD Cert.PbFwRefIdeal.τ).loc Cert.PbFwRefIdeal.main_arg1))

def preserves_ActBw_ActBwIdeal : Prop :=
  True

def algebraic_ActBwIdeal_ActBwRefIdeal_pre_bounded [hActBwIdeal : Cert.ActBwIdeal.Facts] [hActBwRefIdeal : Cert.ActBwRefIdeal.Facts] [hPre_bounded : Cert.Pre_bounded.Facts] : Prop :=
  ∀ (m : (ℓ : Loc Cert.ActBwIdeal.nD Cert.ActBwIdeal.τ Cert.ActBwIdeal.sig) → Buf (Elt Ideal) ℓ) (g : Dev Cert.ActBwIdeal.nD → PrngReg)
    (m' : (ℓ : Loc Cert.ActBwRefIdeal.nD Cert.ActBwRefIdeal.τ Cert.ActBwRefIdeal.sig) → Buf (Elt Ideal) ℓ) (g' : Dev Cert.ActBwRefIdeal.nD → PrngReg), Pre_ActBwIdeal_bounded m →
    (∀ c : Dev Cert.ActBwIdeal.nD,
      m' ((c.tc : Thread Cert.ActBwRefIdeal.nD Cert.ActBwRefIdeal.τ).loc Cert.ActBwRefIdeal.main_arg0) = m ((c.tc : Thread Cert.ActBwIdeal.nD Cert.ActBwIdeal.τ).loc Cert.ActBwIdeal.main_arg0)
      ∧ m' ((c.tc : Thread Cert.ActBwRefIdeal.nD Cert.ActBwRefIdeal.τ).loc Cert.ActBwRefIdeal.main_arg1) = m ((c.tc : Thread Cert.ActBwIdeal.nD Cert.ActBwIdeal.τ).loc Cert.ActBwIdeal.main_arg1)
      ∧ m' ((c.tc : Thread Cert.ActBwRefIdeal.nD Cert.ActBwRefIdeal.τ).loc Cert.ActBwRefIdeal.main_arg2) = m ((c.tc : Thread Cert.ActBwIdeal.nD Cert.ActBwIdeal.τ).loc Cert.ActBwIdeal.main_arg2)) →
    ∃ (v0 : (c : Dev Cert.ActBwIdeal.nD) → Buf (Elt Ideal) ((c.tc : Thread Cert.ActBwIdeal.nD Cert.ActBwIdeal.τ).loc Cert.ActBwIdeal.main_v0_0)) (v1 : (c : Dev Cert.ActBwIdeal.nD) → Buf (Elt Ideal) ((c.tc : Thread Cert.ActBwIdeal.nD Cert.ActBwIdeal.τ).loc Cert.ActBwIdeal.main_v0_1)),
      θ_run (Cert.ActBwIdeal.defs (F := Ideal)) (onTc (τ := Cert.ActBwIdeal.τ) (Cert.ActBwIdeal.main (F := Ideal))) ⟨m, fun _ => 0, g⟩ (fun r => ∀ c : Dev Cert.ActBwIdeal.nD,
          r.2.mem ((c.tc : Thread Cert.ActBwIdeal.nD Cert.ActBwIdeal.τ).loc Cert.ActBwIdeal.main_v0_0) = v0 c
          ∧ r.2.mem ((c.tc : Thread Cert.ActBwIdeal.nD Cert.ActBwIdeal.τ).loc Cert.ActBwIdeal.main_v0_1) = v1 c
          ∧ r.2.mem ((c.tc : Thread Cert.ActBwIdeal.nD Cert.ActBwIdeal.τ).loc Cert.ActBwIdeal.main_arg0) = m ((c.tc : Thread Cert.ActBwIdeal.nD Cert.ActBwIdeal.τ).loc Cert.ActBwIdeal.main_arg0)
          ∧ r.2.mem ((c.tc : Thread Cert.ActBwIdeal.nD Cert.ActBwIdeal.τ).loc Cert.ActBwIdeal.main_arg1) = m ((c.tc : Thread Cert.ActBwIdeal.nD Cert.ActBwIdeal.τ).loc Cert.ActBwIdeal.main_arg1)
          ∧ r.2.mem ((c.tc : Thread Cert.ActBwIdeal.nD Cert.ActBwIdeal.τ).loc Cert.ActBwIdeal.main_arg2) = m ((c.tc : Thread Cert.ActBwIdeal.nD Cert.ActBwIdeal.τ).loc Cert.ActBwIdeal.main_arg2))
      ∧ θ_run (Cert.ActBwRefIdeal.defs (F := Ideal)) (onTc (τ := Cert.ActBwRefIdeal.τ) (Cert.ActBwRefIdeal.main (F := Ideal))) ⟨m', fun _ => 0, g'⟩ (fun r => ∀ c : Dev Cert.ActBwRefIdeal.nD,
          r.2.mem ((c.tc : Thread Cert.ActBwRefIdeal.nD Cert.ActBwRefIdeal.τ).loc Cert.ActBwRefIdeal.main_v10) = v0 c
          ∧ r.2.mem ((c.tc : Thread Cert.ActBwRefIdeal.nD Cert.ActBwRefIdeal.τ).loc Cert.ActBwRefIdeal.main_v8) = v1 c
          ∧ r.2.mem ((c.tc : Thread Cert.ActBwRefIdeal.nD Cert.ActBwRefIdeal.τ).loc Cert.ActBwRefIdeal.main_arg0) = m' ((c.tc : Thread Cert.ActBwRefIdeal.nD Cert.ActBwRefIdeal.τ).loc Cert.ActBwRefIdeal.main_arg0)
          ∧ r.2.mem ((c.tc : Thread Cert.ActBwRefIdeal.nD Cert.ActBwRefIdeal.τ).loc Cert.ActBwRefIdeal.main_arg1) = m' ((c.tc : Thread Cert.ActBwRefIdeal.nD Cert.ActBwRefIdeal.τ).loc Cert.ActBwRefIdeal.main_arg1)
          ∧ r.2.mem ((c.tc : Thread Cert.ActBwRefIdeal.nD Cert.ActBwRefIdeal.τ).loc Cert.ActBwRefIdeal.main_arg2) = m' ((c.tc : Thread Cert.ActBwRefIdeal.nD Cert.ActBwRefIdeal.τ).loc Cert.ActBwRefIdeal.main_arg2))

def preserves_MergeFw_MergeFwIdeal : Prop :=
  True

def algebraic_MergeFwIdeal_MergeFwRefIdeal [hMergeFwIdeal : Cert.MergeFwIdeal.Facts] [hMergeFwRefIdeal : Cert.MergeFwRefIdeal.Facts] : Prop :=
  ∀ (m : (ℓ : Loc Cert.MergeFwIdeal.nD Cert.MergeFwIdeal.τ Cert.MergeFwIdeal.sig) → Buf (Elt Ideal) ℓ) (g : Dev Cert.MergeFwIdeal.nD → PrngReg)
    (m' : (ℓ : Loc Cert.MergeFwRefIdeal.nD Cert.MergeFwRefIdeal.τ Cert.MergeFwRefIdeal.sig) → Buf (Elt Ideal) ℓ) (g' : Dev Cert.MergeFwRefIdeal.nD → PrngReg), Pre_MergeFwIdeal m →
    (∀ c : Dev Cert.MergeFwIdeal.nD,
      m' ((c.tc : Thread Cert.MergeFwRefIdeal.nD Cert.MergeFwRefIdeal.τ).loc Cert.MergeFwRefIdeal.main_arg0) = m ((c.tc : Thread Cert.MergeFwIdeal.nD Cert.MergeFwIdeal.τ).loc Cert.MergeFwIdeal.main_arg0)
      ∧ m' ((c.tc : Thread Cert.MergeFwRefIdeal.nD Cert.MergeFwRefIdeal.τ).loc Cert.MergeFwRefIdeal.main_arg1) = m ((c.tc : Thread Cert.MergeFwIdeal.nD Cert.MergeFwIdeal.τ).loc Cert.MergeFwIdeal.main_arg1)
      ∧ m' ((c.tc : Thread Cert.MergeFwRefIdeal.nD Cert.MergeFwRefIdeal.τ).loc Cert.MergeFwRefIdeal.main_arg2) = m ((c.tc : Thread Cert.MergeFwIdeal.nD Cert.MergeFwIdeal.τ).loc Cert.MergeFwIdeal.main_arg2)) →
    ∃ (v0 : (c : Dev Cert.MergeFwIdeal.nD) → Buf (Elt Ideal) ((c.tc : Thread Cert.MergeFwIdeal.nD Cert.MergeFwIdeal.τ).loc Cert.MergeFwIdeal.main_v0)),
      θ_run (Cert.MergeFwIdeal.defs (F := Ideal)) (onTc (τ := Cert.MergeFwIdeal.τ) (Cert.MergeFwIdeal.main (F := Ideal))) ⟨m, fun _ => 0, g⟩ (fun r => ∀ c : Dev Cert.MergeFwIdeal.nD,
          r.2.mem ((c.tc : Thread Cert.MergeFwIdeal.nD Cert.MergeFwIdeal.τ).loc Cert.MergeFwIdeal.main_v0) = v0 c
          ∧ r.2.mem ((c.tc : Thread Cert.MergeFwIdeal.nD Cert.MergeFwIdeal.τ).loc Cert.MergeFwIdeal.main_arg0) = m ((c.tc : Thread Cert.MergeFwIdeal.nD Cert.MergeFwIdeal.τ).loc Cert.MergeFwIdeal.main_arg0)
          ∧ r.2.mem ((c.tc : Thread Cert.MergeFwIdeal.nD Cert.MergeFwIdeal.τ).loc Cert.MergeFwIdeal.main_arg1) = m ((c.tc : Thread Cert.MergeFwIdeal.nD Cert.MergeFwIdeal.τ).loc Cert.MergeFwIdeal.main_arg1)
          ∧ r.2.mem ((c.tc : Thread Cert.MergeFwIdeal.nD Cert.MergeFwIdeal.τ).loc Cert.MergeFwIdeal.main_arg2) = m ((c.tc : Thread Cert.MergeFwIdeal.nD Cert.MergeFwIdeal.τ).loc Cert.MergeFwIdeal.main_arg2))
      ∧ θ_run (Cert.MergeFwRefIdeal.defs (F := Ideal)) (onTc (τ := Cert.MergeFwRefIdeal.τ) (Cert.MergeFwRefIdeal.main (F := Ideal))) ⟨m', fun _ => 0, g'⟩ (fun r => ∀ c : Dev Cert.MergeFwRefIdeal.nD,
          r.2.mem ((c.tc : Thread Cert.MergeFwRefIdeal.nD Cert.MergeFwRefIdeal.τ).loc Cert.MergeFwRefIdeal.main_v21) = v0 c
          ∧ r.2.mem ((c.tc : Thread Cert.MergeFwRefIdeal.nD Cert.MergeFwRefIdeal.τ).loc Cert.MergeFwRefIdeal.main_arg0) = m' ((c.tc : Thread Cert.MergeFwRefIdeal.nD Cert.MergeFwRefIdeal.τ).loc Cert.MergeFwRefIdeal.main_arg0)
          ∧ r.2.mem ((c.tc : Thread Cert.MergeFwRefIdeal.nD Cert.MergeFwRefIdeal.τ).loc Cert.MergeFwRefIdeal.main_arg1) = m' ((c.tc : Thread Cert.MergeFwRefIdeal.nD Cert.MergeFwRefIdeal.τ).loc Cert.MergeFwRefIdeal.main_arg1)
          ∧ r.2.mem ((c.tc : Thread Cert.MergeFwRefIdeal.nD Cert.MergeFwRefIdeal.τ).loc Cert.MergeFwRefIdeal.main_arg2) = m' ((c.tc : Thread Cert.MergeFwRefIdeal.nD Cert.MergeFwRefIdeal.τ).loc Cert.MergeFwRefIdeal.main_arg2))

def preserves_MergeBw_MergeBwIdeal : Prop :=
  True

def algebraic_MergeBwIdeal_MergeBwRefIdeal [hMergeBwIdeal : Cert.MergeBwIdeal.Facts] [hMergeBwRefIdeal : Cert.MergeBwRefIdeal.Facts] : Prop :=
  ∀ (m : (ℓ : Loc Cert.MergeBwIdeal.nD Cert.MergeBwIdeal.τ Cert.MergeBwIdeal.sig) → Buf (Elt Ideal) ℓ) (g : Dev Cert.MergeBwIdeal.nD → PrngReg)
    (m' : (ℓ : Loc Cert.MergeBwRefIdeal.nD Cert.MergeBwRefIdeal.τ Cert.MergeBwRefIdeal.sig) → Buf (Elt Ideal) ℓ) (g' : Dev Cert.MergeBwRefIdeal.nD → PrngReg), Pre_MergeBwIdeal m →
    (∀ c : Dev Cert.MergeBwIdeal.nD,
      m' ((c.tc : Thread Cert.MergeBwRefIdeal.nD Cert.MergeBwRefIdeal.τ).loc Cert.MergeBwRefIdeal.main_arg0) = m ((c.tc : Thread Cert.MergeBwIdeal.nD Cert.MergeBwIdeal.τ).loc Cert.MergeBwIdeal.main_arg0)
      ∧ m' ((c.tc : Thread Cert.MergeBwRefIdeal.nD Cert.MergeBwRefIdeal.τ).loc Cert.MergeBwRefIdeal.main_arg1) = m ((c.tc : Thread Cert.MergeBwIdeal.nD Cert.MergeBwIdeal.τ).loc Cert.MergeBwIdeal.main_arg1)
      ∧ m' ((c.tc : Thread Cert.MergeBwRefIdeal.nD Cert.MergeBwRefIdeal.τ).loc Cert.MergeBwRefIdeal.main_arg2) = m ((c.tc : Thread Cert.MergeBwIdeal.nD Cert.MergeBwIdeal.τ).loc Cert.MergeBwIdeal.main_arg2)
      ∧ m' ((c.tc : Thread Cert.MergeBwRefIdeal.nD Cert.MergeBwRefIdeal.τ).loc Cert.MergeBwRefIdeal.main_arg3) = m ((c.tc : Thread Cert.MergeBwIdeal.nD Cert.MergeBwIdeal.τ).loc Cert.MergeBwIdeal.main_arg3)
      ∧ m' ((c.tc : Thread Cert.MergeBwRefIdeal.nD Cert.MergeBwRefIdeal.τ).loc Cert.MergeBwRefIdeal.main_arg4) = m ((c.tc : Thread Cert.MergeBwIdeal.nD Cert.MergeBwIdeal.τ).loc Cert.MergeBwIdeal.main_arg4)) →
    ∃ (v0 : (c : Dev Cert.MergeBwIdeal.nD) → Buf (Elt Ideal) ((c.tc : Thread Cert.MergeBwIdeal.nD Cert.MergeBwIdeal.τ).loc Cert.MergeBwIdeal.main_v0_0)) (v1 : (c : Dev Cert.MergeBwIdeal.nD) → Buf (Elt Ideal) ((c.tc : Thread Cert.MergeBwIdeal.nD Cert.MergeBwIdeal.τ).loc Cert.MergeBwIdeal.main_v0_1)) (v2 : (c : Dev Cert.MergeBwIdeal.nD) → Buf (Elt Ideal) ((c.tc : Thread Cert.MergeBwIdeal.nD Cert.MergeBwIdeal.τ).loc Cert.MergeBwIdeal.main_v0_2)),
      θ_run (Cert.MergeBwIdeal.defs (F := Ideal)) (onTc (τ := Cert.MergeBwIdeal.τ) (Cert.MergeBwIdeal.main (F := Ideal))) ⟨m, fun _ => 0, g⟩ (fun r => ∀ c : Dev Cert.MergeBwIdeal.nD,
          r.2.mem ((c.tc : Thread Cert.MergeBwIdeal.nD Cert.MergeBwIdeal.τ).loc Cert.MergeBwIdeal.main_v0_0) = v0 c
          ∧ r.2.mem ((c.tc : Thread Cert.MergeBwIdeal.nD Cert.MergeBwIdeal.τ).loc Cert.MergeBwIdeal.main_v0_1) = v1 c
          ∧ r.2.mem ((c.tc : Thread Cert.MergeBwIdeal.nD Cert.MergeBwIdeal.τ).loc Cert.MergeBwIdeal.main_v0_2) = v2 c
          ∧ r.2.mem ((c.tc : Thread Cert.MergeBwIdeal.nD Cert.MergeBwIdeal.τ).loc Cert.MergeBwIdeal.main_arg0) = m ((c.tc : Thread Cert.MergeBwIdeal.nD Cert.MergeBwIdeal.τ).loc Cert.MergeBwIdeal.main_arg0)
          ∧ r.2.mem ((c.tc : Thread Cert.MergeBwIdeal.nD Cert.MergeBwIdeal.τ).loc Cert.MergeBwIdeal.main_arg1) = m ((c.tc : Thread Cert.MergeBwIdeal.nD Cert.MergeBwIdeal.τ).loc Cert.MergeBwIdeal.main_arg1)
          ∧ r.2.mem ((c.tc : Thread Cert.MergeBwIdeal.nD Cert.MergeBwIdeal.τ).loc Cert.MergeBwIdeal.main_arg2) = m ((c.tc : Thread Cert.MergeBwIdeal.nD Cert.MergeBwIdeal.τ).loc Cert.MergeBwIdeal.main_arg2)
          ∧ r.2.mem ((c.tc : Thread Cert.MergeBwIdeal.nD Cert.MergeBwIdeal.τ).loc Cert.MergeBwIdeal.main_arg3) = m ((c.tc : Thread Cert.MergeBwIdeal.nD Cert.MergeBwIdeal.τ).loc Cert.MergeBwIdeal.main_arg3)
          ∧ r.2.mem ((c.tc : Thread Cert.MergeBwIdeal.nD Cert.MergeBwIdeal.τ).loc Cert.MergeBwIdeal.main_arg4) = m ((c.tc : Thread Cert.MergeBwIdeal.nD Cert.MergeBwIdeal.τ).loc Cert.MergeBwIdeal.main_arg4))
      ∧ θ_run (Cert.MergeBwRefIdeal.defs (F := Ideal)) (onTc (τ := Cert.MergeBwRefIdeal.τ) (Cert.MergeBwRefIdeal.main (F := Ideal))) ⟨m', fun _ => 0, g'⟩ (fun r => ∀ c : Dev Cert.MergeBwRefIdeal.nD,
          r.2.mem ((c.tc : Thread Cert.MergeBwRefIdeal.nD Cert.MergeBwRefIdeal.τ).loc Cert.MergeBwRefIdeal.main_v38) = v0 c
          ∧ r.2.mem ((c.tc : Thread Cert.MergeBwRefIdeal.nD Cert.MergeBwRefIdeal.τ).loc Cert.MergeBwRefIdeal.main_v37) = v1 c
          ∧ r.2.mem ((c.tc : Thread Cert.MergeBwRefIdeal.nD Cert.MergeBwRefIdeal.τ).loc Cert.MergeBwRefIdeal.main_v41) = v2 c
          ∧ r.2.mem ((c.tc : Thread Cert.MergeBwRefIdeal.nD Cert.MergeBwRefIdeal.τ).loc Cert.MergeBwRefIdeal.main_arg0) = m' ((c.tc : Thread Cert.MergeBwRefIdeal.nD Cert.MergeBwRefIdeal.τ).loc Cert.MergeBwRefIdeal.main_arg0)
          ∧ r.2.mem ((c.tc : Thread Cert.MergeBwRefIdeal.nD Cert.MergeBwRefIdeal.τ).loc Cert.MergeBwRefIdeal.main_arg1) = m' ((c.tc : Thread Cert.MergeBwRefIdeal.nD Cert.MergeBwRefIdeal.τ).loc Cert.MergeBwRefIdeal.main_arg1)
          ∧ r.2.mem ((c.tc : Thread Cert.MergeBwRefIdeal.nD Cert.MergeBwRefIdeal.τ).loc Cert.MergeBwRefIdeal.main_arg2) = m' ((c.tc : Thread Cert.MergeBwRefIdeal.nD Cert.MergeBwRefIdeal.τ).loc Cert.MergeBwRefIdeal.main_arg2)
          ∧ r.2.mem ((c.tc : Thread Cert.MergeBwRefIdeal.nD Cert.MergeBwRefIdeal.τ).loc Cert.MergeBwRefIdeal.main_arg3) = m' ((c.tc : Thread Cert.MergeBwRefIdeal.nD Cert.MergeBwRefIdeal.τ).loc Cert.MergeBwRefIdeal.main_arg3)
          ∧ r.2.mem ((c.tc : Thread Cert.MergeBwRefIdeal.nD Cert.MergeBwRefIdeal.τ).loc Cert.MergeBwRefIdeal.main_arg4) = m' ((c.tc : Thread Cert.MergeBwRefIdeal.nD Cert.MergeBwRefIdeal.τ).loc Cert.MergeBwRefIdeal.main_arg4))

def preserves_SmallFw_SmallFwIdeal : Prop :=
  True

def algebraic_SmallFwIdeal_SmallFwRefIdeal [hSmallFwIdeal : Cert.SmallFwIdeal.Facts] [hSmallFwRefIdeal : Cert.SmallFwRefIdeal.Facts] : Prop :=
  ∀ (m : (ℓ : Loc Cert.SmallFwIdeal.nD Cert.SmallFwIdeal.τ Cert.SmallFwIdeal.sig) → Buf (Elt Ideal) ℓ) (g : Dev Cert.SmallFwIdeal.nD → PrngReg)
    (m' : (ℓ : Loc Cert.SmallFwRefIdeal.nD Cert.SmallFwRefIdeal.τ Cert.SmallFwRefIdeal.sig) → Buf (Elt Ideal) ℓ) (g' : Dev Cert.SmallFwRefIdeal.nD → PrngReg), Pre_SmallFwIdeal m →
    (∀ c : Dev Cert.SmallFwIdeal.nD,
      m' ((c.tc : Thread Cert.SmallFwRefIdeal.nD Cert.SmallFwRefIdeal.τ).loc Cert.SmallFwRefIdeal.main_arg0) = m ((c.tc : Thread Cert.SmallFwIdeal.nD Cert.SmallFwIdeal.τ).loc Cert.SmallFwIdeal.main_arg0)
      ∧ m' ((c.tc : Thread Cert.SmallFwRefIdeal.nD Cert.SmallFwRefIdeal.τ).loc Cert.SmallFwRefIdeal.main_arg1) = m ((c.tc : Thread Cert.SmallFwIdeal.nD Cert.SmallFwIdeal.τ).loc Cert.SmallFwIdeal.main_arg1)) →
    ∃ (v0 : (c : Dev Cert.SmallFwIdeal.nD) → Buf (Elt Ideal) ((c.tc : Thread Cert.SmallFwIdeal.nD Cert.SmallFwIdeal.τ).loc Cert.SmallFwIdeal.main_v0)),
      θ_run (Cert.SmallFwIdeal.defs (F := Ideal)) (onTc (τ := Cert.SmallFwIdeal.τ) (Cert.SmallFwIdeal.main (F := Ideal))) ⟨m, fun _ => 0, g⟩ (fun r => ∀ c : Dev Cert.SmallFwIdeal.nD,
          r.2.mem ((c.tc : Thread Cert.SmallFwIdeal.nD Cert.SmallFwIdeal.τ).loc Cert.SmallFwIdeal.main_v0) = v0 c
          ∧ r.2.mem ((c.tc : Thread Cert.SmallFwIdeal.nD Cert.SmallFwIdeal.τ).loc Cert.SmallFwIdeal.main_arg0) = m ((c.tc : Thread Cert.SmallFwIdeal.nD Cert.SmallFwIdeal.τ).loc Cert.SmallFwIdeal.main_arg0)
          ∧ r.2.mem ((c.tc : Thread Cert.SmallFwIdeal.nD Cert.SmallFwIdeal.τ).loc Cert.SmallFwIdeal.main_arg1) = m ((c.tc : Thread Cert.SmallFwIdeal.nD Cert.SmallFwIdeal.τ).loc Cert.SmallFwIdeal.main_arg1))
      ∧ θ_run (Cert.SmallFwRefIdeal.defs (F := Ideal)) (onTc (τ := Cert.SmallFwRefIdeal.τ) (Cert.SmallFwRefIdeal.main (F := Ideal))) ⟨m', fun _ => 0, g'⟩ (fun r => ∀ c : Dev Cert.SmallFwRefIdeal.nD,
          r.2.mem ((c.tc : Thread Cert.SmallFwRefIdeal.nD Cert.SmallFwRefIdeal.τ).loc Cert.SmallFwRefIdeal.main_v2) = v0 c
          ∧ r.2.mem ((c.tc : Thread Cert.SmallFwRefIdeal.nD Cert.SmallFwRefIdeal.τ).loc Cert.SmallFwRefIdeal.main_arg0) = m' ((c.tc : Thread Cert.SmallFwRefIdeal.nD Cert.SmallFwRefIdeal.τ).loc Cert.SmallFwRefIdeal.main_arg0)
          ∧ r.2.mem ((c.tc : Thread Cert.SmallFwRefIdeal.nD Cert.SmallFwRefIdeal.τ).loc Cert.SmallFwRefIdeal.main_arg1) = m' ((c.tc : Thread Cert.SmallFwRefIdeal.nD Cert.SmallFwRefIdeal.τ).loc Cert.SmallFwRefIdeal.main_arg1))

def preserves_NormFw_NormFwIdeal : Prop :=
  True

def algebraic_NormFwIdeal_NormFwRefIdeal [hNormFwIdeal : Cert.NormFwIdeal.Facts] [hNormFwRefIdeal : Cert.NormFwRefIdeal.Facts] : Prop :=
  ∀ (m : (ℓ : Loc Cert.NormFwIdeal.nD Cert.NormFwIdeal.τ Cert.NormFwIdeal.sig) → Buf (Elt Ideal) ℓ) (g : Dev Cert.NormFwIdeal.nD → PrngReg)
    (m' : (ℓ : Loc Cert.NormFwRefIdeal.nD Cert.NormFwRefIdeal.τ Cert.NormFwRefIdeal.sig) → Buf (Elt Ideal) ℓ) (g' : Dev Cert.NormFwRefIdeal.nD → PrngReg), Pre_NormFwIdeal m →
    (∀ c : Dev Cert.NormFwIdeal.nD,
      m' ((c.tc : Thread Cert.NormFwRefIdeal.nD Cert.NormFwRefIdeal.τ).loc Cert.NormFwRefIdeal.main_arg0) = m ((c.tc : Thread Cert.NormFwIdeal.nD Cert.NormFwIdeal.τ).loc Cert.NormFwIdeal.main_arg0)
      ∧ m' ((c.tc : Thread Cert.NormFwRefIdeal.nD Cert.NormFwRefIdeal.τ).loc Cert.NormFwRefIdeal.main_arg1) = m ((c.tc : Thread Cert.NormFwIdeal.nD Cert.NormFwIdeal.τ).loc Cert.NormFwIdeal.main_arg1)
      ∧ m' ((c.tc : Thread Cert.NormFwRefIdeal.nD Cert.NormFwRefIdeal.τ).loc Cert.NormFwRefIdeal.main_arg2) = m ((c.tc : Thread Cert.NormFwIdeal.nD Cert.NormFwIdeal.τ).loc Cert.NormFwIdeal.main_arg2)
      ∧ m' ((c.tc : Thread Cert.NormFwRefIdeal.nD Cert.NormFwRefIdeal.τ).loc Cert.NormFwRefIdeal.main_arg3) = m ((c.tc : Thread Cert.NormFwIdeal.nD Cert.NormFwIdeal.τ).loc Cert.NormFwIdeal.main_arg3)
      ∧ m' ((c.tc : Thread Cert.NormFwRefIdeal.nD Cert.NormFwRefIdeal.τ).loc Cert.NormFwRefIdeal.main_arg4) = m ((c.tc : Thread Cert.NormFwIdeal.nD Cert.NormFwIdeal.τ).loc Cert.NormFwIdeal.main_arg4)
      ∧ m' ((c.tc : Thread Cert.NormFwRefIdeal.nD Cert.NormFwRefIdeal.τ).loc Cert.NormFwRefIdeal.main_arg5) = m ((c.tc : Thread Cert.NormFwIdeal.nD Cert.NormFwIdeal.τ).loc Cert.NormFwIdeal.main_arg5)
      ∧ m' ((c.tc : Thread Cert.NormFwRefIdeal.nD Cert.NormFwRefIdeal.τ).loc Cert.NormFwRefIdeal.main_arg6) = m ((c.tc : Thread Cert.NormFwIdeal.nD Cert.NormFwIdeal.τ).loc Cert.NormFwIdeal.main_arg6)) →
    ∃ (v0 : (c : Dev Cert.NormFwIdeal.nD) → Buf (Elt Ideal) ((c.tc : Thread Cert.NormFwIdeal.nD Cert.NormFwIdeal.τ).loc Cert.NormFwIdeal.main_v0_0)) (v1 : (c : Dev Cert.NormFwIdeal.nD) → Buf (Elt Ideal) ((c.tc : Thread Cert.NormFwIdeal.nD Cert.NormFwIdeal.τ).loc Cert.NormFwIdeal.main_v0_1)),
      θ_run (Cert.NormFwIdeal.defs (F := Ideal)) (onTc (τ := Cert.NormFwIdeal.τ) (Cert.NormFwIdeal.main (F := Ideal))) ⟨m, fun _ => 0, g⟩ (fun r => ∀ c : Dev Cert.NormFwIdeal.nD,
          r.2.mem ((c.tc : Thread Cert.NormFwIdeal.nD Cert.NormFwIdeal.τ).loc Cert.NormFwIdeal.main_v0_0) = v0 c
          ∧ r.2.mem ((c.tc : Thread Cert.NormFwIdeal.nD Cert.NormFwIdeal.τ).loc Cert.NormFwIdeal.main_v0_1) = v1 c
          ∧ r.2.mem ((c.tc : Thread Cert.NormFwIdeal.nD Cert.NormFwIdeal.τ).loc Cert.NormFwIdeal.main_arg0) = m ((c.tc : Thread Cert.NormFwIdeal.nD Cert.NormFwIdeal.τ).loc Cert.NormFwIdeal.main_arg0)
          ∧ r.2.mem ((c.tc : Thread Cert.NormFwIdeal.nD Cert.NormFwIdeal.τ).loc Cert.NormFwIdeal.main_arg1) = m ((c.tc : Thread Cert.NormFwIdeal.nD Cert.NormFwIdeal.τ).loc Cert.NormFwIdeal.main_arg1)
          ∧ r.2.mem ((c.tc : Thread Cert.NormFwIdeal.nD Cert.NormFwIdeal.τ).loc Cert.NormFwIdeal.main_arg2) = m ((c.tc : Thread Cert.NormFwIdeal.nD Cert.NormFwIdeal.τ).loc Cert.NormFwIdeal.main_arg2)
          ∧ r.2.mem ((c.tc : Thread Cert.NormFwIdeal.nD Cert.NormFwIdeal.τ).loc Cert.NormFwIdeal.main_arg3) = m ((c.tc : Thread Cert.NormFwIdeal.nD Cert.NormFwIdeal.τ).loc Cert.NormFwIdeal.main_arg3)
          ∧ r.2.mem ((c.tc : Thread Cert.NormFwIdeal.nD Cert.NormFwIdeal.τ).loc Cert.NormFwIdeal.main_arg4) = m ((c.tc : Thread Cert.NormFwIdeal.nD Cert.NormFwIdeal.τ).loc Cert.NormFwIdeal.main_arg4)
          ∧ r.2.mem ((c.tc : Thread Cert.NormFwIdeal.nD Cert.NormFwIdeal.τ).loc Cert.NormFwIdeal.main_arg5) = m ((c.tc : Thread Cert.NormFwIdeal.nD Cert.NormFwIdeal.τ).loc Cert.NormFwIdeal.main_arg5)
          ∧ r.2.mem ((c.tc : Thread Cert.NormFwIdeal.nD Cert.NormFwIdeal.τ).loc Cert.NormFwIdeal.main_arg6) = m ((c.tc : Thread Cert.NormFwIdeal.nD Cert.NormFwIdeal.τ).loc Cert.NormFwIdeal.main_arg6))
      ∧ θ_run (Cert.NormFwRefIdeal.defs (F := Ideal)) (onTc (τ := Cert.NormFwRefIdeal.τ) (Cert.NormFwRefIdeal.main (F := Ideal))) ⟨m', fun _ => 0, g'⟩ (fun r => ∀ c : Dev Cert.NormFwRefIdeal.nD,
          r.2.mem ((c.tc : Thread Cert.NormFwRefIdeal.nD Cert.NormFwRefIdeal.τ).loc Cert.NormFwRefIdeal.main_v4) = v0 c
          ∧ r.2.mem ((c.tc : Thread Cert.NormFwRefIdeal.nD Cert.NormFwRefIdeal.τ).loc Cert.NormFwRefIdeal.main_v23) = v1 c
          ∧ r.2.mem ((c.tc : Thread Cert.NormFwRefIdeal.nD Cert.NormFwRefIdeal.τ).loc Cert.NormFwRefIdeal.main_arg0) = m' ((c.tc : Thread Cert.NormFwRefIdeal.nD Cert.NormFwRefIdeal.τ).loc Cert.NormFwRefIdeal.main_arg0)
          ∧ r.2.mem ((c.tc : Thread Cert.NormFwRefIdeal.nD Cert.NormFwRefIdeal.τ).loc Cert.NormFwRefIdeal.main_arg1) = m' ((c.tc : Thread Cert.NormFwRefIdeal.nD Cert.NormFwRefIdeal.τ).loc Cert.NormFwRefIdeal.main_arg1)
          ∧ r.2.mem ((c.tc : Thread Cert.NormFwRefIdeal.nD Cert.NormFwRefIdeal.τ).loc Cert.NormFwRefIdeal.main_arg2) = m' ((c.tc : Thread Cert.NormFwRefIdeal.nD Cert.NormFwRefIdeal.τ).loc Cert.NormFwRefIdeal.main_arg2)
          ∧ r.2.mem ((c.tc : Thread Cert.NormFwRefIdeal.nD Cert.NormFwRefIdeal.τ).loc Cert.NormFwRefIdeal.main_arg3) = m' ((c.tc : Thread Cert.NormFwRefIdeal.nD Cert.NormFwRefIdeal.τ).loc Cert.NormFwRefIdeal.main_arg3)
          ∧ r.2.mem ((c.tc : Thread Cert.NormFwRefIdeal.nD Cert.NormFwRefIdeal.τ).loc Cert.NormFwRefIdeal.main_arg4) = m' ((c.tc : Thread Cert.NormFwRefIdeal.nD Cert.NormFwRefIdeal.τ).loc Cert.NormFwRefIdeal.main_arg4)
          ∧ r.2.mem ((c.tc : Thread Cert.NormFwRefIdeal.nD Cert.NormFwRefIdeal.τ).loc Cert.NormFwRefIdeal.main_arg5) = m' ((c.tc : Thread Cert.NormFwRefIdeal.nD Cert.NormFwRefIdeal.τ).loc Cert.NormFwRefIdeal.main_arg5)
          ∧ r.2.mem ((c.tc : Thread Cert.NormFwRefIdeal.nD Cert.NormFwRefIdeal.τ).loc Cert.NormFwRefIdeal.main_arg6) = m' ((c.tc : Thread Cert.NormFwRefIdeal.nD Cert.NormFwRefIdeal.τ).loc Cert.NormFwRefIdeal.main_arg6))

def preserves_NormBw_NormBwIdeal : Prop :=
  True

def algebraic_NormBwIdeal_NormBwRefIdeal [hNormBwIdeal : Cert.NormBwIdeal.Facts] [hNormBwRefIdeal : Cert.NormBwRefIdeal.Facts] : Prop :=
  ∀ (m : (ℓ : Loc Cert.NormBwIdeal.nD Cert.NormBwIdeal.τ Cert.NormBwIdeal.sig) → Buf (Elt Ideal) ℓ) (g : Dev Cert.NormBwIdeal.nD → PrngReg)
    (m' : (ℓ : Loc Cert.NormBwRefIdeal.nD Cert.NormBwRefIdeal.τ Cert.NormBwRefIdeal.sig) → Buf (Elt Ideal) ℓ) (g' : Dev Cert.NormBwRefIdeal.nD → PrngReg), Pre_NormBwIdeal m →
    (∀ c : Dev Cert.NormBwIdeal.nD,
      m' ((c.tc : Thread Cert.NormBwRefIdeal.nD Cert.NormBwRefIdeal.τ).loc Cert.NormBwRefIdeal.main_arg0) = m ((c.tc : Thread Cert.NormBwIdeal.nD Cert.NormBwIdeal.τ).loc Cert.NormBwIdeal.main_arg0)
      ∧ m' ((c.tc : Thread Cert.NormBwRefIdeal.nD Cert.NormBwRefIdeal.τ).loc Cert.NormBwRefIdeal.main_arg1) = m ((c.tc : Thread Cert.NormBwIdeal.nD Cert.NormBwIdeal.τ).loc Cert.NormBwIdeal.main_arg1)
      ∧ m' ((c.tc : Thread Cert.NormBwRefIdeal.nD Cert.NormBwRefIdeal.τ).loc Cert.NormBwRefIdeal.main_arg2) = m ((c.tc : Thread Cert.NormBwIdeal.nD Cert.NormBwIdeal.τ).loc Cert.NormBwIdeal.main_arg2)
      ∧ m' ((c.tc : Thread Cert.NormBwRefIdeal.nD Cert.NormBwRefIdeal.τ).loc Cert.NormBwRefIdeal.main_arg3) = m ((c.tc : Thread Cert.NormBwIdeal.nD Cert.NormBwIdeal.τ).loc Cert.NormBwIdeal.main_arg3)
      ∧ m' ((c.tc : Thread Cert.NormBwRefIdeal.nD Cert.NormBwRefIdeal.τ).loc Cert.NormBwRefIdeal.main_arg4) = m ((c.tc : Thread Cert.NormBwIdeal.nD Cert.NormBwIdeal.τ).loc Cert.NormBwIdeal.main_arg4)
      ∧ m' ((c.tc : Thread Cert.NormBwRefIdeal.nD Cert.NormBwRefIdeal.τ).loc Cert.NormBwRefIdeal.main_arg5) = m ((c.tc : Thread Cert.NormBwIdeal.nD Cert.NormBwIdeal.τ).loc Cert.NormBwIdeal.main_arg5)
      ∧ m' ((c.tc : Thread Cert.NormBwRefIdeal.nD Cert.NormBwRefIdeal.τ).loc Cert.NormBwRefIdeal.main_arg6) = m ((c.tc : Thread Cert.NormBwIdeal.nD Cert.NormBwIdeal.τ).loc Cert.NormBwIdeal.main_arg6)
      ∧ m' ((c.tc : Thread Cert.NormBwRefIdeal.nD Cert.NormBwRefIdeal.τ).loc Cert.NormBwRefIdeal.main_arg7) = m ((c.tc : Thread Cert.NormBwIdeal.nD Cert.NormBwIdeal.τ).loc Cert.NormBwIdeal.main_arg7)) →
    ∃ (v0 : (c : Dev Cert.NormBwIdeal.nD) → Buf (Elt Ideal) ((c.tc : Thread Cert.NormBwIdeal.nD Cert.NormBwIdeal.τ).loc Cert.NormBwIdeal.main_v0_0)) (v1 : (c : Dev Cert.NormBwIdeal.nD) → Buf (Elt Ideal) ((c.tc : Thread Cert.NormBwIdeal.nD Cert.NormBwIdeal.τ).loc Cert.NormBwIdeal.main_v0_1)) (v2 : (c : Dev Cert.NormBwIdeal.nD) → Buf (Elt Ideal) ((c.tc : Thread Cert.NormBwIdeal.nD Cert.NormBwIdeal.τ).loc Cert.NormBwIdeal.main_v0_2)),
      θ_run (Cert.NormBwIdeal.defs (F := Ideal)) (onTc (τ := Cert.NormBwIdeal.τ) (Cert.NormBwIdeal.main (F := Ideal))) ⟨m, fun _ => 0, g⟩ (fun r => ∀ c : Dev Cert.NormBwIdeal.nD,
          r.2.mem ((c.tc : Thread Cert.NormBwIdeal.nD Cert.NormBwIdeal.τ).loc Cert.NormBwIdeal.main_v0_0) = v0 c
          ∧ r.2.mem ((c.tc : Thread Cert.NormBwIdeal.nD Cert.NormBwIdeal.τ).loc Cert.NormBwIdeal.main_v0_1) = v1 c
          ∧ r.2.mem ((c.tc : Thread Cert.NormBwIdeal.nD Cert.NormBwIdeal.τ).loc Cert.NormBwIdeal.main_v0_2) = v2 c
          ∧ r.2.mem ((c.tc : Thread Cert.NormBwIdeal.nD Cert.NormBwIdeal.τ).loc Cert.NormBwIdeal.main_arg0) = m ((c.tc : Thread Cert.NormBwIdeal.nD Cert.NormBwIdeal.τ).loc Cert.NormBwIdeal.main_arg0)
          ∧ r.2.mem ((c.tc : Thread Cert.NormBwIdeal.nD Cert.NormBwIdeal.τ).loc Cert.NormBwIdeal.main_arg1) = m ((c.tc : Thread Cert.NormBwIdeal.nD Cert.NormBwIdeal.τ).loc Cert.NormBwIdeal.main_arg1)
          ∧ r.2.mem ((c.tc : Thread Cert.NormBwIdeal.nD Cert.NormBwIdeal.τ).loc Cert.NormBwIdeal.main_arg2) = m ((c.tc : Thread Cert.NormBwIdeal.nD Cert.NormBwIdeal.τ).loc Cert.NormBwIdeal.main_arg2)
          ∧ r.2.mem ((c.tc : Thread Cert.NormBwIdeal.nD Cert.NormBwIdeal.τ).loc Cert.NormBwIdeal.main_arg3) = m ((c.tc : Thread Cert.NormBwIdeal.nD Cert.NormBwIdeal.τ).loc Cert.NormBwIdeal.main_arg3)
          ∧ r.2.mem ((c.tc : Thread Cert.NormBwIdeal.nD Cert.NormBwIdeal.τ).loc Cert.NormBwIdeal.main_arg4) = m ((c.tc : Thread Cert.NormBwIdeal.nD Cert.NormBwIdeal.τ).loc Cert.NormBwIdeal.main_arg4)
          ∧ r.2.mem ((c.tc : Thread Cert.NormBwIdeal.nD Cert.NormBwIdeal.τ).loc Cert.NormBwIdeal.main_arg5) = m ((c.tc : Thread Cert.NormBwIdeal.nD Cert.NormBwIdeal.τ).loc Cert.NormBwIdeal.main_arg5)
          ∧ r.2.mem ((c.tc : Thread Cert.NormBwIdeal.nD Cert.NormBwIdeal.τ).loc Cert.NormBwIdeal.main_arg6) = m ((c.tc : Thread Cert.NormBwIdeal.nD Cert.NormBwIdeal.τ).loc Cert.NormBwIdeal.main_arg6)
          ∧ r.2.mem ((c.tc : Thread Cert.NormBwIdeal.nD Cert.NormBwIdeal.τ).loc Cert.NormBwIdeal.main_arg7) = m ((c.tc : Thread Cert.NormBwIdeal.nD Cert.NormBwIdeal.τ).loc Cert.NormBwIdeal.main_arg7))
      ∧ θ_run (Cert.NormBwRefIdeal.defs (F := Ideal)) (onTc (τ := Cert.NormBwRefIdeal.τ) (Cert.NormBwRefIdeal.main (F := Ideal))) ⟨m', fun _ => 0, g'⟩ (fun r => ∀ c : Dev Cert.NormBwRefIdeal.nD,
          r.2.mem ((c.tc : Thread Cert.NormBwRefIdeal.nD Cert.NormBwRefIdeal.τ).loc Cert.NormBwRefIdeal.main_v51) = v0 c
          ∧ r.2.mem ((c.tc : Thread Cert.NormBwRefIdeal.nD Cert.NormBwRefIdeal.τ).loc Cert.NormBwRefIdeal.main_v60) = v1 c
          ∧ r.2.mem ((c.tc : Thread Cert.NormBwRefIdeal.nD Cert.NormBwRefIdeal.τ).loc Cert.NormBwRefIdeal.main_v62) = v2 c
          ∧ r.2.mem ((c.tc : Thread Cert.NormBwRefIdeal.nD Cert.NormBwRefIdeal.τ).loc Cert.NormBwRefIdeal.main_arg0) = m' ((c.tc : Thread Cert.NormBwRefIdeal.nD Cert.NormBwRefIdeal.τ).loc Cert.NormBwRefIdeal.main_arg0)
          ∧ r.2.mem ((c.tc : Thread Cert.NormBwRefIdeal.nD Cert.NormBwRefIdeal.τ).loc Cert.NormBwRefIdeal.main_arg1) = m' ((c.tc : Thread Cert.NormBwRefIdeal.nD Cert.NormBwRefIdeal.τ).loc Cert.NormBwRefIdeal.main_arg1)
          ∧ r.2.mem ((c.tc : Thread Cert.NormBwRefIdeal.nD Cert.NormBwRefIdeal.τ).loc Cert.NormBwRefIdeal.main_arg2) = m' ((c.tc : Thread Cert.NormBwRefIdeal.nD Cert.NormBwRefIdeal.τ).loc Cert.NormBwRefIdeal.main_arg2)
          ∧ r.2.mem ((c.tc : Thread Cert.NormBwRefIdeal.nD Cert.NormBwRefIdeal.τ).loc Cert.NormBwRefIdeal.main_arg3) = m' ((c.tc : Thread Cert.NormBwRefIdeal.nD Cert.NormBwRefIdeal.τ).loc Cert.NormBwRefIdeal.main_arg3)
          ∧ r.2.mem ((c.tc : Thread Cert.NormBwRefIdeal.nD Cert.NormBwRefIdeal.τ).loc Cert.NormBwRefIdeal.main_arg4) = m' ((c.tc : Thread Cert.NormBwRefIdeal.nD Cert.NormBwRefIdeal.τ).loc Cert.NormBwRefIdeal.main_arg4)
          ∧ r.2.mem ((c.tc : Thread Cert.NormBwRefIdeal.nD Cert.NormBwRefIdeal.τ).loc Cert.NormBwRefIdeal.main_arg5) = m' ((c.tc : Thread Cert.NormBwRefIdeal.nD Cert.NormBwRefIdeal.τ).loc Cert.NormBwRefIdeal.main_arg5)
          ∧ r.2.mem ((c.tc : Thread Cert.NormBwRefIdeal.nD Cert.NormBwRefIdeal.τ).loc Cert.NormBwRefIdeal.main_arg6) = m' ((c.tc : Thread Cert.NormBwRefIdeal.nD Cert.NormBwRefIdeal.τ).loc Cert.NormBwRefIdeal.main_arg6)
          ∧ r.2.mem ((c.tc : Thread Cert.NormBwRefIdeal.nD Cert.NormBwRefIdeal.τ).loc Cert.NormBwRefIdeal.main_arg7) = m' ((c.tc : Thread Cert.NormBwRefIdeal.nD Cert.NormBwRefIdeal.τ).loc Cert.NormBwRefIdeal.main_arg7))

def Claim : Prop :=
  ∃ (hKernel : Cert.Kernel.Facts) (hKernelIdeal : Cert.KernelIdeal.Facts) (hReferenceIdeal : Cert.ReferenceIdeal.Facts) (hInDw : Cert.InDw.Facts) (hInDwIdeal : Cert.InDwIdeal.Facts) (hInDwRefIdeal : Cert.InDwRefIdeal.Facts) (hUpDw : Cert.UpDw.Facts) (hUpDwIdeal : Cert.UpDwIdeal.Facts) (hUpDwRefIdeal : Cert.UpDwRefIdeal.Facts) (hDownDw : Cert.DownDw.Facts) (hDownDwIdeal : Cert.DownDwIdeal.Facts) (hDownDwRefIdeal : Cert.DownDwRefIdeal.Facts) (hOutDw : Cert.OutDw.Facts) (hOutDwIdeal : Cert.OutDwIdeal.Facts) (hOutDwRefIdeal : Cert.OutDwRefIdeal.Facts) (hPbDw : Cert.PbDw.Facts) (hPbDwIdeal : Cert.PbDwIdeal.Facts) (hPbDwRefIdeal : Cert.PbDwRefIdeal.Facts) (hUpDx : Cert.UpDx.Facts) (hUpDxIdeal : Cert.UpDxIdeal.Facts) (hUpDxRefIdeal : Cert.UpDxRefIdeal.Facts) (hDownDx : Cert.DownDx.Facts) (hDownDxIdeal : Cert.DownDxIdeal.Facts) (hDownDxRefIdeal : Cert.DownDxRefIdeal.Facts) (hOutDx : Cert.OutDx.Facts) (hOutDxIdeal : Cert.OutDxIdeal.Facts) (hOutDxRefIdeal : Cert.OutDxRefIdeal.Facts) (hPbDx : Cert.PbDx.Facts) (hPbDxIdeal : Cert.PbDxIdeal.Facts) (hPbDxRefIdeal : Cert.PbDxRefIdeal.Facts) (hInFw : Cert.InFw.Facts) (hInFwIdeal : Cert.InFwIdeal.Facts) (hInFwRefIdeal : Cert.InFwRefIdeal.Facts) (hUpFw : Cert.UpFw.Facts) (hUpFwIdeal : Cert.UpFwIdeal.Facts) (hUpFwRefIdeal : Cert.UpFwRefIdeal.Facts) (hDownFw : Cert.DownFw.Facts) (hDownFwIdeal : Cert.DownFwIdeal.Facts) (hDownFwRefIdeal : Cert.DownFwRefIdeal.Facts) (hOutFw : Cert.OutFw.Facts) (hOutFwIdeal : Cert.OutFwIdeal.Facts) (hOutFwRefIdeal : Cert.OutFwRefIdeal.Facts) (hPbFw : Cert.PbFw.Facts) (hPbFwIdeal : Cert.PbFwIdeal.Facts) (hPbFwRefIdeal : Cert.PbFwRefIdeal.Facts) (hActBw : Cert.ActBw.Facts) (hActBwIdeal : Cert.ActBwIdeal.Facts) (hActBwRefIdeal : Cert.ActBwRefIdeal.Facts) (hMergeFw : Cert.MergeFw.Facts) (hMergeFwIdeal : Cert.MergeFwIdeal.Facts) (hMergeFwRefIdeal : Cert.MergeFwRefIdeal.Facts) (hMergeBw : Cert.MergeBw.Facts) (hMergeBwIdeal : Cert.MergeBwIdeal.Facts) (hMergeBwRefIdeal : Cert.MergeBwRefIdeal.Facts) (hSmallFw : Cert.SmallFw.Facts) (hSmallFwIdeal : Cert.SmallFwIdeal.Facts) (hSmallFwRefIdeal : Cert.SmallFwRefIdeal.Facts) (hNormFw : Cert.NormFw.Facts) (hNormFwIdeal : Cert.NormFwIdeal.Facts) (hNormFwRefIdeal : Cert.NormFwRefIdeal.Facts) (hNormBw : Cert.NormBw.Facts) (hNormBwIdeal : Cert.NormBwIdeal.Facts) (hNormBwRefIdeal : Cert.NormBwRefIdeal.Facts) (hPre_tame : Cert.Pre_tame.Facts) (hPre_bounded : Cert.Pre_bounded.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_InDw (hInDw := hInDw)
    ∧ quiescent_InDwIdeal (hInDwIdeal := hInDwIdeal)
    ∧ quiescent_InDwRefIdeal (hInDwRefIdeal := hInDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_PbDw (hPbDw := hPbDw)
    ∧ quiescent_PbDwIdeal (hPbDwIdeal := hPbDwIdeal)
    ∧ quiescent_PbDwRefIdeal (hPbDwRefIdeal := hPbDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_PbDx (hPbDx := hPbDx)
    ∧ quiescent_PbDxIdeal (hPbDxIdeal := hPbDxIdeal)
    ∧ quiescent_PbDxRefIdeal (hPbDxRefIdeal := hPbDxRefIdeal)
    ∧ quiescent_InFw (hInFw := hInFw)
    ∧ quiescent_InFwIdeal (hInFwIdeal := hInFwIdeal)
    ∧ quiescent_InFwRefIdeal (hInFwRefIdeal := hInFwRefIdeal)
    ∧ quiescent_UpFw (hUpFw := hUpFw)
    ∧ quiescent_UpFwIdeal (hUpFwIdeal := hUpFwIdeal)
    ∧ quiescent_UpFwRefIdeal (hUpFwRefIdeal := hUpFwRefIdeal)
    ∧ quiescent_DownFw (hDownFw := hDownFw)
    ∧ quiescent_DownFwIdeal (hDownFwIdeal := hDownFwIdeal)
    ∧ quiescent_DownFwRefIdeal (hDownFwRefIdeal := hDownFwRefIdeal)
    ∧ quiescent_OutFw (hOutFw := hOutFw)
    ∧ quiescent_OutFwIdeal (hOutFwIdeal := hOutFwIdeal)
    ∧ quiescent_OutFwRefIdeal (hOutFwRefIdeal := hOutFwRefIdeal)
    ∧ quiescent_PbFw (hPbFw := hPbFw)
    ∧ quiescent_PbFwIdeal (hPbFwIdeal := hPbFwIdeal)
    ∧ quiescent_PbFwRefIdeal (hPbFwRefIdeal := hPbFwRefIdeal)
    ∧ quiescent_ActBw (hActBw := hActBw)
    ∧ quiescent_ActBwIdeal (hActBwIdeal := hActBwIdeal)
    ∧ quiescent_ActBwIdeal_pre_bounded (hActBwIdeal := hActBwIdeal) (hPre_bounded := hPre_bounded)
    ∧ quiescent_ActBwRefIdeal (hActBwRefIdeal := hActBwRefIdeal)
    ∧ quiescent_ActBwRefIdeal_pre_bounded (hActBwRefIdeal := hActBwRefIdeal) (hPre_bounded := hPre_bounded)
    ∧ quiescent_MergeFw (hMergeFw := hMergeFw)
    ∧ quiescent_MergeFwIdeal (hMergeFwIdeal := hMergeFwIdeal)
    ∧ quiescent_MergeFwRefIdeal (hMergeFwRefIdeal := hMergeFwRefIdeal)
    ∧ quiescent_MergeBw (hMergeBw := hMergeBw)
    ∧ quiescent_MergeBwIdeal (hMergeBwIdeal := hMergeBwIdeal)
    ∧ quiescent_MergeBwRefIdeal (hMergeBwRefIdeal := hMergeBwRefIdeal)
    ∧ quiescent_SmallFw (hSmallFw := hSmallFw)
    ∧ quiescent_SmallFwIdeal (hSmallFwIdeal := hSmallFwIdeal)
    ∧ quiescent_SmallFwRefIdeal (hSmallFwRefIdeal := hSmallFwRefIdeal)
    ∧ quiescent_NormFw (hNormFw := hNormFw)
    ∧ quiescent_NormFwIdeal (hNormFwIdeal := hNormFwIdeal)
    ∧ quiescent_NormFwRefIdeal (hNormFwRefIdeal := hNormFwRefIdeal)
    ∧ quiescent_NormBw (hNormBw := hNormBw)
    ∧ quiescent_NormBwIdeal (hNormBwIdeal := hNormBwIdeal)
    ∧ quiescent_NormBwRefIdeal (hNormBwRefIdeal := hNormBwRefIdeal)
    ∧ preserves_Kernel_KernelIdeal
    ∧ algebraic_KernelIdeal_ReferenceIdeal_pre_tame (hKernelIdeal := hKernelIdeal) (hReferenceIdeal := hReferenceIdeal) (hPre_tame := hPre_tame)
    ∧ preserves_InDw_InDwIdeal
    ∧ algebraic_InDwIdeal_InDwRefIdeal (hInDwIdeal := hInDwIdeal) (hInDwRefIdeal := hInDwRefIdeal)
    ∧ preserves_UpDw_UpDwIdeal
    ∧ algebraic_UpDwIdeal_UpDwRefIdeal (hUpDwIdeal := hUpDwIdeal) (hUpDwRefIdeal := hUpDwRefIdeal)
    ∧ preserves_DownDw_DownDwIdeal
    ∧ algebraic_DownDwIdeal_DownDwRefIdeal (hDownDwIdeal := hDownDwIdeal) (hDownDwRefIdeal := hDownDwRefIdeal)
    ∧ preserves_OutDw_OutDwIdeal
    ∧ algebraic_OutDwIdeal_OutDwRefIdeal (hOutDwIdeal := hOutDwIdeal) (hOutDwRefIdeal := hOutDwRefIdeal)
    ∧ preserves_PbDw_PbDwIdeal
    ∧ algebraic_PbDwIdeal_PbDwRefIdeal (hPbDwIdeal := hPbDwIdeal) (hPbDwRefIdeal := hPbDwRefIdeal)
    ∧ preserves_UpDx_UpDxIdeal
    ∧ algebraic_UpDxIdeal_UpDxRefIdeal (hUpDxIdeal := hUpDxIdeal) (hUpDxRefIdeal := hUpDxRefIdeal)
    ∧ preserves_DownDx_DownDxIdeal
    ∧ algebraic_DownDxIdeal_DownDxRefIdeal (hDownDxIdeal := hDownDxIdeal) (hDownDxRefIdeal := hDownDxRefIdeal)
    ∧ preserves_OutDx_OutDxIdeal
    ∧ algebraic_OutDxIdeal_OutDxRefIdeal (hOutDxIdeal := hOutDxIdeal) (hOutDxRefIdeal := hOutDxRefIdeal)
    ∧ preserves_PbDx_PbDxIdeal
    ∧ algebraic_PbDxIdeal_PbDxRefIdeal (hPbDxIdeal := hPbDxIdeal) (hPbDxRefIdeal := hPbDxRefIdeal)
    ∧ preserves_InFw_InFwIdeal
    ∧ algebraic_InFwIdeal_InFwRefIdeal (hInFwIdeal := hInFwIdeal) (hInFwRefIdeal := hInFwRefIdeal)
    ∧ preserves_UpFw_UpFwIdeal
    ∧ algebraic_UpFwIdeal_UpFwRefIdeal (hUpFwIdeal := hUpFwIdeal) (hUpFwRefIdeal := hUpFwRefIdeal)
    ∧ preserves_DownFw_DownFwIdeal
    ∧ algebraic_DownFwIdeal_DownFwRefIdeal (hDownFwIdeal := hDownFwIdeal) (hDownFwRefIdeal := hDownFwRefIdeal)
    ∧ preserves_OutFw_OutFwIdeal
    ∧ algebraic_OutFwIdeal_OutFwRefIdeal (hOutFwIdeal := hOutFwIdeal) (hOutFwRefIdeal := hOutFwRefIdeal)
    ∧ preserves_PbFw_PbFwIdeal
    ∧ algebraic_PbFwIdeal_PbFwRefIdeal (hPbFwIdeal := hPbFwIdeal) (hPbFwRefIdeal := hPbFwRefIdeal)
    ∧ preserves_ActBw_ActBwIdeal
    ∧ algebraic_ActBwIdeal_ActBwRefIdeal_pre_bounded (hActBwIdeal := hActBwIdeal) (hActBwRefIdeal := hActBwRefIdeal) (hPre_bounded := hPre_bounded)
    ∧ preserves_MergeFw_MergeFwIdeal
    ∧ algebraic_MergeFwIdeal_MergeFwRefIdeal (hMergeFwIdeal := hMergeFwIdeal) (hMergeFwRefIdeal := hMergeFwRefIdeal)
    ∧ preserves_MergeBw_MergeBwIdeal
    ∧ algebraic_MergeBwIdeal_MergeBwRefIdeal (hMergeBwIdeal := hMergeBwIdeal) (hMergeBwRefIdeal := hMergeBwRefIdeal)
    ∧ preserves_SmallFw_SmallFwIdeal
    ∧ algebraic_SmallFwIdeal_SmallFwRefIdeal (hSmallFwIdeal := hSmallFwIdeal) (hSmallFwRefIdeal := hSmallFwRefIdeal)
    ∧ preserves_NormFw_NormFwIdeal
    ∧ algebraic_NormFwIdeal_NormFwRefIdeal (hNormFwIdeal := hNormFwIdeal) (hNormFwRefIdeal := hNormFwRefIdeal)
    ∧ preserves_NormBw_NormBwIdeal
    ∧ algebraic_NormBwIdeal_NormBwRefIdeal (hNormBwIdeal := hNormBwIdeal) (hNormBwRefIdeal := hNormBwRefIdeal)
-- ==== Pre_bounded.lean ====
abbrev S8448x2816 : Shape := ⟨2, ![8448, 2816]⟩
abbrev S_ : Shape := ⟨0, ![]⟩

class Facts : Prop where
  bitsLt_bf16_f32 : FTy.bits .bf16 < FTy.bits .f32
  bcast_S_S8448x2816 : S_.BroadcastsInDim S8448x2816 (![] : Fin 0 → Fin S8448x2816.rank)

variable [Facts]

def fn {F : FTy → Type} [FloatOps F] (main_arg0 : FVec F S8448x2816 .bf16) (main_arg1 : FVec F S8448x2816 .bf16) (main_arg2 : FVec F S8448x2816 .bf16) : IVec S8448x2816 1 :=
  let main_v0 : FVec F S8448x2816 .f32 := (extf .f32 · bitsLt_bf16_f32) main_arg0
  let main_v1 : FVec F S8448x2816 .f32 := (extf .f32 · bitsLt_bf16_f32) main_arg2
  let main_v2 : FVec F S8448x2816 .f32 := mulf main_v0 main_v1
  let main_v3 : FVec F S8448x2816 .f32 := Host.absf main_v2
  let main_cst : FVec F S_ .f32 := constant S_ .f32 0x7F800000#32
  let main_v4 : FVec F S8448x2816 .f32 := broadcastInDim S8448x2816 ![] bcast_S_S8448x2816 main_cst
  let main_v5 : IVec S8448x2816 1 := cmpf .olt main_v3 main_v4
  main_v5
-- ==== Pre_tame.lean ====
abbrev S8448x10368 : Shape := ⟨2, ![8448, 10368]⟩
abbrev S8448x128 : Shape := ⟨2, ![8448, 128]⟩
abbrev S16x512 : Shape := ⟨2, ![16, 512]⟩
abbrev S1x512 : Shape := ⟨2, ![1, 512]⟩
abbrev S8448x1024 : Shape := ⟨2, ![8448, 1024]⟩
abbrev S8448x2048 : Shape := ⟨2, ![8448, 2048]⟩
abbrev S8448x16 : Shape := ⟨2, ![8448, 16]⟩
abbrev S_ : Shape := ⟨0, ![]⟩
abbrev S8448x512 : Shape := ⟨2, ![8448, 512]⟩

class Facts : Prop where
  slices_S8448x10368_S8448x2048_0_6144 : S8448x10368.Slices ![0, 6144] S8448x2048
  bitsLt_bf16_f32 : FTy.bits .bf16 < FTy.bits .f32
  slices_S8448x128_S8448x16_0_0 : S8448x128.Slices ![0, 0] S8448x16
  slices_S8448x128_S8448x16_0_16 : S8448x128.Slices ![0, 16] S8448x16
  bcast_S_S8448x2048 : S_.BroadcastsInDim S8448x2048 (![] : Fin 0 → Fin S8448x2048.rank)
  bcast_S_S8448x16 : S_.BroadcastsInDim S8448x16 (![] : Fin 0 → Fin S8448x16.rank)
  bcast_S_S16x512 : S_.BroadcastsInDim S16x512 (![] : Fin 0 → Fin S16x512.rank)
  bcast_S_S1x512 : S_.BroadcastsInDim S1x512 (![] : Fin 0 → Fin S1x512.rank)
  bcast_S_S8448x1024 : S_.BroadcastsInDim S8448x1024 (![] : Fin 0 → Fin S8448x1024.rank)
  bcast_S1x512_S8448x512_0_1 : S1x512.BroadcastsInDim S8448x512 (![0, 1] : Fin 2 → Fin S8448x512.rank)
  bcast_S_S8448x512 : S_.BroadcastsInDim S8448x512 (![] : Fin 0 → Fin S8448x512.rank)
  dot_S8448x16_S16x512_S8448x512_1_0_0_1_n_n_wf : DotDims.WF S8448x16 S16x512 S8448x512 [1] [0] [0] [1] [] []

variable [Facts]

def dot_S8448x16_S16x512_S8448x512_1_0_0_1_n_n : DotDims S8448x16 S16x512 S8448x512 where
  lhsContracting := [1]
  rhsContracting := [0]
  lhsNonContracting := [0]
  rhsNonContracting := [1]
  lhsBatch := []
  rhsBatch := []
  wf := dot_S8448x16_S16x512_S8448x512_1_0_0_1_n_n_wf
def fn_part2 {F : FTy → Type} [FloatOps F] (main_v6 : IVec S8448x2048 1) (main_v9 : IVec S8448x16 1) (main_v12 : IVec S8448x16 1) (main_v15 : IVec S16x512 1) (main_v18 : IVec S1x512 1) (main_v21 : IVec S16x512 1) (main_v24 : IVec S1x512 1) (main_v28 : IVec S8448x1024 1) (main_v33 : IVec S8448x512 1) (main_v36 : FVec F S8448x512 .f32) (main_v37 : FVec F S8448x512 .f32) : IVec S8448x2048 1 × IVec S8448x16 1 × IVec S8448x16 1 × IVec S16x512 1 × IVec S1x512 1 × IVec S16x512 1 × IVec S1x512 1 × IVec S8448x1024 1 × IVec S8448x512 1 × IVec S8448x512 1 :=
  let main_v38 : IVec S8448x512 1 := cmpf .oge main_v36 main_v37
  (main_v6, main_v9, main_v12, main_v15, main_v18, main_v21, main_v24, main_v28, main_v33, main_v38)

def fn_part1 {F : FTy → Type} [FloatOps F] (main_arg2 : FVec F S16x512 .f32) (main_arg3 : FVec F S1x512 .f32) (main_arg4 : FVec F S16x512 .f32) (main_arg5 : FVec F S1x512 .f32) (main_arg6 : FVec F S8448x1024 .bf16) (main_v2 : FVec F S8448x16 .f32) (main_v3 : FVec F S8448x16 .f32) (main_v6 : IVec S8448x2048 1) (main_v9 : IVec S8448x16 1) (main_v12 : IVec S8448x16 1) (main_v15 : IVec S16x512 1) (main_v18 : IVec S1x512 1) : IVec S8448x2048 1 × IVec S8448x16 1 × IVec S8448x16 1 × IVec S16x512 1 × IVec S1x512 1 × IVec S16x512 1 × IVec S1x512 1 × IVec S8448x1024 1 × IVec S8448x512 1 × IVec S8448x512 1 :=
  let main_v19 : FVec F S16x512 .f32 := Host.absf main_arg4
  let main_cst_4 : FVec F S_ .f32 := constant S_ .f32 0x7F800000#32
  let main_v20 : FVec F S16x512 .f32 := broadcastInDim S16x512 ![] bcast_S_S16x512 main_cst_4
  let main_v21 : IVec S16x512 1 := cmpf .olt main_v19 main_v20
  let main_v22 : FVec F S1x512 .f32 := Host.absf main_arg5
  let main_cst_5 : FVec F S_ .f32 := constant S_ .f32 0x7F800000#32
  let main_v23 : FVec F S1x512 .f32 := broadcastInDim S1x512 ![] bcast_S_S1x512 main_cst_5
  let main_v24 : IVec S1x512 1 := cmpf .olt main_v22 main_v23
  let main_v25 : FVec F S8448x1024 .f32 := (extf .f32 · bitsLt_bf16_f32) main_arg6
  let main_v26 : FVec F S8448x1024 .f32 := Host.absf main_v25
  let main_cst_6 : FVec F S_ .f32 := constant S_ .f32 0x7F800000#32
  let main_v27 : FVec F S8448x1024 .f32 := broadcastInDim S8448x1024 ![] bcast_S_S8448x1024 main_cst_6
  let main_v28 : IVec S8448x1024 1 := cmpf .olt main_v26 main_v27
  let main_v29 : FVec F S8448x512 .f32 := (fun l r => Host.dotGeneral dot_S8448x16_S16x512_S8448x512_1_0_0_1_n_n none l r) main_v2 main_arg2
  let main_v30 : FVec F S8448x512 .f32 := broadcastInDim S8448x512 ![0, 1] bcast_S1x512_S8448x512_0_1 main_arg3
  let main_v31 : FVec F S8448x512 .f32 := addf main_v29 main_v30
  let main_cst_7 : FVec F S_ .f32 := constant S_ .f32 0xC1980000#32
  let main_v32 : FVec F S8448x512 .f32 := broadcastInDim S8448x512 ![] bcast_S_S8448x512 main_cst_7
  let main_v33 : IVec S8448x512 1 := cmpf .oge main_v31 main_v32
  let main_v34 : FVec F S8448x512 .f32 := (fun l r => Host.dotGeneral dot_S8448x16_S16x512_S8448x512_1_0_0_1_n_n none l r) main_v3 main_arg4
  let main_v35 : FVec F S8448x512 .f32 := broadcastInDim S8448x512 ![0, 1] bcast_S1x512_S8448x512_0_1 main_arg5
  let main_v36 : FVec F S8448x512 .f32 := addf main_v34 main_v35
  let main_cst_8 : FVec F S_ .f32 := constant S_ .f32 0xC1980000#32
  let main_v37 : FVec F S8448x512 .f32 := broadcastInDim S8448x512 ![] bcast_S_S8448x512 main_cst_8
  fn_part2 (F := F) main_v6 main_v9 main_v12 main_v15 main_v18 main_v21 main_v24 main_v28 main_v33 main_v36 main_v37

def fn {F : FTy → Type} [FloatOps F] (main_arg0 : FVec F S8448x10368 .bf16) (main_arg1 : FVec F S8448x128 .f32) (main_arg2 : FVec F S16x512 .f32) (main_arg3 : FVec F S1x512 .f32) (main_arg4 : FVec F S16x512 .f32) (main_arg5 : FVec F S1x512 .f32) (main_arg6 : FVec F S8448x1024 .bf16) : IVec S8448x2048 1 × IVec S8448x16 1 × IVec S8448x16 1 × IVec S16x512 1 × IVec S1x512 1 × IVec S16x512 1 × IVec S1x512 1 × IVec S8448x1024 1 × IVec S8448x512 1 × IVec S8448x512 1 :=
  let main_v0 : FVec F S8448x2048 .bf16 := (extractStridedSlice S8448x2048 ![0, 6144] · slices_S8448x10368_S8448x2048_0_6144) main_arg0
  let main_v1 : FVec F S8448x2048 .f32 := (extf .f32 · bitsLt_bf16_f32) main_v0
  let main_v2 : FVec F S8448x16 .f32 := (extractStridedSlice S8448x16 ![0, 0] · slices_S8448x128_S8448x16_0_0) main_arg1
  let main_v3 : FVec F S8448x16 .f32 := (extractStridedSlice S8448x16 ![0, 16] · slices_S8448x128_S8448x16_0_16) main_arg1
  let main_v4 : FVec F S8448x2048 .f32 := Host.absf main_v1
  let main_cst : FVec F S_ .f32 := constant S_ .f32 0x7F800000#32
  let main_v5 : FVec F S8448x2048 .f32 := broadcastInDim S8448x2048 ![] bcast_S_S8448x2048 main_cst
  let main_v6 : IVec S8448x2048 1 := cmpf .olt main_v4 main_v5
  let main_v7 : FVec F S8448x16 .f32 := Host.absf main_v2
  let main_cst_0 : FVec F S_ .f32 := constant S_ .f32 0x7F800000#32
  let main_v8 : FVec F S8448x16 .f32 := broadcastInDim S8448x16 ![] bcast_S_S8448x16 main_cst_0
  let main_v9 : IVec S8448x16 1 := cmpf .olt main_v7 main_v8
  let main_v10 : FVec F S8448x16 .f32 := Host.absf main_v3
  let main_cst_1 : FVec F S_ .f32 := constant S_ .f32 0x7F800000#32
  let main_v11 : FVec F S8448x16 .f32 := broadcastInDim S8448x16 ![] bcast_S_S8448x16 main_cst_1
  let main_v12 : IVec S8448x16 1 := cmpf .olt main_v10 main_v11
  let main_v13 : FVec F S16x512 .f32 := Host.absf main_arg2
  let main_cst_2 : FVec F S_ .f32 := constant S_ .f32 0x7F800000#32
  let main_v14 : FVec F S16x512 .f32 := broadcastInDim S16x512 ![] bcast_S_S16x512 main_cst_2
  let main_v15 : IVec S16x512 1 := cmpf .olt main_v13 main_v14
  let main_v16 : FVec F S1x512 .f32 := Host.absf main_arg3
  let main_cst_3 : FVec F S_ .f32 := constant S_ .f32 0x7F800000#32
  let main_v17 : FVec F S1x512 .f32 := broadcastInDim S1x512 ![] bcast_S_S1x512 main_cst_3
  let main_v18 : IVec S1x512 1 := cmpf .olt main_v16 main_v17
  fn_part1 (F := F) main_arg2 main_arg3 main_arg4 main_arg5 main_arg6 main_v2 main_v3 main_v6 main_v9 main_v12 main_v15 main_v18
-- ==== Kernel.lean ====
abbrev S8448x10368 : Shape := ⟨2, ![8448, 10368]⟩
abbrev S8448x128 : Shape := ⟨2, ![8448, 128]⟩
abbrev S16x512 : Shape := ⟨2, ![16, 512]⟩
abbrev S1x512 : Shape := ⟨2, ![1, 512]⟩
abbrev S8448x1024 : Shape := ⟨2, ![8448, 1024]⟩
abbrev S_ : Shape := ⟨0, ![]⟩
abbrev S128x512 : Shape := ⟨2, ![128, 512]⟩
abbrev S1 : Shape := ⟨1, ![1]⟩
abbrev S1x128x512 : Shape := ⟨3, ![1, 128, 512]⟩
abbrev S2x128x512 : Shape := ⟨3, ![2, 128, 512]⟩
abbrev S1x1x512 : Shape := ⟨3, ![1, 1, 512]⟩
abbrev S2x1x512 : Shape := ⟨3, ![2, 1, 512]⟩
abbrev S8448x512 : Shape := ⟨2, ![8448, 512]⟩
abbrev S8448x4x128 : Shape := ⟨3, ![8448, 4, 128]⟩
abbrev S8448x4x256 : Shape := ⟨3, ![8448, 4, 256]⟩
abbrev S8448x16 : Shape := ⟨2, ![8448, 16]⟩
abbrev S256x4x128 : Shape := ⟨3, ![256, 4, 128]⟩
abbrev S8192x4x128 : Shape := ⟨3, ![8192, 4, 128]⟩
abbrev S256x4x256 : Shape := ⟨3, ![256, 4, 256]⟩
abbrev S8192x4x256 : Shape := ⟨3, ![8192, 4, 256]⟩
abbrev S66x8448 : Shape := ⟨2, ![66, 8448]⟩
abbrev S66x4x128 : Shape := ⟨3, ![66, 4, 128]⟩
abbrev S66x8448x1x1 : Shape := ⟨4, ![66, 8448, 1, 1]⟩
abbrev S66x1x4x128 : Shape := ⟨4, ![66, 1, 4, 128]⟩
abbrev S1x8448x4x128 : Shape := ⟨4, ![1, 8448, 4, 128]⟩
abbrev S66x8448x4x128 : Shape := ⟨4, ![66, 8448, 4, 128]⟩
abbrev S4x256x66x128 : Shape := ⟨4, ![4, 256, 66, 128]⟩
abbrev S66x4x256x128 : Shape := ⟨4, ![66, 4, 256, 128]⟩
abbrev S1x66x4x256x128 : Shape := ⟨5, ![1, 66, 4, 256, 128]⟩
abbrev S2x66x4x256x128 : Shape := ⟨5, ![2, 66, 4, 256, 128]⟩
abbrev S128x1024 : Shape := ⟨2, ![128, 1024]⟩
abbrev S128x128 : Shape := ⟨2, ![128, 128]⟩
abbrev S2x1x4x256x128 : Shape := ⟨5, ![2, 1, 4, 256, 128]⟩
abbrev S2x4x256x128 : Shape := ⟨4, ![2, 4, 256, 128]⟩
abbrev S512 : Shape := ⟨1, ![512]⟩
abbrev S1x1x1x256x128 : Shape := ⟨5, ![1, 1, 1, 256, 128]⟩
abbrev S256x128 : Shape := ⟨2, ![256, 128]⟩
abbrev S1x1x256x128 : Shape := ⟨4, ![1, 1, 256, 128]⟩
abbrev S128x256 : Shape := ⟨2, ![128, 256]⟩
abbrev S128 : Shape := ⟨1, ![128]⟩
abbrev S1x128 : Shape := ⟨2, ![1, 128]⟩

abbrev nBuf : Space → Nat
  | .hbm => 160
  | .vmem => 42
  | .smem => 0
  | _ => 0

abbrev hbmTy0_0 (i : Nat) : BufTy := match i % 128 with
  | 0 => ⟨S8448x10368, .bf16⟩
  | 1 => ⟨S8448x128, .f32⟩
  | 2 => ⟨S16x512, .f32⟩
  | 3 => ⟨S1x512, .f32⟩
  | 4 => ⟨S16x512, .f32⟩
  | 5 => ⟨S1x512, .f32⟩
  | 6 => ⟨S8448x1024, .bf16⟩
  | 7 => ⟨S_, .f32⟩
  | 8 => ⟨S128x512, .f32⟩
  | 9 => ⟨S_, .i32⟩
  | 10 => ⟨S1, .i32⟩
  | 11 => ⟨S128x512, .f32⟩
  | 12 => ⟨S_, .f32⟩
  | 13 => ⟨S128x512, .f32⟩
  | 14 => ⟨S_, .i32⟩
  | 15 => ⟨S1, .i32⟩
  | 16 => ⟨S128x512, .f32⟩
  | 17 => ⟨S1x128x512, .f32⟩
  | 18 => ⟨S1x128x512, .f32⟩
  | 19 => ⟨S2x128x512, .f32⟩
  | 20 => ⟨S2x128x512, .bf16⟩
  | 21 => ⟨S2x128x512, .f32⟩
  | 22 => ⟨S2x128x512, .f32⟩
  | 23 => ⟨S2x128x512, .bf16⟩
  | 24 => ⟨S1x1x512, .f32⟩
  | 25 => ⟨S1x1x512, .f32⟩
  | 26 => ⟨S2x1x512, .f32⟩
  | 27 => ⟨S8448x512, .bf16⟩
  | 28 => ⟨S8448x512, .f32⟩
  | 29 => ⟨S8448x4x128, .f32⟩
  | 30 => ⟨S8448x1024, .bf16⟩
  | 31 => ⟨S8448x1024, .f32⟩
  | 32 => ⟨S8448x4x256, .f32⟩
  | 33 => ⟨S8448x16, .f32⟩
  | 34 => ⟨S8448x512, .f32⟩
  | 35 => ⟨S8448x512, .f32⟩
  | 36 => ⟨S8448x512, .f32⟩
  | 37 => ⟨S8448x512, .f32⟩
  | 38 => ⟨S_, .f32⟩
  | 39 => ⟨S8448x512, .f32⟩
  | 40 => ⟨S8448x512, .f32⟩
  | 41 => ⟨S8448x512, .f32⟩
  | 42 => ⟨S8448x512, .f32⟩
  | 43 => ⟨S8448x512, .i1⟩
  | 44 => ⟨S8448x512, .f32⟩
  | 45 => ⟨S8448x512, .f32⟩
  | 46 => ⟨S8448x512, .f32⟩
  | 47 => ⟨S8448x512, .f32⟩
  | 48 => ⟨S8448x512, .f32⟩
  | 49 => ⟨S8448x512, .f32⟩
  | 50 => ⟨S8448x512, .f32⟩
  | 51 => ⟨S8448x512, .f32⟩
  | 52 => ⟨S8448x512, .f32⟩
  | 53 => ⟨S_, .f32⟩
  | 54 => ⟨S8448x512, .f32⟩
  | 55 => ⟨S8448x512, .f32⟩
  | 56 => ⟨S8448x4x128, .f32⟩
  | 57 => ⟨S8448x16, .f32⟩
  | 58 => ⟨S8448x512, .f32⟩
  | 59 => ⟨S8448x512, .f32⟩
  | 60 => ⟨S8448x512, .f32⟩
  | 61 => ⟨S8448x512, .f32⟩
  | 62 => ⟨S_, .f32⟩
  | 63 => ⟨S8448x512, .f32⟩
  | 64 => ⟨S8448x512, .f32⟩
  | 65 => ⟨S8448x512, .f32⟩
  | 66 => ⟨S8448x512, .f32⟩
  | 67 => ⟨S8448x512, .i1⟩
  | 68 => ⟨S8448x512, .f32⟩
  | 69 => ⟨S8448x512, .f32⟩
  | 70 => ⟨S8448x512, .f32⟩
  | 71 => ⟨S8448x512, .f32⟩
  | 72 => ⟨S8448x512, .f32⟩
  | 73 => ⟨S8448x512, .f32⟩
  | 74 => ⟨S8448x512, .f32⟩
  | 75 => ⟨S8448x512, .f32⟩
  | 76 => ⟨S8448x512, .f32⟩
  | 77 => ⟨S_, .f32⟩
  | 78 => ⟨S8448x512, .f32⟩
  | 79 => ⟨S8448x512, .f32⟩
  | 80 => ⟨S8448x4x128, .f32⟩
  | 81 => ⟨S256x4x128, .f32⟩
  | 82 => ⟨S8192x4x128, .f32⟩
  | 83 => ⟨S8448x4x128, .f32⟩
  | 84 => ⟨S256x4x256, .f32⟩
  | 85 => ⟨S8192x4x256, .f32⟩
  | 86 => ⟨S8448x4x256, .f32⟩
  | 87 => ⟨S256x4x128, .f32⟩
  | 88 => ⟨S8192x4x128, .f32⟩
  | 89 => ⟨S8448x4x128, .f32⟩
  | 90 => ⟨S_, .f32⟩
  | 91 => ⟨S_, .f32⟩
  | 92 => ⟨S8448x4x128, .f32⟩
  | 93 => ⟨S66x8448, .i32⟩
  | 94 => ⟨S_, .i32⟩
  | 95 => ⟨S66x8448, .i32⟩
  | 96 => ⟨S66x8448, .i32⟩
  | 97 => ⟨S66x8448, .i32⟩
  | 98 => ⟨S8448x4x128, .f32⟩
  | 99 => ⟨S66x4x128, .f32⟩
  | 100 => ⟨S66x8448, .i1⟩
  | 101 => ⟨S66x8448x1x1, .i1⟩
  | 102 => ⟨S66x1x4x128, .f32⟩
  | 103 => ⟨S1x8448x4x128, .f32⟩
  | 104 => ⟨S66x8448x4x128, .f32⟩
  | 105 => ⟨S66x8448x4x128, .f32⟩
  | 106 => ⟨S66x8448x4x128, .f32⟩
  | 107 => ⟨S_, .f32⟩
  | 108 => ⟨S_, .f32⟩
  | 109 => ⟨S66x8448x4x128, .i1⟩
  | 110 => ⟨S66x8448x4x128, .f32⟩
  | 111 => ⟨S66x8448x4x128, .f32⟩
  | 112 => ⟨S66x8448x4x128, .f32⟩
  | 113 => ⟨S1x8448x4x128, .f32⟩
  | 114 => ⟨S66x8448x4x128, .f32⟩
  | 115 => ⟨S66x8448x4x128, .f32⟩
  | 116 => ⟨S4x256x66x128, .f32⟩
  | 117 => ⟨S66x4x256x128, .f32⟩
  | 118 => ⟨S8448x4x128, .f32⟩
  | 119 => ⟨S8448x4x256, .f32⟩
  | 120 => ⟨S8448x4x128, .f32⟩
  | 121 => ⟨S_, .f32⟩
  | 122 => ⟨S_, .f32⟩
  | 123 => ⟨S8448x4x128, .f32⟩
  | 124 => ⟨S66x8448, .i32⟩
  | 125 => ⟨S_, .i32⟩
  | 126 => ⟨S66x8448, .i32⟩
  | 127 => ⟨S66x8448, .i32⟩
  | _ => ⟨S8448x10368, .bf16⟩

abbrev hbmTy0_1 (i : Nat) : BufTy := match i % 128 with
  | 0 => ⟨S66x8448, .i32⟩
  | 1 => ⟨S8448x4x128, .f32⟩
  | 2 => ⟨S66x4x128, .f32⟩
  | 3 => ⟨S66x8448, .i1⟩
  | 4 => ⟨S66x8448x1x1, .i1⟩
  | 5 => ⟨S66x1x4x128, .f32⟩
  | 6 => ⟨S1x8448x4x128, .f32⟩
  | 7 => ⟨S66x8448x4x128, .f32⟩
  | 8 => ⟨S66x8448x4x128, .f32⟩
  | 9 => ⟨S66x8448x4x128, .f32⟩
  | 10 => ⟨S_, .f32⟩
  | 11 => ⟨S_, .f32⟩
  | 12 => ⟨S66x8448x4x128, .i1⟩
  | 13 => ⟨S66x8448x4x128, .f32⟩
  | 14 => ⟨S66x8448x4x128, .f32⟩
  | 15 => ⟨S66x8448x4x128, .f32⟩
  | 16 => ⟨S1x8448x4x128, .f32⟩
  | 17 => ⟨S66x8448x4x128, .f32⟩
  | 18 => ⟨S66x8448x4x128, .f32⟩
  | 19 => ⟨S4x256x66x128, .f32⟩
  | 20 => ⟨S66x4x256x128, .f32⟩
  | 21 => ⟨S1x66x4x256x128, .f32⟩
  | 22 => ⟨S1x66x4x256x128, .f32⟩
  | 23 => ⟨S2x66x4x256x128, .f32⟩
  | 24 => ⟨S8448x512, .bf16⟩
  | 25 => ⟨S8448x512, .bf16⟩
  | 26 => ⟨S8448x1024, .bf16⟩
  | 27 => ⟨S8448x512, .f32⟩
  | 28 => ⟨S8448x512, .bf16⟩
  | 29 => ⟨S8448x512, .bf16⟩
  | 30 => ⟨S8448x1024, .bf16⟩
  | 31 => ⟨S8448x512, .f32⟩
  | _ => ⟨S8448x10368, .bf16⟩

abbrev hbmTy (i : Nat) : BufTy := match i / 128 with
  | 0 => hbmTy0_0 i
  | 1 => hbmTy0_1 i
  | _ => ⟨S8448x10368, .bf16⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x1024, .bf16⟩
  | .local _ .vmem, ⟨5, _⟩ => ⟨S128x1024, .bf16⟩
  | .local _ .vmem, ⟨6, _⟩ => ⟨S128x128, .f32⟩
  | .local _ .vmem, ⟨7, _⟩ => ⟨S128x128, .f32⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x1024, .bf16⟩
  | .local _ .vmem, ⟨13, _⟩ => ⟨S128x1024, .bf16⟩
  | .local _ .vmem, ⟨14, _⟩ => ⟨S128x128, .f32⟩
  | .local _ .vmem, ⟨15, _⟩ => ⟨S128x128, .f32⟩
  | .local _ .vmem, ⟨16, _⟩ => ⟨S2x128x512, .bf16⟩
  | .local _ .vmem, ⟨17, _⟩ => ⟨S2x128x512, .bf16⟩
  | .local _ .vmem, ⟨18, _⟩ => ⟨S2x1x512, .f32⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S2x1x4x256x128, .f32⟩
  | .local _ .vmem, ⟨24, _⟩ => ⟨S2x1x4x256x128, .f32⟩
  | .local _ .vmem, ⟨25, _⟩ => ⟨S128x512, .bf16⟩
  | .local _ .vmem, ⟨26, _⟩ => ⟨S128x512, .bf16⟩
  | .local _ .vmem, ⟨27, _⟩ => ⟨S128x512, .bf16⟩
  | .local _ .vmem, ⟨28, _⟩ => ⟨S128x512, .bf16⟩
  | .local _ .vmem, ⟨29, _⟩ => ⟨S128x1024, .bf16⟩
  | .local _ .vmem, ⟨30, _⟩ => ⟨S128x1024, .bf16⟩
  | .local _ .vmem, ⟨31, _⟩ => ⟨S128x512, .f32⟩
  | .local _ .vmem, ⟨32, _⟩ => ⟨S128x512, .f32⟩
  | .local _ .vmem, ⟨33, _⟩ => ⟨S128x512, .bf16⟩
  | .local _ .vmem, ⟨34, _⟩ => ⟨S128x512, .bf16⟩
  | .local _ .vmem, ⟨35, _⟩ => ⟨S128x512, .bf16⟩
  | .local _ .vmem, ⟨36, _⟩ => ⟨S128x512, .bf16⟩
  | .local _ .vmem, ⟨37, _⟩ => ⟨S128x1024, .bf16⟩
  | .local _ .vmem, ⟨38, _⟩ => ⟨S128x1024, .bf16⟩
  | .local _ .vmem, ⟨39, _⟩ => ⟨S128x512, .f32⟩
  | .local _ .vmem, ⟨40, _⟩ => ⟨S128x512, .f32⟩
  | .local _ .vmem, ⟨41, _⟩ => ⟨S2x4x256x128, .f32⟩
  | _, _ => ⟨S8448x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_call0_cst : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_v1 : Ref sig .tc := ⟨.hbm, 51, rfl⟩
abbrev main_v26 : Ref sig .tc := ⟨.hbm, 52, rfl⟩
abbrev main_cst_2 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call1_v0 : Ref sig .tc := ⟨.hbm, 61, rfl⟩
abbrev main_call1_call0_cst : Ref sig .tc := ⟨.hbm, 62, rfl⟩
abbrev main_call1_call0_v0 : Ref sig .tc := ⟨.hbm, 63, rfl⟩
abbrev main_call1_call0_v1 : Ref sig .tc := ⟨.hbm, 64, rfl⟩
abbrev main_call1_call0_v2 : Ref sig .tc := ⟨.hbm, 65, rfl⟩
abbrev main_call1_call0_v3 : Ref sig .tc := ⟨.hbm, 66, rfl⟩
abbrev main_call1_call0_v4 : Ref sig .tc := ⟨.hbm, 67, rfl⟩
abbrev main_call1_call0_v5 : Ref sig .tc := ⟨.hbm, 68, rfl⟩
abbrev main_call1_call0_v6 : Ref sig .tc := ⟨.hbm, 69, rfl⟩
abbrev main_call1_call0_v7 : Ref sig .tc := ⟨.hbm, 70, rfl⟩
abbrev main_call1_call0_v8 : Ref sig .tc := ⟨.hbm, 71, rfl⟩
abbrev main_call1_call0_v9 : Ref sig .tc := ⟨.hbm, 72, rfl⟩
abbrev main_call1_call0_v10 : Ref sig .tc := ⟨.hbm, 73, rfl⟩
abbrev main_call1_call0_v11 : Ref sig .tc := ⟨.hbm, 74, rfl⟩
abbrev main_call1_v1 : Ref sig .tc := ⟨.hbm, 75, rfl⟩
abbrev main_v34 : Ref sig .tc := ⟨.hbm, 76, rfl⟩
abbrev main_cst_3 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_call2_call0_cst : Ref sig .tc := ⟨.hbm, 90, rfl⟩
abbrev main_call2_call0_v0 : Ref sig .tc := ⟨.hbm, 91, rfl⟩
abbrev main_v47 : Ref sig .tc := ⟨.hbm, 92, rfl⟩
abbrev main_v48 : Ref sig .tc := ⟨.hbm, 93, rfl⟩
abbrev main_c_4 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_5 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_call7_call0_cst : Ref sig .tc := ⟨.hbm, 121, rfl⟩
abbrev main_call7_call0_v0 : Ref sig .tc := ⟨.hbm, 122, rfl⟩
abbrev main_v71 : Ref sig .tc := ⟨.hbm, 123, rfl⟩
abbrev main_v72 : Ref sig .tc := ⟨.hbm, 124, rfl⟩
abbrev main_c_6 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_7 : Ref sig .tc := ⟨.hbm, 138, rfl⟩
abbrev main_call8_v0 : Ref sig .tc := ⟨.hbm, 139, rfl⟩
abbrev main_call8_v1 : Ref sig .tc := ⟨.hbm, 140, rfl⟩
abbrev main_call8_v2 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95_0 : Ref sig .tc := ⟨.hbm, 152, rfl⟩
abbrev main_v95_1 : Ref sig .tc := ⟨.hbm, 153, rfl⟩
abbrev main_v95_2 : Ref sig .tc := ⟨.hbm, 154, rfl⟩
abbrev main_v95_3 : Ref sig .tc := ⟨.hbm, 155, rfl⟩
abbrev main_v95_4 : Ref sig .tc := ⟨.hbm, 156, rfl⟩
abbrev main_v95_5 : Ref sig .tc := ⟨.hbm, 157, rfl⟩
abbrev main_v95_6 : Ref sig .tc := ⟨.hbm, 158, rfl⟩
abbrev main_v95_7 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c12_i32 : BitVec 32 := 12#32
  let c0_i32 : BitVec 32 := 0#32
  ![v4.toNat, c12_i32.toNat]

def cc0_transform_1 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c13_i32 : BitVec 32 := 13#32
  let c0_i32 : BitVec 32 := 0#32
  ![v4.toNat, c13_i32.toNat]

def cc0_transform_2 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c7_i32 : BitVec 32 := 7#32
  let c0_i32 : BitVec 32 := 0#32
  ![v4.toNat, c7_i32.toNat]

def cc0_transform_3 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c0_i32 : BitVec 32 := 0#32
  let c0_i32_2 : BitVec 32 := 0#32
  ![v4.toNat, c0_i32.toNat]

def cc0_transform_4 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c12_i32 : BitVec 32 := 12#32
  let c0_i32 : BitVec 32 := 0#32
  ![v5.toNat, c12_i32.toNat]

def cc0_transform_5 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c13_i32 : BitVec 32 := 13#32
  let c0_i32 : BitVec 32 := 0#32
  ![v5.toNat, c13_i32.toNat]

def cc0_transform_6 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c7_i32 : BitVec 32 := 7#32
  let c0_i32 : BitVec 32 := 0#32
  ![v5.toNat, c7_i32.toNat]

def cc0_transform_7 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c0_i32 : BitVec 32 := 0#32
  let c0_i32_2 : BitVec 32 := 0#32
  ![v5.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c0_i32 : BitVec 32 := 0#32
  let c0_i32_2 : BitVec 32 := 0#32
  ![v4.toNat, c0_i32.toNat]

def cc0_transform_12 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c0_i32 : BitVec 32 := 0#32
  let c0_i32_2 : BitVec 32 := 0#32
  ![v5.toNat, c0_i32.toNat]

def cc0_transform_13 (i : grid0.Coords) : Fin 5 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

def cc0_transform_14 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c0_i32 : BitVec 32 := 0#32
  let c0_i32_2 : BitVec 32 := 0#32
  ![v4.toNat, c0_i32.toNat]

def cc0_transform_15 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c0_i32 : BitVec 32 := 0#32
  let c0_i32_2 : BitVec 32 := 0#32
  ![v4.toNat, c0_i32.toNat]

def cc0_transform_16 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c0_i32 : BitVec 32 := 0#32
  let c0_i32_2 : BitVec 32 := 0#32
  ![v4.toNat, c0_i32.toNat]

def cc0_transform_17 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c0_i32 : BitVec 32 := 0#32
  let c0_i32_2 : BitVec 32 := 0#32
  ![v4.toNat, c0_i32.toNat]

def cc0_transform_18 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c0_i32 : BitVec 32 := 0#32
  let c0_i32_2 : BitVec 32 := 0#32
  ![v5.toNat, c0_i32.toNat]

def cc0_transform_19 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c0_i32 : BitVec 32 := 0#32
  let c0_i32_2 : BitVec 32 := 0#32
  ![v5.toNat, c0_i32.toNat]

def cc0_transform_20 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c0_i32 : BitVec 32 := 0#32
  let c0_i32_2 : BitVec 32 := 0#32
  ![v5.toNat, c0_i32.toNat]

def cc0_transform_21 (i : grid0.Coords) : Fin 2 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c65_i32_1 : BitVec 32 := 65#32
  let v5 : BitVec 32 := Scalar.subi c65_i32_1 v0
  let c0_i32 : BitVec 32 := 0#32
  let c0_i32_2 : BitVec 32 := 0#32
  ![v5.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x1x4x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceIdeal.lean ====
abbrev S8448x10368 : Shape := ⟨2, ![8448, 10368]⟩
abbrev S8448x128 : Shape := ⟨2, ![8448, 128]⟩
abbrev S16x512 : Shape := ⟨2, ![16, 512]⟩
abbrev S1x512 : Shape := ⟨2, ![1, 512]⟩
abbrev S8448x1024 : Shape := ⟨2, ![8448, 1024]⟩
abbrev S8448x512 : Shape := ⟨2, ![8448, 512]⟩
abbrev S8448x4x128 : Shape := ⟨3, ![8448, 4, 128]⟩
abbrev S8448x4x256 : Shape := ⟨3, ![8448, 4, 256]⟩
abbrev S8448x16 : Shape := ⟨2, ![8448, 16]⟩
abbrev S256x4x128 : Shape := ⟨3, ![256, 4, 128]⟩
abbrev S8192x4x128 : Shape := ⟨3, ![8192, 4, 128]⟩
abbrev S256x4x256 : Shape := ⟨3, ![256, 4, 256]⟩
abbrev S8192x4x256 : Shape := ⟨3, ![8192, 4, 256]⟩
abbrev S_ : Shape := ⟨0, ![]⟩
abbrev S8448x8448 : Shape := ⟨2, ![8448, 8448]⟩
abbrev S8448x1x4x128 : Shape := ⟨4, ![8448, 1, 4, 128]⟩
abbrev S1x8448x4x128 : Shape := ⟨4, ![1, 8448, 4, 128]⟩
abbrev S8448x8448x4x128 : Shape := ⟨4, ![8448, 8448, 4, 128]⟩
abbrev S8448x8448x1x1 : Shape := ⟨4, ![8448, 8448, 1, 1]⟩
abbrev S8448x8448x4 : Shape := ⟨3, ![8448, 8448, 4]⟩
abbrev S4x256x8448 : Shape := ⟨3, ![4, 256, 8448]⟩
abbrev S4x8448x8448 : Shape := ⟨3, ![4, 8448, 8448]⟩

abbrev nBuf : Space → Nat
  | .hbm => 344
  | .vmem => 0
  | .smem => 0
  | _ => 0

abbrev hbmTy0_0 (i : Nat) : BufTy := match i % 128 with
  | 0 => ⟨S8448x10368, .bf16⟩
  | 1 => ⟨S8448x128, .f32⟩
  | 2 => ⟨S16x512, .f32⟩
  | 3 => ⟨S1x512, .f32⟩
  | 4 => ⟨S16x512, .f32⟩
  | 5 => ⟨S1x512, .f32⟩
  | 6 => ⟨S8448x1024, .bf16⟩
  | 7 => ⟨S8448x10368, .f32⟩
  | 8 => ⟨S8448x512, .f32⟩
  | 9 => ⟨S8448x4x128, .f32⟩
  | 10 => ⟨S8448x512, .f32⟩
  | 11 => ⟨S8448x4x128, .f32⟩
  | 12 => ⟨S8448x1024, .f32⟩
  | 13 => ⟨S8448x4x256, .f32⟩
  | 14 => ⟨S8448x1024, .f32⟩
  | 15 => ⟨S8448x4x256, .f32⟩
  | 16 => ⟨S8448x16, .f32⟩
  | 17 => ⟨S8448x512, .f32⟩
  | 18 => ⟨S8448x512, .f32⟩
  | 19 => ⟨S8448x512, .f32⟩
  | 20 => ⟨S8448x4x128, .f32⟩
  | 21 => ⟨S8448x16, .f32⟩
  | 22 => ⟨S8448x512, .f32⟩
  | 23 => ⟨S8448x512, .f32⟩
  | 24 => ⟨S8448x512, .f32⟩
  | 25 => ⟨S8448x4x128, .f32⟩
  | 26 => ⟨S256x4x128, .f32⟩
  | 27 => ⟨S8192x4x128, .f32⟩
  | 28 => ⟨S8448x4x128, .f32⟩
  | 29 => ⟨S256x4x128, .f32⟩
  | 30 => ⟨S8192x4x128, .f32⟩
  | 31 => ⟨S8448x4x128, .f32⟩
  | 32 => ⟨S256x4x256, .f32⟩
  | 33 => ⟨S8192x4x256, .f32⟩
  | 34 => ⟨S8448x4x256, .f32⟩
  | 35 => ⟨S256x4x128, .f32⟩
  | 36 => ⟨S8192x4x128, .f32⟩
  | 37 => ⟨S8448x4x128, .f32⟩
  | 38 => ⟨S_, .f32⟩
  | 39 => ⟨S8448x4x128, .f32⟩
  | 40 => ⟨S8448x4x128, .f32⟩
  | 41 => ⟨S8448x4x128, .f32⟩
  | 42 => ⟨S_, .f32⟩
  | 43 => ⟨S8448x4x128, .f32⟩
  | 44 => ⟨S8448x4x128, .f32⟩
  | 45 => ⟨S8448x4x128, .f32⟩
  | 46 => ⟨S8448x4x128, .f32⟩
  | 47 => ⟨S8448x4x128, .i1⟩
  | 48 => ⟨S8448x4x128, .f32⟩
  | 49 => ⟨S8448x4x128, .f32⟩
  | 50 => ⟨S8448x4x128, .f32⟩
  | 51 => ⟨S8448x4x128, .f32⟩
  | 52 => ⟨S8448x4x128, .f32⟩
  | 53 => ⟨S8448x4x128, .f32⟩
  | 54 => ⟨S8448x4x128, .f32⟩
  | 55 => ⟨S8448x4x128, .f32⟩
  | 56 => ⟨S_, .f32⟩
  | 57 => ⟨S8448x4x128, .f32⟩
  | 58 => ⟨S8448x4x128, .i1⟩
  | 59 => ⟨S_, .f32⟩
  | 60 => ⟨S8448x4x128, .f32⟩
  | 61 => ⟨S8448x4x128, .f32⟩
  | 62 => ⟨S_, .f32⟩
  | 63 => ⟨S8448x4x128, .f32⟩
  | 64 => ⟨S8448x4x128, .i1⟩
  | 65 => ⟨S_, .f32⟩
  | 66 => ⟨S8448x4x128, .f32⟩
  | 67 => ⟨S8448x4x128, .f32⟩
  | 68 => ⟨S8448x4x128, .f32⟩
  | 69 => ⟨S8448x4x128, .f32⟩
  | 70 => ⟨S_, .f32⟩
  | 71 => ⟨S_, .f32⟩
  | 72 => ⟨S_, .i1⟩
  | 73 => ⟨S_, .f32⟩
  | 74 => ⟨S_, .f32⟩
  | 75 => ⟨S_, .f32⟩
  | 76 => ⟨S_, .f32⟩
  | 77 => ⟨S8448x4x128, .f32⟩
  | 78 => ⟨S8448x4x128, .i1⟩
  | 79 => ⟨S_, .f32⟩
  | 80 => ⟨S8448x4x128, .f32⟩
  | 81 => ⟨S8448x4x128, .f32⟩
  | 82 => ⟨S8448x4x128, .f32⟩
  | 83 => ⟨S8448x4x128, .f32⟩
  | 84 => ⟨S8448x4x128, .f32⟩
  | 85 => ⟨S_, .f32⟩
  | 86 => ⟨S8448x4x128, .f32⟩
  | 87 => ⟨S8448x4x128, .f32⟩
  | 88 => ⟨S8448x4x128, .f32⟩
  | 89 => ⟨S_, .f32⟩
  | 90 => ⟨S8448x4x128, .f32⟩
  | 91 => ⟨S8448x4x128, .f32⟩
  | 92 => ⟨S_, .f32⟩
  | 93 => ⟨S_, .f32⟩
  | 94 => ⟨S8448x4x128, .f32⟩
  | 95 => ⟨S8448x8448, .i32⟩
  | 96 => ⟨S8448x8448, .i32⟩
  | 97 => ⟨S8448x1x4x128, .f32⟩
  | 98 => ⟨S1x8448x4x128, .f32⟩
  | 99 => ⟨S8448x8448x4x128, .f32⟩
  | 100 => ⟨S8448x8448x4x128, .f32⟩
  | 101 => ⟨S8448x8448x4x128, .f32⟩
  | 102 => ⟨S8448x8448, .i1⟩
  | 103 => ⟨S8448x8448x1x1, .i1⟩
  | 104 => ⟨S_, .f32⟩
  | 105 => ⟨S_, .f32⟩
  | 106 => ⟨S8448x8448x4x128, .i1⟩
  | 107 => ⟨S8448x8448x4x128, .f32⟩
  | 108 => ⟨S8448x8448x4x128, .f32⟩
  | 109 => ⟨S_, .f32⟩
  | 110 => ⟨S8448x8448x4x128, .f32⟩
  | 111 => ⟨S8448x8448x4x128, .f32⟩
  | 112 => ⟨S8448x1x4x128, .f32⟩
  | 113 => ⟨S1x8448x4x128, .f32⟩
  | 114 => ⟨S8448x8448x4x128, .f32⟩
  | 115 => ⟨S8448x8448x4x128, .f32⟩
  | 116 => ⟨S8448x8448x4x128, .f32⟩
  | 117 => ⟨S8448x8448x4x128, .f32⟩
  | 118 => ⟨S_, .f32⟩
  | 119 => ⟨S8448x8448x4, .f32⟩
  | 120 => ⟨S4x256x8448, .f32⟩
  | 121 => ⟨S8448x4x256, .f32⟩
  | 122 => ⟨S256x4x256, .f32⟩
  | 123 => ⟨S8192x4x256, .f32⟩
  | 124 => ⟨S8448x4x256, .f32⟩
  | 125 => ⟨S4x256x8448, .f32⟩
  | 126 => ⟨S4x8448x8448, .f32⟩
  | 127 => ⟨S8448x8448x4, .f32⟩
  | _ => ⟨S8448x10368, .bf16⟩

abbrev hbmTy0_1 (i : Nat) : BufTy := match i % 128 with
  | 0 => ⟨S4x256x8448, .f32⟩
  | 1 => ⟨S8448x4x256, .f32⟩
  | 2 => ⟨S8448x8448x4x128, .f32⟩
  | 3 => ⟨S8448x8448x4x128, .f32⟩
  | 4 => ⟨S8448x8448x4x128, .f32⟩
  | 5 => ⟨S8448x8448x4x128, .f32⟩
  | 6 => ⟨S8448x8448x4x128, .f32⟩
  | 7 => ⟨S_, .f32⟩
  | 8 => ⟨S8448x4x128, .f32⟩
  | 9 => ⟨S1x8448x4x128, .f32⟩
  | 10 => ⟨S8448x8448x4x128, .f32⟩
  | 11 => ⟨S8448x8448x4x128, .f32⟩
  | 12 => ⟨S_, .f32⟩
  | 13 => ⟨S8448x4x128, .f32⟩
  | 14 => ⟨S8448x1x4x128, .f32⟩
  | 15 => ⟨S_, .f32⟩
  | 16 => ⟨S8448x4x128, .f32⟩
  | 17 => ⟨S_, .f32⟩
  | 18 => ⟨S8448x4x128, .f32⟩
  | 19 => ⟨S8448x8448x4x128, .f32⟩
  | 20 => ⟨S_, .f32⟩
  | 21 => ⟨S8448x8448x4x128, .f32⟩
  | 22 => ⟨S8448x8448x4x128, .f32⟩
  | 23 => ⟨S_, .f32⟩
  | 24 => ⟨S8448x4x128, .f32⟩
  | 25 => ⟨S8448x1x4x128, .f32⟩
  | 26 => ⟨S8448x8448x4x128, .f32⟩
  | 27 => ⟨S_, .f32⟩
  | 28 => ⟨S8448x4x128, .f32⟩
  | 29 => ⟨S1x8448x4x128, .f32⟩
  | 30 => ⟨S_, .f32⟩
  | 31 => ⟨S8448x4x128, .f32⟩
  | 32 => ⟨S_, .f32⟩
  | 33 => ⟨S8448x4x128, .f32⟩
  | 34 => ⟨S8448x4x128, .f32⟩
  | 35 => ⟨S_, .f32⟩
  | 36 => ⟨S_, .f32⟩
  | 37 => ⟨S8448x4x128, .f32⟩
  | 38 => ⟨S_, .f32⟩
  | 39 => ⟨S8448x4x128, .f32⟩
  | 40 => ⟨S8448x4x128, .f32⟩
  | 41 => ⟨S8448x4x128, .f32⟩
  | 42 => ⟨S8448x4x128, .f32⟩
  | 43 => ⟨S8448x4x128, .f32⟩
  | 44 => ⟨S_, .f32⟩
  | 45 => ⟨S8448x4x128, .f32⟩
  | 46 => ⟨S8448x4x128, .f32⟩
  | 47 => ⟨S8448x4x128, .f32⟩
  | 48 => ⟨S8448x4x128, .f32⟩
  | 49 => ⟨S8448x4x256, .f32⟩
  | 50 => ⟨S8448x4x128, .f32⟩
  | 51 => ⟨S_, .f32⟩
  | 52 => ⟨S8448x4x128, .f32⟩
  | 53 => ⟨S8448x4x128, .f32⟩
  | 54 => ⟨S8448x4x128, .f32⟩
  | 55 => ⟨S_, .f32⟩
  | 56 => ⟨S8448x4x128, .f32⟩
  | 57 => ⟨S8448x4x128, .f32⟩
  | 58 => ⟨S8448x4x128, .f32⟩
  | 59 => ⟨S8448x4x128, .f32⟩
  | 60 => ⟨S8448x4x128, .i1⟩
  | 61 => ⟨S8448x4x128, .f32⟩
  | 62 => ⟨S8448x4x128, .f32⟩
  | 63 => ⟨S8448x4x128, .f32⟩
  | 64 => ⟨S8448x4x128, .f32⟩
  | 65 => ⟨S8448x4x128, .f32⟩
  | 66 => ⟨S8448x4x128, .f32⟩
  | 67 => ⟨S8448x4x128, .f32⟩
  | 68 => ⟨S8448x4x128, .f32⟩
  | 69 => ⟨S_, .f32⟩
  | 70 => ⟨S8448x4x128, .f32⟩
  | 71 => ⟨S8448x4x128, .i1⟩
  | 72 => ⟨S_, .f32⟩
  | 73 => ⟨S8448x4x128, .f32⟩
  | 74 => ⟨S8448x4x128, .f32⟩
  | 75 => ⟨S_, .f32⟩
  | 76 => ⟨S8448x4x128, .f32⟩
  | 77 => ⟨S8448x4x128, .i1⟩
  | 78 => ⟨S_, .f32⟩
  | 79 => ⟨S8448x4x128, .f32⟩
  | 80 => ⟨S8448x4x128, .f32⟩
  | 81 => ⟨S8448x4x128, .f32⟩
  | 82 => ⟨S8448x4x128, .f32⟩
  | 83 => ⟨S_, .f32⟩
  | 84 => ⟨S_, .f32⟩
  | 85 => ⟨S_, .i1⟩
  | 86 => ⟨S_, .f32⟩
  | 87 => ⟨S_, .f32⟩
  | 88 => ⟨S_, .f32⟩
  | 89 => ⟨S_, .f32⟩
  | 90 => ⟨S8448x4x128, .f32⟩
  | 91 => ⟨S8448x4x128, .i1⟩
  | 92 => ⟨S_, .f32⟩
  | 93 => ⟨S8448x4x128, .f32⟩
  | 94 => ⟨S8448x4x128, .f32⟩
  | 95 => ⟨S8448x4x128, .f32⟩
  | 96 => ⟨S8448x4x128, .f32⟩
  | 97 => ⟨S8448x4x128, .f32⟩
  | 98 => ⟨S_, .f32⟩
  | 99 => ⟨S8448x4x128, .f32⟩
  | 100 => ⟨S8448x4x128, .f32⟩
  | 101 => ⟨S8448x4x128, .f32⟩
  | 102 => ⟨S_, .f32⟩
  | 103 => ⟨S8448x4x128, .f32⟩
  | 104 => ⟨S8448x4x128, .f32⟩
  | 105 => ⟨S_, .f32⟩
  | 106 => ⟨S_, .f32⟩
  | 107 => ⟨S8448x4x128, .f32⟩
  | 108 => ⟨S8448x8448, .i32⟩
  | 109 => ⟨S8448x8448, .i32⟩
  | 110 => ⟨S8448x1x4x128, .f32⟩
  | 111 => ⟨S1x8448x4x128, .f32⟩
  | 112 => ⟨S8448x8448x4x128, .f32⟩
  | 113 => ⟨S8448x8448x4x128, .f32⟩
  | 114 => ⟨S8448x8448x4x128, .f32⟩
  | 115 => ⟨S8448x8448, .i1⟩
  | 116 => ⟨S8448x8448x1x1, .i1⟩
  | 117 => ⟨S_, .f32⟩
  | 118 => ⟨S_, .f32⟩
  | 119 => ⟨S8448x8448x4x128, .i1⟩
  | 120 => ⟨S8448x8448x4x128, .f32⟩
  | 121 => ⟨S8448x8448x4x128, .f32⟩
  | 122 => ⟨S_, .f32⟩
  | 123 => ⟨S8448x8448x4x128, .f32⟩
  | 124 => ⟨S8448x8448x4x128, .f32⟩
  | 125 => ⟨S8448x1x4x128, .f32⟩
  | 126 => ⟨S1x8448x4x128, .f32⟩
  | 127 => ⟨S8448x8448x4x128, .f32⟩
  | _ => ⟨S8448x10368, .bf16⟩

abbrev hbmTy0_2 (i : Nat) : BufTy := match i % 128 with
  | 0 => ⟨S8448x8448x4x128, .f32⟩
  | 1 => ⟨S8448x8448x4x128, .f32⟩
  | 2 => ⟨S8448x8448x4x128, .f32⟩
  | 3 => ⟨S_, .f32⟩
  | 4 => ⟨S8448x8448x4, .f32⟩
  | 5 => ⟨S4x256x8448, .f32⟩
  | 6 => ⟨S8448x4x256, .f32⟩
  | 7 => ⟨S8448x4x256, .f32⟩
  | 8 => ⟨S4x256x8448, .f32⟩
  | 9 => ⟨S4x8448x8448, .f32⟩
  | 10 => ⟨S8448x8448x4, .f32⟩
  | 11 => ⟨S4x256x8448, .f32⟩
  | 12 => ⟨S8448x4x256, .f32⟩
  | 13 => ⟨S8448x8448x4x128, .f32⟩
  | 14 => ⟨S8448x8448x4x128, .f32⟩
  | 15 => ⟨S8448x8448x4x128, .f32⟩
  | 16 => ⟨S8448x8448x4x128, .f32⟩
  | 17 => ⟨S8448x8448x4x128, .f32⟩
  | 18 => ⟨S_, .f32⟩
  | 19 => ⟨S8448x4x128, .f32⟩
  | 20 => ⟨S1x8448x4x128, .f32⟩
  | 21 => ⟨S8448x8448x4x128, .f32⟩
  | 22 => ⟨S8448x8448x4x128, .f32⟩
  | 23 => ⟨S_, .f32⟩
  | 24 => ⟨S8448x4x128, .f32⟩
  | 25 => ⟨S8448x1x4x128, .f32⟩
  | 26 => ⟨S_, .f32⟩
  | 27 => ⟨S8448x4x128, .f32⟩
  | 28 => ⟨S_, .f32⟩
  | 29 => ⟨S8448x4x128, .f32⟩
  | 30 => ⟨S8448x8448x4x128, .f32⟩
  | 31 => ⟨S_, .f32⟩
  | 32 => ⟨S8448x8448x4x128, .f32⟩
  | 33 => ⟨S8448x8448x4x128, .f32⟩
  | 34 => ⟨S_, .f32⟩
  | 35 => ⟨S8448x4x128, .f32⟩
  | 36 => ⟨S8448x1x4x128, .f32⟩
  | 37 => ⟨S8448x8448x4x128, .f32⟩
  | 38 => ⟨S_, .f32⟩
  | 39 => ⟨S8448x4x128, .f32⟩
  | 40 => ⟨S1x8448x4x128, .f32⟩
  | 41 => ⟨S_, .f32⟩
  | 42 => ⟨S8448x4x128, .f32⟩
  | 43 => ⟨S_, .f32⟩
  | 44 => ⟨S8448x4x128, .f32⟩
  | 45 => ⟨S8448x4x128, .f32⟩
  | 46 => ⟨S_, .f32⟩
  | 47 => ⟨S_, .f32⟩
  | 48 => ⟨S8448x4x128, .f32⟩
  | 49 => ⟨S_, .f32⟩
  | 50 => ⟨S8448x4x128, .f32⟩
  | 51 => ⟨S8448x4x128, .f32⟩
  | 52 => ⟨S8448x4x128, .f32⟩
  | 53 => ⟨S8448x4x128, .f32⟩
  | 54 => ⟨S8448x4x128, .f32⟩
  | 55 => ⟨S_, .f32⟩
  | 56 => ⟨S8448x4x128, .f32⟩
  | 57 => ⟨S8448x4x128, .f32⟩
  | 58 => ⟨S8192x4x128, .f32⟩
  | 59 => ⟨S256x4x128, .f32⟩
  | 60 => ⟨S8448x4x128, .f32⟩
  | 61 => ⟨S8448x512, .f32⟩
  | 62 => ⟨S8192x4x128, .f32⟩
  | 63 => ⟨S256x4x128, .f32⟩
  | 64 => ⟨S8448x4x128, .f32⟩
  | 65 => ⟨S8448x512, .f32⟩
  | 66 => ⟨S8192x4x256, .f32⟩
  | 67 => ⟨S256x4x256, .f32⟩
  | 68 => ⟨S8448x4x256, .f32⟩
  | 69 => ⟨S8448x1024, .f32⟩
  | 70 => ⟨S8192x4x128, .f32⟩
  | 71 => ⟨S256x4x128, .f32⟩
  | 72 => ⟨S8448x4x128, .f32⟩
  | 73 => ⟨S8448x512, .f32⟩
  | 74 => ⟨S8448x4x128, .f32⟩
  | 75 => ⟨S8448x512, .f32⟩
  | 76 => ⟨S8448x4x128, .f32⟩
  | 77 => ⟨S8448x512, .f32⟩
  | 78 => ⟨S8448x4x256, .f32⟩
  | 79 => ⟨S8448x1024, .f32⟩
  | 80 => ⟨S8448x4x128, .f32⟩
  | 81 => ⟨S8448x512, .f32⟩
  | 82 => ⟨S8448x512, .bf16⟩
  | 83 => ⟨S8448x512, .bf16⟩
  | 84 => ⟨S8448x512, .bf16⟩
  | 85 => ⟨S8448x512, .bf16⟩
  | 86 => ⟨S8448x1024, .bf16⟩
  | 87 => ⟨S8448x1024, .bf16⟩
  | _ => ⟨S8448x10368, .bf16⟩

abbrev hbmTy (i : Nat) : BufTy := match i / 128 with
  | 0 => hbmTy0_0 i
  | 1 => hbmTy0_1 i
  | 2 => hbmTy0_2 i
  | _ => ⟨S8448x10368, .bf16⟩

abbrev bufTy : (tb : Table) → Fin (tcTables nBuf tb) → BufTy
  | .hbm, ⟨i, _⟩ => hbmTy i
  | _, _ => ⟨S8448x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst : Ref sig .tc := ⟨.hbm, 38, rfl⟩
abbrev main_v31 : Ref sig .tc := ⟨.hbm, 39, rfl⟩
abbrev main_v32 : Ref sig .tc := ⟨.hbm, 40, rfl⟩
abbrev main_call0_v0 : Ref sig .tc := ⟨.hbm, 41, rfl⟩
abbrev main_call0_call0_cst : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_v1_0 : Ref sig .tc := ⟨.hbm, 55, rfl⟩
abbrev main_call0_call0_cst_0 : Ref sig .tc := ⟨.hbm, 56, rfl⟩
abbrev main_call0_call0_v13 : Ref sig .tc := ⟨.hbm, 57, rfl⟩
abbrev main_call0_call0_v14 : Ref sig .tc := ⟨.hbm, 58, rfl⟩
abbrev main_call0_call0_cst_1 : Ref sig .tc := ⟨.hbm, 59, rfl⟩
abbrev main_call0_call0_v15 : Ref sig .tc := ⟨.hbm, 60, rfl⟩
abbrev main_call0_call0_v16 : Ref sig .tc := ⟨.hbm, 61, rfl⟩
abbrev main_call0_call0_cst_2 : Ref sig .tc := ⟨.hbm, 62, rfl⟩
abbrev main_call0_call0_v17 : Ref sig .tc := ⟨.hbm, 63, rfl⟩
abbrev main_call0_call0_v18 : Ref sig .tc := ⟨.hbm, 64, rfl⟩
abbrev main_call0_call0_cst_3 : Ref sig .tc := ⟨.hbm, 65, rfl⟩
abbrev main_call0_call0_v19 : Ref sig .tc := ⟨.hbm, 66, rfl⟩
abbrev main_call0_call0_v20 : Ref sig .tc := ⟨.hbm, 67, rfl⟩
abbrev main_call0_call0_v21 : Ref sig .tc := ⟨.hbm, 68, rfl⟩
abbrev main_v33_1 : Ref sig .tc := ⟨.hbm, 69, rfl⟩
abbrev main_call0_call0_cst_4 : Ref sig .tc := ⟨.hbm, 70, rfl⟩
abbrev main_call0_call0_cst_5 : Ref sig .tc := ⟨.hbm, 71, rfl⟩
abbrev main_call0_call0_v23 : Ref sig .tc := ⟨.hbm, 72, rfl⟩
abbrev main_call0_call0_cst_6 : Ref sig .tc := ⟨.hbm, 73, rfl⟩
abbrev main_call0_call0_cst_7 : Ref sig .tc := ⟨.hbm, 74, rfl⟩
abbrev main_call0_call0_v24 : Ref sig .tc := ⟨.hbm, 75, rfl⟩
abbrev main_call0_call0_cst_8 : Ref sig .tc := ⟨.hbm, 76, rfl⟩
abbrev main_call0_call0_v25 : Ref sig .tc := ⟨.hbm, 77, rfl⟩
abbrev main_call0_call0_v26 : Ref sig .tc := ⟨.hbm, 78, rfl⟩
abbrev main_call0_call0_cst_9 : Ref sig .tc := ⟨.hbm, 79, rfl⟩
abbrev main_call0_call0_v27 : Ref sig .tc := ⟨.hbm, 80, rfl⟩
abbrev main_call0_call0_v28 : Ref sig .tc := ⟨.hbm, 81, rfl⟩
abbrev main_call0_call0_v29 : Ref sig .tc := ⟨.hbm, 82, rfl⟩
abbrev main_call0_call0_v30 : Ref sig .tc := ⟨.hbm, 83, rfl⟩
abbrev main_call0_call0_v31 : Ref sig .tc := ⟨.hbm, 84, rfl⟩
abbrev main_call0_call0_cst_10 : Ref sig .tc := ⟨.hbm, 85, rfl⟩
abbrev main_call0_call0_v32 : Ref sig .tc := ⟨.hbm, 86, rfl⟩
abbrev main_v33_2 : Ref sig .tc := ⟨.hbm, 87, rfl⟩
abbrev main_v33_0 : Ref sig .tc := ⟨.hbm, 88, rfl⟩
abbrev main_cst_0 : Ref sig .tc := ⟨.hbm, 89, rfl⟩
abbrev main_v34 : Ref sig .tc := ⟨.hbm, 90, rfl⟩
abbrev main_v35 : Ref sig .tc := ⟨.hbm, 91, rfl⟩
abbrev main_call1_call0_cst : Ref sig .tc := ⟨.hbm, 92, rfl⟩
abbrev main_call1_call0_v0 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_cst_1 : Ref sig .tc := ⟨.hbm, 104, rfl⟩
abbrev main_call2_v0 : Ref sig .tc := ⟨.hbm, 105, rfl⟩
abbrev main_v46_1 : Ref sig .tc := ⟨.hbm, 106, rfl⟩
abbrev main_call2_v2 : Ref sig .tc := ⟨.hbm, 107, rfl⟩
abbrev main_v46_0 : Ref sig .tc := ⟨.hbm, 108, rfl⟩
abbrev main_call2_cst : Ref sig .tc := ⟨.hbm, 109, rfl⟩
abbrev main_v46_2 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_cst_2 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_cst_3 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_cst_4 : Ref sig .tc := ⟨.hbm, 140, rfl⟩
abbrev main_v74 : Ref sig .tc := ⟨.hbm, 141, rfl⟩
abbrev main_v75 : Ref sig .tc := ⟨.hbm, 142, rfl⟩
abbrev main_cst_5 : Ref sig .tc := ⟨.hbm, 143, rfl⟩
abbrev main_v76 : Ref sig .tc := ⟨.hbm, 144, rfl⟩
abbrev main_cst_6 : Ref sig .tc := ⟨.hbm, 145, rfl⟩
abbrev main_v77 : Ref sig .tc := ⟨.hbm, 146, rfl⟩
abbrev main_v78 : Ref sig .tc := ⟨.hbm, 147, rfl⟩
abbrev main_call3_cst : Ref sig .tc := ⟨.hbm, 148, rfl⟩
abbrev main_call3_v0 : Ref sig .tc := ⟨.hbm, 149, rfl⟩
abbrev main_v79 : Ref sig .tc := ⟨.hbm, 150, rfl⟩
abbrev main_cst_7 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_cst_8 : Ref sig .tc := ⟨.hbm, 155, rfl⟩
abbrev main_v83 : Ref sig .tc := ⟨.hbm, 156, rfl⟩
abbrev main_v84 : Ref sig .tc := ⟨.hbm, 157, rfl⟩
abbrev main_cst_9 : Ref sig .tc := ⟨.hbm, 158, rfl⟩
abbrev main_v85 : Ref sig .tc := ⟨.hbm, 159, rfl⟩
abbrev main_cst_10 : Ref sig .tc := ⟨.hbm, 160, rfl⟩
abbrev main_v86 : Ref sig .tc := ⟨.hbm, 161, rfl⟩
abbrev main_v87 : Ref sig .tc := ⟨.hbm, 162, rfl⟩
abbrev main_call4_call0_cst : Ref sig .tc := ⟨.hbm, 163, rfl⟩
abbrev main_call4_call0_v0 : Ref sig .tc := ⟨.hbm, 164, rfl⟩
abbrev main_v88 : Ref sig .tc := ⟨.hbm, 165, rfl⟩
abbrev main_cst_11 : Ref sig .tc := ⟨.hbm, 166, rfl⟩
abbrev main_v89 : Ref sig .tc := ⟨.hbm, 167, rfl⟩
abbrev main_v90 : Ref sig .tc := ⟨.hbm, 168, rfl⟩
abbrev main_call5_v0 : Ref sig .tc := ⟨.hbm, 169, rfl⟩
abbrev main_call5_v1 : Ref sig .tc := ⟨.hbm, 170, rfl⟩
abbrev main_v91 : Ref sig .tc := ⟨.hbm, 171, rfl⟩
abbrev main_cst_12 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_cst_13 : Ref sig .tc := ⟨.hbm, 179, rfl⟩
abbrev main_v98 : Ref sig .tc := ⟨.hbm, 180, rfl⟩
abbrev main_v99 : Ref sig .tc := ⟨.hbm, 181, rfl⟩
abbrev main_call10_v0 : Ref sig .tc := ⟨.hbm, 182, rfl⟩
abbrev main_call10_call0_cst : Ref sig .tc := ⟨.hbm, 183, rfl⟩
abbrev main_call10_call0_v0 : Ref sig .tc := ⟨.hbm, 184, rfl⟩
abbrev main_call10_call0_v1 : Ref sig .tc := ⟨.hbm, 185, rfl⟩
abbrev main_call10_call0_v2 : Ref sig .tc := ⟨.hbm, 186, rfl⟩
abbrev main_call10_call0_v3 : Ref sig .tc := ⟨.hbm, 187, rfl⟩
abbrev main_call10_call0_v4 : Ref sig .tc := ⟨.hbm, 188, rfl⟩
abbrev main_call10_call0_v5 : Ref sig .tc := ⟨.hbm, 189, rfl⟩
abbrev main_call10_call0_v6 : Ref sig .tc := ⟨.hbm, 190, rfl⟩
abbrev main_call10_call0_v7 : Ref sig .tc := ⟨.hbm, 191, rfl⟩
abbrev main_call10_call0_v8 : Ref sig .tc := ⟨.hbm, 192, rfl⟩
abbrev main_call10_call0_v9 : Ref sig .tc := ⟨.hbm, 193, rfl⟩
abbrev main_call10_call0_v10 : Ref sig .tc := ⟨.hbm, 194, rfl⟩
abbrev main_call10_call0_v11 : Ref sig .tc := ⟨.hbm, 195, rfl⟩
abbrev main_call10_v1_0 : Ref sig .tc := ⟨.hbm, 196, rfl⟩
abbrev main_call10_call0_cst_0 : Ref sig .tc := ⟨.hbm, 197, rfl⟩
abbrev main_call10_call0_v13 : Ref sig .tc := ⟨.hbm, 198, rfl⟩
abbrev main_call10_call0_v14 : Ref sig .tc := ⟨.hbm, 199, rfl⟩
abbrev main_call10_call0_cst_1 : Ref sig .tc := ⟨.hbm, 200, rfl⟩
abbrev main_call10_call0_v15 : Ref sig .tc := ⟨.hbm, 201, rfl⟩
abbrev main_call10_call0_v16 : Ref sig .tc := ⟨.hbm, 202, rfl⟩
abbrev main_call10_call0_cst_2 : Ref sig .tc := ⟨.hbm, 203, rfl⟩
abbrev main_call10_call0_v17 : Ref sig .tc := ⟨.hbm, 204, rfl⟩
abbrev main_call10_call0_v18 : Ref sig .tc := ⟨.hbm, 205, rfl⟩
abbrev main_call10_call0_cst_3 : Ref sig .tc := ⟨.hbm, 206, rfl⟩
abbrev main_call10_call0_v19 : Ref sig .tc := ⟨.hbm, 207, rfl⟩
abbrev main_call10_call0_v20 : Ref sig .tc := ⟨.hbm, 208, rfl⟩
abbrev main_call10_call0_v21 : Ref sig .tc := ⟨.hbm, 209, rfl⟩
abbrev main_v100_1 : Ref sig .tc := ⟨.hbm, 210, rfl⟩
abbrev main_call10_call0_cst_4 : Ref sig .tc := ⟨.hbm, 211, rfl⟩
abbrev main_call10_call0_cst_5 : Ref sig .tc := ⟨.hbm, 212, rfl⟩
abbrev main_call10_call0_v23 : Ref sig .tc := ⟨.hbm, 213, rfl⟩
abbrev main_call10_call0_cst_6 : Ref sig .tc := ⟨.hbm, 214, rfl⟩
abbrev main_call10_call0_cst_7 : Ref sig .tc := ⟨.hbm, 215, rfl⟩
abbrev main_call10_call0_v24 : Ref sig .tc := ⟨.hbm, 216, rfl⟩
abbrev main_call10_call0_cst_8 : Ref sig .tc := ⟨.hbm, 217, rfl⟩
abbrev main_call10_call0_v25 : Ref sig .tc := ⟨.hbm, 218, rfl⟩
abbrev main_call10_call0_v26 : Ref sig .tc := ⟨.hbm, 219, rfl⟩
abbrev main_call10_call0_cst_9 : Ref sig .tc := ⟨.hbm, 220, rfl⟩
abbrev main_call10_call0_v27 : Ref sig .tc := ⟨.hbm, 221, rfl⟩
abbrev main_call10_call0_v28 : Ref sig .tc := ⟨.hbm, 222, rfl⟩
abbrev main_call10_call0_v29 : Ref sig .tc := ⟨.hbm, 223, rfl⟩
abbrev main_call10_call0_v30 : Ref sig .tc := ⟨.hbm, 224, rfl⟩
abbrev main_call10_call0_v31 : Ref sig .tc := ⟨.hbm, 225, rfl⟩
abbrev main_call10_call0_cst_10 : Ref sig .tc := ⟨.hbm, 226, rfl⟩
abbrev main_call10_call0_v32 : Ref sig .tc := ⟨.hbm, 227, rfl⟩
abbrev main_v100_2 : Ref sig .tc := ⟨.hbm, 228, rfl⟩
abbrev main_v100_0 : Ref sig .tc := ⟨.hbm, 229, rfl⟩
abbrev main_cst_14 : Ref sig .tc := ⟨.hbm, 230, rfl⟩
abbrev main_v101 : Ref sig .tc := ⟨.hbm, 231, rfl⟩
abbrev main_v102 : Ref sig .tc := ⟨.hbm, 232, rfl⟩
abbrev main_call11_call0_cst : Ref sig .tc := ⟨.hbm, 233, rfl⟩
abbrev main_call11_call0_v0 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩
abbrev main_v106 : Ref sig .tc := ⟨.hbm, 238, rfl⟩
abbrev main_v107 : Ref sig .tc := ⟨.hbm, 239, rfl⟩
abbrev main_v108 : Ref sig .tc := ⟨.hbm, 240, rfl⟩
abbrev main_v109 : Ref sig .tc := ⟨.hbm, 241, rfl⟩
abbrev main_v110 : Ref sig .tc := ⟨.hbm, 242, rfl⟩
abbrev main_v111 : Ref sig .tc := ⟨.hbm, 243, rfl⟩
abbrev main_v112 : Ref sig .tc := ⟨.hbm, 244, rfl⟩
abbrev main_cst_15 : Ref sig .tc := ⟨.hbm, 245, rfl⟩
abbrev main_call12_v0 : Ref sig .tc := ⟨.hbm, 246, rfl⟩
abbrev main_v113_1 : Ref sig .tc := ⟨.hbm, 247, rfl⟩
abbrev main_call12_v2 : Ref sig .tc := ⟨.hbm, 248, rfl⟩
abbrev main_v113_0 : Ref sig .tc := ⟨.hbm, 249, rfl⟩
abbrev main_call12_cst : Ref sig .tc := ⟨.hbm, 250, rfl⟩
abbrev main_v113_2 : Ref sig .tc := ⟨.hbm, 251, rfl⟩
abbrev main_v114 : Ref sig .tc := ⟨.hbm, 252, rfl⟩
abbrev main_v115 : Ref sig .tc := ⟨.hbm, 253, rfl⟩
abbrev main_v116 : Ref sig .tc := ⟨.hbm, 254, rfl⟩
abbrev main_v117 : Ref sig .tc := ⟨.hbm, 255, rfl⟩
abbrev main_v118 : Ref sig .tc := ⟨.hbm, 256, rfl⟩
abbrev main_v119 : Ref sig .tc := ⟨.hbm, 257, rfl⟩
abbrev main_v120 : Ref sig .tc := ⟨.hbm, 258, rfl⟩
abbrev main_cst_16 : Ref sig .tc := ⟨.hbm, 259, rfl⟩
abbrev main_v121 : Ref sig .tc := ⟨.hbm, 260, rfl⟩
abbrev main_v122 : Ref sig .tc := ⟨.hbm, 261, rfl⟩
abbrev main_v123 : Ref sig .tc := ⟨.hbm, 262, rfl⟩
abbrev main_v124 : Ref sig .tc := ⟨.hbm, 263, rfl⟩
abbrev main_v125 : Ref sig .tc := ⟨.hbm, 264, rfl⟩
abbrev main_v126 : Ref sig .tc := ⟨.hbm, 265, rfl⟩
abbrev main_v127 : Ref sig .tc := ⟨.hbm, 266, rfl⟩
abbrev main_v128 : Ref sig .tc := ⟨.hbm, 267, rfl⟩
abbrev main_v129 : Ref sig .tc := ⟨.hbm, 268, rfl⟩
abbrev main_v130 : Ref sig .tc := ⟨.hbm, 269, rfl⟩
abbrev main_v131 : Ref sig .tc := ⟨.hbm, 270, rfl⟩
abbrev main_v132 : Ref sig .tc := ⟨.hbm, 271, rfl⟩
abbrev main_v133 : Ref sig .tc := ⟨.hbm, 272, rfl⟩
abbrev main_v134 : Ref sig .tc := ⟨.hbm, 273, rfl⟩
abbrev main_cst_17 : Ref sig .tc := ⟨.hbm, 274, rfl⟩
abbrev main_v135 : Ref sig .tc := ⟨.hbm, 275, rfl⟩
abbrev main_v136 : Ref sig .tc := ⟨.hbm, 276, rfl⟩
abbrev main_v137 : Ref sig .tc := ⟨.hbm, 277, rfl⟩
abbrev main_v138 : Ref sig .tc := ⟨.hbm, 278, rfl⟩
abbrev main_cst_18 : Ref sig .tc := ⟨.hbm, 279, rfl⟩
abbrev main_v139 : Ref sig .tc := ⟨.hbm, 280, rfl⟩
abbrev main_v140 : Ref sig .tc := ⟨.hbm, 281, rfl⟩
abbrev main_cst_19 : Ref sig .tc := ⟨.hbm, 282, rfl⟩
abbrev main_v141 : Ref sig .tc := ⟨.hbm, 283, rfl⟩
abbrev main_cst_20 : Ref sig .tc := ⟨.hbm, 284, rfl⟩
abbrev main_v142 : Ref sig .tc := ⟨.hbm, 285, rfl⟩
abbrev main_v143 : Ref sig .tc := ⟨.hbm, 286, rfl⟩
abbrev main_call14_cst : Ref sig .tc := ⟨.hbm, 287, rfl⟩
abbrev main_call14_v0 : Ref sig .tc := ⟨.hbm, 288, rfl⟩
abbrev main_v144 : Ref sig .tc := ⟨.hbm, 289, rfl⟩
abbrev main_cst_21 : Ref sig .tc := ⟨.hbm, 290, rfl⟩
abbrev main_v145 : Ref sig .tc := ⟨.hbm, 291, rfl⟩
abbrev main_v146 : Ref sig .tc := ⟨.hbm, 292, rfl⟩
abbrev main_v147 : Ref sig .tc := ⟨.hbm, 293, rfl⟩
abbrev main_cst_22 : Ref sig .tc := ⟨.hbm, 294, rfl⟩
abbrev main_v148 : Ref sig .tc := ⟨.hbm, 295, rfl⟩
abbrev main_v149 : Ref sig .tc := ⟨.hbm, 296, rfl⟩
abbrev main_cst_23 : Ref sig .tc := ⟨.hbm, 297, rfl⟩
abbrev main_v150 : Ref sig .tc := ⟨.hbm, 298, rfl⟩
abbrev main_cst_24 : Ref sig .tc := ⟨.hbm, 299, rfl⟩
abbrev main_v151 : Ref sig .tc := ⟨.hbm, 300, rfl⟩
abbrev main_v152 : Ref sig .tc := ⟨.hbm, 301, rfl⟩
abbrev main_call15_call0_cst : Ref sig .tc := ⟨.hbm, 302, rfl⟩
abbrev main_call15_call0_v0 : Ref sig .tc := ⟨.hbm, 303, rfl⟩
abbrev main_v153 : Ref sig .tc := ⟨.hbm, 304, rfl⟩
abbrev main_cst_25 : Ref sig .tc := ⟨.hbm, 305, rfl⟩
abbrev main_v154 : Ref sig .tc := ⟨.hbm, 306, rfl⟩
abbrev main_v155 : Ref sig .tc := ⟨.hbm, 307, rfl⟩
abbrev main_call16_v0 : Ref sig .tc := ⟨.hbm, 308, rfl⟩
abbrev main_call16_v1 : Ref sig .tc := ⟨.hbm, 309, rfl⟩
abbrev main_v156 : Ref sig .tc := ⟨.hbm, 310, rfl⟩
abbrev main_cst_26 : Ref sig .tc := ⟨.hbm, 311, rfl⟩
abbrev main_v157 : Ref sig .tc := ⟨.hbm, 312, rfl⟩
abbrev main_v158 : Ref sig .tc := ⟨.hbm, 313, rfl⟩
abbrev main_v159 : Ref sig .tc := ⟨.hbm, 314, rfl⟩
abbrev main_v160 : Ref sig .tc := ⟨.hbm, 315, rfl⟩
abbrev main_v161 : Ref sig .tc := ⟨.hbm, 316, rfl⟩
abbrev main_v162 : Ref sig .tc := ⟨.hbm, 317, rfl⟩
abbrev main_v163 : Ref sig .tc := ⟨.hbm, 318, rfl⟩
abbrev main_v164 : Ref sig .tc := ⟨.hbm, 319, rfl⟩
abbrev main_v165 : Ref sig .tc := ⟨.hbm, 320, rfl⟩
abbrev main_v166 : Ref sig .tc := ⟨.hbm, 321, rfl⟩
abbrev main_v167 : Ref sig .tc := ⟨.hbm, 322, rfl⟩
abbrev main_v168 : Ref sig .tc := ⟨.hbm, 323, rfl⟩
abbrev main_v169 : Ref sig .tc := ⟨.hbm, 324, rfl⟩
abbrev main_v170 : Ref sig .tc := ⟨.hbm, 325, rfl⟩
abbrev main_v171 : Ref sig .tc := ⟨.hbm, 326, rfl⟩
abbrev main_v172 : Ref sig .tc := ⟨.hbm, 327, rfl⟩
abbrev main_v173 : Ref sig .tc := ⟨.hbm, 328, rfl⟩
abbrev main_v174 : Ref sig .tc := ⟨.hbm, 329, rfl⟩
abbrev main_v175 : Ref sig .tc := ⟨.hbm, 330, rfl⟩
abbrev main_v176 : Ref sig .tc := ⟨.hbm, 331, rfl⟩
abbrev main_v177 : Ref sig .tc := ⟨.hbm, 332, rfl⟩
abbrev main_v178 : Ref sig .tc := ⟨.hbm, 333, rfl⟩
abbrev main_v179 : Ref sig .tc := ⟨.hbm, 334, rfl⟩
abbrev main_v180 : Ref sig .tc := ⟨.hbm, 335, rfl⟩
abbrev main_v181 : Ref sig .tc := ⟨.hbm, 336, rfl⟩
abbrev main_v182 : Ref sig .tc := ⟨.hbm, 337, rfl⟩
abbrev main_v183 : Ref sig .tc := ⟨.hbm, 338, rfl⟩
abbrev main_v184 : Ref sig .tc := ⟨.hbm, 339, rfl⟩
abbrev main_v185 : Ref sig .tc := ⟨.hbm, 340, rfl⟩
abbrev main_v186 : Ref sig .tc := ⟨.hbm, 341, rfl⟩
abbrev main_v187 : Ref sig .tc := ⟨.hbm, 342, rfl⟩
abbrev main_v188 : Ref sig .tc := ⟨.hbm, 343, rfl⟩

abbrev nD : Nat := 1
abbrev τ : Topo := Topo.v7x

variable {F : FTy → Type} [FloatOps F]
-- ==== InDw.lean ====
abbrev S8448x1024 : Shape := ⟨2, ![8448, 1024]⟩
abbrev S8448x10368 : Shape := ⟨2, ![8448, 10368]⟩
abbrev S1024x10368 : Shape := ⟨2, ![1024, 10368]⟩
abbrev S2816x1024 : Shape := ⟨2, ![2816, 1024]⟩
abbrev S2816x1152 : Shape := ⟨2, ![2816, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x10368, .bf16⟩
  | .hbm, ⟨2, _⟩ => ⟨S1024x10368, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1152, .bf16⟩
  | .local _ .vmem, ⟨3, _⟩ => ⟨S2816x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8448x1024 : Shape := ⟨2, ![8448, 1024]⟩
abbrev S8448x10368 : Shape := ⟨2, ![8448, 10368]⟩
abbrev S_ : Shape := ⟨0, ![]⟩
abbrev S1024x10368 : Shape := ⟨2, ![1024, 10368]⟩
abbrev S10368x1024 : Shape := ⟨2, ![10368, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x10368, .bf16⟩
  | .hbm, ⟨2, _⟩ => ⟨S_, .bf16⟩
  | .hbm, ⟨3, _⟩ => ⟨S1024x10368, .bf16⟩
  | .hbm, ⟨4, _⟩ => ⟨S8448x1024, .f32⟩
  | .hbm, ⟨5, _⟩ => ⟨S1024x10368, .f32⟩
  | .hbm, ⟨6, _⟩ => ⟨S8448x10368, .f32⟩
  | .hbm, ⟨7, _⟩ => ⟨S8448x10368, .bf16⟩
  | .hbm, ⟨8, _⟩ => ⟨S8448x10368, .f32⟩
  | .hbm, ⟨9, _⟩ => ⟨S10368x1024, .f32⟩
  | .hbm, ⟨10, _⟩ => ⟨S1024x10368, .f32⟩
  | .hbm, ⟨11, _⟩ => ⟨S1024x10368, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpDw.lean ====
abbrev S8448x1024 : Shape := ⟨2, ![8448, 1024]⟩
abbrev S8448x2816 : Shape := ⟨2, ![8448, 2816]⟩
abbrev S1024x2816 : Shape := ⟨2, ![1024, 2816]⟩
abbrev S2816x1024 : Shape := ⟨2, ![2816, 1024]⟩
abbrev S2816x1408 : Shape := ⟨2, ![2816, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S1024x2816, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1408, .bf16⟩
  | .local _ .vmem, ⟨3, _⟩ => ⟨S2816x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8448x1024 : Shape := ⟨2, ![8448, 1024]⟩
abbrev S8448x2816 : Shape := ⟨2, ![8448, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S_, .bf16⟩
  | .hbm, ⟨3, _⟩ => ⟨S1024x2816, .bf16⟩
  | .hbm, ⟨4, _⟩ => ⟨S8448x1024, .f32⟩
  | .hbm, ⟨5, _⟩ => ⟨S1024x2816, .f32⟩
  | .hbm, ⟨6, _⟩ => ⟨S8448x2816, .f32⟩
  | .hbm, ⟨7, _⟩ => ⟨S8448x2816, .bf16⟩
  | .hbm, ⟨8, _⟩ => ⟨S8448x2816, .f32⟩
  | .hbm, ⟨9, _⟩ => ⟨S2816x1024, .f32⟩
  | .hbm, ⟨10, _⟩ => ⟨S1024x2816, .f32⟩
  | .hbm, ⟨11, _⟩ => ⟨S1024x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownDw.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8448x2816, .bf16⟩
  | .hbm, ⟨1, _⟩ => ⟨S8448x2816, .bf16⟩
  | .hbm, ⟨2, _⟩ => ⟨S8448x1024, .bf16⟩
  | .hbm, ⟨3, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1408, .bf16⟩
  | .local _ .vmem, ⟨3, _⟩ => ⟨S1408x1408, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v22 : BitVec 1 := Scalar.cmpi .eq arg2 c5_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDwRefIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 26
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x2816, .bf16⟩
  | .hbm, ⟨2, _⟩ => ⟨S8448x1024, .bf16⟩
  | .hbm, ⟨3, _⟩ => ⟨S8448x2816, .f32⟩
  | .hbm, ⟨4, _⟩ => ⟨S8448x2816, .f32⟩
  | .hbm, ⟨5, _⟩ => ⟨S8448x2816, .f32⟩
  | .hbm, ⟨6, _⟩ => ⟨S_, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S8448x2816, .f32⟩
  | .hbm, ⟨13, _⟩ => ⟨S8448x2816, .f32⟩
  | .hbm, ⟨14, _⟩ => ⟨S8448x2816, .f32⟩
  | .hbm, ⟨15, _⟩ => ⟨S8448x2816, .bf16⟩
  | .hbm, ⟨16, _⟩ => ⟨S_, .bf16⟩
  | .hbm, ⟨17, _⟩ => ⟨S2816x1024, .bf16⟩
  | .hbm, ⟨18, _⟩ => ⟨S8448x2816, .f32⟩
  | .hbm, ⟨19, _⟩ => ⟨S2816x1024, .f32⟩
  | .hbm, ⟨20, _⟩ => ⟨S8448x1024, .f32⟩
  | .hbm, ⟨21, _⟩ => ⟨S8448x1024, .bf16⟩
  | .hbm, ⟨22, _⟩ => ⟨S8448x1024, .f32⟩
  | .hbm, ⟨23, _⟩ => ⟨S1024x2816, .f32⟩
  | .hbm, ⟨24, _⟩ => ⟨S2816x1024, .f32⟩
  | .hbm, ⟨25, _⟩ => ⟨S2816x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== OutDw.lean ====
abbrev S8448x1024 : Shape := ⟨2, ![8448, 1024]⟩
abbrev S1024x1024 : Shape := ⟨2, ![1024, 1024]⟩
abbrev S2816x1024 : Shape := ⟨2, ![2816, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .bf16⟩
  | .hbm, ⟨3, _⟩ => ⟨S1024x1024, .bf16⟩
  | .hbm, ⟨4, _⟩ => ⟨S8448x1024, .f32⟩
  | .hbm, ⟨5, _⟩ => ⟨S1024x1024, .f32⟩
  | .hbm, ⟨6, _⟩ => ⟨S8448x1024, .f32⟩
  | .hbm, ⟨7, _⟩ => ⟨S8448x1024, .bf16⟩
  | .hbm, ⟨8, _⟩ => ⟨S8448x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== PbDw.lean ====
abbrev S8448x2048 : Shape := ⟨2, ![8448, 2048]⟩
abbrev S8448x1024 : Shape := ⟨2, ![8448, 1024]⟩
abbrev S2048x1024 : Shape := ⟨2, ![2048, 1024]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x1024, .bf16⟩
  | .hbm, ⟨2, _⟩ => ⟨S2048x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PbDwRefIdeal.lean ====
abbrev S8448x2048 : Shape := ⟨2, ![8448, 2048]⟩
abbrev S8448x1024 : Shape := ⟨2, ![8448, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x1024, .bf16⟩
  | .hbm, ⟨2, _⟩ => ⟨S_, .bf16⟩
  | .hbm, ⟨3, _⟩ => ⟨S2048x1024, .bf16⟩
  | .hbm, ⟨4, _⟩ => ⟨S8448x2048, .f32⟩
  | .hbm, ⟨5, _⟩ => ⟨S2048x1024, .f32⟩
  | .hbm, ⟨6, _⟩ => ⟨S8448x1024, .f32⟩
  | .hbm, ⟨7, _⟩ => ⟨S8448x1024, .bf16⟩
  | .hbm, ⟨8, _⟩ => ⟨S8448x1024, .f32⟩
  | .hbm, ⟨9, _⟩ => ⟨S1024x2048, .f32⟩
  | .hbm, ⟨10, _⟩ => ⟨S2048x1024, .f32⟩
  | .hbm, ⟨11, _⟩ => ⟨S2048x1024, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpDx.lean ====
abbrev S8448x2816 : Shape := ⟨2, ![8448, 2816]⟩
abbrev S1024x2816 : Shape := ⟨2, ![1024, 2816]⟩
abbrev S8448x1024 : Shape := ⟨2, ![8448, 1024]⟩
abbrev S1408x2816 : Shape := ⟨2, ![1408, 2816]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x2816, .bf16⟩
  | .hbm, ⟨1, _⟩ => ⟨S1024x2816, .bf16⟩
  | .hbm, ⟨2, _⟩ => ⟨S8448x1024, .bf16⟩
  | .local _ .vmem, ⟨0, _⟩ => ⟨S1408x2816, .bf16⟩
  | .local _ .vmem, ⟨1, _⟩ => ⟨S1408x2816, .bf16⟩
  | .local _ .vmem, ⟨2, _⟩ => ⟨S1024x2816, .bf16⟩
  | .local _ .vmem, ⟨3, _⟩ => ⟨S1408x1024, .bf16⟩
  | .local _ .vmem, ⟨4, _⟩ => ⟨S1408x1024, .bf16⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S8448x2816 : Shape := ⟨2, ![8448, 2816]⟩
abbrev S1024x2816 : Shape := ⟨2, ![1024, 2816]⟩
abbrev S_ : Shape := ⟨0, ![]⟩
abbrev S8448x1024 : Shape := ⟨2, ![8448, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S1024x2816, .bf16⟩
  | .hbm, ⟨2, _⟩ => ⟨S_, .bf16⟩
  | .hbm, ⟨3, _⟩ => ⟨S8448x1024, .bf16⟩
  | .hbm, ⟨4, _⟩ => ⟨S8448x1024, .f32⟩
  | .hbm, ⟨5, _⟩ => ⟨S1024x2816, .f32⟩
  | .hbm, ⟨6, _⟩ => ⟨S8448x2816, .f32⟩
  | .hbm, ⟨7, _⟩ => ⟨S8448x2816, .bf16⟩
  | .hbm, ⟨8, _⟩ => ⟨S8448x2816, .f32⟩
  | .hbm, ⟨9, _⟩ => ⟨S8448x1024, .f32⟩
  | .hbm, ⟨10, _⟩ => ⟨S8448x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDx.lean ====
abbrev S8448x1024 : Shape := ⟨2, ![8448, 1024]⟩
abbrev S2816x1024 : Shape := ⟨2, ![2816, 1024]⟩
abbrev S8448x2816 : Shape := ⟨2, ![8448, 2816]⟩
abbrev S1408x1024 : Shape := ⟨2, ![1408, 1024]⟩
abbrev S1408x2816 : Shape := ⟨2, ![1408, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .bf16⟩
  | .local _ .vmem, ⟨0, _⟩ => ⟨S1408x1024, .bf16⟩
  | .local _ .vmem, ⟨1, _⟩ => ⟨S1408x1024, .bf16⟩
  | .local _ .vmem, ⟨2, _⟩ => ⟨S2816x1024, .bf16⟩
  | .local _ .vmem, ⟨3, _⟩ => ⟨S1408x2816, .bf16⟩
  | .local _ .vmem, ⟨4, _⟩ => ⟨S1408x2816, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8448x1024 : Shape := ⟨2, ![8448, 1024]⟩
abbrev S2816x1024 : Shape := ⟨2, ![2816, 1024]⟩
abbrev S_ : Shape := ⟨0, ![]⟩
abbrev S8448x2816 : Shape := ⟨2, ![8448, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S_, .bf16⟩
  | .hbm, ⟨3, _⟩ => ⟨S8448x2816, .bf16⟩
  | .hbm, ⟨4, _⟩ => ⟨S8448x2816, .f32⟩
  | .hbm, ⟨5, _⟩ => ⟨S2816x1024, .f32⟩
  | .hbm, ⟨6, _⟩ => ⟨S8448x1024, .f32⟩
  | .hbm, ⟨7, _⟩ => ⟨S8448x1024, .bf16⟩
  | .hbm, ⟨8, _⟩ => ⟨S8448x1024, .f32⟩
  | .hbm, ⟨9, _⟩ => ⟨S8448x2816, .f32⟩
  | .hbm, ⟨10, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutDx.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S_, .bf16⟩
  | .hbm, ⟨3, _⟩ => ⟨S8448x1024, .bf16⟩
  | .hbm, ⟨4, _⟩ => ⟨S8448x1024, .f32⟩
  | .hbm, ⟨5, _⟩ => ⟨S1024x1024, .f32⟩
  | .hbm, ⟨6, _⟩ => ⟨S8448x1024, .f32⟩
  | .hbm, ⟨7, _⟩ => ⟨S8448x1024, .bf16⟩
  | .hbm, ⟨8, _⟩ => ⟨S8448x1024, .f32⟩
  | .hbm, ⟨9, _⟩ => ⟨S8448x1024, .f32⟩
  | .hbm, ⟨10, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== PbDx.lean ====
abbrev S8448x1024 : Shape := ⟨2, ![8448, 1024]⟩
abbrev S2048x1024 : Shape := ⟨2, ![2048, 1024]⟩
abbrev S8448x2048 : Shape := ⟨2, ![8448, 2048]⟩
abbrev S1408x1024 : Shape := ⟨2, ![1408, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S2048x1024, .bf16⟩
  | .hbm, ⟨2, _⟩ => ⟨S8448x2048, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PbDxRefIdeal.lean ====
abbrev S8448x1024 : Shape := ⟨2, ![8448, 1024]⟩
abbrev S2048x1024 : Shape := ⟨2, ![2048, 1024]⟩
abbrev S_ : Shape := ⟨0, ![]⟩
abbrev S8448x2048 : Shape := ⟨2, ![8448, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2048x1024, .bf16⟩
  | .hbm, ⟨2, _⟩ => ⟨S_, .bf16⟩
  | .hbm, ⟨3, _⟩ => ⟨S8448x2048, .bf16⟩
  | .hbm, ⟨4, _⟩ => ⟨S8448x2048, .f32⟩
  | .hbm, ⟨5, _⟩ => ⟨S2048x1024, .f32⟩
  | .hbm, ⟨6, _⟩ => ⟨S8448x1024, .f32⟩
  | .hbm, ⟨7, _⟩ => ⟨S8448x1024, .bf16⟩
  | .hbm, ⟨8, _⟩ => ⟨S8448x1024, .f32⟩
  | .hbm, ⟨9, _⟩ => ⟨S8448x2048, .f32⟩
  | .hbm, ⟨10, _⟩ => ⟨S8448x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InFw.lean ====
abbrev S8448x1024 : Shape := ⟨2, ![8448, 1024]⟩
abbrev S1024x10368 : Shape := ⟨2, ![1024, 10368]⟩
abbrev S8448x10368 : Shape := ⟨2, ![8448, 10368]⟩
abbrev S1408x1024 : Shape := ⟨2, ![1408, 1024]⟩
abbrev S1024x3456 : Shape := ⟨2, ![1024, 3456]⟩
abbrev S1408x3456 : Shape := ⟨2, ![1408, 3456]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x10368, .bf16⟩
  | .hbm, ⟨2, _⟩ => ⟨S8448x10368, .bf16⟩
  | .local _ .vmem, ⟨0, _⟩ => ⟨S1408x1024, .bf16⟩
  | .local _ .vmem, ⟨1, _⟩ => ⟨S1408x1024, .bf16⟩
  | .local _ .vmem, ⟨2, _⟩ => ⟨S1024x3456, .bf16⟩
  | .local _ .vmem, ⟨3, _⟩ => ⟨S1024x3456, .bf16⟩
  | .local _ .vmem, ⟨4, _⟩ => ⟨S1408x3456, .bf16⟩
  | .local _ .vmem, ⟨5, _⟩ => ⟨S1408x3456, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x3456 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwRefIdeal.lean ====
abbrev S8448x1024 : Shape := ⟨2, ![8448, 1024]⟩
abbrev S1024x10368 : Shape := ⟨2, ![1024, 10368]⟩
abbrev S8448x10368 : Shape := ⟨2, ![8448, 10368]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x10368, .bf16⟩
  | .hbm, ⟨2, _⟩ => ⟨S8448x1024, .f32⟩
  | .hbm, ⟨3, _⟩ => ⟨S1024x10368, .f32⟩
  | .hbm, ⟨4, _⟩ => ⟨S8448x10368, .f32⟩
  | .hbm, ⟨5, _⟩ => ⟨S8448x10368, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpFw.lean ====
abbrev S8448x1024 : Shape := ⟨2, ![8448, 1024]⟩
abbrev S1024x2816 : Shape := ⟨2, ![1024, 2816]⟩
abbrev S8448x2816 : Shape := ⟨2, ![8448, 2816]⟩
abbrev S1408x1024 : Shape := ⟨2, ![1408, 1024]⟩
abbrev S1408x2816 : Shape := ⟨2, ![1408, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x2816, .bf16⟩
  | .hbm, ⟨2, _⟩ => ⟨S8448x2816, .bf16⟩
  | .local _ .vmem, ⟨0, _⟩ => ⟨S1408x1024, .bf16⟩
  | .local _ .vmem, ⟨1, _⟩ => ⟨S1408x1024, .bf16⟩
  | .local _ .vmem, ⟨2, _⟩ => ⟨S1024x2816, .bf16⟩
  | .local _ .vmem, ⟨3, _⟩ => ⟨S1408x2816, .bf16⟩
  | .local _ .vmem, ⟨4, _⟩ => ⟨S1408x2816, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwRefIdeal.lean ====
abbrev S8448x1024 : Shape := ⟨2, ![8448, 1024]⟩
abbrev S1024x2816 : Shape := ⟨2, ![1024, 2816]⟩
abbrev S8448x2816 : Shape := ⟨2, ![8448, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x2816, .bf16⟩
  | .hbm, ⟨2, _⟩ => ⟨S8448x1024, .f32⟩
  | .hbm, ⟨3, _⟩ => ⟨S1024x2816, .f32⟩
  | .hbm, ⟨4, _⟩ => ⟨S8448x2816, .f32⟩
  | .hbm, ⟨5, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownFw.lean ====
abbrev S8448x2816 : Shape := ⟨2, ![8448, 2816]⟩
abbrev S2816x1024 : Shape := ⟨2, ![2816, 1024]⟩
abbrev S8448x1024 : Shape := ⟨2, ![8448, 1024]⟩
abbrev S768x1408 : Shape := ⟨2, ![768, 1408]⟩
abbrev S1408x1024 : Shape := ⟨2, ![1408, 1024]⟩
abbrev S768x1024 : Shape := ⟨2, ![768, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8448x2816, .bf16⟩
  | .hbm, ⟨1, _⟩ => ⟨S8448x2816, .bf16⟩
  | .hbm, ⟨2, _⟩ => ⟨S2816x1024, .bf16⟩
  | .hbm, ⟨3, _⟩ => ⟨S8448x1024, .bf16⟩
  | .local _ .vmem, ⟨0, _⟩ => ⟨S768x1408, .bf16⟩
  | .local _ .vmem, ⟨1, _⟩ => ⟨S768x1408, .bf16⟩
  | .local _ .vmem, ⟨2, _⟩ => ⟨S768x1408, .bf16⟩
  | .local _ .vmem, ⟨3, _⟩ => ⟨S768x1408, .bf16⟩
  | .local _ .vmem, ⟨4, _⟩ => ⟨S1408x1024, .bf16⟩
  | .local _ .vmem, ⟨5, _⟩ => ⟨S1408x1024, .bf16⟩
  | .local _ .vmem, ⟨6, _⟩ => ⟨S768x1024, .bf16⟩
  | .local _ .vmem, ⟨7, _⟩ => ⟨S768x1024, .bf16⟩
  | .local _ .vmem, ⟨8, _⟩ => ⟨S768x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v22 : BitVec 1 := Scalar.cmpi .eq arg2 c1_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwRefIdeal.lean ====
abbrev S8448x2816 : Shape := ⟨2, ![8448, 2816]⟩
abbrev S2816x1024 : Shape := ⟨2, ![2816, 1024]⟩
abbrev S_ : Shape := ⟨0, ![]⟩
abbrev S8448x1024 : Shape := ⟨2, ![8448, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x2816, .bf16⟩
  | .hbm, ⟨2, _⟩ => ⟨S2816x1024, .bf16⟩
  | .hbm, ⟨3, _⟩ => ⟨S8448x2816, .f32⟩
  | .hbm, ⟨4, _⟩ => ⟨S8448x2816, .f32⟩
  | .hbm, ⟨5, _⟩ => ⟨S8448x2816, .f32⟩
  | .hbm, ⟨6, _⟩ => ⟨S_, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S8448x2816, .f32⟩
  | .hbm, ⟨13, _⟩ => ⟨S8448x2816, .f32⟩
  | .hbm, ⟨14, _⟩ => ⟨S8448x2816, .f32⟩
  | .hbm, ⟨15, _⟩ => ⟨S8448x2816, .bf16⟩
  | .hbm, ⟨16, _⟩ => ⟨S8448x2816, .f32⟩
  | .hbm, ⟨17, _⟩ => ⟨S2816x1024, .f32⟩
  | .hbm, ⟨18, _⟩ => ⟨S8448x1024, .f32⟩
  | .hbm, ⟨19, _⟩ => ⟨S8448x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== OutFw.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwRefIdeal.lean ====
abbrev S8448x1024 : Shape := ⟨2, ![8448, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | .hbm, ⟨5, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PbFw.lean ====
abbrev S8448x2048 : Shape := ⟨2, ![8448, 2048]⟩
abbrev S2048x1024 : Shape := ⟨2, ![2048, 1024]⟩
abbrev S8448x1024 : Shape := ⟨2, ![8448, 1024]⟩
abbrev S1408x2048 : Shape := ⟨2, ![1408, 2048]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .bf16⟩
  | .hbm, ⟨1, _⟩ => ⟨S2048x1024, .bf16⟩
  | .hbm, ⟨2, _⟩ => ⟨S8448x1024, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PbFwRefIdeal.lean ====
abbrev S8448x2048 : Shape := ⟨2, ![8448, 2048]⟩
abbrev S2048x1024 : Shape := ⟨2, ![2048, 1024]⟩
abbrev S8448x1024 : Shape := ⟨2, ![8448, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x1024, .bf16⟩
  | .hbm, ⟨2, _⟩ => ⟨S8448x2048, .f32⟩
  | .hbm, ⟨3, _⟩ => ⟨S2048x1024, .f32⟩
  | .hbm, ⟨4, _⟩ => ⟨S8448x1024, .f32⟩
  | .hbm, ⟨5, _⟩ => ⟨S8448x1024, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ActBw.lean ====
abbrev S8448x2816 : Shape := ⟨2, ![8448, 2816]⟩
abbrev S768x2816 : Shape := ⟨2, ![768, 2816]⟩
abbrev S768x128 : Shape := ⟨2, ![768, 128]⟩

abbrev nBuf : Space → Nat
  | .hbm => 5
  | .vmem => 10
  | .smem => 0
  | _ => 0

abbrev bufTy : (tb : Table) → Fin (tcTables nBuf tb) → BufTy
  | .hbm, ⟨0, _⟩ => ⟨S8448x2816, .bf16⟩
  | .hbm, ⟨1, _⟩ => ⟨S8448x2816, .bf16⟩
  | .hbm, ⟨2, _⟩ => ⟨S8448x2816, .bf16⟩
  | .hbm, ⟨3, _⟩ => ⟨S8448x2816, .bf16⟩
  | .hbm, ⟨4, _⟩ => ⟨S8448x2816, .bf16⟩
  | .local _ .vmem, ⟨0, _⟩ => ⟨S768x2816, .bf16⟩
  | .local _ .vmem, ⟨1, _⟩ => ⟨S768x2816, .bf16⟩
  | .local _ .vmem, ⟨2, _⟩ => ⟨S768x2816, .bf16⟩
  | .local _ .vmem, ⟨3, _⟩ => ⟨S768x2816, .bf16⟩
  | .local _ .vmem, ⟨4, _⟩ => ⟨S768x2816, .bf16⟩
  | .local _ .vmem, ⟨5, _⟩ => ⟨S768x2816, .bf16⟩
  | .local _ .vmem, ⟨6, _⟩ => ⟨S768x2816, .bf16⟩
  | .local _ .vmem, ⟨7, _⟩ => ⟨S768x2816, .bf16⟩
  | .local _ .vmem, ⟨8, _⟩ => ⟨S768x2816, .bf16⟩
  | .local _ .vmem, ⟨9, _⟩ => ⟨S768x2816, .bf16⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32 : BitVec 32 := 0#32
  let c22_i32 : BitVec 32 := 22#32
  let v0 : BitVec 32 := Scalar.addi c0_i32 c22_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v1 : BitVec 32 := Scalar.muli arg6 c128_i32
  v1
def k0_off1 (k0_t1 : Fin k0_t1_loop.trips) : Fin 2 → Nat :=
  let c0 : Index := 0#32
  let c0_i32 : BitVec 32 := 0#32
  let c1_i32 : BitVec 32 := 1#32
  let arg6 : BitVec 32 := Scf.iv c0_i32 c1_i32 k0_t1
  let c128_i32 : BitVec 32 := 128#32
  let v1 : BitVec 32 := Scalar.muli arg6 c128_i32
  let v2 : BitVec 32 := v1
  let v3 : Index := Scalar.indexCast v2
  ![0, v3.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ActBwRefIdeal.lean ====
abbrev S8448x2816 : Shape := ⟨2, ![8448, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x2816, .bf16⟩
  | .hbm, ⟨2, _⟩ => ⟨S8448x2816, .bf16⟩
  | .hbm, ⟨3, _⟩ => ⟨S8448x2816, .f32⟩
  | .hbm, ⟨4, _⟩ => ⟨S8448x2816, .f32⟩
  | .hbm, ⟨5, _⟩ => ⟨S8448x2816, .f32⟩
  | .hbm, ⟨6, _⟩ => ⟨S_, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .bf16⟩
  | .hbm, ⟨20, _⟩ => ⟨S8448x2816, .f32⟩
  | .hbm, ⟨21, _⟩ => ⟨S8448x2816, .f32⟩
  | .hbm, ⟨22, _⟩ => ⟨S8448x2816, .f32⟩
  | .hbm, ⟨23, _⟩ => ⟨S8448x2816, .bf16⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== MergeFw.lean ====
abbrev S8448x1024 : Shape := ⟨2, ![8448, 1024]⟩
abbrev S8448x10368 : Shape := ⟨2, ![8448, 10368]⟩
abbrev S768x1024 : Shape := ⟨2, ![768, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x10368, .bf16⟩
  | .hbm, ⟨3, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .bf16⟩
  | .local _ .vmem, ⟨7, _⟩ => ⟨S768x1024, .bf16⟩
  | .local _ .vmem, ⟨8, _⟩ => ⟨S768x1024, .bf16⟩
  | .local _ .vmem, ⟨9, _⟩ => ⟨S768x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFwRefIdeal.lean ====
abbrev S8448x1024 : Shape := ⟨2, ![8448, 1024]⟩
abbrev S8448x10368 : Shape := ⟨2, ![8448, 10368]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x10368, .bf16⟩
  | .hbm, ⟨3, _⟩ => ⟨S8448x1024, .bf16⟩
  | .hbm, ⟨4, _⟩ => ⟨S8448x1024, .bf16⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448x1024, .f32⟩
  | .hbm, ⟨22, _⟩ => ⟨S8448x1024, .f32⟩
  | .hbm, ⟨23, _⟩ => ⟨S_, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== MergeBw.lean ====
abbrev S8448x1024 : Shape := ⟨2, ![8448, 1024]⟩
abbrev S8448x10368 : Shape := ⟨2, ![8448, 10368]⟩
abbrev S768x1024 : Shape := ⟨2, ![768, 1024]⟩
abbrev S768x2048 : Shape := ⟨2, ![768, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x10368, .bf16⟩
  | .hbm, ⟨4, _⟩ => ⟨S8448x10368, .bf16⟩
  | .hbm, ⟨5, _⟩ => ⟨S8448x1024, .bf16⟩
  | .hbm, ⟨6, _⟩ => ⟨S8448x1024, .bf16⟩
  | .hbm, ⟨7, _⟩ => ⟨S8448x10368, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .bf16⟩
  | .local _ .vmem, ⟨7, _⟩ => ⟨S768x1024, .bf16⟩
  | .local _ .vmem, ⟨8, _⟩ => ⟨S768x1024, .bf16⟩
  | .local _ .vmem, ⟨9, _⟩ => ⟨S768x1024, .bf16⟩
  | .local _ .vmem, ⟨10, _⟩ => ⟨S768x1024, .bf16⟩
  | .local _ .vmem, ⟨11, _⟩ => ⟨S768x1024, .bf16⟩
  | .local _ .vmem, ⟨12, _⟩ => ⟨S768x1024, .bf16⟩
  | .local _ .vmem, ⟨13, _⟩ => ⟨S768x1024, .bf16⟩
  | .local _ .vmem, ⟨14, _⟩ => ⟨S768x2048, .bf16⟩
  | .local _ .vmem, ⟨15, _⟩ => ⟨S768x2048, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeBwRefIdeal.lean ====
abbrev S8448x1024 : Shape := ⟨2, ![8448, 1024]⟩
abbrev S8448x10368 : Shape := ⟨2, ![8448, 10368]⟩
abbrev S_ : Shape := ⟨0, ![]⟩
abbrev S8448x8192 : Shape := ⟨2, ![8448, 8192]⟩
abbrev S8448x128 : Shape := ⟨2, ![8448, 128]⟩

abbrev nBuf : Space → Nat
  | .hbm => 53
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x10368, .bf16⟩
  | .hbm, ⟨4, _⟩ => ⟨S8448x10368, .bf16⟩
  | .hbm, ⟨5, _⟩ => ⟨S8448x1024, .bf16⟩
  | .hbm, ⟨6, _⟩ => ⟨S8448x1024, .bf16⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S_, .f32⟩
  | .hbm, ⟨14, _⟩ => ⟨S8448x1024, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S_, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S8448x1024, .f32⟩
  | .hbm, ⟨31, _⟩ => ⟨S8448x1024, .f32⟩
  | .hbm, ⟨32, _⟩ => ⟨S_, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .bf16⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S8448x1024, .bf16⟩
  | .hbm, ⟨47, _⟩ => ⟨S8448x1024, .bf16⟩
  | .hbm, ⟨48, _⟩ => ⟨S8448x1024, .bf16⟩
  | .hbm, ⟨49, _⟩ => ⟨S8448x1024, .bf16⟩
  | .hbm, ⟨50, _⟩ => ⟨S8448x8192, .bf16⟩
  | .hbm, ⟨51, _⟩ => ⟨S8448x128, .bf16⟩
  | .hbm, ⟨52, _⟩ => ⟨S8448x10368, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== SmallFw.lean ====
abbrev S8448x1024 : Shape := ⟨2, ![8448, 1024]⟩
abbrev S1024x128 : Shape := ⟨2, ![1024, 128]⟩
abbrev S8448x128 : Shape := ⟨2, ![8448, 128]⟩
abbrev S1408x1024 : Shape := ⟨2, ![1408, 1024]⟩
abbrev S1408x128 : Shape := ⟨2, ![1408, 128]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x128, .bf16⟩
  | .hbm, ⟨2, _⟩ => ⟨S8448x128, .f32⟩
  | .local _ .vmem, ⟨0, _⟩ => ⟨S1408x1024, .bf16⟩
  | .local _ .vmem, ⟨1, _⟩ => ⟨S1408x1024, .bf16⟩
  | .local _ .vmem, ⟨2, _⟩ => ⟨S1024x128, .bf16⟩
  | .local _ .vmem, ⟨3, _⟩ => ⟨S1408x128, .f32⟩
  | .local _ .vmem, ⟨4, _⟩ => ⟨S1408x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SmallFwRefIdeal.lean ====
abbrev S8448x1024 : Shape := ⟨2, ![8448, 1024]⟩
abbrev S1024x128 : Shape := ⟨2, ![1024, 128]⟩
abbrev S8448x128 : Shape := ⟨2, ![8448, 128]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x128, .bf16⟩
  | .hbm, ⟨2, _⟩ => ⟨S8448x1024, .f32⟩
  | .hbm, ⟨3, _⟩ => ⟨S1024x128, .f32⟩
  | .hbm, ⟨4, _⟩ => ⟨S8448x128, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NormFw.lean ====
abbrev S8192x1024 : Shape := ⟨2, ![8192, 1024]⟩
abbrev S256x1024 : Shape := ⟨2, ![256, 1024]⟩
abbrev S8448x1024 : Shape := ⟨2, ![8448, 1024]⟩
abbrev S1x1024 : Shape := ⟨2, ![1, 1024]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S8448x1024, .bf16⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8448x1024, .f32⟩
  | .hbm, ⟨8, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormFwRefIdeal.lean ====
abbrev S8192x1024 : Shape := ⟨2, ![8192, 1024]⟩
abbrev S256x1024 : Shape := ⟨2, ![256, 1024]⟩
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S8448x1024, .bf16⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S_, .f32⟩
  | .hbm, ⟨14, _⟩ => ⟨S8448, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x1, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== NormBw.lean ====
abbrev S8448x1024 : Shape := ⟨2, ![8448, 1024]⟩
abbrev S1x1024 : Shape := ⟨2, ![1, 1024]⟩
abbrev S8x1024 : Shape := ⟨2, ![8, 1024]⟩
abbrev S768x1024 : Shape := ⟨2, ![768, 1024]⟩
abbrev S768 : Shape := ⟨1, ![768]⟩
abbrev S768x1 : Shape := ⟨2, ![768, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .f32⟩
  | .hbm, ⟨3, _⟩ => ⟨S8448x1024, .f32⟩
  | .hbm, ⟨4, _⟩ => ⟨S8448x1024, .bf16⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8448x1024, .f32⟩
  | .hbm, ⟨9, _⟩ => ⟨S8448x1024, .bf16⟩
  | .hbm, ⟨10, _⟩ => ⟨S8x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .bf16⟩
  | .local _ .vmem, ⟨9, _⟩ => ⟨S768x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S768x1024, .f32⟩
  | .local _ .vmem, ⟨14, _⟩ => ⟨S768x1024, .f32⟩
  | .local _ .vmem, ⟨15, _⟩ => ⟨S768x1024, .bf16⟩
  | .local _ .vmem, ⟨16, _⟩ => ⟨S768x1024, .bf16⟩
  | .local _ .vmem, ⟨17, _⟩ => ⟨S8x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== NormBwRefIdeal.lean ====
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .f32⟩
  | .hbm, ⟨3, _⟩ => ⟨S8448x1024, .f32⟩
  | .hbm, ⟨4, _⟩ => ⟨S8448x1024, .bf16⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S1x1024, .f32⟩
  | .hbm, ⟨13, _⟩ => ⟨S8448x1024, .f32⟩
  | .hbm, ⟨14, _⟩ => ⟨S_, .f32⟩
  | .hbm, ⟨15, _⟩ => ⟨S8448, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S8448x1, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8448x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8448x1024, .f32⟩
  | .hbm, ⟨53, _⟩ => ⟨S8448x1024, .f32⟩
  | .hbm, ⟨54, _⟩ => ⟨S8448x1024, .f32⟩
  | .hbm, ⟨55, _⟩ => ⟨S_, .f32⟩
  | .hbm, ⟨56, _⟩ => ⟨S8448, .f32⟩
  | .hbm, ⟨57, _⟩ => ⟨S8448x1, .f32⟩
  | .hbm, ⟨58, _⟩ => ⟨S8448x1024, .f32⟩
  | .hbm, ⟨59, _⟩ => ⟨S8448x1024, .f32⟩
  | .hbm, ⟨60, _⟩ => ⟨S8448x1, .f32⟩
  | .hbm, ⟨61, _⟩ => ⟨S_, .f32⟩
  | .hbm, ⟨62, _⟩ => ⟨S8448x1, .f32⟩
  | .hbm, ⟨63, _⟩ => ⟨S8448x1, .f32⟩
  | .hbm, ⟨64, _⟩ => ⟨S_, .f32⟩
  | .hbm, ⟨65, _⟩ => ⟨S8448, .f32⟩
  | .hbm, ⟨66, _⟩ => ⟨S8448x1024, .f32⟩
  | .hbm, ⟨67, _⟩ => ⟨S8448x1024, .f32⟩
  | .hbm, ⟨68, _⟩ => ⟨S8448x1024, .f32⟩
  | .hbm, ⟨69, _⟩ => ⟨S8448x1024, .f32⟩
  | .hbm, ⟨70, _⟩ => ⟨S8448x1024, .f32⟩
  | .hbm, ⟨71, _⟩ => ⟨S8448x1024, .f32⟩
  | .hbm, ⟨72, _⟩ => ⟨S8448x1024, .f32⟩
  | .hbm, ⟨73, _⟩ => ⟨S8448x1024, .f32⟩
  | .hbm, ⟨74, _⟩ => ⟨S8448x1024, .f32⟩
  | .hbm, ⟨75, _⟩ => ⟨S8448x1024, .f32⟩
  | .hbm, ⟨76, _⟩ => ⟨S8448x1024, .f32⟩
  | .hbm, ⟨77, _⟩ => ⟨S8448x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8448x1024, .bf16⟩
  | .hbm, ⟨82, _⟩ => ⟨S_, .f32⟩
  | .hbm, ⟨83, _⟩ => ⟨S4x1024, .f32⟩
  | .hbm, ⟨84, _⟩ => ⟨S8x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Proof.Sweep.lean ====
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Sweep

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What the staging buffers of the eight outputs and the carried scratch hold after a point. -/
abbrev Outs (F : FTy → Type) : Type := Vec F S128x512 .bf16 × Vec F S128x512 .bf16 × Vec F S128x1024 .bf16 × Vec F S128x512 .f32 × Vec F S128x512 .bf16 × Vec F S128x512 .bf16 × Vec F S128x1024 .bf16 × Vec F S128x512 .f32 × Vec F S2x4x256x128 .f32

/-- The body's run at the first point, at the point's buffers and input blocks. -/
def runA (c : Dev nD) (t : Fin cfg0.N) (h0 : t.val % 66 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) (X0_0 m c t) (X0_1 m c t) (X0_2 m c t) (iblk m c 3 t) (X0_4 m c t) (X0_5 m c t) (X0_6 m c t) (iblk m c 7 t) (iblk m c 8 t) (iblk m c 9 t) (iblk m c 10 t) (iblk m c 11 t) (iblk m c 12 t) (iblk m c 13 t)

/-- The body's run at a later point, over what the scratch held (`xs`). -/
def runB (c : Dev nD) (t : Fin cfg0.N) (h0 : ¬t.val % 66 = 0) (xs : Vec F S2x4x256x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (fun h => h0 ((hcond0_0 t).mp h)) (X0_0 m c t) (X0_1 m c t) (X0_2 m c t) (iblk m c 3 t) (X0_4 m c t) (X0_5 m c t) (X0_6 m c t) (iblk m c 7 t) (iblk m c 8 t) (iblk m c 9 t) (iblk m c 10 t) (iblk m c 11 t) (iblk m c 12 t) (iblk m c 13 t) xs

/-- What the first point leaves: the stored pieces read back. -/
def ptA (c : Dev nD) (t : Fin cfg0.N) (h0 : t.val % 66 = 0) : Outs F :=
   (VO0_14.read (Elt F) (VO0_14.writes (Elt F) VO0_14.junk (runA m c t h0).1),
    VO0_15.read (Elt F) (VO0_15.writes (Elt F) VO0_15.junk (runA m c t h0).2.1),
    VO0_16.read (Elt F) (VO0_16.writes (Elt F) VO0_16.junk (runA m c t h0).2.2.1),
    VO0_17.read (Elt F) (VO0_17.writes (Elt F) VO0_17.junk (runA m c t h0).2.2.2.1),
    VO0_18.read (Elt F) (VO0_18.writes (Elt F) VO0_18.junk (runA m c t h0).2.2.2.2.1),
    VO0_19.read (Elt F) (VO0_19.writes (Elt F) VO0_19.junk (runA m c t h0).2.2.2.2.2.1),
    VO0_20.read (Elt F) (VO0_20.writes (Elt F) VO0_20.junk (runA m c t h0).2.2.2.2.2.2.1),
    VO0_21.read (Elt F) (VO0_21.writes (Elt F) VO0_21.junk (runA m c t h0).2.2.2.2.2.2.2.1),
    VS0_0.read (Elt F) (VS0_0.writes (Elt F) VS0_0.junk (runA m c t h0).2.2.2.2.2.2.2.2.1))

/-- What a later point leaves. -/
def ptB (c : Dev nD) (t : Fin cfg0.N) (h0 : ¬t.val % 66 = 0) (xs : Vec F S2x4x256x128 .f32) : Outs F :=
   (VO0_14.read (Elt F) (VO0_14.writes (Elt F) VO0_14.junk (runB m c t h0 xs).1),
    VO0_15.read (Elt F) (VO0_15.writes (Elt F) VO0_15.junk (runB m c t h0 xs).2.1),
    VO0_16.read (Elt F) (VO0_16.writes (Elt F) VO0_16.junk (runB m c t h0 xs).2.2.1),
    VO0_17.read (Elt F) (VO0_17.writes (Elt F) VO0_17.junk (runB m c t h0 xs).2.2.2.1),
    VO0_18.read (Elt F) (VO0_18.writes (Elt F) VO0_18.junk (runB m c t h0 xs).2.2.2.2.1),
    VO0_19.read (Elt F) (VO0_19.writes (Elt F) VO0_19.junk (runB m c t h0 xs).2.2.2.2.2.1),
    VO0_20.read (Elt F) (VO0_20.writes (Elt F) VO0_20.junk (runB m c t h0 xs).2.2.2.2.2.2.1),
    VO0_21.read (Elt F) (VO0_21.writes (Elt F) VO0_21.junk (runB m c t h0 xs).2.2.2.2.2.2.2.1),
    VS0_0.read (Elt F) (VS0_0.writes (Elt F) VS0_0.junk (runB m c t h0 xs).2.2.2.2.2.2.2.2.1))

/-- What the buffers and the scratch hold after the body at position `n`, point by point. -/
def outsAt0 (c : Dev nD) : (n : ℕ) → n < cfg0.N → Outs F
  | 0, hn => ptA m c ⟨0, hn⟩ (Nat.zero_mod _)
  | n + 1, hn =>
    if h0 : (n + 1) % 66 = 0 then ptA m c ⟨n + 1, hn⟩ h0
    else ptB m c ⟨n + 1, hn⟩ h0 (outsAt0 c n (Nat.lt_of_succ_lt hn)).2.2.2.2.2.2.2.2

theorem outsAt0_A (c : Dev nD) (t : Fin cfg0.N) (h0 : t.val % 66 = 0) :
    outsAt0 m c t.val t.isLt = ptA m c t h0 := by
  obtain ⟨n, hn⟩ := t
  cases n with
  | zero => rw [outsAt0]
  | succ n =>
    have h0' : (n + 1) % 66 = 0 := h0
    rw [outsAt0, dif_pos h0']

theorem outsAt0_B (c : Dev nD) (t : Fin cfg0.N) (h0 : ¬t.val % 66 = 0) :
    outsAt0 m c t.val t.isLt
      = ptB m c t h0 (outsAt0 m c (t.val - 1) (Nat.lt_of_le_of_lt (Nat.sub_le _ _) t.isLt)).2.2.2.2.2.2.2.2 := by
  obtain ⟨n, hn⟩ := t
  cases n with
  | zero => exact absurd (Nat.zero_mod _) h0
  | succ n =>
    have h0' : ¬(n + 1) % 66 = 0 := h0
    rw [outsAt0, dif_neg h0']
    rfl

theorem coverA_14 (c : Dev nD) (t : Fin cfg0.N) (h0 : t.val % 66 = 0) (y : S128x512.Idx) :
    ∃ pc ∈ (runA m c t h0).1, y ∈ pc.1.set :=
  View.cover_of_tiledL (runA m c t h0).1 S128x512.size (by sl_kernel_rfl) y

theorem coverA_15 (c : Dev nD) (t : Fin cfg0.N) (h0 : t.val % 66 = 0) (y : S128x512.Idx) :
    ∃ pc ∈ (runA m c t h0).2.1, y ∈ pc.1.set :=
  View.cover_of_tiledL (runA m c t h0).2.1 S128x512.size (by sl_kernel_rfl) y

theorem coverA_16 (c : Dev nD) (t : Fin cfg0.N) (h0 : t.val % 66 = 0) (y : S128x1024.Idx) :
    ∃ pc ∈ (runA m c t h0).2.2.1, y ∈ pc.1.set :=
  View.cover_of_tiledL (runA m c t h0).2.2.1 S128x256.size (by sl_kernel_rfl) y

theorem coverA_17 (c : Dev nD) (t : Fin cfg0.N) (h0 : t.val % 66 = 0) (y : S128x512.Idx) :
    ∃ pc ∈ (runA m c t h0).2.2.2.1, y ∈ pc.1.set :=
  View.cover_of_tiledL (runA m c t h0).2.2.2.1 S128x512.size (by sl_kernel_rfl) y

theorem coverA_18 (c : Dev nD) (t : Fin cfg0.N) (h0 : t.val % 66 = 0) (y : S128x512.Idx) :
    ∃ pc ∈ (runA m c t h0).2.2.2.2.1, y ∈ pc.1.set :=
  View.cover_of_tiledL (runA m c t h0).2.2.2.2.1 S128x512.size (by sl_kernel_rfl) y

theorem coverA_19 (c : Dev nD) (t : Fin cfg0.N) (h0 : t.val % 66 = 0) (y : S128x512.Idx) :
    ∃ pc ∈ (runA m c t h0).2.2.2.2.2.1, y ∈ pc.1.set :=
  View.cover_of_tiledL (runA m c t h0).2.2.2.2.2.1 S128x512.size (by sl_kernel_rfl) y

theorem coverA_20 (c : Dev nD) (t : Fin cfg0.N) (h0 : t.val % 66 = 0) (y : S128x1024.Idx) :
    ∃ pc ∈ (runA m c t h0).2.2.2.2.2.2.1, y ∈ pc.1.set :=
  View.cover_of_tiledL (runA m c t h0).2.2.2.2.2.2.1 S128x256.size (by sl_kernel_rfl) y

theorem coverA_21 (c : Dev nD) (t : Fin cfg0.N) (h0 : t.val % 66 = 0) (y : S128x512.Idx) :
    ∃ pc ∈ (runA m c t h0).2.2.2.2.2.2.2.1, y ∈ pc.1.set :=
  View.cover_of_tiledL (runA m c t h0).2.2.2.2.2.2.2.1 S128x512.size (by sl_kernel_rfl) y

theorem coverA_0 (c : Dev nD) (t : Fin cfg0.N) (h0 : t.val % 66 = 0) (y : S2x4x256x128.Idx) :
    ∃ pc ∈ (runA m c t h0).2.2.2.2.2.2.2.2.1, y ∈ pc.1.set :=
  View.cover_of_tiledL (runA m c t h0).2.2.2.2.2.2.2.2.1 S1x1x256x128.size (by sl_kernel_rfl) y

theorem coverB_14 (c : Dev nD) (t : Fin cfg0.N) (h0 : ¬t.val % 66 = 0) (xs : Vec F S2x4x256x128 .f32) (y : S128x512.Idx) :
    ∃ pc ∈ (runB m c t h0 xs).1, y ∈ pc.1.set :=
  View.cover_of_tiledL (runB m c t h0 xs).1 S128x512.size (by sl_kernel_rfl) y

theorem coverB_15 (c : Dev nD) (t : Fin cfg0.N) (h0 : ¬t.val % 66 = 0) (xs : Vec F S2x4x256x128 .f32) (y : S128x512.Idx) :
    ∃ pc ∈ (runB m c t h0 xs).2.1, y ∈ pc.1.set :=
  View.cover_of_tiledL (runB m c t h0 xs).2.1 S128x512.size (by sl_kernel_rfl) y

theorem coverB_16 (c : Dev nD) (t : Fin cfg0.N) (h0 : ¬t.val % 66 = 0) (xs : Vec F S2x4x256x128 .f32) (y : S128x1024.Idx) :
    ∃ pc ∈ (runB m c t h0 xs).2.2.1, y ∈ pc.1.set :=
  View.cover_of_tiledL (runB m c t h0 xs).2.2.1 S128x256.size (by sl_kernel_rfl) y

theorem coverB_17 (c : Dev nD) (t : Fin cfg0.N) (h0 : ¬t.val % 66 = 0) (xs : Vec F S2x4x256x128 .f32) (y : S128x512.Idx) :
    ∃ pc ∈ (runB m c t h0 xs).2.2.2.1, y ∈ pc.1.set :=
  View.cover_of_tiledL (runB m c t h0 xs).2.2.2.1 S128x512.size (by sl_kernel_rfl) y

theorem coverB_18 (c : Dev nD) (t : Fin cfg0.N) (h0 : ¬t.val % 66 = 0) (xs : Vec F S2x4x256x128 .f32) (y : S128x512.Idx) :
    ∃ pc ∈ (runB m c t h0 xs).2.2.2.2.1, y ∈ pc.1.set :=
  View.cover_of_tiledL (runB m c t h0 xs).2.2.2.2.1 S128x512.size (by sl_kernel_rfl) y

theorem coverB_19 (c : Dev nD) (t : Fin cfg0.N) (h0 : ¬t.val % 66 = 0) (xs : Vec F S2x4x256x128 .f32) (y : S128x512.Idx) :
    ∃ pc ∈ (runB m c t h0 xs).2.2.2.2.2.1, y ∈ pc.1.set :=
  View.cover_of_tiledL (runB m c t h0 xs).2.2.2.2.2.1 S128x512.size (by sl_kernel_rfl) y

theorem coverB_20 (c : Dev nD) (t : Fin cfg0.N) (h0 : ¬t.val % 66 = 0) (xs : Vec F S2x4x256x128 .f32) (y : S128x1024.Idx) :
    ∃ pc ∈ (runB m c t h0 xs).2.2.2.2.2.2.1, y ∈ pc.1.set :=
  View.cover_of_tiledL (runB m c t h0 xs).2.2.2.2.2.2.1 S128x256.size (by sl_kernel_rfl) y

theorem coverB_21 (c : Dev nD) (t : Fin cfg0.N) (h0 : ¬t.val % 66 = 0) (xs : Vec F S2x4x256x128 .f32) (y : S128x512.Idx) :
    ∃ pc ∈ (runB m c t h0 xs).2.2.2.2.2.2.2.1, y ∈ pc.1.set :=
  View.cover_of_tiledL (runB m c t h0 xs).2.2.2.2.2.2.2.1 S128x512.size (by sl_kernel_rfl) y

theorem coverB_0 (c : Dev nD) (t : Fin cfg0.N) (h0 : ¬t.val % 66 = 0) (xs : Vec F S2x4x256x128 .f32) (y : S2x4x256x128.Idx) :
    ∃ pc ∈ (runB m c t h0 xs).2.2.2.2.2.2.2.2.1, y ∈ pc.1.set :=
  View.cover_of_tiledL (runB m c t h0 xs).2.2.2.2.2.2.2.2.1 S1x1x256x128.size (by sl_kernel_rfl) y

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => X0_4 m c t
    | ⟨5, _⟩ => X0_5 m c t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, _⟩ => (outsAt0 m c t.val t.isLt).2.2.1
    | ⟨17, _⟩ => (outsAt0 m c t.val t.isLt).2.2.2.1
    | ⟨18, _⟩ => (outsAt0 m c t.val t.isLt).2.2.2.2.1
    | ⟨19, _⟩ => (outsAt0 m c t.val t.isLt).2.2.2.2.2.1
    | ⟨20, _⟩ => (outsAt0 m c t.val t.isLt).2.2.2.2.2.2.1
    | ⟨21, _⟩ => (outsAt0 m c t.val t.isLt).2.2.2.2.2.2.2.1
    | ⟨_ + 22, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_16 (c : Dev nD) (t : Fin cfg0.N) : (dats m 0 c).after 16 t = (outsAt0 m c t.val t.isLt).2.2.1 := by dsimp only [dats]
theorem after0_17 (c : Dev nD) (t : Fin cfg0.N) : (dats m 0 c).after 17 t = (outsAt0 m c t.val t.isLt).2.2.2.1 := by dsimp only [dats]
theorem after0_18 (c : Dev nD) (t : Fin cfg0.N) : (dats m 0 c).after 18 t = (outsAt0 m c t.val t.isLt).2.2.2.2.1 := by dsimp only [dats]
theorem after0_19 (c : Dev nD) (t : Fin cfg0.N) : (dats m 0 c).after 19 t = (outsAt0 m c t.val t.isLt).2.2.2.2.2.1 := by dsimp only [dats]
theorem after0_20 (c : Dev nD) (t : Fin cfg0.N) : (dats m 0 c).after 20 t = (outsAt0 m c t.val t.isLt).2.2.2.2.2.2.1 := by dsimp only [dats]
theorem after0_21 (c : Dev nD) (t : Fin cfg0.N) : (dats m 0 c).after 21 t = (outsAt0 m c t.val t.isLt).2.2.2.2.2.2.2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.succ = PhiS m c (t.val + 1) t.isLt from rfl, PhiS_succ]
  have hN : t.val < 66 := lt_of_lt_of_eq t.isLt (show cfg0.N = 66 from N_0)
  by_cases h0 : t.val % 66 = 0
  · by_cases hz : t.val = 0
    · rw [PhiS_castSucc m c t, PhiS_zero m c _ _ hz, PhiA0_eq]
      rw [outsAt0_A m c t h0]
      unfold ptA; dsimp only
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runA m c t h0).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩⟩
      isplitl [HS0 Hg]
      · isplitl [HS0]
        · unfold owns; iexists _; isplitr
          swap; · iexact HS0
          ipureintro; exact View.read_writes_of_cover _ _ _ _ _ (coverA_0 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (coverA_14 m c t h0)
      isplitl [H15]
      · unfold owns; iexists _; isplitr
        swap; · iexact H15
        ipureintro; exact View.read_writes_of_cover _ _ _ _ _ (coverA_15 m c t h0)
      isplitl [H16]
      · unfold owns; iexists _; isplitr
        swap; · iexact H16
        ipureintro; exact View.read_writes_of_cover _ _ _ _ _ (coverA_16 m c t h0)
      isplitl [H17]
      · unfold owns; iexists _; isplitr
        swap; · iexact H17
        ipureintro; exact View.read_writes_of_cover _ _ _ _ _ (coverA_17 m c t h0)
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      isplitl [H20]
      · unfold owns; iexists _; isplitr
        swap; · iexact H20
        ipureintro; exact View.read_writes_of_cover _ _ _ _ _ (coverA_20 m c t h0)
      unfold owns; iexists _; isplitr
      swap; · iexact H21
      ipureintro; exact View.read_writes_of_cover _ _ _ _ _ (coverA_21 m c t h0)
    · exfalso; have hN : t.val < 66 := lt_of_lt_of_eq t.isLt (show cfg0.N = 66 from N_0); omega
  · by_cases hz : t.val = 0
    · exfalso; have hN : t.val < 66 := lt_of_lt_of_eq t.isLt (show cfg0.N = 66 from N_0); omega
    · rw [PhiS_castSucc m c t, PhiS_pos m c _ _ hz]
      rw [outsAt0_B m c t h0]
      unfold ptB; dsimp only
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runB m c t h0 _).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩⟩
      isplitl [HS0 Hg]
      · isplitl [HS0]
        · unfold owns; iexists _; isplitr
          swap; · iexact HS0
          ipureintro; exact View.read_writes_of_cover _ _ _ _ _ (coverB_0 m c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (coverB_14 m c t h0 _)
      isplitl [H15]
      · unfold owns; iexists _; isplitr
        swap; · iexact H15
        ipureintro; exact View.read_writes_of_cover _ _ _ _ _ (coverB_15 m c t h0 _)
      isplitl [H16]
      · unfold owns; iexists _; isplitr
        swap; · iexact H16
        ipureintro; exact View.read_writes_of_cover _ _ _ _ _ (coverB_16 m c t h0 _)
      isplitl [H17]
      · unfold owns; iexists _; isplitr
        swap; · iexact H17
        ipureintro; exact View.read_writes_of_cover _ _ _ _ _ (coverB_17 m c t h0 _)
      isplitl [H18]
      · unfold owns; iexists _; isplitr
        swap; · iexact H18
        ipureintro; exact View.read_writes_of_cover _ _ _ _ _ (coverB_18 m c t h0 _)
      isplitl [H19]
      · unfold owns; iexists _; isplitr
        swap; · iexact H19
        ipureintro; exact View.read_writes_of_cover _ _ _ _ _ (coverB_19 m c t h0 _)
      isplitl [H20]
      · unfold owns; iexists _; isplitr
        swap; · iexact H20
        ipureintro; exact View.read_writes_of_cover _ _ _ _ _ (coverB_20 m c t h0 _)
      unfold owns; iexists _; isplitr
      swap; · iexact H21
      ipureintro; exact View.read_writes_of_cover _ _ _ _ _ (coverB_21 m c t h0 _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 66 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Sweep

end
-- ==== Proof.Text.lean ====
/- The kernel's program at machine numbers and its ideal program have one text: the two body tables and the two hosts are equal over any numbers. -/
module

public import proofs.«01_k».proof.Defs
public import proofs.«01_k».proof.Proof.Gen.Kernel
public import proofs.«01_k».proof.Proof.Gen.KernelIdeal

@[expose] public section

noncomputable section

namespace Cert.Text

open Idealize.ShloMosaic Idealize.SL.Sem

variable {F : FTy → Type} [FloatOps F]

attribute [local instance] Cert.Kernel.Gen.facts Cert.KernelIdeal.Gen.facts

set_option maxHeartbeats 20000000
set_option maxRecDepth 100000

set_option smartUnfolding false in
/-- The kernels' body tables are one. -/
theorem defs₀_eq : Cert.Kernel.defs₀ (F := F) = Cert.KernelIdeal.defs₀ (F := F) := rfl

/-- The body tables with the pipelines are one. -/
theorem defs_eq : Cert.Kernel.defs (F := F) = Cert.KernelIdeal.defs (F := F) :=
  congrArg (Pipeline.defs (Cert.KernelIdeal.pcfgs (F := F))) defs₀_eq

/-- The host programs are one. -/
theorem main_eq : Cert.Kernel.main (F := F) = Cert.KernelIdeal.main (F := F) := rfl

/-- The two programs run alike. -/
theorem run_eq : θ_run (Cert.Kernel.defs (F := F)) (onTc (τ := Cert.Kernel.τ) (Cert.Kernel.main (F := F)))
    = θ_run (Cert.KernelIdeal.defs (F := F)) (onTc (τ := Cert.KernelIdeal.τ) (Cert.KernelIdeal.main (F := F))) :=
  congrArg₂ (fun d p => θ_run d (onTc (τ := Cert.KernelIdeal.τ) p)) defs_eq main_eq

end Cert.Text

end
-- ==== Proof.HostRun.lean ====
module

public import proofs.«01_k».proof.Proof.Gen.KernelIdeal.Frame.Runs

@[expose] public section

set_option maxRecDepth 16384

/-! What the host program before the launch leaves in the arrays the launch reads: the gates' matrices and biases, and
    the saved states of both directions. -/

noncomputable section

namespace Cert.KernelIdeal.HostRun

open Cert.KernelIdeal Cert.KernelIdeal.Gen Idealize.ShloMosaic Idealize.ShloMosaic.TcCoe Idealize.ShloMosaic.StableHlo

variable {F : FTy → Type} [FloatOps F]

/-! ## The operations, named -/

/-- The two matrices one above the other. -/
def stackU (a b : Vec F S1x128x512 .f32) : Vec F S2x128x512 .f32 :=
  concatenate S2x128x512 0 [⟨S1x128x512, a⟩, ⟨S1x128x512, b⟩] concatenates_S1x128x512_S1x128x512_S2x128x512_d0
/-- The two biases one above the other. -/
def stackB (a b : Vec F S1x1x512 .f32) : Vec F S2x1x512 .f32 :=
  concatenate S2x1x512 0 [⟨S1x1x512, a⟩, ⟨S1x1x512, b⟩] concatenates_S1x1x512_S1x1x512_S2x1x512_d0
/-- The two directions' states one above the other. -/
def stackH (a b : Vec F S1x66x4x256x128 .f32) : Vec F S2x66x4x256x128 .f32 :=
  concatenate S2x66x4x256x128 0 [⟨S1x66x4x256x128, a⟩, ⟨S1x66x4x256x128, b⟩] concatenates_S1x66x4x256x128_S1x66x4x256x128_S2x66x4x256x128_d0
/-- The last 256 rows before the others. -/
def catK (a : Vec F S256x4x128 .f32) (b : Vec F S8192x4x128 .f32) : Vec F S8448x4x128 .f32 :=
  concatenate S8448x4x128 0 [⟨S256x4x128, a⟩, ⟨S8192x4x128, b⟩] concatenates_S256x4x128_S8192x4x128_S8448x4x128_d0
/-- The last 256 rows before the others. -/
def catV (a : Vec F S256x4x256 .f32) (b : Vec F S8192x4x256 .f32) : Vec F S8448x4x256 .f32 :=
  concatenate S8448x4x256 0 [⟨S256x4x256, a⟩, ⟨S8192x4x256, b⟩] concatenates_S256x4x256_S8192x4x256_S8448x4x256_d0
/-- The rows in the order the forward direction visits them. -/
def ordK (x : Vec F S8448x4x128 .f32) : Vec F S8448x4x128 .f32 :=
  catK (extractStridedSlice S256x4x128 ![8192, 0, 0] x slices_S8448x4x128_S256x4x128_8192_0_0) (extractStridedSlice S8192x4x128 ![0, 0, 0] x slices_S8448x4x128_S8192x4x128_0_0_0)
/-- The rows in the order the forward direction visits them. -/
def ordV (x : Vec F S8448x4x256 .f32) : Vec F S8448x4x256 .f32 :=
  catV (extractStridedSlice S256x4x256 ![8192, 0, 0] x slices_S8448x4x256_S256x4x256_8192_0_0) (extractStridedSlice S8192x4x256 ![0, 0, 0] x slices_S8448x4x256_S8192x4x256_0_0_0)

/-- A 16-row matrix placed from a row on in 128 rows of zeros. -/
def place (n : BitVec 32) (u : Vec F S16x512 .f32) : Vec F S128x512 .f32 :=
  Host.scatter scatter_S128x512_S1_S16x512_01_n_0_0 (fun _ b => b) (broadcastInDim S128x512 ![] bcast_S_S128x512 (constant S_ .f32 0x00000000#32)) (broadcastInDim S1 ![] bcast_S_S1 (constantI S_ 32 n)) u
/-- The two directions' matrices. -/
def ups (u v : Vec F S16x512 .f32) : Vec F S2x128x512 .f32 :=
  stackU (broadcastInDim S1x128x512 ![1, 2] bcast_S128x512_S1x128x512_1_2 (place 0#32 u)) (broadcastInDim S1x128x512 ![1, 2] bcast_S128x512_S1x128x512_1_2 (place 16#32 v))
/-- The two directions' biases. -/
def biases (u v : Vec F S1x512 .f32) : Vec F S2x1x512 .f32 :=
  stackB (broadcastInDim S1x1x512 ![1, 2] bcast_S1x512_S1x1x512_1_2 u) (broadcastInDim S1x1x512 ![1, 2] bcast_S1x512_S1x1x512_1_2 v)
/-- The keys by heads. -/
def keys (x : Vec F S8448x10368 .bf16) : Vec F S8448x4x128 .f32 :=
  shapeCast _ (extf .f32 (extractStridedSlice S8448x512 ![0, 6656] x slices_S8448x10368_S8448x512_0_6656) bitsLt_bf16_f32) shapeCasts_S8448x512_S8448x4x128
/-- The values by heads. -/
def vals (x : Vec F S8448x10368 .bf16) : Vec F S8448x4x256 .f32 :=
  shapeCast _ (extf .f32 (extractStridedSlice S8448x1024 ![0, 7168] x slices_S8448x10368_S8448x1024_0_7168) bitsLt_bf16_f32) shapeCasts_S8448x1024_S8448x4x256
/-- A gate before its activation. -/
def gate (x : Vec F S8448x16 .f32) (u : Vec F S16x512 .f32) (b : Vec F S1x512 .f32) : Vec F S8448x512 .f32 :=
  addf (Host.dotGeneral dot_S8448x16_S16x512_S8448x512_1_0_0_1_n_n none x u) (broadcastInDim S8448x512 ![0, 1] bcast_S1x512_S8448x512_0_1 b)
/-- Zero at every entry. -/
def zero2 : Vec F S8448x512 .f32 := broadcastInDim S8448x512 ![] bcast_S_S8448x512 (constant S_ .f32 0x00000000#32)
/-- The softplus, as the host program writes it. -/
def softp (x : Vec F S8448x512 .f32) : Vec F S8448x512 .f32 :=
  select (cmpf .une (subf x zero2) (subf x zero2)) (addf x zero2) (addf (maximumf x zero2) (Host.log1p (Host.exp (Host.negf (Host.absf (subf x zero2))))))
/-- The log-sigmoid, as the host program writes it. -/
def logsig (x : Vec F S8448x512 .f32) : Vec F S8448x512 .f32 := Host.negf (softp (Host.negf x))
/-- The gate's logarithm by heads. -/
def decay (x : Vec F S8448x512 .f32) : Vec F S8448x4x128 .f32 :=
  shapeCast _ (Host.divf (logsig x) (broadcastInDim S8448x512 ![] bcast_S_S8448x512 (constant S_ .f32 0x41800000#32))) shapeCasts_S8448x512_S8448x4x128
/-- The running sum over the rows. -/
def cum (g : Vec F S8448x4x128 .f32) : Vec F S8448x4x128 .f32 :=
  Host.reduceWindowAdd ![8448, 1, 1] ![1, 1, 1] ![8447, 0, 0] ![0, 0, 0] g (broadcastInDim S_ ![] bcast_S_S_ (constant S_ .f32 0x00000000#32)) reduceWindows_S8448x4x128_S8448x4x128_w8448s1p8447_0_w1s1p0_0_w1s1p0_0 h_S_
/-- Whether a row lies before a chunk. -/
def early : (⟨S66x8448, .i1⟩ : BufTy).Contents (Elt F) :=
  cmpi .slt (iotaInDim S66x8448 32 1) (muli (iotaInDim S66x8448 32 0) (broadcastInDim S66x8448 ![] bcast_S_S66x8448 (constantI S_ 32 128#32)))
/-- The decay's exponent from a row to a chunk's start. -/
def expo (b g : Vec F S8448x4x128 .f32) : Vec F S66x8448x4x128 .f32 :=
  subf (broadcastInDim S66x8448x4x128 ![0, 1, 2, 3] bcast_S66x1x4x128_S66x8448x4x128_0_1_2_3 (broadcastInDim S66x1x4x128 ![0, 2, 3] bcast_S66x4x128_S66x1x4x128_0_2_3
      (Host.slice S66x4x128 ![0, 0, 0] ![128, 1, 1] (subf b g) slicesBy_S8448x4x128_S66x4x128_0s128_0s1_0s1)))
    (broadcastInDim S66x8448x4x128 ![0, 1, 2, 3] bcast_S1x8448x4x128_S66x8448x4x128_0_1_2_3 (broadcastInDim S1x8448x4x128 ![1, 2, 3] bcast_S8448x4x128_S1x8448x4x128_1_2_3 b))
/-- The exponent where the row lies before the chunk, minus infinity elsewhere. -/
def masked (e : Vec F S66x8448x4x128 .f32) : Vec F S66x8448x4x128 .f32 :=
  select (broadcastInDim S66x8448x4x128 ![0, 1, 2, 3] bcast_S66x8448x1x1_S66x8448x4x128_0_1_2_3 (broadcastInDim S66x8448x1x1 ![0, 1] bcast_S66x8448_S66x8448x1x1_0_1 (early (F := F)))) e
    (broadcastInDim S66x8448x4x128 ![] bcast_S_S66x8448x4x128 (id (constant S_ .f32 0xFF800000#32)))
/-- The states from the masked exponents. -/
def states (k : Vec F S8448x4x128 .f32) (v : Vec F S8448x4x256 .f32) (e : Vec F S66x8448x4x128 .f32) : Vec F S66x4x256x128 .f32 :=
  transpose S66x4x256x128 [2, 0, 1, 3] (Host.dotGeneral dot_S8448x4x256_S66x8448x4x128_S4x256x66x128_0_1_2_03_1_2 none v
    (mulf (Host.exp e) (broadcastInDim S66x8448x4x128 ![0, 1, 2, 3] bcast_S1x8448x4x128_S66x8448x4x128_0_1_2_3 (broadcastInDim S1x8448x4x128 ![1, 2, 3] bcast_S8448x4x128_S1x8448x4x128_1_2_3 k))))
    transposes_S4x256x66x128_S66x4x256x128_2_0_1_3
/-- The states of one direction from its keys, values and gate logarithms. -/
def hist (k : Vec F S8448x4x128 .f32) (v : Vec F S8448x4x256 .f32) (g : Vec F S8448x4x128 .f32) : Vec F S66x4x256x128 .f32 :=
  states k v (masked (expo (cum g) g))
/-- Both directions' states, stacked. -/
def hists (a b : Vec F S66x4x256x128 .f32) : Vec F S2x66x4x256x128 .f32 :=
  stackH (broadcastInDim S1x66x4x256x128 ![1, 2, 3, 4] bcast_S66x4x256x128_S1x66x4x256x128_1_2_3_4 a) (broadcastInDim S1x66x4x256x128 ![1, 2, 3, 4] bcast_S66x4x256x128_S1x66x4x256x128_1_2_3_4 b)

/-! ## What each stretch of the host program leaves -/

variable (W : Valuation τ sig (Elt F))

/-- The first stretch in two parts: the two placed matrices, then the rest. -/
theorem cut0 : after hostOps0 W = after (hostOps0.drop 10) (after (hostOps0.take 10) W) := by
  rw [← after_append, List.take_append_drop]
theorem at0_v2 : after (hostOps0.take 10) W (Proc.devRef .tc main_v2) = place 0#32 (W (Proc.devRef .tc main_arg2)) := by
  simp only [List.take_succ_cons, List.take_zero]
  after_results_simp
  rfl
theorem at0_v5 : after (hostOps0.take 10) W (Proc.devRef .tc main_v5) = place 16#32 (W (Proc.devRef .tc main_arg4)) := by
  simp only [List.take_succ_cons, List.take_zero]
  after_results_simp
  rfl
theorem at0_v9' : after (hostOps0.drop 10) W (Proc.devRef .tc main_v9) = truncf .bf16 (stackU (broadcastInDim S1x128x512 ![1, 2] bcast_S128x512_S1x128x512_1_2 (W (Proc.devRef .tc main_v2))) (broadcastInDim S1x128x512 ![1, 2] bcast_S128x512_S1x128x512_1_2 (W (Proc.devRef .tc main_v5)))) bitsLt_bf16_f32 := by
  simp only [List.drop_succ_cons, List.drop_zero]
  after_results_simp
  rfl
theorem at0_v12' : after (hostOps0.drop 10) W (Proc.devRef .tc main_v12) = truncf .bf16 (subf (stackU (broadcastInDim S1x128x512 ![1, 2] bcast_S128x512_S1x128x512_1_2 (W (Proc.devRef .tc main_v2))) (broadcastInDim S1x128x512 ![1, 2] bcast_S128x512_S1x128x512_1_2 (W (Proc.devRef .tc main_v5)))) (extf .f32 (truncf .bf16 (stackU (broadcastInDim S1x128x512 ![1, 2] bcast_S128x512_S1x128x512_1_2 (W (Proc.devRef .tc main_v2))) (broadcastInDim S1x128x512 ![1, 2] bcast_S128x512_S1x128x512_1_2 (W (Proc.devRef .tc main_v5)))) bitsLt_bf16_f32) bitsLt_bf16_f32)) bitsLt_bf16_f32 := by
  simp only [List.drop_succ_cons, List.drop_zero]
  after_results_simp
  rfl
theorem at0_v9 : after hostOps0 W (Proc.devRef .tc main_v9) = truncf .bf16 (ups (W (Proc.devRef .tc main_arg2)) (W (Proc.devRef .tc main_arg4))) bitsLt_bf16_f32 := by
  rw [cut0, at0_v9', at0_v2, at0_v5]
  rfl
theorem at0_v12 : after hostOps0 W (Proc.devRef .tc main_v12) = truncf .bf16 (subf (ups (W (Proc.devRef .tc main_arg2)) (W (Proc.devRef .tc main_arg4))) (extf .f32 (truncf .bf16 (ups (W (Proc.devRef .tc main_arg2)) (W (Proc.devRef .tc main_arg4))) bitsLt_bf16_f32) bitsLt_bf16_f32)) bitsLt_bf16_f32 := by
  rw [cut0, at0_v12', at0_v2, at0_v5]
  rfl
theorem at0_v15 : after hostOps0 W (Proc.devRef .tc main_v15) = biases (W (Proc.devRef .tc main_arg3)) (W (Proc.devRef .tc main_arg5)) := by
  after_results_simp
  rfl
theorem at0_v18 : after hostOps0 W (Proc.devRef .tc main_v18) = keys (W (Proc.devRef .tc main_arg0)) := by
  after_results_simp
  rfl
theorem at0_v21 : after hostOps0 W (Proc.devRef .tc main_v21) = vals (W (Proc.devRef .tc main_arg0)) := by
  after_results_simp
  rfl
theorem at0_v25 : after hostOps0 W (Proc.devRef .tc main_v25) = gate (extractStridedSlice S8448x16 ![0, 0] (W (Proc.devRef .tc main_arg1)) slices_S8448x128_S8448x16_0_0) (W (Proc.devRef .tc main_arg2)) (W (Proc.devRef .tc main_arg3)) := by
  after_results_simp
  rfl
theorem at1_v26 : after hostOps0_1 W (Proc.devRef .tc main_v26) = logsig (W (Proc.devRef .tc main_v25)) := by
  after_results_simp
  rfl
theorem at2_v29 : after hostOps0_2 W (Proc.devRef .tc main_v29) = shapeCast _ (Host.divf (W (Proc.devRef .tc main_v26)) (broadcastInDim S8448x512 ![] bcast_S_S8448x512 (constant S_ .f32 0x41800000#32))) shapeCasts_S8448x512_S8448x4x128 := by
  after_results_simp
  rfl
theorem at2_v33 : after hostOps0_2 W (Proc.devRef .tc main_v33) = gate (extractStridedSlice S8448x16 ![0, 16] (W (Proc.devRef .tc main_arg1)) slices_S8448x128_S8448x16_0_16) (W (Proc.devRef .tc main_arg4)) (W (Proc.devRef .tc main_arg5)) := by
  after_results_simp
  rfl
theorem at3_v34 : after hostOps0_3 W (Proc.devRef .tc main_v34) = logsig (W (Proc.devRef .tc main_v33)) := by
  after_results_simp
  rfl
theorem at4_v37 : after hostOps0_4 W (Proc.devRef .tc main_v37) = shapeCast _ (Host.divf (W (Proc.devRef .tc main_v34)) (broadcastInDim S8448x512 ![] bcast_S_S8448x512 (constant S_ .f32 0x41800000#32))) shapeCasts_S8448x512_S8448x4x128 := by
  after_results_simp
  rfl
theorem at4_v40 : after hostOps0_4 W (Proc.devRef .tc main_v40) = ordK (W (Proc.devRef .tc main_v18)) := by
  after_results_simp
  rfl
theorem at4_v43 : after hostOps0_4 W (Proc.devRef .tc main_v43) = ordV (W (Proc.devRef .tc main_v21)) := by
  after_results_simp
  rfl
theorem at4_v46 : after hostOps0_4 W (Proc.devRef .tc main_v46) = ordK (W (Proc.devRef .tc main_v29)) := by
  after_results_simp
  rfl
theorem at5_v47 : after hostOps0_5 W (Proc.devRef .tc main_v47) = cum (W (Proc.devRef .tc main_v46)) := by
  after_results_simp
  rfl
theorem at6_v60 : after hostOps0_6 W (Proc.devRef .tc main_v60) = expo (W (Proc.devRef .tc main_v47)) (W (Proc.devRef .tc main_v46)) := by
  after_results_simp
  rfl
theorem at6_v55 : after hostOps0_6 W (Proc.devRef .tc main_v55) = broadcastInDim S66x8448x1x1 ![0, 1] bcast_S66x8448_S66x8448x1x1_0_1 (early (F := F)) := by
  after_results_simp
  rfl
theorem at6_cst_5 : after hostOps0_6 W (Proc.devRef .tc main_cst_5) = constant S_ .f32 0xFF800000#32 := by
  after_results_simp
theorem at7_v61 : after hostOps0_7 W (Proc.devRef .tc main_v61) = select (broadcastInDim S66x8448x4x128 ![0, 1, 2, 3] bcast_S66x8448x1x1_S66x8448x4x128_0_1_2_3 (W (Proc.devRef .tc main_v55))) (W (Proc.devRef .tc main_v60)) (broadcastInDim S66x8448x4x128 ![] bcast_S_S66x8448x4x128 (id (W (Proc.devRef .tc main_cst_5)))) := by
  after_results_simp
  rfl
theorem at8_v67 : after hostOps0_8 W (Proc.devRef .tc main_v67) = states (W (Proc.devRef .tc main_v40)) (W (Proc.devRef .tc main_v43)) (W (Proc.devRef .tc main_v61)) := by
  after_results_simp
  rfl
theorem at9_v68 : after hostOps0_9 W (Proc.devRef .tc main_v68) = Host.reverse [0] (W (Proc.devRef .tc main_v18)) := by
  after_results_simp
  rfl
theorem at10_v69 : after hostOps0_10 W (Proc.devRef .tc main_v69) = Host.reverse [0] (W (Proc.devRef .tc main_v21)) := by
  after_results_simp
  rfl
theorem at11_v70 : after hostOps0_11 W (Proc.devRef .tc main_v70) = Host.reverse [0] (W (Proc.devRef .tc main_v37)) := by
  after_results_simp
  rfl
theorem at12_v71 : after hostOps0_12 W (Proc.devRef .tc main_v71) = cum (W (Proc.devRef .tc main_v70)) := by
  after_results_simp
  rfl
theorem at13_v84 : after hostOps0_13 W (Proc.devRef .tc main_v84) = expo (W (Proc.devRef .tc main_v71)) (W (Proc.devRef .tc main_v70)) := by
  after_results_simp
  rfl
theorem at13_v79 : after hostOps0_13 W (Proc.devRef .tc main_v79) = broadcastInDim S66x8448x1x1 ![0, 1] bcast_S66x8448_S66x8448x1x1_0_1 (early (F := F)) := by
  after_results_simp
  rfl
theorem at13_cst_7 : after hostOps0_13 W (Proc.devRef .tc main_cst_7) = constant S_ .f32 0xFF800000#32 := by
  after_results_simp
theorem at14_v85 : after hostOps0_14 W (Proc.devRef .tc main_v85) = select (broadcastInDim S66x8448x4x128 ![0, 1, 2, 3] bcast_S66x8448x1x1_S66x8448x4x128_0_1_2_3 (W (Proc.devRef .tc main_v79))) (W (Proc.devRef .tc main_v84)) (broadcastInDim S66x8448x4x128 ![] bcast_S_S66x8448x4x128 (id (W (Proc.devRef .tc main_cst_7)))) := by
  after_results_simp
  rfl
theorem at15_v94 : after hostOps0_15 W (Proc.devRef .tc main_v94) = hists (W (Proc.devRef .tc main_v67)) (states (W (Proc.devRef .tc main_v68)) (W (Proc.devRef .tc main_v69)) (W (Proc.devRef .tc main_v85))) := by
  after_results_simp
  rfl

/-! ## What each stretch leaves alone -/

theorem keep1 (r : Ref sig .tc) (h : r ∉ [main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v26]) : after hostOps0_1 W (Proc.devRef .tc r) = W (Proc.devRef .tc r) :=
  after_of_writes_sub hostOps0_1 W (by simp only [List.Forall]; refine ⟨?_, ?_, ?_, ?_, ?_, ?_, ?_, ?_, ?_, ?_, ?_, ?_, ?_, ?_, ?_, ?_⟩ <;> exact Finset.singleton_subset_iff.mpr (List.mem_toFinset.mpr (List.mem_map_of_mem (by decide)))) h
theorem keep2 (r : Ref sig .tc) (h : r ∉ [main_cst_2, main_v27, main_v28, main_v29, main_v30, main_v31, main_v32, main_v33]) : after hostOps0_2 W (Proc.devRef .tc r) = W (Proc.devRef .tc r) :=
  after_of_writes_sub hostOps0_2 W (by simp only [List.Forall]; refine ⟨?_, ?_, ?_, ?_, ?_, ?_, ?_, ?_⟩ <;> exact Finset.singleton_subset_iff.mpr (List.mem_toFinset.mpr (List.mem_map_of_mem (by decide)))) h
theorem keep3 (r : Ref sig .tc) (h : r ∉ [main_call1_v0, main_call1_call0_cst, main_call1_call0_v0, main_call1_call0_v1, main_call1_call0_v2, main_call1_call0_v3, main_call1_call0_v4, main_call1_call0_v5, main_call1_call0_v6, main_call1_call0_v7, main_call1_call0_v8, main_call1_call0_v9, main_call1_call0_v10, main_call1_call0_v11, main_call1_v1, main_v34]) : after hostOps0_3 W (Proc.devRef .tc r) = W (Proc.devRef .tc r) :=
  after_of_writes_sub hostOps0_3 W (by simp only [List.Forall]; refine ⟨?_, ?_, ?_, ?_, ?_, ?_, ?_, ?_, ?_, ?_, ?_, ?_, ?_, ?_, ?_, ?_⟩ <;> exact Finset.singleton_subset_iff.mpr (List.mem_toFinset.mpr (List.mem_map_of_mem (by decide)))) h
theorem keep4 (r : Ref sig .tc) (h : r ∉ [main_cst_3, main_v35, main_v36, main_v37, main_v38, main_v39, main_v40, main_v41, main_v42, main_v43, main_v44, main_v45, main_v46]) : after hostOps0_4 W (Proc.devRef .tc r) = W (Proc.devRef .tc r) :=
  after_of_writes_sub hostOps0_4 W (by simp only [List.Forall]; refine ⟨?_, ?_, ?_, ?_, ?_, ?_, ?_, ?_, ?_, ?_, ?_, ?_, ?_⟩ <;> exact Finset.singleton_subset_iff.mpr (List.mem_toFinset.mpr (List.mem_map_of_mem (by decide)))) h
theorem keep5 (r : Ref sig .tc) (h : r ∉ [main_call2_call0_cst, main_call2_call0_v0, main_v47]) : after hostOps0_5 W (Proc.devRef .tc r) = W (Proc.devRef .tc r) :=
  after_of_writes_sub hostOps0_5 W (by simp only [List.Forall]; refine ⟨?_, ?_, ?_⟩ <;> exact Finset.singleton_subset_iff.mpr (List.mem_toFinset.mpr (List.mem_map_of_mem (by decide)))) h
theorem keep6 (r : Ref sig .tc) (h : r ∉ [main_v48, main_c_4, main_v49, main_v50, main_v51, main_v52, main_v53, main_v54, main_v55, main_v56, main_v57, main_v58, main_v59, main_v60, main_cst_5]) : after hostOps0_6 W (Proc.devRef .tc r) = W (Proc.devRef .tc r) :=
  after_of_writes_sub hostOps0_6 W (by simp only [List.Forall]; refine ⟨?_, ?_, ?_, ?_, ?_, ?_, ?_, ?_, ?_, ?_, ?_, ?_, ?_, ?_, ?_⟩ <;> exact Finset.singleton_subset_iff.mpr (List.mem_toFinset.mpr (List.mem_map_of_mem (by decide)))) h
theorem keep7 (r : Ref sig .tc) (h : r ∉ [main_call3_v0, main_call3_v1, main_call3_v2, main_v61]) : after hostOps0_7 W (Proc.devRef .tc r) = W (Proc.devRef .tc r) :=
  after_of_writes_sub hostOps0_7 W (by simp only [List.Forall]; refine ⟨?_, ?_, ?_, ?_⟩ <;> exact Finset.singleton_subset_iff.mpr (List.mem_toFinset.mpr (List.mem_map_of_mem (by decide)))) h
theorem keep8 (r : Ref sig .tc) (h : r ∉ [main_v62, main_v63, main_v64, main_v65, main_v66, main_v67]) : after hostOps0_8 W (Proc.devRef .tc r) = W (Proc.devRef .tc r) :=
  after_of_writes_sub hostOps0_8 W (by simp only [List.Forall]; refine ⟨?_, ?_, ?_, ?_, ?_, ?_⟩ <;> exact Finset.singleton_subset_iff.mpr (List.mem_toFinset.mpr (List.mem_map_of_mem (by decide)))) h
theorem keep9 (r : Ref sig .tc) (h : r ∉ [main_v68]) : after hostOps0_9 W (Proc.devRef .tc r) = W (Proc.devRef .tc r) :=
  after_of_writes_sub hostOps0_9 W (by simp only [List.Forall]; exact Finset.singleton_subset_iff.mpr (List.mem_toFinset.mpr (List.mem_map_of_mem (by decide)))) h
theorem keep10 (r : Ref sig .tc) (h : r ∉ [main_v69]) : after hostOps0_10 W (Proc.devRef .tc r) = W (Proc.devRef .tc r) :=
  after_of_writes_sub hostOps0_10 W (by simp only [List.Forall]; exact Finset.singleton_subset_iff.mpr (List.mem_toFinset.mpr (List.mem_map_of_mem (by decide)))) h
theorem keep11 (r : Ref sig .tc) (h : r ∉ [main_v70]) : after hostOps0_11 W (Proc.devRef .tc r) = W (Proc.devRef .tc r) :=
  after_of_writes_sub hostOps0_11 W (by simp only [List.Forall]; exact Finset.singleton_subset_iff.mpr (List.mem_toFinset.mpr (List.mem_map_of_mem (by decide)))) h
theorem keep12 (r : Ref sig .tc) (h : r ∉ [main_call7_call0_cst, main_call7_call0_v0, main_v71]) : after hostOps0_12 W (Proc.devRef .tc r) = W (Proc.devRef .tc r) :=
  after_of_writes_sub hostOps0_12 W (by simp only [List.Forall]; refine ⟨?_, ?_, ?_⟩ <;> exact Finset.singleton_subset_iff.mpr (List.mem_toFinset.mpr (List.mem_map_of_mem (by decide)))) h
theorem keep13 (r : Ref sig .tc) (h : r ∉ [main_v72, main_c_6, main_v73, main_v74, main_v75, main_v76, main_v77, main_v78, main_v79, main_v80, main_v81, main_v82, main_v83, main_v84, main_cst_7]) : after hostOps0_13 W (Proc.devRef .tc r) = W (Proc.devRef .tc r) :=
  after_of_writes_sub hostOps0_13 W (by simp only [List.Forall]; refine ⟨?_, ?_, ?_, ?_, ?_, ?_, ?_, ?_, ?_, ?_, ?_, ?_, ?_, ?_, ?_⟩ <;> exact Finset.singleton_subset_iff.mpr (List.mem_toFinset.mpr (List.mem_map_of_mem (by decide)))) h
theorem keep14 (r : Ref sig .tc) (h : r ∉ [main_call8_v0, main_call8_v1, main_call8_v2, main_v85]) : after hostOps0_14 W (Proc.devRef .tc r) = W (Proc.devRef .tc r) :=
  after_of_writes_sub hostOps0_14 W (by simp only [List.Forall]; refine ⟨?_, ?_, ?_, ?_⟩ <;> exact Finset.singleton_subset_iff.mpr (List.mem_toFinset.mpr (List.mem_map_of_mem (by decide)))) h
theorem keep15 (r : Ref sig .tc) (h : r ∉ [main_v86, main_v87, main_v88, main_v89, main_v90, main_v91, main_v92, main_v93, main_v94]) : after hostOps0_15 W (Proc.devRef .tc r) = W (Proc.devRef .tc r) :=
  after_of_writes_sub hostOps0_15 W (by simp only [List.Forall]; refine ⟨?_, ?_, ?_, ?_, ?_, ?_, ?_, ?_, ?_⟩ <;> exact Finset.singleton_subset_iff.mpr (List.mem_toFinset.mpr (List.mem_map_of_mem (by decide)))) h

/-! ## The stretches one after another -/

/-- The contents after stretch 0. -/
def upto0 : Valuation τ sig (Elt F) := after hostOps0 W
/-- The contents after stretch 1. -/
def upto1 : Valuation τ sig (Elt F) := after hostOps0_1 (upto0 W)
/-- The contents after stretch 2. -/
def upto2 : Valuation τ sig (Elt F) := after hostOps0_2 (upto1 W)
/-- The contents after stretch 3. -/
def upto3 : Valuation τ sig (Elt F) := after hostOps0_3 (upto2 W)
/-- The contents after stretch 4. -/
def upto4 : Valuation τ sig (Elt F) := after hostOps0_4 (upto3 W)
/-- The contents after stretch 5. -/
def upto5 : Valuation τ sig (Elt F) := after hostOps0_5 (upto4 W)
/-- The contents after stretch 6. -/
def upto6 : Valuation τ sig (Elt F) := after hostOps0_6 (upto5 W)
/-- The contents after stretch 7. -/
def upto7 : Valuation τ sig (Elt F) := after hostOps0_7 (upto6 W)
/-- The contents after stretch 8. -/
def upto8 : Valuation τ sig (Elt F) := after hostOps0_8 (upto7 W)
/-- The contents after stretch 9. -/
def upto9 : Valuation τ sig (Elt F) := after hostOps0_9 (upto8 W)
/-- The contents after stretch 10. -/
def upto10 : Valuation τ sig (Elt F) := after hostOps0_10 (upto9 W)
/-- The contents after stretch 11. -/
def upto11 : Valuation τ sig (Elt F) := after hostOps0_11 (upto10 W)
/-- The contents after stretch 12. -/
def upto12 : Valuation τ sig (Elt F) := after hostOps0_12 (upto11 W)
/-- The contents after stretch 13. -/
def upto13 : Valuation τ sig (Elt F) := after hostOps0_13 (upto12 W)
/-- The contents after stretch 14. -/
def upto14 : Valuation τ sig (Elt F) := after hostOps0_14 (upto13 W)
/-- The contents after stretch 15. -/
def upto15 : Valuation τ sig (Elt F) := after hostOps0_15 (upto14 W)
theorem step1 (r : Ref sig .tc) (h : r ∉ [main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v26]) : upto1 W (Proc.devRef .tc r) = upto0 W (Proc.devRef .tc r) := keep1 _ r h
theorem step2 (r : Ref sig .tc) (h : r ∉ [main_cst_2, main_v27, main_v28, main_v29, main_v30, main_v31, main_v32, main_v33]) : upto2 W (Proc.devRef .tc r) = upto1 W (Proc.devRef .tc r) := keep2 _ r h
theorem step3 (r : Ref sig .tc) (h : r ∉ [main_call1_v0, main_call1_call0_cst, main_call1_call0_v0, main_call1_call0_v1, main_call1_call0_v2, main_call1_call0_v3, main_call1_call0_v4, main_call1_call0_v5, main_call1_call0_v6, main_call1_call0_v7, main_call1_call0_v8, main_call1_call0_v9, main_call1_call0_v10, main_call1_call0_v11, main_call1_v1, main_v34]) : upto3 W (Proc.devRef .tc r) = upto2 W (Proc.devRef .tc r) := keep3 _ r h
theorem step4 (r : Ref sig .tc) (h : r ∉ [main_cst_3, main_v35, main_v36, main_v37, main_v38, main_v39, main_v40, main_v41, main_v42, main_v43, main_v44, main_v45, main_v46]) : upto4 W (Proc.devRef .tc r) = upto3 W (Proc.devRef .tc r) := keep4 _ r h
theorem step5 (r : Ref sig .tc) (h : r ∉ [main_call2_call0_cst, main_call2_call0_v0, main_v47]) : upto5 W (Proc.devRef .tc r) = upto4 W (Proc.devRef .tc r) := keep5 _ r h
theorem step6 (r : Ref sig .tc) (h : r ∉ [main_v48, main_c_4, main_v49, main_v50, main_v51, main_v52, main_v53, main_v54, main_v55, main_v56, main_v57, main_v58, main_v59, main_v60, main_cst_5]) : upto6 W (Proc.devRef .tc r) = upto5 W (Proc.devRef .tc r) := keep6 _ r h
theorem step7 (r : Ref sig .tc) (h : r ∉ [main_call3_v0, main_call3_v1, main_call3_v2, main_v61]) : upto7 W (Proc.devRef .tc r) = upto6 W (Proc.devRef .tc r) := keep7 _ r h
theorem step8 (r : Ref sig .tc) (h : r ∉ [main_v62, main_v63, main_v64, main_v65, main_v66, main_v67]) : upto8 W (Proc.devRef .tc r) = upto7 W (Proc.devRef .tc r) := keep8 _ r h
theorem step9 (r : Ref sig .tc) (h : r ∉ [main_v68]) : upto9 W (Proc.devRef .tc r) = upto8 W (Proc.devRef .tc r) := keep9 _ r h
theorem step10 (r : Ref sig .tc) (h : r ∉ [main_v69]) : upto10 W (Proc.devRef .tc r) = upto9 W (Proc.devRef .tc r) := keep10 _ r h
theorem step11 (r : Ref sig .tc) (h : r ∉ [main_v70]) : upto11 W (Proc.devRef .tc r) = upto10 W (Proc.devRef .tc r) := keep11 _ r h
theorem step12 (r : Ref sig .tc) (h : r ∉ [main_call7_call0_cst, main_call7_call0_v0, main_v71]) : upto12 W (Proc.devRef .tc r) = upto11 W (Proc.devRef .tc r) := keep12 _ r h
theorem step13 (r : Ref sig .tc) (h : r ∉ [main_v72, main_c_6, main_v73, main_v74, main_v75, main_v76, main_v77, main_v78, main_v79, main_v80, main_v81, main_v82, main_v83, main_v84, main_cst_7]) : upto13 W (Proc.devRef .tc r) = upto12 W (Proc.devRef .tc r) := keep13 _ r h
theorem step14 (r : Ref sig .tc) (h : r ∉ [main_call8_v0, main_call8_v1, main_call8_v2, main_v85]) : upto14 W (Proc.devRef .tc r) = upto13 W (Proc.devRef .tc r) := keep14 _ r h
theorem step15 (r : Ref sig .tc) (h : r ∉ [main_v86, main_v87, main_v88, main_v89, main_v90, main_v91, main_v92, main_v93, main_v94]) : upto15 W (Proc.devRef .tc r) = upto14 W (Proc.devRef .tc r) := keep15 _ r h
theorem arg1_upto0 : upto0 W (Proc.devRef .tc main_arg1) = W (Proc.devRef .tc main_arg1) :=
  after_of_forall_not_mem (b := Proc.devRef .tc main_arg1) _ _ (List.forall_iff_forall_mem.mp (by
    simp only [hostOps0, List.Forall, nullary_writes, unary_writes, binary_writes, ternary_writes, reshape_writes, Finset.mem_singleton]
    repeat' apply And.intro
    all_goals exact StableHlo.devRef_ne_of_ne (by decide)))
theorem arg4_upto0 : upto0 W (Proc.devRef .tc main_arg4) = W (Proc.devRef .tc main_arg4) :=
  after_of_forall_not_mem (b := Proc.devRef .tc main_arg4) _ _ (List.forall_iff_forall_mem.mp (by
    simp only [hostOps0, List.Forall, nullary_writes, unary_writes, binary_writes, ternary_writes, reshape_writes, Finset.mem_singleton]
    repeat' apply And.intro
    all_goals exact StableHlo.devRef_ne_of_ne (by decide)))
theorem arg5_upto0 : upto0 W (Proc.devRef .tc main_arg5) = W (Proc.devRef .tc main_arg5) :=
  after_of_forall_not_mem (b := Proc.devRef .tc main_arg5) _ _ (List.forall_iff_forall_mem.mp (by
    simp only [hostOps0, List.Forall, nullary_writes, unary_writes, binary_writes, ternary_writes, reshape_writes, Finset.mem_singleton]
    repeat' apply And.intro
    all_goals exact StableHlo.devRef_ne_of_ne (by decide)))
theorem g_fwd : upto3 W (Proc.devRef .tc main_v29) = decay (gate (extractStridedSlice S8448x16 ![0, 0] (W (Proc.devRef .tc main_arg1)) slices_S8448x128_S8448x16_0_0) (W (Proc.devRef .tc main_arg2)) (W (Proc.devRef .tc main_arg3))) := by
  rw [step3 W main_v29 (by decide)]
  refine (at2_v29 _).trans ?_
  rw [show upto1 W (Proc.devRef .tc main_v26) = logsig (gate (extractStridedSlice S8448x16 ![0, 0] (W (Proc.devRef .tc main_arg1)) slices_S8448x128_S8448x16_0_0) (W (Proc.devRef .tc main_arg2)) (W (Proc.devRef .tc main_arg3))) from (at1_v26 _).trans (by rw [show upto0 W (Proc.devRef .tc main_v25) = gate (extractStridedSlice S8448x16 ![0, 0] (W (Proc.devRef .tc main_arg1)) slices_S8448x128_S8448x16_0_0) (W (Proc.devRef .tc main_arg2)) (W (Proc.devRef .tc main_arg3)) from at0_v25 W])]
  rfl
theorem p_bwd : upto2 W (Proc.devRef .tc main_v33) = gate (extractStridedSlice S8448x16 ![0, 16] (W (Proc.devRef .tc main_arg1)) slices_S8448x128_S8448x16_0_16) (W (Proc.devRef .tc main_arg4)) (W (Proc.devRef .tc main_arg5)) := by
  refine (at2_v33 _).trans ?_
  rw [step1 W main_arg1 (by decide), arg1_upto0, step1 W main_arg4 (by decide), arg4_upto0, step1 W main_arg5 (by decide), arg5_upto0]
theorem l_bwd : upto3 W (Proc.devRef .tc main_v34) = logsig (gate (extractStridedSlice S8448x16 ![0, 16] (W (Proc.devRef .tc main_arg1)) slices_S8448x128_S8448x16_0_16) (W (Proc.devRef .tc main_arg4)) (W (Proc.devRef .tc main_arg5))) := by
  refine (at3_v34 _).trans ?_
  rw [p_bwd]
theorem g_bwd : upto10 W (Proc.devRef .tc main_v37) = decay (gate (extractStridedSlice S8448x16 ![0, 16] (W (Proc.devRef .tc main_arg1)) slices_S8448x128_S8448x16_0_16) (W (Proc.devRef .tc main_arg4)) (W (Proc.devRef .tc main_arg5))) := by
  rw [step10 W main_v37 (by decide), step9 W main_v37 (by decide), step8 W main_v37 (by decide), step7 W main_v37 (by decide), step6 W main_v37 (by decide), step5 W main_v37 (by decide)]
  refine (at4_v37 _).trans ?_
  rw [l_bwd]
  rfl
theorem k_fwd3 : upto3 W (Proc.devRef .tc main_v18) = keys (W (Proc.devRef .tc main_arg0)) := by
  rw [step3 W main_v18 (by decide), step2 W main_v18 (by decide), step1 W main_v18 (by decide)]
  exact at0_v18 _
theorem k_fwd8 : upto8 W (Proc.devRef .tc main_v18) = keys (W (Proc.devRef .tc main_arg0)) := by
  rw [step8 W main_v18 (by decide), step7 W main_v18 (by decide), step6 W main_v18 (by decide), step5 W main_v18 (by decide), step4 W main_v18 (by decide), step3 W main_v18 (by decide), step2 W main_v18 (by decide), step1 W main_v18 (by decide)]
  exact at0_v18 _
theorem v_fwd3 : upto3 W (Proc.devRef .tc main_v21) = vals (W (Proc.devRef .tc main_arg0)) := by
  rw [step3 W main_v21 (by decide), step2 W main_v21 (by decide), step1 W main_v21 (by decide)]
  exact at0_v21 _
theorem v_fwd9 : upto9 W (Proc.devRef .tc main_v21) = vals (W (Proc.devRef .tc main_arg0)) := by
  rw [step9 W main_v21 (by decide), step8 W main_v21 (by decide), step7 W main_v21 (by decide), step6 W main_v21 (by decide), step5 W main_v21 (by decide), step4 W main_v21 (by decide), step3 W main_v21 (by decide), step2 W main_v21 (by decide), step1 W main_v21 (by decide)]
  exact at0_v21 _
theorem ordK_fwd : upto7 W (Proc.devRef .tc main_v40) = ordK (keys (W (Proc.devRef .tc main_arg0))) := by
  rw [step7 W main_v40 (by decide), step6 W main_v40 (by decide), step5 W main_v40 (by decide)]
  refine (at4_v40 _).trans ?_
  rw [k_fwd3]
theorem ordV_fwd : upto7 W (Proc.devRef .tc main_v43) = ordV (vals (W (Proc.devRef .tc main_arg0))) := by
  rw [step7 W main_v43 (by decide), step6 W main_v43 (by decide), step5 W main_v43 (by decide)]
  refine (at4_v43 _).trans ?_
  rw [v_fwd3]
theorem ordG_fwd4 : upto4 W (Proc.devRef .tc main_v46) = ordK (decay (gate (extractStridedSlice S8448x16 ![0, 0] (W (Proc.devRef .tc main_arg1)) slices_S8448x128_S8448x16_0_0) (W (Proc.devRef .tc main_arg2)) (W (Proc.devRef .tc main_arg3)))) := by
  refine (at4_v46 _).trans ?_
  rw [g_fwd]
theorem ordG_fwd5 : upto5 W (Proc.devRef .tc main_v46) = ordK (decay (gate (extractStridedSlice S8448x16 ![0, 0] (W (Proc.devRef .tc main_arg1)) slices_S8448x128_S8448x16_0_0) (W (Proc.devRef .tc main_arg2)) (W (Proc.devRef .tc main_arg3)))) := by
  rw [step5 W main_v46 (by decide)]
  refine (at4_v46 _).trans ?_
  rw [g_fwd]
theorem cum_fwd : upto5 W (Proc.devRef .tc main_v47) = cum (ordK (decay (gate (extractStridedSlice S8448x16 ![0, 0] (W (Proc.devRef .tc main_arg1)) slices_S8448x128_S8448x16_0_0) (W (Proc.devRef .tc main_arg2)) (W (Proc.devRef .tc main_arg3))))) := by
  refine (at5_v47 _).trans ?_
  rw [ordG_fwd4]
theorem expo_fwd : upto6 W (Proc.devRef .tc main_v60) = expo (cum (ordK (decay (gate (extractStridedSlice S8448x16 ![0, 0] (W (Proc.devRef .tc main_arg1)) slices_S8448x128_S8448x16_0_0) (W (Proc.devRef .tc main_arg2)) (W (Proc.devRef .tc main_arg3)))))) (ordK (decay (gate (extractStridedSlice S8448x16 ![0, 0] (W (Proc.devRef .tc main_arg1)) slices_S8448x128_S8448x16_0_0) (W (Proc.devRef .tc main_arg2)) (W (Proc.devRef .tc main_arg3))))) := by
  refine (at6_v60 _).trans ?_
  rw [cum_fwd, ordG_fwd5]
theorem early_fwd : upto6 W (Proc.devRef .tc main_v55) = broadcastInDim S66x8448x1x1 ![0, 1] bcast_S66x8448_S66x8448x1x1_0_1 (early (F := F)) := at6_v55 _
theorem inf_fwd : upto6 W (Proc.devRef .tc main_cst_5) = constant S_ .f32 0xFF800000#32 := at6_cst_5 _
theorem mask_fwd : upto7 W (Proc.devRef .tc main_v61) = masked (expo (cum (ordK (decay (gate (extractStridedSlice S8448x16 ![0, 0] (W (Proc.devRef .tc main_arg1)) slices_S8448x128_S8448x16_0_0) (W (Proc.devRef .tc main_arg2)) (W (Proc.devRef .tc main_arg3)))))) (ordK (decay (gate (extractStridedSlice S8448x16 ![0, 0] (W (Proc.devRef .tc main_arg1)) slices_S8448x128_S8448x16_0_0) (W (Proc.devRef .tc main_arg2)) (W (Proc.devRef .tc main_arg3)))))) := by
  refine (at7_v61 _).trans ?_
  rw [expo_fwd, early_fwd, inf_fwd]
  rfl
theorem hist_fwd : upto14 W (Proc.devRef .tc main_v67) = hist (ordK (keys (W (Proc.devRef .tc main_arg0)))) (ordV (vals (W (Proc.devRef .tc main_arg0)))) (ordK (decay (gate (extractStridedSlice S8448x16 ![0, 0] (W (Proc.devRef .tc main_arg1)) slices_S8448x128_S8448x16_0_0) (W (Proc.devRef .tc main_arg2)) (W (Proc.devRef .tc main_arg3))))) := by
  rw [step14 W main_v67 (by decide), step13 W main_v67 (by decide), step12 W main_v67 (by decide), step11 W main_v67 (by decide), step10 W main_v67 (by decide), step9 W main_v67 (by decide)]
  refine (at8_v67 _).trans ?_
  rw [mask_fwd, ordK_fwd, ordV_fwd]
  rfl
theorem revK : upto14 W (Proc.devRef .tc main_v68) = Host.reverse [0] (keys (W (Proc.devRef .tc main_arg0))) := by
  rw [step14 W main_v68 (by decide), step13 W main_v68 (by decide), step12 W main_v68 (by decide), step11 W main_v68 (by decide), step10 W main_v68 (by decide)]
  refine (at9_v68 _).trans ?_
  rw [k_fwd8]
theorem revV : upto14 W (Proc.devRef .tc main_v69) = Host.reverse [0] (vals (W (Proc.devRef .tc main_arg0))) := by
  rw [step14 W main_v69 (by decide), step13 W main_v69 (by decide), step12 W main_v69 (by decide), step11 W main_v69 (by decide)]
  refine (at10_v69 _).trans ?_
  rw [v_fwd9]
theorem revG11 : upto11 W (Proc.devRef .tc main_v70) = Host.reverse [0] (decay (gate (extractStridedSlice S8448x16 ![0, 16] (W (Proc.devRef .tc main_arg1)) slices_S8448x128_S8448x16_0_16) (W (Proc.devRef .tc main_arg4)) (W (Proc.devRef .tc main_arg5)))) := by
  refine (at11_v70 _).trans ?_
  rw [g_bwd]
theorem revG12 : upto12 W (Proc.devRef .tc main_v70) = Host.reverse [0] (decay (gate (extractStridedSlice S8448x16 ![0, 16] (W (Proc.devRef .tc main_arg1)) slices_S8448x128_S8448x16_0_16) (W (Proc.devRef .tc main_arg4)) (W (Proc.devRef .tc main_arg5)))) := by
  rw [step12 W main_v70 (by decide)]
  refine (at11_v70 _).trans ?_
  rw [g_bwd]
theorem cum_bwd : upto12 W (Proc.devRef .tc main_v71) = cum (Host.reverse [0] (decay (gate (extractStridedSlice S8448x16 ![0, 16] (W (Proc.devRef .tc main_arg1)) slices_S8448x128_S8448x16_0_16) (W (Proc.devRef .tc main_arg4)) (W (Proc.devRef .tc main_arg5))))) := by
  refine (at12_v71 _).trans ?_
  rw [revG11]
theorem expo_bwd : upto13 W (Proc.devRef .tc main_v84) = expo (cum (Host.reverse [0] (decay (gate (extractStridedSlice S8448x16 ![0, 16] (W (Proc.devRef .tc main_arg1)) slices_S8448x128_S8448x16_0_16) (W (Proc.devRef .tc main_arg4)) (W (Proc.devRef .tc main_arg5)))))) (Host.reverse [0] (decay (gate (extractStridedSlice S8448x16 ![0, 16] (W (Proc.devRef .tc main_arg1)) slices_S8448x128_S8448x16_0_16) (W (Proc.devRef .tc main_arg4)) (W (Proc.devRef .tc main_arg5))))) := by
  refine (at13_v84 _).trans ?_
  rw [cum_bwd, revG12]
theorem early_bwd : upto13 W (Proc.devRef .tc main_v79) = broadcastInDim S66x8448x1x1 ![0, 1] bcast_S66x8448_S66x8448x1x1_0_1 (early (F := F)) := at13_v79 _
theorem inf_bwd : upto13 W (Proc.devRef .tc main_cst_7) = constant S_ .f32 0xFF800000#32 := at13_cst_7 _
theorem mask_bwd : upto14 W (Proc.devRef .tc main_v85) = masked (expo (cum (Host.reverse [0] (decay (gate (extractStridedSlice S8448x16 ![0, 16] (W (Proc.devRef .tc main_arg1)) slices_S8448x128_S8448x16_0_16) (W (Proc.devRef .tc main_arg4)) (W (Proc.devRef .tc main_arg5)))))) (Host.reverse [0] (decay (gate (extractStridedSlice S8448x16 ![0, 16] (W (Proc.devRef .tc main_arg1)) slices_S8448x128_S8448x16_0_16) (W (Proc.devRef .tc main_arg4)) (W (Proc.devRef .tc main_arg5)))))) := by
  refine (at14_v85 _).trans ?_
  rw [expo_bwd, early_bwd, inf_bwd]
  rfl
theorem hists_eq : upto15 W (Proc.devRef .tc main_v94) = hists (hist (ordK (keys (W (Proc.devRef .tc main_arg0)))) (ordV (vals (W (Proc.devRef .tc main_arg0)))) (ordK (decay (gate (extractStridedSlice S8448x16 ![0, 0] (W (Proc.devRef .tc main_arg1)) slices_S8448x128_S8448x16_0_0) (W (Proc.devRef .tc main_arg2)) (W (Proc.devRef .tc main_arg3)))))) (hist (Host.reverse [0] (keys (W (Proc.devRef .tc main_arg0)))) (Host.reverse [0] (vals (W (Proc.devRef .tc main_arg0)))) (Host.reverse [0] (decay (gate (extractStridedSlice S8448x16 ![0, 16] (W (Proc.devRef .tc main_arg1)) slices_S8448x128_S8448x16_0_16) (W (Proc.devRef .tc main_arg4)) (W (Proc.devRef .tc main_arg5)))))) := by
  refine (at15_v94 _).trans ?_
  rw [hist_fwd, revK, revV, mask_bwd]
  rfl
theorem upto_v9 : upto15 W (Proc.devRef .tc main_v9) = truncf .bf16 (ups (W (Proc.devRef .tc main_arg2)) (W (Proc.devRef .tc main_arg4))) bitsLt_bf16_f32 := by
  rw [step15 W main_v9 (by decide), step14 W main_v9 (by decide), step13 W main_v9 (by decide), step12 W main_v9 (by decide), step11 W main_v9 (by decide), step10 W main_v9 (by decide), step9 W main_v9 (by decide), step8 W main_v9 (by decide), step7 W main_v9 (by decide), step6 W main_v9 (by decide), step5 W main_v9 (by decide), step4 W main_v9 (by decide), step3 W main_v9 (by decide), step2 W main_v9 (by decide), step1 W main_v9 (by decide)]
  exact at0_v9 _
theorem upto_v12 : upto15 W (Proc.devRef .tc main_v12) = truncf .bf16 (subf (ups (W (Proc.devRef .tc main_arg2)) (W (Proc.devRef .tc main_arg4))) (extf .f32 (truncf .bf16 (ups (W (Proc.devRef .tc main_arg2)) (W (Proc.devRef .tc main_arg4))) bitsLt_bf16_f32) bitsLt_bf16_f32)) bitsLt_bf16_f32 := by
  rw [step15 W main_v12 (by decide), step14 W main_v12 (by decide), step13 W main_v12 (by decide), step12 W main_v12 (by decide), step11 W main_v12 (by decide), step10 W main_v12 (by decide), step9 W main_v12 (by decide), step8 W main_v12 (by decide), step7 W main_v12 (by decide), step6 W main_v12 (by decide), step5 W main_v12 (by decide), step4 W main_v12 (by decide), step3 W main_v12 (by decide), step2 W main_v12 (by decide), step1 W main_v12 (by decide)]
  exact at0_v12 _
theorem upto_v15 : upto15 W (Proc.devRef .tc main_v15) = biases (W (Proc.devRef .tc main_arg3)) (W (Proc.devRef .tc main_arg5)) := by
  rw [step15 W main_v15 (by decide), step14 W main_v15 (by decide), step13 W main_v15 (by decide), step12 W main_v15 (by decide), step11 W main_v15 (by decide), step10 W main_v15 (by decide), step9 W main_v15 (by decide), step8 W main_v15 (by decide), step7 W main_v15 (by decide), step6 W main_v15 (by decide), step5 W main_v15 (by decide), step4 W main_v15 (by decide), step3 W main_v15 (by decide), step2 W main_v15 (by decide), step1 W main_v15 (by decide)]
  exact at0_v15 _

/-! ## The arrays the launch reads -/

variable (m : (ℓ : Loc nD τ sig) → Buf (Elt F) ℓ) (c : Dev nD)

theorem V_upto (r : Ref sig .tc) : V m c r = upto15 (fun b => m (c, b)) (Proc.devRef .tc r) := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) _ _ = _
  simp only [List.flatten_cons, List.flatten_nil, List.append_nil, after_append]
  rfl

theorem V_v9 : V m c main_v9 = truncf .bf16 (ups (m (c, Proc.devRef .tc main_arg2)) (m (c, Proc.devRef .tc main_arg4))) bitsLt_bf16_f32 := (V_upto m c _).trans (upto_v9 _)
theorem V_v12 : V m c main_v12 = truncf .bf16 (subf (ups (m (c, Proc.devRef .tc main_arg2)) (m (c, Proc.devRef .tc main_arg4))) (extf .f32 (truncf .bf16 (ups (m (c, Proc.devRef .tc main_arg2)) (m (c, Proc.devRef .tc main_arg4))) bitsLt_bf16_f32) bitsLt_bf16_f32)) bitsLt_bf16_f32 := (V_upto m c _).trans (upto_v12 _)
theorem V_v15 : V m c main_v15 = biases (m (c, Proc.devRef .tc main_arg3)) (m (c, Proc.devRef .tc main_arg5)) := (V_upto m c _).trans (upto_v15 _)
theorem V_v94 : V m c main_v94 = (fun b => hists (hist (ordK (keys (b main_arg0))) (ordV (vals (b main_arg0))) (ordK (decay (gate (extractStridedSlice S8448x16 ![0, 0] (b main_arg1) slices_S8448x128_S8448x16_0_0) (b main_arg2) (b main_arg3)))))
    (hist (Host.reverse [0] (keys (b main_arg0))) (Host.reverse [0] (vals (b main_arg0))) (Host.reverse [0] (decay (gate (extractStridedSlice S8448x16 ![0, 16] (b main_arg1) slices_S8448x128_S8448x16_0_16) (b main_arg4) (b main_arg5))))))
    (fun r : Ref sig .tc => m (c, Proc.devRef .tc r)) := (V_upto m c _).trans (hists_eq _)

end Cert.KernelIdeal.HostRun
-- ==== Proof.Chunk.lean ====
module

public import proofs.«01_k».proof.Proof.Gen.KernelIdeal.Skeleton

@[expose] public section

/-! What the kernel's body computes for one scan direction from the blocks of one grid point, written once for
    both directions (the sign of the mask) and for every head (the columns of a slice). -/

noncomputable section

namespace Cert.KernelIdeal.Chunk

open Cert.KernelIdeal Cert.KernelIdeal.Gen Idealize.ShloMosaic

variable {F : FTy → Type} [FloatOps F]

/-- The blocks of one direction at one grid point: queries, keys, values, the result's cotangent, the packed low-rank
    columns, the two parts of the gate's matrix, its bias, and per head the state before the chunk and the state's
    cotangent after it. -/
structure In (F : FTy → Type) where
  q : Vec F S128x512 .bf16
  k : Vec F S128x512 .bf16
  v : Vec F S128x1024 .bf16
  dout : Vec F S128x1024 .bf16
  sm : Vec F S128x128 .f32
  uh : FVec F S128x512 .bf16
  ul : FVec F S128x512 .bf16
  bi : FVec F S1x512 .f32
  hs : Fin 4 → FVec F S256x128 .f32
  ds : Fin 4 → FVec F S256x128 .f32

theorem slices_k (h : Fin 4) : S128x512.Slices ![0, 128 * h.val] S128x128 := by
  fin_cases h
  · exact slices_S128x512_o0_0_S128x128
  · exact slices_S128x512_o0_128_S128x128
  · exact slices_S128x512_o0_256_S128x128
  · exact slices_S128x512_o0_384_S128x128

theorem slices_v (h : Fin 4) : S128x1024.Slices ![0, 256 * h.val] S128x256 := by
  fin_cases h
  · exact slices_S128x1024_o0_0_S128x256
  · exact slices_S128x1024_o0_256_S128x256
  · exact slices_S128x1024_o0_512_S128x256
  · exact slices_S128x1024_o0_768_S128x256

theorem slices_1 (h : Fin 4) : S1x512.Slices ![0, 128 * h.val] S1x128 := by
  fin_cases h
  · exact slices_S1x512_o0_0_S1x128
  · exact slices_S1x512_o0_128_S1x128
  · exact slices_S1x512_o0_256_S1x128
  · exact slices_S1x512_o0_384_S1x128

/-- Head `h`'s columns of an array of keys' width. -/
def colsK {φ : FTy} (h : Fin 4) (x : FVec F S128x512 φ) : FVec F S128x128 φ :=
  extractStridedSlice S128x128 ![0, 128 * h.val] x (slices_k h)
/-- Head `h`'s columns of an array of values' width. -/
def colsV {φ : FTy} (h : Fin 4) (x : FVec F S128x1024 φ) : FVec F S128x256 φ :=
  extractStridedSlice S128x256 ![0, 256 * h.val] x (slices_v h)
/-- Head `h`'s columns of one row. -/
def cols1 (h : Fin 4) (x : FVec F S1x512 .f32) : FVec F S1x128 .f32 :=
  extractStridedSlice S1x128 ![0, 128 * h.val] x (slices_1 h)

/-- The scan's order within a chunk, at the direction's sign `s`. -/
def mask (s : BitVec 32) : IVec S128x128 1 :=
  cmpi .sge (muli (subi (iota .tc S128x128 32 [0] iota_S128x128_d0_w32) (iota .tc S128x128 32 [1] iota_S128x128_d1_w32)) (broadcast S128x128 s)) (broadcast S128x128 0#32)
/-- The same order with the two tokens exchanged. -/
def maskT (s : BitVec 32) : IVec S128x128 1 :=
  cmpi .sge (muli (subi (iota .tc S128x128 32 [1] iota_S128x128_d1_w32) (iota .tc S128x128 32 [0] iota_S128x128_d0_w32)) (broadcast S128x128 s)) (broadcast S128x128 0#32)

/-- A mask's product with an array split in two parts. -/
def maskMul (mk : IVec S128x128 1) (g : FVec F S128x512 .f32) : FVec F S128x512 .f32 :=
  addf (matmul dot_S128x128_S128x512_S128x512_1_0_0_1_n_n none (truncf .bf16 (sitofp .f32 (extui 32 mk natLt_1_32) : FVec F S128x128 .f32) bitsLt_bf16_f32) (truncf .bf16 g bitsLt_bf16_f32) (constant S128x512 .f32 0x00000000#32))
    (matmul dot_S128x128_S128x512_S128x512_1_0_0_1_n_n none (truncf .bf16 (sitofp .f32 (extui 32 mk natLt_1_32) : FVec F S128x128 .f32) bitsLt_bf16_f32) (truncf .bf16 (subf g (extf .f32 (truncf .bf16 g bitsLt_bf16_f32) bitsLt_bf16_f32)) bitsLt_bf16_f32) (constant S128x512 .f32 0x00000000#32))

/-- The sums of the columns. -/
def colsum (x : FVec F S128x512 .f32) : FVec F S1x512 .f32 :=
  shapeCast S1x512 (multiReduction .add [0] S512 x 0x00000000#32 reduces_S128x512_S512 (.inl rfl) rfl) shapeCasts_S512_S1x512

/-- An array of keys' width from its four heads' columns. -/
def heads (x : Fin 4 → FVec F S128x128 .f32) : FVec F S128x512 .f32 :=
  concatenate S128x512 1 [⟨S128x128, x 0⟩, ⟨S128x128, x 1⟩, ⟨S128x128, x 2⟩, ⟨S128x128, x 3⟩] concatenates_S128x128_S128x128_S128x128_S128x128_S128x512_d1

section
variable (s : BitVec 32) (I : In F)

def pre : FVec F S128x512 .f32 :=
  addf (addf (addf (matmul dot_S128x128_S128x512_S128x512_1_0_0_1_n_n none (truncf .bf16 I.sm bitsLt_bf16_f32) I.uh (constant S128x512 .f32 0x00000000#32))
      (matmul dot_S128x128_S128x512_S128x512_1_0_0_1_n_n none (truncf .bf16 (subf I.sm (extf .f32 (truncf .bf16 I.sm bitsLt_bf16_f32) bitsLt_bf16_f32)) bitsLt_bf16_f32) I.uh (constant S128x512 .f32 0x00000000#32)))
      (matmul dot_S128x128_S128x512_S128x512_1_0_0_1_n_n none (truncf .bf16 I.sm bitsLt_bf16_f32) I.ul (constant S128x512 .f32 0x00000000#32)))
    (broadcastTo S128x512 I.bi broadcasts_S1x512_S128x512)

def gate : FVec F S128x512 .f32 :=
  mulf (subf (minimumf (pre I) (broadcast S128x512 (Scalar.ofBits .f32 0x00000000#32)))
      (log (addf (broadcast S128x512 (Scalar.ofBits .f32 0x3F800000#32)) (exp (subf (broadcast S128x512 (Scalar.ofBits .f32 0x00000000#32)) (absf (pre I)))))))
    (broadcast S128x512 (Scalar.ofBits .f32 0x3D800000#32))

def cum : FVec F S128x512 .f32 := maskMul (mask s) (gate I)
def tot : FVec F S1x512 .f32 := colsum (gate I)
def mid : FVec F S1x512 .f32 := extractStridedSlice S1x512 ![64, 0] (cum s I) slices_S128x512_o64_0_S1x512
def expQ : FVec F S128x512 .f32 :=
  exp (minimumf (subf (cum s I) (broadcastTo S128x512 (mid s I) broadcasts_S1x512_S128x512)) (broadcast S128x512 (Scalar.ofBits .f32 0x42A00000#32)))
def expK : FVec F S128x512 .f32 :=
  exp (minimumf (subf (broadcastTo S128x512 (mid s I) broadcasts_S1x512_S128x512) (cum s I)) (broadcast S128x512 (Scalar.ofBits .f32 0x42A00000#32)))
def expIn : FVec F S128x512 .f32 := exp (cum s I)
def expOut : FVec F S128x512 .f32 := exp (subf (broadcastTo S128x512 (tot I) broadcasts_S1x512_S128x512) (cum s I))
def qs : FVec F S128x512 .f32 := mulf (extf .f32 I.q bitsLt_bf16_f32) (broadcast S128x512 (Scalar.ofBits .f32 0x3DB504F3#32))
def kf : FVec F S128x512 .f32 := extf .f32 I.k bitsLt_bf16_f32
def kOutF : FVec F S128x512 .f32 := mulf (kf I) (expOut s I)
def qb : FVec F S128x512 .bf16 := truncf .bf16 (mulf (qs I) (expQ s I)) bitsLt_bf16_f32
def kb : FVec F S128x512 .bf16 := truncf .bf16 (mulf (kf I) (expK s I)) bitsLt_bf16_f32
def qIn : FVec F S128x512 .bf16 := truncf .bf16 (mulf (qs I) (expIn s I)) bitsLt_bf16_f32
def kOut : FVec F S128x512 .bf16 := truncf .bf16 (kOutF s I) bitsLt_bf16_f32
def decay : FVec F S1x512 .f32 := exp (tot I)

/-- The attention within the chunk. -/
def att (h : Fin 4) : FVec F S128x128 .bf16 :=
  truncf .bf16 (select (mask s) (matmul dot_S128x128_S128x128_S128x128_1_1_0_0_n_n none (colsK h (qb s I)) (colsK h (kb s I)) (constant S128x128 .f32 0x00000000#32)) (broadcast S128x128 (Scalar.ofBits .f32 0x00000000#32))) bitsLt_bf16_f32
/-- Its cotangent. -/
def datt (h : Fin 4) : FVec F S128x128 .bf16 :=
  truncf .bf16 (select (mask s) (matmul dot_S128x256_S128x256_S128x128_1_1_0_0_n_n none (colsV h I.dout) (colsV h I.v) (constant S128x128 .f32 0x00000000#32)) (broadcast S128x128 (Scalar.ofBits .f32 0x00000000#32))) bitsLt_bf16_f32
def dv (h : Fin 4) : FVec F S128x256 .bf16 :=
  truncf .bf16 (addf (matmul dot_S128x128_S128x256_S128x256_0_0_1_1_n_n none (att s I h) (colsV h I.dout) (constant S128x256 .f32 0x00000000#32))
    (matmul dot_S128x128_S256x128_S128x256_1_1_0_0_n_n none (colsK h (kOut s I)) (truncf .bf16 (I.ds h) bitsLt_bf16_f32) (constant S128x256 .f32 0x00000000#32))) bitsLt_bf16_f32
def dqH (h : Fin 4) : FVec F S128x128 .f32 :=
  addf (mulf (matmul dot_S128x128_S128x128_S128x128_1_0_0_1_n_n none (datt s I h) (colsK h (kb s I)) (constant S128x128 .f32 0x00000000#32)) (colsK h (expQ s I)))
    (mulf (matmul dot_S128x256_S256x128_S128x128_1_0_0_1_n_n none (colsV h I.dout) (truncf .bf16 (I.hs h) bitsLt_bf16_f32) (constant S128x128 .f32 0x00000000#32)) (colsK h (expIn s I)))
def dkOutH (h : Fin 4) : FVec F S128x128 .f32 :=
  matmul dot_S128x256_S256x128_S128x128_1_0_0_1_n_n none (colsV h I.v) (truncf .bf16 (I.ds h) bitsLt_bf16_f32) (constant S128x128 .f32 0x00000000#32)
def dkH (h : Fin 4) : FVec F S128x128 .f32 :=
  mulf (matmul dot_S128x128_S128x128_S128x128_0_0_1_1_n_n none (datt s I h) (colsK h (qb s I)) (constant S128x128 .f32 0x00000000#32)) (colsK h (expK s I))
def dsH (h : Fin 4) : FVec F S1x128 .f32 :=
  shapeCast S1x128 (multiReduction .add [0] S128 (mulf (I.ds h) (I.hs h)) 0x00000000#32 reduces_S256x128_S128 (.inl rfl) rfl) shapeCasts_S128_S1x128
/-- The state's cotangent before the chunk. -/
def dst (h : Fin 4) : FVec F S256x128 .f32 :=
  addf (mulf (broadcastTo S256x128 (cols1 h (decay I)) broadcasts_S1x128_S256x128) (I.ds h))
    (matmul dot_S128x256_S128x128_S256x128_0_0_1_1_n_n none (colsV h I.dout) (colsK h (qIn s I)) (constant S256x128 .f32 0x00000000#32))

def dqAll : FVec F S128x512 .f32 := heads (dqH s I)
def dkOut : FVec F S128x512 .f32 := heads (dkOutH I)
def dkAll : FVec F S128x512 .f32 := addf (heads (dkH s I)) (mulf (dkOut I) (expOut s I))
def dq : FVec F S128x512 .bf16 := truncf .bf16 (mulf (dqAll s I) (broadcast S128x512 (Scalar.ofBits .f32 0x3DB504F3#32))) bitsLt_bf16_f32
def dk : FVec F S128x512 .bf16 := truncf .bf16 (dkAll s I) bitsLt_bf16_f32
/-- The cotangent of the chunk's whole decay. -/
def dTot : FVec F S1x512 .f32 :=
  addf (colsum (mulf (dkOut I) (kOutF s I)))
    (mulf (decay I) (concatenate S1x512 1 [⟨S1x128, dsH I 0⟩, ⟨S1x128, dsH I 1⟩, ⟨S1x128, dsH I 2⟩, ⟨S1x128, dsH I 3⟩] concatenates_S1x128_S1x128_S1x128_S1x128_S1x512_d1))
def dg : FVec F S128x512 .f32 :=
  addf (maskMul (maskT s) (subf (mulf (dqAll s I) (qs I)) (mulf (dkAll s I) (kf I)))) (broadcastTo S128x512 (dTot s I) broadcasts_S1x512_S128x512)
def dp : FVec F S128x512 .f32 :=
  mulf (mulf (dg s I) (broadcast S128x512 (Scalar.ofBits .f32 0x3D800000#32)))
    (divf (broadcast S128x512 (Scalar.ofBits .f32 0x3F800000#32)) (addf (broadcast S128x512 (Scalar.ofBits .f32 0x3F800000#32))
      (exp (subf (broadcast S128x512 (Scalar.ofBits .f32 0x00000000#32)) (subf (broadcast S128x512 (Scalar.ofBits .f32 0x00000000#32)) (pre I))))))
end

end Cert.KernelIdeal.Chunk

end
-- ==== Proof.Mat.lean ====
module

public import proofs.«01_k».proof.Proof.Chunk
public import Idealize.ShloMosaic.Lib.ValueIdx
public import Idealize.ShloMosaic.Lib.IdealHost
public import Idealize.ShloMosaic.Lib.Pipeline.Value
public import Idealize.ShloMosaic.PureOps.Ideal.Laws
public import Idealize.ShloMosaic.Lib.ValueLayout

@[expose] public section

/-! The kernel's products read at an index, and the extended reals' arithmetic on finite values. -/

noncomputable section

namespace Cert.KernelIdeal.Chunk

open Cert.KernelIdeal Cert.KernelIdeal.Gen Idealize.ShloMosaic.ValueIdx
open Idealize.ShloMosaic

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A product whose operands are finite at the contracted index. -/
theorem mm_coe {sl sr so : Shape} {φ₁ φ₂ : FTy} (D : DotDims sl sr so) (n : ℕ) (hr : D.contr.rank = 1)
    (hs : D.contr.size ⟨0, by omega⟩ = n) (lhs : FVec Ideal sl φ₁) (rhs : FVec Ideal sr φ₂) (j : so.Idx)
    (L : Fin n → sl.Idx) (R : Fin n → sr.Idx) (hL : ∀ k, D.lhsIdx j ((contrEquiv1 D n hr hs).symm k) = L k)
    (hR : ∀ k, D.rhsIdx j ((contrEquiv1 D n hr hs).symm k) = R k) (a b : Fin n → ℝ)
    (ha : ∀ k, lhs (L k) = ((a k : ℝ) : EReal)) (hb : ∀ k, rhs (R k) = ((b k : ℝ) : EReal)) :
    matmul (F := Ideal) D none lhs rhs (constant so .f32 0x00000000#32) j = ((∑ k, a k * b k : ℝ) : EReal) := by
  rw [coe_sum]
  simp only [matmul]
  rw [Ideal.matmul_constant_zero_apply, ← Equiv.sum_comp (contrEquiv1 D n hr hs).symm]
  exact Finset.sum_congr rfl fun k _ => by rw [hL, hR, ha, hb, EReal.coe_mul]

section
variable {φ₁ φ₂ : FTy}

theorem nn_128_512 (x : FVec Ideal S128x128 φ₁) (y : FVec Ideal S128x512 φ₂) (i : Fin 128) (j : Fin 512) (a b : Fin 128 → ℝ)
    (ha : ∀ k, x (ix2 i k) = ((a k : ℝ) : EReal)) (hb : ∀ k, y (ix2 k j) = ((b k : ℝ) : EReal)) :
    matmul dot_S128x128_S128x512_S128x512_1_0_0_1_n_n none x y (constant S128x512 .f32 0x00000000#32) (ix2 i j) = ((∑ k, a k * b k : ℝ) : EReal) :=
  mm_coe _ 128 rfl rfl x y _ (fun k => ix2 i k) (fun k => ix2 k j) (fun k => funext fun a => by fin_cases a <;> rfl)
    (fun k => funext fun a => by fin_cases a <;> rfl) a b ha hb

theorem nn_128_128 (x : FVec Ideal S128x128 φ₁) (y : FVec Ideal S128x128 φ₂) (i : Fin 128) (j : Fin 128) (a b : Fin 128 → ℝ)
    (ha : ∀ k, x (ix2 i k) = ((a k : ℝ) : EReal)) (hb : ∀ k, y (ix2 k j) = ((b k : ℝ) : EReal)) :
    matmul dot_S128x128_S128x128_S128x128_1_0_0_1_n_n none x y (constant S128x128 .f32 0x00000000#32) (ix2 i j) = ((∑ k, a k * b k : ℝ) : EReal) :=
  mm_coe _ 128 rfl rfl x y _ (fun k => ix2 i k) (fun k => ix2 k j) (fun k => funext fun a => by fin_cases a <;> rfl)
    (fun k => funext fun a => by fin_cases a <;> rfl) a b ha hb

theorem nn_256_128 (x : FVec Ideal S128x256 φ₁) (y : FVec Ideal S256x128 φ₂) (i : Fin 128) (j : Fin 128) (a b : Fin 256 → ℝ)
    (ha : ∀ k, x (ix2 i k) = ((a k : ℝ) : EReal)) (hb : ∀ k, y (ix2 k j) = ((b k : ℝ) : EReal)) :
    matmul dot_S128x256_S256x128_S128x128_1_0_0_1_n_n none x y (constant S128x128 .f32 0x00000000#32) (ix2 i j) = ((∑ k, a k * b k : ℝ) : EReal) :=
  mm_coe _ 256 rfl rfl x y _ (fun k => ix2 i k) (fun k => ix2 k j) (fun k => funext fun a => by fin_cases a <;> rfl)
    (fun k => funext fun a => by fin_cases a <;> rfl) a b ha hb

theorem nt_128_128 (x : FVec Ideal S128x128 φ₁) (y : FVec Ideal S128x128 φ₂) (i : Fin 128) (j : Fin 128) (a b : Fin 128 → ℝ)
    (ha : ∀ k, x (ix2 i k) = ((a k : ℝ) : EReal)) (hb : ∀ k, y (ix2 j k) = ((b k : ℝ) : EReal)) :
    matmul dot_S128x128_S128x128_S128x128_1_1_0_0_n_n none x y (constant S128x128 .f32 0x00000000#32) (ix2 i j) = ((∑ k, a k * b k : ℝ) : EReal) :=
  mm_coe _ 128 rfl rfl x y _ (fun k => ix2 i k) (fun k => ix2 j k) (fun k => funext fun a => by fin_cases a <;> rfl)
    (fun k => funext fun a => by fin_cases a <;> rfl) a b ha hb

theorem nt_256_128 (x : FVec Ideal S128x256 φ₁) (y : FVec Ideal S128x256 φ₂) (i : Fin 128) (j : Fin 128) (a b : Fin 256 → ℝ)
    (ha : ∀ k, x (ix2 i k) = ((a k : ℝ) : EReal)) (hb : ∀ k, y (ix2 j k) = ((b k : ℝ) : EReal)) :
    matmul dot_S128x256_S128x256_S128x128_1_1_0_0_n_n none x y (constant S128x128 .f32 0x00000000#32) (ix2 i j) = ((∑ k, a k * b k : ℝ) : EReal) :=
  mm_coe _ 256 rfl rfl x y _ (fun k => ix2 i k) (fun k => ix2 j k) (fun k => funext fun a => by fin_cases a <;> rfl)
    (fun k => funext fun a => by fin_cases a <;> rfl) a b ha hb

theorem nt_128_256 (x : FVec Ideal S128x128 φ₁) (y : FVec Ideal S256x128 φ₂) (i : Fin 128) (j : Fin 256) (a b : Fin 128 → ℝ)
    (ha : ∀ k, x (ix2 i k) = ((a k : ℝ) : EReal)) (hb : ∀ k, y (ix2 j k) = ((b k : ℝ) : EReal)) :
    matmul dot_S128x128_S256x128_S128x256_1_1_0_0_n_n none x y (constant S128x256 .f32 0x00000000#32) (ix2 i j) = ((∑ k, a k * b k : ℝ) : EReal) :=
  mm_coe _ 128 rfl rfl x y _ (fun k => ix2 i k) (fun k => ix2 j k) (fun k => funext fun a => by fin_cases a <;> rfl)
    (fun k => funext fun a => by fin_cases a <;> rfl) a b ha hb

theorem tn_128_256 (x : FVec Ideal S128x128 φ₁) (y : FVec Ideal S128x256 φ₂) (i : Fin 128) (j : Fin 256) (a b : Fin 128 → ℝ)
    (ha : ∀ k, x (ix2 k i) = ((a k : ℝ) : EReal)) (hb : ∀ k, y (ix2 k j) = ((b k : ℝ) : EReal)) :
    matmul dot_S128x128_S128x256_S128x256_0_0_1_1_n_n none x y (constant S128x256 .f32 0x00000000#32) (ix2 i j) = ((∑ k, a k * b k : ℝ) : EReal) :=
  mm_coe _ 128 rfl rfl x y _ (fun k => ix2 k i) (fun k => ix2 k j) (fun k => funext fun a => by fin_cases a <;> rfl)
    (fun k => funext fun a => by fin_cases a <;> rfl) a b ha hb

theorem tn_128_128 (x : FVec Ideal S128x128 φ₁) (y : FVec Ideal S128x128 φ₂) (i : Fin 128) (j : Fin 128) (a b : Fin 128 → ℝ)
    (ha : ∀ k, x (ix2 k i) = ((a k : ℝ) : EReal)) (hb : ∀ k, y (ix2 k j) = ((b k : ℝ) : EReal)) :
    matmul dot_S128x128_S128x128_S128x128_0_0_1_1_n_n none x y (constant S128x128 .f32 0x00000000#32) (ix2 i j) = ((∑ k, a k * b k : ℝ) : EReal) :=
  mm_coe _ 128 rfl rfl x y _ (fun k => ix2 k i) (fun k => ix2 k j) (fun k => funext fun a => by fin_cases a <;> rfl)
    (fun k => funext fun a => by fin_cases a <;> rfl) a b ha hb

theorem tn_256_128 (x : FVec Ideal S128x256 φ₁) (y : FVec Ideal S128x128 φ₂) (i : Fin 256) (j : Fin 128) (a b : Fin 128 → ℝ)
    (ha : ∀ k, x (ix2 k i) = ((a k : ℝ) : EReal)) (hb : ∀ k, y (ix2 k j) = ((b k : ℝ) : EReal)) :
    matmul dot_S128x256_S128x128_S256x128_0_0_1_1_n_n none x y (constant S256x128 .f32 0x00000000#32) (ix2 i j) = ((∑ k, a k * b k : ℝ) : EReal) :=
  mm_coe _ 128 rfl rfl x y _ (fun k => ix2 k i) (fun k => ix2 k j) (fun k => funext fun a => by fin_cases a <;> rfl)
    (fun k => funext fun a => by fin_cases a <;> rfl) a b ha hb

end

/-! ## Layout operations -/

/-- A column of an array of keys' width. -/
def ck (h : Fin 4) (k : Fin 128) : Fin 512 := ⟨128 * h.val + k.val, by omega⟩
/-- A column of an array of values' width. -/
def cv (h : Fin 4) (c : Fin 256) : Fin 1024 := ⟨256 * h.val + c.val, by omega⟩

theorem exists_ck (j : Fin 512) : ∃ h k, j = ck h k :=
  ⟨⟨j.val / 128, by omega⟩, ⟨j.val % 128, by omega⟩, Fin.ext (by show j.val = 128 * (j.val / 128) + j.val % 128; omega)⟩
theorem exists_cv (j : Fin 1024) : ∃ h k, j = cv h k :=
  ⟨⟨j.val / 256, by omega⟩, ⟨j.val % 256, by omega⟩, Fin.ext (by show j.val = 256 * (j.val / 256) + j.val % 256; omega)⟩

theorem colsK_apply {φ : FTy} (h : Fin 4) (x : FVec Ideal S128x512 φ) (i k : Fin 128) : colsK h x (ix2 i k) = x (ix2 i (ck h k)) :=
  extractStridedSlice_apply _ x (slices_k h) _ _ fun a => by
    fin_cases a
    · show i.val = 0 + i.val; omega
    · rfl
theorem colsV_apply {φ : FTy} (h : Fin 4) (x : FVec Ideal S128x1024 φ) (i : Fin 128) (k : Fin 256) : colsV h x (ix2 i k) = x (ix2 i (cv h k)) :=
  extractStridedSlice_apply _ x (slices_v h) _ _ fun a => by
    fin_cases a
    · show i.val = 0 + i.val; omega
    · rfl
theorem cols1_apply (h : Fin 4) (x : FVec Ideal S1x512 .f32) (k : Fin 128) : cols1 h x (ix2 0 k) = x (ix2 0 (ck h k)) :=
  extractStridedSlice_apply _ x (slices_1 h) _ _ fun a => by
    fin_cases a <;> rfl

theorem heads_apply (x : Fin 4 → FVec Ideal S128x128 .f32) (h : Fin 4) (i k : Fin 128) : heads x (ix2 i (ck h k)) = x h (ix2 i k) := by
  unfold heads
  have hi : ∀ b : Fin 2, b ≠ 1 → ((ix2 i k : S128x128.Idx) b).val = ((ix2 i (ck h k) : S128x512.Idx) b).val := fun b hb => by
    fin_cases b
    · rfl
    · exact absurd rfl hb
  fin_cases h
  · exact concatenate_apply_piece (t := S128x512) 1 [⟨S128x128, x 0⟩, ⟨S128x128, x 1⟩, ⟨S128x128, x 2⟩, ⟨S128x128, x 3⟩] _ _ 0 (by show 0 < 4; omega) S128x128 (x 0) rfl rfl 0 rfl (ix2 i k) hi rfl
  · exact concatenate_apply_piece (t := S128x512) 1 [⟨S128x128, x 0⟩, ⟨S128x128, x 1⟩, ⟨S128x128, x 2⟩, ⟨S128x128, x 3⟩] _ _ 1 (by show 1 < 4; omega) S128x128 (x 1) rfl rfl 128 rfl (ix2 i k) hi rfl
  · exact concatenate_apply_piece (t := S128x512) 1 [⟨S128x128, x 0⟩, ⟨S128x128, x 1⟩, ⟨S128x128, x 2⟩, ⟨S128x128, x 3⟩] _ _ 2 (by show 2 < 4; omega) S128x128 (x 2) rfl rfl 256 rfl (ix2 i k) hi rfl
  · exact concatenate_apply_piece (t := S128x512) 1 [⟨S128x128, x 0⟩, ⟨S128x128, x 1⟩, ⟨S128x128, x 2⟩, ⟨S128x128, x 3⟩] _ _ 3 (by show 3 < 4; omega) S128x128 (x 3) rfl rfl 384 rfl (ix2 i k) hi rfl

theorem heads1_apply (x : Fin 4 → FVec Ideal S1x128 .f32) (h : Fin 4) (k : Fin 128) :
    concatenate S1x512 1 [⟨S1x128, x 0⟩, ⟨S1x128, x 1⟩, ⟨S1x128, x 2⟩, ⟨S1x128, x 3⟩] concatenates_S1x128_S1x128_S1x128_S1x128_S1x512_d1 (ix2 0 (ck h k)) = x h (ix2 0 k) := by
  have hi : ∀ b : Fin 2, b ≠ 1 → ((ix2 0 k : S1x128.Idx) b).val = ((ix2 0 (ck h k) : S1x512.Idx) b).val := fun b hb => by
    fin_cases b
    · rfl
    · exact absurd rfl hb
  fin_cases h
  · exact concatenate_apply_piece (t := S1x512) 1 [⟨S1x128, x 0⟩, ⟨S1x128, x 1⟩, ⟨S1x128, x 2⟩, ⟨S1x128, x 3⟩] _ _ 0 (by show 0 < 4; omega) S1x128 (x 0) rfl rfl 0 rfl (ix2 0 k) hi rfl
  · exact concatenate_apply_piece (t := S1x512) 1 [⟨S1x128, x 0⟩, ⟨S1x128, x 1⟩, ⟨S1x128, x 2⟩, ⟨S1x128, x 3⟩] _ _ 1 (by show 1 < 4; omega) S1x128 (x 1) rfl rfl 128 rfl (ix2 0 k) hi rfl
  · exact concatenate_apply_piece (t := S1x512) 1 [⟨S1x128, x 0⟩, ⟨S1x128, x 1⟩, ⟨S1x128, x 2⟩, ⟨S1x128, x 3⟩] _ _ 2 (by show 2 < 4; omega) S1x128 (x 2) rfl rfl 256 rfl (ix2 0 k) hi rfl
  · exact concatenate_apply_piece (t := S1x512) 1 [⟨S1x128, x 0⟩, ⟨S1x128, x 1⟩, ⟨S1x128, x 2⟩, ⟨S1x128, x 3⟩] _ _ 3 (by show 3 < 4; omega) S1x128 (x 3) rfl rfl 384 rfl (ix2 0 k) hi rfl

theorem rows_apply (x : FVec Ideal S1x512 .f32) (i : Fin 128) (j : Fin 512) :
    broadcastTo S128x512 x broadcasts_S1x512_S128x512 (ix2 i j) = x (ix2 0 j) :=
  broadcastTo_1b_ab_apply x _ i j

theorem rows_state_apply (x : FVec Ideal S1x128 .f32) (i : Fin 256) (j : Fin 128) :
    broadcastTo S256x128 x broadcasts_S1x128_S256x128 (ix2 i j) = x (ix2 0 j) :=
  broadcastTo_1b_ab_apply x _ i j

theorem colsum_coe (x : FVec Ideal S128x512 .f32) (j : Fin 512) (a : Fin 128 → ℝ) (ha : ∀ i, x (ix2 i j) = ((a i : ℝ) : EReal)) :
    colsum x (ix2 0 j) = ((∑ i, a i : ℝ) : EReal) := by
  unfold colsum
  rw [shapeCast_a_1a_apply, coe_sum]
  refine (Ideal.multiReduction_add_single _ _ _ _ _ _).trans ?_
  exact Finset.sum_congr rfl fun i _ =>
    (congrArg x (show reduces_S128x512_S512.lift (ix1 j) i = ix2 (i : Fin 128) j from funext fun a => by fin_cases a <;> rfl)).trans (ha i)

theorem statesum_coe (x : FVec Ideal S256x128 .f32) (j : Fin 128) (a : Fin 256 → ℝ) (ha : ∀ i, x (ix2 i j) = ((a i : ℝ) : EReal)) :
    shapeCast S1x128 (multiReduction .add [0] S128 x 0x00000000#32 reduces_S256x128_S128 (.inl rfl) rfl) shapeCasts_S128_S1x128 (ix2 0 j) = ((∑ i, a i : ℝ) : EReal) := by
  rw [shapeCast_a_1a_apply, coe_sum]
  refine (Ideal.multiReduction_add_single _ _ _ _ _ _).trans ?_
  exact Finset.sum_congr rfl fun i _ =>
    (congrArg x (show reduces_S256x128_S128.lift (ix1 j) i = ix2 (i : Fin 256) j from funext fun a => by fin_cases a <;> rfl)).trans (ha i)

/-! ## Arithmetic on finite values -/

theorem coe_min (a b : ℝ) : min (a : EReal) (b : EReal) = ((min a b : ℝ) : EReal) := (EReal.coe_strictMono.monotone.map_min).symm
theorem coe_max (a b : ℝ) : max (a : EReal) (b : EReal) = ((max a b : ℝ) : EReal) := (EReal.coe_strictMono.monotone.map_max).symm
theorem coe_abs (a : ℝ) : max (a : EReal) (-(a : EReal)) = ((|a| : ℝ) : EReal) := by
  rw [← EReal.coe_neg, coe_max]; rfl
theorem coe_exp (a : ℝ) : Ideal.exp (a : EReal) = ((Real.exp a : ℝ) : EReal) := rfl
theorem coe_log {a : ℝ} (h : 0 < a) : Ideal.log (a : EReal) = ((Real.log a : ℝ) : EReal) := if_neg (not_le.mpr h)
theorem coe_div (a : ℝ) {b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

/-- The scale of the queries. -/
def scl : ℝ := (Ideal.ofBits .f32 0x3DB504F3#32).toReal
theorem bits_scl : Ideal.ofBits .f32 0x3DB504F3#32 = ((scl : ℝ) : EReal) := by
  unfold scl
  refine (EReal.coe_toReal ?_ ?_).symm <;> simp [Ideal.ofBits, Ideal.ieee, -EReal.coe_mul]
theorem bits_16 : Ideal.ofBits .f32 0x3D800000#32 = (((1 : ℝ) / 16 : ℝ) : EReal) := by
  simp [Ideal.ofBits, Ideal.ieee, -EReal.coe_mul]
  norm_num
theorem bits_80 : Ideal.ofBits .f32 0x42A00000#32 = ((80 : ℝ) : EReal) := by
  simp [Ideal.ofBits, Ideal.ieee, -EReal.coe_mul]
  norm_num
theorem bits_1 : Ideal.ofBits .f32 0x3F800000#32 = ((1 : ℝ) : EReal) := by
  rw [Ideal.ofBits_one_f32]; rfl
theorem bits_0 : Ideal.ofBits .f32 0x00000000#32 = ((0 : ℝ) : EReal) := by
  rw [Ideal.ofBits_zero_f32]; rfl

end Cert.KernelIdeal.Chunk

end
-- ==== Proof.ChunkVal.lean ====
module

public import proofs.«01_k».proof.Proof.Mat

@[expose] public section

/-! The chunk's values over the reals, when its blocks are finite and the gate is mild enough that the clamp of the
    exponents never binds. Tokens are numbered in the scan's order: `e` numbers the block's rows. -/

noncomputable section

namespace Cert.KernelIdeal.Chunk

open Cert.KernelIdeal Cert.KernelIdeal.Gen Idealize.ShloMosaic.ValueIdx
open Idealize.ShloMosaic

/-- The logarithm of the sigmoid. -/
def lsig (x : ℝ) : ℝ := min x 0 - Real.log (1 + Real.exp (0 - |x|))

/-- One chunk's real inputs, tokens in the scan's order. -/
structure Re where
  q : Fin 4 → Fin 128 → Fin 128 → ℝ
  k : Fin 4 → Fin 128 → Fin 128 → ℝ
  p : Fin 4 → Fin 128 → Fin 128 → ℝ
  v : Fin 4 → Fin 128 → Fin 256 → ℝ
  d : Fin 4 → Fin 128 → Fin 256 → ℝ
  H : Fin 4 → Fin 256 → Fin 128 → ℝ
  D : Fin 4 → Fin 256 → Fin 128 → ℝ

namespace Re
variable (R : Re) (e : Equiv.Perm (Fin 128))

def g (h : Fin 4) (u k : Fin 128) : ℝ := lsig (R.p h u k) * (1 / 16)
def b (h : Fin 4) (u k : Fin 128) : ℝ := ∑ w, if w ≤ u then R.g h w k else 0
def T (h : Fin 4) (k : Fin 128) : ℝ := ∑ w, R.g h w k
def eq (h : Fin 4) (u k : Fin 128) : ℝ := Real.exp (R.b h u k - R.b h (e 64) k)
def ek (h : Fin 4) (u k : Fin 128) : ℝ := Real.exp (R.b h (e 64) k - R.b h u k)
def ein (h : Fin 4) (u k : Fin 128) : ℝ := Real.exp (R.b h u k)
def eout (h : Fin 4) (u k : Fin 128) : ℝ := Real.exp (R.T h k - R.b h u k)
def qs (h : Fin 4) (u k : Fin 128) : ℝ := R.q h u k * scl
def kout (h : Fin 4) (u k : Fin 128) : ℝ := R.k h u k * R.eout h u k
def att (h : Fin 4) (x y : Fin 128) : ℝ := if y ≤ x then ∑ k, (R.qs h x k * R.eq e h x k) * (R.k h y k * R.ek e h y k) else 0
def datt (h : Fin 4) (x y : Fin 128) : ℝ := if y ≤ x then ∑ c, R.d h x c * R.v h y c else 0
def dv (h : Fin 4) (y : Fin 128) (c : Fin 256) : ℝ := (∑ x, R.att e h x y * R.d h x c) + ∑ k, R.kout h y k * R.D h c k
def dq (h : Fin 4) (x k : Fin 128) : ℝ := (∑ y, R.datt h x y * (R.k h y k * R.ek e h y k)) * R.eq e h x k + (∑ c, R.d h x c * R.H h c k) * R.ein h x k
def dko (h : Fin 4) (y k : Fin 128) : ℝ := ∑ c, R.v h y c * R.D h c k
def dk (h : Fin 4) (y k : Fin 128) : ℝ := (∑ x, R.datt h x y * (R.qs h x k * R.eq e h x k)) * R.ek e h y k + R.dko h y k * R.eout h y k
def S (h : Fin 4) (c : Fin 256) (k : Fin 128) : ℝ := Real.exp (R.T h k) * R.D h c k + ∑ x, R.d h x c * (R.qs h x k * R.ein h x k)
def dT (h : Fin 4) (k : Fin 128) : ℝ := (∑ y, R.dko h y k * R.kout h y k) + Real.exp (R.T h k) * ∑ c, R.D h c k * R.H h c k
def dg (h : Fin 4) (u k : Fin 128) : ℝ := (∑ z, if u ≤ z then R.dq e h z k * R.qs h z k - R.dk e h z k * R.k h z k else 0) + R.dT h k
def dp (h : Fin 4) (u k : Fin 128) : ℝ := R.dg e h u k * (1 / 16) * (1 / (1 + Real.exp (0 - (0 - R.p h u k))))
end Re

variable (e : Equiv.Perm (Fin 128))

/-- An array of keys' width is finite, rows numbered by `e`. -/
def HasK {φ : FTy} (x : FVec Ideal S128x512 φ) (a : Fin 4 → Fin 128 → Fin 128 → ℝ) : Prop :=
  ∀ h t k, x (ix2 t (ck h k)) = ((a h (e t) k : ℝ) : EReal)
/-- An array of values' width likewise. -/
def HasV {φ : FTy} (x : FVec Ideal S128x1024 φ) (a : Fin 4 → Fin 128 → Fin 256 → ℝ) : Prop :=
  ∀ h t c, x (ix2 t (cv h c)) = ((a h (e t) c : ℝ) : EReal)
/-- A row of keys' width. -/
def Has1 (x : FVec Ideal S1x512 .f32) (a : Fin 4 → Fin 128 → ℝ) : Prop :=
  ∀ h k, x (ix2 0 (ck h k)) = ((a h k : ℝ) : EReal)
/-- One head's rows. -/
def HasT {φ : FTy} (x : FVec Ideal S128x128 φ) (a : Fin 128 → Fin 128 → ℝ) : Prop :=
  ∀ t k, x (ix2 t k) = ((a (e t) k : ℝ) : EReal)
/-- One head's pairs of tokens. -/
def HasA {φ : FTy} (x : FVec Ideal S128x128 φ) (a : Fin 128 → Fin 128 → ℝ) : Prop :=
  ∀ t u, x (ix2 t u) = ((a (e t) (e u) : ℝ) : EReal)
/-- One head's state. -/
def HasS {φ : FTy} (x : FVec Ideal S256x128 φ) (a : Fin 256 → Fin 128 → ℝ) : Prop :=
  ∀ c k, x (ix2 c k) = ((a c k : ℝ) : EReal)

/-- The blocks hold the real inputs. -/
structure Is (I : In Ideal) (R : Re) : Prop where
  q : HasK (φ := .bf16) e I.q R.q
  k : HasK (φ := .bf16) e I.k R.k
  p : HasK e (pre I) R.p
  v : HasV (φ := .bf16) e I.v R.v
  d : HasV (φ := .bf16) e I.dout R.d
  H : ∀ h, HasS (I.hs h) (R.H h)
  D : ∀ h, HasS (I.ds h) (R.D h)

/-- The sign is the direction of the numbering. -/
structure Dir (s : BitVec 32) : Prop where
  m : ∀ t u, mask s (ix2 t u) = BitVec.ofBool (decide (e u ≤ e t))
  mT : ∀ t u, maskT s (ix2 t u) = BitVec.ofBool (decide (e t ≤ e u))

/-! ## The operations -/

section ops
variable {e}

theorem HasK.mul {φ : FTy} {x y : FVec Ideal S128x512 φ} {a b : Fin 4 → Fin 128 → Fin 128 → ℝ} (hx : HasK e x a) (hy : HasK e y b) :
    HasK e (mulf x y) (fun h u k => a h u k * b h u k) := fun h t k => by
  rw [mulf_apply, hx, hy, EReal.coe_mul]
theorem HasK.add {φ : FTy} {x y : FVec Ideal S128x512 φ} {a b : Fin 4 → Fin 128 → Fin 128 → ℝ} (hx : HasK e x a) (hy : HasK e y b) :
    HasK e (addf x y) (fun h u k => a h u k + b h u k) := fun h t k => by
  rw [addf_apply, hx, hy, EReal.coe_add]
theorem HasK.sub {φ : FTy} {x y : FVec Ideal S128x512 φ} {a b : Fin 4 → Fin 128 → Fin 128 → ℝ} (hx : HasK e x a) (hy : HasK e y b) :
    HasK e (subf x y) (fun h u k => a h u k - b h u k) := fun h t k => by
  rw [subf_apply, hx, hy, EReal.coe_sub]
theorem HasK.exp {φ : FTy} {x : FVec Ideal S128x512 φ} {a : Fin 4 → Fin 128 → Fin 128 → ℝ} (hx : HasK e x a) :
    HasK e (Idealize.ShloMosaic.exp x) (fun h u k => Real.exp (a h u k)) := fun h t k => by
  show Ideal.exp (x _) = _
  rw [hx, coe_exp]
theorem HasK.const {φ : FTy} (b : BitVec φ.bits) (r : ℝ) (hr : Ideal.ofBits φ b = ((r : ℝ) : EReal)) :
    HasK e (broadcast S128x512 (Scalar.ofBits (F := Ideal) φ b)) (fun _ _ _ => r) := fun _ _ _ => hr
theorem HasK.rows {x : FVec Ideal S1x512 .f32} {a : Fin 4 → Fin 128 → ℝ} (hx : Has1 x a) :
    HasK e (broadcastTo S128x512 x broadcasts_S1x512_S128x512) (fun h _ k => a h k) := fun h t k => by
  rw [rows_apply, hx]
theorem HasK.of_eq {φ : FTy} {x : FVec Ideal S128x512 φ} {a b : Fin 4 → Fin 128 → Fin 128 → ℝ} (hx : HasK e x a) (h : ∀ h u k, a h u k = b h u k) :
    HasK e x b := fun h' t k => by rw [hx, h]
theorem HasK.cols {φ : FTy} {x : FVec Ideal S128x512 φ} {a : Fin 4 → Fin 128 → Fin 128 → ℝ} (hx : HasK e x a) (h : Fin 4) :
    HasT e (colsK h x) (a h) := fun t k => by rw [colsK_apply, hx]
theorem HasK.heads {x : Fin 4 → FVec Ideal S128x128 .f32} {a : Fin 4 → Fin 128 → Fin 128 → ℝ} (hx : ∀ h, HasT e (x h) (a h)) :
    HasK e (heads x) a := fun h t k => by rw [heads_apply, hx]
theorem HasK.colsum {x : FVec Ideal S128x512 .f32} {a : Fin 4 → Fin 128 → Fin 128 → ℝ} (hx : HasK e x a) :
    Has1 (colsum x) (fun h k => ∑ u, a h u k) := fun h k => by
  rw [colsum_coe x (ck h k) (fun t => a h (e t) k) (fun t => hx h t k), Equiv.sum_comp e (fun u => a h u k)]

theorem HasT.mul {φ : FTy} {x y : FVec Ideal S128x128 φ} {a b : Fin 128 → Fin 128 → ℝ} (hx : HasT e x a) (hy : HasT e y b) :
    HasT e (mulf x y) (fun u k => a u k * b u k) := fun t k => by
  rw [mulf_apply, hx, hy, EReal.coe_mul]
theorem HasT.add {φ : FTy} {x y : FVec Ideal S128x128 φ} {a b : Fin 128 → Fin 128 → ℝ} (hx : HasT e x a) (hy : HasT e y b) :
    HasT e (addf x y) (fun u k => a u k + b u k) := fun t k => by
  rw [addf_apply, hx, hy, EReal.coe_add]

/-- A masked product of a pair of tokens. -/
theorem HasA.select {s : BitVec 32} (hd : Dir e s) {x : FVec Ideal S128x128 .f32} {a : Fin 128 → Fin 128 → ℝ} (hx : HasA e x a) :
    HasA e (truncf .bf16 (select (mask s) x (broadcast S128x128 (Scalar.ofBits (F := Ideal) .f32 0x00000000#32))) bitsLt_bf16_f32)
      (fun x y => if y ≤ x then a x y else 0) := fun t u => by
  show Scalar.select (mask s (ix2 t u)) (x (ix2 t u)) (Ideal.ofBits .f32 0x00000000#32) = _
  rw [hd.m, hx, bits_0]
  by_cases h : e u ≤ e t
  · rw [decide_eq_true h]
    show a (e t) (e u) = ((if e u ≤ e t then a (e t) (e u) else 0 : ℝ) : EReal)
    rw [if_pos h]
  · rw [decide_eq_false h]
    show ((0 : ℝ) : EReal) = ((if e u ≤ e t then a (e t) (e u) else 0 : ℝ) : EReal)
    rw [if_neg h]

theorem mask_word (p : Prop) [Decidable p] :
    (((((BitVec.ofBool (decide p)).setWidth 32).toInt : ℝ)) : EReal) = (((if p then 1 else 0 : ℝ)) : EReal) := by
  by_cases h : p
  · rw [decide_eq_true h, if_pos h]; simp
  · rw [decide_eq_false h, if_neg h]; simp

theorem maskMul_coe (mk : IVec S128x128 1) (P : Fin 128 → Fin 128 → Prop) [∀ t u, Decidable (P t u)]
    (hm : ∀ t u, mk (ix2 t u) = BitVec.ofBool (decide (P (e t) (e u)))) {x : FVec Ideal S128x512 .f32} {a : Fin 4 → Fin 128 → Fin 128 → ℝ} (hx : HasK e x a) :
    HasK e (maskMul mk x) (fun h u k => ∑ w, if P u w then a h w k else 0) := fun h t k => by
  have hw : ∀ u, (truncf .bf16 (sitofp .f32 (extui 32 mk natLt_1_32) : FVec Ideal S128x128 .f32) bitsLt_bf16_f32) (ix2 t u) = (((if P (e t) (e u) then 1 else 0 : ℝ)) : EReal) := fun u => by
    show ((((mk (ix2 t u)).setWidth 32).toInt : ℝ) : EReal) = _
    rw [hm, mask_word]
  unfold maskMul
  rw [addf_apply, nn_128_512 _ _ t (ck h k) _ (fun u => a h (e u) k) hw (fun u => show truncf .bf16 x bitsLt_bf16_f32 (ix2 u (ck h k)) = _ from hx h u k),
    nn_128_512 _ _ t (ck h k) _ (fun u => a h (e u) k - a h (e u) k) hw (fun u => by
      show truncf .bf16 (subf x (extf .f32 (truncf .bf16 x bitsLt_bf16_f32) bitsLt_bf16_f32)) bitsLt_bf16_f32 (ix2 u (ck h k)) = _
      show x _ - x _ = _
      rw [hx, EReal.coe_sub]), ← EReal.coe_add]
  congr 1
  rw [Equiv.sum_comp e (fun w => (if P (e t) w then (1 : ℝ) else 0) * a h w k), Equiv.sum_comp e (fun w => (if P (e t) w then (1 : ℝ) else 0) * (a h w k - a h w k))]
  simp
end ops

/-! ## The chunk -/

section vals
variable {e} {s : BitVec 32} {I : In Ideal} {R : Re} (hd : Dir e s) (hI : Is e I R)
  (hc : ∀ h u k, |R.b h u k - R.b h (e 64) k| ≤ 80)
include hI

theorem gate_val : HasK e (gate I) R.g := fun h t k => by
  show (min (pre I _) (Ideal.ofBits .f32 0x00000000#32) - Ideal.log (Ideal.ofBits .f32 0x3F800000#32 + Ideal.exp (Ideal.ofBits .f32 0x00000000#32 - max (pre I _) (-(pre I _))))) * Ideal.ofBits .f32 0x3D800000#32 = _
  rw [hI.p, bits_0, bits_1, bits_16, coe_abs, ← EReal.coe_sub, coe_exp, ← EReal.coe_add, coe_log (by positivity), coe_min, ← EReal.coe_sub, ← EReal.coe_mul]
  rfl

theorem tot_val : Has1 (tot I) R.T := HasK.colsum (gate_val hI)
theorem qs_val : HasK e (qs I) R.qs := HasK.mul (φ := .f32) hI.q (HasK.const _ _ bits_scl)
theorem decay_val : Has1 (decay I) (fun h k => Real.exp (R.T h k)) := fun h k => by
  show Ideal.exp (tot I _) = _
  rw [tot_val hI, coe_exp]
theorem v_cols (h : Fin 4) (t : Fin 128) (c : Fin 256) : (colsV h I.v : FVec Ideal S128x256 .bf16) (ix2 t c) = ((R.v h (e t) c : ℝ) : EReal) := by
  rw [colsV_apply, hI.v]
theorem d_cols (h : Fin 4) (t : Fin 128) (c : Fin 256) : (colsV h I.dout : FVec Ideal S128x256 .bf16) (ix2 t c) = ((R.d h (e t) c : ℝ) : EReal) := by
  rw [colsV_apply, hI.d]
theorem dko_val (h : Fin 4) : HasT e (dkOutH I h) (R.dko h) := fun t k => by
  unfold dkOutH
  rw [nn_256_128 _ (truncf .bf16 (I.ds h) bitsLt_bf16_f32) t k (fun c => R.v h (e t) c) (fun c => R.D h c k) (fun c => v_cols hI h t c) (fun c => hI.D h c k)]
  rfl
theorem dkOut_val : HasK e (dkOut I) R.dko := HasK.heads (dko_val hI)

include hd
theorem cum_val : HasK e (cum s I) R.b :=
  maskMul_coe (mask s) (fun u w => w ≤ u) hd.m (gate_val hI)
theorem mid_val : Has1 (mid s I) (fun h k => R.b h (e 64) k) := fun h k => by
  unfold mid
  rw [extractStridedSlice_apply _ (cum s I) _ (ix2 (0 : Fin 1) (ck h k)) (ix2 (64 : Fin 128) (ck h k)) (fun a => by fin_cases a <;> simp [ix2]), cum_val hd hI]
theorem expIn_val : HasK e (expIn s I) R.ein := HasK.exp (cum_val hd hI)
theorem expOut_val : HasK e (expOut s I) R.eout := HasK.exp (HasK.sub (HasK.rows (tot_val hI)) (cum_val hd hI))
theorem kOutF_val : HasK e (kOutF s I) R.kout := HasK.mul (φ := .f32) hI.k (expOut_val hd hI)
theorem qIn_val : HasK e (qIn s I) (fun h u k => R.qs h u k * R.ein h u k) := HasK.mul (φ := .f32) (qs_val hI) (expIn_val hd hI)

theorem dst_val (h : Fin 4) : HasS (dst s I h) (R.S h) := fun c k => by
  unfold dst
  rw [addf_apply, mulf_apply, rows_state_apply, cols1_apply, decay_val hI, hI.D,
    tn_256_128 _ _ c k (fun t => R.d h (e t) c) (fun t => R.qs h (e t) k * R.ein h (e t) k) (fun t => d_cols hI h t c)
      (fun t => by rw [colsK_apply, qIn_val hd hI]),
    Equiv.sum_comp e (fun x => R.d h x c * (R.qs h x k * R.ein h x k)), ← EReal.coe_mul, ← EReal.coe_add]
  rfl

theorem dTot_val : Has1 (dTot s I) R.dT := fun h k => by
  unfold dTot
  rw [addf_apply, mulf_apply, HasK.colsum (HasK.mul (dkOut_val hI) (kOutF_val hd hI)), decay_val hI, heads1_apply]
  unfold dsH
  rw [statesum_coe _ k (fun c => R.D h c k * R.H h c k) (fun c => by rw [mulf_apply, hI.D, hI.H, EReal.coe_mul]), ← EReal.coe_mul, ← EReal.coe_add]
  rfl

theorem datt_val (h : Fin 4) : HasA e (datt s I h) (R.datt h) :=
  HasA.select hd (a := fun x y => ∑ c, R.d h x c * R.v h y c) fun t u =>
    nt_256_128 _ _ t u (fun c => R.d h (e t) c) (fun c => R.v h (e u) c) (fun c => d_cols hI h t c) (fun c => v_cols hI h u c)

include hc
theorem expQ_val : HasK e (expQ s I) (R.eq e) := fun h t k => by
  show Ideal.exp (min (cum s I _ - broadcastTo S128x512 (mid s I) broadcasts_S1x512_S128x512 (ix2 t (ck h k))) (Ideal.ofBits .f32 0x42A00000#32)) = _
  rw [cum_val hd hI, rows_apply, mid_val hd hI, bits_80, ← EReal.coe_sub, coe_min, min_eq_left (abs_le.mp (hc h (e t) k)).2, coe_exp]
  rfl
theorem expK_val : HasK e (expK s I) (R.ek e) := fun h t k => by
  show Ideal.exp (min (broadcastTo S128x512 (mid s I) broadcasts_S1x512_S128x512 (ix2 t (ck h k)) - cum s I _) (Ideal.ofBits .f32 0x42A00000#32)) = _
  rw [cum_val hd hI, rows_apply, mid_val hd hI, bits_80, ← EReal.coe_sub, coe_min,
    min_eq_left (by linarith [(abs_le.mp (hc h (e t) k)).1]), coe_exp]
  rfl
theorem qb_val : HasK e (qb s I) (fun h u k => R.qs h u k * R.eq e h u k) := HasK.mul (φ := .f32) (qs_val hI) (expQ_val hd hI hc)
theorem kb_val : HasK e (kb s I) (fun h u k => R.k h u k * R.ek e h u k) := HasK.mul (φ := .f32) hI.k (expK_val hd hI hc)

theorem att_val (h : Fin 4) : HasA e (att s I h) (R.att e h) :=
  HasA.select hd (a := fun x y => ∑ k, (R.qs h x k * R.eq e h x k) * (R.k h y k * R.ek e h y k)) fun t u =>
    nt_128_128 _ _ t u _ _ (fun k => (qb_val hd hI hc).cols h t k) (fun k => (kb_val hd hI hc).cols h u k)

theorem dv_val (h : Fin 4) (t : Fin 128) (c : Fin 256) : dv s I h (ix2 t c) = ((R.dv e h (e t) c : ℝ) : EReal) := by
  show addf (F := Ideal) (matmul _ none _ _ _) (matmul _ none _ _ _) (ix2 t c) = _
  rw [addf_apply, tn_128_256 _ _ t c (fun u => R.att e h (e u) (e t)) (fun u => R.d h (e u) c) (fun u => att_val hd hI hc h u t) (fun u => d_cols hI h u c),
    nt_128_256 _ (truncf .bf16 (I.ds h) bitsLt_bf16_f32) t c (fun k => R.kout h (e t) k) (fun k => R.D h c k) (fun k => HasK.cols (φ := .bf16) (x := kOut s I) (kOutF_val hd hI) h t k) (fun k => hI.D h c k),
    Equiv.sum_comp e (fun x => R.att e h x (e t) * R.d h x c), ← EReal.coe_add]
  rfl

theorem dqH_val (h : Fin 4) : HasT e (dqH s I h) (R.dq e h) := fun t k => by
  unfold dqH
  rw [addf_apply, mulf_apply, mulf_apply, colsK_apply, expQ_val hd hI hc, colsK_apply, expIn_val hd hI,
    nn_128_128 _ _ t k (fun u => R.datt h (e t) (e u)) _ (fun u => datt_val hd hI h t u) (fun u => (kb_val hd hI hc).cols h u k),
    nn_256_128 _ (truncf .bf16 (I.hs h) bitsLt_bf16_f32) t k (fun c => R.d h (e t) c) (fun c => R.H h c k) (fun c => d_cols hI h t c) (fun c => hI.H h c k),
    Equiv.sum_comp e (fun y => R.datt h (e t) y * (R.k h y k * R.ek e h y k)), ← EReal.coe_mul, ← EReal.coe_mul, ← EReal.coe_add]
  rfl
theorem dkH_val (h : Fin 4) : HasT e (dkH s I h) (fun y k => (∑ x, R.datt h x y * (R.qs h x k * R.eq e h x k)) * R.ek e h y k) := fun t k => by
  unfold dkH
  rw [mulf_apply, colsK_apply, expK_val hd hI hc,
    tn_128_128 _ _ t k (fun u => R.datt h (e u) (e t)) _ (fun u => datt_val hd hI h u t) (fun u => (qb_val hd hI hc).cols h u k),
    Equiv.sum_comp e (fun x => R.datt h x (e t) * (R.qs h x k * R.eq e h x k)), ← EReal.coe_mul]
theorem dqAll_val : HasK e (dqAll s I) (R.dq e) := HasK.heads (dqH_val hd hI hc)
theorem dkAll_val : HasK e (dkAll s I) (R.dk e) :=
  HasK.add (HasK.heads (dkH_val hd hI hc)) (HasK.mul (dkOut_val hI) (expOut_val hd hI))
theorem dq_val : HasK e (dq s I) (fun h u k => R.dq e h u k * scl) := HasK.mul (φ := .f32) (dqAll_val hd hI hc) (HasK.const _ _ bits_scl)
theorem dk_val : HasK e (dk s I) (R.dk e) := dkAll_val hd hI hc
theorem dg_val : HasK e (dg s I) (R.dg e) :=
  HasK.add (maskMul_coe (maskT s) (fun u z => u ≤ z) hd.mT (HasK.sub (HasK.mul (dqAll_val hd hI hc) (qs_val hI)) (HasK.mul (φ := .f32) (y := kf I) (dkAll_val hd hI hc) hI.k)))
    (HasK.rows (dTot_val hd hI))
theorem dp_val : HasK e (dp s I) (R.dp e) := fun h t k => by
  show dg s I _ * Ideal.ofBits .f32 0x3D800000#32 * Ideal.div (Ideal.ofBits .f32 0x3F800000#32) (Ideal.ofBits .f32 0x3F800000#32 + Ideal.exp (Ideal.ofBits .f32 0x00000000#32 - (Ideal.ofBits .f32 0x00000000#32 - pre I _))) = _
  rw [dg_val hd hI hc, hI.p, bits_0, bits_1, bits_16, ← EReal.coe_sub, ← EReal.coe_sub, coe_exp, ← EReal.coe_add, coe_div _ (by positivity), ← EReal.coe_mul, ← EReal.coe_mul]
  rfl
end vals

end Cert.KernelIdeal.Chunk

end
-- ==== Proof.Real.lean ====
module

public import proofs.«01_k».proof.Proof.ChunkVal

@[expose] public section

set_option maxRecDepth 20000

/-! The gradients of gated linear attention over the reals, for the whole sequence at once, and the theorem that the
    chunked recurrence computes them: a chunk with the state before it and the state's cotangent after it yields the
    sequence's gradients at its tokens, and the state's cotangent before it. -/

noncomputable section

namespace Cert.Gla

open Cert.KernelIdeal.Chunk (lsig scl Re)

/-- The sequence's real inputs: queries, keys and the gate's preactivation; values and the result's cotangent. -/
structure Seq where
  q : Fin 4 → Fin 8448 → Fin 128 → ℝ
  k : Fin 4 → Fin 8448 → Fin 128 → ℝ
  p : Fin 4 → Fin 8448 → Fin 128 → ℝ
  v : Fin 4 → Fin 8448 → Fin 256 → ℝ
  d : Fin 4 → Fin 8448 → Fin 256 → ℝ

/-- Token `u` of chunk `i`. -/
def pos (i : Fin 66) (u : Fin 128) : Fin 8448 := ⟨128 * i.val + u.val, by omega⟩

theorem exists_pos (x : Fin 8448) : ∃ i u, x = pos i u :=
  ⟨⟨x.val / 128, by omega⟩, ⟨x.val % 128, by omega⟩, Fin.ext (by show x.val = 128 * (x.val / 128) + x.val % 128; omega)⟩

theorem sum_pos (i : Fin 66) (f : Fin 8448 → ℝ) :
    (∑ x, if 128 * i.val ≤ x.val ∧ x.val < 128 * (i.val + 1) then f x else 0) = ∑ u, f (pos i u) := by
  rw [← Finset.sum_filter]
  refine (Finset.sum_nbij (pos i) ?_ ?_ ?_ ?_).symm
  · intro u _
    refine Finset.mem_filter.mpr ⟨Finset.mem_univ _, ?_⟩
    show 128 * i.val ≤ 128 * i.val + u.val ∧ 128 * i.val + u.val < 128 * (i.val + 1)
    omega
  · intro u _ w _ h
    have : 128 * i.val + u.val = 128 * i.val + w.val := congrArg Fin.val h
    exact Fin.ext (by omega)
  · intro x hx
    have hx' := (Finset.mem_filter.mp hx).2
    refine ⟨⟨x.val - 128 * i.val, by omega⟩, Finset.mem_coe.mpr (Finset.mem_univ _), Fin.ext ?_⟩
    show 128 * i.val + (x.val - 128 * i.val) = x.val
    omega
  · intros; rfl

theorem ite_split (P C Q : Prop) [Decidable P] [Decidable C] [Decidable Q] (h1 : P ↔ (C ∧ P) ∨ Q) (h2 : Q → ¬ C) (r : ℝ) :
    (if P then r else 0) = (if C then (if P then r else 0) else 0) + if Q then r else 0 := by
  by_cases hP : P <;> by_cases hQ : Q <;> by_cases hC : C <;> simp_all

/-- A chunk and what lies beyond it. -/
theorem sum_split (i : Fin 66) (P Q : Fin 8448 → Prop) [DecidablePred P] [DecidablePred Q] (f : Fin 8448 → ℝ)
    (h : ∀ x, P x ↔ (128 * i.val ≤ x.val ∧ x.val < 128 * (i.val + 1) ∧ P x) ∨ Q x)
    (hQ : ∀ x, Q x → ¬ (128 * i.val ≤ x.val ∧ x.val < 128 * (i.val + 1))) :
    (∑ x, if P x then f x else 0) = (∑ u, if P (pos i u) then f (pos i u) else 0) + ∑ x, if Q x then f x else 0 := by
  rw [← sum_pos i (fun x => if P x then f x else 0), ← Finset.sum_add_distrib]
  refine Finset.sum_congr rfl fun x _ => ?_
  exact ite_split (P x) _ (Q x) (by rw [and_assoc]; exact h x) (hQ x) (f x)

namespace Seq
variable (G : Seq) (h : Fin 4)

def g (x : Fin 8448) (k : Fin 128) : ℝ := lsig (G.p h x k) * (1 / 16)
/-- The gate's running sum. -/
def B (x : Fin 8448) (k : Fin 128) : ℝ := ∑ w, if w ≤ x then G.g h w k else 0
/-- The running sum before chunk `i`. -/
def E (i : ℕ) (k : Fin 128) : ℝ := ∑ w : Fin 8448, if w.val < 128 * i then G.g h w k else 0
def qs (x : Fin 8448) (k : Fin 128) : ℝ := G.q h x k * scl
def att (x y : Fin 8448) : ℝ := if y ≤ x then ∑ k, G.qs h x k * G.k h y k * Real.exp (G.B h x k - G.B h y k) else 0
def datt (x y : Fin 8448) : ℝ := if y ≤ x then ∑ c, G.d h x c * G.v h y c else 0
def dv (y : Fin 8448) (c : Fin 256) : ℝ := ∑ x, G.att h x y * G.d h x c
def dq (x : Fin 8448) (k : Fin 128) : ℝ := ∑ y, G.datt h x y * (G.k h y k * Real.exp (G.B h x k - G.B h y k))
def dk (y : Fin 8448) (k : Fin 128) : ℝ := ∑ x, G.datt h x y * (G.qs h x k * Real.exp (G.B h x k - G.B h y k))
def dB (z : Fin 8448) (k : Fin 128) : ℝ := G.dq h z k * G.qs h z k - G.dk h z k * G.k h z k
def dg (z : Fin 8448) (k : Fin 128) : ℝ := ∑ x, if z ≤ x then G.dB h x k else 0
def dp (z : Fin 8448) (k : Fin 128) : ℝ := G.dg h z k * (1 / 16) * (1 / (1 + Real.exp (0 - (0 - G.p h z k))))
/-- The state before chunk `i`. -/
def H (i : ℕ) (c : Fin 256) (k : Fin 128) : ℝ :=
  ∑ y : Fin 8448, if y.val < 128 * i then G.v h y c * (G.k h y k * Real.exp (G.E h i k - G.B h y k)) else 0
/-- The state's cotangent before chunk `i`. -/
def D (i : ℕ) (c : Fin 256) (k : Fin 128) : ℝ :=
  ∑ x : Fin 8448, if 128 * i ≤ x.val then G.d h x c * (G.qs h x k * Real.exp (G.B h x k - G.E h i k)) else 0
end Seq

/-- Chunk `i` of the sequence. -/
def Seq.chunk (G : Seq) (i : Fin 66) : Re where
  q h u k := G.q h (pos i u) k
  k h u k := G.k h (pos i u) k
  p h u k := G.p h (pos i u) k
  v h u c := G.v h (pos i u) c
  d h u c := G.d h (pos i u) c
  H h := G.H h i.val
  D h := G.D h (i.val + 1)

section
variable (G : Seq) (e : Equiv.Perm (Fin 128)) (h : Fin 4) (i : Fin 66)

theorem pos_le (u w : Fin 128) : pos i u ≤ pos i w ↔ u ≤ w := by
  show 128 * i.val + u.val ≤ 128 * i.val + w.val ↔ u.val ≤ w.val
  omega

theorem chunk_b (u k : Fin 128) : (G.chunk i).b h u k = G.B h (pos i u) k - G.E h i.val k := by
  unfold Seq.B Seq.E Re.b
  rw [sum_split i (fun w => w ≤ pos i u) (fun w => w.val < 128 * i.val) (fun w => G.g h w k)
    (fun x => by
      show x.val ≤ 128 * i.val + u.val ↔ (_ ∧ _ ∧ x.val ≤ 128 * i.val + u.val) ∨ _
      omega) (fun x hx => by omega)]
  rw [add_sub_cancel_right]
  exact Finset.sum_congr rfl fun w _ => if_congr (pos_le i w u).symm rfl rfl

theorem chunk_T (k : Fin 128) : (G.chunk i).T h k = G.E h (i.val + 1) k - G.E h i.val k := by
  unfold Seq.E Re.T
  rw [sum_split i (fun w => w.val < 128 * (i.val + 1)) (fun w => w.val < 128 * i.val) (fun w => G.g h w k)
    (fun x => by omega) (fun x hx => by omega), add_sub_cancel_right]
  exact Finset.sum_congr rfl fun w _ => (if_pos (by show 128 * i.val + w.val < _; omega)).symm

theorem chunk_eqek (u w k : Fin 128) : (G.chunk i).eq e h u k * (G.chunk i).ek e h w k = Real.exp (G.B h (pos i u) k - G.B h (pos i w) k) := by
  unfold Re.eq Re.ek
  rw [← Real.exp_add, chunk_b, chunk_b, chunk_b]
  congr 1; ring

theorem chunk_eout (u k : Fin 128) : (G.chunk i).eout h u k = Real.exp (G.E h (i.val + 1) k - G.B h (pos i u) k) := by
  unfold Re.eout
  rw [chunk_b, chunk_T]
  congr 1; ring

theorem chunk_ein (u k : Fin 128) : (G.chunk i).ein h u k = Real.exp (G.B h (pos i u) k - G.E h i.val k) := by
  unfold Re.ein
  rw [chunk_b]

theorem chunk_att (x y : Fin 128) : (G.chunk i).att e h x y = G.att h (pos i x) (pos i y) := by
  unfold Re.att Seq.att
  refine if_congr (pos_le i y x).symm (Finset.sum_congr rfl fun k _ => ?_) rfl
  rw [← chunk_eqek G e h i x y k]
  show G.qs h (pos i x) k * _ * (G.k h (pos i y) k * _) = _
  ring

theorem chunk_datt (x y : Fin 128) : (G.chunk i).datt h x y = G.datt h (pos i x) (pos i y) :=
  if_congr (pos_le i y x).symm rfl rfl

/-- The state's cotangent before the chunk. -/
theorem chunk_S (c : Fin 256) (k : Fin 128) : (G.chunk i).S h c k = G.D h i.val c k := by
  unfold Re.S
  conv_rhs => unfold Seq.D
  rw [sum_split i (fun x => 128 * i.val ≤ x.val) (fun x => 128 * (i.val + 1) ≤ x.val) _ (fun x => by omega) (fun x hx => by omega), add_comm]
  congr 1
  · refine Finset.sum_congr rfl fun u _ => ?_
    rw [if_pos (by show 128 * i.val ≤ 128 * i.val + u.val; omega), chunk_ein]
    rfl
  · show _ * G.D h (i.val + 1) c k = _
    unfold Seq.D
    rw [chunk_T, Finset.mul_sum]
    refine Finset.sum_congr rfl fun x _ => ?_
    split_ifs
    · rw [show G.B h x k - G.E h i.val k = (G.E h (i.val + 1) k - G.E h i.val k) + (G.B h x k - G.E h (i.val + 1) k) by ring, Real.exp_add]
      ring
    · rw [mul_zero]

theorem chunk_dko (y k : Fin 128) : (G.chunk i).dko h y k * (G.chunk i).eout h y k =
    ∑ x : Fin 8448, if 128 * (i.val + 1) ≤ x.val then (∑ c, G.d h x c * G.v h (pos i y) c) * (G.qs h x k * Real.exp (G.B h x k - G.B h (pos i y) k)) else 0 := by
  unfold Re.dko
  rw [Finset.sum_mul, chunk_eout]
  have : ∀ c, (G.chunk i).v h y c * (G.chunk i).D h c k * Real.exp (G.E h (i.val + 1) k - G.B h (pos i y) k)
      = ∑ x : Fin 8448, if 128 * (i.val + 1) ≤ x.val then (G.d h x c * G.v h (pos i y) c) * (G.qs h x k * Real.exp (G.B h x k - G.B h (pos i y) k)) else 0 := fun c => by
    show G.v h (pos i y) c * G.D h (i.val + 1) c k * _ = _
    unfold Seq.D
    rw [Finset.mul_sum, Finset.sum_mul]
    refine Finset.sum_congr rfl fun x _ => ?_
    split_ifs
    · rw [show G.B h x k - G.B h (pos i y) k = (G.B h x k - G.E h (i.val + 1) k) + (G.E h (i.val + 1) k - G.B h (pos i y) k) by ring, Real.exp_add]
      ring
    · rw [mul_zero, zero_mul]
  rw [Finset.sum_congr rfl fun c _ => this c, Finset.sum_comm]
  refine Finset.sum_congr rfl fun x _ => ?_
  split_ifs
  · rw [Finset.sum_mul]
  · simp

theorem chunk_dv (y : Fin 128) (c : Fin 256) : (G.chunk i).dv e h y c = G.dv h (pos i y) c := by
  unfold Re.dv Seq.dv
  have hs : ∀ x : Fin 8448, G.att h x (pos i y) * G.d h x c = if (pos i y).val ≤ x.val then G.att h x (pos i y) * G.d h x c else 0 := fun x => by
    by_cases hx : (pos i y).val ≤ x.val
    · rw [if_pos hx]
    · rw [if_neg hx]; unfold Seq.att; rw [if_neg (show ¬ pos i y ≤ x from hx), zero_mul]
  rw [Finset.sum_congr rfl fun x _ => hs x]
  rw [sum_split i (fun x => (pos i y).val ≤ x.val) (fun x => 128 * (i.val + 1) ≤ x.val) _
    (fun x => by show 128 * i.val + y.val ≤ x.val ↔ (_ ∧ _ ∧ 128 * i.val + y.val ≤ x.val) ∨ _; omega) (fun x hx => by omega)]
  congr 1
  · refine Finset.sum_congr rfl fun x _ => ?_
    rw [← hs (pos i x), chunk_att]
    rfl
  · have : ∀ k, (G.chunk i).kout h y k * (G.chunk i).D h c k
        = ∑ x : Fin 8448, if 128 * (i.val + 1) ≤ x.val then G.qs h x k * G.k h (pos i y) k * Real.exp (G.B h x k - G.B h (pos i y) k) * G.d h x c else 0 := fun k => by
      unfold Re.kout
      rw [chunk_eout]
      show G.k h (pos i y) k * _ * G.D h (i.val + 1) c k = _
      unfold Seq.D
      rw [Finset.mul_sum]
      refine Finset.sum_congr rfl fun x _ => ?_
      split_ifs
      · rw [show G.B h x k - G.B h (pos i y) k = (G.B h x k - G.E h (i.val + 1) k) + (G.E h (i.val + 1) k - G.B h (pos i y) k) by ring, Real.exp_add]
        ring
      · rw [mul_zero]
    rw [Finset.sum_congr rfl fun k _ => this k, Finset.sum_comm]
    refine Finset.sum_congr rfl fun x _ => ?_
    split_ifs with hx
    · unfold Seq.att
      rw [if_pos (show pos i y ≤ x from (show 128 * i.val + y.val ≤ x.val by omega)), Finset.sum_mul]
    · simp

theorem chunk_dk (y k : Fin 128) : (G.chunk i).dk e h y k = G.dk h (pos i y) k := by
  unfold Re.dk Seq.dk
  have hs : ∀ x : Fin 8448, G.datt h x (pos i y) * (G.qs h x k * Real.exp (G.B h x k - G.B h (pos i y) k))
      = if (pos i y).val ≤ x.val then G.datt h x (pos i y) * (G.qs h x k * Real.exp (G.B h x k - G.B h (pos i y) k)) else 0 := fun x => by
    by_cases hx : (pos i y).val ≤ x.val
    · rw [if_pos hx]
    · rw [if_neg hx]; unfold Seq.datt; rw [if_neg (show ¬ pos i y ≤ x from hx), zero_mul]
  rw [Finset.sum_congr rfl fun x _ => hs x]
  rw [sum_split i (fun x => (pos i y).val ≤ x.val) (fun x => 128 * (i.val + 1) ≤ x.val) _
    (fun x => by show 128 * i.val + y.val ≤ x.val ↔ (_ ∧ _ ∧ 128 * i.val + y.val ≤ x.val) ∨ _; omega) (fun x hx => by omega)]
  congr 1
  · rw [Finset.sum_mul]
    refine Finset.sum_congr rfl fun x _ => ?_
    rw [← hs (pos i x), chunk_datt, ← chunk_eqek G e h i x y k]
    show _ * (G.qs h (pos i x) k * _) * _ = _
    ring
  · rw [chunk_dko]
    refine Finset.sum_congr rfl fun x _ => ?_
    split_ifs with hx
    · unfold Seq.datt
      rw [if_pos (show pos i y ≤ x from (show 128 * i.val + y.val ≤ x.val by omega))]
    · rfl

theorem chunk_dq (x k : Fin 128) : (G.chunk i).dq e h x k = G.dq h (pos i x) k := by
  unfold Re.dq Seq.dq
  have hs : ∀ y : Fin 8448, G.datt h (pos i x) y * (G.k h y k * Real.exp (G.B h (pos i x) k - G.B h y k))
      = if y.val ≤ (pos i x).val then G.datt h (pos i x) y * (G.k h y k * Real.exp (G.B h (pos i x) k - G.B h y k)) else 0 := fun y => by
    by_cases hx : y.val ≤ (pos i x).val
    · rw [if_pos hx]
    · rw [if_neg hx]; unfold Seq.datt; rw [if_neg (show ¬ y ≤ pos i x from hx), zero_mul]
  rw [Finset.sum_congr rfl fun y _ => hs y]
  rw [sum_split i (fun y => y.val ≤ (pos i x).val) (fun y => y.val < 128 * i.val) _
    (fun y => by show y.val ≤ 128 * i.val + x.val ↔ (_ ∧ _ ∧ y.val ≤ 128 * i.val + x.val) ∨ _; omega) (fun x hx => by omega)]
  congr 1
  · rw [Finset.sum_mul]
    refine Finset.sum_congr rfl fun y _ => ?_
    rw [← hs (pos i y), chunk_datt, ← chunk_eqek G e h i x y k]
    show _ * (G.k h (pos i y) k * _) * _ = _
    ring
  · rw [chunk_ein, Finset.sum_mul]
    have : ∀ c, (G.chunk i).d h x c * (G.chunk i).H h c k * Real.exp (G.B h (pos i x) k - G.E h i.val k)
        = ∑ y : Fin 8448, if y.val < 128 * i.val then G.d h (pos i x) c * G.v h y c * (G.k h y k * Real.exp (G.B h (pos i x) k - G.B h y k)) else 0 := fun c => by
      show G.d h (pos i x) c * G.H h i.val c k * _ = _
      unfold Seq.H
      rw [Finset.mul_sum, Finset.sum_mul]
      refine Finset.sum_congr rfl fun y _ => ?_
      split_ifs
      · rw [show G.B h (pos i x) k - G.B h y k = (G.B h (pos i x) k - G.E h i.val k) + (G.E h i.val k - G.B h y k) by ring, Real.exp_add]
        ring
      · rw [mul_zero, zero_mul]
    rw [Finset.sum_congr rfl fun c _ => this c, Finset.sum_comm]
    refine Finset.sum_congr rfl fun y _ => ?_
    split_ifs with hy
    · unfold Seq.datt
      rw [if_pos (show y ≤ pos i x from (show y.val ≤ 128 * i.val + x.val by omega)), Finset.sum_mul]
    · simp

/-- A pair of tokens' share of the gate's cotangent. -/
def Seq.W (x y : Fin 8448) (k : Fin 128) : ℝ :=
  (∑ c, G.d h x c * G.v h y c) * (G.qs h x k * (G.k h y k * Real.exp (G.B h x k - G.B h y k)))

theorem dB_eq (z : Fin 8448) (k : Fin 128) :
    G.dB h z k = (∑ y, if y ≤ z then G.W h z y k else 0) - ∑ x, if z ≤ x then G.W h x z k else 0 := by
  unfold Seq.dB Seq.dq Seq.dk Seq.W Seq.datt
  rw [Finset.sum_mul, Finset.sum_mul]
  congr 1 <;> refine Finset.sum_congr rfl fun y _ => ?_
  · split_ifs
    · ring
    · ring
  · split_ifs
    · ring
    · ring

/-- What the later tokens pass back over the chunk's end. -/
theorem tail_eq (n : ℕ) (k : Fin 128) :
    (∑ x : Fin 8448, if n ≤ x.val then G.dB h x k else 0)
      = ∑ x : Fin 8448, ∑ y : Fin 8448, if n ≤ x.val ∧ y.val < n then G.W h x y k else 0 := by
  have h1 : (∑ x : Fin 8448, if n ≤ x.val then G.dB h x k else 0)
      = (∑ x : Fin 8448, ∑ y : Fin 8448, if n ≤ x.val ∧ y ≤ x then G.W h x y k else 0)
        - ∑ z : Fin 8448, ∑ x : Fin 8448, if n ≤ z.val ∧ z ≤ x then G.W h x z k else 0 := by
    rw [← Finset.sum_sub_distrib]
    refine Finset.sum_congr rfl fun x _ => ?_
    by_cases hx : n ≤ x.val
    · simp only [hx, true_and, if_true]
      exact dB_eq G h x k
    · simp [hx]
  rw [h1, Finset.sum_comm (f := fun z x => if n ≤ z.val ∧ z ≤ x then G.W h x z k else 0), ← Finset.sum_sub_distrib]
  refine Finset.sum_congr rfl fun x _ => ?_
  rw [← Finset.sum_sub_distrib]
  refine Finset.sum_congr rfl fun y _ => ?_
  by_cases hx : n ≤ x.val <;> by_cases hy : n ≤ y.val <;> by_cases hxy : y ≤ x
  · rw [if_pos ⟨hx, hxy⟩, if_pos ⟨hy, hxy⟩, if_neg (by omega), sub_self]
  · rw [if_neg (fun q => hxy q.2), if_neg (fun q => hxy q.2), if_neg (by omega), sub_self]
  · rw [if_pos ⟨hx, hxy⟩, if_neg (fun q => hy q.1), if_pos ⟨hx, by omega⟩, sub_zero]
  · exact absurd (show y.val ≤ x.val by omega) hxy
  · exact absurd (show y.val ≤ x.val from hxy) (by omega)
  · rw [if_neg (fun q => hx q.1), if_neg (fun q => hxy q.2), if_neg (by omega), sub_self]
  · rw [if_neg (fun q => hx q.1), if_neg (fun q => hy q.1), if_neg (by omega), sub_self]
  · rw [if_neg (fun q => hx q.1), if_neg (fun q => hy q.1), if_neg (by omega), sub_self]

theorem chunk_dT (k : Fin 128) : (G.chunk i).dT h k = ∑ x : Fin 8448, if 128 * (i.val + 1) ≤ x.val then G.dB h x k else 0 := by
  rw [tail_eq]
  have hr : ∀ x : Fin 8448, (∑ y : Fin 8448, if 128 * (i.val + 1) ≤ x.val ∧ y.val < 128 * (i.val + 1) then G.W h x y k else 0)
      = (∑ u, if 128 * (i.val + 1) ≤ x.val then G.W h x (pos i u) k else 0)
        + ∑ y : Fin 8448, if 128 * (i.val + 1) ≤ x.val ∧ y.val < 128 * i.val then G.W h x y k else 0 := fun x => by
    rw [sum_split i (fun y => 128 * (i.val + 1) ≤ x.val ∧ y.val < 128 * (i.val + 1)) (fun y => 128 * (i.val + 1) ≤ x.val ∧ y.val < 128 * i.val) _
      (fun y => by omega) (fun x hx => by omega)]
    congr 1
    refine Finset.sum_congr rfl fun u _ => if_congr ?_ rfl rfl
    show _ ∧ 128 * i.val + u.val < _ ↔ _
    omega
  rw [Finset.sum_congr rfl fun x _ => hr x, Finset.sum_add_distrib]
  unfold Re.dT
  congr 1
  · rw [Finset.sum_comm]
    refine Finset.sum_congr rfl fun y _ => ?_
    unfold Re.kout
    rw [mul_left_comm, chunk_dko, Finset.mul_sum]
    refine Finset.sum_congr rfl fun x _ => ?_
    split_ifs
    · show G.k h (pos i y) k * _ = _
      unfold Seq.W
      ring
    · rw [mul_zero]
  · rw [Finset.mul_sum]
    have : ∀ c, Real.exp ((G.chunk i).T h k) * ((G.chunk i).D h c k * (G.chunk i).H h c k)
        = ∑ x : Fin 8448, ∑ y : Fin 8448, if 128 * (i.val + 1) ≤ x.val ∧ y.val < 128 * i.val then
            (G.d h x c * G.v h y c) * (G.qs h x k * (G.k h y k * Real.exp (G.B h x k - G.B h y k))) else 0 := fun c => by
      show _ * (G.D h (i.val + 1) c k * G.H h i.val c k) = _
      unfold Seq.D Seq.H
      rw [Finset.sum_mul_sum, Finset.mul_sum, chunk_T]
      refine Finset.sum_congr rfl fun x _ => ?_
      rw [Finset.mul_sum]
      refine Finset.sum_congr rfl fun y _ => ?_
      by_cases hx : 128 * (i.val + 1) ≤ x.val
      · by_cases hy : y.val < 128 * i.val
        · rw [if_pos hx, if_pos hy, if_pos ⟨hx, hy⟩,
            show G.B h x k - G.B h y k = (G.E h (i.val + 1) k - G.E h i.val k) + ((G.B h x k - G.E h (i.val + 1) k) + (G.E h i.val k - G.B h y k)) by ring,
            Real.exp_add, Real.exp_add]
          ring
        · rw [if_neg hy, if_neg (show ¬ (128 * (i.val + 1) ≤ x.val ∧ y.val < 128 * i.val) from fun q => hy q.2), mul_zero, mul_zero]
      · rw [if_neg hx, if_neg (show ¬ (128 * (i.val + 1) ≤ x.val ∧ y.val < 128 * i.val) from fun q => hx q.1), zero_mul, mul_zero]
    rw [Finset.sum_congr rfl fun c _ => this c, Finset.sum_comm]
    refine Finset.sum_congr rfl fun x _ => ?_
    rw [Finset.sum_comm]
    refine Finset.sum_congr rfl fun y _ => ?_
    split_ifs
    · unfold Seq.W
      rw [Finset.sum_mul]
    · simp

theorem chunk_dg (u k : Fin 128) : (G.chunk i).dg e h u k = G.dg h (pos i u) k := by
  unfold Re.dg Seq.dg
  rw [chunk_dT]
  rw [sum_split i (fun x => pos i u ≤ x) (fun x => 128 * (i.val + 1) ≤ x.val) _
    (fun x => by show 128 * i.val + u.val ≤ x.val ↔ (_ ∧ _ ∧ 128 * i.val + u.val ≤ x.val) ∨ _; omega) (fun x hx => by omega)]
  congr 1
  refine Finset.sum_congr rfl fun z _ => if_congr (pos_le i u z).symm ?_ rfl
  rw [chunk_dq, chunk_dk]
  rfl

theorem chunk_dp (u k : Fin 128) : (G.chunk i).dp e h u k = G.dp h (pos i u) k := by
  unfold Re.dp Seq.dp
  rw [chunk_dg]
  rfl

/-- A mild gate keeps the exponents within the clamp. -/
theorem lsig_bound {x : ℝ} (hx : -19 ≤ x) : |lsig x| ≤ 20 := by
  have hl : 0 ≤ Real.log (1 + Real.exp (0 - |x|)) := Real.log_nonneg (by linarith [Real.exp_pos (0 - |x|)])
  have hu : Real.log (1 + Real.exp (0 - |x|)) ≤ 1 := by
    have h1 : Real.exp (0 - |x|) ≤ 1 := Real.exp_le_one_iff.mpr (by linarith [abs_nonneg x])
    have h2 := Real.log_le_sub_one_of_pos (show 0 < 1 + Real.exp (0 - |x|) by positivity)
    linarith
  have hm : -19 ≤ min x 0 := le_min hx (by norm_num)
  have hm' : min x 0 ≤ 0 := min_le_right _ _
  unfold lsig
  rw [abs_le]
  constructor <;> linarith

theorem chunk_clamp (hp : ∀ h x k, -19 ≤ G.p h x k) (u w k : Fin 128) (hw : w = 64 ∨ w = 63) :
    |(G.chunk i).b h u k - (G.chunk i).b h w k| ≤ 80 := by
  unfold Re.b
  rw [← Finset.sum_sub_distrib]
  have hg : ∀ z, |(G.chunk i).g h z k| ≤ 20 / 16 := fun z => by
    have := lsig_bound (hp h (pos i z) k)
    show |lsig (G.p h (pos i z) k) * (1 / 16)| ≤ _
    rw [abs_mul, abs_of_pos (show (0 : ℝ) < 1 / 16 by norm_num)]
    linarith
  have hz : ∀ z, |(if z ≤ u then (G.chunk i).g h z k else 0) - (if z ≤ w then (G.chunk i).g h z k else 0)|
      ≤ if (z ≤ u ∧ ¬ z ≤ w) ∨ (z ≤ w ∧ ¬ z ≤ u) then 20 / 16 else 0 := fun z => by
    by_cases h1 : z ≤ u <;> by_cases h2 : z ≤ w <;> simp only [h1, h2, if_true, if_false, not_true, not_false_iff, and_true, and_false, true_and, or_false, false_or, sub_self, sub_zero, zero_sub, abs_zero, abs_neg, le_refl, or_self, false_and]
    · exact hg z
    · exact hg z
  refine (Finset.abs_sum_le_sum_abs _ _).trans ((Finset.sum_le_sum fun z _ => hz z).trans ?_)
  rw [← Finset.sum_filter, Finset.sum_const, nsmul_eq_mul]
  have hcard : (Finset.univ.filter fun z : Fin 128 => (z ≤ u ∧ ¬ z ≤ w) ∨ (z ≤ w ∧ ¬ z ≤ u)).card ≤ 64 := by
    clear hz
    rcases hw with rfl | rfl
    · revert u; decide +kernel
    · revert u; decide +kernel
  have : ((Finset.univ.filter fun z : Fin 128 => (z ≤ u ∧ ¬ z ≤ w) ∨ (z ≤ w ∧ ¬ z ≤ u)).card : ℝ) ≤ 64 := by exact_mod_cast hcard
  nlinarith
end

end Cert.Gla

end
-- ==== Proof.HostOps.lean ====
module

public import proofs.«01_k».proof.Proof.Real

@[expose] public section

set_option maxRecDepth 20000

/-! The host's running sums, reversals and placements, read at an index over finite values. -/

noncomputable section

namespace Cert.Gla

open Idealize.ShloMosaic Idealize.ShloMosaic.ValueIdx Cert.KernelIdeal.Chunk

/-- Adding up a list from the left. -/
theorem foldl_add_eq {N : ℕ} (f : Fin N → EReal) (v : EReal) :
    (List.finRange N).foldl (fun r n => r + f n) v = v + ∑ n, f n := by
  have key : ∀ (l : List (Fin N)) (v : EReal), l.foldl (fun r n => r + f n) v = v + (l.map f).sum := by
    intro l
    induction l with
    | nil => intro v; simp
    | cons a l ih => intro v; simp only [List.foldl_cons, List.map_cons, List.sum_cons]; rw [ih, add_assoc]
  rw [key, Fin.sum_univ_def]

/-- A running sum's window is one number. -/
def winEquiv : (⟨3, ![8448, 1, 1]⟩ : Shape).Idx ≃ Fin 8448 where
  toFun y := y 0
  invFun n := ix3 n 0 0
  left_inv y := by
    funext a
    match a with
    | ⟨0, _⟩ => rfl
    | ⟨1, _⟩ => exact (Subsingleton.elim (α := Fin 1) _ _)
    | ⟨2, _⟩ => exact (Subsingleton.elim (α := Fin 1) _ _)
  right_inv n := rfl

/-- A window's element at a position of the padded operand: the operand's where it lies inside, else the start value. -/
def rd {s : Shape} (x : s.Idx → EReal) (lo : Fin s.rank → ℕ) (v : EReal) (p : Fin s.rank → ℕ) : EReal :=
  if hin : ∀ a, lo a ≤ p a ∧ p a - lo a < s.size a then x (fun a => ⟨p a - lo a, (hin a).2⟩) else v

/-- A window sum is the start value plus the sum over the window. -/
theorem windowAdd_apply {s t u : Shape} (window strides lo hi : Fin s.rank → ℕ) (x : FVec Ideal s .f32) (z : FVec Ideal u .f32)
    (h : s.ReduceWindows window strides lo hi t) (hu : 0 < u.numel) (j : t.Idx) :
    Host.reduceWindowAdd window strides lo hi x z h hu j = z (Shape.Idx.first hu) +
      ∑ y : (⟨s.rank, window⟩ : Shape).Idx, rd x lo (z (Shape.Idx.first hu)) (fun a => (j (a.cast h.1.symm)).val * strides a + (y a).val) := by
  rw [← Equiv.sum_comp (⟨s.rank, window⟩ : Shape).rowMajor.symm]
  unfold Host.reduceWindowAdd
  rw [Ideal.hostReduceWindowAdd_def]
  unfold Ideal.hostReduceWindowAdd Host.reduceWindow
  rw [← foldl_add_eq (fun n => rd x lo (z (Shape.Idx.first hu)) (fun a => (j (a.cast h.1.symm)).val * strides a + ((⟨s.rank, window⟩ : Shape).rowMajor.symm n a).val))]
  refine congrArg (fun f => List.foldl f _ _) (funext fun r => funext fun n => congrArg (r + ·) ?_)
  unfold rd
  congr

variable {A C : ℕ}

theorem window_sum (lo hi : Fin 3 → ℕ) (x : FVec Ideal (⟨3, ![8448, A, C]⟩ : Shape) .f32) (z : FVec Ideal (⟨0, ![]⟩ : Shape) .f32)
    (h : (⟨3, ![8448, A, C]⟩ : Shape).ReduceWindows ![8448, 1, 1] ![1, 1, 1] lo hi (⟨3, ![8448, A, C]⟩ : Shape)) (hu) (j : Fin 8448) (a : Fin A) (c : Fin C)
    (hz : ∀ i, z i = ((0 : ℝ) : EReal)) (f : Fin 8448 → EReal)
    (hf : ∀ n : Fin 8448, rd (s := (⟨3, ![8448, A, C]⟩ : Shape)) x lo ((0 : ℝ) : EReal) (![j.val + n.val, a.val, c.val] : Fin 3 → ℕ) = f n) :
    Host.reduceWindowAdd ![8448, 1, 1] ![1, 1, 1] lo hi x z h hu (ix3 j a c) = ∑ n, f n := by
  rw [windowAdd_apply, hz, EReal.coe_zero, zero_add]
  refine Fintype.sum_equiv winEquiv _ _ fun y => ?_
  rw [← hf, EReal.coe_zero]
  refine congrArg (rd (s := (⟨3, ![8448, A, C]⟩ : Shape)) x lo 0) (funext fun b => ?_)
  obtain ⟨n, rfl⟩ := winEquiv.symm.surjective y
  rw [Equiv.apply_symm_apply]
  match b with
  | ⟨0, _⟩ => show j.val * 1 + n.val = j.val + n.val; omega
  | ⟨1, _⟩ => show a.val * 1 + 0 = a.val; omega
  | ⟨2, _⟩ => show c.val * 1 + 0 = c.val; omega

/-- The running sum from the first row on. -/
theorem cumsum_apply (x : FVec Ideal (⟨3, ![8448, A, C]⟩ : Shape) .f32) (z : FVec Ideal (⟨0, ![]⟩ : Shape) .f32)
    (h : (⟨3, ![8448, A, C]⟩ : Shape).ReduceWindows ![8448, 1, 1] ![1, 1, 1] ![8447, 0, 0] ![0, 0, 0] (⟨3, ![8448, A, C]⟩ : Shape)) (hu) (j : Fin 8448) (a : Fin A) (c : Fin C)
    (hz : ∀ i, z i = ((0 : ℝ) : EReal)) (g : Fin 8448 → ℝ) (hg : ∀ w, x (ix3 w a c) = ((g w : ℝ) : EReal)) :
    Host.reduceWindowAdd ![8448, 1, 1] ![1, 1, 1] ![8447, 0, 0] ![0, 0, 0] x z h hu (ix3 j a c) = ((∑ w, if w ≤ j then g w else 0 : ℝ) : EReal) := by
  rw [window_sum ![8447, 0, 0] ![0, 0, 0] x z h hu j a c hz (fun n => ((if n + (j + 1) ≤ j then g (n + (j + 1)) else 0 : ℝ) : EReal)), coe_sum]
  · exact Equiv.sum_comp (Equiv.addRight (j + 1)) (fun w => ((if w ≤ j then g w else 0 : ℝ) : EReal))
  · intro n
    have hv : (n + (j + 1)).val = (n.val + (j.val + 1) % 8448) % 8448 := by simp [Fin.val_add]
    have hj := j.isLt; have hn := n.isLt
    by_cases hc : 8447 ≤ j.val + n.val
    · have hle : n + (j + 1) ≤ j := by rw [Fin.le_def, hv]; omega
      have hin : ∀ b : Fin 3, (![8447, 0, 0] : Fin 3 → ℕ) b ≤ (![j.val + n.val, a.val, c.val] : Fin 3 → ℕ) b ∧ (![j.val + n.val, a.val, c.val] : Fin 3 → ℕ) b - (![8447, 0, 0] : Fin 3 → ℕ) b < (⟨3, ![8448, A, C]⟩ : Shape).size b := by
        intro b
        match b with
        | ⟨0, _⟩ => exact ⟨hc, by show j.val + n.val - 8447 < 8448; omega⟩
        | ⟨1, _⟩ => exact ⟨Nat.zero_le _, by show a.val - 0 < A; omega⟩
        | ⟨2, _⟩ => exact ⟨Nat.zero_le _, by show c.val - 0 < C; omega⟩
      unfold rd
      rw [dif_pos hin, if_pos hle, ← hg]
      refine congrArg x (funext fun b => ?_)
      match b with
      | ⟨0, _⟩ => exact Fin.ext (by show j.val + n.val - 8447 = (n + (j + 1)).val; rw [hv]; omega)
      | ⟨1, _⟩ => rfl
      | ⟨2, _⟩ => rfl
    · have hle : ¬ n + (j + 1) ≤ j := by rw [Fin.le_def, hv]; omega
      unfold rd
      rw [dif_neg (fun hin => hc (hin 0).1), if_neg hle]

/-- The running sum from the last row back. -/
theorem cumsum_rev_apply (x : FVec Ideal (⟨3, ![8448, A, C]⟩ : Shape) .f32) (z : FVec Ideal (⟨0, ![]⟩ : Shape) .f32)
    (h : (⟨3, ![8448, A, C]⟩ : Shape).ReduceWindows ![8448, 1, 1] ![1, 1, 1] ![0, 0, 0] ![8447, 0, 0] (⟨3, ![8448, A, C]⟩ : Shape)) (hu) (j : Fin 8448) (a : Fin A) (c : Fin C)
    (hz : ∀ i, z i = ((0 : ℝ) : EReal)) (g : Fin 8448 → ℝ) (hg : ∀ w, x (ix3 w a c) = ((g w : ℝ) : EReal)) :
    Host.reduceWindowAdd ![8448, 1, 1] ![1, 1, 1] ![0, 0, 0] ![8447, 0, 0] x z h hu (ix3 j a c) = ((∑ w, if j ≤ w then g w else 0 : ℝ) : EReal) := by
  rw [window_sum ![0, 0, 0] ![8447, 0, 0] x z h hu j a c hz (fun n => ((if j ≤ n + j then g (n + j) else 0 : ℝ) : EReal)), coe_sum]
  · exact Equiv.sum_comp (Equiv.addRight j) (fun w => ((if j ≤ w then g w else 0 : ℝ) : EReal))
  · intro n
    have hv : (n + j).val = (n.val + j.val) % 8448 := Fin.val_add _ _
    have hj := j.isLt; have hn := n.isLt
    by_cases hc : j.val + n.val < 8448
    · have hle : j ≤ n + j := by rw [Fin.le_def, hv]; omega
      have hin : ∀ b : Fin 3, (![0, 0, 0] : Fin 3 → ℕ) b ≤ (![j.val + n.val, a.val, c.val] : Fin 3 → ℕ) b ∧ (![j.val + n.val, a.val, c.val] : Fin 3 → ℕ) b - (![0, 0, 0] : Fin 3 → ℕ) b < (⟨3, ![8448, A, C]⟩ : Shape).size b := by
        intro b
        match b with
        | ⟨0, _⟩ => exact ⟨Nat.zero_le _, by show j.val + n.val - 0 < 8448; omega⟩
        | ⟨1, _⟩ => exact ⟨Nat.zero_le _, by show a.val - 0 < A; omega⟩
        | ⟨2, _⟩ => exact ⟨Nat.zero_le _, by show c.val - 0 < C; omega⟩
      unfold rd
      rw [dif_pos hin, if_pos hle, ← hg]
      refine congrArg x (funext fun b => ?_)
      match b with
      | ⟨0, _⟩ => exact Fin.ext (by show j.val + n.val - 0 = (n + j).val; rw [hv]; omega)
      | ⟨1, _⟩ => rfl
      | ⟨2, _⟩ => rfl
    · have hle : ¬ j ≤ n + j := by rw [Fin.le_def, hv]; omega
      unfold rd
      rw [dif_neg (fun hin => hc (by have := (hin 0).2; exact this)), if_neg hle]

theorem reverse_apply {φ : FTy} (x : FVec Ideal (⟨3, ![8448, A, C]⟩ : Shape) φ) (j : Fin 8448) (a : Fin A) (c : Fin C) :
    Host.reverse [0] x (ix3 j a c) = x (ix3 (Fin.rev j) a c) := by
  refine congrArg x (funext fun b => ?_)
  match b with
  | ⟨0, _⟩ => rfl
  | ⟨1, _⟩ => rfl
  | ⟨2, _⟩ => rfl

/-- What a placement by overwriting leaves: the update where it lands, the operand elsewhere. -/
theorem scatter_set {s si u : Shape} {w : ℕ} {α : Type} (d : ScatterDims s si u) (x : s.Idx → α) (idx : IVec si w) (upd : u.Idx → α)
    (g : u.Idx → s.Idx) (hg : ∀ j, d.resultIdx? j idx = some (g j)) (inj : Function.Injective g) :
    (∀ j, Host.scatter d (fun _ b => b) x idx upd (g j) = upd j) ∧ ∀ i, (∀ j, g j ≠ i) → Host.scatter d (fun _ b => b) x idx upd i = x i := by
  have key : ∀ (l : List (Fin u.numel)) (r : s.Idx → α) (i : s.Idx),
      l.foldl (fun r n => match d.resultIdx? (u.rowMajor.symm n) idx with
        | some i => fun i' => if i' = i then (fun _ b => b) (r i) (upd (u.rowMajor.symm n)) else r i'
        | none => r) r i = (match l.reverse.find? (fun n => decide (g (u.rowMajor.symm n) = i)) with | some n => upd (u.rowMajor.symm n) | none => r i) := by
    intro l
    induction l with
    | nil => intro r i; rfl
    | cons a l ih =>
      intro r i
      rw [List.foldl_cons, ih, List.reverse_cons, List.find?_append]
      cases hh : l.reverse.find? (fun n => decide (g (u.rowMajor.symm n) = i)) with
      | some n => rfl
      | none =>
        simp only [Option.none_or, List.find?_cons, List.find?_nil, hg]
        by_cases hi : i = g (u.rowMajor.symm a)
        · simp [hi]
        · simp [hi, Ne.symm hi]
  constructor
  · intro j
    refine (key _ _ _).trans ?_
    cases hh : (List.finRange u.numel).reverse.find? (fun n => decide (g (u.rowMajor.symm n) = g j)) with
    | some n =>
      have := List.find?_some hh
      show upd _ = upd j
      rw [inj (of_decide_eq_true this)]
    | none =>
      have := List.find?_eq_none.mp hh (u.rowMajor j) (List.mem_reverse.mpr (List.mem_finRange _))
      simp at this
  · intro i hi
    refine (key _ _ _).trans ?_
    rw [List.find?_eq_none.mpr fun n _ => by simpa using hi _]

end Cert.Gla
-- ==== Proof.Data.lean ====
module

public import proofs.«01_k».proof.Proof.HostOps

@[expose] public section

set_option maxRecDepth 20000

/-! The call's real inputs, the two sequences made of them, and what the host's layout operations and its gate read at
    an index. -/

noncomputable section

namespace Cert.Gla

open Idealize.ShloMosaic Idealize.ShloMosaic.ValueIdx Cert.KernelIdeal.Chunk

/-- The arguments' real values where the call uses them. -/
structure Data where
  pt : Fin 8448 → Fin 10368 → ℝ
  lf : Fin 8448 → Fin 16 → ℝ
  lb : Fin 8448 → Fin 16 → ℝ
  uf : Fin 16 → Fin 512 → ℝ
  ub : Fin 16 → Fin 512 → ℝ
  bf : Fin 512 → ℝ
  bb : Fin 512 → ℝ
  o : Fin 8448 → Fin 1024 → ℝ

/-- The columns of the packed projections: queries, keys, values. -/
def colQ (j : Fin 512) : Fin 10368 := ⟨6144 + j.val, by omega⟩
def colK (j : Fin 512) : Fin 10368 := ⟨6656 + j.val, by omega⟩
def colV (j : Fin 1024) : Fin 10368 := ⟨7168 + j.val, by omega⟩
/-- The columns of the small projections that the two gates read. -/
def colF (i : Fin 16) : Fin 128 := ⟨i.val, by omega⟩
def colB (i : Fin 16) : Fin 128 := ⟨16 + i.val, by omega⟩

namespace Data
variable (D : Data)

/-- The gates before their activation. -/
def pf (r : Fin 8448) (j : Fin 512) : ℝ := (∑ i, D.lf r i * D.uf i j) + D.bf j
def pb (r : Fin 8448) (j : Fin 512) : ℝ := (∑ i, D.lb r i * D.ub i j) + D.bb j
/-- The sequence that visits the rows in a given order. -/
def seq (p : Fin 8448 → Fin 512 → ℝ) (row : Fin 8448 → Fin 8448) : Seq where
  q h x k := D.pt (row x) (colQ (ck h k))
  k h x k := D.pt (row x) (colK (ck h k))
  p h x k := p (row x) (ck h k)
  v h x c := D.pt (row x) (colV (cv h c))
  d h x c := D.o (row x) (cv h c)
end Data

/-- The row the forward scan visits at a time: the last 256 rows first. -/
def rowF (x : Fin 8448) : Fin 8448 := if h : x.val < 256 then ⟨8192 + x.val, by omega⟩ else ⟨x.val - 256, by omega⟩
/-- The time at which the forward scan visits a row. -/
def timeF (r : Fin 8448) : Fin 8448 := if h : r.val < 8192 then ⟨r.val + 256, by omega⟩ else ⟨r.val - 8192, by omega⟩

theorem rowF_timeF (r : Fin 8448) : rowF (timeF r) = r := by
  unfold rowF timeF
  by_cases h : r.val < 8192
  · rw [dif_pos h, dif_neg (by show ¬ r.val + 256 < 256; omega)]; exact Fin.ext (by show r.val + 256 - 256 = r.val; omega)
  · rw [dif_neg h, dif_pos (by show r.val - 8192 < 256; omega)]; exact Fin.ext (by show 8192 + (r.val - 8192) = r.val; omega)

/-- The forward and the backward sequence. -/
def Data.fwd (D : Data) : Seq := D.seq D.pf rowF
def Data.bwd (D : Data) : Seq := D.seq D.pb Fin.rev

/-- The arrays hold the real values, and the gates stay above the bound. -/
structure Holds (D : Data) (a0 : FVec Ideal (⟨2, ![8448, 10368]⟩ : Shape) .bf16) (a1 : FVec Ideal (⟨2, ![8448, 128]⟩ : Shape) .f32)
    (a2 : FVec Ideal (⟨2, ![16, 512]⟩ : Shape) .f32) (a3 : FVec Ideal (⟨2, ![1, 512]⟩ : Shape) .f32)
    (a4 : FVec Ideal (⟨2, ![16, 512]⟩ : Shape) .f32) (a5 : FVec Ideal (⟨2, ![1, 512]⟩ : Shape) .f32)
    (a6 : FVec Ideal (⟨2, ![8448, 1024]⟩ : Shape) .bf16) : Prop where
  pt : ∀ (r : Fin 8448) (j : Fin 10368), 6144 ≤ j.val → j.val < 8192 → a0 (ix2 r j) = ((D.pt r j : ℝ) : EReal)
  lf : ∀ (r : Fin 8448) (i : Fin 16), a1 (ix2 r (colF i)) = ((D.lf r i : ℝ) : EReal)
  lb : ∀ (r : Fin 8448) (i : Fin 16), a1 (ix2 r (colB i)) = ((D.lb r i : ℝ) : EReal)
  uf : ∀ (i : Fin 16) (j : Fin 512), a2 (ix2 i j) = ((D.uf i j : ℝ) : EReal)
  bf : ∀ j : Fin 512, a3 (ix2 0 j) = ((D.bf j : ℝ) : EReal)
  ub : ∀ (i : Fin 16) (j : Fin 512), a4 (ix2 i j) = ((D.ub i j : ℝ) : EReal)
  bb : ∀ j : Fin 512, a5 (ix2 0 j) = ((D.bb j : ℝ) : EReal)
  o : ∀ (r : Fin 8448) (j : Fin 1024), a6 (ix2 r j) = ((D.o r j : ℝ) : EReal)
  hf : ∀ r j, -19 ≤ D.pf r j
  hb : ∀ r j, -19 ≤ D.pb r j

/-! ## Layout -/

section layout
variable {α : Type}

theorem split_k (x : (⟨2, ![8448, 512]⟩ : Shape).Idx → α) (hc) (r : Fin 8448) (h : Fin 4) (k : Fin 128) :
    shapeCast (⟨3, ![8448, 4, 128]⟩ : Shape) x hc (ix3 r h k) = x (ix2 r (ck h k)) :=
  shapeCast_apply x hc _ _ (by
    rw [Shape.rowMajor_val_two, Shape.rowMajor_val_three]
    show r.val * 512 + (128 * h.val + k.val) = (r.val * 4 + h.val) * 128 + k.val; omega)
theorem split_v (x : (⟨2, ![8448, 1024]⟩ : Shape).Idx → α) (hc) (r : Fin 8448) (h : Fin 4) (c : Fin 256) :
    shapeCast (⟨3, ![8448, 4, 256]⟩ : Shape) x hc (ix3 r h c) = x (ix2 r (cv h c)) :=
  shapeCast_apply x hc _ _ (by
    rw [Shape.rowMajor_val_two, Shape.rowMajor_val_three]
    show r.val * 1024 + (256 * h.val + c.val) = (r.val * 4 + h.val) * 256 + c.val; omega)
theorem merge_k (x : (⟨3, ![8448, 4, 128]⟩ : Shape).Idx → α) (hc) (r : Fin 8448) (h : Fin 4) (k : Fin 128) :
    shapeCast (⟨2, ![8448, 512]⟩ : Shape) x hc (ix2 r (ck h k)) = x (ix3 r h k) :=
  shapeCast_apply x hc _ _ (by
    rw [Shape.rowMajor_val_two, Shape.rowMajor_val_three]
    show (r.val * 4 + h.val) * 128 + k.val = r.val * 512 + (128 * h.val + k.val); omega)
theorem merge_v (x : (⟨3, ![8448, 4, 256]⟩ : Shape).Idx → α) (hc) (r : Fin 8448) (h : Fin 4) (c : Fin 256) :
    shapeCast (⟨2, ![8448, 1024]⟩ : Shape) x hc (ix2 r (cv h c)) = x (ix3 r h c) :=
  shapeCast_apply x hc _ _ (by
    rw [Shape.rowMajor_val_two, Shape.rowMajor_val_three]
    show (r.val * 4 + h.val) * 256 + c.val = r.val * 1024 + (256 * h.val + c.val); omega)

variable {A C : ℕ}

/-- The last 256 rows moved to the front. -/
theorem rot_apply (x : (⟨3, ![8448, A, C]⟩ : Shape).Idx → α) (h1) (h2) (hc) (j : Fin 8448) (a : Fin A) (c : Fin C) :
    concatenate (⟨3, ![8448, A, C]⟩ : Shape) 0 [⟨(⟨3, ![256, A, C]⟩ : Shape), extractStridedSlice (⟨3, ![256, A, C]⟩ : Shape) ![8192, 0, 0] x h1⟩,
      ⟨(⟨3, ![8192, A, C]⟩ : Shape), extractStridedSlice (⟨3, ![8192, A, C]⟩ : Shape) ![0, 0, 0] x h2⟩] hc (ix3 j a c) = x (ix3 (rowF j) a c) := by
  unfold rowF
  by_cases h : j.val < 256
  · rw [dif_pos h]
    refine (concatenate_pair_apply_left 0 _ _ hc _ rfl (ix3 (⟨j.val, h⟩ : Fin 256) a c) fun b => ?_).trans
      (extractStridedSlice_apply ![8192, 0, 0] x h1 _ _ fun b => ?_)
    · match b with
      | ⟨0, _⟩ => rfl
      | ⟨1, _⟩ => rfl
      | ⟨2, _⟩ => rfl
    · match b with
      | ⟨0, _⟩ => rfl
      | ⟨1, _⟩ => exact (Nat.zero_add _).symm
      | ⟨2, _⟩ => exact (Nat.zero_add _).symm
  · rw [dif_neg h]
    refine (concatenate_pair_apply_right 0 _ _ hc _ rfl rfl (ix3 (⟨j.val - 256, by omega⟩ : Fin 8192) a c) (fun b hb => ?_) ?_).trans
      (extractStridedSlice_apply ![0, 0, 0] x h2 _ _ fun b => ?_)
    · match b with
      | ⟨0, _⟩ => exact absurd rfl hb
      | ⟨1, _⟩ => rfl
      | ⟨2, _⟩ => rfl
    · show j.val - 256 + 256 = j.val; omega
    · match b with
      | ⟨0, _⟩ => exact (Nat.zero_add _).symm
      | ⟨1, _⟩ => exact (Nat.zero_add _).symm
      | ⟨2, _⟩ => exact (Nat.zero_add _).symm

/-- The first 256 rows moved to the back. -/
theorem unrot_apply (x : (⟨3, ![8448, A, C]⟩ : Shape).Idx → α) (h1) (h2) (hc) (j : Fin 8448) (a : Fin A) (c : Fin C) :
    concatenate (⟨3, ![8448, A, C]⟩ : Shape) 0 [⟨(⟨3, ![8192, A, C]⟩ : Shape), extractStridedSlice (⟨3, ![8192, A, C]⟩ : Shape) ![256, 0, 0] x h1⟩,
      ⟨(⟨3, ![256, A, C]⟩ : Shape), extractStridedSlice (⟨3, ![256, A, C]⟩ : Shape) ![0, 0, 0] x h2⟩] hc (ix3 j a c) = x (ix3 (timeF j) a c) := by
  unfold timeF
  by_cases h : j.val < 8192
  · rw [dif_pos h]
    refine (concatenate_pair_apply_left 0 _ _ hc _ rfl (ix3 (⟨j.val, h⟩ : Fin 8192) a c) fun b => ?_).trans
      (extractStridedSlice_apply ![256, 0, 0] x h1 _ _ fun b => ?_)
    · match b with
      | ⟨0, _⟩ => rfl
      | ⟨1, _⟩ => rfl
      | ⟨2, _⟩ => rfl
    · match b with
      | ⟨0, _⟩ => show j.val + 256 = 256 + j.val; omega
      | ⟨1, _⟩ => exact (Nat.zero_add _).symm
      | ⟨2, _⟩ => exact (Nat.zero_add _).symm
  · rw [dif_neg h]
    refine (concatenate_pair_apply_right 0 _ _ hc _ rfl rfl (ix3 (⟨j.val - 8192, by omega⟩ : Fin 256) a c) (fun b hb => ?_) ?_).trans
      (extractStridedSlice_apply ![0, 0, 0] x h2 _ _ fun b => ?_)
    · match b with
      | ⟨0, _⟩ => exact absurd rfl hb
      | ⟨1, _⟩ => rfl
      | ⟨2, _⟩ => rfl
    · show j.val - 8192 + 8192 = j.val; omega
    · match b with
      | ⟨0, _⟩ => exact (Nat.zero_add _).symm
      | ⟨1, _⟩ => exact (Nat.zero_add _).symm
      | ⟨2, _⟩ => exact (Nat.zero_add _).symm

end layout

/-! ## The gate -/

/-- The softplus over the reals. -/
def sp (y : ℝ) : ℝ := max y 0 + Real.log (1 + Real.exp (0 - |y|))

theorem neg_sp_neg (x : ℝ) : 0 - sp (0 - x) = lsig x := by
  unfold sp lsig
  have h : max (0 - x) 0 = 0 - min x 0 := by
    rcases le_total x 0 with h | h
    · rw [min_eq_left h, max_eq_left (by linarith)]
    · rw [min_eq_right h, max_eq_right (by linarith)]; ring
  have ha : |0 - x| = |x| := by rw [zero_sub, abs_neg]
  rw [h, ha]; ring

theorem coe_zero_sub (x : ℝ) : -((x : ℝ) : EReal) = ((0 - x : ℝ) : EReal) := by rw [zero_sub, EReal.coe_neg]

/-- The softplus as the programs write it, on a finite value. -/
theorem softplus_coe (y : ℝ) :
    Scalar.select (Ideal.cmp .une ((y : EReal) - ((0 : ℝ) : EReal)) ((y : EReal) - ((0 : ℝ) : EReal))) ((y : EReal) + ((0 : ℝ) : EReal))
      (max (y : EReal) ((0 : ℝ) : EReal) + Ideal.log (1 + Ideal.exp (-(max ((y : EReal) - ((0 : ℝ) : EReal)) (-((y : EReal) - ((0 : ℝ) : EReal)))))))
      = ((sp y : ℝ) : EReal) := by
  have hc : Ideal.cmp .une ((y : EReal) - ((0 : ℝ) : EReal)) ((y : EReal) - ((0 : ℝ) : EReal)) = 0#1 := by simp [Ideal.cmp]
  have h1 : (1 : EReal) = ((1 : ℝ) : EReal) := rfl
  rw [hc, ← EReal.coe_sub, sub_zero, coe_abs, coe_zero_sub, coe_exp, h1, ← EReal.coe_add 1,
    coe_log (by positivity), coe_max, ← EReal.coe_add (max y 0)]
  rfl

/-- A host product whose operands are finite at the contracted index. -/
theorem dg_coe {sl sr so : Shape} {φ₁ φ₂ : FTy} (D : DotDims sl sr so) (n : ℕ) (hr : D.contr.rank = 1)
    (hs : D.contr.size ⟨0, by omega⟩ = n) (lhs : FVec Ideal sl φ₁) (rhs : FVec Ideal sr φ₂) (j : so.Idx)
    (L : Fin n → sl.Idx) (R : Fin n → sr.Idx) (hL : ∀ k, D.lhsIdx j ((contrEquiv1 D n hr hs).symm k) = L k)
    (hR : ∀ k, D.rhsIdx j ((contrEquiv1 D n hr hs).symm k) = R k) (a b : Fin n → ℝ)
    (ha : ∀ k, lhs (L k) = ((a k : ℝ) : EReal)) (hb : ∀ k, rhs (R k) = ((b k : ℝ) : EReal)) :
    Host.dotGeneral (F := Ideal) D none lhs rhs j = ((∑ k, a k * b k : ℝ) : EReal) := by
  rw [coe_sum]
  simp only [Host.dotGeneral]
  rw [Ideal.dotGeneral_apply, ← Equiv.sum_comp (contrEquiv1 D n hr hs).symm]
  exact Finset.sum_congr rfl fun k _ => by rw [hL, hR, ha, hb, EReal.coe_mul]

/-- The running sum before a chunk is the running sum at its first token less that token's own. -/
theorem E_eq (G : Seq) (h : Fin 4) (i : Fin 66) (k : Fin 128) : G.B h (pos i 0) k - G.g h (pos i 0) k = G.E h i.val k := by
  unfold Seq.B Seq.E
  have key : ∀ w : Fin 8448, (if w ≤ pos i 0 then G.g h w k else 0) = (if w.val < 128 * i.val then G.g h w k else 0) + (if w = pos i 0 then G.g h w k else 0) := by
    intro w
    have e : (pos i 0).val = 128 * i.val := rfl
    rcases lt_trichotomy w.val (128 * i.val) with hlt | heq | hgt
    · rw [if_pos (by rw [Fin.le_def, e]; omega), if_pos hlt, if_neg (fun hh => by rw [hh, e] at hlt; omega), add_zero]
    · have hw : w = pos i 0 := Fin.ext (heq.trans e.symm)
      rw [if_pos (by rw [hw]), if_neg (by omega), if_pos hw, zero_add]
    · rw [if_neg (by rw [Fin.le_def, e]; omega), if_neg (by omega), if_neg (fun hh => by rw [hh, e] at hgt; omega), add_zero]
  rw [Finset.sum_congr rfl fun w _ => key w, Finset.sum_add_distrib, Finset.sum_ite_eq' Finset.univ (pos i 0), if_pos (Finset.mem_univ _)]
  ring

end Cert.Gla
-- ==== Proof.HostVal.lean ====
module

public import proofs.«01_k».proof.Proof.HostRun
public import proofs.«01_k».proof.Proof.Data

@[expose] public section

set_option maxRecDepth 20000

/-! The values of the arrays the launch reads, over the call's real inputs. -/

noncomputable section

namespace Cert.KernelIdeal.HostVal

open Cert.KernelIdeal Cert.KernelIdeal.Gen Cert.KernelIdeal.HostRun Cert.Gla
open Idealize.ShloMosaic Idealize.ShloMosaic.ValueIdx Cert.KernelIdeal.Chunk

/-! ## The gates' matrices and biases -/

/-- Where a placed matrix's entry lands. -/
def land (n : ℕ) (hn : n ≤ 16) (y : S16x512.Idx) : S128x512.Idx :=
  ix2 (⟨n + (y 0).val, by have : (y 0).val < 16 := (y 0).isLt; omega⟩ : Fin 128) (y 1 : Fin 512)

theorem land_inj (n : ℕ) (hn : n ≤ 16) : Function.Injective (land n hn) := by
  intro y z h
  have h0 : n + (y 0).val = n + (z 0).val := congrArg Fin.val (congrFun h 0)
  have h1 : y 1 = z 1 := congrFun h 1
  funext a
  match a with
  | ⟨0, _⟩ => exact Fin.ext (Nat.add_left_cancel h0)
  | ⟨1, _⟩ => exact h1

theorem lands (n : BitVec 32) (hn : n.toNat ≤ 16) (y : S16x512.Idx) :
    scatter_S128x512_S1_S16x512_01_n_0_0.resultIdx? y (broadcastInDim S1 ![] bcast_S_S1 (constantI S_ 32 n)) = some (land n.toNat hn y) := by
  have hi : n.toInt = (n.toNat : Int) := BitVec.toInt_eq_toNat_of_lt (by omega)
  have h0 : scatter_S128x512_S1_S16x512_01_n_0_0.start y (broadcastInDim S1 ![] bcast_S_S1 (constantI S_ 32 n)) ⟨0, by decide⟩ = (n.toNat : Int) := hi
  have h1 : scatter_S128x512_S1_S16x512_01_n_0_0.start y (broadcastInDim S1 ![] bcast_S_S1 (constantI S_ 32 n)) ⟨1, by decide⟩ = 0 := rfl
  have w0 : scatter_S128x512_S1_S16x512_01_n_0_0.window y ⟨0, by decide⟩ = (y 0).val := rfl
  have w1 : scatter_S128x512_S1_S16x512_01_n_0_0.window y ⟨1, by decide⟩ = (y 1).val := rfl
  have b0 : (y 0).val < 16 := (y 0).isLt
  have b1 : (y 1).val < 512 := (y 1).isLt
  unfold ScatterDims.resultIdx?
  rw [dif_pos (by
    intro a
    match a with
    | ⟨0, _⟩ => exact ⟨by rw [h0, w0]; omega, by rw [h0, w0]; show ((n.toNat : Int) + ((y 0).val : Int)) < 128; omega⟩
    | ⟨1, _⟩ => exact ⟨by rw [h1, w1]; omega, by rw [h1, w1]; show ((0 : Int) + ((y 1).val : Int)) < 512; omega⟩)]
  refine congrArg some (funext fun a => Fin.ext ?_)
  match a with
  | ⟨0, _⟩ =>
    refine (congrArg Int.toNat (congrArg₂ (· + ·) h0 (congrArg Int.ofNat w0))).trans ?_
    show ((n.toNat : Int) + ((y 0).val : Int)).toNat = n.toNat + (y 0).val; omega
  | ⟨1, _⟩ =>
    refine (congrArg Int.toNat (congrArg₂ (· + ·) h1 (congrArg Int.ofNat w1))).trans ?_
    show ((0 : Int) + ((y 1).val : Int)).toNat = (y 1).val; omega

theorem place_in (n : BitVec 32) (hn : n.toNat ≤ 16) (u : FVec Ideal S16x512 .f32) (i : Fin 16) (j : Fin 512) :
    place (F := Ideal) n u (ix2 (⟨n.toNat + i.val, by omega⟩ : Fin 128) j) = u (ix2 i j) :=
  (scatter_set _ _ _ u (land n.toNat hn) (lands n hn) (land_inj _ hn)).1 (ix2 i j)

theorem place_out (n : BitVec 32) (hn : n.toNat ≤ 16) (u : FVec Ideal S16x512 .f32) (r : Fin 128) (j : Fin 512)
    (h : ∀ i : Fin 16, r.val ≠ n.toNat + i.val) : place (F := Ideal) n u (ix2 r j) = ((0 : ℝ) : EReal) :=
  ((scatter_set _ _ _ u (land n.toNat hn) (lands n hn) (land_inj _ hn)).2 (ix2 r j) fun y e =>
    h (y 0) (congrArg Fin.val (congrFun e 0)).symm).trans bits_0

theorem ups_0 (u v : FVec Ideal S16x512 .f32) (r : Fin 128) (j : Fin 512) : ups (F := Ideal) u v (ix3 0 r j) = place (F := Ideal) 0#32 u (ix2 r j) := by
  unfold ups stackU
  refine (concatenate_pair_apply_left (t := S2x128x512) (s₁ := S1x128x512) (s₂ := S1x128x512) 0 _ _ concatenates_S1x128x512_S1x128x512_S2x128x512_d0 (ix3 0 r j) rfl (ix3 (0 : Fin 1) r j) (fun b => ?_)).trans
    (broadcastInDim_apply (s := S128x512) (t := S1x128x512) ![1, 2] bcast_S128x512_S1x128x512_1_2 _ (ix3 (0 : Fin 1) r j) (ix2 r j) fun a => ?_)
  · match b with
    | ⟨0, _⟩ => rfl
    | ⟨1, _⟩ => rfl
    | ⟨2, _⟩ => rfl
  · match a with
    | ⟨0, _⟩ => rfl
    | ⟨1, _⟩ => rfl

theorem ups_1 (u v : FVec Ideal S16x512 .f32) (r : Fin 128) (j : Fin 512) : ups (F := Ideal) u v (ix3 1 r j) = place (F := Ideal) 16#32 v (ix2 r j) := by
  unfold ups stackU
  refine (concatenate_pair_apply_right (t := S2x128x512) (s₁ := S1x128x512) (s₂ := S1x128x512) 0 _ _ concatenates_S1x128x512_S1x128x512_S2x128x512_d0 (ix3 1 r j) rfl rfl (ix3 (0 : Fin 1) r j) (fun b hb => ?_) rfl).trans
    (broadcastInDim_apply (s := S128x512) (t := S1x128x512) ![1, 2] bcast_S128x512_S1x128x512_1_2 _ (ix3 (0 : Fin 1) r j) (ix2 r j) fun a => ?_)
  · match b with
    | ⟨0, _⟩ => exact absurd rfl hb
    | ⟨1, _⟩ => rfl
    | ⟨2, _⟩ => rfl
  · match a with
    | ⟨0, _⟩ => rfl
    | ⟨1, _⟩ => rfl

theorem biases_0 (u v : FVec Ideal S1x512 .f32) (j : Fin 512) : biases (F := Ideal) u v (ix3 0 0 j) = u (ix2 0 j) := by
  unfold biases stackB
  refine (concatenate_pair_apply_left (t := S2x1x512) (s₁ := S1x1x512) (s₂ := S1x1x512) 0 _ _ concatenates_S1x1x512_S1x1x512_S2x1x512_d0 (ix3 0 0 j) rfl (ix3 (0 : Fin 1) (0 : Fin 1) j) (fun b => ?_)).trans
    (broadcastInDim_apply (s := S1x512) (t := S1x1x512) ![1, 2] bcast_S1x512_S1x1x512_1_2 _ (ix3 (0 : Fin 1) (0 : Fin 1) j) (ix2 0 j) fun a => ?_)
  · match b with
    | ⟨0, _⟩ => rfl
    | ⟨1, _⟩ => rfl
    | ⟨2, _⟩ => rfl
  · match a with
    | ⟨0, _⟩ => rfl
    | ⟨1, _⟩ => rfl

theorem biases_1 (u v : FVec Ideal S1x512 .f32) (j : Fin 512) : biases (F := Ideal) u v (ix3 1 0 j) = v (ix2 0 j) := by
  unfold biases stackB
  refine (concatenate_pair_apply_right (t := S2x1x512) (s₁ := S1x1x512) (s₂ := S1x1x512) 0 _ _ concatenates_S1x1x512_S1x1x512_S2x1x512_d0 (ix3 1 0 j) rfl rfl (ix3 (0 : Fin 1) (0 : Fin 1) j) (fun b hb => ?_) rfl).trans
    (broadcastInDim_apply (s := S1x512) (t := S1x1x512) ![1, 2] bcast_S1x512_S1x1x512_1_2 _ (ix3 (0 : Fin 1) (0 : Fin 1) j) (ix2 0 j) fun a => ?_)
  · match b with
    | ⟨0, _⟩ => exact absurd rfl hb
    | ⟨1, _⟩ => rfl
    | ⟨2, _⟩ => rfl
  · match a with
    | ⟨0, _⟩ => rfl
    | ⟨1, _⟩ => rfl

/-! ## The states -/

theorem early_apply (i : Fin 66) (x : Fin 8448) : (early (F := Ideal)) (ix2 i x) = BitVec.ofBool (decide (x.val < 128 * i.val)) := by
  show BitVec.ofBool (BitVec.slt (BitVec.ofNat 32 x.val) (BitVec.ofNat 32 i.val * 128#32)) = _
  congr 1
  have e1 : (BitVec.ofNat 32 x.val).toNat = x.val := by rw [BitVec.toNat_ofNat]; omega
  have e2 : (BitVec.ofNat 32 i.val * 128#32).toNat = 128 * i.val := by
    rw [BitVec.toNat_mul, BitVec.toNat_ofNat, BitVec.toNat_ofNat]; omega
  rw [BitVec.slt_eq_decide, BitVec.toInt_eq_toNat_of_lt (by omega), BitVec.toInt_eq_toNat_of_lt (by omega), e1, e2]
  exact decide_eq_decide.mpr (by omega)

variable (G : Seq)

theorem expo_apply (b g : FVec Ideal S8448x4x128 .f32) (i : Fin 66) (x : Fin 8448) (h : Fin 4) (k : Fin 128) :
    expo (F := Ideal) b g (ix4 i x h k) = (b (ix3 (pos i 0) h k) - g (ix3 (pos i 0) h k)) - b (ix3 x h k) := by
  unfold expo
  rw [subf_apply]
  refine congrArg₂ (· - ·) ?_ ?_
  · refine (broadcastInDim_apply _ _ _ _ (ix4 i (0 : Fin 1) h k) fun a => ?_).trans ((broadcastInDim_apply _ _ _ _ (ix3 i h k) fun a => ?_).trans ?_)
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
    · refine congrArg (subf b g) (funext fun a => Fin.ext ?_)
      match a with
      | ⟨0, _⟩ => show 0 + 128 * i.val = 128 * i.val + 0; omega
      | ⟨1, _⟩ => show 0 + 1 * h.val = h.val; omega
      | ⟨2, _⟩ => show 0 + 1 * k.val = k.val; omega
  · refine (broadcastInDim_apply _ _ _ _ (ix4 (0 : Fin 1) x h k) fun a => ?_).trans (broadcastInDim_apply _ _ _ _ (ix3 x h k) fun a => ?_)
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl

theorem masked_apply (e : FVec Ideal S66x8448x4x128 .f32) (i : Fin 66) (x : Fin 8448) (h : Fin 4) (k : Fin 128) :
    masked (F := Ideal) e (ix4 i x h k) = if x.val < 128 * i.val then e (ix4 i x h k) else ⊥ := by
  unfold masked
  rw [select_apply]
  have hm : broadcastInDim S66x8448x4x128 ![0, 1, 2, 3] bcast_S66x8448x1x1_S66x8448x4x128_0_1_2_3 (broadcastInDim S66x8448x1x1 ![0, 1] bcast_S66x8448_S66x8448x1x1_0_1 (early (F := Ideal))) (ix4 i x h k)
      = BitVec.ofBool (decide (x.val < 128 * i.val)) := by
    refine (broadcastInDim_apply _ _ _ _ (ix4 i x (0 : Fin 1) (0 : Fin 1)) fun a => ?_).trans ((broadcastInDim_apply _ _ _ _ (ix2 i x) fun a => ?_).trans (early_apply i x))
    · match a with
      | ⟨0, _⟩ => rfl
      | ⟨1, _⟩ => rfl
      | ⟨2, _⟩ => rfl
      | ⟨3, _⟩ => rfl
    · match a with
      | ⟨0, _⟩ => rfl
      | ⟨1, _⟩ => rfl
  rw [hm]
  by_cases hx : x.val < 128 * i.val
  · rw [if_pos hx, decide_eq_true hx]; rfl
  · rw [if_neg hx, decide_eq_false hx]
    show Ideal.ofBits .f32 0xFF800000#32 = ⊥
    simp [Ideal.ofBits, Ideal.ieee]

theorem hist_val (k : FVec Ideal S8448x4x128 .f32) (v : FVec Ideal S8448x4x256 .f32) (g : FVec Ideal S8448x4x128 .f32)
    (hk : ∀ x h j, k (ix3 x h j) = ((G.k h x j : ℝ) : EReal)) (hv : ∀ x h c, v (ix3 x h c) = ((G.v h x c : ℝ) : EReal))
    (hg : ∀ x h j, g (ix3 x h j) = ((G.g h x j : ℝ) : EReal)) (i : Fin 66) (h : Fin 4) (c : Fin 256) (j : Fin 128) :
    hist (F := Ideal) k v g (ix4 i h c j) = ((G.H h i.val c j : ℝ) : EReal) := by
  have hB : ∀ x h j, cum (F := Ideal) g (ix3 x h j) = ((G.B h x j : ℝ) : EReal) := fun x h j =>
    cumsum_apply g _ _ _ x h j (fun _ => bits_0) (fun w => G.g h w j) fun w => hg w h j
  unfold hist states
  refine (transpose_apply _ _ _ _ (ix4 h c i j) fun a => ?_).trans ?_
  · match a with
    | ⟨0, _⟩ => rfl
    | ⟨1, _⟩ => rfl
    | ⟨2, _⟩ => rfl
    | ⟨3, _⟩ => rfl
  refine (dg_coe _ 8448 rfl rfl _ _ _ (fun x => ix3 x h c) (fun x => ix4 i x h j) (fun x => funext fun a => by fin_cases a <;> rfl)
    (fun x => funext fun a => by fin_cases a <;> rfl) (fun x => G.v h x c)
    (fun x => (if x.val < 128 * i.val then Real.exp (G.E h i.val j - G.B h x j) else 0) * G.k h x j) (fun x => hv x h c) (fun x => ?_)).trans ?_
  · rw [mulf_apply, EReal.coe_mul]
    refine congrArg₂ (· * ·) ?_ ?_
    · show Ideal.exp (masked (F := Ideal) (expo (F := Ideal) (cum (F := Ideal) g) g) (ix4 i x h j)) = _
      rw [masked_apply]
      by_cases hx : x.val < 128 * i.val
      · rw [if_pos hx, if_pos hx, expo_apply, hB, hg, hB, ← EReal.coe_sub, ← EReal.coe_sub, E_eq]; rfl
      · rw [if_neg hx, if_neg hx]; rfl
    · refine (broadcastInDim_apply _ _ _ _ (ix4 (0 : Fin 1) x h j) fun a => ?_).trans ((broadcastInDim_apply _ _ _ _ (ix3 x h j) fun a => ?_).trans (hk x h j))
      · match a with
        | ⟨0, _⟩ => rfl
        | ⟨1, _⟩ => rfl
        | ⟨2, _⟩ => rfl
        | ⟨3, _⟩ => rfl
      · match a with
        | ⟨0, _⟩ => rfl
        | ⟨1, _⟩ => rfl
        | ⟨2, _⟩ => rfl
  · unfold Seq.H
    refine congrArg _ (Finset.sum_congr rfl fun x _ => ?_)
    by_cases hx : x.val < 128 * i.val
    · rw [if_pos hx, if_pos hx]; ring
    · rw [if_neg hx, if_neg hx]; ring

theorem hists_0 (a b : FVec Ideal S66x4x256x128 .f32) (i : Fin 66) (h : Fin 4) (c : Fin 256) (k : Fin 128) : hists (F := Ideal) a b (ix5 0 i h c k) = a (ix4 i h c k) := by
  unfold hists stackH
  refine (concatenate_pair_apply_left (t := S2x66x4x256x128) (s₁ := S1x66x4x256x128) (s₂ := S1x66x4x256x128) 0 _ _ concatenates_S1x66x4x256x128_S1x66x4x256x128_S2x66x4x256x128_d0 (ix5 0 i h c k) rfl (ix5 (0 : Fin 1) i h c k) (fun b => ?_)).trans
    (broadcastInDim_apply (s := S66x4x256x128) (t := S1x66x4x256x128) ![1, 2, 3, 4] bcast_S66x4x256x128_S1x66x4x256x128_1_2_3_4 _ (ix5 (0 : Fin 1) i h c k) (ix4 i h c k) fun a => ?_)
  · match b with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl

theorem hists_1 (a b : FVec Ideal S66x4x256x128 .f32) (i : Fin 66) (h : Fin 4) (c : Fin 256) (k : Fin 128) : hists (F := Ideal) a b (ix5 1 i h c k) = b (ix4 i h c k) := by
  unfold hists stackH
  refine (concatenate_pair_apply_right (t := S2x66x4x256x128) (s₁ := S1x66x4x256x128) (s₂ := S1x66x4x256x128) 0 _ _ concatenates_S1x66x4x256x128_S1x66x4x256x128_S2x66x4x256x128_d0 (ix5 1 i h c k) rfl rfl (ix5 (0 : Fin 1) i h c k) (fun b hb => ?_) rfl).trans
    (broadcastInDim_apply (s := S66x4x256x128) (t := S1x66x4x256x128) ![1, 2, 3, 4] bcast_S66x4x256x128_S1x66x4x256x128_1_2_3_4 _ (ix5 (0 : Fin 1) i h c k) (ix4 i h c k) fun a => ?_)
  · match b with
    | ⟨0, _⟩ => exact absurd rfl hb
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl

/-! ## The gate -/

theorem gate_apply (x : FVec Ideal S8448x16 .f32) (u : FVec Ideal S16x512 .f32) (b : FVec Ideal S1x512 .f32) (r : Fin 8448) (j : Fin 512)
    (X : Fin 16 → ℝ) (U : Fin 16 → ℝ) (B : ℝ) (hx : ∀ i, x (ix2 r i) = ((X i : ℝ) : EReal)) (hu : ∀ i, u (ix2 i j) = ((U i : ℝ) : EReal))
    (hb : b (ix2 0 j) = ((B : ℝ) : EReal)) : HostRun.gate (F := Ideal) x u b (ix2 r j) = (((∑ i, X i * U i) + B : ℝ) : EReal) := by
  unfold HostRun.gate
  rw [addf_apply, EReal.coe_add]
  refine congrArg₂ (· + ·) ?_ ?_
  · exact dg_coe _ 16 rfl rfl _ _ _ (fun i => ix2 r i) (fun i => ix2 i j) (fun i => funext fun a => by fin_cases a <;> rfl)
      (fun i => funext fun a => by fin_cases a <;> rfl) X U hx hu
  · refine (broadcastInDim_apply _ _ _ _ (ix2 (0 : Fin 1) j) fun a => ?_).trans hb
    match a with
    | ⟨0, _⟩ => rfl
    | ⟨1, _⟩ => rfl

theorem decay_apply (x : FVec Ideal S8448x512 .f32) (r : Fin 8448) (h : Fin 4) (k : Fin 128) (p : ℝ) (hx : x (ix2 r (ck h k)) = ((p : ℝ) : EReal)) :
    HostRun.decay (F := Ideal) x (ix3 r h k) = ((lsig p * (1 / 16) : ℝ) : EReal) := by
  unfold HostRun.decay
  rw [split_k]
  have hs : logsig (F := Ideal) x (ix2 r (ck h k)) = ((lsig p : ℝ) : EReal) := by
    have hz : (zero2 (F := Ideal)) (ix2 r (ck h k)) = ((0 : ℝ) : EReal) := bits_0
    have e := softplus_coe (0 - p)
    rw [← coe_zero_sub, ← hx, ← hz] at e
    rw [← neg_sp_neg, ← coe_zero_sub, ← e]
    rfl
  show Ideal.div (logsig (F := Ideal) x (ix2 r (ck h k))) (Ideal.ofBits .f32 0x41800000#32) = _
  have h16 : Ideal.ofBits .f32 0x41800000#32 = ((16 : ℝ) : EReal) := by
    simp [Ideal.ofBits, Ideal.ieee, -EReal.coe_mul]
    norm_num
  rw [hs, h16, coe_div _ (by norm_num)]
  congr 1
  ring

/-! ## The arrays the launch reads -/

theorem ordK_apply (x : FVec Ideal S8448x4x128 .f32) (r : Fin 8448) (h : Fin 4) (k : Fin 128) : ordK (F := Ideal) x (ix3 r h k) = x (ix3 (rowF r) h k) :=
  rot_apply (A := 4) (C := 128) x slices_S8448x4x128_S256x4x128_8192_0_0 slices_S8448x4x128_S8192x4x128_0_0_0 concatenates_S256x4x128_S8192x4x128_S8448x4x128_d0 r h k
theorem ordV_apply (x : FVec Ideal S8448x4x256 .f32) (r : Fin 8448) (h : Fin 4) (k : Fin 256) : ordV (F := Ideal) x (ix3 r h k) = x (ix3 (rowF r) h k) :=
  rot_apply (A := 4) (C := 256) x slices_S8448x4x256_S256x4x256_8192_0_0 slices_S8448x4x256_S8192x4x256_0_0_0 concatenates_S256x4x256_S8192x4x256_S8448x4x256_d0 r h k

section inputs
variable {D : Data} {a0 : FVec Ideal S8448x10368 .bf16} {a1 : FVec Ideal S8448x128 .f32} {a2 : FVec Ideal S16x512 .f32} {a3 : FVec Ideal S1x512 .f32}
    {a4 : FVec Ideal S16x512 .f32} {a5 : FVec Ideal S1x512 .f32} {a6 : FVec Ideal S8448x1024 .bf16} (hD : Holds D a0 a1 a2 a3 a4 a5 a6)
include hD

theorem keys_val (r : Fin 8448) (h : Fin 4) (k : Fin 128) : keys (F := Ideal) a0 (ix3 r h k) = ((D.pt r (colK (ck h k)) : ℝ) : EReal) := by
  unfold keys
  rw [split_k]
  exact (extractStridedSlice_apply _ a0 slices_S8448x10368_S8448x512_0_6656 (ix2 r (ck h k)) (ix2 r (colK (ck h k))) fun a => by
    match a with
    | ⟨0, _⟩ => exact (Nat.zero_add _).symm
    | ⟨1, _⟩ => rfl).trans (hD.pt r _ (by show 6144 ≤ 6656 + (ck h k).val; omega) (by show 6656 + (ck h k).val < 8192; omega))

theorem vals_val (r : Fin 8448) (h : Fin 4) (k : Fin 256) : vals (F := Ideal) a0 (ix3 r h k) = ((D.pt r (colV (cv h k)) : ℝ) : EReal) := by
  unfold vals
  rw [split_v]
  exact (extractStridedSlice_apply _ a0 slices_S8448x10368_S8448x1024_0_7168 (ix2 r (cv h k)) (ix2 r (colV (cv h k))) fun a => by
    match a with
    | ⟨0, _⟩ => exact (Nat.zero_add _).symm
    | ⟨1, _⟩ => rfl).trans (hD.pt r _ (by show 6144 ≤ 7168 + (cv h k).val; omega) (by show 7168 + (cv h k).val < 8192; omega))

theorem gateF_val (r : Fin 8448) (j : Fin 512) :
    HostRun.gate (F := Ideal) (extractStridedSlice S8448x16 ![0, 0] a1 slices_S8448x128_S8448x16_0_0) a2 a3 (ix2 r j) = ((D.pf r j : ℝ) : EReal) :=
  gate_apply _ a2 a3 r j (D.lf r) (fun i => D.uf i j) (D.bf j) (fun i =>
    (extractStridedSlice_apply _ a1 _ (ix2 r i) (ix2 r (colF i)) fun a => by
      match a with
      | ⟨0, _⟩ => exact (Nat.zero_add _).symm
      | ⟨1, _⟩ => exact (Nat.zero_add _).symm).trans (hD.lf r i)) (fun i => hD.uf i j) (hD.bf j)

theorem gateB_val (r : Fin 8448) (j : Fin 512) :
    HostRun.gate (F := Ideal) (extractStridedSlice S8448x16 ![0, 16] a1 slices_S8448x128_S8448x16_0_16) a4 a5 (ix2 r j) = ((D.pb r j : ℝ) : EReal) :=
  gate_apply _ a4 a5 r j (D.lb r) (fun i => D.ub i j) (D.bb j) (fun i =>
    (extractStridedSlice_apply _ a1 _ (ix2 r i) (ix2 r (colB i)) fun a => by
      match a with
      | ⟨0, _⟩ => exact (Nat.zero_add _).symm
      | ⟨1, _⟩ => rfl).trans (hD.lb r i)) (fun i => hD.ub i j) (hD.bb j)

theorem histF_val (i : Fin 66) (h : Fin 4) (c : Fin 256) (k : Fin 128) :
    hist (F := Ideal) (ordK (F := Ideal) (keys (F := Ideal) a0)) (ordV (F := Ideal) (vals (F := Ideal) a0))
      (ordK (F := Ideal) (HostRun.decay (F := Ideal) (HostRun.gate (F := Ideal) (extractStridedSlice S8448x16 ![0, 0] a1 slices_S8448x128_S8448x16_0_0) a2 a3))) (ix4 i h c k)
      = ((D.fwd.H h i.val c k : ℝ) : EReal) :=
  hist_val D.fwd _ _ _ (fun x h j => (ordK_apply _ x h j).trans (keys_val hD _ h j))
    (fun x h j => (ordV_apply _ x h j).trans (vals_val hD _ h j))
    (fun x h j => (ordK_apply _ x h j).trans (decay_apply _ _ h j _ (gateF_val hD _ _))) i h c k

theorem histB_val (i : Fin 66) (h : Fin 4) (c : Fin 256) (k : Fin 128) :
    hist (F := Ideal) (Host.reverse [0] (keys (F := Ideal) a0)) (Host.reverse [0] (vals (F := Ideal) a0))
      (Host.reverse [0] (HostRun.decay (F := Ideal) (HostRun.gate (F := Ideal) (extractStridedSlice S8448x16 ![0, 16] a1 slices_S8448x128_S8448x16_0_16) a4 a5))) (ix4 i h c k)
      = ((D.bwd.H h i.val c k : ℝ) : EReal) :=
  hist_val D.bwd _ _ _ (fun x h j => (reverse_apply (A := 4) (C := 128) _ x h j).trans (keys_val hD _ h j))
    (fun x h j => (reverse_apply (A := 4) (C := 256) _ x h j).trans (vals_val hD _ h j))
    (fun x h j => (reverse_apply (A := 4) (C := 128) _ x h j).trans (decay_apply _ _ h j _ (gateB_val hD _ _))) i h c k

theorem upF_in (i : Fin 16) (j : Fin 512) : ups (F := Ideal) a2 a4 (ix3 0 (colF i) j) = ((D.uf i j : ℝ) : EReal) :=
  (ups_0 a2 a4 _ j).trans ((congrArg (fun r : Fin 128 => place (F := Ideal) 0#32 a2 (ix2 r j)) (Fin.ext (Nat.zero_add _).symm)).trans
    ((place_in 0#32 (by decide) a2 i j).trans (hD.uf i j)))
theorem upB_in (i : Fin 16) (j : Fin 512) : ups (F := Ideal) a2 a4 (ix3 1 (colB i) j) = ((D.ub i j : ℝ) : EReal) :=
  (ups_1 a2 a4 _ j).trans ((place_in 16#32 (by decide) a4 i j).trans (hD.ub i j))
omit hD in
theorem upF_out (r : Fin 128) (j : Fin 512) (hr : ∀ i, r ≠ colF i) : ups (F := Ideal) a2 a4 (ix3 0 r j) = ((0 : ℝ) : EReal) :=
  (ups_0 a2 a4 _ j).trans (place_out 0#32 (by decide) a2 r j fun i h => hr i (Fin.ext (h.trans (Nat.zero_add _))))
omit hD in
theorem upB_out (r : Fin 128) (j : Fin 512) (hr : ∀ i, r ≠ colB i) : ups (F := Ideal) a2 a4 (ix3 1 r j) = ((0 : ℝ) : EReal) :=
  (ups_1 a2 a4 _ j).trans (place_out 16#32 (by decide) a4 r j fun i h => hr i (Fin.ext h))
/-- The matrices' second parts vanish: the first lose nothing. -/
theorem up_rest (d : Fin 2) (r : Fin 128) (j : Fin 512) :
    ups (F := Ideal) a2 a4 (ix3 d r j) - ups (F := Ideal) a2 a4 (ix3 d r j) = (0 : EReal) := by
  have hx : ∃ x : ℝ, ups (F := Ideal) a2 a4 (ix3 d r j) = ((x : ℝ) : EReal) := by
    match d with
    | ⟨0, _⟩ =>
      by_cases h : ∃ i, r = colF i
      · obtain ⟨i, rfl⟩ := h; exact ⟨_, upF_in hD i j⟩
      · exact ⟨_, upF_out r j fun i e => h ⟨i, e⟩⟩
    | ⟨1, _⟩ =>
      by_cases h : ∃ i, r = colB i
      · obtain ⟨i, rfl⟩ := h; exact ⟨_, upB_in hD i j⟩
      · exact ⟨_, upB_out r j fun i e => h ⟨i, e⟩⟩
  obtain ⟨x, hx⟩ := hx
  rw [hx, ← EReal.coe_sub, sub_self, EReal.coe_zero]
end inputs

end Cert.KernelIdeal.HostVal
-- ==== Proof.Step.lean ====
module

public import proofs.«01_k».proof.Proof.Chunk
public import proofs.«01_k».proof.Proof.Sweep
public import Idealize.ShloMosaic.Lib.Pipeline.ReadBack
public import Idealize.ShloMosaic.Lib.Pipeline.ValueKit.Tiles
public import Idealize.ShloMosaic.Lib.ValueIdx

@[expose] public section

set_option maxRecDepth 16384

/-! The body's stored pieces at a grid point are the chunk's values at the point's blocks. -/

noncomputable section

namespace Cert.KernelIdeal.Sweep

open Cert.KernelIdeal Cert.KernelIdeal.Gen Idealize.ShloMosaic Idealize.ShloMosaic.TcCoe Idealize.ShloMosaic.Tactic Chunk

variable {F : FTy → Type} [FloatOps F]

theorem inb_u (d : Fin 2) : ∀ a, (![d.val, 0, 0] : Fin 3 → ℕ) a + S1x128x512.size a ≤ S2x128x512.size a := by
  revert d; decide
theorem inb_b (d : Fin 2) : ∀ a, (![d.val, 0, 0] : Fin 3 → ℕ) a + S1x1x512.size a ≤ S2x1x512.size a := by
  revert d; decide
theorem inb_h (d : Fin 2) (h : Fin 4) : ∀ a, (![d.val, 0, h.val, 0, 0] : Fin 5 → ℕ) a + S1x1x1x256x128.size a ≤ S2x1x4x256x128.size a := by
  revert d h; decide
theorem inb_s (d : Fin 2) (h : Fin 4) : ∀ a, (![d.val, h.val, 0, 0] : Fin 4 → ℕ) a + S1x1x256x128.size a ≤ S2x4x256x128.size a := by
  revert d h; decide

/-- The blocks of direction `d`, as the body loads them from the staging buffers. -/
def rawIn (d : Fin 2) (x0 x1 : Vec F S128x512 .bf16) (x2 : Vec F S128x1024 .bf16) (x3 : Vec F S128x128 .f32)
    (x8 x9 : Vec F S2x128x512 .bf16) (x10 : Vec F S2x1x512 .f32) (x11 : Vec F S128x1024 .bf16)
    (x13 : Vec F S2x1x4x256x128 .f32) (xs : Vec F S2x4x256x128 .f32) : In F where
  q := View.ld x0 (Rect.unit ![0, 0] S128x512.size inb_S128x512_S128x512_0_0)
  k := View.ld x1 (Rect.unit ![0, 0] S128x512.size inb_S128x512_S128x512_0_0)
  v := View.ld x2 (Rect.unit ![0, 0] S128x1024.size inb_S128x1024_S128x1024_0_0)
  dout := View.ld x11 (Rect.unit ![0, 0] S128x1024.size inb_S128x1024_S128x1024_0_0)
  sm := View.ld x3 (Rect.unit ![0, 0] S128x128.size inb_S128x128_S128x128_0_0)
  uh := shapeCast S128x512 (View.ld x8 (Rect.unit ![d.val, 0, 0] S1x128x512.size (inb_u d)) : Vec F S1x128x512 .bf16) shapeCasts_S1x128x512_S128x512
  ul := shapeCast S128x512 (View.ld x9 (Rect.unit ![d.val, 0, 0] S1x128x512.size (inb_u d)) : Vec F S1x128x512 .bf16) shapeCasts_S1x128x512_S128x512
  bi := shapeCast S1x512 (View.ld x10 (Rect.unit ![d.val, 0, 0] S1x1x512.size (inb_b d)) : Vec F S1x1x512 .f32) shapeCasts_S1x1x512_S1x512
  hs h := shapeCast S256x128 (View.ld x13 (Rect.unit ![d.val, 0, h.val, 0, 0] S1x1x1x256x128.size (inb_h d h)) : Vec F S1x1x1x256x128 .f32) shapeCasts_S1x1x1x256x128_S256x128
  ds h := shapeCast S256x128 (View.ld xs (Rect.unit ![d.val, h.val, 0, 0] S1x1x256x128.size (inb_s d h)) : Vec F S1x1x256x128 .f32) shapeCasts_S1x1x256x128_S256x128

variable (m : (ℓ : Loc nD τ sig) → Buf (Elt F) ℓ)

/-- The forward scan's blocks at point `t`, over the carried scratch `xs`. -/
def inF (c : Dev nD) (t : Fin cfg0.N) (xs : Vec F S2x4x256x128 .f32) : In F :=
  rawIn 0 (X0_0 m c t) (X0_1 m c t) (X0_2 m c t) (iblk m c 3 t) (iblk m c 8 t) (iblk m c 9 t) (iblk m c 10 t) (iblk m c 11 t) (iblk m c 13 t) xs
/-- The backward scan's blocks at point `t`. -/
def inB (c : Dev nD) (t : Fin cfg0.N) (xs : Vec F S2x4x256x128 .f32) : In F :=
  rawIn 1 (X0_4 m c t) (X0_5 m c t) (X0_6 m c t) (iblk m c 7 t) (iblk m c 8 t) (iblk m c 9 t) (iblk m c 10 t) (iblk m c 12 t) (iblk m c 13 t) xs

/-- The same blocks, read back from the buffers that hold them. -/
def rawF (c : Dev nD) (t : Fin cfg0.N) (xs : Vec F S2x4x256x128 .f32) : In F :=
  rawIn 0 ((ms0_0 t).view.read (Elt F) ((hs0_0 t).unread (X0_0 m c t))) ((ms0_1 t).view.read (Elt F) ((hs0_1 t).unread (X0_1 m c t)))
    ((ms0_2 t).view.read (Elt F) ((hs0_2 t).unread (X0_2 m c t))) ((ms0_3 t).view.read (Elt F) ((hs0_3 t).unread (iblk m c 3 t)))
    ((ms0_8 t).view.read (Elt F) ((hs0_8 t).unread (iblk m c 8 t))) ((ms0_9 t).view.read (Elt F) ((hs0_9 t).unread (iblk m c 9 t)))
    ((ms0_10 t).view.read (Elt F) ((hs0_10 t).unread (iblk m c 10 t))) ((ms0_11 t).view.read (Elt F) ((hs0_11 t).unread (iblk m c 11 t)))
    ((ms0_13 t).view.read (Elt F) ((hs0_13 t).unread (iblk m c 13 t))) xs
def rawB (c : Dev nD) (t : Fin cfg0.N) (xs : Vec F S2x4x256x128 .f32) : In F :=
  rawIn 1 ((ms0_4 t).view.read (Elt F) ((hs0_4 t).unread (X0_4 m c t))) ((ms0_5 t).view.read (Elt F) ((hs0_5 t).unread (X0_5 m c t)))
    ((ms0_6 t).view.read (Elt F) ((hs0_6 t).unread (X0_6 m c t))) ((ms0_7 t).view.read (Elt F) ((hs0_7 t).unread (iblk m c 7 t)))
    ((ms0_8 t).view.read (Elt F) ((hs0_8 t).unread (iblk m c 8 t))) ((ms0_9 t).view.read (Elt F) ((hs0_9 t).unread (iblk m c 9 t)))
    ((ms0_10 t).view.read (Elt F) ((hs0_10 t).unread (iblk m c 10 t))) ((ms0_12 t).view.read (Elt F) ((hs0_12 t).unread (iblk m c 12 t)))
    ((ms0_13 t).view.read (Elt F) ((hs0_13 t).unread (iblk m c 13 t))) xs

theorem rawF_eq (c : Dev nD) (t : Fin cfg0.N) (xs : Vec F S2x4x256x128 .f32) : rawF m c t xs = inF m c t xs := by
  unfold rawF inF
  simp only [Memref.IsWhole.read_unread]
theorem rawB_eq (c : Dev nD) (t : Fin cfg0.N) (xs : Vec F S2x4x256x128 .f32) : rawB m c t xs = inB m c t xs := by
  unfold rawB inB
  simp only [Memref.IsWhole.read_unread]

abbrev sF : BitVec 32 := 1#32
abbrev sB : BitVec 32 := 4294967295#32

/-- The scratch, read back from its buffer. -/
abbrev rd (xs : Vec F S2x4x256x128 .f32) : Vec F S2x4x256x128 .f32 :=
  (scM0_0).view.read (Elt F) ((Memref.isWhole_whole _ : scM0_0.IsWhole).unread xs)

/-- The four pieces of a chunk's values' cotangent. -/
abbrev dvPieces (s : BitVec 32) (I : In F) : List (View.Piece (Elt F) S128x1024 .bf16) :=
  [⟨Rect.unit ![0, 768] S128x256.size inb_S128x1024_S128x256_0_768, dv s I 3⟩,
   ⟨Rect.unit ![0, 512] S128x256.size inb_S128x1024_S128x256_0_512, dv s I 2⟩,
   ⟨Rect.unit ![0, 256] S128x256.size inb_S128x1024_S128x256_0_256, dv s I 1⟩,
   ⟨Rect.unit ![0, 0] S128x256.size inb_S128x1024_S128x256_0_0, dv s I 0⟩]

/-- A state as the scratch holds it. -/
abbrev st (x : FVec F S256x128 .f32) : FVec F S1x1x256x128 .f32 := shapeCast S1x1x256x128 x shapeCasts_S256x128_S1x1x256x128

/-- The eight pieces of the scratch a point leaves. -/
abbrev stPieces (I J : In F) : List (View.Piece (Elt F) S2x4x256x128 .f32) :=
  [⟨Rect.unit ![1, 3, 0, 0] S1x1x256x128.size inb_S2x4x256x128_S1x1x256x128_1_3_0_0, st (dst sB J 3)⟩,
   ⟨Rect.unit ![1, 2, 0, 0] S1x1x256x128.size inb_S2x4x256x128_S1x1x256x128_1_2_0_0, st (dst sB J 2)⟩,
   ⟨Rect.unit ![1, 1, 0, 0] S1x1x256x128.size inb_S2x4x256x128_S1x1x256x128_1_1_0_0, st (dst sB J 1)⟩,
   ⟨Rect.unit ![1, 0, 0, 0] S1x1x256x128.size inb_S2x4x256x128_S1x1x256x128_1_0_0_0, st (dst sB J 0)⟩,
   ⟨Rect.unit ![0, 3, 0, 0] S1x1x256x128.size inb_S2x4x256x128_S1x1x256x128_0_3_0_0, st (dst sF I 3)⟩,
   ⟨Rect.unit ![0, 2, 0, 0] S1x1x256x128.size inb_S2x4x256x128_S1x1x256x128_0_2_0_0, st (dst sF I 2)⟩,
   ⟨Rect.unit ![0, 1, 0, 0] S1x1x256x128.size inb_S2x4x256x128_S1x1x256x128_0_1_0_0, st (dst sF I 1)⟩,
   ⟨Rect.unit ![0, 0, 0, 0] S1x1x256x128.size inb_S2x4x256x128_S1x1x256x128_0_0_0_0, st (dst sF I 0)⟩]

/-- A piece that is the whole of its buffer. -/
abbrev whole {φ : EltTy} (x : Vec F S128x512 φ) : List (View.Piece (Elt F) S128x512 φ) :=
  [⟨Rect.unit ![0, 0] S128x512.size inb_S128x512_S128x512_0_0, x⟩]

section later
variable (c : Dev nD) (t : Fin cfg0.N) (h0 : ¬t.val % 66 = 0) (xs : Vec F S2x4x256x128 .f32)
theorem runB_14 : (runB m c t h0 xs).1 = whole (dq sF (rawF m c t (rd xs))) := by
  sl_kernel_rfl
theorem runB_15 : (runB m c t h0 xs).2.1 = whole (dk sF (rawF m c t (rd xs))) := by
  sl_kernel_rfl
theorem runB_16 : (runB m c t h0 xs).2.2.1 = dvPieces sF (rawF m c t (rd xs)) := by
  sl_kernel_rfl
theorem runB_17 : (runB m c t h0 xs).2.2.2.1 = whole (dp sF (rawF m c t (rd xs))) := by
  sl_kernel_rfl
theorem runB_18 : (runB m c t h0 xs).2.2.2.2.1 = whole (dq sB (rawB m c t (rd xs))) := by
  sl_kernel_rfl
theorem runB_19 : (runB m c t h0 xs).2.2.2.2.2.1 = whole (dk sB (rawB m c t (rd xs))) := by
  sl_kernel_rfl
theorem runB_20 : (runB m c t h0 xs).2.2.2.2.2.2.1 = dvPieces sB (rawB m c t (rd xs)) := by
  sl_kernel_rfl
theorem runB_21 : (runB m c t h0 xs).2.2.2.2.2.2.2.1 = whole (dp sB (rawB m c t (rd xs))) := by
  sl_kernel_rfl
theorem runB_22 : (runB m c t h0 xs).2.2.2.2.2.2.2.2.1 = stPieces (rawF m c t (rd xs)) (rawB m c t (rd xs)) := by
  sl_kernel_rfl
end later

section first
variable (c : Dev nD) (t : Fin cfg0.N) (h0 : t.val % 66 = 0)
theorem runA_14 : (runA m c t h0).1 = whole (dq sF (rawF m c t k0_pay2)) := by
  unfold runA kernelRun0_A
  dsimp only
  sl_unfold_words
  simp (disch := decide) only [↓View.readCov_skip, ↓View.readCov_fill]
  sl_kernel_rfl
theorem runA_15 : (runA m c t h0).2.1 = whole (dk sF (rawF m c t k0_pay2)) := by
  unfold runA kernelRun0_A
  dsimp only
  sl_unfold_words
  simp (disch := decide) only [↓View.readCov_skip, ↓View.readCov_fill]
  sl_kernel_rfl
theorem runA_16 : (runA m c t h0).2.2.1 = dvPieces sF (rawF m c t k0_pay2) := by
  unfold runA kernelRun0_A
  dsimp only
  sl_unfold_words
  simp (disch := decide) only [↓View.readCov_skip, ↓View.readCov_fill]
  sl_kernel_rfl
theorem runA_17 : (runA m c t h0).2.2.2.1 = whole (dp sF (rawF m c t k0_pay2)) := by
  unfold runA kernelRun0_A
  dsimp only
  sl_unfold_words
  simp (disch := decide) only [↓View.readCov_skip, ↓View.readCov_fill]
  sl_kernel_rfl
theorem runA_18 : (runA m c t h0).2.2.2.2.1 = whole (dq sB (rawB m c t k0_pay2)) := by
  unfold runA kernelRun0_A
  dsimp only
  sl_unfold_words
  simp (disch := decide) only [↓View.readCov_skip, ↓View.readCov_fill]
  sl_kernel_rfl
theorem runA_19 : (runA m c t h0).2.2.2.2.2.1 = whole (dk sB (rawB m c t k0_pay2)) := by
  unfold runA kernelRun0_A
  dsimp only
  sl_unfold_words
  simp (disch := decide) only [↓View.readCov_skip, ↓View.readCov_fill]
  sl_kernel_rfl
theorem runA_20 : (runA m c t h0).2.2.2.2.2.2.1 = dvPieces sB (rawB m c t k0_pay2) := by
  unfold runA kernelRun0_A
  dsimp only
  sl_unfold_words
  simp (disch := decide) only [↓View.readCov_skip, ↓View.readCov_fill]
  sl_kernel_rfl
theorem runA_21 : (runA m c t h0).2.2.2.2.2.2.2.1 = whole (dp sB (rawB m c t k0_pay2)) := by
  unfold runA kernelRun0_A
  dsimp only
  sl_unfold_words
  simp (disch := decide) only [↓View.readCov_skip, ↓View.readCov_fill]
  sl_kernel_rfl
theorem runA_22 : (runA m c t h0).2.2.2.2.2.2.2.2.1 = stPieces (rawF m c t k0_pay2) (rawB m c t k0_pay2) ++ [⟨Rect.unit ![0, 0, 0, 0] S2x4x256x128.size inb_S2x4x256x128_S2x4x256x128_0_0_0_0, k0_pay2⟩] := by
  unfold runA kernelRun0_A
  dsimp only
  sl_unfold_words
  simp (disch := decide) only [↓View.readCov_skip, ↓View.readCov_fill]
  sl_kernel_rfl
end first

end Cert.KernelIdeal.Sweep

end
-- ==== Proof.Block.lean ====
module

public import proofs.«01_k».proof.Proof.Step
public import proofs.«01_k».proof.Proof.Real
public import Idealize.ShloMosaic.Lib.ValueIdxCoords

@[expose] public section

set_option maxRecDepth 16384

/-! The blocks a grid point loads, at an index, read off the arrays the region finds. Grid point `t` runs the scan's
    step `65 - t`. -/

noncomputable section

namespace Cert.KernelIdeal.Sweep

open Cert.KernelIdeal Cert.KernelIdeal.Gen Idealize.ShloMosaic Idealize.ShloMosaic.TcCoe Idealize.ShloMosaic.ValueIdx Chunk

variable {F : FTy → Type} [FloatOps F]

/-- The step of the scan a grid point runs. -/
def stp (t : Fin cfg0.N) : Fin 66 := ⟨65 - t.val, by omega⟩
/-- The rows' block of the forward scan's step: the context's two blocks come first. -/
def blkF (i : Fin 66) : Fin 66 := if h : i.val < 2 then ⟨64 + i.val, by omega⟩ else ⟨i.val - 2, by omega⟩
/-- The backward scan's. -/
def blkB (i : Fin 66) : Fin 66 := ⟨65 - i.val, by omega⟩
/-- Row `r` of block `b`. -/
def row (b : Fin 66) (r : Fin 128) : Fin 8448 := ⟨128 * b.val + r.val, by omega⟩
/-- A column of the packed projections. -/
def colP (o : ℕ) (ho : o ≤ 8000 := by decide) (j : Fin 512) : Fin 10368 := ⟨o + j.val, by omega⟩
def colPV (j : Fin 1024) : Fin 10368 := ⟨7168 + j.val, by omega⟩

theorem idx_0 : ∀ t : Fin cfg0.N, win0_0.index t (0 : Fin 2) = (blkF (stp t)).val ∧ win0_0.index t (1 : Fin 2) = 12 :=
  (by decide +kernel : ∀ t : Fin grid0.N, _)
theorem idx_1 : ∀ t : Fin cfg0.N, win0_1.index t (0 : Fin 2) = (blkF (stp t)).val ∧ win0_1.index t (1 : Fin 2) = 13 :=
  (by decide +kernel : ∀ t : Fin grid0.N, _)
theorem idx_2 : ∀ t : Fin cfg0.N, win0_2.index t (0 : Fin 2) = (blkF (stp t)).val ∧ win0_2.index t (1 : Fin 2) = 7 :=
  (by decide +kernel : ∀ t : Fin grid0.N, _)
theorem idx_3 : ∀ t : Fin cfg0.N, win0_3.index t (0 : Fin 2) = (blkF (stp t)).val ∧ win0_3.index t (1 : Fin 2) = 0 :=
  (by decide +kernel : ∀ t : Fin grid0.N, _)
theorem idx_4 : ∀ t : Fin cfg0.N, win0_4.index t (0 : Fin 2) = (blkB (stp t)).val ∧ win0_4.index t (1 : Fin 2) = 12 :=
  (by decide +kernel : ∀ t : Fin grid0.N, _)
theorem idx_5 : ∀ t : Fin cfg0.N, win0_5.index t (0 : Fin 2) = (blkB (stp t)).val ∧ win0_5.index t (1 : Fin 2) = 13 :=
  (by decide +kernel : ∀ t : Fin grid0.N, _)
theorem idx_6 : ∀ t : Fin cfg0.N, win0_6.index t (0 : Fin 2) = (blkB (stp t)).val ∧ win0_6.index t (1 : Fin 2) = 7 :=
  (by decide +kernel : ∀ t : Fin grid0.N, _)
theorem idx_7 : ∀ t : Fin cfg0.N, win0_7.index t (0 : Fin 2) = (blkB (stp t)).val ∧ win0_7.index t (1 : Fin 2) = 0 :=
  (by decide +kernel : ∀ t : Fin grid0.N, _)
theorem idx_11 : ∀ t : Fin cfg0.N, win0_11.index t (0 : Fin 2) = (blkF (stp t)).val ∧ win0_11.index t (1 : Fin 2) = 0 :=
  (by decide +kernel : ∀ t : Fin grid0.N, _)
theorem idx_12 : ∀ t : Fin cfg0.N, win0_12.index t (0 : Fin 2) = (blkB (stp t)).val ∧ win0_12.index t (1 : Fin 2) = 0 :=
  (by decide +kernel : ∀ t : Fin grid0.N, _)
theorem idx_14 : ∀ t : Fin cfg0.N, win0_14.index t (0 : Fin 2) = (blkF (stp t)).val ∧ win0_14.index t (1 : Fin 2) = 0 :=
  (by decide +kernel : ∀ t : Fin grid0.N, _)
theorem idx_15 : ∀ t : Fin cfg0.N, win0_15.index t (0 : Fin 2) = (blkF (stp t)).val ∧ win0_15.index t (1 : Fin 2) = 0 :=
  (by decide +kernel : ∀ t : Fin grid0.N, _)
theorem idx_16 : ∀ t : Fin cfg0.N, win0_16.index t (0 : Fin 2) = (blkF (stp t)).val ∧ win0_16.index t (1 : Fin 2) = 0 :=
  (by decide +kernel : ∀ t : Fin grid0.N, _)
theorem idx_17 : ∀ t : Fin cfg0.N, win0_17.index t (0 : Fin 2) = (blkF (stp t)).val ∧ win0_17.index t (1 : Fin 2) = 0 :=
  (by decide +kernel : ∀ t : Fin grid0.N, _)
theorem idx_18 : ∀ t : Fin cfg0.N, win0_18.index t (0 : Fin 2) = (blkB (stp t)).val ∧ win0_18.index t (1 : Fin 2) = 0 :=
  (by decide +kernel : ∀ t : Fin grid0.N, _)
theorem idx_19 : ∀ t : Fin cfg0.N, win0_19.index t (0 : Fin 2) = (blkB (stp t)).val ∧ win0_19.index t (1 : Fin 2) = 0 :=
  (by decide +kernel : ∀ t : Fin grid0.N, _)
theorem idx_20 : ∀ t : Fin cfg0.N, win0_20.index t (0 : Fin 2) = (blkB (stp t)).val ∧ win0_20.index t (1 : Fin 2) = 0 :=
  (by decide +kernel : ∀ t : Fin grid0.N, _)
theorem idx_21 : ∀ t : Fin cfg0.N, win0_21.index t (0 : Fin 2) = (blkB (stp t)).val ∧ win0_21.index t (1 : Fin 2) = 0 :=
  (by decide +kernel : ∀ t : Fin grid0.N, _)
theorem idx_8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx_9 : ∀ t : Fin cfg0.N, win0_9.index t (0 : Fin 3) = 0 ∧ win0_9.index t (1 : Fin 3) = 0 ∧ win0_9.index t (2 : Fin 3) = 0 :=
  (by decide +kernel : ∀ t : Fin grid0.N, _)
theorem idx_10 : ∀ t : Fin cfg0.N, win0_10.index t (0 : Fin 3) = 0 ∧ win0_10.index t (1 : Fin 3) = 0 ∧ win0_10.index t (2 : Fin 3) = 0 :=
  (by decide +kernel : ∀ t : Fin grid0.N, _)
theorem idx_13 : ∀ t : Fin cfg0.N, win0_13.index t (0 : Fin 5) = 0 ∧ win0_13.index t (1 : Fin 5) = (stp t).val ∧ win0_13.index t (2 : Fin 5) = 0
    ∧ win0_13.index t (3 : Fin 5) = 0 ∧ win0_13.index t (4 : Fin 5) = 0 :=
  (by decide +kernel : ∀ t : Fin grid0.N, _)

theorem emb_0 (t : Fin cfg0.N) (r : Fin 128) (j : Fin 512) (y : ((cfg0.win 0).xblock (cfg0.grid.coords t)).Idx)
    (hr : (y (0 : Fin 2)).val = r.val) (hj : (y (1 : Fin 2)).val = j.val) :
    ((cfg0.win 0).blk t).view.emb y = ix2 (row (blkF (stp t)) r) (colP 6144 (by decide) j) := by
  obtain ⟨e0, e1⟩ := idx_0 t
  funext a; apply Fin.ext
  match a with
  | ⟨0, _⟩ => show win0_0.index t (0 : Fin 2) * 128 + 1 * (y (0 : Fin 2)).val = 128 * (blkF (stp t)).val + r.val; omega
  | ⟨1, _⟩ => show win0_0.index t (1 : Fin 2) * 512 + 1 * (y (1 : Fin 2)).val = 6144 + j.val; omega
theorem emb_1 (t : Fin cfg0.N) (r : Fin 128) (j : Fin 512) (y : ((cfg0.win 1).xblock (cfg0.grid.coords t)).Idx)
    (hr : (y (0 : Fin 2)).val = r.val) (hj : (y (1 : Fin 2)).val = j.val) :
    ((cfg0.win 1).blk t).view.emb y = ix2 (row (blkF (stp t)) r) (colP 6656 (by decide) j) := by
  obtain ⟨e0, e1⟩ := idx_1 t
  funext a; apply Fin.ext
  match a with
  | ⟨0, _⟩ => show win0_1.index t (0 : Fin 2) * 128 + 1 * (y (0 : Fin 2)).val = 128 * (blkF (stp t)).val + r.val; omega
  | ⟨1, _⟩ => show win0_1.index t (1 : Fin 2) * 512 + 1 * (y (1 : Fin 2)).val = 6656 + j.val; omega
theorem emb_2 (t : Fin cfg0.N) (r : Fin 128) (j : Fin 1024) (y : ((cfg0.win 2).xblock (cfg0.grid.coords t)).Idx)
    (hr : (y (0 : Fin 2)).val = r.val) (hj : (y (1 : Fin 2)).val = j.val) :
    ((cfg0.win 2).blk t).view.emb y = ix2 (row (blkF (stp t)) r) (colPV j) := by
  obtain ⟨e0, e1⟩ := idx_2 t
  funext a; apply Fin.ext
  match a with
  | ⟨0, _⟩ => show win0_2.index t (0 : Fin 2) * 128 + 1 * (y (0 : Fin 2)).val = 128 * (blkF (stp t)).val + r.val; omega
  | ⟨1, _⟩ => show win0_2.index t (1 : Fin 2) * 1024 + 1 * (y (1 : Fin 2)).val = 7168 + j.val; omega
theorem emb_3 (t : Fin cfg0.N) (r : Fin 128) (j : Fin 128) :
    ((cfg0.win 3).blk t).view.emb (ix2 r j : S128x128.Idx) = ix2 (row (blkF (stp t)) r) j := by
  obtain ⟨e0, e1⟩ := idx_3 t
  funext a; apply Fin.ext
  match a with
  | ⟨0, _⟩ => show win0_3.index t (0 : Fin 2) * 128 + 1 * r.val = 128 * (blkF (stp t)).val + r.val; omega
  | ⟨1, _⟩ => show win0_3.index t (1 : Fin 2) * 128 + 1 * j.val = j.val; omega
theorem emb_4 (t : Fin cfg0.N) (r : Fin 128) (j : Fin 512) (y : ((cfg0.win 4).xblock (cfg0.grid.coords t)).Idx)
    (hr : (y (0 : Fin 2)).val = r.val) (hj : (y (1 : Fin 2)).val = j.val) :
    ((cfg0.win 4).blk t).view.emb y = ix2 (row (blkB (stp t)) r) (colP 6144 (by decide) j) := by
  obtain ⟨e0, e1⟩ := idx_4 t
  funext a; apply Fin.ext
  match a with
  | ⟨0, _⟩ => show win0_4.index t (0 : Fin 2) * 128 + 1 * (y (0 : Fin 2)).val = 128 * (blkB (stp t)).val + r.val; omega
  | ⟨1, _⟩ => show win0_4.index t (1 : Fin 2) * 512 + 1 * (y (1 : Fin 2)).val = 6144 + j.val; omega
theorem emb_5 (t : Fin cfg0.N) (r : Fin 128) (j : Fin 512) (y : ((cfg0.win 5).xblock (cfg0.grid.coords t)).Idx)
    (hr : (y (0 : Fin 2)).val = r.val) (hj : (y (1 : Fin 2)).val = j.val) :
    ((cfg0.win 5).blk t).view.emb y = ix2 (row (blkB (stp t)) r) (colP 6656 (by decide) j) := by
  obtain ⟨e0, e1⟩ := idx_5 t
  funext a; apply Fin.ext
  match a with
  | ⟨0, _⟩ => show win0_5.index t (0 : Fin 2) * 128 + 1 * (y (0 : Fin 2)).val = 128 * (blkB (stp t)).val + r.val; omega
  | ⟨1, _⟩ => show win0_5.index t (1 : Fin 2) * 512 + 1 * (y (1 : Fin 2)).val = 6656 + j.val; omega
theorem emb_6 (t : Fin cfg0.N) (r : Fin 128) (j : Fin 1024) (y : ((cfg0.win 6).xblock (cfg0.grid.coords t)).Idx)
    (hr : (y (0 : Fin 2)).val = r.val) (hj : (y (1 : Fin 2)).val = j.val) :
    ((cfg0.win 6).blk t).view.emb y = ix2 (row (blkB (stp t)) r) (colPV j) := by
  obtain ⟨e0, e1⟩ := idx_6 t
  funext a; apply Fin.ext
  match a with
  | ⟨0, _⟩ => show win0_6.index t (0 : Fin 2) * 128 + 1 * (y (0 : Fin 2)).val = 128 * (blkB (stp t)).val + r.val; omega
  | ⟨1, _⟩ => show win0_6.index t (1 : Fin 2) * 1024 + 1 * (y (1 : Fin 2)).val = 7168 + j.val; omega
theorem emb_7 (t : Fin cfg0.N) (r : Fin 128) (j : Fin 128) :
    ((cfg0.win 7).blk t).view.emb (ix2 r j : S128x128.Idx) = ix2 (row (blkB (stp t)) r) j := by
  obtain ⟨e0, e1⟩ := idx_7 t
  funext a; apply Fin.ext
  match a with
  | ⟨0, _⟩ => show win0_7.index t (0 : Fin 2) * 128 + 1 * r.val = 128 * (blkB (stp t)).val + r.val; omega
  | ⟨1, _⟩ => show win0_7.index t (1 : Fin 2) * 128 + 1 * j.val = j.val; omega
theorem emb_11 (t : Fin cfg0.N) (r : Fin 128) (j : Fin 1024) :
    ((cfg0.win 11).blk t).view.emb (ix2 r j : S128x1024.Idx) = ix2 (row (blkF (stp t)) r) j := by
  obtain ⟨e0, e1⟩ := idx_11 t
  funext a; apply Fin.ext
  match a with
  | ⟨0, _⟩ => show win0_11.index t (0 : Fin 2) * 128 + 1 * r.val = 128 * (blkF (stp t)).val + r.val; omega
  | ⟨1, _⟩ => show win0_11.index t (1 : Fin 2) * 1024 + 1 * j.val = j.val; omega
theorem emb_12 (t : Fin cfg0.N) (r : Fin 128) (j : Fin 1024) :
    ((cfg0.win 12).blk t).view.emb (ix2 r j : S128x1024.Idx) = ix2 (row (blkB (stp t)) r) j := by
  obtain ⟨e0, e1⟩ := idx_12 t
  funext a; apply Fin.ext
  match a with
  | ⟨0, _⟩ => show win0_12.index t (0 : Fin 2) * 128 + 1 * r.val = 128 * (blkB (stp t)).val + r.val; omega
  | ⟨1, _⟩ => show win0_12.index t (1 : Fin 2) * 1024 + 1 * j.val = j.val; omega
theorem emb_14 (t : Fin cfg0.N) (r : Fin 128) (j : Fin 512) :
    ((cfg0.win 14).blk t).view.emb (ix2 r j : S128x512.Idx) = ix2 (row (blkF (stp t)) r) j := by
  obtain ⟨e0, e1⟩ := idx_14 t
  funext a; apply Fin.ext
  match a with
  | ⟨0, _⟩ => show win0_14.index t (0 : Fin 2) * 128 + 1 * r.val = 128 * (blkF (stp t)).val + r.val; omega
  | ⟨1, _⟩ => show win0_14.index t (1 : Fin 2) * 512 + 1 * j.val = j.val; omega
theorem emb_15 (t : Fin cfg0.N) (r : Fin 128) (j : Fin 512) :
    ((cfg0.win 15).blk t).view.emb (ix2 r j : S128x512.Idx) = ix2 (row (blkF (stp t)) r) j := by
  obtain ⟨e0, e1⟩ := idx_15 t
  funext a; apply Fin.ext
  match a with
  | ⟨0, _⟩ => show win0_15.index t (0 : Fin 2) * 128 + 1 * r.val = 128 * (blkF (stp t)).val + r.val; omega
  | ⟨1, _⟩ => show win0_15.index t (1 : Fin 2) * 512 + 1 * j.val = j.val; omega
theorem emb_16 (t : Fin cfg0.N) (r : Fin 128) (j : Fin 1024) :
    ((cfg0.win 16).blk t).view.emb (ix2 r j : S128x1024.Idx) = ix2 (row (blkF (stp t)) r) j := by
  obtain ⟨e0, e1⟩ := idx_16 t
  funext a; apply Fin.ext
  match a with
  | ⟨0, _⟩ => show win0_16.index t (0 : Fin 2) * 128 + 1 * r.val = 128 * (blkF (stp t)).val + r.val; omega
  | ⟨1, _⟩ => show win0_16.index t (1 : Fin 2) * 1024 + 1 * j.val = j.val; omega
theorem emb_17 (t : Fin cfg0.N) (r : Fin 128) (j : Fin 512) :
    ((cfg0.win 17).blk t).view.emb (ix2 r j : S128x512.Idx) = ix2 (row (blkF (stp t)) r) j := by
  obtain ⟨e0, e1⟩ := idx_17 t
  funext a; apply Fin.ext
  match a with
  | ⟨0, _⟩ => show win0_17.index t (0 : Fin 2) * 128 + 1 * r.val = 128 * (blkF (stp t)).val + r.val; omega
  | ⟨1, _⟩ => show win0_17.index t (1 : Fin 2) * 512 + 1 * j.val = j.val; omega
theorem emb_18 (t : Fin cfg0.N) (r : Fin 128) (j : Fin 512) :
    ((cfg0.win 18).blk t).view.emb (ix2 r j : S128x512.Idx) = ix2 (row (blkB (stp t)) r) j := by
  obtain ⟨e0, e1⟩ := idx_18 t
  funext a; apply Fin.ext
  match a with
  | ⟨0, _⟩ => show win0_18.index t (0 : Fin 2) * 128 + 1 * r.val = 128 * (blkB (stp t)).val + r.val; omega
  | ⟨1, _⟩ => show win0_18.index t (1 : Fin 2) * 512 + 1 * j.val = j.val; omega
theorem emb_19 (t : Fin cfg0.N) (r : Fin 128) (j : Fin 512) :
    ((cfg0.win 19).blk t).view.emb (ix2 r j : S128x512.Idx) = ix2 (row (blkB (stp t)) r) j := by
  obtain ⟨e0, e1⟩ := idx_19 t
  funext a; apply Fin.ext
  match a with
  | ⟨0, _⟩ => show win0_19.index t (0 : Fin 2) * 128 + 1 * r.val = 128 * (blkB (stp t)).val + r.val; omega
  | ⟨1, _⟩ => show win0_19.index t (1 : Fin 2) * 512 + 1 * j.val = j.val; omega
theorem emb_20 (t : Fin cfg0.N) (r : Fin 128) (j : Fin 1024) :
    ((cfg0.win 20).blk t).view.emb (ix2 r j : S128x1024.Idx) = ix2 (row (blkB (stp t)) r) j := by
  obtain ⟨e0, e1⟩ := idx_20 t
  funext a; apply Fin.ext
  match a with
  | ⟨0, _⟩ => show win0_20.index t (0 : Fin 2) * 128 + 1 * r.val = 128 * (blkB (stp t)).val + r.val; omega
  | ⟨1, _⟩ => show win0_20.index t (1 : Fin 2) * 1024 + 1 * j.val = j.val; omega
theorem emb_21 (t : Fin cfg0.N) (r : Fin 128) (j : Fin 512) :
    ((cfg0.win 21).blk t).view.emb (ix2 r j : S128x512.Idx) = ix2 (row (blkB (stp t)) r) j := by
  obtain ⟨e0, e1⟩ := idx_21 t
  funext a; apply Fin.ext
  match a with
  | ⟨0, _⟩ => show win0_21.index t (0 : Fin 2) * 128 + 1 * r.val = 128 * (blkB (stp t)).val + r.val; omega
  | ⟨1, _⟩ => show win0_21.index t (1 : Fin 2) * 512 + 1 * j.val = j.val; omega
theorem emb_8 (t : Fin cfg0.N) (d : Fin 2) (r : Fin 128) (j : Fin 512) :
    ((cfg0.win 8).blk t).view.emb (ix3 d r j : S2x128x512.Idx) = ix3 d r j := by
  obtain ⟨e0, e1, e2⟩ := idx_8 t
  funext a; apply Fin.ext
  match a with
  | ⟨0, _⟩ => show win0_8.index t (0 : Fin 3) * 2 + 1 * d.val = d.val; omega
  | ⟨1, _⟩ => show win0_8.index t (1 : Fin 3) * 128 + 1 * r.val = r.val; omega
  | ⟨2, _⟩ => show win0_8.index t (2 : Fin 3) * 512 + 1 * j.val = j.val; omega
theorem emb_9 (t : Fin cfg0.N) (d : Fin 2) (r : Fin 128) (j : Fin 512) :
    ((cfg0.win 9).blk t).view.emb (ix3 d r j : S2x128x512.Idx) = ix3 d r j := by
  obtain ⟨e0, e1, e2⟩ := idx_9 t
  funext a; apply Fin.ext
  match a with
  | ⟨0, _⟩ => show win0_9.index t (0 : Fin 3) * 2 + 1 * d.val = d.val; omega
  | ⟨1, _⟩ => show win0_9.index t (1 : Fin 3) * 128 + 1 * r.val = r.val; omega
  | ⟨2, _⟩ => show win0_9.index t (2 : Fin 3) * 512 + 1 * j.val = j.val; omega
theorem emb_10 (t : Fin cfg0.N) (d : Fin 2) (r : Fin 1) (j : Fin 512) :
    ((cfg0.win 10).blk t).view.emb (ix3 d r j : S2x1x512.Idx) = ix3 d r j := by
  obtain ⟨e0, e1, e2⟩ := idx_10 t
  funext a; apply Fin.ext
  match a with
  | ⟨0, _⟩ => show win0_10.index t (0 : Fin 3) * 2 + 1 * d.val = d.val; omega
  | ⟨1, _⟩ => show win0_10.index t (1 : Fin 3) * 1 + 1 * r.val = r.val; omega
  | ⟨2, _⟩ => show win0_10.index t (2 : Fin 3) * 512 + 1 * j.val = j.val; omega
theorem emb_13 (t : Fin cfg0.N) (d : Fin 2) (h : Fin 4) (v : Fin 256) (k : Fin 128) :
    ((cfg0.win 13).blk t).view.emb (ix5 d 0 h v k : S2x1x4x256x128.Idx) = ix5 d (stp t) h v k := by
  obtain ⟨e0, e1, e2, e3, e4⟩ := idx_13 t
  funext a; apply Fin.ext
  match a with
  | ⟨0, _⟩ => show win0_13.index t (0 : Fin 5) * 2 + 1 * d.val = d.val; omega
  | ⟨1, _⟩ => show win0_13.index t (1 : Fin 5) * 1 + 1 * 0 = (stp t).val; omega
  | ⟨2, _⟩ => show win0_13.index t (2 : Fin 5) * 4 + 1 * h.val = h.val; omega
  | ⟨3, _⟩ => show win0_13.index t (3 : Fin 5) * 256 + 1 * v.val = v.val; omega
  | ⟨4, _⟩ => show win0_13.index t (4 : Fin 5) * 128 + 1 * k.val = k.val; omega

variable (m : (ℓ : Loc nD τ sig) → Buf (Elt F) ℓ)

section
variable (c : Dev nD) (t : Fin cfg0.N)
theorem X_0 (r : Fin 128) (j : Fin 512) : X0_0 m c t (ix2 r j : S128x512.Idx) = m ((c : Thread nD τ).loc main_arg0) (ix2 (row (blkF (stp t)) r) (colP 6144 (by decide) j)) := by
  unfold X0_0 Pipeline.Window.fill
  rw [dif_pos (moved0_0 t _), ← V_main_arg0 m c]
  exact congrArg (V m c main_arg0) (emb_0 t r j _ rfl rfl)
theorem X_1 (r : Fin 128) (j : Fin 512) : X0_1 m c t (ix2 r j : S128x512.Idx) = m ((c : Thread nD τ).loc main_arg0) (ix2 (row (blkF (stp t)) r) (colP 6656 (by decide) j)) := by
  unfold X0_1 Pipeline.Window.fill
  rw [dif_pos (moved0_1 t _), ← V_main_arg0 m c]
  exact congrArg (V m c main_arg0) (emb_1 t r j _ rfl rfl)
theorem X_2 (r : Fin 128) (j : Fin 1024) : X0_2 m c t (ix2 r j : S128x1024.Idx) = m ((c : Thread nD τ).loc main_arg0) (ix2 (row (blkF (stp t)) r) (colPV j)) := by
  unfold X0_2 Pipeline.Window.fill
  rw [dif_pos (moved0_2 t _), ← V_main_arg0 m c]
  exact congrArg (V m c main_arg0) (emb_2 t r j _ rfl rfl)
theorem X_4 (r : Fin 128) (j : Fin 512) : X0_4 m c t (ix2 r j : S128x512.Idx) = m ((c : Thread nD τ).loc main_arg0) (ix2 (row (blkB (stp t)) r) (colP 6144 (by decide) j)) := by
  unfold X0_4 Pipeline.Window.fill
  rw [dif_pos (moved0_4 t _), ← V_main_arg0 m c]
  exact congrArg (V m c main_arg0) (emb_4 t r j _ rfl rfl)
theorem X_5 (r : Fin 128) (j : Fin 512) : X0_5 m c t (ix2 r j : S128x512.Idx) = m ((c : Thread nD τ).loc main_arg0) (ix2 (row (blkB (stp t)) r) (colP 6656 (by decide) j)) := by
  unfold X0_5 Pipeline.Window.fill
  rw [dif_pos (moved0_5 t _), ← V_main_arg0 m c]
  exact congrArg (V m c main_arg0) (emb_5 t r j _ rfl rfl)
theorem X_6 (r : Fin 128) (j : Fin 1024) : X0_6 m c t (ix2 r j : S128x1024.Idx) = m ((c : Thread nD τ).loc main_arg0) (ix2 (row (blkB (stp t)) r) (colPV j)) := by
  unfold X0_6 Pipeline.Window.fill
  rw [dif_pos (moved0_6 t _), ← V_main_arg0 m c]
  exact congrArg (V m c main_arg0) (emb_6 t r j _ rfl rfl)
theorem X_3 (r : Fin 128) (j : Fin 128) : iblk m c 3 t (ix2 r j : S128x128.Idx) = m ((c : Thread nD τ).loc main_arg1) (ix2 (row (blkF (stp t)) r) j) := by
  rw [← V_main_arg1 m c, ← emb_3 t r j]
  rfl
theorem X_7 (r : Fin 128) (j : Fin 128) : iblk m c 7 t (ix2 r j : S128x128.Idx) = m ((c : Thread nD τ).loc main_arg1) (ix2 (row (blkB (stp t)) r) j) := by
  rw [← V_main_arg1 m c, ← emb_7 t r j]
  rfl
theorem X_11 (r : Fin 128) (j : Fin 1024) : iblk m c 11 t (ix2 r j : S128x1024.Idx) = m ((c : Thread nD τ).loc main_arg6) (ix2 (row (blkF (stp t)) r) j) := by
  rw [← V_main_arg6 m c, ← emb_11 t r j]
  rfl
theorem X_12 (r : Fin 128) (j : Fin 1024) : iblk m c 12 t (ix2 r j : S128x1024.Idx) = m ((c : Thread nD τ).loc main_arg6) (ix2 (row (blkB (stp t)) r) j) := by
  rw [← V_main_arg6 m c, ← emb_12 t r j]
  rfl
theorem X_8 (d : Fin 2) (r : Fin 128) (j : Fin 512) : iblk m c 8 t (ix3 d r j : S2x128x512.Idx) = V m c main_v9 (ix3 d r j) := by
  conv_rhs => rw [← emb_8 t d r j]
  rfl
theorem X_9 (d : Fin 2) (r : Fin 128) (j : Fin 512) : iblk m c 9 t (ix3 d r j : S2x128x512.Idx) = V m c main_v12 (ix3 d r j) := by
  conv_rhs => rw [← emb_9 t d r j]
  rfl
theorem X_10 (d : Fin 2) (r : Fin 1) (j : Fin 512) : iblk m c 10 t (ix3 d r j : S2x1x512.Idx) = V m c main_v15 (ix3 d r j) := by
  conv_rhs => rw [← emb_10 t d r j]
  rfl
theorem X_13 (d : Fin 2) (h : Fin 4) (v : Fin 256) (k : Fin 128) : iblk m c 13 t (ix5 d 0 h v k : S2x1x4x256x128.Idx) = V m c main_v94 (ix5 d (stp t) h v k) := by
  rw [← emb_13 t d h v k]
  rfl

/-- A block loaded whole. -/
theorem ld2 {φ : EltTy} {a b : ℕ} (x : Vec F ⟨2, ![a, b]⟩ φ) (inb) (r : Fin a) (j : Fin b) :
    View.ld x (Rect.unit (s := ⟨2, ![a, b]⟩) ![0, 0] ![a, b] inb) (ix2 r j) = x (ix2 r j) :=
  View.ld_unit_apply_of x _ _ inb _ _ fun a => by
    match a with
    | ⟨0, _⟩ => exact (Nat.zero_add _).symm
    | ⟨1, _⟩ => exact (Nat.zero_add _).symm

variable (d : Fin 2) (x0 x1 : Vec F S128x512 .bf16) (x2 : Vec F S128x1024 .bf16) (x3 : Vec F S128x128 .f32)
    (x8 x9 : Vec F S2x128x512 .bf16) (x10 : Vec F S2x1x512 .f32) (x11 : Vec F S128x1024 .bf16)
    (x13 : Vec F S2x1x4x256x128 .f32) (xs : Vec F S2x4x256x128 .f32)
theorem raw_q (r : Fin 128) (j : Fin 512) : (rawIn d x0 x1 x2 x3 x8 x9 x10 x11 x13 xs).q (ix2 r j) = x0 (ix2 r j) := ld2 x0 _ r j
theorem raw_k (r : Fin 128) (j : Fin 512) : (rawIn d x0 x1 x2 x3 x8 x9 x10 x11 x13 xs).k (ix2 r j) = x1 (ix2 r j) := ld2 x1 _ r j
theorem raw_v (r : Fin 128) (j : Fin 1024) : (rawIn d x0 x1 x2 x3 x8 x9 x10 x11 x13 xs).v (ix2 r j) = x2 (ix2 r j) := ld2 x2 _ r j
theorem raw_dout (r : Fin 128) (j : Fin 1024) : (rawIn d x0 x1 x2 x3 x8 x9 x10 x11 x13 xs).dout (ix2 r j) = x11 (ix2 r j) := ld2 x11 _ r j
theorem raw_sm (r : Fin 128) (j : Fin 128) : (rawIn d x0 x1 x2 x3 x8 x9 x10 x11 x13 xs).sm (ix2 r j) = x3 (ix2 r j) := ld2 x3 _ r j
theorem raw_uh (r : Fin 128) (j : Fin 512) : (rawIn d x0 x1 x2 x3 x8 x9 x10 x11 x13 xs).uh (ix2 r j) = x8 (ix3 d r j) := by
  unfold rawIn
  dsimp only
  rw [shapeCast_1ab_ab_apply]
  exact View.ld_unit_apply_of x8 _ _ _ _ _ fun a => by
    match a with
    | ⟨0, _⟩ => rfl
    | ⟨1, _⟩ => exact (Nat.zero_add _).symm
    | ⟨2, _⟩ => exact (Nat.zero_add _).symm
theorem raw_ul (r : Fin 128) (j : Fin 512) : (rawIn d x0 x1 x2 x3 x8 x9 x10 x11 x13 xs).ul (ix2 r j) = x9 (ix3 d r j) := by
  unfold rawIn
  dsimp only
  rw [shapeCast_1ab_ab_apply]
  exact View.ld_unit_apply_of x9 _ _ _ _ _ fun a => by
    match a with
    | ⟨0, _⟩ => rfl
    | ⟨1, _⟩ => exact (Nat.zero_add _).symm
    | ⟨2, _⟩ => exact (Nat.zero_add _).symm
theorem raw_bi (j : Fin 512) : (rawIn d x0 x1 x2 x3 x8 x9 x10 x11 x13 xs).bi (ix2 0 j) = x10 (ix3 d 0 j) := by
  unfold rawIn
  dsimp only
  rw [shapeCast_1ab_ab_apply]
  exact View.ld_unit_apply_of x10 _ _ _ _ _ fun a => by
    match a with
    | ⟨0, _⟩ => rfl
    | ⟨1, _⟩ => rfl
    | ⟨2, _⟩ => exact (Nat.zero_add _).symm
theorem raw_hs (h : Fin 4) (v : Fin 256) (k : Fin 128) : (rawIn d x0 x1 x2 x3 x8 x9 x10 x11 x13 xs).hs h (ix2 v k) = x13 (ix5 d 0 h v k) := by
  unfold rawIn
  dsimp only
  rw [shapeCast_apply _ _ (ix2 v k) (ix5 (0 : Fin 1) (0 : Fin 1) (0 : Fin 1) v k) (by
    rw [Shape.rowMajor_val_five, Shape.rowMajor_val_two]
    show (((0 * 1 + 0) * 1 + 0) * 256 + v.val) * 128 + k.val = v.val * 128 + k.val
    omega)]
  exact View.ld_unit_apply_of x13 _ _ _ _ _ fun a => by
    match a with
    | ⟨0, _⟩ => rfl
    | ⟨1, _⟩ => rfl
    | ⟨2, _⟩ => rfl
    | ⟨3, _⟩ => exact (Nat.zero_add _).symm
    | ⟨4, _⟩ => exact (Nat.zero_add _).symm
theorem raw_ds (h : Fin 4) (v : Fin 256) (k : Fin 128) : (rawIn d x0 x1 x2 x3 x8 x9 x10 x11 x13 xs).ds h (ix2 v k) = xs (ix4 d h v k) := by
  unfold rawIn
  dsimp only
  rw [shapeCast_apply _ _ (ix2 v k) (ix4 (0 : Fin 1) (0 : Fin 1) v k) (by
    rw [Shape.rowMajor_val_four, Shape.rowMajor_val_two]
    show ((0 * 1 + 0) * 256 + v.val) * 128 + k.val = v.val * 128 + k.val
    omega)]
  exact View.ld_unit_apply_of xs _ _ _ _ _ fun a => by
    match a with
    | ⟨0, _⟩ => rfl
    | ⟨1, _⟩ => rfl
    | ⟨2, _⟩ => exact (Nat.zero_add _).symm
    | ⟨3, _⟩ => exact (Nat.zero_add _).symm
end

end Cert.KernelIdeal.Sweep

end
-- ==== Proof.Point.lean ====
module

public import proofs.«01_k».proof.Proof.Block

@[expose] public section

set_option maxRecDepth 16384

/-! What a grid point leaves in its output blocks and in the scratch, at an index: the chunk's values at the blocks it
    loaded, over the scratch the point before left. -/

noncomputable section

namespace Cert.KernelIdeal.Sweep

open Cert.KernelIdeal Cert.KernelIdeal.Gen Idealize.ShloMosaic Idealize.ShloMosaic.TcCoe Idealize.ShloMosaic.ValueIdx Chunk

variable {F : FTy → Type} [FloatOps F]

theorem canon_whole {φ : EltTy} (x : Vec F S128x512 φ) : View.canon (Val := Elt F) (whole x) = x :=
  View.canon_unit_zero (by funext a; fin_cases a <;> rfl) _ x

/-- The values' cotangent as one array. -/
def dvAll (s : BitVec 32) (I : In F) : Vec F S128x1024 .bf16 := fun y =>
  dv s I ⟨(y 1).val / 256, by have h : (y 1).val < 1024 := (y 1).isLt; omega⟩ (ix2 (y 0 : Fin 128) ⟨(y 1).val % 256, by omega⟩)

theorem dvAll_apply (s : BitVec 32) (I : In F) (r : Fin 128) (h : Fin 4) (k : Fin 256) : dvAll s I (ix2 r (cv h k)) = dv s I h (ix2 r k) := by
  have e1 : (⟨(256 * h.val + k.val) / 256, by omega⟩ : Fin 4) = h := Fin.ext (by show (256 * h.val + k.val) / 256 = h.val; omega)
  have e2 : (⟨(256 * h.val + k.val) % 256, by omega⟩ : Fin 256) = k := Fin.ext (by show (256 * h.val + k.val) % 256 = k.val; omega)
  exact congrArg₂ (fun a b => dv s I a (ix2 r b)) e1 e2

theorem dv_piece (s : BitVec 32) (I : In F) (h : Fin 4) (o : ℕ) (ho : o = 256 * h.val) (inb) (x : S128x256.Idx) :
    dv s I h x = dvAll s I ((Rect.unit (s := S128x1024) ![0, o] S128x256.size inb).emb x) := by
  obtain rfl := ho
  obtain ⟨r, k, rfl⟩ : ∃ r k, x = ix2 r k := ⟨x 0, x 1, eq_ix2 x⟩
  rw [show (Rect.unit (s := S128x1024) ![0, 256 * h.val] S128x256.size inb).emb (ix2 r k) = ix2 r (cv h k) from
    funext fun a => Fin.ext (by
      refine (Rect.idx_unit_val _ _ _ _ a).trans ?_
      match a with
      | ⟨0, _⟩ => exact Nat.zero_add _
      | ⟨1, _⟩ => rfl), dvAll_apply]

theorem canon_dv (s : BitVec 32) (I : In F) : View.canon (Val := Elt F) (dvPieces s I) = dvAll s I :=
  funext fun y => View.canon_apply_of_pieces (dvAll s I) _
    (View.PiecesOf.mem (L := dvPieces s I) ⟨dv_piece s I 3 768 rfl inb_S128x1024_S128x256_0_768, dv_piece s I 2 512 rfl inb_S128x1024_S128x256_0_512,
      dv_piece s I 1 256 rfl inb_S128x1024_S128x256_0_256, dv_piece s I 0 0 rfl inb_S128x1024_S128x256_0_0, trivial⟩) y
    (View.cover_of_tiledL (dvPieces s I) S128x256.size (by sl_kernel_rfl) y)

/-- The scratch as one array. -/
def stAll (I J : In F) : Vec F S2x4x256x128 .f32 := fun y =>
  if (y 0).val = 0 then dst sF I (y 1 : Fin 4) (ix2 (y 2 : Fin 256) (y 3 : Fin 128)) else dst sB J (y 1 : Fin 4) (ix2 (y 2 : Fin 256) (y 3 : Fin 128))

theorem st_apply (x : FVec F S256x128 .f32) (v : Fin 256) (k : Fin 128) : st x (ix4 0 0 v k) = x (ix2 v k) :=
  shapeCast_apply _ _ _ _ (by
    rw [Shape.rowMajor_val_four, Shape.rowMajor_val_two]
    show v.val * 128 + k.val = ((0 * 1 + 0) * 256 + v.val) * 128 + k.val
    omega)

theorem st_piece (I J : In F) (d : Fin 2) (h : Fin 4) (inb) (x : S1x1x256x128.Idx) :
    st (if d = 0 then dst sF I h else dst sB J h) x = stAll I J ((Rect.unit (s := S2x4x256x128) ![d.val, h.val, 0, 0] S1x1x256x128.size inb).emb x) := by
  obtain ⟨a, b, v, k, rfl⟩ : ∃ a b v k, x = ix4 a b v k := ⟨x 0, x 1, x 2, x 3, eq_ix4 x⟩
  obtain rfl : a = 0 := Subsingleton.elim _ _
  obtain rfl : b = 0 := Subsingleton.elim _ _
  rw [show (Rect.unit (s := S2x4x256x128) ![d.val, h.val, 0, 0] S1x1x256x128.size inb).emb (ix4 0 0 v k) = ix4 d h v k from
    funext fun a => Fin.ext (by
      refine (Rect.idx_unit_val _ _ _ _ a).trans ?_
      match a with
      | ⟨0, _⟩ => rfl
      | ⟨1, _⟩ => rfl
      | ⟨2, _⟩ => exact Nat.zero_add _
      | ⟨3, _⟩ => exact Nat.zero_add _), st_apply]
  unfold stAll
  by_cases hd : d = 0
  · subst hd
    rfl
  · rw [if_neg hd]
    exact (if_neg (fun h => hd (Fin.ext h))).symm

theorem pieces_st (I J : In F) : View.PiecesOf (Val := Elt F) (stAll I J) (stPieces I J) :=
  ⟨st_piece I J 1 3 (inb_s 1 3), st_piece I J 1 2 (inb_s 1 2), st_piece I J 1 1 (inb_s 1 1), st_piece I J 1 0 (inb_s 1 0),
    st_piece I J 0 3 (inb_s 0 3), st_piece I J 0 2 (inb_s 0 2), st_piece I J 0 1 (inb_s 0 1), st_piece I J 0 0 (inb_s 0 0), trivial⟩
theorem cover_st (I J : In F) (y : S2x4x256x128.Idx) : ∃ pc ∈ (stPieces I J : List (View.Piece (Elt F) S2x4x256x128 .f32)), y ∈ pc.1.set :=
  View.cover_of_tiledL (stPieces I J) S1x1x256x128.size (by sl_kernel_rfl) y

theorem canon_st (I J : In F) (L : List (View.Piece (Elt F) S2x4x256x128 .f32)) : View.canon (Val := Elt F) (stPieces I J ++ L) = stAll I J :=
  funext fun y => View.canon_append_of_piecesOf (stAll I J) L _ (pieces_st I J) y (cover_st I J y)

variable (m : (ℓ : Loc nD τ sig) → Buf (Elt F) ℓ) (c : Dev nD)

/-- The scratch before a point: zero before the first. -/
def scr (t : Fin cfg0.N) : Vec F S2x4x256x128 .f32 :=
  if t.val % 66 = 0 then k0_pay2 else (outsAt0 m c (t.val - 1) (Nat.lt_of_le_of_lt (Nat.sub_le _ _) t.isLt)).2.2.2.2.2.2.2.2

/-- What a point leaves, from its blocks. -/
def left (I J : In F) : Outs F :=
  (dq sF I, dk sF I, dvAll sF I, dp sF I, dq sB J, dk sB J, dvAll sB J, dp sB J, stAll I J)

theorem rd_eq (xs : Vec F S2x4x256x128 .f32) : rd xs = xs := Memref.IsWhole.read_unread _ _

section
variable (t : Fin cfg0.N) (h0 : t.val % 66 = 0)
theorem ptA_14 : VO0_14.read (Elt F) (VO0_14.writes (Elt F) VO0_14.junk (runA m c t h0).1) = dq sF (inF m c t k0_pay2) := by
  rw [View.read_writes_junk_eq_canon, runA_14, canon_whole, rawF_eq]
theorem ptA_15 : VO0_15.read (Elt F) (VO0_15.writes (Elt F) VO0_15.junk (runA m c t h0).2.1) = dk sF (inF m c t k0_pay2) := by
  rw [View.read_writes_junk_eq_canon, runA_15, canon_whole, rawF_eq]
theorem ptA_16 : VO0_16.read (Elt F) (VO0_16.writes (Elt F) VO0_16.junk (runA m c t h0).2.2.1) = dvAll sF (inF m c t k0_pay2) := by
  rw [View.read_writes_junk_eq_canon, runA_16, canon_dv, rawF_eq]
theorem ptA_17 : VO0_17.read (Elt F) (VO0_17.writes (Elt F) VO0_17.junk (runA m c t h0).2.2.2.1) = dp sF (inF m c t k0_pay2) := by
  rw [View.read_writes_junk_eq_canon, runA_17, canon_whole, rawF_eq]
theorem ptA_18 : VO0_18.read (Elt F) (VO0_18.writes (Elt F) VO0_18.junk (runA m c t h0).2.2.2.2.1) = dq sB (inB m c t k0_pay2) := by
  rw [View.read_writes_junk_eq_canon, runA_18, canon_whole, rawB_eq]
theorem ptA_19 : VO0_19.read (Elt F) (VO0_19.writes (Elt F) VO0_19.junk (runA m c t h0).2.2.2.2.2.1) = dk sB (inB m c t k0_pay2) := by
  rw [View.read_writes_junk_eq_canon, runA_19, canon_whole, rawB_eq]
theorem ptA_20 : VO0_20.read (Elt F) (VO0_20.writes (Elt F) VO0_20.junk (runA m c t h0).2.2.2.2.2.2.1) = dvAll sB (inB m c t k0_pay2) := by
  rw [View.read_writes_junk_eq_canon, runA_20, canon_dv, rawB_eq]
theorem ptA_21 : VO0_21.read (Elt F) (VO0_21.writes (Elt F) VO0_21.junk (runA m c t h0).2.2.2.2.2.2.2.1) = dp sB (inB m c t k0_pay2) := by
  rw [View.read_writes_junk_eq_canon, runA_21, canon_whole, rawB_eq]
theorem ptA_22 : VS0_0.read (Elt F) (VS0_0.writes (Elt F) VS0_0.junk (runA m c t h0).2.2.2.2.2.2.2.2.1) = stAll (inF m c t k0_pay2) (inB m c t k0_pay2) := by
  rw [View.read_writes_junk_eq_canon, runA_22, canon_st, rawF_eq, rawB_eq]
end

section
variable (t : Fin cfg0.N) (h0 : ¬t.val % 66 = 0) (xs : Vec F S2x4x256x128 .f32)
theorem ptB_14 : VO0_14.read (Elt F) (VO0_14.writes (Elt F) VO0_14.junk (runB m c t h0 xs).1) = dq sF (inF m c t xs) := by
  rw [View.read_writes_junk_eq_canon, runB_14, rd_eq, canon_whole, rawF_eq]
theorem ptB_15 : VO0_15.read (Elt F) (VO0_15.writes (Elt F) VO0_15.junk (runB m c t h0 xs).2.1) = dk sF (inF m c t xs) := by
  rw [View.read_writes_junk_eq_canon, runB_15, rd_eq, canon_whole, rawF_eq]
theorem ptB_16 : VO0_16.read (Elt F) (VO0_16.writes (Elt F) VO0_16.junk (runB m c t h0 xs).2.2.1) = dvAll sF (inF m c t xs) := by
  rw [View.read_writes_junk_eq_canon, runB_16, rd_eq, canon_dv, rawF_eq]
theorem ptB_17 : VO0_17.read (Elt F) (VO0_17.writes (Elt F) VO0_17.junk (runB m c t h0 xs).2.2.2.1) = dp sF (inF m c t xs) := by
  rw [View.read_writes_junk_eq_canon, runB_17, rd_eq, canon_whole, rawF_eq]
theorem ptB_18 : VO0_18.read (Elt F) (VO0_18.writes (Elt F) VO0_18.junk (runB m c t h0 xs).2.2.2.2.1) = dq sB (inB m c t xs) := by
  rw [View.read_writes_junk_eq_canon, runB_18, rd_eq, canon_whole, rawB_eq]
theorem ptB_19 : VO0_19.read (Elt F) (VO0_19.writes (Elt F) VO0_19.junk (runB m c t h0 xs).2.2.2.2.2.1) = dk sB (inB m c t xs) := by
  rw [View.read_writes_junk_eq_canon, runB_19, rd_eq, canon_whole, rawB_eq]
theorem ptB_20 : VO0_20.read (Elt F) (VO0_20.writes (Elt F) VO0_20.junk (runB m c t h0 xs).2.2.2.2.2.2.1) = dvAll sB (inB m c t xs) := by
  rw [View.read_writes_junk_eq_canon, runB_20, rd_eq, canon_dv, rawB_eq]
theorem ptB_21 : VO0_21.read (Elt F) (VO0_21.writes (Elt F) VO0_21.junk (runB m c t h0 xs).2.2.2.2.2.2.2.1) = dp sB (inB m c t xs) := by
  rw [View.read_writes_junk_eq_canon, runB_21, rd_eq, canon_whole, rawB_eq]
theorem ptB_22 : VS0_0.read (Elt F) (VS0_0.writes (Elt F) VS0_0.junk (runB m c t h0 xs).2.2.2.2.2.2.2.2.1) = stAll (inF m c t xs) (inB m c t xs) := by
  rw [View.read_writes_junk_eq_canon, runB_22, rd_eq, ← List.append_nil (stPieces _ _), canon_st, rawF_eq, rawB_eq]
end

theorem tuple_eq {α₁ α₂ α₃ α₄ α₅ α₆ α₇ α₈ α₉ : Type} {a₁ b₁ : α₁} {a₂ b₂ : α₂} {a₃ b₃ : α₃} {a₄ b₄ : α₄} {a₅ b₅ : α₅} {a₆ b₆ : α₆} {a₇ b₇ : α₇}
    {a₈ b₈ : α₈} {a₉ b₉ : α₉} (h₁ : a₁ = b₁) (h₂ : a₂ = b₂) (h₃ : a₃ = b₃) (h₄ : a₄ = b₄) (h₅ : a₅ = b₅) (h₆ : a₆ = b₆) (h₇ : a₇ = b₇)
    (h₈ : a₈ = b₈) (h₉ : a₉ = b₉) : (a₁, a₂, a₃, a₄, a₅, a₆, a₇, a₈, a₉) = (b₁, b₂, b₃, b₄, b₅, b₆, b₇, b₈, b₉) := by
  subst h₁ h₂ h₃ h₄ h₅ h₆ h₇ h₈ h₉
  rfl

theorem ptA_eq (t : Fin cfg0.N) (h0 : t.val % 66 = 0) : ptA m c t h0 = left (inF m c t k0_pay2) (inB m c t k0_pay2) := by
  unfold ptA left
  exact tuple_eq (ptA_14 m c t h0) (ptA_15 m c t h0) (ptA_16 m c t h0) (ptA_17 m c t h0) (ptA_18 m c t h0) (ptA_19 m c t h0) (ptA_20 m c t h0) (ptA_21 m c t h0) (ptA_22 m c t h0)
theorem ptB_eq (t : Fin cfg0.N) (h0 : ¬t.val % 66 = 0) (xs : Vec F S2x4x256x128 .f32) : ptB m c t h0 xs = left (inF m c t xs) (inB m c t xs) := by
  unfold ptB left
  exact tuple_eq (ptB_14 m c t h0 _) (ptB_15 m c t h0 _) (ptB_16 m c t h0 _) (ptB_17 m c t h0 _) (ptB_18 m c t h0 _) (ptB_19 m c t h0 _) (ptB_20 m c t h0 _) (ptB_21 m c t h0 _) (ptB_22 m c t h0 _)

theorem outs_eq (t : Fin cfg0.N) : outsAt0 m c t.val t.isLt = left (inF m c t (scr m c t)) (inB m c t (scr m c t)) := by
  by_cases h0 : t.val % 66 = 0
  · rw [outsAt0_A m c t h0, scr, if_pos h0, ptA_eq]
  · rw [outsAt0_B m c t h0, scr, if_neg h0, ptB_eq]

/-! ## The arrays after the run -/

theorem idx_inj_14 : ∀ t t' : Fin cfg0.N, win0_14.index t = win0_14.index t' → t = t' :=
  (by decide +kernel : ∀ t t' : Fin grid0.N, win0_14.index t = win0_14.index t' → t = t')
theorem arr_14 (t : Fin cfg0.N) (r : Fin 128) (j : Fin 512) :
    (dats m 0 c).arrAt 14 cfg0.N (ix2 (row (blkF (stp t)) r) j) = (left (inF m c t (scr m c t)) (inB m c t (scr m c t))).1 (ix2 r j : S128x512.Idx) := by
  rw [← outs_eq, ← emb_14 t r j]
  refine ((dats m 0 c).arrAt_emb_eq_flushed 14 (fun t t' _ _ hne => (cfg0.win 14).disjoint_blk fun h => hne (idx_inj_14 t t' h)) t (flush0_14 t) _).trans ?_
  show (cfg0.win 14).cut (grid0.coords t) ((dats m 0 c).after 14 t) _ = _
  rw [after0_14]
  rfl

theorem idx_inj_15 : ∀ t t' : Fin cfg0.N, win0_15.index t = win0_15.index t' → t = t' :=
  (by decide +kernel : ∀ t t' : Fin grid0.N, win0_15.index t = win0_15.index t' → t = t')
theorem arr_15 (t : Fin cfg0.N) (r : Fin 128) (j : Fin 512) :
    (dats m 0 c).arrAt 15 cfg0.N (ix2 (row (blkF (stp t)) r) j) = (left (inF m c t (scr m c t)) (inB m c t (scr m c t))).2.1 (ix2 r j : S128x512.Idx) := by
  rw [← outs_eq, ← emb_15 t r j]
  refine ((dats m 0 c).arrAt_emb_eq_flushed 15 (fun t t' _ _ hne => (cfg0.win 15).disjoint_blk fun h => hne (idx_inj_15 t t' h)) t (flush0_15 t) _).trans ?_
  show (cfg0.win 15).cut (grid0.coords t) ((dats m 0 c).after 15 t) _ = _
  rw [after0_15]
  rfl

theorem idx_inj_16 : ∀ t t' : Fin cfg0.N, win0_16.index t = win0_16.index t' → t = t' :=
  (by decide +kernel : ∀ t t' : Fin grid0.N, win0_16.index t = win0_16.index t' → t = t')
theorem arr_16 (t : Fin cfg0.N) (r : Fin 128) (j : Fin 1024) :
    (dats m 0 c).arrAt 16 cfg0.N (ix2 (row (blkF (stp t)) r) j) = (left (inF m c t (scr m c t)) (inB m c t (scr m c t))).2.2.1 (ix2 r j : S128x1024.Idx) := by
  rw [← outs_eq, ← emb_16 t r j]
  refine ((dats m 0 c).arrAt_emb_eq_flushed 16 (fun t t' _ _ hne => (cfg0.win 16).disjoint_blk fun h => hne (idx_inj_16 t t' h)) t (flush0_16 t) _).trans ?_
  show (cfg0.win 16).cut (grid0.coords t) ((dats m 0 c).after 16 t) _ = _
  rw [after0_16]
  rfl

theorem idx_inj_17 : ∀ t t' : Fin cfg0.N, win0_17.index t = win0_17.index t' → t = t' :=
  (by decide +kernel : ∀ t t' : Fin grid0.N, win0_17.index t = win0_17.index t' → t = t')
theorem arr_17 (t : Fin cfg0.N) (r : Fin 128) (j : Fin 512) :
    (dats m 0 c).arrAt 17 cfg0.N (ix2 (row (blkF (stp t)) r) j) = (left (inF m c t (scr m c t)) (inB m c t (scr m c t))).2.2.2.1 (ix2 r j : S128x512.Idx) := by
  rw [← outs_eq, ← emb_17 t r j]
  refine ((dats m 0 c).arrAt_emb_eq_flushed 17 (fun t t' _ _ hne => (cfg0.win 17).disjoint_blk fun h => hne (idx_inj_17 t t' h)) t (flush0_17 t) _).trans ?_
  show (cfg0.win 17).cut (grid0.coords t) ((dats m 0 c).after 17 t) _ = _
  rw [after0_17]
  rfl

theorem idx_inj_18 : ∀ t t' : Fin cfg0.N, win0_18.index t = win0_18.index t' → t = t' :=
  (by decide +kernel : ∀ t t' : Fin grid0.N, win0_18.index t = win0_18.index t' → t = t')
theorem arr_18 (t : Fin cfg0.N) (r : Fin 128) (j : Fin 512) :
    (dats m 0 c).arrAt 18 cfg0.N (ix2 (row (blkB (stp t)) r) j) = (left (inF m c t (scr m c t)) (inB m c t (scr m c t))).2.2.2.2.1 (ix2 r j : S128x512.Idx) := by
  rw [← outs_eq, ← emb_18 t r j]
  refine ((dats m 0 c).arrAt_emb_eq_flushed 18 (fun t t' _ _ hne => (cfg0.win 18).disjoint_blk fun h => hne (idx_inj_18 t t' h)) t (flush0_18 t) _).trans ?_
  show (cfg0.win 18).cut (grid0.coords t) ((dats m 0 c).after 18 t) _ = _
  rw [after0_18]
  rfl

theorem idx_inj_19 : ∀ t t' : Fin cfg0.N, win0_19.index t = win0_19.index t' → t = t' :=
  (by decide +kernel : ∀ t t' : Fin grid0.N, win0_19.index t = win0_19.index t' → t = t')
theorem arr_19 (t : Fin cfg0.N) (r : Fin 128) (j : Fin 512) :
    (dats m 0 c).arrAt 19 cfg0.N (ix2 (row (blkB (stp t)) r) j) = (left (inF m c t (scr m c t)) (inB m c t (scr m c t))).2.2.2.2.2.1 (ix2 r j : S128x512.Idx) := by
  rw [← outs_eq, ← emb_19 t r j]
  refine ((dats m 0 c).arrAt_emb_eq_flushed 19 (fun t t' _ _ hne => (cfg0.win 19).disjoint_blk fun h => hne (idx_inj_19 t t' h)) t (flush0_19 t) _).trans ?_
  show (cfg0.win 19).cut (grid0.coords t) ((dats m 0 c).after 19 t) _ = _
  rw [after0_19]
  rfl

theorem idx_inj_20 : ∀ t t' : Fin cfg0.N, win0_20.index t = win0_20.index t' → t = t' :=
  (by decide +kernel : ∀ t t' : Fin grid0.N, win0_20.index t = win0_20.index t' → t = t')
theorem arr_20 (t : Fin cfg0.N) (r : Fin 128) (j : Fin 1024) :
    (dats m 0 c).arrAt 20 cfg0.N (ix2 (row (blkB (stp t)) r) j) = (left (inF m c t (scr m c t)) (inB m c t (scr m c t))).2.2.2.2.2.2.1 (ix2 r j : S128x1024.Idx) := by
  rw [← outs_eq, ← emb_20 t r j]
  refine ((dats m 0 c).arrAt_emb_eq_flushed 20 (fun t t' _ _ hne => (cfg0.win 20).disjoint_blk fun h => hne (idx_inj_20 t t' h)) t (flush0_20 t) _).trans ?_
  show (cfg0.win 20).cut (grid0.coords t) ((dats m 0 c).after 20 t) _ = _
  rw [after0_20]
  rfl

theorem idx_inj_21 : ∀ t t' : Fin cfg0.N, win0_21.index t = win0_21.index t' → t = t' :=
  (by decide +kernel : ∀ t t' : Fin grid0.N, win0_21.index t = win0_21.index t' → t = t')
theorem arr_21 (t : Fin cfg0.N) (r : Fin 128) (j : Fin 512) :
    (dats m 0 c).arrAt 21 cfg0.N (ix2 (row (blkB (stp t)) r) j) = (left (inF m c t (scr m c t)) (inB m c t (scr m c t))).2.2.2.2.2.2.2.1 (ix2 r j : S128x512.Idx) := by
  rw [← outs_eq, ← emb_21 t r j]
  refine ((dats m 0 c).arrAt_emb_eq_flushed 21 (fun t t' _ _ hne => (cfg0.win 21).disjoint_blk fun h => hne (idx_inj_21 t t' h)) t (flush0_21 t) _).trans ?_
  show (cfg0.win 21).cut (grid0.coords t) ((dats m 0 c).after 21 t) _ = _
  rw [after0_21]
  rfl

end Cert.KernelIdeal.Sweep

end
-- ==== Proof.Mask.lean ====
module

public import proofs.«01_k».proof.Proof.ChunkVal

@[expose] public section

/-! The triangle of the pairs of tokens, read off the signed differences of row numbers: one sign runs down the block,
    the other up. -/

noncomputable section

namespace Cert.KernelIdeal.Chunk

open Cert.KernelIdeal Cert.KernelIdeal.Gen Idealize.ShloMosaic.ValueIdx
open Idealize.ShloMosaic

theorem dir_fwd : Dir (Equiv.refl _) 1#32 where
  m := by
    have : ∀ t u : Fin 128, IntOp.cmpi .sge (IntOp.muli (IntOp.subi (BitVec.ofNat 32 t.val) (BitVec.ofNat 32 u.val)) 1#32) 0#32 = BitVec.ofBool (decide (u ≤ t)) := by
      decide +kernel
    intro t u
    rw [show mask 1#32 (ix2 t u) = IntOp.cmpi .sge (IntOp.muli (IntOp.subi (iota .tc S128x128 32 [0] iota_S128x128_d0_w32 (ix2 t u)) (iota .tc S128x128 32 [1] iota_S128x128_d1_w32 (ix2 t u))) 1#32) 0#32 from rfl,
      iota_single_apply, iota_single_apply]
    exact this t u
  mT := by
    have : ∀ t u : Fin 128, IntOp.cmpi .sge (IntOp.muli (IntOp.subi (BitVec.ofNat 32 u.val) (BitVec.ofNat 32 t.val)) 1#32) 0#32 = BitVec.ofBool (decide (t ≤ u)) := by
      decide +kernel
    intro t u
    rw [show maskT 1#32 (ix2 t u) = IntOp.cmpi .sge (IntOp.muli (IntOp.subi (iota .tc S128x128 32 [1] iota_S128x128_d1_w32 (ix2 t u)) (iota .tc S128x128 32 [0] iota_S128x128_d0_w32 (ix2 t u))) 1#32) 0#32 from rfl,
      iota_single_apply, iota_single_apply]
    exact this t u

theorem dir_bwd : Dir Fin.revPerm 4294967295#32 where
  m := by
    have : ∀ t u : Fin 128, IntOp.cmpi .sge (IntOp.muli (IntOp.subi (BitVec.ofNat 32 t.val) (BitVec.ofNat 32 u.val)) 4294967295#32) 0#32 = BitVec.ofBool (decide (Fin.rev u ≤ Fin.rev t)) := by
      decide +kernel
    intro t u
    rw [show mask 4294967295#32 (ix2 t u) = IntOp.cmpi .sge (IntOp.muli (IntOp.subi (iota .tc S128x128 32 [0] iota_S128x128_d0_w32 (ix2 t u)) (iota .tc S128x128 32 [1] iota_S128x128_d1_w32 (ix2 t u))) 4294967295#32) 0#32 from rfl,
      iota_single_apply, iota_single_apply]
    exact this t u
  mT := by
    have : ∀ t u : Fin 128, IntOp.cmpi .sge (IntOp.muli (IntOp.subi (BitVec.ofNat 32 u.val) (BitVec.ofNat 32 t.val)) 4294967295#32) 0#32 = BitVec.ofBool (decide (Fin.rev t ≤ Fin.rev u)) := by
      decide +kernel
    intro t u
    rw [show maskT 4294967295#32 (ix2 t u) = IntOp.cmpi .sge (IntOp.muli (IntOp.subi (iota .tc S128x128 32 [1] iota_S128x128_d1_w32 (ix2 t u)) (iota .tc S128x128 32 [0] iota_S128x128_d0_w32 (ix2 t u))) 4294967295#32) 0#32 from rfl,
      iota_single_apply, iota_single_apply]
    exact this t u

end Cert.KernelIdeal.Chunk

end
-- ==== Proof.Kern.lean ====
module

public import proofs.«01_k».proof.Proof.HostVal
public import proofs.«01_k».proof.Proof.Point
public import proofs.«01_k».proof.Proof.Mask

@[expose] public section

set_option maxRecDepth 16384

/-! The arrays the run leaves, over the call's real inputs: a grid point's blocks are a chunk of its direction's
    sequence, the scratch carries the state's cotangent from point to point, and every output block holds the
    sequence's gradients at its tokens. -/

noncomputable section

namespace Cert.KernelIdeal.Sweep

open Cert.KernelIdeal Cert.KernelIdeal.Gen Cert.Gla
open Idealize.ShloMosaic Idealize.ShloMosaic.TcCoe Idealize.ShloMosaic.ValueIdx Chunk

/-! ## The gate -/

theorem mm_sum {φ₁ φ₂ : FTy} (x : FVec Ideal S128x128 φ₁) (y : FVec Ideal S128x512 φ₂) (t : Fin 128) (j : Fin 512) :
    matmul (F := Ideal) dot_S128x128_S128x512_S128x512_1_0_0_1_n_n none x y (constant S128x512 .f32 0x00000000#32) (ix2 t j)
      = ∑ k : Fin 128, (x (ix2 t k) * y (ix2 k j) : EReal) := by
  simp only [matmul]
  rw [Ideal.matmul_constant_zero_apply, ← Equiv.sum_comp (contrEquiv1 dot_S128x128_S128x512_S128x512_1_0_0_1_n_n 128 rfl rfl).symm]
  refine Finset.sum_congr rfl fun k _ => congrArg₂ (· * ·) (congrArg x (funext fun a => by fin_cases a <;> rfl)) (congrArg y (funext fun a => by fin_cases a <;> rfl))

/-- The gate before its activation, where the matrix's rows outside the direction's columns vanish: the columns that
    belong to others may hold anything. -/
theorem pre_val (I : In Ideal) (t : Fin 128) (j : Fin 512) (col : Fin 16 → Fin 128) (hcol : Function.Injective col) (l u : Fin 16 → ℝ) (b : ℝ)
    (hs : ∀ i, I.sm (ix2 t (col i)) = ((l i : ℝ) : EReal)) (hu : ∀ i, I.uh (ix2 (col i) j) = ((u i : ℝ) : EReal))
    (h0 : ∀ x, (∀ i, x ≠ col i) → I.uh (ix2 x j) = (0 : EReal)) (hl : ∀ x, I.ul (ix2 x j) = (0 : EReal)) (hb : I.bi (ix2 0 j) = ((b : ℝ) : EReal)) :
    pre I (ix2 t j) = (((∑ i, l i * u i) + b : ℝ) : EReal) := by
  have e1 : (∑ k : Fin 128, (I.sm (ix2 t k) * I.uh (ix2 k j) : EReal)) = ((∑ i, l i * u i : ℝ) : EReal) := by
    rw [coe_sum]
    refine (Fintype.sum_of_injective col hcol _ _ (fun x hx => ?_) fun i => ?_).symm
    · rw [h0 x fun i e => hx ⟨i, e.symm⟩, mul_zero]
    · rw [hs, hu, EReal.coe_mul]
  have e2 : (∑ k : Fin 128, ((I.sm (ix2 t k) - I.sm (ix2 t k)) * I.uh (ix2 k j) : EReal)) = 0 := by
    refine Finset.sum_eq_zero fun x _ => ?_
    by_cases h : ∃ i, x = col i
    · obtain ⟨i, rfl⟩ := h
      rw [hs, ← EReal.coe_sub, sub_self, EReal.coe_zero, zero_mul]
    · rw [h0 x fun i e => h ⟨i, e⟩, mul_zero]
  have e3 : (∑ k : Fin 128, (I.sm (ix2 t k) * I.ul (ix2 k j) : EReal)) = 0 :=
    Finset.sum_eq_zero fun x _ => by rw [hl, mul_zero]
  unfold pre
  rw [addf_apply, addf_apply, addf_apply, mm_sum, mm_sum, mm_sum, rows_apply, hb]
  refine (congrArg (· + ((b : ℝ) : EReal)) (congrArg₂ (· + ·) (congrArg₂ (· + ·) e1 e2) e3)).trans ?_
  rw [add_zero, add_zero, EReal.coe_add]

theorem colF_inj : Function.Injective colF := fun i k h => Fin.ext (congrArg (fun y : Fin 128 => y.val) h)
theorem colB_inj : Function.Injective colB := fun i k h => Fin.ext (Nat.add_left_cancel (congrArg (fun y : Fin 128 => y.val) h))

/-! ## The rows of a step -/

theorem row_fwd (i : Fin 66) (u : Fin 128) : row (blkF i) u = rowF (pos i u) := by
  unfold blkF rowF
  by_cases h : i.val < 2
  · rw [dif_pos h, dif_pos (by show 128 * i.val + u.val < 256; omega)]
    exact Fin.ext (by show 128 * (64 + i.val) + u.val = 8192 + (128 * i.val + u.val); omega)
  · rw [dif_neg h, dif_neg (by show ¬ 128 * i.val + u.val < 256; omega)]
    exact Fin.ext (by show 128 * (i.val - 2) + u.val = 128 * i.val + u.val - 256; omega)
theorem row_bwd (i : Fin 66) (u : Fin 128) : row (blkB i) u = Fin.rev (pos i (Fin.revPerm u)) :=
  Fin.ext (by
    show 128 * (65 - i.val) + u.val = 8448 - (128 * i.val + (128 - (u.val + 1)) + 1)
    omega)

/-! ## A point's blocks -/

variable (m : (ℓ : Loc nD τ sig) → Buf (Elt Ideal) ℓ) (c : Dev nD)

/-- The call's arguments hold the real inputs. -/
def Given (D : Data) : Prop :=
  Holds D (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

variable {m c} {D : Data} (hD : Given m c D)
include hD

theorem v94_0 (i : Fin 66) (h : Fin 4) (v : Fin 256) (k : Fin 128) : V m c main_v94 (ix5 0 i h v k) = ((D.fwd.H h i.val v k : ℝ) : EReal) := by
  rw [HostRun.V_v94]
  exact (HostVal.hists_0 _ _ i h v k).trans (HostVal.histF_val hD i h v k)
theorem v94_1 (i : Fin 66) (h : Fin 4) (v : Fin 256) (k : Fin 128) : V m c main_v94 (ix5 1 i h v k) = ((D.bwd.H h i.val v k : ℝ) : EReal) := by
  rw [HostRun.V_v94]
  exact (HostVal.hists_1 _ _ i h v k).trans (HostVal.histB_val hD i h v k)
omit hD in
theorem v9_at (d : Fin 2) (r : Fin 128) (j : Fin 512) : V m c main_v9 (ix3 d r j)
    = HostRun.ups (F := Ideal) (m ((c : Thread nD τ).loc main_arg2)) (m ((c : Thread nD τ).loc main_arg4)) (ix3 d r j) := by
  rw [HostRun.V_v9]; rfl
theorem v12_at (d : Fin 2) (r : Fin 128) (j : Fin 512) : V m c main_v12 (ix3 d r j) = (0 : EReal) := by
  rw [HostRun.V_v12]; exact HostVal.up_rest hD d r j

theorem preF (t : Fin cfg0.N) (xs : Vec Ideal S2x4x256x128 .f32) (u : Fin 128) (j : Fin 512) :
    pre (inF m c t xs) (ix2 u j) = ((D.pf (rowF (pos (stp t) u)) j : ℝ) : EReal) :=
  pre_val _ u j colF colF_inj _ _ _ (fun i => (raw_sm ..).trans ((X_3 m c t u _).trans (by rw [row_fwd]; exact hD.lf _ i)))
    (fun i => (raw_uh ..).trans ((X_8 m c t 0 _ j).trans ((v9_at _ _ _).trans (HostVal.upF_in hD i j))))
    (fun x hx => (raw_uh ..).trans ((X_8 m c t 0 _ j).trans ((v9_at _ _ _).trans (HostVal.upF_out x j hx))))
    (fun x => (raw_ul ..).trans ((X_9 m c t 0 _ j).trans (v12_at hD _ _ _)))
    ((raw_bi ..).trans ((X_10 m c t 0 _ j).trans (by rw [HostRun.V_v15]; exact (HostVal.biases_0 _ _ j).trans (hD.bf j))))

theorem preB (t : Fin cfg0.N) (xs : Vec Ideal S2x4x256x128 .f32) (u : Fin 128) (j : Fin 512) :
    pre (inB m c t xs) (ix2 u j) = ((D.pb (Fin.rev (pos (stp t) (Fin.revPerm u))) j : ℝ) : EReal) :=
  pre_val _ u j colB colB_inj _ _ _ (fun i => (raw_sm ..).trans ((X_7 m c t u _).trans (by rw [row_bwd]; exact hD.lb _ i)))
    (fun i => (raw_uh ..).trans ((X_8 m c t 1 _ j).trans ((v9_at _ _ _).trans (HostVal.upB_in hD i j))))
    (fun x hx => (raw_uh ..).trans ((X_8 m c t 1 _ j).trans ((v9_at _ _ _).trans (HostVal.upB_out x j hx))))
    (fun x => (raw_ul ..).trans ((X_9 m c t 1 _ j).trans (v12_at hD _ _ _)))
    ((raw_bi ..).trans ((X_10 m c t 1 _ j).trans (by rw [HostRun.V_v15]; exact (HostVal.biases_1 _ _ j).trans (hD.bb j))))

theorem isF (t : Fin cfg0.N) (xs : Vec Ideal S2x4x256x128 .f32)
    (hxs : ∀ h v k, xs (ix4 0 h v k) = ((D.fwd.D h ((stp t).val + 1) v k : ℝ) : EReal)) : Is (Equiv.refl _) (inF m c t xs) (D.fwd.chunk (stp t)) where
  q h u k := (raw_q ..).trans ((X_0 m c t u _).trans (by
    rw [row_fwd]; exact hD.pt _ (colQ (ck h k)) (by show 6144 ≤ 6144 + _; omega) (by show 6144 + (ck h k).val < 8192; omega)))
  k h u k := (raw_k ..).trans ((X_1 m c t u _).trans (by
    rw [row_fwd]; exact hD.pt _ (colK (ck h k)) (by show 6144 ≤ 6656 + _; omega) (by show 6656 + (ck h k).val < 8192; omega)))
  p h u k := preF hD t xs u (ck h k)
  v h u k := (raw_v ..).trans ((X_2 m c t u _).trans (by
    rw [row_fwd]; exact hD.pt _ (colV (cv h k)) (by show 6144 ≤ 7168 + _; omega) (by show 7168 + (cv h k).val < 8192; omega)))
  d h u k := (raw_dout ..).trans ((X_11 m c t u _).trans (by rw [row_fwd]; exact hD.o _ (cv h k)))
  H h v k := (raw_hs ..).trans ((X_13 m c t 0 h v k).trans (v94_0 hD _ h v k))
  D h v k := (raw_ds ..).trans (hxs h v k)

theorem isB (t : Fin cfg0.N) (xs : Vec Ideal S2x4x256x128 .f32)
    (hxs : ∀ h v k, xs (ix4 1 h v k) = ((D.bwd.D h ((stp t).val + 1) v k : ℝ) : EReal)) : Is Fin.revPerm (inB m c t xs) (D.bwd.chunk (stp t)) where
  q h u k := (raw_q ..).trans ((X_4 m c t u _).trans (by
    rw [row_bwd]; exact hD.pt _ (colQ (ck h k)) (by show 6144 ≤ 6144 + _; omega) (by show 6144 + (ck h k).val < 8192; omega)))
  k h u k := (raw_k ..).trans ((X_5 m c t u _).trans (by
    rw [row_bwd]; exact hD.pt _ (colK (ck h k)) (by show 6144 ≤ 6656 + _; omega) (by show 6656 + (ck h k).val < 8192; omega)))
  p h u k := preB hD t xs u (ck h k)
  v h u k := (raw_v ..).trans ((X_6 m c t u _).trans (by
    rw [row_bwd]; exact hD.pt _ (colV (cv h k)) (by show 6144 ≤ 7168 + _; omega) (by show 7168 + (cv h k).val < 8192; omega)))
  d h u k := (raw_dout ..).trans ((X_12 m c t u _).trans (by rw [row_bwd]; exact hD.o _ (cv h k)))
  H h v k := (raw_hs ..).trans ((X_13 m c t 1 h v k).trans (v94_1 hD _ h v k))
  D h v k := (raw_ds ..).trans (hxs h v k)

/-! ## The scratch -/

omit hD in
theorem D_end (G : Seq) (h : Fin 4) (v : Fin 256) (k : Fin 128) : G.D h 66 v k = 0 :=
  Finset.sum_eq_zero fun x _ => if_neg (by omega)

theorem scr_val (n : ℕ) : ∀ hn : n < cfg0.N, ∀ h v k,
    scr m c ⟨n, hn⟩ (ix4 0 h v k) = ((D.fwd.D h ((stp ⟨n, hn⟩).val + 1) v k : ℝ) : EReal)
    ∧ scr m c ⟨n, hn⟩ (ix4 1 h v k) = ((D.bwd.D h ((stp ⟨n, hn⟩).val + 1) v k : ℝ) : EReal) := by
  induction n with
  | zero =>
    intro hn h v k
    have e : scr m c ⟨0, hn⟩ = k0_pay2 (F := Ideal) := by unfold scr; exact if_pos rfl
    rw [e]
    exact ⟨bits_0.trans (congrArg _ (D_end D.fwd h v k).symm), bits_0.trans (congrArg _ (D_end D.bwd h v k).symm)⟩
  | succ n ih =>
    intro hn h v k
    have hN : cfg0.N = 66 := rfl
    have hn' : n < cfg0.N := by omega
    have e : scr m c ⟨n + 1, hn⟩ = stAll (inF m c ⟨n, hn'⟩ (scr m c ⟨n, hn'⟩)) (inB m c ⟨n, hn'⟩ (scr m c ⟨n, hn'⟩)) := by
      unfold scr
      rw [if_neg (by show ¬ (n + 1) % 66 = 0; omega)]
      exact congrArg (fun o => o.2.2.2.2.2.2.2.2) (outs_eq m c ⟨n, hn'⟩)
    have es : (stp ⟨n + 1, hn⟩).val + 1 = (stp ⟨n, hn'⟩).val := by show 65 - (n + 1) + 1 = 65 - n; omega
    rw [e, es]
    exact ⟨(dst_val dir_fwd (isF hD ⟨n, hn'⟩ _ fun h v k => (ih hn' h v k).1) h v k).trans (congrArg _ (chunk_S D.fwd h _ v k)),
      (dst_val dir_bwd (isB hD ⟨n, hn'⟩ _ fun h v k => (ih hn' h v k).2) h v k).trans (congrArg _ (chunk_S D.bwd h _ v k))⟩

theorem ptF (t : Fin cfg0.N) : Is (Equiv.refl _) (inF m c t (scr m c t)) (D.fwd.chunk (stp t)) :=
  isF hD t _ fun h v k => (scr_val hD t.val t.isLt h v k).1
theorem ptB_is (t : Fin cfg0.N) : Is Fin.revPerm (inB m c t (scr m c t)) (D.bwd.chunk (stp t)) :=
  isB hD t _ fun h v k => (scr_val hD t.val t.isLt h v k).2

theorem clampF (t : Fin cfg0.N) (h : Fin 4) (u k : Fin 128) :
    |(D.fwd.chunk (stp t)).b h u k - (D.fwd.chunk (stp t)).b h ((Equiv.refl (Fin 128)) 64) k| ≤ 80 :=
  chunk_clamp D.fwd h _ (fun _ _ _ => hD.hf _ _) u 64 k (Or.inl rfl)
theorem clampB (t : Fin cfg0.N) (h : Fin 4) (u k : Fin 128) :
    |(D.bwd.chunk (stp t)).b h u k - (D.bwd.chunk (stp t)).b h ((Fin.revPerm : Equiv.Perm (Fin 128)) 64) k| ≤ 80 :=
  chunk_clamp D.bwd h _ (fun _ _ _ => hD.hb _ _) u _ k (Or.inr rfl)

/-! ## The arrays after the run -/

omit hD in
theorem exists_stp (i : Fin 66) : ∃ t : Fin cfg0.N, stp t = i :=
  ⟨⟨65 - i.val, by show 65 - i.val < 66; omega⟩, Fin.ext (by show 65 - (65 - i.val) = i.val; omega)⟩

theorem dq_fwd (x : Fin 8448) (h : Fin 4) (k : Fin 128) :
    (dats m 0 c).arrAt 14 cfg0.N (ix2 (rowF x) (ck h k)) = ((D.fwd.dq h x k * scl : ℝ) : EReal) := by
  obtain ⟨i, u, rfl⟩ := exists_pos x
  obtain ⟨t, rfl⟩ := exists_stp i
  rw [← row_fwd, arr_14]
  exact (dq_val dir_fwd (ptF hD t) (clampF hD t) h u k).trans (congrArg (fun r : ℝ => ((r * scl : ℝ) : EReal)) (chunk_dq D.fwd _ h _ u k))
theorem dk_fwd (x : Fin 8448) (h : Fin 4) (k : Fin 128) :
    (dats m 0 c).arrAt 15 cfg0.N (ix2 (rowF x) (ck h k)) = ((D.fwd.dk h x k : ℝ) : EReal) := by
  obtain ⟨i, u, rfl⟩ := exists_pos x
  obtain ⟨t, rfl⟩ := exists_stp i
  rw [← row_fwd, arr_15]
  exact (dk_val dir_fwd (ptF hD t) (clampF hD t) h u k).trans (congrArg _ (chunk_dk D.fwd _ h _ u k))
theorem dv_fwd (x : Fin 8448) (h : Fin 4) (k : Fin 256) :
    (dats m 0 c).arrAt 16 cfg0.N (ix2 (rowF x) (cv h k)) = ((D.fwd.dv h x k : ℝ) : EReal) := by
  obtain ⟨i, u, rfl⟩ := exists_pos x
  obtain ⟨t, rfl⟩ := exists_stp i
  rw [← row_fwd, arr_16]
  exact (dvAll_apply ..).trans ((dv_val dir_fwd (ptF hD t) (clampF hD t) h u k).trans (congrArg _ (chunk_dv D.fwd _ h _ u k)))
theorem dp_fwd (x : Fin 8448) (h : Fin 4) (k : Fin 128) :
    (dats m 0 c).arrAt 17 cfg0.N (ix2 (rowF x) (ck h k)) = ((D.fwd.dp h x k : ℝ) : EReal) := by
  obtain ⟨i, u, rfl⟩ := exists_pos x
  obtain ⟨t, rfl⟩ := exists_stp i
  rw [← row_fwd, arr_17]
  exact (dp_val dir_fwd (ptF hD t) (clampF hD t) h u k).trans (congrArg _ (chunk_dp D.fwd _ h _ u k))

omit hD in
theorem row_bwd' (i : Fin 66) (u : Fin 128) : Fin.rev (pos i u) = row (blkB i) (Fin.revPerm u) := by
  rw [row_bwd]
  exact congrArg (fun w => Fin.rev (pos i w)) (Fin.rev_rev u).symm
omit hD in
theorem rr (u : Fin 128) : (Fin.revPerm (Fin.revPerm u) : Fin 128) = u := Fin.rev_rev u

theorem dq_bwd (x : Fin 8448) (h : Fin 4) (k : Fin 128) :
    (dats m 0 c).arrAt 18 cfg0.N (ix2 (Fin.rev x) (ck h k)) = ((D.bwd.dq h x k * scl : ℝ) : EReal) := by
  obtain ⟨i, u, rfl⟩ := exists_pos x
  obtain ⟨t, rfl⟩ := exists_stp i
  rw [row_bwd', arr_18]
  refine (dq_val dir_bwd (ptB_is hD t) (clampB hD t) h _ k).trans ?_
  rw [rr]
  exact congrArg (fun r : ℝ => ((r * scl : ℝ) : EReal)) (chunk_dq D.bwd _ h _ u k)
theorem dk_bwd (x : Fin 8448) (h : Fin 4) (k : Fin 128) :
    (dats m 0 c).arrAt 19 cfg0.N (ix2 (Fin.rev x) (ck h k)) = ((D.bwd.dk h x k : ℝ) : EReal) := by
  obtain ⟨i, u, rfl⟩ := exists_pos x
  obtain ⟨t, rfl⟩ := exists_stp i
  rw [row_bwd', arr_19]
  refine (dk_val dir_bwd (ptB_is hD t) (clampB hD t) h _ k).trans ?_
  rw [rr, chunk_dk]
theorem dv_bwd (x : Fin 8448) (h : Fin 4) (k : Fin 256) :
    (dats m 0 c).arrAt 20 cfg0.N (ix2 (Fin.rev x) (cv h k)) = ((D.bwd.dv h x k : ℝ) : EReal) := by
  obtain ⟨i, u, rfl⟩ := exists_pos x
  obtain ⟨t, rfl⟩ := exists_stp i
  rw [row_bwd', arr_20]
  refine (dvAll_apply ..).trans ((dv_val dir_bwd (ptB_is hD t) (clampB hD t) h _ k).trans ?_)
  rw [rr, chunk_dv]
theorem dp_bwd (x : Fin 8448) (h : Fin 4) (k : Fin 128) :
    (dats m 0 c).arrAt 21 cfg0.N (ix2 (Fin.rev x) (ck h k)) = ((D.bwd.dp h x k : ℝ) : EReal) := by
  obtain ⟨i, u, rfl⟩ := exists_pos x
  obtain ⟨t, rfl⟩ := exists_stp i
  rw [row_bwd', arr_21]
  refine (dp_val dir_bwd (ptB_is hD t) (clampB hD t) h _ k).trans ?_
  rw [rr, chunk_dp]

end Cert.KernelIdeal.Sweep
-- ==== Proof.Ref.lean ====
module

public import proofs.«01_k».proof.Proof.Data
public import proofs.«01_k».proof.Proof.Gen.ReferenceIdeal.Run

@[expose] public section

set_option maxRecDepth 20000

/-! What the reference computes for one direction from its sequence's arrays: the pairwise weights of all 8448 tokens,
    no chunks. Each array holds the sequence's real values. -/

noncomputable section

namespace Cert.ReferenceIdeal.Plain

open Cert.ReferenceIdeal Cert.ReferenceIdeal.Gen Cert.Gla
open Idealize.ShloMosaic Idealize.ShloMosaic.ValueIdx Cert.KernelIdeal.Chunk

/-! ## The operations -/

/-- One value at every entry. -/
def c3 (b : BitVec 32) : FVec Ideal S8448x4x128 .f32 := broadcastInDim S8448x4x128 ![] bcast_S_S8448x4x128 (constant S_ .f32 b)
def softp (x : FVec Ideal S8448x4x128 .f32) : FVec Ideal S8448x4x128 .f32 :=
  select (cmpf .une (subf x (c3 0x00000000#32)) (subf x (c3 0x00000000#32))) (addf x (c3 0x00000000#32))
    (addf (maximumf x (c3 0x00000000#32)) (Host.log1p (Host.exp (Host.negf (Host.absf (subf x (c3 0x00000000#32)))))))
/-- The running sum of the gate's logarithm, from the negated gate. -/
def cum (x : FVec Ideal S8448x4x128 .f32) : FVec Ideal S8448x4x128 .f32 :=
  Host.reduceWindowAdd ![8448, 1, 1] ![1, 1, 1] ![8447, 0, 0] ![0, 0, 0] (Host.divf (Host.negf (softp x)) (c3 0x41800000#32))
    (broadcastInDim S_ ![] bcast_S_S_ (constant S_ .f32 0x00000000#32)) reduceWindows_S8448x4x128_S8448x4x128_w8448s1p8447_0_w1s1p0_0_w1s1p0_0 h_S_
/-- An array's value at a pair's first token, and at its second. -/
def fst4 (b : FVec Ideal S8448x4x128 .f32) : FVec Ideal S8448x8448x4x128 .f32 :=
  broadcastInDim S8448x8448x4x128 ![0, 1, 2, 3] bcast_S8448x1x4x128_S8448x8448x4x128_0_1_2_3 (broadcastInDim S8448x1x4x128 ![0, 2, 3] bcast_S8448x4x128_S8448x1x4x128_0_2_3 b)
def snd4 (b : FVec Ideal S8448x4x128 .f32) : FVec Ideal S8448x8448x4x128 .f32 :=
  broadcastInDim S8448x8448x4x128 ![0, 1, 2, 3] bcast_S1x8448x4x128_S8448x8448x4x128_0_1_2_3 (broadcastInDim S1x8448x4x128 ![1, 2, 3] bcast_S8448x4x128_S1x8448x4x128_1_2_3 b)
/-- Whether the second token is no later than the first. -/
def msk : IVec S8448x8448x4x128 1 :=
  broadcastInDim S8448x8448x4x128 ![0, 1, 2, 3] bcast_S8448x8448x1x1_S8448x8448x4x128_0_1_2_3 (broadcastInDim S8448x8448x1x1 ![0, 1] bcast_S8448x8448_S8448x8448x1x1_0_1
    (cmpi .sge (iotaInDim S8448x8448 32 0) (iotaInDim S8448x8448 32 1)))
/-- A pair's decay. -/
def dec (b : FVec Ideal S8448x4x128 .f32) : FVec Ideal S8448x8448x4x128 .f32 :=
  Host.exp (select msk (subf (fst4 b) (snd4 b)) (broadcastInDim S8448x8448x4x128 ![] bcast_S_S8448x8448x4x128 (id (constant S_ .f32 0xFF800000#32))))
def att (q k : FVec Ideal S8448x4x128 .f32) (e : FVec Ideal S8448x8448x4x128 .f32) : FVec Ideal S8448x8448x4 .f32 :=
  Host.reduceAdd (mulf (mulf (fst4 q) (snd4 k)) e) (constant S_ .f32 0x00000000#32) reducesTo_S8448x8448x4x128_S8448x8448x4_d3 h_S_
def dT (d : FVec Ideal S8448x4x256 .f32) : FVec Ideal S4x256x8448 .f32 := transpose S4x256x8448 [1, 2, 0] d transposes_S8448x4x256_S4x256x8448_1_2_0
def dv (d : FVec Ideal S8448x4x256 .f32) (a : FVec Ideal S8448x8448x4 .f32) : FVec Ideal S8448x4x256 .f32 :=
  transpose S8448x4x256 [2, 0, 1] (Host.dotGeneral dot_S4x256x8448_S8448x8448x4_S4x256x8448_2_0_1_1_0_2 none (dT d) a) transposes_S4x256x8448_S8448x4x256_2_0_1
def datt (d v : FVec Ideal S8448x4x256 .f32) : FVec Ideal S8448x8448x4x128 .f32 :=
  broadcastInDim S8448x8448x4x128 ![0, 1, 2] bcast_S8448x8448x4_S8448x8448x4x128_0_1_2 (transpose S8448x8448x4 [1, 2, 0]
    (Host.dotGeneral dot_S4x256x8448_S8448x4x256_S4x8448x8448_1_2_2_0_0_1 none (dT d) v) transposes_S4x8448x8448_S8448x8448x4_1_2_0)
/-- The sums over a pair's first token, and over its second. -/
def sumFst (x : FVec Ideal S8448x8448x4x128 .f32) : FVec Ideal S8448x4x128 .f32 :=
  Host.reduceAdd (shapeCast S1x8448x4x128 (Host.reduceAdd x (constant S_ .f32 0x00000000#32) reducesTo_S8448x8448x4x128_S8448x4x128_d0 h_S_) shapeCasts_S8448x4x128_S1x8448x4x128)
    (constant S_ .f32 0x00000000#32) reducesTo_S1x8448x4x128_S8448x4x128_d0 h_S_
def sumSnd (x : FVec Ideal S8448x8448x4x128 .f32) : FVec Ideal S8448x4x128 .f32 :=
  Host.reduceAdd (shapeCast S8448x1x4x128 (Host.reduceAdd x (constant S_ .f32 0x00000000#32) reducesTo_S8448x8448x4x128_S8448x4x128_d1 h_S_) shapeCasts_S8448x4x128_S8448x1x4x128)
    (constant S_ .f32 0x00000000#32) reducesTo_S8448x1x4x128_S8448x4x128_d1 h_S_
/-- A pair's share of the gate's cotangent. -/
def wt (q k : FVec Ideal S8448x4x128 .f32) (da e : FVec Ideal S8448x8448x4x128 .f32) : FVec Ideal S8448x8448x4x128 .f32 :=
  select msk (mulf (mulf (mulf (fst4 q) (snd4 k)) da) e) (broadcastInDim S8448x8448x4x128 ![] bcast_S_S8448x8448x4x128 (constant S_ .f32 0x00000000#32))
/-- The softplus's derivative, from its argument and its value. -/
def fin3 (x : FVec Ideal S8448x4x128 .f32) : FVec Ideal S8448x4x128 .f32 := select (cmpf .oeq x (c3 0x7F800000#32)) (c3 0x00000000#32) x
def slope (x : FVec Ideal S8448x4x128 .f32) : FVec Ideal S8448x4x128 .f32 := Host.exp (subf (fin3 x) (fin3 (softp x)))
/-- The running sum from the end. -/
def cumRev (x : FVec Ideal S8448x4x128 .f32) : FVec Ideal S8448x4x128 .f32 :=
  Host.reduceWindowAdd ![8448, 1, 1] ![1, 1, 1] ![0, 0, 0] ![8447, 0, 0] x
    (broadcastInDim S_ ![] bcast_S_S_ (constant S_ .f32 0x00000000#32)) reduceWindows_S8448x4x128_S8448x4x128_w8448s1p0_8447_w1s1p0_0_w1s1p0_0 h_S_
/-- The gate's cotangent, from the pairs' shares and the negated gate. -/
def dp (w : FVec Ideal S8448x8448x4x128 .f32) (x : FVec Ideal S8448x4x128 .f32) : FVec Ideal S8448x4x128 .f32 :=
  Host.negf (mulf (Host.negf (Host.divf (cumRev (addf (sumFst (Host.negf w)) (sumSnd w))) (c3 0x41800000#32)))
    (slope x))

/-! ## Their values at an index -/

theorem fst4_apply (b : FVec Ideal S8448x4x128 .f32) (x y : Fin 8448) (h : Fin 4) (k : Fin 128) : fst4 b (ix4 x y h k) = b (ix3 x h k) := by
  unfold fst4
  refine (broadcastInDim_apply _ _ _ _ (ix4 x (0 : Fin 1) h k) fun a => ?_).trans (broadcastInDim_apply _ _ _ _ (ix3 x h k) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem snd4_apply (b : FVec Ideal S8448x4x128 .f32) (x y : Fin 8448) (h : Fin 4) (k : Fin 128) : snd4 b (ix4 x y h k) = b (ix3 y h k) := by
  unfold snd4
  refine (broadcastInDim_apply _ _ _ _ (ix4 (0 : Fin 1) y h k) fun a => ?_).trans (broadcastInDim_apply _ _ _ _ (ix3 y h k) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem msk_apply (x y : Fin 8448) (h : Fin 4) (k : Fin 128) : msk (ix4 x y h k) = BitVec.ofBool (decide (y ≤ x)) := by
  unfold msk
  refine (broadcastInDim_apply _ _ _ _ (ix4 x y (0 : Fin 1) (0 : Fin 1)) fun a => ?_).trans ((broadcastInDim_apply _ _ _ _ (ix2 x y) fun a => ?_).trans ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
  · show BitVec.ofBool (BitVec.sle (BitVec.ofNat 32 y.val) (BitVec.ofNat 32 x.val)) = _
    congr 1
    have e1 : (BitVec.ofNat 32 x.val).toNat = x.val := by rw [BitVec.toNat_ofNat]; omega
    have e2 : (BitVec.ofNat 32 y.val).toNat = y.val := by rw [BitVec.toNat_ofNat]; omega
    rw [BitVec.sle_eq_decide, BitVec.toInt_eq_toNat_of_lt (by omega), BitVec.toInt_eq_toNat_of_lt (by omega), e1, e2]
    exact decide_eq_decide.mpr (by rw [Fin.le_def]; omega)

theorem select_msk (a b : FVec Ideal S8448x8448x4x128 .f32) (x y : Fin 8448) (h : Fin 4) (k : Fin 128) :
    select msk a b (ix4 x y h k) = if y ≤ x then a (ix4 x y h k) else b (ix4 x y h k) := by
  rw [select_apply, msk_apply]
  by_cases hx : y ≤ x
  · rw [if_pos hx, decide_eq_true hx]; rfl
  · rw [if_neg hx, decide_eq_false hx]; rfl

/-- A sum along one axis, of values finite on it. -/
theorem red_coe {s t : Shape} {a : Fin s.rank} (h' : s.ReducesTo [a] t) (hu : 0 < S_.numel) (hr : s.Reduces [a] t) (x : FVec Ideal s .f32) (j : t.Idx)
    (L : Fin (s.size a) → s.Idx) (hL : ∀ k, hr.lift j k = L k) (f : Fin (s.size a) → ℝ) (hf : ∀ k, x (L k) = ((f k : ℝ) : EReal)) :
    Host.reduceAdd (F := Ideal) x (constant S_ .f32 0x00000000#32) h' hu j = ((∑ k, f k : ℝ) : EReal) := by
  refine (Ideal.hostReduceAdd_single h' hr x (Ideal.ofBits .f32 0x00000000#32) j).trans ?_
  rw [bits_0, EReal.coe_zero, zero_add, coe_sum]
  exact Finset.sum_congr rfl fun k _ => by rw [hL, hf]

theorem sumFst_apply (w : FVec Ideal S8448x8448x4x128 .f32) (y : Fin 8448) (h : Fin 4) (k : Fin 128) (f : Fin 8448 → ℝ)
    (hf : ∀ x, w (ix4 x y h k) = ((f x : ℝ) : EReal)) : sumFst w (ix3 y h k) = ((∑ x, f x : ℝ) : EReal) := by
  unfold sumFst
  refine (red_coe reducesTo_S1x8448x4x128_S8448x4x128_d0 h_S_ (by decide) _ _ (fun i : Fin 1 => (ix4 i y h k : S1x8448x4x128.Idx)) (fun i => funext fun a => by fin_cases a <;> rfl) (fun _ => ∑ x, f x) fun i => ?_).trans ?_
  · refine (shapeCast_apply _ _ _ (ix3 y h k) (by
      rw [Shape.rowMajor_val_three, Shape.rowMajor_val_four]
      have hi : i.val < 1 := i.isLt
      show (y.val * 4 + h.val) * 128 + k.val = ((i.val * 8448 + y.val) * 4 + h.val) * 128 + k.val; omega)).trans ?_
    exact red_coe reducesTo_S8448x8448x4x128_S8448x4x128_d0 h_S_ (by decide) _ _ (fun x : Fin 8448 => (ix4 x y h k : S8448x8448x4x128.Idx)) (fun i => funext fun a => by fin_cases a <;> rfl) f hf
  · exact congrArg _ (Fin.sum_univ_one _)

theorem sumSnd_apply (w : FVec Ideal S8448x8448x4x128 .f32) (x : Fin 8448) (h : Fin 4) (k : Fin 128) (f : Fin 8448 → ℝ)
    (hf : ∀ y, w (ix4 x y h k) = ((f y : ℝ) : EReal)) : sumSnd w (ix3 x h k) = ((∑ y, f y : ℝ) : EReal) := by
  unfold sumSnd
  refine (red_coe reducesTo_S8448x1x4x128_S8448x4x128_d1 h_S_ (by decide) _ _ (fun i : Fin 1 => (ix4 x i h k : S8448x1x4x128.Idx)) (fun i => funext fun a => by fin_cases a <;> rfl) (fun _ => ∑ y, f y) fun i => ?_).trans ?_
  · refine (shapeCast_apply _ _ _ (ix3 x h k) (by
      rw [Shape.rowMajor_val_three, Shape.rowMajor_val_four]
      have hi : i.val < 1 := i.isLt
      show (x.val * 4 + h.val) * 128 + k.val = ((x.val * 1 + i.val) * 4 + h.val) * 128 + k.val; omega)).trans ?_
    exact red_coe reducesTo_S8448x8448x4x128_S8448x4x128_d1 h_S_ (by decide) _ _ (fun y : Fin 8448 => (ix4 x y h k : S8448x8448x4x128.Idx)) (fun i => funext fun a => by fin_cases a <;> rfl) f hf
  · exact congrArg _ (Fin.sum_univ_one _)

theorem dT_apply (d : FVec Ideal S8448x4x256 .f32) (h : Fin 4) (c : Fin 256) (x : Fin 8448) : dT d (ix3 h c x) = d (ix3 x h c) :=
  transpose_apply _ _ _ _ _ fun a => by
    match a with
    | ⟨0, _⟩ => rfl
    | ⟨1, _⟩ => rfl
    | ⟨2, _⟩ => rfl

/-! ## The gate -/

theorem bits_16' : Ideal.ofBits .f32 0x41800000#32 = ((16 : ℝ) : EReal) := by
  simp [Ideal.ofBits, Ideal.ieee, -EReal.coe_mul]
  norm_num
theorem bits_top : Ideal.ofBits .f32 0x7F800000#32 = ⊤ := by simp [Ideal.ofBits, Ideal.ieee]
theorem bits_bot : Ideal.ofBits .f32 0xFF800000#32 = ⊥ := by simp [Ideal.ofBits, Ideal.ieee]

theorem softp_apply (x : FVec Ideal S8448x4x128 .f32) (i : S8448x4x128.Idx) (r : ℝ) (hx : x i = ((r : ℝ) : EReal)) : softp x i = ((sp r : ℝ) : EReal) := by
  have hz : c3 0x00000000#32 i = ((0 : ℝ) : EReal) := bits_0
  have e := softplus_coe r
  rw [← hx, ← hz] at e
  rw [← e]
  rfl

theorem fin3_apply (x : FVec Ideal S8448x4x128 .f32) (i : S8448x4x128.Idx) (r : ℝ) (hx : x i = ((r : ℝ) : EReal)) : fin3 x i = ((r : ℝ) : EReal) := by
  show Scalar.select (Ideal.cmp .oeq (x i) (Ideal.ofBits .f32 0x7F800000#32)) (Ideal.ofBits .f32 0x00000000#32) (x i) = _
  rw [hx, bits_top]
  have : Ideal.cmp .oeq ((r : ℝ) : EReal) ⊤ = 0#1 := by simp [Ideal.cmp]
  rw [this]
  rfl

theorem exp_sub_sp (y : ℝ) : Real.exp (y - sp y) = 1 / (1 + Real.exp (0 - y)) := by
  unfold sp
  rw [← sub_sub, Real.exp_sub, Real.exp_log (by positivity)]
  rcases le_total 0 y with h | h
  · rw [max_eq_left h, abs_of_nonneg h, sub_self, Real.exp_zero]
  · rw [max_eq_right h, abs_of_nonpos h, sub_zero, sub_neg_eq_add, zero_add]
    have : Real.exp (0 - y) = (Real.exp y)⁻¹ := by rw [zero_sub, Real.exp_neg]
    rw [this]
    have hp := Real.exp_pos y
    field_simp
    ring

theorem slope_apply (x : FVec Ideal S8448x4x128 .f32) (i : S8448x4x128.Idx) (r : ℝ) (hx : x i = ((r : ℝ) : EReal)) :
    slope x i = ((1 / (1 + Real.exp (0 - r)) : ℝ) : EReal) := by
  show Ideal.exp (fin3 x i - fin3 (softp x) i) = _
  rw [fin3_apply x i r hx, fin3_apply _ i _ (softp_apply x i r hx), ← EReal.coe_sub, coe_exp, exp_sub_sp]

theorem cumRev_apply (x : FVec Ideal S8448x4x128 .f32) (t : Fin 8448) (h : Fin 4) (j : Fin 128) (g : Fin 8448 → ℝ) (hg : ∀ w, x (ix3 w h j) = ((g w : ℝ) : EReal)) :
    cumRev x (ix3 t h j) = ((∑ w, if t ≤ w then g w else 0 : ℝ) : EReal) :=
  cumsum_rev_apply (A := 4) (C := 128) _ _ _ h_S_ t h j (fun _ => bits_0) g hg

theorem dp_apply (w : FVec Ideal S8448x8448x4x128 .f32) (x : FVec Ideal S8448x4x128 .f32) (i : S8448x4x128.Idx) :
    dp w x i = -((-(Ideal.div (cumRev (addf (sumFst (Host.negf w)) (sumSnd w)) i) (Ideal.ofBits .f32 0x41800000#32))) * slope x i) := rfl

/-! ## The sequence -/

section seq
variable (G : Seq) (q k x : FVec Ideal S8448x4x128 .f32) (v d : FVec Ideal S8448x4x256 .f32)

/-- The arrays hold the sequence: scaled queries, keys, negated gate, values, cotangent. -/
structure Holds3 : Prop where
  q : ∀ t h j, q (ix3 t h j) = ((G.qs h t j : ℝ) : EReal)
  k : ∀ t h j, k (ix3 t h j) = ((G.k h t j : ℝ) : EReal)
  x : ∀ t h j, x (ix3 t h j) = ((0 - G.p h t j : ℝ) : EReal)
  v : ∀ t h c, v (ix3 t h c) = ((G.v h t c : ℝ) : EReal)
  d : ∀ t h c, d (ix3 t h c) = ((G.d h t c : ℝ) : EReal)

variable {G q k x v d} (hG : Holds3 G q k x v d)
include hG

theorem cum_val (t : Fin 8448) (h : Fin 4) (j : Fin 128) : cum x (ix3 t h j) = ((G.B h t j : ℝ) : EReal) :=
  cumsum_apply _ _ _ _ t h j (fun _ => bits_0) (fun w => G.g h w j) fun w => by
    show Ideal.div (-(softp x (ix3 w h j))) (Ideal.ofBits .f32 0x41800000#32) = _
    rw [softp_apply _ _ _ (hG.x w h j), coe_zero_sub, neg_sp_neg, bits_16', coe_div _ (by norm_num)]
    unfold Seq.g
    congr 1
    ring

/-- The decay of a pair, zero where the second token is later. -/
theorem dec_val (s t : Fin 8448) (h : Fin 4) (j : Fin 128) :
    dec (cum x) (ix4 s t h j) = ((if t ≤ s then Real.exp (G.B h s j - G.B h t j) else 0 : ℝ) : EReal) := by
  show Ideal.exp (select msk _ _ (ix4 s t h j)) = _
  rw [select_msk]
  by_cases hst : t ≤ s
  · rw [if_pos hst, if_pos hst, subf_apply, fst4_apply, snd4_apply, cum_val hG, cum_val hG, ← EReal.coe_sub, coe_exp]
  · rw [if_neg hst, if_neg hst]
    show Ideal.exp (Ideal.ofBits .f32 0xFF800000#32) = _
    rw [bits_bot]
    rfl

theorem qk_val (s t : Fin 8448) (h : Fin 4) (j : Fin 128) : mulf (fst4 q) (snd4 k) (ix4 s t h j) = ((G.qs h s j * G.k h t j : ℝ) : EReal) := by
  rw [mulf_apply, fst4_apply, snd4_apply, hG.q, hG.k, EReal.coe_mul]

theorem att_val (s t : Fin 8448) (h : Fin 4) : att q k (dec (cum x)) (ix3 s t h) = ((G.att h s t : ℝ) : EReal) := by
  refine (red_coe reducesTo_S8448x8448x4x128_S8448x8448x4_d3 h_S_ (by decide) _ _ (fun j : Fin 128 => (ix4 s t h j : S8448x8448x4x128.Idx)) (fun i => funext fun a => by fin_cases a <;> rfl)
    (fun j => G.qs h s j * G.k h t j * (if t ≤ s then Real.exp (G.B h s j - G.B h t j) else 0)) fun (j : Fin 128) => ?_).trans ?_
  · rw [mulf_apply, qk_val hG, dec_val hG, EReal.coe_mul (_ * _)]
  · unfold Seq.att
    by_cases hst : t ≤ s
    · simp only [if_pos hst]; rfl
    · simp only [if_neg hst, mul_zero]; exact congrArg _ Finset.sum_const_zero

theorem dv_val (t : Fin 8448) (h : Fin 4) (c : Fin 256) : dv d (att q k (dec (cum x))) (ix3 t h c) = ((G.dv h t c : ℝ) : EReal) := by
  unfold dv
  refine (transpose_apply _ _ _ _ (ix3 h c t) fun a => ?_).trans ?_
  · match a with
    | ⟨0, _⟩ => rfl
    | ⟨1, _⟩ => rfl
    | ⟨2, _⟩ => rfl
  · refine (dg_coe _ 8448 rfl rfl _ _ _ (fun s => ix3 h c s) (fun s => ix3 s t h) (fun s => funext fun a => by fin_cases a <;> rfl)
      (fun s => funext fun a => by fin_cases a <;> rfl) (fun s => G.d h s c) (fun s => G.att h s t) (fun s => (dT_apply ..).trans (hG.d s h c)) (fun s => att_val hG s t h)).trans ?_
    unfold Seq.dv
    exact congrArg _ (Finset.sum_congr rfl fun s _ => mul_comm _ _)

theorem datt_val (s t : Fin 8448) (h : Fin 4) (j : Fin 128) : datt d v (ix4 s t h j) = ((∑ c, G.d h s c * G.v h t c : ℝ) : EReal) := by
  unfold datt
  refine (broadcastInDim_apply _ _ _ _ (ix3 s t h) fun a => ?_).trans ((transpose_apply _ _ _ _ (ix3 h s t) fun a => ?_).trans ?_)
  · match a with
    | ⟨0, _⟩ => rfl
    | ⟨1, _⟩ => rfl
    | ⟨2, _⟩ => rfl
  · match a with
    | ⟨0, _⟩ => rfl
    | ⟨1, _⟩ => rfl
    | ⟨2, _⟩ => rfl
  · exact dg_coe _ 256 rfl rfl _ _ _ (fun c => ix3 h c s) (fun c => ix3 t h c) (fun s => funext fun a => by fin_cases a <;> rfl)
      (fun s => funext fun a => by fin_cases a <;> rfl) (fun c => G.d h s c) (fun c => G.v h t c) (fun c => (dT_apply ..).trans (hG.d s h c)) (fun c => hG.v t h c)

theorem da_val (s t : Fin 8448) (h : Fin 4) (j : Fin 128) :
    mulf (datt d v) (dec (cum x)) (ix4 s t h j) = ((G.datt h s t * Real.exp (G.B h s j - G.B h t j) : ℝ) : EReal) := by
  rw [mulf_apply, datt_val hG, dec_val hG, ← EReal.coe_mul]
  unfold Seq.datt
  by_cases hst : t ≤ s
  · rw [if_pos hst, if_pos hst]
  · rw [if_neg hst, if_neg hst, mul_zero, zero_mul]

theorem dq_val (s : Fin 8448) (h : Fin 4) (j : Fin 128) :
    sumSnd (mulf (mulf (datt d v) (dec (cum x))) (snd4 k)) (ix3 s h j) = ((G.dq h s j : ℝ) : EReal) :=
  sumSnd_apply _ s h j (fun t => G.datt h s t * (G.k h t j * Real.exp (G.B h s j - G.B h t j))) fun t => by
    rw [mulf_apply, da_val hG, snd4_apply, hG.k, ← EReal.coe_mul]
    congr 1; ring

theorem dk_val (t : Fin 8448) (h : Fin 4) (j : Fin 128) :
    sumFst (mulf (fst4 q) (mulf (datt d v) (dec (cum x)))) (ix3 t h j) = ((G.dk h t j : ℝ) : EReal) :=
  sumFst_apply _ t h j (fun s => G.datt h s t * (G.qs h s j * Real.exp (G.B h s j - G.B h t j))) fun s => by
    rw [mulf_apply, da_val hG, fst4_apply, hG.q, ← EReal.coe_mul]
    congr 1; ring

theorem wt_val (s t : Fin 8448) (h : Fin 4) (j : Fin 128) :
    wt q k (datt d v) (dec (cum x)) (ix4 s t h j) = ((if t ≤ s then G.W h s t j else 0 : ℝ) : EReal) := by
  unfold wt
  rw [select_msk]
  by_cases hst : t ≤ s
  · rw [if_pos hst, if_pos hst, mulf_apply, mulf_apply, qk_val hG, datt_val hG, dec_val hG, if_pos hst, ← EReal.coe_mul, ← EReal.coe_mul]
    unfold Seq.W
    congr 1; ring
  · rw [if_neg hst, if_neg hst]
    exact bits_0

theorem dB_val (z : Fin 8448) (h : Fin 4) (j : Fin 128) :
    addf (sumFst (Host.negf (wt q k (datt d v) (dec (cum x))))) (sumSnd (wt q k (datt d v) (dec (cum x)))) (ix3 z h j) = ((G.dB h z j : ℝ) : EReal) := by
    rw [addf_apply, sumFst_apply _ z h j (fun s => 0 - if z ≤ s then G.W h s z j else 0) (fun s => by
        show -(wt q k (datt d v) (dec (cum x)) (ix4 s z h j)) = _
        rw [wt_val hG, coe_zero_sub]),
      sumSnd_apply _ z h j (fun t => if t ≤ z then G.W h z t j else 0) (fun t => wt_val hG z t h j), ← EReal.coe_add, dB_eq, Finset.sum_sub_distrib, Finset.sum_const_zero]
    congr 1; ring

theorem dp_val (t : Fin 8448) (h : Fin 4) (j : Fin 128) :
    dp (wt q k (datt d v) (dec (cum x))) x (ix3 t h j) = ((G.dp h t j : ℝ) : EReal) := by
  rw [dp_apply, slope_apply _ _ _ (hG.x t h j), bits_16', cumRev_apply _ t h j (fun w => G.dB h w j) (fun w => dB_val hG w h j), coe_div _ (by norm_num), coe_zero_sub, ← EReal.coe_mul, coe_zero_sub]
  unfold Seq.dp Seq.dg
  congr 1; ring
end seq

end Cert.ReferenceIdeal.Plain
-- ==== Proof.RefVal.lean ====
module

public import proofs.«01_k».proof.Proof.Ref

@[expose] public section

set_option maxRecDepth 20000

/-! The reference's eight results: each direction orders the arguments' columns as its sequence and puts the gradients back
    in the rows' order. -/

noncomputable section

namespace Cert.ReferenceIdeal.Plain

open Cert.ReferenceIdeal Cert.ReferenceIdeal.Gen Cert.ReferenceIdeal.Value Cert.Gla
open Idealize.ShloMosaic Idealize.ShloMosaic.ValueIdx Cert.KernelIdeal.Chunk Idealize.ShloMosaic.StableHlo

/-! ## The orders -/

def ordK (x : FVec Ideal S8448x4x128 .f32) : FVec Ideal S8448x4x128 .f32 :=
  concatenate S8448x4x128 0 [⟨S256x4x128, (extractStridedSlice S256x4x128 ![8192, 0, 0] x slices_S8448x4x128_S256x4x128_8192_0_0)⟩,
    ⟨S8192x4x128, (extractStridedSlice S8192x4x128 ![0, 0, 0] x slices_S8448x4x128_S8192x4x128_0_0_0)⟩] concatenates_S256x4x128_S8192x4x128_S8448x4x128_d0
def ordV (x : FVec Ideal S8448x4x256 .f32) : FVec Ideal S8448x4x256 .f32 :=
  concatenate S8448x4x256 0 [⟨S256x4x256, (extractStridedSlice S256x4x256 ![8192, 0, 0] x slices_S8448x4x256_S256x4x256_8192_0_0)⟩,
    ⟨S8192x4x256, (extractStridedSlice S8192x4x256 ![0, 0, 0] x slices_S8448x4x256_S8192x4x256_0_0_0)⟩] concatenates_S256x4x256_S8192x4x256_S8448x4x256_d0
/-- Back to the rows' order, the heads' columns side by side. -/
def backK (x : FVec Ideal S8448x4x128 .f32) : FVec Ideal S8448x512 .f32 :=
  shapeCast _ (concatenate S8448x4x128 0 [⟨S8192x4x128, (extractStridedSlice S8192x4x128 ![256, 0, 0] x slices_S8448x4x128_S8192x4x128_256_0_0)⟩,
    ⟨S256x4x128, (extractStridedSlice S256x4x128 ![0, 0, 0] x slices_S8448x4x128_S256x4x128_0_0_0)⟩] concatenates_S8192x4x128_S256x4x128_S8448x4x128_d0) shapeCasts_S8448x4x128_S8448x512
def backV (x : FVec Ideal S8448x4x256 .f32) : FVec Ideal S8448x1024 .f32 :=
  shapeCast _ (concatenate S8448x4x256 0 [⟨S8192x4x256, (extractStridedSlice S8192x4x256 ![256, 0, 0] x slices_S8448x4x256_S8192x4x256_256_0_0)⟩,
    ⟨S256x4x256, (extractStridedSlice S256x4x256 ![0, 0, 0] x slices_S8448x4x256_S256x4x256_0_0_0)⟩] concatenates_S8192x4x256_S256x4x256_S8448x4x256_d0) shapeCasts_S8448x4x256_S8448x1024

theorem ordK_apply (x : FVec Ideal S8448x4x128 .f32) (r : Fin 8448) (h : Fin 4) (k : Fin 128) : ordK x (ix3 r h k) = x (ix3 (rowF r) h k) :=
  rot_apply (A := 4) (C := 128) x slices_S8448x4x128_S256x4x128_8192_0_0 slices_S8448x4x128_S8192x4x128_0_0_0 concatenates_S256x4x128_S8192x4x128_S8448x4x128_d0 r h k
theorem ordV_apply (x : FVec Ideal S8448x4x256 .f32) (r : Fin 8448) (h : Fin 4) (k : Fin 256) : ordV x (ix3 r h k) = x (ix3 (rowF r) h k) :=
  rot_apply (A := 4) (C := 256) x slices_S8448x4x256_S256x4x256_8192_0_0 slices_S8448x4x256_S8192x4x256_0_0_0 concatenates_S256x4x256_S8192x4x256_S8448x4x256_d0 r h k
theorem backK_apply (x : FVec Ideal S8448x4x128 .f32) (r : Fin 8448) (h : Fin 4) (k : Fin 128) : backK x (ix2 r (ck h k)) = x (ix3 (timeF r) h k) :=
  (merge_k _ shapeCasts_S8448x4x128_S8448x512 r h k).trans
    (unrot_apply (A := 4) (C := 128) x slices_S8448x4x128_S8192x4x128_256_0_0 slices_S8448x4x128_S256x4x128_0_0_0 concatenates_S8192x4x128_S256x4x128_S8448x4x128_d0 r h k)
theorem backV_apply (x : FVec Ideal S8448x4x256 .f32) (r : Fin 8448) (h : Fin 4) (k : Fin 256) : backV x (ix2 r (cv h k)) = x (ix3 (timeF r) h k) :=
  (merge_v _ shapeCasts_S8448x4x256_S8448x1024 r h k).trans
    (unrot_apply (A := 4) (C := 256) x slices_S8448x4x256_S8192x4x256_256_0_0 slices_S8448x4x256_S256x4x256_0_0_0 concatenates_S8192x4x256_S256x4x256_S8448x4x256_d0 r h k)
theorem revK_apply (x : FVec Ideal S8448x4x128 .f32) (r : Fin 8448) (h : Fin 4) (k : Fin 128) :
    shapeCast S8448x512 (Host.reverse [0] x) shapeCasts_S8448x4x128_S8448x512 (ix2 r (ck h k)) = x (ix3 (Fin.rev r) h k) :=
  (merge_k _ shapeCasts_S8448x4x128_S8448x512 r h k).trans (reverse_apply (A := 4) (C := 128) x r h k)
theorem revV_apply (x : FVec Ideal S8448x4x256 .f32) (r : Fin 8448) (h : Fin 4) (k : Fin 256) :
    shapeCast S8448x1024 (Host.reverse [0] x) shapeCasts_S8448x4x256_S8448x1024 (ix2 r (cv h k)) = x (ix3 (Fin.rev r) h k) :=
  (merge_v _ shapeCasts_S8448x4x256_S8448x1024 r h k).trans (reverse_apply (A := 4) (C := 256) x r h k)

/-! ## The arguments' columns -/

/-- A gate before its activation. -/
def gate (x : FVec Ideal S8448x16 .f32) (u : FVec Ideal S16x512 .f32) (b : FVec Ideal S1x512 .f32) : FVec Ideal S8448x4x128 .f32 :=
  shapeCast _ (addf (Host.dotGeneral dot_S8448x16_S16x512_S8448x512_1_0_0_1_n_n none x u) (broadcastInDim S8448x512 ![0, 1] bcast_S1x512_S8448x512_0_1 b)) shapeCasts_S8448x512_S8448x4x128

theorem gate_apply (x : FVec Ideal S8448x16 .f32) (u : FVec Ideal S16x512 .f32) (b : FVec Ideal S1x512 .f32) (r : Fin 8448) (h : Fin 4) (k : Fin 128)
    (X : Fin 16 → ℝ) (U : Fin 16 → ℝ) (B : ℝ) (hx : ∀ i, x (ix2 r i) = ((X i : ℝ) : EReal)) (hu : ∀ i, u (ix2 i (ck h k)) = ((U i : ℝ) : EReal))
    (hb : b (ix2 0 (ck h k)) = ((B : ℝ) : EReal)) : gate x u b (ix3 r h k) = (((∑ i, X i * U i) + B : ℝ) : EReal) := by
  unfold gate
  rw [split_k, addf_apply, EReal.coe_add]
  refine congrArg₂ (· + ·) ?_ ?_
  · exact dg_coe _ 16 rfl rfl _ _ _ (fun i => ix2 r i) (fun i => ix2 i (ck h k)) (fun i => funext fun a => by fin_cases a <;> rfl)
      (fun i => funext fun a => by fin_cases a <;> rfl) X U hx hu
  · refine (broadcastInDim_apply _ _ _ _ (ix2 (0 : Fin 1) (ck h k)) fun a => ?_).trans hb
    match a with
    | ⟨0, _⟩ => rfl
    | ⟨1, _⟩ => rfl

section inputs
variable (V : Valuation τ sig (Elt Ideal))

/-- The gates of the two directions. -/
def gateF : FVec Ideal S8448x4x128 .f32 :=
  gate (extractStridedSlice S8448x16 ![0, 0] (V (Proc.devRef .tc main_arg1)) slices_S8448x128_S8448x16_0_0) (V (Proc.devRef .tc main_arg2)) (V (Proc.devRef .tc main_arg3))
def gateB : FVec Ideal S8448x4x128 .f32 :=
  gate (extractStridedSlice S8448x16 ![0, 16] (V (Proc.devRef .tc main_arg1)) slices_S8448x128_S8448x16_0_16) (V (Proc.devRef .tc main_arg4)) (V (Proc.devRef .tc main_arg5))

/-- The arguments hold the data. -/
def Given (D : Data) : Prop :=
  Holds D (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6))

variable {V} {D : Data} (hD : Given V D)
include hD

theorem q_in (r : Fin 8448) (h : Fin 4) (k : Fin 128) : (res_main_v2 V : FVec Ideal S8448x4x128 .f32) (ix3 r h k) = ((D.pt r (colQ (ck h k)) : ℝ) : EReal) :=
  (split_k _ shapeCasts_S8448x512_S8448x4x128 r h k).trans
    ((extractStridedSlice_apply _ (res_main_v0 V) slices_S8448x10368_S8448x512_0_6144 (ix2 r (ck h k)) (ix2 r (colQ (ck h k))) fun a => by
      match a with
      | ⟨0, _⟩ => exact (Nat.zero_add _).symm
      | ⟨1, _⟩ => rfl).trans (hD.pt r _ (Nat.le_add_right _ _) (by show 6144 + (ck h k).val < 8192; omega)))

theorem k_in (r : Fin 8448) (h : Fin 4) (k : Fin 128) : (res_main_v4 V : FVec Ideal S8448x4x128 .f32) (ix3 r h k) = ((D.pt r (colK (ck h k)) : ℝ) : EReal) :=
  (split_k _ shapeCasts_S8448x512_S8448x4x128 r h k).trans
    ((extractStridedSlice_apply _ (res_main_v0 V) slices_S8448x10368_S8448x512_0_6656 (ix2 r (ck h k)) (ix2 r (colK (ck h k))) fun a => by
      match a with
      | ⟨0, _⟩ => exact (Nat.zero_add _).symm
      | ⟨1, _⟩ => rfl).trans (hD.pt r _ (by show 6144 ≤ 6656 + (ck h k).val; omega) (by show 6656 + (ck h k).val < 8192; omega)))

theorem v_in (r : Fin 8448) (h : Fin 4) (c : Fin 256) : (res_main_v6 V : FVec Ideal S8448x4x256 .f32) (ix3 r h c) = ((D.pt r (colV (cv h c)) : ℝ) : EReal) :=
  (split_v _ shapeCasts_S8448x1024_S8448x4x256 r h c).trans
    ((extractStridedSlice_apply _ (res_main_v0 V) slices_S8448x10368_S8448x1024_0_7168 (ix2 r (cv h c)) (ix2 r (colV (cv h c))) fun a => by
      match a with
      | ⟨0, _⟩ => exact (Nat.zero_add _).symm
      | ⟨1, _⟩ => rfl).trans (hD.pt r _ (by show 6144 ≤ 7168 + (cv h c).val; omega) (by show 7168 + (cv h c).val < 8192; omega)))

theorem d_in (r : Fin 8448) (h : Fin 4) (c : Fin 256) : (res_main_v8 V : FVec Ideal S8448x4x256 .f32) (ix3 r h c) = ((D.o r (cv h c) : ℝ) : EReal) :=
  (split_v _ shapeCasts_S8448x1024_S8448x4x256 r h c).trans (hD.o r _)

theorem gateF_in (r : Fin 8448) (h : Fin 4) (k : Fin 128) : gateF V (ix3 r h k) = ((D.pf r (ck h k) : ℝ) : EReal) :=
  gate_apply _ _ _ r h k (D.lf r) (fun i => D.uf i (ck h k)) (D.bf (ck h k)) (fun i =>
    (extractStridedSlice_apply _ _ slices_S8448x128_S8448x16_0_0 (ix2 r i) (ix2 r (colF i)) fun a => by
      match a with
      | ⟨0, _⟩ => exact (Nat.zero_add _).symm
      | ⟨1, _⟩ => exact (Nat.zero_add _).symm).trans (hD.lf r i)) (fun i => hD.uf i _) (hD.bf _)

theorem gateB_in (r : Fin 8448) (h : Fin 4) (k : Fin 128) : gateB V (ix3 r h k) = ((D.pb r (ck h k) : ℝ) : EReal) :=
  gate_apply _ _ _ r h k (D.lb r) (fun i => D.ub i (ck h k)) (D.bb (ck h k)) (fun i =>
    (extractStridedSlice_apply _ _ slices_S8448x128_S8448x16_0_16 (ix2 r i) (ix2 r (colB i)) fun a => by
      match a with
      | ⟨0, _⟩ => exact (Nat.zero_add _).symm
      | ⟨1, _⟩ => rfl).trans (hD.lb r i)) (fun i => hD.ub i _) (hD.bb _)

/-- The two directions' arrays hold their sequences. -/
theorem holds_fwd : Holds3 D.fwd (mulf (ordK (res_main_v2 V)) (c3 0x3DB504F3#32)) (ordK (res_main_v4 V)) (Host.negf (ordK (gateF V)))
    (ordV (res_main_v6 V)) (ordV (res_main_v8 V)) where
  q t h j := by
    rw [mulf_apply, ordK_apply, q_in hD]
    show _ * Ideal.ofBits .f32 0x3DB504F3#32 = _
    rw [bits_scl, ← EReal.coe_mul]; rfl
  k t h j := (ordK_apply _ t h j).trans (k_in hD _ h j)
  x t h j := by
    show -(ordK (gateF V) (ix3 t h j)) = _
    rw [ordK_apply, gateF_in hD, coe_zero_sub]; rfl
  v t h c := (ordV_apply _ t h c).trans (v_in hD _ h c)
  d t h c := (ordV_apply _ t h c).trans (d_in hD _ h c)

theorem holds_bwd : Holds3 D.bwd (mulf (Host.reverse [0] (res_main_v2 V)) (c3 0x3DB504F3#32)) (Host.reverse [0] (res_main_v4 V)) (Host.negf (Host.reverse [0] (gateB V)))
    (Host.reverse [0] (res_main_v6 V)) (Host.reverse [0] (res_main_v8 V)) where
  q t h j := by
    rw [mulf_apply, reverse_apply (A := 4) (C := 128) (res_main_v2 V), q_in hD]
    show _ * Ideal.ofBits .f32 0x3DB504F3#32 = _
    rw [bits_scl, ← EReal.coe_mul]; rfl
  k t h j := (reverse_apply (A := 4) (C := 128) _ t h j).trans (k_in hD _ h j)
  x t h j := by
    show -(Host.reverse [0] (gateB V) (ix3 t h j)) = _
    rw [reverse_apply (A := 4) (C := 128), gateB_in hD, coe_zero_sub]; rfl
  v t h c := (reverse_apply (A := 4) (C := 256) _ t h c).trans (v_in hD _ h c)
  d t h c := (reverse_apply (A := 4) (C := 256) _ t h c).trans (d_in hD _ h c)
end inputs

end Cert.ReferenceIdeal.Plain
-- ==== Proof.RefRun.lean ====
module

public import proofs.«01_k».proof.Proof.RefVal

@[expose] public section

set_option maxRecDepth 20000

/-! The reference's run in the sequences' terms: its eight results are the two directions' gradients. -/

noncomputable section

namespace Cert.ReferenceIdeal.Plain

open Cert.ReferenceIdeal Cert.ReferenceIdeal.Gen Cert.ReferenceIdeal.Value Cert.Gla
open Idealize.ShloMosaic Idealize.ShloMosaic.ValueIdx Cert.KernelIdeal.Chunk Idealize.ShloMosaic.StableHlo Idealize.SL.Sem

/-- A finite value scaled. -/
theorem scaled (x : FVec Ideal S8448x4x128 .f32) (i : S8448x4x128.Idx) (r : ℝ) (hx : x i = ((r : ℝ) : EReal)) :
    mulf x (c3 0x3DB504F3#32) i = ((r * scl : ℝ) : EReal) := by
  rw [mulf_apply, hx]
  show _ * Ideal.ofBits .f32 0x3DB504F3#32 = _
  rw [bits_scl, EReal.coe_mul]

/-! ## The results -/

section results
variable (V : Valuation τ sig (Elt Ideal))

/-- The forward direction's arrays, and the backward's. -/
def qF : FVec Ideal S8448x4x128 .f32 := mulf (ordK (res_main_v2 V)) (c3 0x3DB504F3#32)
def kF : FVec Ideal S8448x4x128 .f32 := ordK (res_main_v4 V)
def xF : FVec Ideal S8448x4x128 .f32 := Host.negf (ordK (gateF V))
def vF : FVec Ideal S8448x4x256 .f32 := ordV (res_main_v6 V)
def dF : FVec Ideal S8448x4x256 .f32 := ordV (res_main_v8 V)
def qB : FVec Ideal S8448x4x128 .f32 := mulf (Host.reverse [0] (res_main_v2 V)) (c3 0x3DB504F3#32)
def kB : FVec Ideal S8448x4x128 .f32 := Host.reverse [0] (res_main_v4 V)
def xB : FVec Ideal S8448x4x128 .f32 := Host.negf (Host.reverse [0] (gateB V))
def vB : FVec Ideal S8448x4x256 .f32 := Host.reverse [0] (res_main_v6 V)
def dB : FVec Ideal S8448x4x256 .f32 := Host.reverse [0] (res_main_v8 V)

theorem v47_eq : res_main_v47 V = dec (cum (xF V)) := rfl
theorem v54_eq : res_main_v54 V = att (qF V) (kF V) (dec (cum (xF V))) := rfl
theorem v64_eq : res_main_v64 V = dv (dF V) (att (qF V) (kF V) (dec (cum (xF V)))) := rfl
theorem v67_eq : res_main_v67 V = mulf (datt (dF V) (vF V)) (dec (cum (xF V))) := rfl
theorem v76_eq : res_main_v76 V = sumFst (mulf (fst4 (qF V)) (mulf (datt (dF V) (vF V)) (dec (cum (xF V))))) := rfl
theorem v79_eq : res_main_v79 V = wt (qF V) (kF V) (datt (dF V) (vF V)) (dec (cum (xF V))) := rfl
theorem v91_eq : res_main_v91 V = dp (wt (qF V) (kF V) (datt (dF V) (vF V)) (dec (cum (xF V)))) (xF V) := rfl
theorem v93_eq : res_main_v93 V = mulf (sumSnd (mulf (mulf (datt (dF V) (vF V)) (dec (cum (xF V)))) (snd4 (kF V)))) (c3 0x3DB504F3#32) := rfl
theorem v114_eq : res_main_v114 V = dec (cum (xB V)) := rfl
theorem v121_eq : res_main_v121 V = att (qB V) (kB V) (dec (cum (xB V))) := rfl
theorem v132_eq : res_main_v132 V = mulf (datt (dB V) (vB V)) (dec (cum (xB V))) := rfl
theorem v144_eq : res_main_v144 V = wt (qB V) (kB V) (datt (dB V) (vB V)) (dec (cum (xB V))) := rfl
end results

/-- The reference's run: what its eight results hold. -/
theorem run_results (m : (ℓ : Loc nD τ sig) → Buf (Elt Ideal) ℓ) (ρ : Dev nD → PrngReg) (D : Dev nD → Data) (hD : ∀ c, Given (launchContents m c) (D c)) :
    θ_run defs (onTc (τ := τ) (main (F := Ideal))) ⟨m, fun _ => 0, ρ⟩ fun r => ∀ c : Dev nD,
      ((∀ t h k, (r.2.mem ((c.tc : Thread nD τ).loc main_v183) : FVec Ideal S8448x512 .bf16) (ix2 t (ck h k)) = (((D c).fwd.dq h (timeF t) k * scl : ℝ) : EReal))
      ∧ (∀ t h k, (r.2.mem ((c.tc : Thread nD τ).loc main_v184) : FVec Ideal S8448x512 .bf16) (ix2 t (ck h k)) = (((D c).bwd.dq h (Fin.rev t) k * scl : ℝ) : EReal))
      ∧ (∀ t h k, (r.2.mem ((c.tc : Thread nD τ).loc main_v185) : FVec Ideal S8448x512 .bf16) (ix2 t (ck h k)) = (((D c).fwd.dk h (timeF t) k : ℝ) : EReal))
      ∧ (∀ t h k, (r.2.mem ((c.tc : Thread nD τ).loc main_v186) : FVec Ideal S8448x512 .bf16) (ix2 t (ck h k)) = (((D c).bwd.dk h (Fin.rev t) k : ℝ) : EReal))
      ∧ (∀ t h k, (r.2.mem ((c.tc : Thread nD τ).loc main_v187) : FVec Ideal S8448x1024 .bf16) (ix2 t (cv h k)) = (((D c).fwd.dv h (timeF t) k : ℝ) : EReal))
      ∧ (∀ t h k, (r.2.mem ((c.tc : Thread nD τ).loc main_v188) : FVec Ideal S8448x1024 .bf16) (ix2 t (cv h k)) = (((D c).bwd.dv h (Fin.rev t) k : ℝ) : EReal))
      ∧ (∀ t h k, (r.2.mem ((c.tc : Thread nD τ).loc main_v174) : FVec Ideal S8448x512 .f32) (ix2 t (ck h k)) = (((D c).fwd.dp h (timeF t) k : ℝ) : EReal))
      ∧ (∀ t h k, (r.2.mem ((c.tc : Thread nD τ).loc main_v182) : FVec Ideal S8448x512 .f32) (ix2 t (ck h k)) = (((D c).bwd.dp h (Fin.rev t) k : ℝ) : EReal)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨⟨fun t h' k => ?_, fun t h' k => ?_, fun t h' k => ?_, fun t h' k => ?_, fun t h' k => ?_, fun t h' k => ?_, fun t h' k => ?_, fun t h' k => ?_⟩,
    (h c).2.2.2.2.2.2.2.2⟩) (run m ρ)
  · refine (congrFun (h c).1 _).trans ((backK_apply (res_main_v93 (launchContents m c)) t h' k).trans ?_)
    rw [v93_eq]
    exact scaled _ _ _ (dq_val (holds_fwd (hD c)) (timeF t) h' k)
  · refine (congrFun (h c).2.1 _).trans ((revK_apply (mulf (sumSnd (mulf (res_main_v132 (launchContents m c)) (snd4 (kB (launchContents m c))))) (c3 0x3DB504F3#32)) t h' k).trans ?_)
    rw [v132_eq]
    exact scaled _ _ _ (dq_val (holds_bwd (hD c)) (Fin.rev t) h' k)
  · refine (congrFun (h c).2.2.1 _).trans ((backK_apply (res_main_v76 (launchContents m c)) t h' k).trans ?_)
    rw [v76_eq]
    exact dk_val (holds_fwd (hD c)) (timeF t) h' k
  · refine (congrFun (h c).2.2.2.1 _).trans ((revK_apply (sumFst (mulf (fst4 (qB (launchContents m c))) (res_main_v132 (launchContents m c)))) t h' k).trans ?_)
    rw [v132_eq]
    exact dk_val (holds_bwd (hD c)) (Fin.rev t) h' k
  · refine (congrFun (h c).2.2.2.2.1 _).trans ((backV_apply (res_main_v64 (launchContents m c)) t h' k).trans ?_)
    rw [v64_eq]
    exact dv_val (holds_fwd (hD c)) (timeF t) h' k
  · refine (congrFun (h c).2.2.2.2.2.1 _).trans ((revV_apply (dv (dB (launchContents m c)) (res_main_v121 (launchContents m c))) t h' k).trans ?_)
    rw [v121_eq]
    exact dv_val (holds_bwd (hD c)) (Fin.rev t) h' k
  · refine (congrFun (h c).2.2.2.2.2.2.1 _).trans ((backK_apply (res_main_v91 (launchContents m c)) t h' k).trans ?_)
    rw [v91_eq]
    exact dp_val (holds_fwd (hD c)) (timeF t) h' k
  · refine (congrFun (h c).2.2.2.2.2.2.2.1 _).trans ((revK_apply (dp (res_main_v144 (launchContents m c)) (xB (launchContents m c))) t h' k).trans ?_)
    rw [v144_eq]
    exact dp_val (holds_bwd (hD c)) (Fin.rev t) h' k

end Cert.ReferenceIdeal.Plain
-- ==== Proof.Tame.lean ====
module

public import proofs.«01_k».proof.Pre_tame
public import proofs.«01_k».proof.Proof.Data

@[expose] public section

set_option maxRecDepth 20000

/-! What the precondition says: the numbers the gradient reads are finite and the gates stay above the bound, so the arguments
    hold real data. -/

noncomputable section

namespace Cert.Pre_tame

open Cert.Gla Idealize.ShloMosaic Idealize.ShloMosaic.ValueIdx Cert.KernelIdeal.Chunk

/-- The precondition's shape relations. -/
instance facts : Facts where
  slices_S8448x10368_S8448x2048_0_6144 := by decide
  bitsLt_bf16_f32 := by decide
  slices_S8448x128_S8448x16_0_0 := by decide
  slices_S8448x128_S8448x16_0_16 := by decide
  bcast_S_S8448x2048 := by decide
  bcast_S_S8448x16 := by decide
  bcast_S_S16x512 := by decide
  bcast_S_S1x512 := by decide
  bcast_S_S8448x1024 := by decide
  bcast_S1x512_S8448x512_0_1 := by decide
  bcast_S_S8448x512 := by decide
  dot_S8448x16_S16x512_S8448x512_1_0_0_1_n_n_wf := by decide

theorem finite_of (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => rfl

theorem bound_of (r : ℝ) (h : Ideal.cmp .oge ((r : ℝ) : EReal) (Ideal.ofBits .f32 0xC1980000#32) = 1#1) : -19 ≤ r := by
  have hb : Ideal.ofBits .f32 0xC1980000#32 = ((-19 : ℝ) : EReal) := by
    simp [Ideal.ofBits, Ideal.ieee, -EReal.coe_mul, -EReal.coe_neg]
    norm_num
  rw [hb] at h
  by_contra hn
  have hd : decide (((-19 : ℝ) : EReal) ≤ ((r : ℝ) : EReal)) = false := decide_eq_false (by rw [EReal.coe_le_coe_iff]; exact hn)
  have h' : BitVec.ofBool (decide (((-19 : ℝ) : EReal) ≤ ((r : ℝ) : EReal))) = 1#1 := h
  rw [hd] at h'
  exact absurd h' (by decide)

theorem gate_apply (x : FVec Ideal S8448x16 .f32) (u : FVec Ideal S16x512 .f32) (b : FVec Ideal S1x512 .f32) (r : Fin 8448) (j : Fin 512)
    (X : Fin 16 → ℝ) (U : Fin 16 → ℝ) (B : ℝ) (hx : ∀ i, x (ix2 r i) = ((X i : ℝ) : EReal)) (hu : ∀ i, u (ix2 i j) = ((U i : ℝ) : EReal))
    (hb : b (ix2 0 j) = ((B : ℝ) : EReal)) :
    addf (Host.dotGeneral dot_S8448x16_S16x512_S8448x512_1_0_0_1_n_n none x u) (broadcastInDim S8448x512 ![0, 1] Facts.bcast_S1x512_S8448x512_0_1 b) (ix2 r j)
      = (((∑ i, X i * U i) + B : ℝ) : EReal) := by
  rw [addf_apply, EReal.coe_add]
  refine congrArg₂ (· + ·) ?_ ?_
  · exact dg_coe _ 16 rfl rfl _ _ _ (fun i => ix2 r i) (fun i => ix2 i j) (fun i => funext fun a => by fin_cases a <;> rfl)
      (fun i => funext fun a => by fin_cases a <;> rfl) X U hx hu
  · refine (broadcastInDim_apply _ _ _ _ (ix2 (0 : Fin 1) j) fun a => ?_).trans hb
    match a with
    | ⟨0, _⟩ => rfl
    | ⟨1, _⟩ => rfl

section
variable (a0 : FVec Ideal S8448x10368 .bf16) (a1 : FVec Ideal S8448x128 .f32) (a2 : FVec Ideal S16x512 .f32) (a3 : FVec Ideal S1x512 .f32)
  (a4 : FVec Ideal S16x512 .f32) (a5 : FVec Ideal S1x512 .f32) (a6 : FVec Ideal S8448x1024 .bf16)

/-- The arguments' real values. -/
def dataOf : Data where
  pt r j := (a0 (ix2 r j)).toReal
  lf r i := (a1 (ix2 r (colF i))).toReal
  lb r i := (a1 (ix2 r (colB i))).toReal
  uf i j := (a2 (ix2 i j)).toReal
  ub i j := (a4 (ix2 i j)).toReal
  bf j := (a3 (ix2 0 j)).toReal
  bb j := (a5 (ix2 0 j)).toReal
  o r j := (a6 (ix2 r j)).toReal

theorem lo_apply (r : Fin 8448) (i : Fin 16) : extractStridedSlice S8448x16 ![0, 0] a1 Facts.slices_S8448x128_S8448x16_0_0 (ix2 r i) = a1 (ix2 r (colF i)) :=
  extractStridedSlice_apply _ a1 _ (ix2 r i) (ix2 r (colF i)) fun a => by
    match a with
    | ⟨0, _⟩ => exact (Nat.zero_add _).symm
    | ⟨1, _⟩ => exact (Nat.zero_add _).symm
theorem hi_apply (r : Fin 8448) (i : Fin 16) : extractStridedSlice S8448x16 ![0, 16] a1 Facts.slices_S8448x128_S8448x16_0_16 (ix2 r i) = a1 (ix2 r (colB i)) :=
  extractStridedSlice_apply _ a1 _ (ix2 r i) (ix2 r (colB i)) fun a => by
    match a with
    | ⟨0, _⟩ => exact (Nat.zero_add _).symm
    | ⟨1, _⟩ => rfl
theorem mid_apply (r : Fin 8448) (j : Fin 10368) (h₁ : 6144 ≤ j.val) (h₂ : j.val < 8192) :
    extractStridedSlice S8448x2048 ![0, 6144] a0 Facts.slices_S8448x10368_S8448x2048_0_6144 (ix2 r ⟨j.val - 6144, by omega⟩) = a0 (ix2 r j) :=
  extractStridedSlice_apply _ a0 _ (ix2 r ⟨j.val - 6144, by omega⟩) (ix2 r j) fun a => by
    match a with
    | ⟨0, _⟩ => exact (Nat.zero_add _).symm
    | ⟨1, _⟩ => show j.val = 6144 + (j.val - 6144); omega

variable {a0 a1 a2 a3 a4 a5 a6}

theorem holds_of (h : (fn (F := Ideal) a0 a1 a2 a3 a4 a5 a6).1 = (fun _ => 1#1)
    ∧ (fn (F := Ideal) a0 a1 a2 a3 a4 a5 a6).2.1 = (fun _ => 1#1)
    ∧ (fn (F := Ideal) a0 a1 a2 a3 a4 a5 a6).2.2.1 = (fun _ => 1#1)
    ∧ (fn (F := Ideal) a0 a1 a2 a3 a4 a5 a6).2.2.2.1 = (fun _ => 1#1)
    ∧ (fn (F := Ideal) a0 a1 a2 a3 a4 a5 a6).2.2.2.2.1 = (fun _ => 1#1)
    ∧ (fn (F := Ideal) a0 a1 a2 a3 a4 a5 a6).2.2.2.2.2.1 = (fun _ => 1#1)
    ∧ (fn (F := Ideal) a0 a1 a2 a3 a4 a5 a6).2.2.2.2.2.2.1 = (fun _ => 1#1)
    ∧ (fn (F := Ideal) a0 a1 a2 a3 a4 a5 a6).2.2.2.2.2.2.2.1 = (fun _ => 1#1)
    ∧ (fn (F := Ideal) a0 a1 a2 a3 a4 a5 a6).2.2.2.2.2.2.2.2.1 = (fun _ => 1#1)
    ∧ (fn (F := Ideal) a0 a1 a2 a3 a4 a5 a6).2.2.2.2.2.2.2.2.2 = (fun _ => 1#1)) :
    Holds (dataOf a0 a1 a2 a3 a4 a5 a6) a0 a1 a2 a3 a4 a5 a6 := by
  obtain ⟨h0, h1, h2, h3, h4, h5, h6, h7, h8, h9⟩ := h
  have pt : ∀ (r : Fin 8448) (j : Fin 10368), 6144 ≤ j.val → j.val < 8192 → a0 (ix2 r j) = (((a0 (ix2 r j)).toReal : ℝ) : EReal) := fun r j l u =>
    finite_of _ (by rw [← mid_apply a0 r j l u]; exact congrFun h0 (ix2 r ⟨j.val - 6144, by omega⟩))
  have lf : ∀ (r : Fin 8448) (i : Fin 16), a1 (ix2 r (colF i)) = (((a1 (ix2 r (colF i))).toReal : ℝ) : EReal) := fun r i =>
    finite_of _ (by rw [← lo_apply a1 r i]; exact congrFun h1 (ix2 r i))
  have lb : ∀ (r : Fin 8448) (i : Fin 16), a1 (ix2 r (colB i)) = (((a1 (ix2 r (colB i))).toReal : ℝ) : EReal) := fun r i =>
    finite_of _ (by rw [← hi_apply a1 r i]; exact congrFun h2 (ix2 r i))
  have uf : ∀ (i : Fin 16) (j : Fin 512), a2 (ix2 i j) = (((a2 (ix2 i j)).toReal : ℝ) : EReal) := fun i j => finite_of _ (congrFun h3 (ix2 i j))
  have bf : ∀ j : Fin 512, a3 (ix2 0 j) = (((a3 (ix2 0 j)).toReal : ℝ) : EReal) := fun j => finite_of _ (congrFun h4 (ix2 0 j))
  have ub : ∀ (i : Fin 16) (j : Fin 512), a4 (ix2 i j) = (((a4 (ix2 i j)).toReal : ℝ) : EReal) := fun i j => finite_of _ (congrFun h5 (ix2 i j))
  have bb : ∀ j : Fin 512, a5 (ix2 0 j) = (((a5 (ix2 0 j)).toReal : ℝ) : EReal) := fun j => finite_of _ (congrFun h6 (ix2 0 j))
  refine ⟨pt, lf, lb, uf, bf, ub, bb, fun r j => finite_of _ (congrFun h7 (ix2 r j)), fun r j => ?_, fun r j => ?_⟩
  · refine bound_of _ ?_
    unfold Data.pf
    rw [← gate_apply (extractStridedSlice S8448x16 ![0, 0] a1 Facts.slices_S8448x128_S8448x16_0_0) a2 a3 r j (fun i => (dataOf a0 a1 a2 a3 a4 a5 a6).lf r i) (fun i => (dataOf a0 a1 a2 a3 a4 a5 a6).uf i j)
      ((dataOf a0 a1 a2 a3 a4 a5 a6).bf j) (fun i => (lo_apply a1 r i).trans (lf r i)) (fun i => uf i j) (bf j)]
    exact congrFun h8 (ix2 r j)
  · refine bound_of _ ?_
    unfold Data.pb
    rw [← gate_apply (extractStridedSlice S8448x16 ![0, 16] a1 Facts.slices_S8448x128_S8448x16_0_16) a4 a5 r j (fun i => (dataOf a0 a1 a2 a3 a4 a5 a6).lb r i) (fun i => (dataOf a0 a1 a2 a3 a4 a5 a6).ub i j)
      ((dataOf a0 a1 a2 a3 a4 a5 a6).bb j) (fun i => (hi_apply a1 r i).trans (lb r i)) (fun i => ub i j) (bb j)]
    exact congrFun h9 (ix2 r j)
end

end Cert.Pre_tame
-- ==== Proof.Prod.lean ====
module

public import Idealize.ShloMosaic.Lib.ValueIdx
public import Idealize.ShloMosaic.Lib.IdealHost
public import Idealize.ShloMosaic.Lib.Pipeline.Value
public import Idealize.ShloMosaic.PureOps.Ideal.Laws

@[expose] public section

/-! Products over the extended reals, for every call of the step that is a plain product: a product read at an index is a
    sum, and a sum taken block by block in a carried accumulator is the whole sum. No finiteness is needed. -/

noncomputable section

namespace Cert.Prod

open Idealize.ShloMosaic Idealize.ShloMosaic.ValueIdx

variable {sl sr so : Shape} {φ₁ φ₂ : FTy}

/-- A kernel's product at an index. -/
theorem mm (D : DotDims sl sr so) (n : ℕ) (hr : D.contr.rank = 1) (hs : D.contr.size ⟨0, by omega⟩ = n) (x : FVec Ideal sl φ₁)
    (y : FVec Ideal sr φ₂) (j : so.Idx) (L : Fin n → sl.Idx) (R : Fin n → sr.Idx)
    (hL : ∀ k, D.lhsIdx j ((contrEquiv1 D n hr hs).symm k) = L k) (hR : ∀ k, D.rhsIdx j ((contrEquiv1 D n hr hs).symm k) = R k) :
    matmul (F := Ideal) D none x y (constant so .f32 0x00000000#32) j = (∑ k, x (L k) * y (R k) : EReal) := by
  simp only [matmul]
  rw [Ideal.matmul_constant_zero_apply, ← Equiv.sum_comp (contrEquiv1 D n hr hs).symm]
  exact Finset.sum_congr rfl fun k _ => by rw [hL, hR]

/-- A host product at an index. -/
theorem dot (D : DotDims sl sr so) (n : ℕ) (hr : D.contr.rank = 1) (hs : D.contr.size ⟨0, by omega⟩ = n) (x : FVec Ideal sl φ₁)
    (y : FVec Ideal sr φ₂) (j : so.Idx) (L : Fin n → sl.Idx) (R : Fin n → sr.Idx)
    (hL : ∀ k, D.lhsIdx j ((contrEquiv1 D n hr hs).symm k) = L k) (hR : ∀ k, D.rhsIdx j ((contrEquiv1 D n hr hs).symm k) = R k) :
    Host.dotGeneral (F := Ideal) D none x y j = (∑ k, x (L k) * y (R k) : EReal) := by
  simp only [Host.dotGeneral]
  rw [Ideal.dotGeneral_apply, ← Equiv.sum_comp (contrEquiv1 D n hr hs).symm]
  exact Finset.sum_congr rfl fun k _ => by rw [hL, hR]

/-- What an accumulator holds that starts anew at every multiple of `J` and adds one part at every other point. -/
theorem fold {N : ℕ} (J : ℕ) (s : (n : ℕ) → n < N → EReal) (P : ℕ → EReal) (h0 : ∀ n h, n % J = 0 → s n h = P n)
    (h1 : ∀ n (h : n < N) (h' : n + 1 < N), (n + 1) % J ≠ 0 → s (n + 1) h' = s n h + P (n + 1)) :
    ∀ n h, s n h = ∑ q ∈ Finset.range (n % J + 1), P (n - n % J + q)
  | 0, h => by rw [h0 0 h (Nat.zero_mod _)]; simp
  | n + 1, h => by
    by_cases hz : (n + 1) % J = 0
    · rw [h0 _ h hz, hz]; simp
    · have e : (n + 1) % J = n % J + 1 := by
        rcases Nat.eq_zero_or_pos J with rfl | hJ
        · simp
        · have hl := Nat.mod_lt n hJ
          have hs : n + 1 = (n % J + 1) + J * (n / J) := by have := Nat.mod_add_div n J; omega
          rcases Nat.lt_or_ge (n % J + 1) J with hlt | hge
          · conv_lhs => rw [hs, Nat.add_mul_mod_self_left, Nat.mod_eq_of_lt hlt]
          · exfalso; apply hz
            have : n % J + 1 = J := by omega
            rw [hs, this, Nat.add_mul_mod_self_left, Nat.mod_self]
      rw [h1 n (Nat.lt_of_succ_lt h) h hz, fold J s P h0 h1 n _, e, Finset.sum_range_succ _ (n % J + 1)]
      have hle : n % J ≤ n := Nat.mod_le _ _
      congr 1
      · exact Finset.sum_congr rfl fun q _ => by congr 1; omega
      · congr 1; omega

/-- `J` parts of `K` terms each are the sum of all terms. -/
theorem blocks (J K N : ℕ) (hN : N = J * K) (f : Fin N → EReal) (P : ℕ → EReal)
    (hP : ∀ q (hq : q < J), P q = ∑ k : Fin K, f ⟨q * K + k.val, by
      rw [hN]; calc q * K + k.val < q * K + K := by omega
        _ = (q + 1) * K := by ring
        _ ≤ J * K := Nat.mul_le_mul_right _ hq⟩) :
    ∑ q ∈ Finset.range J, P q = ∑ k, f k := by
  subst hN
  rw [← Fin.sum_univ_eq_sum_range (f := P), ← Equiv.sum_comp (finProdFinEquiv (m := J) (n := K)), Fintype.sum_prod_type]
  refine Finset.sum_congr rfl fun q _ => (hP q q.isLt).trans (Finset.sum_congr rfl fun k _ => congrArg f (Fin.ext ?_))
  show q.val * K + k.val = k.val + K * q.val
  ring

/-- What the accumulator holds at the last point of a run of `J`: the whole sum of which each point adds its block. -/
theorem run {T J K' K : ℕ} (hJ : 0 < J) (hK : K = J * K') (s part : (n : ℕ) → n < T → EReal) (f : Fin K → EReal)
    (h0 : ∀ n h, n % J = 0 → s n h = part n h)
    (h1 : ∀ n (h : n < T) (h' : n + 1 < T), (n + 1) % J ≠ 0 → s (n + 1) h' = s n h + part (n + 1) h') (t : ℕ) (ht : t < T) (hl : t % J = J - 1)
    (hp : ∀ u hu, u / J = t / J → part u hu = ∑ k : Fin K', f ⟨u % J * K' + k.val, by
      have := Nat.mod_lt u hJ
      rw [hK]; calc u % J * K' + k.val < u % J * K' + K' := by omega
        _ = (u % J + 1) * K' := by ring
        _ ≤ J * K' := Nat.mul_le_mul_right _ this⟩) : s t ht = ∑ k, f k := by
  have e := fold J s (fun n => if h : n < T then part n h else 0) (fun n h hz => (h0 n h hz).trans (dif_pos h).symm)
    (fun n h h' hz => (h1 n h h' hz).trans (congrArg (s n h + ·) (dif_pos h').symm)) t ht
  rw [hl, Nat.sub_add_cancel hJ] at e
  rw [e]
  refine blocks J K' K hK f (fun q => _) fun q hq => ?_
  have hd := Nat.div_add_mod t J
  have hu : t - (J - 1) + q = q + J * (t / J) := by rw [hl] at hd; omega
  have ha : (t - (J - 1) + q) / J = t / J := by rw [hu, Nat.add_mul_div_left _ _ hJ, Nat.div_eq_of_lt hq, Nat.zero_add]
  have hm : (t - (J - 1) + q) % J = q := by rw [hu, Nat.add_mul_mod_self_left, Nat.mod_eq_of_lt hq]
  have hb : t - (J - 1) + q < T := by rw [hl] at hd; omega
  rw [dif_pos hb, hp _ hb ha]
  exact Finset.sum_congr rfl fun k _ => congrArg f (Fin.ext (by show (t - (J - 1) + q) % J * K' + k.val = q * K' + k.val; rw [hm]))

/-! ## The three products of a linear map -/

variable {M N K M' N' : ℕ}

/-- The arrays of two axes. -/
abbrev Arr (a b : ℕ) := (⟨2, ![a, b]⟩ : Shape).Idx → EReal

/-- The rows of `x` by the columns of `y`. -/
def nn (x : Arr M K) (y : Arr K N) : Arr M N := fun i => ∑ k : Fin K, x (ix2 (i 0) k) * y (ix2 k (i 1))
/-- The rows of `x` by the rows of `y`. -/
def nt (x : Arr M K) (y : Arr N K) : Arr M N := fun i => ∑ k : Fin K, x (ix2 (i 0) k) * y (ix2 (i 1) k)
/-- The columns of `x` by the columns of `y`: one term, and the sum. -/
def tnk (x : Arr K M) (y : Arr K N) (i : (⟨2, ![M, N]⟩ : Shape).Idx) (k : Fin K) : EReal := x (ix2 k (i 0)) * y (ix2 k (i 1))
def tn (x : Arr K M) (y : Arr K N) : Arr M N := fun i => ∑ k : Fin K, tnk x y i k

/-- The rows of `x` by the columns of `y`: one term, and the sum. -/
def nnk (x : Arr M K) (y : Arr K N) (i : (⟨2, ![M, N]⟩ : Shape).Idx) (k : Fin K) : EReal := x (ix2 (i 0) k) * y (ix2 k (i 1))
def nns (x : Arr M K) (y : Arr K N) : Arr M N := fun i => ∑ k : Fin K, nnk x y i k

/-- A block of the product is the product of a block of rows and a block of columns. -/
theorem nn_cut (x : Arr M K) (y : Arr K N) (i : (⟨2, ![M', N']⟩ : Shape).Idx) (e₀ : (⟨2, ![M', K]⟩ : Shape).Idx → (⟨2, ![M, K]⟩ : Shape).Idx)
    (e₁ : (⟨2, ![K, N']⟩ : Shape).Idx → (⟨2, ![K, N]⟩ : Shape).Idx) (i' : (⟨2, ![M, N]⟩ : Shape).Idx)
    (h₀ : ∀ k, e₀ (ix2 (i 0) k) = ix2 (i' 0) k) (h₁ : ∀ k, e₁ (ix2 k (i 1)) = ix2 k (i' 1)) :
    nn (fun j => x (e₀ j)) (fun j => y (e₁ j)) i = nn x y i' :=
  Finset.sum_congr rfl fun k _ => congrArg₂ (· * ·) (congrArg x (h₀ k)) (congrArg y (h₁ k))

/-- A block of the product is the product of two blocks of rows. -/
theorem nt_cut (x : Arr M K) (y : Arr N K) (i : (⟨2, ![M', N']⟩ : Shape).Idx) (e₀ : (⟨2, ![M', K]⟩ : Shape).Idx → (⟨2, ![M, K]⟩ : Shape).Idx)
    (e₁ : (⟨2, ![N', K]⟩ : Shape).Idx → (⟨2, ![N, K]⟩ : Shape).Idx) (i' : (⟨2, ![M, N]⟩ : Shape).Idx)
    (h₀ : ∀ k, e₀ (ix2 (i 0) k) = ix2 (i' 0) k) (h₁ : ∀ k, e₁ (ix2 (i 1) k) = ix2 (i' 1) k) :
    nt (fun j => x (e₀ j)) (fun j => y (e₁ j)) i = nt x y i' :=
  Finset.sum_congr rfl fun k _ => congrArg₂ (· * ·) (congrArg x (h₀ k)) (congrArg y (h₁ k))

/-- A coordinate of a block that starts at the array's own start. -/
theorem start (n k : ℕ) : 0 * n + 1 * k = k := by omega

/-- A coordinate of the block of the given number. -/
theorem number (n k : ℕ) {p q : ℕ} (h : p = q) : p * n + 1 * k = q * n + k := by subst h; omega

/-- A coordinate lies in the block numbered by its quotient. -/
theorem within (n : ℕ) {p i : ℕ} (h : p = i / n) (hn : 0 < n) : p * n ≤ i ∧ i < p * n + n := by
  subst h
  have h1 := Nat.div_add_mod i n
  have h2 := Nat.mod_lt i hn
  rw [Nat.mul_comm] at h1
  omega

/-! ## The gated activation -/

/-- The gate's value times its sigmoid, times the other projection's. -/
def act (x y : EReal) : EReal := x * Ideal.div 1 (1 + Ideal.exp (-x)) * y

/-- The activation as a kernel writes it. -/
theorem act_kernel {s : Shape} (h : FTy.bits .bf16 < FTy.bits .f32) (x y : FVec Ideal s .bf16) (i : s.Idx) :
    mulf (mulf (extf .f32 x h) (divf (broadcast s (Scalar.ofBits (F := Ideal) .f32 0x3F800000#32)) (addf (broadcast s (Scalar.ofBits (F := Ideal) .f32 0x3F800000#32))
      (exp (subf (broadcast s (Scalar.ofBits (F := Ideal) .f32 0x00000000#32)) (extf .f32 x h)))))) (extf .f32 y h) i = act (x i) (y i) := by
  show x i * Ideal.div (Ideal.ofBits .f32 0x3F800000#32) (Ideal.ofBits .f32 0x3F800000#32 + Ideal.exp (Ideal.ofBits .f32 0x00000000#32 - x i)) * y i = _
  rw [Ideal.ofBits_zero_f32, Ideal.ofBits_one_f32, zero_sub, act]

/-- The activation as the host writes it. -/
theorem act_host {s s₀ : Shape} (h : FTy.bits .bf16 < FTy.bits .f32) (d : Fin s₀.rank → Fin s.rank) (hb : s₀.BroadcastsInDim s d) (x y : FVec Ideal s .bf16) (i : s.Idx) :
    mulf (mulf (extf .f32 x h) (Host.divf (broadcastInDim s d hb (constant (F := Ideal) s₀ .f32 0x3F800000#32)) (addf (broadcastInDim s d hb (constant (F := Ideal) s₀ .f32 0x3F800000#32))
      (Host.exp (Host.negf (extf .f32 x h)))))) (extf .f32 y h) i = act (x i) (y i) := by
  show x i * Ideal.div (Ideal.ofBits .f32 0x3F800000#32) (Ideal.ofBits .f32 0x3F800000#32 + Ideal.exp (-x i)) * y i = _
  rw [Ideal.ofBits_one_f32, act]

/-- The gate of a number. -/
def gate (x : EReal) : EReal := Ideal.div 1 (1 + Ideal.exp (-x))

/-- The gate as a kernel writes it. -/
theorem gate_kernel {s : Shape} (h : FTy.bits .bf16 < FTy.bits .f32) (x : FVec Ideal s .bf16) (i : s.Idx) :
    divf (broadcast s (Scalar.ofBits (F := Ideal) .f32 0x3F800000#32)) (addf (broadcast s (Scalar.ofBits (F := Ideal) .f32 0x3F800000#32))
      (exp (subf (broadcast s (Scalar.ofBits (F := Ideal) .f32 0x00000000#32)) (extf .f32 x h)))) i = gate (x i) := by
  show Ideal.div (Ideal.ofBits .f32 0x3F800000#32) (Ideal.ofBits .f32 0x3F800000#32 + Ideal.exp (Ideal.ofBits .f32 0x00000000#32 - x i)) = _
  rw [Ideal.ofBits_zero_f32, Ideal.ofBits_one_f32, zero_sub, gate]

/-- The gate as the host writes it. -/
theorem gate_host {s s₀ : Shape} (h : FTy.bits .bf16 < FTy.bits .f32) (d : Fin s₀.rank → Fin s.rank) (hb : s₀.BroadcastsInDim s d) (x : FVec Ideal s .bf16) (i : s.Idx) :
    Host.divf (broadcastInDim s d hb (constant (F := Ideal) s₀ .f32 0x3F800000#32)) (addf (broadcastInDim s d hb (constant (F := Ideal) s₀ .f32 0x3F800000#32))
      (Host.exp (Host.negf (extf .f32 x h)))) i = gate (x i) := by
  show Ideal.div (Ideal.ofBits .f32 0x3F800000#32) (Ideal.ofBits .f32 0x3F800000#32 + Ideal.exp (-x i)) = _
  rw [Ideal.ofBits_one_f32, gate]

/-- An index of a block of columns, in the whole array. -/
def shift (M N o : ℕ) {n : ℕ} (h : o + n ≤ N) (i : (⟨2, ![M, n]⟩ : Shape).Idx) : (⟨2, ![M, N]⟩ : Shape).Idx :=
  ix2 (i 0) ⟨o + (i 1).val, lt_of_lt_of_le (Nat.add_lt_add_left (i 1).isLt o) h⟩

/-- The host's gate of a block of columns. -/
theorem gate_cols {M N n o : ℕ} {s₀ : Shape} (h : FTy.bits .bf16 < FTy.bits .f32) (d : Fin s₀.rank → Fin 2) (hb : s₀.BroadcastsInDim ⟨2, ![M, n]⟩ d)
    (x : FVec Ideal ⟨2, ![M, N]⟩ .bf16) (ho : o + n ≤ N) (hs : (⟨2, ![M, N]⟩ : Shape).Slices ![0, o] ⟨2, ![M, n]⟩) (i : (⟨2, ![M, n]⟩ : Shape).Idx) :
    Host.divf (broadcastInDim ⟨2, ![M, n]⟩ d hb (constant (F := Ideal) s₀ .f32 0x3F800000#32)) (addf (broadcastInDim ⟨2, ![M, n]⟩ d hb (constant (F := Ideal) s₀ .f32 0x3F800000#32))
      (Host.exp (Host.negf (extf .f32 (extractStridedSlice ⟨2, ![M, n]⟩ ![0, o] x hs) h)))) i = gate (x (shift M N o ho i)) :=
  (gate_host h d hb _ i).trans (congrArg (fun j => gate (x j)) (Shape.idx_ext₂ (Nat.zero_add _) rfl))

/-- The gate's derivative. -/
def slope (x : EReal) : EReal := gate x * (1 - gate x)

/-- An array with two neighbouring blocks of columns replaced. -/
def patch {M N n : ℕ} (o o' : ℕ) (x y : Arr M n) (p : Arr M N) : Arr M N := fun i =>
  if h : o ≤ (i 1).val ∧ (i 1).val < o + n then x (ix2 (i 0) ⟨(i 1).val - o, by omega⟩)
  else if h : o' ≤ (i 1).val ∧ (i 1).val < o' + n then y (ix2 (i 0) ⟨(i 1).val - o', by omega⟩)
  else p i

/-- … in the first block. -/
theorem patch_fst {M N n : ℕ} (o o' : ℕ) (x y : Arr M n) (p : Arr M N) (i : (⟨2, ![M, N]⟩ : Shape).Idx) (j : (⟨2, ![M, n]⟩ : Shape).Idx)
    (h0 : (j 0).val = (i 0).val) (h1 : o + (j 1).val = (i 1).val) : patch o o' x y p i = x j := by
  have hj : (j 1).val < n := (j 1).isLt
  rw [patch, dif_pos ⟨by omega, by omega⟩]
  exact congrArg x (Shape.idx_ext₂ h0.symm (by show (i 1).val - o = (j 1).val; omega))

/-- … in the second block. -/
theorem patch_snd {M N n : ℕ} (o o' : ℕ) (x y : Arr M n) (p : Arr M N) (i : (⟨2, ![M, N]⟩ : Shape).Idx) (j : (⟨2, ![M, n]⟩ : Shape).Idx)
    (h0 : (j 0).val = (i 0).val) (h1 : o' + (j 1).val = (i 1).val) (ho : o + n ≤ o') : patch o o' x y p i = y j := by
  have hj : (j 1).val < n := (j 1).isLt
  rw [patch, dif_neg (by omega), dif_pos ⟨by omega, by omega⟩]
  exact congrArg y (Shape.idx_ext₂ h0.symm (by show (i 1).val - o' = (j 1).val; omega))

/-- … in the first block, at the index moved there. -/
theorem patch_fst_at {M N n : ℕ} (o o' : ℕ) (x y : Arr M n) (p : Arr M N) (i : (⟨2, ![M, N]⟩ : Shape).Idx) (e : (i 1).val - o < n) (f : o + ((i 1).val - o) = (i 1).val) :
    patch o o' x y p i = x (ix2 (i 0) ⟨(i 1).val - o, e⟩) := by
  rw [patch, dif_pos ⟨by omega, by omega⟩]

/-- … in the second block. -/
theorem patch_snd_at {M N n : ℕ} (o o' : ℕ) (x y : Arr M n) (p : Arr M N) (i : (⟨2, ![M, N]⟩ : Shape).Idx) (e : (i 1).val - o' < n) (f : o' + ((i 1).val - o') = (i 1).val)
    (ho : o + n ≤ o') : patch o o' x y p i = y (ix2 (i 0) ⟨(i 1).val - o', e⟩) := by
  rw [patch, dif_neg (by omega), dif_pos ⟨by omega, by omega⟩]

/-- … elsewhere. -/
theorem patch_out {M N n : ℕ} (o o' : ℕ) (x y : Arr M n) (p : Arr M N) (i : (⟨2, ![M, N]⟩ : Shape).Idx) (ho : o + n = o')
    (h : (i 1).val < o ∨ o' + n ≤ (i 1).val) : patch o o' x y p i = p i := by
  rw [patch, dif_neg (by omega), dif_neg (by omega)]

end Cert.Prod

end
-- ==== Proof.InDw.lean ====
module

public import proofs.«01_k».proof.Defs
public import proofs.«01_k».proof.Proof.Prod
public import proofs.«01_k».proof.Proof.Gen.InDw.Frame
public import proofs.«01_k».proof.Proof.Gen.InDwIdeal.Value
public import proofs.«01_k».proof.Proof.Gen.InDwRefIdeal.Run

@[expose] public section

/-! The cotangent of the input projection's permuted, padded weight: three blocks of rows for each of nine blocks of columns. -/

noncomputable section

namespace Cert.InDwIdeal.Plain

open Cert.InDwIdeal Cert.InDwIdeal.Gen Idealize.ShloMosaic Idealize.ShloMosaic.ValueIdx Idealize.ShloMosaic.TcCoe

variable (m : (ℓ : Loc nD τ sig) → Buf (Elt Ideal) ℓ) (c : Dev nD)

/-- The product of the arguments. -/
abbrev G : Prod.Arr 1024 10368 := Prod.tn (M := 1024) (N := 10368) (K := 8448) (m ((c : Thread nD τ).loc main_arg0)) (m ((c : Thread nD τ).loc main_arg1))

/-- The windows move together. -/
theorem moves : ∀ t u : Fin cfg0.N, u.val / 3 = t.val / 3 → win0_0.index u (0 : Fin 2) = u.val % 3 ∧ win0_0.index u (1 : Fin 2) = win0_2.index t (0 : Fin 2)
    ∧ win0_1.index u (0 : Fin 2) = u.val % 3 ∧ win0_1.index u (1 : Fin 2) = win0_2.index t (1 : Fin 2) :=
  (by decide +kernel : ∀ t u : Fin grid0.N, _)

theorem hz : (![0, 0] : Fin 2 → Nat) = fun _ => 0 := funext fun a => by fin_cases a <;> rfl

/-- What the first point of a run leaves in the accumulator. -/
theorem first (t : Fin cfg0.N) (h : t.val % 3 = 0) : (outsAt0 m c t.val t.isLt).2 = k0_pay1 (iblk m c 0 t) (iblk m c 1 t) := by
  rw [outsAt0_A m c t h (by omega) (by omega)]
  dsimp only
  unfold sout0_A_0
  rw [View.read_writes_eq_canon _ _ _ (fun y => scover0_A_0 _ _ _ _ _ _ _ _ _ _ _ _ _ _ _ y)]
  unfold kernelRun0_A
  dsimp only
  rw [View.canon_unit_zero hz]
  unfold k0_pay2
  simp only [View.readAt_eq_ld, (hs0_0 t).read_unread, (hs0_1 t).read_unread, View.ld_unit_zero (S := S2816x1024) hz, View.ld_unit_zero (S := S2816x1152) hz, shapeCast_self]

/-- What a later point leaves there. -/
theorem later (n : ℕ) (h : n < cfg0.N) (h' : n + 1 < cfg0.N) (hn : (n + 1) % 3 ≠ 0) :
    (outsAt0 m c (n + 1) h').2 = addf (outsAt0 m c n h).2 (k0_pay1 (iblk m c 0 ⟨n + 1, h'⟩) (iblk m c 1 ⟨n + 1, h'⟩)) := by
  by_cases h2 : (n + 1) % 3 = 2
  all_goals first
    | rw [outsAt0_C m c ⟨n + 1, h'⟩ hn (by dsimp only; omega) h2]
      dsimp only
      unfold sout0_C_0
      rw [View.read_writes_eq_canon _ _ _ (fun y => scover0_C_0 _ _ _ _ _ _ _ _ _ _ _ _ _ _ _ _ y)]
      unfold kernelRun0_C
    | rw [outsAt0_B m c ⟨n + 1, h'⟩ hn (by dsimp only; omega) h2]
      dsimp only
      unfold sout0_B_0
      rw [View.read_writes_eq_canon _ _ _ (fun y => scover0_B_0 _ _ _ _ _ _ _ _ _ _ _ _ _ _ _ _ y)]
      unfold kernelRun0_B
  all_goals
    dsimp only
    sl_unfold_words
    rw [View.canon_unit_zero hz]
    unfold k0_pay3
    simp only [View.readAt_eq_ld, (hs0_0 _).read_unread, (hs0_1 _).read_unread, (Memref.isWhole_whole _).read_unread, View.ld_unit_zero (S := S2816x1024) hz,
      View.ld_unit_zero (S := S2816x1152) hz, View.ld_unit_zero (S := S1024x1152) hz, shapeCast_self]
    rfl

/-- What the last point of a run writes back is the accumulator. -/
theorem last (t : Fin cfg0.N) (h : t.val % 3 = 2) : (outsAt0 m c t.val t.isLt).1 = k0_pay4 (outsAt0 m c t.val t.isLt).2 := by
  rw [outsAt0_C m c t (by omega) (by omega) h]
  dsimp only
  unfold out0_C_2 sout0_C_0
  rw [View.read_writes_eq_canon _ _ _ (fun y => cover0_C_2 _ _ _ _ _ _ _ _ _ _ _ _ _ _ _ _ y), View.read_writes_eq_canon _ _ _ (fun y => scover0_C_0 _ _ _ _ _ _ _ _ _ _ _ _ _ _ _ _ y)]
  unfold kernelRun0_C
  dsimp only
  sl_unfold_words
  rw [View.canon_unit_zero hz, View.canon_unit_zero hz, View.readCov_unit_zero _ hz]

set_option maxRecDepth 65536 in
/-- What a run of points writes. -/
theorem wrote (t : Fin cfg0.N) (h : t.val % 3 = 2) : (dats m 0 c).flushed 2 t = ((cfg0.win 2).blk t).view.read (Elt Ideal) (G m c) := by
  rw [Value.flushed2, last m c t h]
  suffices hs : ∀ y : S1024x1152.Idx, (outsAt0 m c t.val t.isLt).2 y = G m c (((cfg0.win 2).blk t).view.emb y) by
    generalize (outsAt0 m c t.val t.isLt).2 = acc at hs
    exact funext hs
  intro y
  refine Prod.run (T := cfg0.N) (J := 3) (K' := 2816) (K := 8448) (by decide) (by norm_num) (fun n h => (outsAt0 m c n h).2 y)
    (fun n h => k0_pay1 (F := Ideal) (iblk m c 0 ⟨n, h⟩) (iblk m c 1 ⟨n, h⟩) y) (Prod.tnk (M := 1024) (N := 10368) (K := 8448) (m ((c : Thread nD τ).loc main_arg0)) (m ((c : Thread nD τ).loc main_arg1))
      (((cfg0.win 2).blk t).view.emb y)) (fun n h hn => congrFun (first m c ⟨n, h⟩ hn) y)
    (fun n h h' hn => congrFun (later m c n h h' hn) y) t.val t.isLt h fun u hu hr => ?_
  obtain ⟨a0, a1, b0, b1⟩ := moves t ⟨u, hu⟩ hr
  exact (Prod.mm (φ₁ := .bf16) (φ₂ := .bf16) dot_S2816x1024_S2816x1152_S1024x1152_0_0_1_1_n_n 2816 rfl rfl (iblk m c 0 ⟨u, hu⟩) (iblk m c 1 ⟨u, hu⟩) y
      (fun k => ix2 k (y 0)) (fun k => ix2 k (y 1)) (fun k => Shape.idx_ext₂ rfl rfl) (fun k => Shape.idx_ext₂ rfl rfl)).trans
    (Finset.sum_congr rfl fun k _ => congrArg₂ (· * ·)
      (congrArg (m ((c : Thread nD τ).loc main_arg0)) (Shape.idx_ext₂ (Prod.number 2816 k.val a0) (congrArg (· * 1024 + 1 * (y 0).val) a1)))
      (congrArg (m ((c : Thread nD τ).loc main_arg1)) (Shape.idx_ext₂ (Prod.number 2816 k.val b0) (congrArg (· * 1152 + 1 * (y 1).val) b1))))

/-- The array after the run. -/
theorem array : (dats m 0 c).arrAt 2 cfg0.N = G m c :=
  (dats m 0 c).arrAt_eq_of_cover 2 _ (fun t h => wrote m c t ((flush0_2 t).mp h)) fun (i : S1024x10368.Idx) =>
    (Value.covered_iff2 i).mpr ⟨Nat.zero_le _, (i 0).isLt, Nat.zero_le _, (i 1).isLt⟩

/-- The reference's product, of which the transpose is returned. -/
theorem reference (x : FVec Ideal S8448x1024 .f32) (y : FVec Ideal S8448x10368 .f32) (i : S1024x10368.Idx) :
    transpose S1024x10368 [1, 0] (Host.dotGeneral Cert.InDwRefIdeal.dot_S8448x10368_S8448x1024_S10368x1024_0_0_1_1_n_n none y x)
      Cert.InDwRefIdeal.Gen.facts₀.transposes_S10368x1024_S1024x10368_1_0 i = Prod.tn (M := 1024) (N := 10368) (K := 8448) x y i :=
  (transpose_apply [1, 0] _ _ i (ix2 (i 1) (i 0)) (fun b => by fin_cases b <;> rfl)).trans
    ((Prod.dot (φ₁ := .f32) (φ₂ := .f32) Cert.InDwRefIdeal.dot_S8448x10368_S8448x1024_S10368x1024_0_0_1_1_n_n 8448 rfl rfl y x (ix2 (i 1) (i 0)) (fun k => ix2 k (i 1))
      (fun k => ix2 k (i 0)) (fun k => Shape.idx_ext₂ rfl rfl) (fun k => Shape.idx_ext₂ rfl rfl)).trans (Finset.sum_congr rfl fun k _ => mul_comm _ _))

/-- The kernel's array is the reference's. -/
theorem equal : Cert.algebraic_InDwIdeal_InDwRefIdeal (hInDwIdeal := Cert.InDwIdeal.Gen.facts) (hInDwRefIdeal := Cert.InDwRefIdeal.Gen.facts) :=
  fun m g m' g' _ he => ⟨G m, (θ_run defs _ _).mono (fun r h c => ⟨(h c).1.trans (array m c), (h c).2⟩) (Value.run_blocks m g),
    (θ_run Cert.InDwRefIdeal.defs _ _).mono (fun r h c => ⟨(h c).1.trans ((funext fun (i : S1024x10368.Idx) => reference _ _ i).trans
      (congrArg₂ (Prod.tn (M := 1024) (N := 10368) (K := 8448)) (he c).1 (he c).2)), (h c).2⟩) (Cert.InDwRefIdeal.Value.run m' g')⟩

/-- The frames of the kernel, of the ideal kernel and of the reference. -/
theorem frames : Cert.quiescent_InDw (hInDw := Cert.InDw.Gen.facts) ∧ Cert.quiescent_InDwIdeal (hInDwIdeal := Cert.InDwIdeal.Gen.facts)
    ∧ Cert.quiescent_InDwRefIdeal (hInDwRefIdeal := Cert.InDwRefIdeal.Gen.facts) :=
  ⟨fun m g _ => Cert.InDw.Gen.frame m g, fun m g _ => Cert.InDwIdeal.Gen.frame m g, fun m g _ =>
    (θ_run Cert.InDwRefIdeal.defs _ _).mono (fun r h => ⟨fun c => (h c).2, sem_eq_zero_of_no_sems (by decide) r.2⟩) (Cert.InDwRefIdeal.Value.run m g)⟩

end Cert.InDwIdeal.Plain

end
-- ==== Proof.UpDw.lean ====
module

public import proofs.«01_k».proof.Defs
public import proofs.«01_k».proof.Proof.Prod
public import proofs.«01_k».proof.Proof.Gen.UpDw.Frame
public import proofs.«01_k».proof.Proof.Gen.UpDwIdeal.Value
public import proofs.«01_k».proof.Proof.Gen.UpDwRefIdeal.Run

@[expose] public section

/-! The cotangent of the gate's and of the up projection's weight: the input's transpose times the cotangent of the output,
    summed over three blocks of rows. -/

noncomputable section

namespace Cert.UpDwIdeal.Plain

open Cert.UpDwIdeal Cert.UpDwIdeal.Gen Idealize.ShloMosaic Idealize.ShloMosaic.ValueIdx Idealize.ShloMosaic.TcCoe

variable (m : (ℓ : Loc nD τ sig) → Buf (Elt Ideal) ℓ) (c : Dev nD)

/-- The product of the arguments. -/
abbrev G : Prod.Arr 1024 2816 := Prod.tn (M := 1024) (N := 2816) (K := 8448) (m ((c : Thread nD τ).loc main_arg0)) (m ((c : Thread nD τ).loc main_arg1))

/-- The windows move together. -/
theorem moves : ∀ t u : Fin cfg0.N, u.val / 3 = t.val / 3 → win0_0.index u (0 : Fin 2) = u.val % 3 ∧ win0_0.index u (1 : Fin 2) = win0_2.index t (0 : Fin 2)
    ∧ win0_1.index u (0 : Fin 2) = u.val % 3 ∧ win0_1.index u (1 : Fin 2) = win0_2.index t (1 : Fin 2) :=
  (by decide +kernel : ∀ t u : Fin grid0.N, _)

theorem hz : (![0, 0] : Fin 2 → Nat) = fun _ => 0 := funext fun a => by fin_cases a <;> rfl

/-- What the first point of a run leaves in the accumulator. -/
theorem first (t : Fin cfg0.N) (h : t.val % 3 = 0) : (outsAt0 m c t.val t.isLt).2 = k0_pay1 (iblk m c 0 t) (iblk m c 1 t) := by
  rw [outsAt0_A m c t h (by omega) (by omega)]
  dsimp only
  unfold sout0_A_0
  rw [View.read_writes_eq_canon _ _ _ (fun y => scover0_A_0 _ _ _ _ _ _ _ _ _ _ _ _ _ _ _ y)]
  unfold kernelRun0_A
  dsimp only
  rw [View.canon_unit_zero hz]
  unfold k0_pay2
  simp only [View.readAt_eq_ld, (hs0_0 t).read_unread, (hs0_1 t).read_unread, View.ld_unit_zero (S := S2816x1024) hz, View.ld_unit_zero (S := S2816x1408) hz, shapeCast_self]

/-- What a later point leaves there. -/
theorem later (n : ℕ) (h : n < cfg0.N) (h' : n + 1 < cfg0.N) (hn : (n + 1) % 3 ≠ 0) :
    (outsAt0 m c (n + 1) h').2 = addf (outsAt0 m c n h).2 (k0_pay1 (iblk m c 0 ⟨n + 1, h'⟩) (iblk m c 1 ⟨n + 1, h'⟩)) := by
  by_cases h2 : (n + 1) % 3 = 2
  all_goals first
    | rw [outsAt0_C m c ⟨n + 1, h'⟩ hn (by dsimp only; omega) h2]
      dsimp only
      unfold sout0_C_0
      rw [View.read_writes_eq_canon _ _ _ (fun y => scover0_C_0 _ _ _ _ _ _ _ _ _ _ _ _ _ _ _ _ y)]
      unfold kernelRun0_C
    | rw [outsAt0_B m c ⟨n + 1, h'⟩ hn (by dsimp only; omega) h2]
      dsimp only
      unfold sout0_B_0
      rw [View.read_writes_eq_canon _ _ _ (fun y => scover0_B_0 _ _ _ _ _ _ _ _ _ _ _ _ _ _ _ _ y)]
      unfold kernelRun0_B
  all_goals
    dsimp only
    sl_unfold_words
    rw [View.canon_unit_zero hz]
    unfold k0_pay3
    simp only [View.readAt_eq_ld, (hs0_0 _).read_unread, (hs0_1 _).read_unread, (Memref.isWhole_whole _).read_unread, View.ld_unit_zero (S := S2816x1024) hz,
      View.ld_unit_zero (S := S2816x1408) hz, View.ld_unit_zero (S := S1024x1408) hz, shapeCast_self]
    rfl

/-- What the last point of a run writes back is the accumulator. -/
theorem last (t : Fin cfg0.N) (h : t.val % 3 = 2) : (outsAt0 m c t.val t.isLt).1 = k0_pay4 (outsAt0 m c t.val t.isLt).2 := by
  rw [outsAt0_C m c t (by omega) (by omega) h]
  dsimp only
  unfold out0_C_2 sout0_C_0
  rw [View.read_writes_eq_canon _ _ _ (fun y => cover0_C_2 _ _ _ _ _ _ _ _ _ _ _ _ _ _ _ _ y), View.read_writes_eq_canon _ _ _ (fun y => scover0_C_0 _ _ _ _ _ _ _ _ _ _ _ _ _ _ _ _ y)]
  unfold kernelRun0_C
  dsimp only
  sl_unfold_words
  rw [View.canon_unit_zero hz, View.canon_unit_zero hz, View.readCov_unit_zero _ hz]

set_option maxRecDepth 65536 in
/-- What a run of points writes. -/
theorem wrote (t : Fin cfg0.N) (h : t.val % 3 = 2) : (dats m 0 c).flushed 2 t = ((cfg0.win 2).blk t).view.read (Elt Ideal) (G m c) := by
  rw [Value.flushed2, last m c t h]
  suffices hs : ∀ y : S1024x1408.Idx, (outsAt0 m c t.val t.isLt).2 y = G m c (((cfg0.win 2).blk t).view.emb y) by
    generalize (outsAt0 m c t.val t.isLt).2 = acc at hs
    exact funext hs
  intro y
  refine Prod.run (T := cfg0.N) (J := 3) (K' := 2816) (K := 8448) (by decide) (by norm_num) (fun n h => (outsAt0 m c n h).2 y)
    (fun n h => k0_pay1 (F := Ideal) (iblk m c 0 ⟨n, h⟩) (iblk m c 1 ⟨n, h⟩) y) (Prod.tnk (M := 1024) (N := 2816) (K := 8448) (m ((c : Thread nD τ).loc main_arg0)) (m ((c : Thread nD τ).loc main_arg1))
      (((cfg0.win 2).blk t).view.emb y)) (fun n h hn => congrFun (first m c ⟨n, h⟩ hn) y)
    (fun n h h' hn => congrFun (later m c n h h' hn) y) t.val t.isLt h fun u hu hr => ?_
  obtain ⟨a0, a1, b0, b1⟩ := moves t ⟨u, hu⟩ hr
  exact (Prod.mm (φ₁ := .bf16) (φ₂ := .bf16) dot_S2816x1024_S2816x1408_S1024x1408_0_0_1_1_n_n 2816 rfl rfl (iblk m c 0 ⟨u, hu⟩) (iblk m c 1 ⟨u, hu⟩) y
      (fun k => ix2 k (y 0)) (fun k => ix2 k (y 1)) (fun k => Shape.idx_ext₂ rfl rfl) (fun k => Shape.idx_ext₂ rfl rfl)).trans
    (Finset.sum_congr rfl fun k _ => congrArg₂ (· * ·)
      (congrArg (m ((c : Thread nD τ).loc main_arg0)) (Shape.idx_ext₂ (Prod.number 2816 k.val a0) (congrArg (· * 1024 + 1 * (y 0).val) a1)))
      (congrArg (m ((c : Thread nD τ).loc main_arg1)) (Shape.idx_ext₂ (Prod.number 2816 k.val b0) (congrArg (· * 1408 + 1 * (y 1).val) b1))))

/-- The array after the run. -/
theorem array : (dats m 0 c).arrAt 2 cfg0.N = G m c :=
  (dats m 0 c).arrAt_eq_of_cover 2 _ (fun t h => wrote m c t ((flush0_2 t).mp h)) fun (i : S1024x2816.Idx) =>
    (Value.covered_iff2 i).mpr ⟨Nat.zero_le _, (i 0).isLt, Nat.zero_le _, (i 1).isLt⟩

/-- The reference's product, of which the transpose is returned. -/
theorem reference (x : FVec Ideal S8448x1024 .f32) (y : FVec Ideal S8448x2816 .f32) (i : S1024x2816.Idx) :
    transpose S1024x2816 [1, 0] (Host.dotGeneral Cert.UpDwRefIdeal.dot_S8448x2816_S8448x1024_S2816x1024_0_0_1_1_n_n none y x)
      Cert.UpDwRefIdeal.Gen.facts₀.transposes_S2816x1024_S1024x2816_1_0 i = Prod.tn (M := 1024) (N := 2816) (K := 8448) x y i :=
  (transpose_apply [1, 0] _ _ i (ix2 (i 1) (i 0)) (fun b => by fin_cases b <;> rfl)).trans
    ((Prod.dot (φ₁ := .f32) (φ₂ := .f32) Cert.UpDwRefIdeal.dot_S8448x2816_S8448x1024_S2816x1024_0_0_1_1_n_n 8448 rfl rfl y x (ix2 (i 1) (i 0)) (fun k => ix2 k (i 1))
      (fun k => ix2 k (i 0)) (fun k => Shape.idx_ext₂ rfl rfl) (fun k => Shape.idx_ext₂ rfl rfl)).trans (Finset.sum_congr rfl fun k _ => mul_comm _ _))

/-- The kernel's array is the reference's. -/
theorem equal : Cert.algebraic_UpDwIdeal_UpDwRefIdeal (hUpDwIdeal := Cert.UpDwIdeal.Gen.facts) (hUpDwRefIdeal := Cert.UpDwRefIdeal.Gen.facts) :=
  fun m g m' g' _ he => ⟨G m, (θ_run defs _ _).mono (fun r h c => ⟨(h c).1.trans (array m c), (h c).2⟩) (Value.run_blocks m g),
    (θ_run Cert.UpDwRefIdeal.defs _ _).mono (fun r h c => ⟨(h c).1.trans ((funext fun (i : S1024x2816.Idx) => reference _ _ i).trans
      (congrArg₂ (Prod.tn (M := 1024) (N := 2816) (K := 8448)) (he c).1 (he c).2)), (h c).2⟩) (Cert.UpDwRefIdeal.Value.run m' g')⟩

/-- The frames of the kernel, of the ideal kernel and of the reference. -/
theorem frames : Cert.quiescent_UpDw (hUpDw := Cert.UpDw.Gen.facts) ∧ Cert.quiescent_UpDwIdeal (hUpDwIdeal := Cert.UpDwIdeal.Gen.facts)
    ∧ Cert.quiescent_UpDwRefIdeal (hUpDwRefIdeal := Cert.UpDwRefIdeal.Gen.facts) :=
  ⟨fun m g _ => Cert.UpDw.Gen.frame m g, fun m g _ => Cert.UpDwIdeal.Gen.frame m g, fun m g _ =>
    (θ_run Cert.UpDwRefIdeal.defs _ _).mono (fun r h => ⟨fun c => (h c).2, sem_eq_zero_of_no_sems (by decide) r.2⟩) (Cert.UpDwRefIdeal.Value.run m g)⟩

end Cert.UpDwIdeal.Plain

end
-- ==== Proof.DownDw.lean ====
module

public import proofs.«01_k».proof.Defs
public import proofs.«01_k».proof.Proof.Prod
public import proofs.«01_k».proof.Proof.Gen.DownDw.Frame
public import proofs.«01_k».proof.Proof.Gen.DownDwIdeal.Value
public import proofs.«01_k».proof.Proof.Gen.DownDwRefIdeal.Run

@[expose] public section

/-! The cotangent of the weight of the down projection, which takes up the activation anew. -/

noncomputable section

namespace Cert.DownDwIdeal.Plain

open Cert.DownDwIdeal Cert.DownDwIdeal.Gen Idealize.ShloMosaic Idealize.ShloMosaic.ValueIdx Idealize.ShloMosaic.TcCoe

variable (m : (ℓ : Loc nD τ sig) → Buf (Elt Ideal) ℓ) (c : Dev nD)

/-- The activation. -/
abbrev A : Prod.Arr 8448 2816 := fun i => Prod.act (m ((c : Thread nD τ).loc main_arg0) i) (m ((c : Thread nD τ).loc main_arg1) i)

/-- The product of the activation and the cotangent. -/
abbrev G : Prod.Arr 2816 1024 := Prod.tn (M := 2816) (N := 1024) (K := 8448) (A m c) (m ((c : Thread nD τ).loc main_arg2))

/-- The windows move together. -/
theorem moves : ∀ t u : Fin cfg0.N, u.val / 6 = t.val / 6 → win0_0.index u (0 : Fin 2) = u.val % 6 ∧ win0_0.index u (1 : Fin 2) = win0_3.index t (0 : Fin 2)
    ∧ win0_1.index u (0 : Fin 2) = u.val % 6 ∧ win0_1.index u (1 : Fin 2) = win0_3.index t (0 : Fin 2)
    ∧ win0_2.index u (0 : Fin 2) = u.val % 6 ∧ win0_2.index u (1 : Fin 2) = win0_3.index t (1 : Fin 2) :=
  (by decide +kernel : ∀ t u : Fin grid0.N, _)

theorem hz : (![0, 0] : Fin 2 → Nat) = fun _ => 0 := funext fun a => by fin_cases a <;> rfl

/-- What a point adds: the product of the activation and the cotangent. -/
theorem part (x y : FVec Ideal S1408x1408 .bf16) (z : FVec Ideal S1408x1024 .bf16) : k0_pay1 (F := Ideal) x y z
    = matmul (φ₁ := .bf16) (φ₂ := .bf16) dot_S1408x1408_S1408x1024_S1408x1024_0_0_1_1_n_n none (fun i => Prod.act (x i) (y i)) z (constant S1408x1024 .f32 0x00000000#32) :=
  congrArg (fun a => matmul (F := Ideal) (φ₁ := .bf16) (φ₂ := .bf16) dot_S1408x1408_S1408x1024_S1408x1024_0_0_1_1_n_n none a z (constant S1408x1024 .f32 0x00000000#32))
    (funext fun i => Prod.act_kernel bitsLt_bf16_f32 x y i)

/-- What the first point of a run leaves in the accumulator. -/
theorem first (t : Fin cfg0.N) (h : t.val % 6 = 0) : (outsAt0 m c t.val t.isLt).2 = k0_pay1 (iblk m c 0 t) (iblk m c 1 t) (iblk m c 2 t) := by
  rw [outsAt0_A m c t h (by omega) (by omega)]
  dsimp only
  unfold sout0_A_0
  rw [View.read_writes_eq_canon _ _ _ (fun y => scover0_A_0 _ _ _ _ _ _ _ _ _ _ _ _ _ _ _ _ _ _ y)]
  unfold kernelRun0_A
  dsimp only
  rw [View.canon_unit_zero hz]
  unfold k0_pay2
  simp only [View.readAt_eq_ld, (hs0_0 t).read_unread, (hs0_1 t).read_unread, (hs0_2 t).read_unread, View.ld_unit_zero (S := S1408x1408) hz, View.ld_unit_zero (S := S1408x1024) hz, shapeCast_self]

/-- What a later point leaves there. -/
theorem later (n : ℕ) (h : n < cfg0.N) (h' : n + 1 < cfg0.N) (hn : (n + 1) % 6 ≠ 0) :
    (outsAt0 m c (n + 1) h').2 = addf (outsAt0 m c n h).2 (k0_pay1 (iblk m c 0 ⟨n + 1, h'⟩) (iblk m c 1 ⟨n + 1, h'⟩) (iblk m c 2 ⟨n + 1, h'⟩)) := by
  by_cases h2 : (n + 1) % 6 = 5
  all_goals first
    | rw [outsAt0_C m c ⟨n + 1, h'⟩ hn (by dsimp only; omega) h2]
      dsimp only
      unfold sout0_C_0
      rw [View.read_writes_eq_canon _ _ _ (fun y => scover0_C_0 _ _ _ _ _ _ _ _ _ _ _ _ _ _ _ _ _ _ _ y)]
      unfold kernelRun0_C
    | rw [outsAt0_B m c ⟨n + 1, h'⟩ hn (by dsimp only; omega) h2]
      dsimp only
      unfold sout0_B_0
      rw [View.read_writes_eq_canon _ _ _ (fun y => scover0_B_0 _ _ _ _ _ _ _ _ _ _ _ _ _ _ _ _ _ _ _ y)]
      unfold kernelRun0_B
  all_goals
    dsimp only
    sl_unfold_words
    rw [View.canon_unit_zero hz]
    unfold k0_pay3
    simp only [View.readAt_eq_ld, (hs0_0 _).read_unread, (hs0_1 _).read_unread, (hs0_2 _).read_unread, (Memref.isWhole_whole _).read_unread, View.ld_unit_zero (S := S1408x1408) hz,
      View.ld_unit_zero (S := S1408x1024) hz, shapeCast_self]
    rfl

/-- What the last point of a run writes back is the accumulator. -/
theorem last (t : Fin cfg0.N) (h : t.val % 6 = 5) : (outsAt0 m c t.val t.isLt).1 = k0_pay4 (outsAt0 m c t.val t.isLt).2 := by
  rw [outsAt0_C m c t (by omega) (by omega) h]
  dsimp only
  unfold out0_C_3 sout0_C_0
  rw [View.read_writes_eq_canon _ _ _ (fun y => cover0_C_3 _ _ _ _ _ _ _ _ _ _ _ _ _ _ _ _ _ _ _ y), View.read_writes_eq_canon _ _ _ (fun y => scover0_C_0 _ _ _ _ _ _ _ _ _ _ _ _ _ _ _ _ _ _ _ y)]
  unfold kernelRun0_C
  dsimp only
  sl_unfold_words
  rw [View.canon_unit_zero hz, View.canon_unit_zero hz, View.readCov_unit_zero _ hz]

set_option maxRecDepth 65536 in
/-- What a run of points writes. -/
theorem wrote (t : Fin cfg0.N) (h : t.val % 6 = 5) : (dats m 0 c).flushed 3 t = ((cfg0.win 3).blk t).view.read (Elt Ideal) (G m c) := by
  rw [Value.flushed3, last m c t h]
  suffices hs : ∀ y : S1408x1024.Idx, (outsAt0 m c t.val t.isLt).2 y = G m c (((cfg0.win 3).blk t).view.emb y) by
    generalize (outsAt0 m c t.val t.isLt).2 = acc at hs
    exact funext hs
  intro y
  refine Prod.run (T := cfg0.N) (J := 6) (K' := 1408) (K := 8448) (by decide) (by norm_num) (fun n h => (outsAt0 m c n h).2 y)
    (fun n h => k0_pay1 (F := Ideal) (iblk m c 0 ⟨n, h⟩) (iblk m c 1 ⟨n, h⟩) (iblk m c 2 ⟨n, h⟩) y) (Prod.tnk (M := 2816) (N := 1024) (K := 8448) (A m c) (m ((c : Thread nD τ).loc main_arg2))
      (((cfg0.win 3).blk t).view.emb y)) (fun n h hn => congrFun (first m c ⟨n, h⟩ hn) y)
    (fun n h h' hn => congrFun (later m c n h h' hn) y) t.val t.isLt h fun u hu hr => ?_
  obtain ⟨a0, a1, b0, b1, c0, c1⟩ := moves t ⟨u, hu⟩ hr
  exact (congrFun (part _ _ _) y).trans ((Prod.mm (φ₁ := .bf16) (φ₂ := .bf16) dot_S1408x1408_S1408x1024_S1408x1024_0_0_1_1_n_n 1408 rfl rfl
      (fun i => Prod.act (iblk m c 0 ⟨u, hu⟩ i) (iblk m c 1 ⟨u, hu⟩ i)) (iblk m c 2 ⟨u, hu⟩) y
      (fun k => ix2 k (y 0)) (fun k => ix2 k (y 1)) (fun k => Shape.idx_ext₂ rfl rfl) (fun k => Shape.idx_ext₂ rfl rfl)).trans
    (Finset.sum_congr rfl fun k _ => congrArg₂ (· * ·)
      (congrArg₂ Prod.act
        (congrArg (m ((c : Thread nD τ).loc main_arg0)) (Shape.idx_ext₂ (Prod.number 1408 k.val a0) (congrArg (· * 1408 + 1 * (y 0).val) a1)))
        (congrArg (m ((c : Thread nD τ).loc main_arg1)) (Shape.idx_ext₂ (Prod.number 1408 k.val b0) (congrArg (· * 1408 + 1 * (y 0).val) b1))))
      (congrArg (m ((c : Thread nD τ).loc main_arg2)) (Shape.idx_ext₂ (Prod.number 1408 k.val c0) (congrArg (· * 1024 + 1 * (y 1).val) c1)))))

/-- The array after the run. -/
theorem array : (dats m 0 c).arrAt 3 cfg0.N = G m c :=
  (dats m 0 c).arrAt_eq_of_cover 3 _ (fun t h => wrote m c t ((flush0_3 t).mp h)) fun (i : S2816x1024.Idx) =>
    (Value.covered_iff3 i).mpr ⟨Nat.zero_le _, (i 0).isLt, Nat.zero_le _, (i 1).isLt⟩

/-- The reference's product, of which the transpose is returned. -/
theorem reference (x : FVec Ideal S8448x2816 .f32) (y : FVec Ideal S8448x1024 .f32) (i : S2816x1024.Idx) :
    transpose S2816x1024 [1, 0] (Host.dotGeneral Cert.DownDwRefIdeal.dot_S8448x1024_S8448x2816_S1024x2816_0_0_1_1_n_n none y x)
      Cert.DownDwRefIdeal.Gen.facts₀.transposes_S1024x2816_S2816x1024_1_0 i = Prod.tn (M := 2816) (N := 1024) (K := 8448) x y i :=
  (transpose_apply [1, 0] _ _ i (ix2 (i 1) (i 0)) (fun b => by fin_cases b <;> rfl)).trans
    ((Prod.dot (φ₁ := .f32) (φ₂ := .f32) Cert.DownDwRefIdeal.dot_S8448x1024_S8448x2816_S1024x2816_0_0_1_1_n_n 8448 rfl rfl y x (ix2 (i 1) (i 0)) (fun k => ix2 k (i 1))
      (fun k => ix2 k (i 0)) (fun k => Shape.idx_ext₂ rfl rfl) (fun k => Shape.idx_ext₂ rfl rfl)).trans (Finset.sum_congr rfl fun k _ => mul_comm _ _))

/-- The sum is the arguments'. -/
theorem same (x x' y y' : FVec Ideal S8448x2816 .bf16) (z z' : FVec Ideal S8448x1024 .bf16) (hx : x' = x) (hy : y' = y) (hz : z' = z) :
    Prod.tn (M := 2816) (N := 1024) (K := 8448) (fun i => Prod.act (x' i) (y' i)) z' = Prod.tn (fun i => Prod.act (x i) (y i)) z := by
  rw [hx, hy, hz]

/-- The kernel's array is the reference's. -/
theorem equal : Cert.algebraic_DownDwIdeal_DownDwRefIdeal (hDownDwIdeal := Cert.DownDwIdeal.Gen.facts) (hDownDwRefIdeal := Cert.DownDwRefIdeal.Gen.facts) :=
  fun m g m' g' _ he => ⟨G m, (θ_run defs _ _).mono (fun r h c => ⟨(h c).1.trans (array m c), (h c).2⟩) (Value.run_blocks m g),
    (θ_run Cert.DownDwRefIdeal.defs _ _).mono (fun r h c => ⟨(h c).1.trans ((funext fun (i : S2816x1024.Idx) => reference _ _ i).trans
      ((congrArg (fun a => Prod.tn (M := 2816) (N := 1024) (K := 8448) a (m' ((c.tc : Thread Cert.DownDwRefIdeal.nD Cert.DownDwRefIdeal.τ).loc Cert.DownDwRefIdeal.main_arg2)))
        (funext fun i => Prod.act_host bitsLt_bf16_f32 _ Cert.DownDwRefIdeal.Gen.facts₀.bcast_S_S8448x2816 _ _ i)).trans
        (same _ _ _ _ _ _ (he c).1 (he c).2.1 (he c).2.2))), (h c).2⟩) (Cert.DownDwRefIdeal.Value.run m' g')⟩

/-- The frames of the kernel, of the ideal kernel and of the reference. -/
theorem frames : Cert.quiescent_DownDw (hDownDw := Cert.DownDw.Gen.facts) ∧ Cert.quiescent_DownDwIdeal (hDownDwIdeal := Cert.DownDwIdeal.Gen.facts)
    ∧ Cert.quiescent_DownDwRefIdeal (hDownDwRefIdeal := Cert.DownDwRefIdeal.Gen.facts) :=
  ⟨fun m g _ => Cert.DownDw.Gen.frame m g, fun m g _ => Cert.DownDwIdeal.Gen.frame m g, fun m g _ =>
    (θ_run Cert.DownDwRefIdeal.defs _ _).mono (fun r h => ⟨fun c => (h c).2, sem_eq_zero_of_no_sems (by decide) r.2⟩) (Cert.DownDwRefIdeal.Value.run m g)⟩

end Cert.DownDwIdeal.Plain

end
-- ==== Proof.OutDw.lean ====
module

public import proofs.«01_k».proof.Defs
public import proofs.«01_k».proof.Proof.Prod
public import proofs.«01_k».proof.Proof.Gen.OutDw.Frame
public import proofs.«01_k».proof.Proof.Gen.OutDwIdeal.Value
public import proofs.«01_k».proof.Proof.Gen.OutDwRefIdeal.Run

@[expose] public section

/-! The cotangent of the weight of the output projection and of the first pointwise projection. -/

noncomputable section

namespace Cert.OutDwIdeal.Plain

open Cert.OutDwIdeal Cert.OutDwIdeal.Gen Idealize.ShloMosaic Idealize.ShloMosaic.ValueIdx Idealize.ShloMosaic.TcCoe

variable (m : (ℓ : Loc nD τ sig) → Buf (Elt Ideal) ℓ) (c : Dev nD)

/-- The product of the arguments. -/
abbrev G : Prod.Arr 1024 1024 := Prod.tn (M := 1024) (N := 1024) (K := 8448) (m ((c : Thread nD τ).loc main_arg0)) (m ((c : Thread nD τ).loc main_arg1))

/-- The windows move together. -/
theorem moves : ∀ t u : Fin cfg0.N, u.val / 3 = t.val / 3 → win0_0.index u (0 : Fin 2) = u.val % 3 ∧ win0_0.index u (1 : Fin 2) = win0_2.index t (0 : Fin 2)
    ∧ win0_1.index u (0 : Fin 2) = u.val % 3 ∧ win0_1.index u (1 : Fin 2) = win0_2.index t (1 : Fin 2) :=
  (by decide +kernel : ∀ t u : Fin grid0.N, _)

theorem hz : (![0, 0] : Fin 2 → Nat) = fun _ => 0 := funext fun a => by fin_cases a <;> rfl

/-- What the first point of a run leaves in the accumulator. -/
theorem first (t : Fin cfg0.N) (h : t.val % 3 = 0) : (outsAt0 m c t.val t.isLt).2 = k0_pay1 (iblk m c 0 t) (iblk m c 1 t) := by
  have hN : t.val < 3 := lt_of_lt_of_eq t.isLt N_0
  rw [outsAt0_A m c t h (by omega) (by omega)]
  dsimp only
  unfold sout0_A_0
  rw [View.read_writes_eq_canon _ _ _ (fun y => scover0_A_0 _ _ _ _ _ _ _ _ _ _ _ _ _ _ _ y)]
  unfold kernelRun0_A
  dsimp only
  rw [View.canon_unit_zero hz]
  unfold k0_pay2
  simp only [View.readAt_eq_ld, (hs0_0 t).read_unread, (hs0_1 t).read_unread, View.ld_unit_zero (S := S2816x1024) hz, View.ld_unit_zero (S := S2816x1024) hz, shapeCast_self]

/-- What a later point leaves there. -/
theorem later (n : ℕ) (h : n < cfg0.N) (h' : n + 1 < cfg0.N) (hn : (n + 1) % 3 ≠ 0) :
    (outsAt0 m c (n + 1) h').2 = addf (outsAt0 m c n h).2 (k0_pay1 (iblk m c 0 ⟨n + 1, h'⟩) (iblk m c 1 ⟨n + 1, h'⟩)) := by
  by_cases h2 : (n + 1) % 3 = 2
  all_goals first
    | rw [outsAt0_C m c ⟨n + 1, h'⟩ hn (by dsimp only; omega) h2]
      dsimp only
      unfold sout0_C_0
      rw [View.read_writes_eq_canon _ _ _ (fun y => scover0_C_0 _ _ _ _ _ _ _ _ _ _ _ _ _ _ _ _ y)]
      unfold kernelRun0_C
    | rw [outsAt0_B m c ⟨n + 1, h'⟩ hn (by dsimp only; omega) h2]
      dsimp only
      unfold sout0_B_0
      rw [View.read_writes_eq_canon _ _ _ (fun y => scover0_B_0 _ _ _ _ _ _ _ _ _ _ _ _ _ _ _ _ y)]
      unfold kernelRun0_B
  all_goals
    dsimp only
    sl_unfold_words
    rw [View.canon_unit_zero hz]
    unfold k0_pay3
    simp only [View.readAt_eq_ld, (hs0_0 _).read_unread, (hs0_1 _).read_unread, (Memref.isWhole_whole _).read_unread, View.ld_unit_zero (S := S2816x1024) hz,
      View.ld_unit_zero (S := S2816x1024) hz, View.ld_unit_zero (S := S1024x1024) hz, shapeCast_self]
    rfl

/-- What the last point of a run writes back is the accumulator. -/
theorem last (t : Fin cfg0.N) (h : t.val % 3 = 2) : (outsAt0 m c t.val t.isLt).1 = k0_pay4 (outsAt0 m c t.val t.isLt).2 := by
  rw [outsAt0_C m c t (by omega) (by omega) h]
  dsimp only
  unfold out0_C_2 sout0_C_0
  rw [View.read_writes_eq_canon _ _ _ (fun y => cover0_C_2 _ _ _ _ _ _ _ _ _ _ _ _ _ _ _ _ y), View.read_writes_eq_canon _ _ _ (fun y => scover0_C_0 _ _ _ _ _ _ _ _ _ _ _ _ _ _ _ _ y)]
  unfold kernelRun0_C
  dsimp only
  sl_unfold_words
  rw [View.canon_unit_zero hz, View.canon_unit_zero hz, View.readCov_unit_zero _ hz]

set_option maxRecDepth 65536 in
/-- What a run of points writes. -/
theorem wrote (t : Fin cfg0.N) (h : t.val % 3 = 2) : (dats m 0 c).flushed 2 t = ((cfg0.win 2).blk t).view.read (Elt Ideal) (G m c) := by
  rw [Value.flushed2, last m c t h]
  suffices hs : ∀ y : S1024x1024.Idx, (outsAt0 m c t.val t.isLt).2 y = G m c (((cfg0.win 2).blk t).view.emb y) by
    generalize (outsAt0 m c t.val t.isLt).2 = acc at hs
    exact funext hs
  intro y
  refine Prod.run (T := cfg0.N) (J := 3) (K' := 2816) (K := 8448) (by decide) (by norm_num) (fun n h => (outsAt0 m c n h).2 y)
    (fun n h => k0_pay1 (F := Ideal) (iblk m c 0 ⟨n, h⟩) (iblk m c 1 ⟨n, h⟩) y) (Prod.tnk (M := 1024) (N := 1024) (K := 8448) (m ((c : Thread nD τ).loc main_arg0)) (m ((c : Thread nD τ).loc main_arg1))
      (((cfg0.win 2).blk t).view.emb y)) (fun n h hn => congrFun (first m c ⟨n, h⟩ hn) y)
    (fun n h h' hn => congrFun (later m c n h h' hn) y) t.val t.isLt h fun u hu hr => ?_
  obtain ⟨a0, a1, b0, b1⟩ := moves t ⟨u, hu⟩ hr
  exact (Prod.mm (φ₁ := .bf16) (φ₂ := .bf16) dot_S2816x1024_S2816x1024_S1024x1024_0_0_1_1_n_n 2816 rfl rfl (iblk m c 0 ⟨u, hu⟩) (iblk m c 1 ⟨u, hu⟩) y
      (fun k => ix2 k (y 0)) (fun k => ix2 k (y 1)) (fun k => Shape.idx_ext₂ rfl rfl) (fun k => Shape.idx_ext₂ rfl rfl)).trans
    (Finset.sum_congr rfl fun k _ => congrArg₂ (· * ·)
      (congrArg (m ((c : Thread nD τ).loc main_arg0)) (Shape.idx_ext₂ (Prod.number 2816 k.val a0) (congrArg (· * 1024 + 1 * (y 0).val) a1)))
      (congrArg (m ((c : Thread nD τ).loc main_arg1)) (Shape.idx_ext₂ (Prod.number 2816 k.val b0) (congrArg (· * 1024 + 1 * (y 1).val) b1))))

/-- The array after the run. -/
theorem array : (dats m 0 c).arrAt 2 cfg0.N = G m c :=
  (dats m 0 c).arrAt_eq_of_cover 2 _ (fun t h => wrote m c t ((flush0_2 t).mp h)) fun (i : S1024x1024.Idx) =>
    (Value.covered_iff2 i).mpr ⟨Nat.zero_le _, (i 0).isLt, Nat.zero_le _, (i 1).isLt⟩

/-- The reference's product, of which the transpose is returned. -/
theorem reference (x : FVec Ideal S8448x1024 .f32) (y : FVec Ideal S8448x1024 .f32) (i : S1024x1024.Idx) :
    transpose S1024x1024 [1, 0] (Host.dotGeneral Cert.OutDwRefIdeal.dot_S8448x1024_S8448x1024_S1024x1024_0_0_1_1_n_n none y x)
      Cert.OutDwRefIdeal.Gen.facts₀.transposes_S1024x1024_S1024x1024_1_0 i = Prod.tn (M := 1024) (N := 1024) (K := 8448) x y i :=
  (transpose_apply [1, 0] _ _ i (ix2 (i 1) (i 0)) (fun b => by fin_cases b <;> rfl)).trans
    ((Prod.dot (φ₁ := .f32) (φ₂ := .f32) Cert.OutDwRefIdeal.dot_S8448x1024_S8448x1024_S1024x1024_0_0_1_1_n_n 8448 rfl rfl y x (ix2 (i 1) (i 0)) (fun k => ix2 k (i 1))
      (fun k => ix2 k (i 0)) (fun k => Shape.idx_ext₂ rfl rfl) (fun k => Shape.idx_ext₂ rfl rfl)).trans (Finset.sum_congr rfl fun k _ => mul_comm _ _))

/-- The kernel's array is the reference's. -/
theorem equal : Cert.algebraic_OutDwIdeal_OutDwRefIdeal (hOutDwIdeal := Cert.OutDwIdeal.Gen.facts) (hOutDwRefIdeal := Cert.OutDwRefIdeal.Gen.facts) :=
  fun m g m' g' _ he => ⟨G m, (θ_run defs _ _).mono (fun r h c => ⟨(h c).1.trans (array m c), (h c).2⟩) (Value.run_blocks m g),
    (θ_run Cert.OutDwRefIdeal.defs _ _).mono (fun r h c => ⟨(h c).1.trans ((funext fun (i : S1024x1024.Idx) => reference _ _ i).trans
      (congrArg₂ (Prod.tn (M := 1024) (N := 1024) (K := 8448)) (he c).1 (he c).2)), (h c).2⟩) (Cert.OutDwRefIdeal.Value.run m' g')⟩

/-- The frames of the kernel, of the ideal kernel and of the reference. -/
theorem frames : Cert.quiescent_OutDw (hOutDw := Cert.OutDw.Gen.facts) ∧ Cert.quiescent_OutDwIdeal (hOutDwIdeal := Cert.OutDwIdeal.Gen.facts)
    ∧ Cert.quiescent_OutDwRefIdeal (hOutDwRefIdeal := Cert.OutDwRefIdeal.Gen.facts) :=
  ⟨fun m g _ => Cert.OutDw.Gen.frame m g, fun m g _ => Cert.OutDwIdeal.Gen.frame m g, fun m g _ =>
    (θ_run Cert.OutDwRefIdeal.defs _ _).mono (fun r h => ⟨fun c => (h c).2, sem_eq_zero_of_no_sems (by decide) r.2⟩) (Cert.OutDwRefIdeal.Value.run m g)⟩

end Cert.OutDwIdeal.Plain

end
-- ==== Proof.PbDw.lean ====
module

public import proofs.«01_k».proof.Defs
public import proofs.«01_k».proof.Proof.Prod
public import proofs.«01_k».proof.Proof.Gen.PbDw.Frame
public import proofs.«01_k».proof.Proof.Gen.PbDwIdeal.Value
public import proofs.«01_k».proof.Proof.Gen.PbDwRefIdeal.Run

@[expose] public section

/-! The cotangent of the second pointwise projection's weight. -/

noncomputable section

namespace Cert.PbDwIdeal.Plain

open Cert.PbDwIdeal Cert.PbDwIdeal.Gen Idealize.ShloMosaic Idealize.ShloMosaic.ValueIdx Idealize.ShloMosaic.TcCoe

variable (m : (ℓ : Loc nD τ sig) → Buf (Elt Ideal) ℓ) (c : Dev nD)

/-- The product of the arguments. -/
abbrev G : Prod.Arr 2048 1024 := Prod.tn (M := 2048) (N := 1024) (K := 8448) (m ((c : Thread nD τ).loc main_arg0)) (m ((c : Thread nD τ).loc main_arg1))

/-- The windows move together. -/
theorem moves : ∀ t u : Fin cfg0.N, u.val / 3 = t.val / 3 → win0_0.index u (0 : Fin 2) = u.val % 3 ∧ win0_0.index u (1 : Fin 2) = win0_2.index t (0 : Fin 2)
    ∧ win0_1.index u (0 : Fin 2) = u.val % 3 ∧ win0_1.index u (1 : Fin 2) = win0_2.index t (1 : Fin 2) :=
  (by decide +kernel : ∀ t u : Fin grid0.N, _)

theorem hz : (![0, 0] : Fin 2 → Nat) = fun _ => 0 := funext fun a => by fin_cases a <;> rfl

/-- What the first point of a run leaves in the accumulator. -/
theorem first (t : Fin cfg0.N) (h : t.val % 3 = 0) : (outsAt0 m c t.val t.isLt).2 = k0_pay1 (iblk m c 0 t) (iblk m c 1 t) := by
  rw [outsAt0_A m c t h (by omega) (by omega)]
  dsimp only
  unfold sout0_A_0
  rw [View.read_writes_eq_canon _ _ _ (fun y => scover0_A_0 _ _ _ _ _ _ _ _ _ _ _ _ _ _ _ y)]
  unfold kernelRun0_A
  dsimp only
  rw [View.canon_unit_zero hz]
  unfold k0_pay2
  simp only [View.readAt_eq_ld, (hs0_0 t).read_unread, (hs0_1 t).read_unread, View.ld_unit_zero (S := S2816x1024) hz, View.ld_unit_zero (S := S2816x1024) hz, shapeCast_self]

/-- What a later point leaves there. -/
theorem later (n : ℕ) (h : n < cfg0.N) (h' : n + 1 < cfg0.N) (hn : (n + 1) % 3 ≠ 0) :
    (outsAt0 m c (n + 1) h').2 = addf (outsAt0 m c n h).2 (k0_pay1 (iblk m c 0 ⟨n + 1, h'⟩) (iblk m c 1 ⟨n + 1, h'⟩)) := by
  by_cases h2 : (n + 1) % 3 = 2
  all_goals first
    | rw [outsAt0_C m c ⟨n + 1, h'⟩ hn (by dsimp only; omega) h2]
      dsimp only
      unfold sout0_C_0
      rw [View.read_writes_eq_canon _ _ _ (fun y => scover0_C_0 _ _ _ _ _ _ _ _ _ _ _ _ _ _ _ _ y)]
      unfold kernelRun0_C
    | rw [outsAt0_B m c ⟨n + 1, h'⟩ hn (by dsimp only; omega) h2]
      dsimp only
      unfold sout0_B_0
      rw [View.read_writes_eq_canon _ _ _ (fun y => scover0_B_0 _ _ _ _ _ _ _ _ _ _ _ _ _ _ _ _ y)]
      unfold kernelRun0_B
  all_goals
    dsimp only
    sl_unfold_words
    rw [View.canon_unit_zero hz]
    unfold k0_pay3
    simp only [View.readAt_eq_ld, (hs0_0 _).read_unread, (hs0_1 _).read_unread, (Memref.isWhole_whole _).read_unread, View.ld_unit_zero (S := S2816x1024) hz,
      View.ld_unit_zero (S := S2816x1024) hz, View.ld_unit_zero (S := S1024x1024) hz, shapeCast_self]
    rfl

/-- What the last point of a run writes back is the accumulator. -/
theorem last (t : Fin cfg0.N) (h : t.val % 3 = 2) : (outsAt0 m c t.val t.isLt).1 = k0_pay4 (outsAt0 m c t.val t.isLt).2 := by
  rw [outsAt0_C m c t (by omega) (by omega) h]
  dsimp only
  unfold out0_C_2 sout0_C_0
  rw [View.read_writes_eq_canon _ _ _ (fun y => cover0_C_2 _ _ _ _ _ _ _ _ _ _ _ _ _ _ _ _ y), View.read_writes_eq_canon _ _ _ (fun y => scover0_C_0 _ _ _ _ _ _ _ _ _ _ _ _ _ _ _ _ y)]
  unfold kernelRun0_C
  dsimp only
  sl_unfold_words
  rw [View.canon_unit_zero hz, View.canon_unit_zero hz, View.readCov_unit_zero _ hz]

set_option maxRecDepth 65536 in
/-- What a run of points writes. -/
theorem wrote (t : Fin cfg0.N) (h : t.val % 3 = 2) : (dats m 0 c).flushed 2 t = ((cfg0.win 2).blk t).view.read (Elt Ideal) (G m c) := by
  rw [Value.flushed2, last m c t h]
  suffices hs : ∀ y : S1024x1024.Idx, (outsAt0 m c t.val t.isLt).2 y = G m c (((cfg0.win 2).blk t).view.emb y) by
    generalize (outsAt0 m c t.val t.isLt).2 = acc at hs
    exact funext hs
  intro y
  refine Prod.run (T := cfg0.N) (J := 3) (K' := 2816) (K := 8448) (by decide) (by norm_num) (fun n h => (outsAt0 m c n h).2 y)
    (fun n h => k0_pay1 (F := Ideal) (iblk m c 0 ⟨n, h⟩) (iblk m c 1 ⟨n, h⟩) y) (Prod.tnk (M := 2048) (N := 1024) (K := 8448) (m ((c : Thread nD τ).loc main_arg0)) (m ((c : Thread nD τ).loc main_arg1))
      (((cfg0.win 2).blk t).view.emb y)) (fun n h hn => congrFun (first m c ⟨n, h⟩ hn) y)
    (fun n h h' hn => congrFun (later m c n h h' hn) y) t.val t.isLt h fun u hu hr => ?_
  obtain ⟨a0, a1, b0, b1⟩ := moves t ⟨u, hu⟩ hr
  exact (Prod.mm (φ₁ := .bf16) (φ₂ := .bf16) dot_S2816x1024_S2816x1024_S1024x1024_0_0_1_1_n_n 2816 rfl rfl (iblk m c 0 ⟨u, hu⟩) (iblk m c 1 ⟨u, hu⟩) y
      (fun k => ix2 k (y 0)) (fun k => ix2 k (y 1)) (fun k => Shape.idx_ext₂ rfl rfl) (fun k => Shape.idx_ext₂ rfl rfl)).trans
    (Finset.sum_congr rfl fun k _ => congrArg₂ (· * ·)
      (congrArg (m ((c : Thread nD τ).loc main_arg0)) (Shape.idx_ext₂ (Prod.number 2816 k.val a0) (congrArg (· * 1024 + 1 * (y 0).val) a1)))
      (congrArg (m ((c : Thread nD τ).loc main_arg1)) (Shape.idx_ext₂ (Prod.number 2816 k.val b0) (congrArg (· * 1024 + 1 * (y 1).val) b1))))

/-- The array after the run. -/
theorem array : (dats m 0 c).arrAt 2 cfg0.N = G m c :=
  (dats m 0 c).arrAt_eq_of_cover 2 _ (fun t h => wrote m c t ((flush0_2 t).mp h)) fun (i : S2048x1024.Idx) =>
    (Value.covered_iff2 i).mpr ⟨Nat.zero_le _, (i 0).isLt, Nat.zero_le _, (i 1).isLt⟩

/-- The reference's product, of which the transpose is returned. -/
theorem reference (x : FVec Ideal S8448x2048 .f32) (y : FVec Ideal S8448x1024 .f32) (i : S2048x1024.Idx) :
    transpose S2048x1024 [1, 0] (Host.dotGeneral Cert.PbDwRefIdeal.dot_S8448x1024_S8448x2048_S1024x2048_0_0_1_1_n_n none y x)
      Cert.PbDwRefIdeal.Gen.facts₀.transposes_S1024x2048_S2048x1024_1_0 i = Prod.tn (M := 2048) (N := 1024) (K := 8448) x y i :=
  (transpose_apply [1, 0] _ _ i (ix2 (i 1) (i 0)) (fun b => by fin_cases b <;> rfl)).trans
    ((Prod.dot (φ₁ := .f32) (φ₂ := .f32) Cert.PbDwRefIdeal.dot_S8448x1024_S8448x2048_S1024x2048_0_0_1_1_n_n 8448 rfl rfl y x (ix2 (i 1) (i 0)) (fun k => ix2 k (i 1))
      (fun k => ix2 k (i 0)) (fun k => Shape.idx_ext₂ rfl rfl) (fun k => Shape.idx_ext₂ rfl rfl)).trans (Finset.sum_congr rfl fun k _ => mul_comm _ _))

/-- The kernel's array is the reference's. -/
theorem equal : Cert.algebraic_PbDwIdeal_PbDwRefIdeal (hPbDwIdeal := Cert.PbDwIdeal.Gen.facts) (hPbDwRefIdeal := Cert.PbDwRefIdeal.Gen.facts) :=
  fun m g m' g' _ he => ⟨G m, (θ_run defs _ _).mono (fun r h c => ⟨(h c).1.trans (array m c), (h c).2⟩) (Value.run_blocks m g),
    (θ_run Cert.PbDwRefIdeal.defs _ _).mono (fun r h c => ⟨(h c).1.trans ((funext fun (i : S2048x1024.Idx) => reference _ _ i).trans
      (congrArg₂ (Prod.tn (M := 2048) (N := 1024) (K := 8448)) (he c).1 (he c).2)), (h c).2⟩) (Cert.PbDwRefIdeal.Value.run m' g')⟩

/-- The frames of the kernel, of the ideal kernel and of the reference. -/
theorem frames : Cert.quiescent_PbDw (hPbDw := Cert.PbDw.Gen.facts) ∧ Cert.quiescent_PbDwIdeal (hPbDwIdeal := Cert.PbDwIdeal.Gen.facts)
    ∧ Cert.quiescent_PbDwRefIdeal (hPbDwRefIdeal := Cert.PbDwRefIdeal.Gen.facts) :=
  ⟨fun m g _ => Cert.PbDw.Gen.frame m g, fun m g _ => Cert.PbDwIdeal.Gen.frame m g, fun m g _ =>
    (θ_run Cert.PbDwRefIdeal.defs _ _).mono (fun r h => ⟨fun c => (h c).2, sem_eq_zero_of_no_sems (by decide) r.2⟩) (Cert.PbDwRefIdeal.Value.run m g)⟩

end Cert.PbDwIdeal.Plain

end
-- ==== Proof.UpDx.lean ====
module

public import proofs.«01_k».proof.Defs
public import proofs.«01_k».proof.Proof.Prod
public import proofs.«01_k».proof.Proof.Gen.UpDx.Frame
public import proofs.«01_k».proof.Proof.Gen.UpDxIdeal.Value
public import proofs.«01_k».proof.Proof.Gen.UpDxRefIdeal.Run

@[expose] public section

/-! The gate's and the up projection's part of the cotangent of their input is the cotangent of the output times the weight's transpose. -/

noncomputable section

namespace Cert.UpDxIdeal.Plain

open Cert.UpDxIdeal Cert.UpDxIdeal.Gen Idealize.ShloMosaic Idealize.ShloMosaic.ValueIdx Idealize.ShloMosaic.TcCoe

variable (m : (ℓ : Loc nD τ sig) → Buf (Elt Ideal) ℓ) (c : Dev nD)

/-- The product of the arguments. -/
abbrev G : Prod.Arr 8448 1024 := Prod.nt (M := 8448) (N := 1024) (K := 2816) (m ((c : Thread nD τ).loc main_arg0)) (m ((c : Thread nD τ).loc main_arg1))

/-- The windows move together. -/
theorem moves : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

/-- Every block of the result is some point's. -/
theorem onto : ∀ (p : Fin 6) (q : Fin 1), ∃ t : Fin cfg0.N, win0_2.index t (0 : Fin 2) = p.val ∧ win0_2.index t (1 : Fin 2) = q.val :=
  (by decide +kernel : ∀ (p : Fin 6) (q : Fin 1), ∃ t : Fin grid0.N, _)

/-- What a point writes. -/
theorem wrote (t : Fin cfg0.N) : (dats m 0 c).flushed 2 t = ((cfg0.win 2).blk t).view.read (Elt Ideal) (G m c) := by
  have hz : (![0, 0] : Fin 2 → Nat) = fun _ => 0 := funext fun a => by fin_cases a <;> rfl
  rw [Value.flushed2, out0_2, View.canon_unit_zero hz, View.ld_unit_zero (S := S1408x2816) hz, View.ld_unit_zero (S := S1024x2816) hz]
  obtain ⟨a0, a1, b0, b1⟩ := moves t
  exact funext fun (y : S1408x1024.Idx) => (Prod.mm (φ₁ := .bf16) (φ₂ := .bf16) dot_S1408x2816_S1024x2816_S1408x1024_1_1_0_0_n_n 2816 rfl rfl
      (iblk m c 0 t) (iblk m c 1 t) y (fun k => ix2 (y 0) k) (fun k => ix2 (y 1) k) (fun k => Shape.idx_ext₂ rfl rfl) (fun k => Shape.idx_ext₂ rfl rfl)).trans
    (Prod.nt_cut _ _ y ((cfg0.win 0).blk t).view.emb ((cfg0.win 1).blk t).view.emb (((cfg0.win 2).blk t).view.emb y)
      (fun k => Shape.idx_ext₂ (congrArg (· * 1408 + 1 * (y 0).val) a0) ((congrArg (· * 2816 + 1 * k.val) a1).trans (Prod.start _ _)))
      (fun k => Shape.idx_ext₂ (congrArg (· * 1024 + 1 * (y 1).val) b0) ((congrArg (· * 2816 + 1 * k.val) b1).trans (Prod.start _ _))))

/-- The array after the run. -/
theorem array : (dats m 0 c).arrAt 2 cfg0.N = G m c :=
  (dats m 0 c).arrAt_eq_of_cover 2 _ (fun t _ => wrote m c t) fun (i : S8448x1024.Idx) => by
    have h0 : (i 0).val < 8448 := (i 0).isLt
    have h1 : (i 1).val < 1024 := (i 1).isLt
    obtain ⟨t, e0, e1⟩ := onto ⟨(i 0).val / 1408, by omega⟩ ⟨(i 1).val / 1024, by omega⟩
    refine ⟨t, flush0_2 t, ?_⟩
    show i ∈ ((View.whole main_v0).slice (win0_2.rect t)).set
    rw [View.set_slice_whole, Rect.mem_set_unit]
    exact fun a => match a with
      | ⟨0, _⟩ => Prod.within 1408 e0 (by decide)
      | ⟨1, _⟩ => Prod.within 1024 e1 (by decide)

/-- The kernel's array is the reference's. -/
theorem equal : Cert.algebraic_UpDxIdeal_UpDxRefIdeal (hUpDxIdeal := Cert.UpDxIdeal.Gen.facts) (hUpDxRefIdeal := Cert.UpDxRefIdeal.Gen.facts) :=
  fun m g m' g' _ he => ⟨G m, (θ_run defs _ _).mono (fun r h c => ⟨(h c).1.trans (array m c), (h c).2⟩) (Value.run_blocks m g),
    (θ_run Cert.UpDxRefIdeal.defs _ _).mono (fun r h c => ⟨(h c).1.trans ((funext fun (i : S8448x1024.Idx) =>
        Prod.dot (φ₁ := .f32) (φ₂ := .f32) Cert.UpDxRefIdeal.dot_S8448x2816_S1024x2816_S8448x1024_1_1_0_0_n_n 2816 rfl rfl _ _ i (fun k => ix2 (i 0) k)
          (fun k => ix2 (i 1) k) (fun k => Shape.idx_ext₂ rfl rfl) (fun k => Shape.idx_ext₂ rfl rfl)).trans
      (congrArg₂ (Prod.nt (M := 8448) (N := 1024) (K := 2816)) (he c).1 (he c).2)), (h c).2⟩) (Cert.UpDxRefIdeal.Value.run m' g')⟩

/-- The frames of the kernel, of the ideal kernel and of the reference. -/
theorem frames : Cert.quiescent_UpDx (hUpDx := Cert.UpDx.Gen.facts) ∧ Cert.quiescent_UpDxIdeal (hUpDxIdeal := Cert.UpDxIdeal.Gen.facts)
    ∧ Cert.quiescent_UpDxRefIdeal (hUpDxRefIdeal := Cert.UpDxRefIdeal.Gen.facts) :=
  ⟨fun m g _ => Cert.UpDx.Gen.frame m g, fun m g _ => Cert.UpDxIdeal.Gen.frame m g, fun m g _ =>
    (θ_run Cert.UpDxRefIdeal.defs _ _).mono (fun r h => ⟨fun c => (h c).2, sem_eq_zero_of_no_sems (by decide) r.2⟩) (Cert.UpDxRefIdeal.Value.run m g)⟩

end Cert.UpDxIdeal.Plain

end
-- ==== Proof.DownDx.lean ====
module

public import proofs.«01_k».proof.Defs
public import proofs.«01_k».proof.Proof.Prod
public import proofs.«01_k».proof.Proof.Gen.DownDx.Frame
public import proofs.«01_k».proof.Proof.Gen.DownDxIdeal.Value
public import proofs.«01_k».proof.Proof.Gen.DownDxRefIdeal.Run

@[expose] public section

/-! The cotangent of the down projection's input is the cotangent of its output times the weight's transpose. -/

noncomputable section

namespace Cert.DownDxIdeal.Plain

open Cert.DownDxIdeal Cert.DownDxIdeal.Gen Idealize.ShloMosaic Idealize.ShloMosaic.ValueIdx Idealize.ShloMosaic.TcCoe

variable (m : (ℓ : Loc nD τ sig) → Buf (Elt Ideal) ℓ) (c : Dev nD)

/-- The product of the arguments. -/
abbrev G : Prod.Arr 8448 2816 := Prod.nt (M := 8448) (N := 2816) (K := 1024) (m ((c : Thread nD τ).loc main_arg0)) (m ((c : Thread nD τ).loc main_arg1))

/-- The windows move together. -/
theorem moves : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

/-- Every block of the result is some point's. -/
theorem onto : ∀ (p : Fin 6) (q : Fin 1), ∃ t : Fin cfg0.N, win0_2.index t (0 : Fin 2) = p.val ∧ win0_2.index t (1 : Fin 2) = q.val :=
  (by decide +kernel : ∀ (p : Fin 6) (q : Fin 1), ∃ t : Fin grid0.N, _)

/-- What a point writes. -/
theorem wrote (t : Fin cfg0.N) : (dats m 0 c).flushed 2 t = ((cfg0.win 2).blk t).view.read (Elt Ideal) (G m c) := by
  have hz : (![0, 0] : Fin 2 → Nat) = fun _ => 0 := funext fun a => by fin_cases a <;> rfl
  rw [Value.flushed2, out0_2, View.canon_unit_zero hz, View.ld_unit_zero (S := S1408x1024) hz, View.ld_unit_zero (S := S2816x1024) hz]
  obtain ⟨a0, a1, b0, b1⟩ := moves t
  exact funext fun (y : S1408x2816.Idx) => (Prod.mm (φ₁ := .bf16) (φ₂ := .bf16) dot_S1408x1024_S2816x1024_S1408x2816_1_1_0_0_n_n 1024 rfl rfl
      (iblk m c 0 t) (iblk m c 1 t) y (fun k => ix2 (y 0) k) (fun k => ix2 (y 1) k) (fun k => Shape.idx_ext₂ rfl rfl) (fun k => Shape.idx_ext₂ rfl rfl)).trans
    (Prod.nt_cut _ _ y ((cfg0.win 0).blk t).view.emb ((cfg0.win 1).blk t).view.emb (((cfg0.win 2).blk t).view.emb y)
      (fun k => Shape.idx_ext₂ (congrArg (· * 1408 + 1 * (y 0).val) a0) ((congrArg (· * 1024 + 1 * k.val) a1).trans (Prod.start _ _)))
      (fun k => Shape.idx_ext₂ (congrArg (· * 2816 + 1 * (y 1).val) b0) ((congrArg (· * 1024 + 1 * k.val) b1).trans (Prod.start _ _))))

/-- The array after the run. -/
theorem array : (dats m 0 c).arrAt 2 cfg0.N = G m c :=
  (dats m 0 c).arrAt_eq_of_cover 2 _ (fun t _ => wrote m c t) fun (i : S8448x2816.Idx) => by
    have h0 : (i 0).val < 8448 := (i 0).isLt
    have h1 : (i 1).val < 2816 := (i 1).isLt
    obtain ⟨t, e0, e1⟩ := onto ⟨(i 0).val / 1408, by omega⟩ ⟨(i 1).val / 2816, by omega⟩
    refine ⟨t, flush0_2 t, ?_⟩
    show i ∈ ((View.whole main_v0).slice (win0_2.rect t)).set
    rw [View.set_slice_whole, Rect.mem_set_unit]
    exact fun a => match a with
      | ⟨0, _⟩ => Prod.within 1408 e0 (by decide)
      | ⟨1, _⟩ => Prod.within 2816 e1 (by decide)

/-- The kernel's array is the reference's. -/
theorem equal : Cert.algebraic_DownDxIdeal_DownDxRefIdeal (hDownDxIdeal := Cert.DownDxIdeal.Gen.facts) (hDownDxRefIdeal := Cert.DownDxRefIdeal.Gen.facts) :=
  fun m g m' g' _ he => ⟨G m, (θ_run defs _ _).mono (fun r h c => ⟨(h c).1.trans (array m c), (h c).2⟩) (Value.run_blocks m g),
    (θ_run Cert.DownDxRefIdeal.defs _ _).mono (fun r h c => ⟨(h c).1.trans ((funext fun (i : S8448x2816.Idx) =>
        Prod.dot (φ₁ := .f32) (φ₂ := .f32) Cert.DownDxRefIdeal.dot_S8448x1024_S2816x1024_S8448x2816_1_1_0_0_n_n 1024 rfl rfl _ _ i (fun k => ix2 (i 0) k)
          (fun k => ix2 (i 1) k) (fun k => Shape.idx_ext₂ rfl rfl) (fun k => Shape.idx_ext₂ rfl rfl)).trans
      (congrArg₂ (Prod.nt (M := 8448) (N := 2816) (K := 1024)) (he c).1 (he c).2)), (h c).2⟩) (Cert.DownDxRefIdeal.Value.run m' g')⟩

/-- The frames of the kernel, of the ideal kernel and of the reference. -/
theorem frames : Cert.quiescent_DownDx (hDownDx := Cert.DownDx.Gen.facts) ∧ Cert.quiescent_DownDxIdeal (hDownDxIdeal := Cert.DownDxIdeal.Gen.facts)
    ∧ Cert.quiescent_DownDxRefIdeal (hDownDxRefIdeal := Cert.DownDxRefIdeal.Gen.facts) :=
  ⟨fun m g _ => Cert.DownDx.Gen.frame m g, fun m g _ => Cert.DownDxIdeal.Gen.frame m g, fun m g _ =>
    (θ_run Cert.DownDxRefIdeal.defs _ _).mono (fun r h => ⟨fun c => (h c).2, sem_eq_zero_of_no_sems (by decide) r.2⟩) (Cert.DownDxRefIdeal.Value.run m g)⟩

end Cert.DownDxIdeal.Plain

end
-- ==== Proof.OutDx.lean ====
module

public import proofs.«01_k».proof.Defs
public import proofs.«01_k».proof.Proof.Prod
public import proofs.«01_k».proof.Proof.Gen.OutDx.Frame
public import proofs.«01_k».proof.Proof.Gen.OutDxIdeal.Value
public import proofs.«01_k».proof.Proof.Gen.OutDxRefIdeal.Run

@[expose] public section

/-! The cotangent of the input of the output projection and of the first pointwise projection. -/

noncomputable section

namespace Cert.OutDxIdeal.Plain

open Cert.OutDxIdeal Cert.OutDxIdeal.Gen Idealize.ShloMosaic Idealize.ShloMosaic.ValueIdx Idealize.ShloMosaic.TcCoe

variable (m : (ℓ : Loc nD τ sig) → Buf (Elt Ideal) ℓ) (c : Dev nD)

/-- The product of the arguments. -/
abbrev G : Prod.Arr 8448 1024 := Prod.nt (M := 8448) (N := 1024) (K := 1024) (m ((c : Thread nD τ).loc main_arg0)) (m ((c : Thread nD τ).loc main_arg1))

/-- The windows move together. -/
theorem moves : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

/-- Every block of the result is some point's. -/
theorem onto : ∀ (p : Fin 6) (q : Fin 1), ∃ t : Fin cfg0.N, win0_2.index t (0 : Fin 2) = p.val ∧ win0_2.index t (1 : Fin 2) = q.val :=
  (by decide +kernel : ∀ (p : Fin 6) (q : Fin 1), ∃ t : Fin grid0.N, _)

/-- What a point writes. -/
theorem wrote (t : Fin cfg0.N) : (dats m 0 c).flushed 2 t = ((cfg0.win 2).blk t).view.read (Elt Ideal) (G m c) := by
  have hz : (![0, 0] : Fin 2 → Nat) = fun _ => 0 := funext fun a => by fin_cases a <;> rfl
  rw [Value.flushed2, out0_2, View.canon_unit_zero hz, View.ld_unit_zero (S := S1408x1024) hz, View.ld_unit_zero (S := S1024x1024) hz]
  obtain ⟨a0, a1, b0, b1⟩ := moves t
  exact funext fun (y : S1408x1024.Idx) => (Prod.mm (φ₁ := .bf16) (φ₂ := .bf16) dot_S1408x1024_S1024x1024_S1408x1024_1_1_0_0_n_n 1024 rfl rfl
      (iblk m c 0 t) (iblk m c 1 t) y (fun k => ix2 (y 0) k) (fun k => ix2 (y 1) k) (fun k => Shape.idx_ext₂ rfl rfl) (fun k => Shape.idx_ext₂ rfl rfl)).trans
    (Prod.nt_cut _ _ y ((cfg0.win 0).blk t).view.emb ((cfg0.win 1).blk t).view.emb (((cfg0.win 2).blk t).view.emb y)
      (fun k => Shape.idx_ext₂ (congrArg (· * 1408 + 1 * (y 0).val) a0) ((congrArg (· * 1024 + 1 * k.val) a1).trans (Prod.start _ _)))
      (fun k => Shape.idx_ext₂ (congrArg (· * 1024 + 1 * (y 1).val) b0) ((congrArg (· * 1024 + 1 * k.val) b1).trans (Prod.start _ _))))

/-- The array after the run. -/
theorem array : (dats m 0 c).arrAt 2 cfg0.N = G m c :=
  (dats m 0 c).arrAt_eq_of_cover 2 _ (fun t _ => wrote m c t) fun (i : S8448x1024.Idx) => by
    have h0 : (i 0).val < 8448 := (i 0).isLt
    have h1 : (i 1).val < 1024 := (i 1).isLt
    obtain ⟨t, e0, e1⟩ := onto ⟨(i 0).val / 1408, by omega⟩ ⟨(i 1).val / 1024, by omega⟩
    refine ⟨t, flush0_2 t, ?_⟩
    show i ∈ ((View.whole main_v0).slice (win0_2.rect t)).set
    rw [View.set_slice_whole, Rect.mem_set_unit]
    exact fun a => match a with
      | ⟨0, _⟩ => Prod.within 1408 e0 (by decide)
      | ⟨1, _⟩ => Prod.within 1024 e1 (by decide)

/-- The kernel's array is the reference's. -/
theorem equal : Cert.algebraic_OutDxIdeal_OutDxRefIdeal (hOutDxIdeal := Cert.OutDxIdeal.Gen.facts) (hOutDxRefIdeal := Cert.OutDxRefIdeal.Gen.facts) :=
  fun m g m' g' _ he => ⟨G m, (θ_run defs _ _).mono (fun r h c => ⟨(h c).1.trans (array m c), (h c).2⟩) (Value.run_blocks m g),
    (θ_run Cert.OutDxRefIdeal.defs _ _).mono (fun r h c => ⟨(h c).1.trans ((funext fun (i : S8448x1024.Idx) =>
        Prod.dot (φ₁ := .f32) (φ₂ := .f32) Cert.OutDxRefIdeal.dot_S8448x1024_S1024x1024_S8448x1024_1_1_0_0_n_n 1024 rfl rfl _ _ i (fun k => ix2 (i 0) k)
          (fun k => ix2 (i 1) k) (fun k => Shape.idx_ext₂ rfl rfl) (fun k => Shape.idx_ext₂ rfl rfl)).trans
      (congrArg₂ (Prod.nt (M := 8448) (N := 1024) (K := 1024)) (he c).1 (he c).2)), (h c).2⟩) (Cert.OutDxRefIdeal.Value.run m' g')⟩

/-- The frames of the kernel, of the ideal kernel and of the reference. -/
theorem frames : Cert.quiescent_OutDx (hOutDx := Cert.OutDx.Gen.facts) ∧ Cert.quiescent_OutDxIdeal (hOutDxIdeal := Cert.OutDxIdeal.Gen.facts)
    ∧ Cert.quiescent_OutDxRefIdeal (hOutDxRefIdeal := Cert.OutDxRefIdeal.Gen.facts) :=
  ⟨fun m g _ => Cert.OutDx.Gen.frame m g, fun m g _ => Cert.OutDxIdeal.Gen.frame m g, fun m g _ =>
    (θ_run Cert.OutDxRefIdeal.defs _ _).mono (fun r h => ⟨fun c => (h c).2, sem_eq_zero_of_no_sems (by decide) r.2⟩) (Cert.OutDxRefIdeal.Value.run m g)⟩

end Cert.OutDxIdeal.Plain

end
-- ==== Proof.PbDx.lean ====
module

public import proofs.«01_k».proof.Defs
public import proofs.«01_k».proof.Proof.Prod
public import proofs.«01_k».proof.Proof.Gen.PbDx.Frame
public import proofs.«01_k».proof.Proof.Gen.PbDxIdeal.Value
public import proofs.«01_k».proof.Proof.Gen.PbDxRefIdeal.Run

@[expose] public section

/-! The cotangent of the second pointwise projection's input. -/

noncomputable section

namespace Cert.PbDxIdeal.Plain

open Cert.PbDxIdeal Cert.PbDxIdeal.Gen Idealize.ShloMosaic Idealize.ShloMosaic.ValueIdx Idealize.ShloMosaic.TcCoe

variable (m : (ℓ : Loc nD τ sig) → Buf (Elt Ideal) ℓ) (c : Dev nD)

/-- The product of the arguments. -/
abbrev G : Prod.Arr 8448 2048 := Prod.nt (M := 8448) (N := 2048) (K := 1024) (m ((c : Thread nD τ).loc main_arg0)) (m ((c : Thread nD τ).loc main_arg1))

/-- The windows move together. -/
theorem moves : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

/-- Every block of the result is some point's. -/
theorem onto : ∀ (p : Fin 6) (q : Fin 2), ∃ t : Fin cfg0.N, win0_2.index t (0 : Fin 2) = p.val ∧ win0_2.index t (1 : Fin 2) = q.val :=
  (by decide +kernel : ∀ (p : Fin 6) (q : Fin 2), ∃ t : Fin grid0.N, _)

/-- What a point writes. -/
theorem wrote (t : Fin cfg0.N) : (dats m 0 c).flushed 2 t = ((cfg0.win 2).blk t).view.read (Elt Ideal) (G m c) := by
  have hz : (![0, 0] : Fin 2 → Nat) = fun _ => 0 := funext fun a => by fin_cases a <;> rfl
  rw [Value.flushed2, out0_2, View.canon_unit_zero hz, View.ld_unit_zero (S := S1408x1024) hz, View.ld_unit_zero (S := S1024x1024) hz]
  obtain ⟨a0, a1, b0, b1⟩ := moves t
  exact funext fun (y : S1408x1024.Idx) => (Prod.mm (φ₁ := .bf16) (φ₂ := .bf16) dot_S1408x1024_S1024x1024_S1408x1024_1_1_0_0_n_n 1024 rfl rfl
      (iblk m c 0 t) (iblk m c 1 t) y (fun k => ix2 (y 0) k) (fun k => ix2 (y 1) k) (fun k => Shape.idx_ext₂ rfl rfl) (fun k => Shape.idx_ext₂ rfl rfl)).trans
    (Prod.nt_cut _ _ y ((cfg0.win 0).blk t).view.emb ((cfg0.win 1).blk t).view.emb (((cfg0.win 2).blk t).view.emb y)
      (fun k => Shape.idx_ext₂ (congrArg (· * 1408 + 1 * (y 0).val) a0) ((congrArg (· * 1024 + 1 * k.val) a1).trans (Prod.start _ _)))
      (fun k => Shape.idx_ext₂ (congrArg (· * 1024 + 1 * (y 1).val) b0) ((congrArg (· * 1024 + 1 * k.val) b1).trans (Prod.start _ _))))

/-- The array after the run. -/
theorem array : (dats m 0 c).arrAt 2 cfg0.N = G m c :=
  (dats m 0 c).arrAt_eq_of_cover 2 _ (fun t _ => wrote m c t) fun (i : S8448x2048.Idx) => by
    have h0 : (i 0).val < 8448 := (i 0).isLt
    have h1 : (i 1).val < 2048 := (i 1).isLt
    obtain ⟨t, e0, e1⟩ := onto ⟨(i 0).val / 1408, by omega⟩ ⟨(i 1).val / 1024, by omega⟩
    refine ⟨t, flush0_2 t, ?_⟩
    show i ∈ ((View.whole main_v0).slice (win0_2.rect t)).set
    rw [View.set_slice_whole, Rect.mem_set_unit]
    exact fun a => match a with
      | ⟨0, _⟩ => Prod.within 1408 e0 (by decide)
      | ⟨1, _⟩ => Prod.within 1024 e1 (by decide)

/-- The kernel's array is the reference's. -/
theorem equal : Cert.algebraic_PbDxIdeal_PbDxRefIdeal (hPbDxIdeal := Cert.PbDxIdeal.Gen.facts) (hPbDxRefIdeal := Cert.PbDxRefIdeal.Gen.facts) :=
  fun m g m' g' _ he => ⟨G m, (θ_run defs _ _).mono (fun r h c => ⟨(h c).1.trans (array m c), (h c).2⟩) (Value.run_blocks m g),
    (θ_run Cert.PbDxRefIdeal.defs _ _).mono (fun r h c => ⟨(h c).1.trans ((funext fun (i : S8448x2048.Idx) =>
        Prod.dot (φ₁ := .f32) (φ₂ := .f32) Cert.PbDxRefIdeal.dot_S8448x1024_S2048x1024_S8448x2048_1_1_0_0_n_n 1024 rfl rfl _ _ i (fun k => ix2 (i 0) k)
          (fun k => ix2 (i 1) k) (fun k => Shape.idx_ext₂ rfl rfl) (fun k => Shape.idx_ext₂ rfl rfl)).trans
      (congrArg₂ (Prod.nt (M := 8448) (N := 2048) (K := 1024)) (he c).1 (he c).2)), (h c).2⟩) (Cert.PbDxRefIdeal.Value.run m' g')⟩

/-- The frames of the kernel, of the ideal kernel and of the reference. -/
theorem frames : Cert.quiescent_PbDx (hPbDx := Cert.PbDx.Gen.facts) ∧ Cert.quiescent_PbDxIdeal (hPbDxIdeal := Cert.PbDxIdeal.Gen.facts)
    ∧ Cert.quiescent_PbDxRefIdeal (hPbDxRefIdeal := Cert.PbDxRefIdeal.Gen.facts) :=
  ⟨fun m g _ => Cert.PbDx.Gen.frame m g, fun m g _ => Cert.PbDxIdeal.Gen.frame m g, fun m g _ =>
    (θ_run Cert.PbDxRefIdeal.defs _ _).mono (fun r h => ⟨fun c => (h c).2, sem_eq_zero_of_no_sems (by decide) r.2⟩) (Cert.PbDxRefIdeal.Value.run m g)⟩

end Cert.PbDxIdeal.Plain

end
-- ==== Proof.InFw.lean ====
module

public import proofs.«01_k».proof.Defs
public import proofs.«01_k».proof.Proof.Prod
public import proofs.«01_k».proof.Proof.Gen.InFw.Frame
public import proofs.«01_k».proof.Proof.Gen.InFwIdeal.Value
public import proofs.«01_k».proof.Proof.Gen.InFwRefIdeal.Run

@[expose] public section

/-! The input projection: the product of the activations and the permuted, padded weight. -/

noncomputable section

namespace Cert.InFwIdeal.Plain

open Cert.InFwIdeal Cert.InFwIdeal.Gen Idealize.ShloMosaic Idealize.ShloMosaic.ValueIdx Idealize.ShloMosaic.TcCoe

variable (m : (ℓ : Loc nD τ sig) → Buf (Elt Ideal) ℓ) (c : Dev nD)

/-- The product of the arguments. -/
abbrev G : Prod.Arr 8448 10368 := Prod.nn (M := 8448) (N := 10368) (K := 1024) (m ((c : Thread nD τ).loc main_arg0)) (m ((c : Thread nD τ).loc main_arg1))

/-- The windows move together. -/
theorem moves : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every block of the result is some point's. -/
theorem onto : ∀ (p : Fin 6) (q : Fin 3), ∃ t : Fin cfg0.N, win0_2.index t (0 : Fin 2) = p.val ∧ win0_2.index t (1 : Fin 2) = q.val :=
  (by decide +kernel : ∀ (p : Fin 6) (q : Fin 3), ∃ t : Fin grid0.N, _)

/-- What a point writes. -/
theorem wrote (t : Fin cfg0.N) : (dats m 0 c).flushed 2 t = ((cfg0.win 2).blk t).view.read (Elt Ideal) (G m c) := by
  have hz : (![0, 0] : Fin 2 → Nat) = fun _ => 0 := funext fun a => by fin_cases a <;> rfl
  rw [Value.flushed2, out0_2, View.canon_unit_zero hz, View.ld_unit_zero (S := S1408x1024) hz, View.ld_unit_zero (S := S1024x3456) hz]
  obtain ⟨a0, a1, b0, b1⟩ := moves t
  exact funext fun (y : S1408x3456.Idx) => (Prod.mm (φ₁ := .bf16) (φ₂ := .bf16) dot_S1408x1024_S1024x3456_S1408x3456_1_0_0_1_n_n 1024 rfl rfl
      (iblk m c 0 t) (iblk m c 1 t) y (fun k => ix2 (y 0) k) (fun k => ix2 k (y 1)) (fun k => Shape.idx_ext₂ rfl rfl) (fun k => Shape.idx_ext₂ rfl rfl)).trans
    (Prod.nn_cut _ _ y ((cfg0.win 0).blk t).view.emb ((cfg0.win 1).blk t).view.emb (((cfg0.win 2).blk t).view.emb y)
      (fun k => Shape.idx_ext₂ (congrArg (· * 1408 + 1 * (y 0).val) a0) ((congrArg (· * 1024 + 1 * k.val) a1).trans (Prod.start _ _)))
      (fun k => Shape.idx_ext₂ ((congrArg (· * 1024 + 1 * k.val) b0).trans (Prod.start _ _)) (congrArg (· * 3456 + 1 * (y 1).val) b1)))

/-- The array after the run. -/
theorem array : (dats m 0 c).arrAt 2 cfg0.N = G m c :=
  (dats m 0 c).arrAt_eq_of_cover 2 _ (fun t _ => wrote m c t) fun (i : S8448x10368.Idx) => by
    have h0 : (i 0).val < 8448 := (i 0).isLt
    have h1 : (i 1).val < 10368 := (i 1).isLt
    obtain ⟨t, e0, e1⟩ := onto ⟨(i 0).val / 1408, by omega⟩ ⟨(i 1).val / 3456, by omega⟩
    refine ⟨t, flush0_2 t, ?_⟩
    show i ∈ ((View.whole main_v0).slice (win0_2.rect t)).set
    rw [View.set_slice_whole, Rect.mem_set_unit]
    exact fun a => match a with
      | ⟨0, _⟩ => Prod.within 1408 e0 (by decide)
      | ⟨1, _⟩ => Prod.within 3456 e1 (by decide)

/-- The kernel's array is the reference's. -/
theorem equal : Cert.algebraic_InFwIdeal_InFwRefIdeal (hInFwIdeal := Cert.InFwIdeal.Gen.facts) (hInFwRefIdeal := Cert.InFwRefIdeal.Gen.facts) :=
  fun m g m' g' _ he => ⟨G m, (θ_run defs _ _).mono (fun r h c => ⟨(h c).1.trans (array m c), (h c).2⟩) (Value.run_blocks m g),
    (θ_run Cert.InFwRefIdeal.defs _ _).mono (fun r h c => ⟨(h c).1.trans ((funext fun (i : S8448x10368.Idx) =>
        Prod.dot (φ₁ := .f32) (φ₂ := .f32) Cert.InFwRefIdeal.dot_S8448x1024_S1024x10368_S8448x10368_1_0_0_1_n_n 1024 rfl rfl _ _ i (fun k => ix2 (i 0) k)
          (fun k => ix2 k (i 1)) (fun k => Shape.idx_ext₂ rfl rfl) (fun k => Shape.idx_ext₂ rfl rfl)).trans
      (congrArg₂ (Prod.nn (M := 8448) (N := 10368) (K := 1024)) (he c).1 (he c).2)), (h c).2⟩) (Cert.InFwRefIdeal.Value.run m' g')⟩

/-- The frames of the kernel, of the ideal kernel and of the reference. -/
theorem frames : Cert.quiescent_InFw (hInFw := Cert.InFw.Gen.facts) ∧ Cert.quiescent_InFwIdeal (hInFwIdeal := Cert.InFwIdeal.Gen.facts)
    ∧ Cert.quiescent_InFwRefIdeal (hInFwRefIdeal := Cert.InFwRefIdeal.Gen.facts) :=
  ⟨fun m g _ => Cert.InFw.Gen.frame m g, fun m g _ => Cert.InFwIdeal.Gen.frame m g, fun m g _ =>
    (θ_run Cert.InFwRefIdeal.defs _ _).mono (fun r h => ⟨fun c => (h c).2, sem_eq_zero_of_no_sems (by decide) r.2⟩) (Cert.InFwRefIdeal.Value.run m g)⟩

end Cert.InFwIdeal.Plain

end
-- ==== Proof.UpFw.lean ====
module

public import proofs.«01_k».proof.Defs
public import proofs.«01_k».proof.Proof.Prod
public import proofs.«01_k».proof.Proof.Gen.UpFw.Frame
public import proofs.«01_k».proof.Proof.Gen.UpFwIdeal.Value
public import proofs.«01_k».proof.Proof.Gen.UpFwRefIdeal.Run

@[expose] public section

/-! The gate's and the up projection's product. -/

noncomputable section

namespace Cert.UpFwIdeal.Plain

open Cert.UpFwIdeal Cert.UpFwIdeal.Gen Idealize.ShloMosaic Idealize.ShloMosaic.ValueIdx Idealize.ShloMosaic.TcCoe

variable (m : (ℓ : Loc nD τ sig) → Buf (Elt Ideal) ℓ) (c : Dev nD)

/-- The product of the arguments. -/
abbrev G : Prod.Arr 8448 2816 := Prod.nn (M := 8448) (N := 2816) (K := 1024) (m ((c : Thread nD τ).loc main_arg0)) (m ((c : Thread nD τ).loc main_arg1))

/-- The windows move together. -/
theorem moves : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every block of the result is some point's. -/
theorem onto : ∀ (p : Fin 6) (q : Fin 1), ∃ t : Fin cfg0.N, win0_2.index t (0 : Fin 2) = p.val ∧ win0_2.index t (1 : Fin 2) = q.val :=
  (by decide +kernel : ∀ (p : Fin 6) (q : Fin 1), ∃ t : Fin grid0.N, _)

/-- What a point writes. -/
theorem wrote (t : Fin cfg0.N) : (dats m 0 c).flushed 2 t = ((cfg0.win 2).blk t).view.read (Elt Ideal) (G m c) := by
  have hz : (![0, 0] : Fin 2 → Nat) = fun _ => 0 := funext fun a => by fin_cases a <;> rfl
  rw [Value.flushed2, out0_2, View.canon_unit_zero hz, View.ld_unit_zero (S := S1408x1024) hz, View.ld_unit_zero (S := S1024x2816) hz]
  obtain ⟨a0, a1, b0, b1⟩ := moves t
  exact funext fun (y : S1408x2816.Idx) => (Prod.mm (φ₁ := .bf16) (φ₂ := .bf16) dot_S1408x1024_S1024x2816_S1408x2816_1_0_0_1_n_n 1024 rfl rfl
      (iblk m c 0 t) (iblk m c 1 t) y (fun k => ix2 (y 0) k) (fun k => ix2 k (y 1)) (fun k => Shape.idx_ext₂ rfl rfl) (fun k => Shape.idx_ext₂ rfl rfl)).trans
    (Prod.nn_cut _ _ y ((cfg0.win 0).blk t).view.emb ((cfg0.win 1).blk t).view.emb (((cfg0.win 2).blk t).view.emb y)
      (fun k => Shape.idx_ext₂ (congrArg (· * 1408 + 1 * (y 0).val) a0) ((congrArg (· * 1024 + 1 * k.val) a1).trans (Prod.start _ _)))
      (fun k => Shape.idx_ext₂ ((congrArg (· * 1024 + 1 * k.val) b0).trans (Prod.start _ _)) (congrArg (· * 2816 + 1 * (y 1).val) b1)))

/-- The array after the run. -/
theorem array : (dats m 0 c).arrAt 2 cfg0.N = G m c :=
  (dats m 0 c).arrAt_eq_of_cover 2 _ (fun t _ => wrote m c t) fun (i : S8448x2816.Idx) => by
    have h0 : (i 0).val < 8448 := (i 0).isLt
    have h1 : (i 1).val < 2816 := (i 1).isLt
    obtain ⟨t, e0, e1⟩ := onto ⟨(i 0).val / 1408, by omega⟩ ⟨(i 1).val / 2816, by omega⟩
    refine ⟨t, flush0_2 t, ?_⟩
    show i ∈ ((View.whole main_v0).slice (win0_2.rect t)).set
    rw [View.set_slice_whole, Rect.mem_set_unit]
    exact fun a => match a with
      | ⟨0, _⟩ => Prod.within 1408 e0 (by decide)
      | ⟨1, _⟩ => Prod.within 2816 e1 (by decide)

/-- The kernel's array is the reference's. -/
theorem equal : Cert.algebraic_UpFwIdeal_UpFwRefIdeal (hUpFwIdeal := Cert.UpFwIdeal.Gen.facts) (hUpFwRefIdeal := Cert.UpFwRefIdeal.Gen.facts) :=
  fun m g m' g' _ he => ⟨G m, (θ_run defs _ _).mono (fun r h c => ⟨(h c).1.trans (array m c), (h c).2⟩) (Value.run_blocks m g),
    (θ_run Cert.UpFwRefIdeal.defs _ _).mono (fun r h c => ⟨(h c).1.trans ((funext fun (i : S8448x2816.Idx) =>
        Prod.dot (φ₁ := .f32) (φ₂ := .f32) Cert.UpFwRefIdeal.dot_S8448x1024_S1024x2816_S8448x2816_1_0_0_1_n_n 1024 rfl rfl _ _ i (fun k => ix2 (i 0) k)
          (fun k => ix2 k (i 1)) (fun k => Shape.idx_ext₂ rfl rfl) (fun k => Shape.idx_ext₂ rfl rfl)).trans
      (congrArg₂ (Prod.nn (M := 8448) (N := 2816) (K := 1024)) (he c).1 (he c).2)), (h c).2⟩) (Cert.UpFwRefIdeal.Value.run m' g')⟩

/-- The frames of the kernel, of the ideal kernel and of the reference. -/
theorem frames : Cert.quiescent_UpFw (hUpFw := Cert.UpFw.Gen.facts) ∧ Cert.quiescent_UpFwIdeal (hUpFwIdeal := Cert.UpFwIdeal.Gen.facts)
    ∧ Cert.quiescent_UpFwRefIdeal (hUpFwRefIdeal := Cert.UpFwRefIdeal.Gen.facts) :=
  ⟨fun m g _ => Cert.UpFw.Gen.frame m g, fun m g _ => Cert.UpFwIdeal.Gen.frame m g, fun m g _ =>
    (θ_run Cert.UpFwRefIdeal.defs _ _).mono (fun r h => ⟨fun c => (h c).2, sem_eq_zero_of_no_sems (by decide) r.2⟩) (Cert.UpFwRefIdeal.Value.run m g)⟩

end Cert.UpFwIdeal.Plain

end
-- ==== Proof.DownFw.lean ====
module

public import proofs.«01_k».proof.Defs
public import proofs.«01_k».proof.Proof.Prod
public import proofs.«01_k».proof.Proof.Gen.DownFw.Frame
public import proofs.«01_k».proof.Proof.Gen.DownFwIdeal.Value
public import proofs.«01_k».proof.Proof.Gen.DownFwRefIdeal.Run

@[expose] public section

/-! The down projection of the activation. -/

noncomputable section

namespace Cert.DownFwIdeal.Plain

open Cert.DownFwIdeal Cert.DownFwIdeal.Gen Idealize.ShloMosaic Idealize.ShloMosaic.ValueIdx Idealize.ShloMosaic.TcCoe

variable (m : (ℓ : Loc nD τ sig) → Buf (Elt Ideal) ℓ) (c : Dev nD)

/-- The activation. -/
abbrev A : Prod.Arr 8448 2816 := fun i => Prod.act (m ((c : Thread nD τ).loc main_arg0) i) (m ((c : Thread nD τ).loc main_arg1) i)

/-- The product of the activation and the weight. -/
abbrev G : Prod.Arr 8448 1024 := Prod.nns (M := 8448) (N := 1024) (K := 2816) (A m c) (m ((c : Thread nD τ).loc main_arg2))

/-- The windows move together. -/
theorem moves : ∀ t u : Fin cfg0.N, u.val / 2 = t.val / 2 → win0_0.index u (0 : Fin 2) = win0_3.index t (0 : Fin 2) ∧ win0_0.index u (1 : Fin 2) = u.val % 2
    ∧ win0_1.index u (0 : Fin 2) = win0_3.index t (0 : Fin 2) ∧ win0_1.index u (1 : Fin 2) = u.val % 2
    ∧ win0_2.index u (0 : Fin 2) = u.val % 2 ∧ win0_2.index u (1 : Fin 2) = win0_3.index t (1 : Fin 2) :=
  (by decide +kernel : ∀ t u : Fin grid0.N, _)

theorem hz : (![0, 0] : Fin 2 → Nat) = fun _ => 0 := funext fun a => by fin_cases a <;> rfl

/-- What a point adds: the product of the activation and the weight. -/
theorem part (x y : FVec Ideal S768x1408 .bf16) (z : FVec Ideal S1408x1024 .bf16) : k0_pay1 (F := Ideal) x y z
    = matmul (φ₁ := .bf16) (φ₂ := .bf16) dot_S768x1408_S1408x1024_S768x1024_1_0_0_1_n_n none (fun i => Prod.act (x i) (y i)) z (constant S768x1024 .f32 0x00000000#32) :=
  congrArg (fun a => matmul (F := Ideal) (φ₁ := .bf16) (φ₂ := .bf16) dot_S768x1408_S1408x1024_S768x1024_1_0_0_1_n_n none a z (constant S768x1024 .f32 0x00000000#32))
    (funext fun i => Prod.act_kernel bitsLt_bf16_f32 x y i)

/-- What the first point of a run leaves in the accumulator. -/
theorem first (t : Fin cfg0.N) (h : t.val % 2 = 0) : (outsAt0 m c t.val t.isLt).2 = k0_pay1 (iblk m c 0 t) (iblk m c 1 t) (iblk m c 2 t) := by
  rw [outsAt0_A m c t h (by omega) (by omega)]
  dsimp only
  unfold sout0_A_0
  rw [View.read_writes_eq_canon _ _ _ (fun y => scover0_A_0 _ _ _ _ _ _ _ _ _ _ _ _ _ _ _ _ _ _ y)]
  unfold kernelRun0_A
  dsimp only
  rw [View.canon_unit_zero hz]
  unfold k0_pay2
  simp only [View.readAt_eq_ld, (hs0_0 t).read_unread, (hs0_1 t).read_unread, (hs0_2 t).read_unread, View.ld_unit_zero (S := S768x1408) hz, View.ld_unit_zero (S := S1408x1024) hz, View.ld_unit_zero (S := S768x1024) hz, shapeCast_self]

/-- What a later point leaves there. -/
theorem later (n : ℕ) (h : n < cfg0.N) (h' : n + 1 < cfg0.N) (hn : (n + 1) % 2 ≠ 0) :
    (outsAt0 m c (n + 1) h').2 = addf (outsAt0 m c n h).2 (k0_pay1 (iblk m c 0 ⟨n + 1, h'⟩) (iblk m c 1 ⟨n + 1, h'⟩) (iblk m c 2 ⟨n + 1, h'⟩)) := by
  rw [outsAt0_B m c ⟨n + 1, h'⟩ hn (by dsimp only; omega) (by dsimp only; omega)]
  dsimp only
  unfold sout0_B_0
  rw [View.read_writes_eq_canon _ _ _ (fun y => scover0_B_0 _ _ _ _ _ _ _ _ _ _ _ _ _ _ _ _ _ _ _ y)]
  unfold kernelRun0_B
  dsimp only
  sl_unfold_words
  rw [View.canon_unit_zero hz]
  unfold k0_pay3
  simp only [View.readAt_eq_ld, (hs0_0 _).read_unread, (hs0_1 _).read_unread, (hs0_2 _).read_unread, (Memref.isWhole_whole _).read_unread, View.ld_unit_zero (S := S768x1408) hz, View.ld_unit_zero (S := S1408x1024) hz,
    View.ld_unit_zero (S := S768x1024) hz, shapeCast_self]
  rfl

/-- What the last point of a run writes back is the accumulator. -/
theorem last (t : Fin cfg0.N) (h : t.val % 2 = 1) : (outsAt0 m c t.val t.isLt).1 = k0_pay4 (outsAt0 m c t.val t.isLt).2 := by
  rw [outsAt0_B m c t (by omega) h h]
  dsimp only
  unfold out0_B_3 sout0_B_0
  rw [View.read_writes_eq_canon _ _ _ (fun y => cover0_B_3 _ _ _ _ _ _ _ _ _ _ _ _ _ _ _ _ _ _ _ y), View.read_writes_eq_canon _ _ _ (fun y => scover0_B_0 _ _ _ _ _ _ _ _ _ _ _ _ _ _ _ _ _ _ _ y)]
  unfold kernelRun0_B
  dsimp only
  sl_unfold_words
  rw [View.canon_unit_zero hz, View.canon_unit_zero hz, View.readCov_unit_zero _ hz]

set_option maxRecDepth 65536 in
/-- What a run of points writes. -/
theorem wrote (t : Fin cfg0.N) (h : t.val % 2 = 1) : (dats m 0 c).flushed 3 t = ((cfg0.win 3).blk t).view.read (Elt Ideal) (G m c) := by
  rw [Value.flushed3, last m c t h]
  suffices hs : ∀ y : S768x1024.Idx, (outsAt0 m c t.val t.isLt).2 y = G m c (((cfg0.win 3).blk t).view.emb y) by
    generalize (outsAt0 m c t.val t.isLt).2 = acc at hs
    exact funext hs
  intro y
  refine Prod.run (T := cfg0.N) (J := 2) (K' := 1408) (K := 2816) (by decide) (by norm_num) (fun n h => (outsAt0 m c n h).2 y)
    (fun n h => k0_pay1 (F := Ideal) (iblk m c 0 ⟨n, h⟩) (iblk m c 1 ⟨n, h⟩) (iblk m c 2 ⟨n, h⟩) y) (Prod.nnk (M := 8448) (N := 1024) (K := 2816) (A m c) (m ((c : Thread nD τ).loc main_arg2))
      (((cfg0.win 3).blk t).view.emb y)) (fun n h hn => congrFun (first m c ⟨n, h⟩ hn) y)
    (fun n h h' hn => congrFun (later m c n h h' hn) y) t.val t.isLt h fun u hu hr => ?_
  obtain ⟨a0, a1, b0, b1, c0, c1⟩ := moves t ⟨u, hu⟩ hr
  exact (congrFun (part _ _ _) y).trans ((Prod.mm (φ₁ := .bf16) (φ₂ := .bf16) dot_S768x1408_S1408x1024_S768x1024_1_0_0_1_n_n 1408 rfl rfl
      (fun i => Prod.act (iblk m c 0 ⟨u, hu⟩ i) (iblk m c 1 ⟨u, hu⟩ i)) (iblk m c 2 ⟨u, hu⟩) y
      (fun k => ix2 (y 0) k) (fun k => ix2 k (y 1)) (fun k => Shape.idx_ext₂ rfl rfl) (fun k => Shape.idx_ext₂ rfl rfl)).trans
    (Finset.sum_congr rfl fun k _ => congrArg₂ (· * ·)
      (congrArg₂ Prod.act
        (congrArg (m ((c : Thread nD τ).loc main_arg0)) (Shape.idx_ext₂ (congrArg (· * 768 + 1 * (y 0).val) a0) (Prod.number 1408 k.val a1)))
        (congrArg (m ((c : Thread nD τ).loc main_arg1)) (Shape.idx_ext₂ (congrArg (· * 768 + 1 * (y 0).val) b0) (Prod.number 1408 k.val b1))))
      (congrArg (m ((c : Thread nD τ).loc main_arg2)) (Shape.idx_ext₂ (Prod.number 1408 k.val c0) (congrArg (· * 1024 + 1 * (y 1).val) c1)))))

/-- The array after the run. -/
theorem array : (dats m 0 c).arrAt 3 cfg0.N = G m c :=
  (dats m 0 c).arrAt_eq_of_cover 3 _ (fun t h => wrote m c t ((flush0_3 t).mp h)) fun (i : S8448x1024.Idx) =>
    (Value.covered_iff3 i).mpr ⟨Nat.zero_le _, (i 0).isLt, Nat.zero_le _, (i 1).isLt⟩

/-- The reference's product. -/
theorem reference (x : FVec Ideal S8448x2816 .f32) (y : FVec Ideal S2816x1024 .f32) (i : S8448x1024.Idx) :
    Host.dotGeneral Cert.DownFwRefIdeal.dot_S8448x2816_S2816x1024_S8448x1024_1_0_0_1_n_n none x y i = Prod.nns (M := 8448) (N := 1024) (K := 2816) x y i :=
  Prod.dot (φ₁ := .f32) (φ₂ := .f32) Cert.DownFwRefIdeal.dot_S8448x2816_S2816x1024_S8448x1024_1_0_0_1_n_n 2816 rfl rfl x y i (fun k => ix2 (i 0) k)
    (fun k => ix2 k (i 1)) (fun k => Shape.idx_ext₂ rfl rfl) (fun k => Shape.idx_ext₂ rfl rfl)

/-- The sum is the arguments'. -/
theorem same (x x' y y' : FVec Ideal S8448x2816 .bf16) (z z' : FVec Ideal S2816x1024 .bf16) (hx : x' = x) (hy : y' = y) (hz : z' = z) :
    Prod.nns (M := 8448) (N := 1024) (K := 2816) (fun i => Prod.act (x' i) (y' i)) z' = Prod.nns (fun i => Prod.act (x i) (y i)) z := by
  rw [hx, hy, hz]

/-- The kernel's array is the reference's. -/
theorem equal : Cert.algebraic_DownFwIdeal_DownFwRefIdeal (hDownFwIdeal := Cert.DownFwIdeal.Gen.facts) (hDownFwRefIdeal := Cert.DownFwRefIdeal.Gen.facts) :=
  fun m g m' g' _ he => ⟨G m, (θ_run defs _ _).mono (fun r h c => ⟨(h c).1.trans (array m c), (h c).2⟩) (Value.run_blocks m g),
    (θ_run Cert.DownFwRefIdeal.defs _ _).mono (fun r h c => ⟨(h c).1.trans ((funext fun (i : S8448x1024.Idx) => reference _ _ i).trans
      ((congrArg (fun a => Prod.nns (M := 8448) (N := 1024) (K := 2816) a (m' ((c.tc : Thread Cert.DownFwRefIdeal.nD Cert.DownFwRefIdeal.τ).loc Cert.DownFwRefIdeal.main_arg2)))
        (funext fun i => Prod.act_host bitsLt_bf16_f32 _ Cert.DownFwRefIdeal.Gen.facts₀.bcast_S_S8448x2816 _ _ i)).trans
        (same _ _ _ _ _ _ (he c).1 (he c).2.1 (he c).2.2))), (h c).2⟩) (Cert.DownFwRefIdeal.Value.run m' g')⟩

/-- The frames of the kernel, of the ideal kernel and of the reference. -/
theorem frames : Cert.quiescent_DownFw (hDownFw := Cert.DownFw.Gen.facts) ∧ Cert.quiescent_DownFwIdeal (hDownFwIdeal := Cert.DownFwIdeal.Gen.facts)
    ∧ Cert.quiescent_DownFwRefIdeal (hDownFwRefIdeal := Cert.DownFwRefIdeal.Gen.facts) :=
  ⟨fun m g _ => Cert.DownFw.Gen.frame m g, fun m g _ => Cert.DownFwIdeal.Gen.frame m g, fun m g _ =>
    (θ_run Cert.DownFwRefIdeal.defs _ _).mono (fun r h => ⟨fun c => (h c).2, sem_eq_zero_of_no_sems (by decide) r.2⟩) (Cert.DownFwRefIdeal.Value.run m g)⟩

end Cert.DownFwIdeal.Plain

end
-- ==== Proof.OutFw.lean ====
module

public import proofs.«01_k».proof.Defs
public import proofs.«01_k».proof.Proof.Prod
public import proofs.«01_k».proof.Proof.Gen.OutFw.Frame
public import proofs.«01_k».proof.Proof.Gen.OutFwIdeal.Value
public import proofs.«01_k».proof.Proof.Gen.OutFwRefIdeal.Run

@[expose] public section

/-! The product of the output projection and of the first pointwise projection. -/

noncomputable section

namespace Cert.OutFwIdeal.Plain

open Cert.OutFwIdeal Cert.OutFwIdeal.Gen Idealize.ShloMosaic Idealize.ShloMosaic.ValueIdx Idealize.ShloMosaic.TcCoe

variable (m : (ℓ : Loc nD τ sig) → Buf (Elt Ideal) ℓ) (c : Dev nD)

/-- The product of the arguments. -/
abbrev G : Prod.Arr 8448 1024 := Prod.nn (M := 8448) (N := 1024) (K := 1024) (m ((c : Thread nD τ).loc main_arg0)) (m ((c : Thread nD τ).loc main_arg1))

/-- The windows move together. -/
theorem moves : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every block of the result is some point's. -/
theorem onto : ∀ (p : Fin 6) (q : Fin 1), ∃ t : Fin cfg0.N, win0_2.index t (0 : Fin 2) = p.val ∧ win0_2.index t (1 : Fin 2) = q.val :=
  (by decide +kernel : ∀ (p : Fin 6) (q : Fin 1), ∃ t : Fin grid0.N, _)

/-- What a point writes. -/
theorem wrote (t : Fin cfg0.N) : (dats m 0 c).flushed 2 t = ((cfg0.win 2).blk t).view.read (Elt Ideal) (G m c) := by
  have hz : (![0, 0] : Fin 2 → Nat) = fun _ => 0 := funext fun a => by fin_cases a <;> rfl
  rw [Value.flushed2, out0_2, View.canon_unit_zero hz, View.ld_unit_zero (S := S1408x1024) hz, View.ld_unit_zero (S := S1024x1024) hz]
  obtain ⟨a0, a1, b0, b1⟩ := moves t
  exact funext fun (y : S1408x1024.Idx) => (Prod.mm (φ₁ := .bf16) (φ₂ := .bf16) dot_S1408x1024_S1024x1024_S1408x1024_1_0_0_1_n_n 1024 rfl rfl
      (iblk m c 0 t) (iblk m c 1 t) y (fun k => ix2 (y 0) k) (fun k => ix2 k (y 1)) (fun k => Shape.idx_ext₂ rfl rfl) (fun k => Shape.idx_ext₂ rfl rfl)).trans
    (Prod.nn_cut _ _ y ((cfg0.win 0).blk t).view.emb ((cfg0.win 1).blk t).view.emb (((cfg0.win 2).blk t).view.emb y)
      (fun k => Shape.idx_ext₂ (congrArg (· * 1408 + 1 * (y 0).val) a0) ((congrArg (· * 1024 + 1 * k.val) a1).trans (Prod.start _ _)))
      (fun k => Shape.idx_ext₂ ((congrArg (· * 1024 + 1 * k.val) b0).trans (Prod.start _ _)) (congrArg (· * 1024 + 1 * (y 1).val) b1)))

/-- The array after the run. -/
theorem array : (dats m 0 c).arrAt 2 cfg0.N = G m c :=
  (dats m 0 c).arrAt_eq_of_cover 2 _ (fun t _ => wrote m c t) fun (i : S8448x1024.Idx) => by
    have h0 : (i 0).val < 8448 := (i 0).isLt
    have h1 : (i 1).val < 1024 := (i 1).isLt
    obtain ⟨t, e0, e1⟩ := onto ⟨(i 0).val / 1408, by omega⟩ ⟨(i 1).val / 1024, by omega⟩
    refine ⟨t, flush0_2 t, ?_⟩
    show i ∈ ((View.whole main_v0).slice (win0_2.rect t)).set
    rw [View.set_slice_whole, Rect.mem_set_unit]
    exact fun a => match a with
      | ⟨0, _⟩ => Prod.within 1408 e0 (by decide)
      | ⟨1, _⟩ => Prod.within 1024 e1 (by decide)

/-- The kernel's array is the reference's. -/
theorem equal : Cert.algebraic_OutFwIdeal_OutFwRefIdeal (hOutFwIdeal := Cert.OutFwIdeal.Gen.facts) (hOutFwRefIdeal := Cert.OutFwRefIdeal.Gen.facts) :=
  fun m g m' g' _ he => ⟨G m, (θ_run defs _ _).mono (fun r h c => ⟨(h c).1.trans (array m c), (h c).2⟩) (Value.run_blocks m g),
    (θ_run Cert.OutFwRefIdeal.defs _ _).mono (fun r h c => ⟨(h c).1.trans ((funext fun (i : S8448x1024.Idx) =>
        Prod.dot (φ₁ := .f32) (φ₂ := .f32) Cert.OutFwRefIdeal.dot_S8448x1024_S1024x1024_S8448x1024_1_0_0_1_n_n 1024 rfl rfl _ _ i (fun k => ix2 (i 0) k)
          (fun k => ix2 k (i 1)) (fun k => Shape.idx_ext₂ rfl rfl) (fun k => Shape.idx_ext₂ rfl rfl)).trans
      (congrArg₂ (Prod.nn (M := 8448) (N := 1024) (K := 1024)) (he c).1 (he c).2)), (h c).2⟩) (Cert.OutFwRefIdeal.Value.run m' g')⟩

/-- The frames of the kernel, of the ideal kernel and of the reference. -/
theorem frames : Cert.quiescent_OutFw (hOutFw := Cert.OutFw.Gen.facts) ∧ Cert.quiescent_OutFwIdeal (hOutFwIdeal := Cert.OutFwIdeal.Gen.facts)
    ∧ Cert.quiescent_OutFwRefIdeal (hOutFwRefIdeal := Cert.OutFwRefIdeal.Gen.facts) :=
  ⟨fun m g _ => Cert.OutFw.Gen.frame m g, fun m g _ => Cert.OutFwIdeal.Gen.frame m g, fun m g _ =>
    (θ_run Cert.OutFwRefIdeal.defs _ _).mono (fun r h => ⟨fun c => (h c).2, sem_eq_zero_of_no_sems (by decide) r.2⟩) (Cert.OutFwRefIdeal.Value.run m g)⟩

end Cert.OutFwIdeal.Plain

end
-- ==== Proof.PbFw.lean ====
module

public import proofs.«01_k».proof.Defs
public import proofs.«01_k».proof.Proof.Prod
public import proofs.«01_k».proof.Proof.Gen.PbFw.Frame
public import proofs.«01_k».proof.Proof.Gen.PbFwIdeal.Value
public import proofs.«01_k».proof.Proof.Gen.PbFwRefIdeal.Run

@[expose] public section

/-! The second pointwise projection's product. -/

noncomputable section

namespace Cert.PbFwIdeal.Plain

open Cert.PbFwIdeal Cert.PbFwIdeal.Gen Idealize.ShloMosaic Idealize.ShloMosaic.ValueIdx Idealize.ShloMosaic.TcCoe

variable (m : (ℓ : Loc nD τ sig) → Buf (Elt Ideal) ℓ) (c : Dev nD)

/-- The product of the arguments. -/
abbrev G : Prod.Arr 8448 1024 := Prod.nn (M := 8448) (N := 1024) (K := 2048) (m ((c : Thread nD τ).loc main_arg0)) (m ((c : Thread nD τ).loc main_arg1))

/-- The windows move together. -/
theorem moves : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every block of the result is some point's. -/
theorem onto : ∀ (p : Fin 6) (q : Fin 1), ∃ t : Fin cfg0.N, win0_2.index t (0 : Fin 2) = p.val ∧ win0_2.index t (1 : Fin 2) = q.val :=
  (by decide +kernel : ∀ (p : Fin 6) (q : Fin 1), ∃ t : Fin grid0.N, _)

/-- What a point writes. -/
theorem wrote (t : Fin cfg0.N) : (dats m 0 c).flushed 2 t = ((cfg0.win 2).blk t).view.read (Elt Ideal) (G m c) := by
  have hz : (![0, 0] : Fin 2 → Nat) = fun _ => 0 := funext fun a => by fin_cases a <;> rfl
  rw [Value.flushed2, out0_2, View.canon_unit_zero hz, View.ld_unit_zero (S := S1408x2048) hz, View.ld_unit_zero (S := S2048x1024) hz]
  obtain ⟨a0, a1, b0, b1⟩ := moves t
  exact funext fun (y : S1408x1024.Idx) => (Prod.mm (φ₁ := .bf16) (φ₂ := .bf16) dot_S1408x2048_S2048x1024_S1408x1024_1_0_0_1_n_n 2048 rfl rfl
      (iblk m c 0 t) (iblk m c 1 t) y (fun k => ix2 (y 0) k) (fun k => ix2 k (y 1)) (fun k => Shape.idx_ext₂ rfl rfl) (fun k => Shape.idx_ext₂ rfl rfl)).trans
    (Prod.nn_cut _ _ y ((cfg0.win 0).blk t).view.emb ((cfg0.win 1).blk t).view.emb (((cfg0.win 2).blk t).view.emb y)
      (fun k => Shape.idx_ext₂ (congrArg (· * 1408 + 1 * (y 0).val) a0) ((congrArg (· * 2048 + 1 * k.val) a1).trans (Prod.start _ _)))
      (fun k => Shape.idx_ext₂ ((congrArg (· * 2048 + 1 * k.val) b0).trans (Prod.start _ _)) (congrArg (· * 1024 + 1 * (y 1).val) b1)))

/-- The array after the run. -/
theorem array : (dats m 0 c).arrAt 2 cfg0.N = G m c :=
  (dats m 0 c).arrAt_eq_of_cover 2 _ (fun t _ => wrote m c t) fun (i : S8448x1024.Idx) => by
    have h0 : (i 0).val < 8448 := (i 0).isLt
    have h1 : (i 1).val < 1024 := (i 1).isLt
    obtain ⟨t, e0, e1⟩ := onto ⟨(i 0).val / 1408, by omega⟩ ⟨(i 1).val / 1024, by omega⟩
    refine ⟨t, flush0_2 t, ?_⟩
    show i ∈ ((View.whole main_v0).slice (win0_2.rect t)).set
    rw [View.set_slice_whole, Rect.mem_set_unit]
    exact fun a => match a with
      | ⟨0, _⟩ => Prod.within 1408 e0 (by decide)
      | ⟨1, _⟩ => Prod.within 1024 e1 (by decide)

/-- The kernel's array is the reference's. -/
theorem equal : Cert.algebraic_PbFwIdeal_PbFwRefIdeal (hPbFwIdeal := Cert.PbFwIdeal.Gen.facts) (hPbFwRefIdeal := Cert.PbFwRefIdeal.Gen.facts) :=
  fun m g m' g' _ he => ⟨G m, (θ_run defs _ _).mono (fun r h c => ⟨(h c).1.trans (array m c), (h c).2⟩) (Value.run_blocks m g),
    (θ_run Cert.PbFwRefIdeal.defs _ _).mono (fun r h c => ⟨(h c).1.trans ((funext fun (i : S8448x1024.Idx) =>
        Prod.dot (φ₁ := .f32) (φ₂ := .f32) Cert.PbFwRefIdeal.dot_S8448x2048_S2048x1024_S8448x1024_1_0_0_1_n_n 2048 rfl rfl _ _ i (fun k => ix2 (i 0) k)
          (fun k => ix2 k (i 1)) (fun k => Shape.idx_ext₂ rfl rfl) (fun k => Shape.idx_ext₂ rfl rfl)).trans
      (congrArg₂ (Prod.nn (M := 8448) (N := 1024) (K := 2048)) (he c).1 (he c).2)), (h c).2⟩) (Cert.PbFwRefIdeal.Value.run m' g')⟩

/-- The frames of the kernel, of the ideal kernel and of the reference. -/
theorem frames : Cert.quiescent_PbFw (hPbFw := Cert.PbFw.Gen.facts) ∧ Cert.quiescent_PbFwIdeal (hPbFwIdeal := Cert.PbFwIdeal.Gen.facts)
    ∧ Cert.quiescent_PbFwRefIdeal (hPbFwRefIdeal := Cert.PbFwRefIdeal.Gen.facts) :=
  ⟨fun m g _ => Cert.PbFw.Gen.frame m g, fun m g _ => Cert.PbFwIdeal.Gen.frame m g, fun m g _ =>
    (θ_run Cert.PbFwRefIdeal.defs _ _).mono (fun r h => ⟨fun c => (h c).2, sem_eq_zero_of_no_sems (by decide) r.2⟩) (Cert.PbFwRefIdeal.Value.run m g)⟩

end Cert.PbFwIdeal.Plain

end
-- ==== Proof.ActBw.lean ====
module

public import proofs.«01_k».proof.Defs
public import proofs.«01_k».proof.Proof.Prod
public import proofs.«01_k».proof.Proof.Gen.ActBw.Frame
public import proofs.«01_k».proof.Proof.Gen.ActBwIdeal.Value
public import proofs.«01_k».proof.Proof.Gen.ActBwRefIdeal.Run
public import Idealize.ShloMosaic.Lib.WritesUnit

@[expose] public section

/-! The gradient of the gated activation, lane by lane. -/

noncomputable section

namespace Cert.Pre_bounded

open Idealize.ShloMosaic

/-- The precondition's shape relations. -/
instance facts : Facts where
  bitsLt_bf16_f32 := by decide
  bcast_S_S8448x2816 := by decide

/-- The precondition at an index. -/
theorem real_of (d g u : FVec Ideal S8448x2816 .bf16) (h : fn d g u = fun _ => 1#1) (i : S8448x2816.Idx) : ∃ r : ℝ, (d i : EReal) * u i = ((r : ℝ) : EReal) := by
  have hi := congrFun h i
  replace hi : Ideal.cmp .olt (max ((d i : EReal) * u i) (-((d i : EReal) * u i))) (Ideal.ofBits .f32 0x7F800000#32) = 1#1 := hi
  have ht : Ideal.ofBits .f32 0x7F800000#32 = ⊤ := by simp [Ideal.ofBits, Ideal.ieee]
  rw [ht] at hi
  generalize (d i : EReal) * u i = x at hi ⊢
  induction x using EReal.rec with
  | bot => simp [Ideal.cmp] at hi
  | top => simp [Ideal.cmp] at hi
  | coe r => exact ⟨r, rfl⟩

end Cert.Pre_bounded

namespace Cert.ActBwIdeal.Plain

open Cert.ActBwIdeal Cert.ActBwIdeal.Gen Idealize.ShloMosaic Idealize.ShloMosaic.ValueIdx Idealize.ShloMosaic.TcCoe

variable (m : (ℓ : Loc nD τ sig) → Buf (Elt Ideal) ℓ) (c : Dev nD)

/-- The activation's derivative, distributed: with a finite factor it makes no difference. -/
theorem spread (r : ℝ) (g : EReal) : ((r : ℝ) : EReal) * (Prod.gate g * (1 + g * (1 - Prod.gate g)))
    = ((r : ℝ) : EReal) * Prod.gate g + g * ((r : ℝ) : EReal) * (Prod.gate g * (1 - Prod.gate g)) := by
  induction g using EReal.rec with
  | bot =>
    have h : Prod.gate ⊥ = 0 := by
      rw [Prod.gate, EReal.neg_bot, Ideal.exp_top, EReal.add_top_of_ne_bot (by rw [← EReal.coe_one]; exact EReal.coe_ne_bot 1)]
      simp [Ideal.div]
    simp [h]
  | top =>
    have h : Prod.gate ⊤ = 1 := by
      rw [Prod.gate, EReal.neg_top, Ideal.exp_bot]
      simp [Ideal.div]
    have h1 : (1 : EReal) - 1 = 0 := by rw [← EReal.coe_one, ← EReal.coe_sub, sub_self, EReal.coe_zero]
    simp [h, h1]
  | coe x =>
    have h : Prod.gate (x : EReal) = ((1 / (1 + Real.exp (-x)) : ℝ) : EReal) := by
      have hp : (1 : ℝ) + Real.exp (-x) ≠ 0 := by positivity
      rw [Prod.gate, ← EReal.coe_neg, Ideal.exp_coe, ← EReal.coe_one, ← EReal.coe_add, Ideal.div_coe hp, EReal.coe_one, one_mul]
    rw [h, ← EReal.coe_one]
    simp only [← EReal.coe_sub, ← EReal.coe_mul, ← EReal.coe_add]
    congr 1
    ring

/-- The first factor's gradient at an index, as the body writes it. -/
def bend (d g u : EReal) : EReal := d * u * (Prod.gate g * (1 + g * (1 - Prod.gate g)))

/-- The second factor's gradient at an index. -/
def keep (d g : EReal) : EReal := d * (g * Prod.gate g)

/-- The first factor's gradient. -/
def bent (d g u : Prod.Arr 8448 2816) : Prod.Arr 8448 2816 := fun i => bend (d i) (g i) (u i)

/-- The second factor's gradient. -/
def kept (d g : Prod.Arr 8448 2816) : Prod.Arr 8448 2816 := fun i => keep (d i) (g i)

/-- The first result. -/
abbrev G3 : Prod.Arr 8448 2816 := bent (m ((c : Thread nD τ).loc main_arg0)) (m ((c : Thread nD τ).loc main_arg1)) (m ((c : Thread nD τ).loc main_arg2))

/-- The second result. -/
abbrev G4 : Prod.Arr 8448 2816 := kept (m ((c : Thread nD τ).loc main_arg0)) (m ((c : Thread nD τ).loc main_arg1))

/-- The kernel's ones are one. -/
theorem ones (x g s o p : EReal) (ho : o = 1) (hp : p = 1) : x * (s * (o + g * (p - s))) = x * (s * (1 + g * (1 - s))) := by
  rw [ho, hp]

/-- The first result's lane, at an index. -/
theorem pay3 (d g u : Vec Ideal S768x128 .bf16) (y : S768x128.Idx) :
    k0_pay3 (F := Ideal) d g u y = bend (d y) (g y) (u y) :=
  (ones (d y * u y) (g y) _ _ _ Ideal.ofBits_one_f32 Ideal.ofBits_one_f32).trans
    (congrArg (fun s : EReal => d y * u y * (s * (1 + g y * (1 - s)))) (Prod.gate_kernel bitsLt_bf16_f32 g y))

/-- The second result's lane, at an index. -/
theorem pay4 (d g : Vec Ideal S768x128 .bf16) (y : S768x128.Idx) : k0_pay4 (F := Ideal) d g y = keep (d y) (g y) :=
  congrArg (fun s : EReal => d y * (g y * s)) (Prod.gate_kernel bitsLt_bf16_f32 g y)

/-- The pieces of the first trips at a point. -/
abbrev pb (t : Fin cfg0.N) (k : ℕ) := pb_k0_t1 (F := Ideal) Variants.none c none (grid0.coords t) (ms0_0 t) (hs0_0 t) (ms0_1 t) (hs0_1 t) (ms0_2 t) (hs0_2 t) (ms0_3 t) (hs0_3 t) (ms0_4 t) (hs0_4 t)
  ((hs0_0 t).unread (iblk m c 0 t)) ((hs0_1 t).unread (iblk m c 1 t)) ((hs0_2 t).unread (iblk m c 2 t)) k

/-- A lane of a block. -/
abbrev lane (x : Vec Ideal S768x2816 .bf16) (k : Fin k0_t1_loop.trips) : Vec Ideal S768x128 .bf16 :=
  View.ld x (Rect.unit (k0_off1 k) ![768, 128] (k0_off1_inb k))

/-- One more trip. -/
theorem more (t : Fin cfg0.N) (k : Fin k0_t1_loop.trips) :
    (pb m c t (k.val + 1)).1 = ⟨Rect.unit (k0_off1 k) ![768, 128] (k0_off1_inb k), k0_pay3 (F := Ideal) (lane (iblk m c 0 t) k) (lane (iblk m c 1 t) k) (lane (iblk m c 2 t) k)⟩ :: (pb m c t k.val).1
    ∧ (pb m c t (k.val + 1)).2 = ⟨Rect.unit (k0_off1 k) ![768, 128] (k0_off1_inb k), k0_pay4 (F := Ideal) (lane (iblk m c 0 t) k) (lane (iblk m c 1 t) k)⟩ :: (pb m c t k.val).2 := by
  unfold pb
  rw [pb_k0_t1_succ]
  unfold tripL_k0_t1 trip_k0_t1
  dsimp only
  simp only [View.readAt_eq_ld, (hs0_0 t).read_unread, (hs0_1 t).read_unread, (hs0_2 t).read_unread]
  exact ⟨rfl, rfl⟩

/-- There are twenty-two trips. -/
theorem trips : k0_t1_loop.trips = 22 := by decide +kernel

/-- A lane read at an index of the block. -/
theorem lane_at (x : Vec Ideal S768x2816 .bf16) (k : Fin k0_t1_loop.trips) (y : S768x2816.Idx) (z : S768x128.Idx) (h0 : (y 0).val = (z 0).val)
    (h1 : (y 1).val = 128 * k.val + (z 1).val) : lane x k z = x y :=
  congrArg x (Shape.idx_ext₂ (by show k0_off1 k (0 : Fin 2) + 1 * (z 0).val = (y 0).val; rw [k0_off1_eq, h0]; show 0 + 1 * (z 0).val = _; omega)
    (by show k0_off1 k (1 : Fin 2) + 1 * (z 1).val = (y 1).val; rw [k0_off1_eq, h1]; show 128 * k.val + 1 * (z 1).val = _; omega))

/-- The first result's block after some trips, at an index they reach. -/
theorem filled3 (t : Fin cfg0.N) (f : VO0_3.ty.Contents (Elt Ideal)) (y : S768x2816.Idx) : ∀ k : ℕ, k ≤ 22 → (y 1).val < 128 * k →
    VO0_3.read (Elt Ideal) (VO0_3.writes (Elt Ideal) f (pb m c t k).1) y = bend (iblk m c 0 t y) (iblk m c 1 t y) (iblk m c 2 t y)
  | 0, _, h => absurd h (by omega)
  | k + 1, hk, h => by
    have kt : k < k0_t1_loop.trips := by rw [trips]; omega
    rw [(more m c t ⟨k, kt⟩).1]
    by_cases hl : (y 1).val < 128 * k
    · rw [View.read_writes_cons_unit_of_not_mem VO0_3 _ (k0_off1_inb ⟨k, kt⟩) _ _ y (k0_off1_eq ⟨k, kt⟩) (1 : Fin 2) (.inl hl)]
      exact filled3 t f y k (by omega) hl
    · have e : (y 1).val - 128 * k < 128 := by omega
      have e1 : (y 1).val = 128 * k + ((y 1).val - 128 * k) := by omega
      rw [View.read_writes_cons_unit_of_mem VO0_3 _ (k0_off1_inb ⟨k, kt⟩) _ _ y (ix2 (y 0) ⟨(y 1).val - 128 * k, e⟩) (k0_off1_eq ⟨k, kt⟩)
        (Fin.forall_fin_two.mpr ⟨(Nat.zero_add _).symm, e1⟩)]
      refine (pay3 _ _ _ _).trans ?_
      rw [lane_at _ ⟨k, kt⟩ y _ rfl e1, lane_at _ ⟨k, kt⟩ y _ rfl e1, lane_at _ ⟨k, kt⟩ y _ rfl e1]

/-- The second result's block after some trips, at an index they reach. -/
theorem filled4 (t : Fin cfg0.N) (f : VO0_4.ty.Contents (Elt Ideal)) (y : S768x2816.Idx) : ∀ k : ℕ, k ≤ 22 → (y 1).val < 128 * k →
    VO0_4.read (Elt Ideal) (VO0_4.writes (Elt Ideal) f (pb m c t k).2) y = keep (iblk m c 0 t y) (iblk m c 1 t y)
  | 0, _, h => absurd h (by omega)
  | k + 1, hk, h => by
    have kt : k < k0_t1_loop.trips := by rw [trips]; omega
    rw [(more m c t ⟨k, kt⟩).2]
    by_cases hl : (y 1).val < 128 * k
    · rw [View.read_writes_cons_unit_of_not_mem VO0_4 _ (k0_off1_inb ⟨k, kt⟩) _ _ y (k0_off1_eq ⟨k, kt⟩) (1 : Fin 2) (.inl hl)]
      exact filled4 t f y k (by omega) hl
    · have e : (y 1).val - 128 * k < 128 := by omega
      have e1 : (y 1).val = 128 * k + ((y 1).val - 128 * k) := by omega
      rw [View.read_writes_cons_unit_of_mem VO0_4 _ (k0_off1_inb ⟨k, kt⟩) _ _ y (ix2 (y 0) ⟨(y 1).val - 128 * k, e⟩) (k0_off1_eq ⟨k, kt⟩)
        (Fin.forall_fin_two.mpr ⟨(Nat.zero_add _).symm, e1⟩)]
      refine (pay4 _ _ _).trans ?_
      rw [lane_at _ ⟨k, kt⟩ y _ rfl e1, lane_at _ ⟨k, kt⟩ y _ rfl e1]

/-- The windows move together. -/
theorem moves : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0) :=
  (by decide +kernel : ∀ t : Fin grid0.N, _)

/-- An index of a point's block, in the whole array. -/
def spot (t : Fin cfg0.N) (y : S768x2816.Idx) : (⟨2, ![8448, 2816]⟩ : Shape).Idx :=
  ix2 ⟨t.val * 768 + (y 0).val, by have h0 : (y 0).val < 768 := (y 0).isLt; have ht : t.val < 11 := lt_of_lt_of_eq t.isLt N_0; omega⟩ (y 1)

/-- A block at the start of the columns, at an index. -/
theorem place (t : Fin cfg0.N) (y : S768x2816.Idx) {p q : ℕ} (hp : p = t.val) (hq : q = 0) (j : (⟨2, ![8448, 2816]⟩ : Shape).Idx)
    (h0 : (j 0).val = p * 768 + 1 * (y 0).val) (h1 : (j 1).val = q * 2816 + 1 * (y 1).val) : j = spot t y :=
  Shape.idx_ext₂ (h0.trans ((Prod.number 768 _ hp).trans rfl)) (h1.trans (by rw [hq, Prod.start]; rfl))

/-- The first input's block, at an index. -/
theorem in0 (t : Fin cfg0.N) (y : S768x2816.Idx) : iblk m c 0 t y = m ((c : Thread nD τ).loc main_arg0) (spot t y) :=
  congrArg (m ((c : Thread nD τ).loc main_arg0)) (place t y (moves t).1.1 (moves t).1.2 _ rfl rfl)

/-- The second input's block, at an index. -/
theorem in1 (t : Fin cfg0.N) (y : S768x2816.Idx) : iblk m c 1 t y = m ((c : Thread nD τ).loc main_arg1) (spot t y) :=
  congrArg (m ((c : Thread nD τ).loc main_arg1)) (place t y (moves t).2.1.1 (moves t).2.1.2 _ rfl rfl)

/-- The third input's block, at an index. -/
theorem in2 (t : Fin cfg0.N) (y : S768x2816.Idx) : iblk m c 2 t y = m ((c : Thread nD τ).loc main_arg2) (spot t y) :=
  congrArg (m ((c : Thread nD τ).loc main_arg2)) (place t y (moves t).2.2.1.1 (moves t).2.2.1.2 _ rfl rfl)

/-- What a point writes of the first result. -/
theorem wrote3 (t : Fin cfg0.N) : (dats m 0 c).flushed 3 t = ((cfg0.win 3).blk t).view.read (Elt Ideal) (G3 m c) := by
  rw [Value.flushed3_A]
  unfold out0_A_3 kernelRun0_A
  refine funext fun (y : S768x2816.Idx) => (filled3 m c t _ y 22 le_rfl (y 1).isLt).trans ?_
  rw [in0, in1, in2]
  exact congrArg (G3 m c) (place t y (moves t).2.2.2.1.1 (moves t).2.2.2.1.2 _ rfl rfl).symm

/-- What a point writes of the second result. -/
theorem wrote4 (t : Fin cfg0.N) : (dats m 0 c).flushed 4 t = ((cfg0.win 4).blk t).view.read (Elt Ideal) (G4 m c) := by
  rw [Value.flushed4_A]
  unfold out0_A_4 kernelRun0_A
  refine funext fun (y : S768x2816.Idx) => (filled4 m c t _ y 22 le_rfl (y 1).isLt).trans ?_
  rw [in0, in1]
  exact congrArg (G4 m c) (place t y (moves t).2.2.2.2.1 (moves t).2.2.2.2.2 _ rfl rfl).symm

/-- The first result after the run. -/
theorem array3 : (dats m 0 c).arrAt 3 cfg0.N = G3 m c :=
  (dats m 0 c).arrAt_eq_of_cover 3 _ (fun t _ => wrote3 m c t) fun (i : S8448x2816.Idx) => by
    have h0 : (i 0).val < 8448 := (i 0).isLt
    have h1 : (i 1).val < 2816 := (i 1).isLt
    have ht : (i 0).val / 768 < cfg0.N := lt_of_lt_of_eq (by omega) N_0.symm
    refine ⟨⟨(i 0).val / 768, ht⟩, flush0_3 _, ?_⟩
    show i ∈ ((View.whole main_v0_0).slice (win0_3.rect ⟨(i 0).val / 768, ht⟩)).set
    rw [View.set_slice_whole, Rect.mem_set_unit]
    exact fun a => match a with
      | ⟨0, _⟩ => Prod.within 768 (moves ⟨_, ht⟩).2.2.2.1.1 (by decide)
      | ⟨1, _⟩ => Prod.within 2816 ((moves ⟨_, ht⟩).2.2.2.1.2.trans (Nat.div_eq_of_lt h1).symm) (by decide)

/-- The second result after the run. -/
theorem array4 : (dats m 0 c).arrAt 4 cfg0.N = G4 m c :=
  (dats m 0 c).arrAt_eq_of_cover 4 _ (fun t _ => wrote4 m c t) fun (i : S8448x2816.Idx) => by
    have h0 : (i 0).val < 8448 := (i 0).isLt
    have h1 : (i 1).val < 2816 := (i 1).isLt
    have ht : (i 0).val / 768 < cfg0.N := lt_of_lt_of_eq (by omega) N_0.symm
    refine ⟨⟨(i 0).val / 768, ht⟩, flush0_4 _, ?_⟩
    show i ∈ ((View.whole main_v0_1).slice (win0_4.rect ⟨(i 0).val / 768, ht⟩)).set
    rw [View.set_slice_whole, Rect.mem_set_unit]
    exact fun a => match a with
      | ⟨0, _⟩ => Prod.within 768 (moves ⟨_, ht⟩).2.2.2.2.1 (by decide)
      | ⟨1, _⟩ => Prod.within 2816 ((moves ⟨_, ht⟩).2.2.2.2.2.trans (Nat.div_eq_of_lt h1).symm) (by decide)

/-- The gradient as the reference adds it up. -/
theorem summed (d g u s o : EReal) (hd : ∃ r : ℝ, d * u = ((r : ℝ) : EReal)) (hs : s = Prod.gate g) (ho : o = 1) :
    d * u * s + g * (d * u) * (s * (o - s)) = bend d g u := by
  obtain ⟨r, hr⟩ := hd
  rw [hs, ho, bend, hr]
  exact (spread r g).symm

/-- The other gradient as the reference multiplies it. -/
theorem swapped (d g s : EReal) (hs : s = Prod.gate g) : g * s * d = keep d g := by
  rw [hs, keep, mul_comm]

/-- The kernel's arrays are the reference's. -/
theorem equal : Cert.algebraic_ActBwIdeal_ActBwRefIdeal_pre_bounded (hActBwIdeal := Cert.ActBwIdeal.Gen.facts) (hActBwRefIdeal := Cert.ActBwRefIdeal.Gen.facts) (hPre_bounded := Cert.Pre_bounded.facts) :=
  fun m g m' g' hp he => ⟨G3 m, G4 m, (θ_run defs _ _).mono (fun r h c => ⟨(h c).1.trans (array3 m c), (h c).2.1.trans (array4 m c), (h c).2.2⟩) (Value.run_blocks m g),
    (θ_run Cert.ActBwRefIdeal.defs _ _).mono (fun r h c => ⟨(h c).1.trans ((funext fun (i : S8448x2816.Idx) => summed _ _ _ _ _
        (by rw [(he c).1, (he c).2.2]; exact Cert.Pre_bounded.real_of _ _ _ (hp c) i) (Prod.gate_host _ _ _ _ i) Ideal.ofBits_one_f32).trans
          (congr (congrArg₂ bent (he c).1 (he c).2.1) (he c).2.2)),
      (h c).2.1.trans ((funext fun (i : S8448x2816.Idx) => swapped _ _ _ (Prod.gate_host _ _ _ _ i)).trans
          (congrArg₂ kept (he c).1 (he c).2.1)), (h c).2.2⟩) (Cert.ActBwRefIdeal.Value.run m' g')⟩

/-- The frames of the kernel, of the ideal kernel and of the reference. -/
theorem frames : Cert.quiescent_ActBw (hActBw := Cert.ActBw.Gen.facts) ∧ Cert.quiescent_ActBwIdeal (hActBwIdeal := Cert.ActBwIdeal.Gen.facts)
    ∧ Cert.quiescent_ActBwRefIdeal (hActBwRefIdeal := Cert.ActBwRefIdeal.Gen.facts) :=
  ⟨fun m g _ => Cert.ActBw.Gen.frame m g, fun m g _ => Cert.ActBwIdeal.Gen.frame m g, fun m g _ =>
    (θ_run Cert.ActBwRefIdeal.defs _ _).mono (fun r h => ⟨fun c => (h c).2.2, sem_eq_zero_of_no_sems (by decide) r.2⟩) (Cert.ActBwRefIdeal.Value.run m g)⟩

end Cert.ActBwIdeal.Plain

end
-- ==== Proof.MergeFw.lean ====
module

public import proofs.«01_k».proof.Defs
public import proofs.«01_k».proof.Proof.Prod
public import proofs.«01_k».proof.Proof.Gen.MergeFw.Frame
public import proofs.«01_k».proof.Proof.Gen.MergeFwIdeal.Value
public import proofs.«01_k».proof.Proof.Gen.MergeFwRefIdeal.Run

@[expose] public section

/-! The gated sum of the two mixers' results. -/

noncomputable section

namespace Cert.MergeFwIdeal.Plain

open Cert.MergeFwIdeal Cert.MergeFwIdeal.Gen Idealize.ShloMosaic Idealize.ShloMosaic.ValueIdx Idealize.ShloMosaic.TcCoe

variable (m : (ℓ : Loc nD τ sig) → Buf (Elt Ideal) ℓ) (c : Dev nD)

/-- The sum of two arrays under the gates in two blocks of columns of a third. -/
def sum (x y : Prod.Arr 8448 1024) (p : Prod.Arr 8448 10368) : Prod.Arr 8448 1024 := fun i =>
  Prod.gate (p (Prod.shift 8448 10368 8192 (by decide) i)) * x i + Prod.gate (p (Prod.shift 8448 10368 9216 (by decide) i)) * y i

/-- The gated sum of the arguments. -/
abbrev G : Prod.Arr 8448 1024 := sum (m ((c : Thread nD τ).loc main_arg0)) (m ((c : Thread nD τ).loc main_arg1)) (m ((c : Thread nD τ).loc main_arg2))

/-- The windows move together. -/
theorem moves : ∀ t : Fin cfg0.N, win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 8
    ∧ win0_3.index t (0 : Fin 2) = win0_4.index t (0 : Fin 2) ∧ win0_3.index t (1 : Fin 2) = 9 ∧ win0_4.index t (1 : Fin 2) = 0 :=
  (by decide +kernel : ∀ t : Fin grid0.N, _)

/-- Every block of the result is some point's. -/
theorem onto : ∀ p : Fin 11, ∃ t : Fin cfg0.N, win0_4.index t (0 : Fin 2) = p.val :=
  (by decide +kernel : ∀ p : Fin 11, ∃ t : Fin grid0.N, _)

/-- What the body writes, at an index. -/
theorem pay (a b c d : Vec Ideal S768x1024 .bf16) (y : S768x1024.Idx) :
    k0_pay1 (F := Ideal) a b c d y = Prod.gate (a y) * b y + Prod.gate (c y) * d y :=
  congrArg₂ (fun p q : EReal => p * b y + q * d y) (Prod.gate_kernel bitsLt_bf16_f32 a y) (Prod.gate_kernel bitsLt_bf16_f32 c y)

/-- The first gate's block, at an index. -/
theorem col2 (t : Fin cfg0.N) (y : S768x1024.Idx) :
    X0_2 m c t y = m ((c : Thread nD τ).loc main_arg2) (Prod.shift 8448 10368 8192 (by decide) (((cfg0.win 4).blk t).view.emb y)) := by
  obtain ⟨_, _, _, _, c0, c1, d0, d1, e1⟩ := moves t
  unfold X0_2 Pipeline.Window.fill
  rw [dif_pos (moved0_2 t y)]
  exact congrArg (m ((c : Thread nD τ).loc main_arg2)) (Shape.idx_ext₂ (congrArg (· * 768 + 1 * (y 0).val) c0) (by
    show win0_2.index t (1 : Fin 2) * 1024 + 1 * (y 1).val = 8192 + (win0_4.index t (1 : Fin 2) * 1024 + 1 * (y 1).val)
    rw [c1, e1]; omega))

/-- The second gate's block, at an index. -/
theorem col3 (t : Fin cfg0.N) (y : S768x1024.Idx) :
    X0_3 m c t y = m ((c : Thread nD τ).loc main_arg2) (Prod.shift 8448 10368 9216 (by decide) (((cfg0.win 4).blk t).view.emb y)) := by
  obtain ⟨_, _, _, _, c0, c1, d0, d1, e1⟩ := moves t
  unfold X0_3 Pipeline.Window.fill
  rw [dif_pos (moved0_3 t y)]
  exact congrArg (m ((c : Thread nD τ).loc main_arg2)) (Shape.idx_ext₂ (congrArg (· * 768 + 1 * (y 0).val) d0) (by
    show win0_3.index t (1 : Fin 2) * 1024 + 1 * (y 1).val = 9216 + (win0_4.index t (1 : Fin 2) * 1024 + 1 * (y 1).val)
    rw [d1, e1]; omega))

/-- What a point writes. -/
theorem wrote (t : Fin cfg0.N) : (dats m 0 c).flushed 4 t = ((cfg0.win 4).blk t).view.read (Elt Ideal) (G m c) := by
  have hz : (![0, 0] : Fin 2 → Nat) = fun _ => 0 := funext fun a => by fin_cases a <;> rfl
  rw [Value.flushed4_A]
  unfold out0_A_4
  rw [View.read_writes_eq_canon _ _ _ (fun y => cover0_A_4 _ _ _ _ _ _ _ _ _ _ _ _ _ _ _ _ y)]
  unfold kernelRun0_A
  dsimp only
  rw [View.canon_unit_zero hz]
  simp only [View.readAt_eq_ld, (hs0_0 t).read_unread, (hs0_1 t).read_unread, (hs0_2 t).read_unread, (hs0_3 t).read_unread, View.ld_unit_zero (S := S768x1024) hz]
  obtain ⟨a0, a1, b0, b1, _, _, _, _, e1⟩ := moves t
  refine funext fun (y : S768x1024.Idx) => (pay _ _ _ _ y).trans (congrArg₂ (· + ·)
    (congrArg₂ (fun p q : EReal => Prod.gate p * q) (col2 m c t y) (congrArg (m ((c : Thread nD τ).loc main_arg0)) (Shape.idx_ext₂
      (congrArg (· * 768 + 1 * (y 0).val) a0) (congrArg (· * 1024 + 1 * (y 1).val) (a1.trans e1.symm)))))
    (congrArg₂ (fun p q : EReal => Prod.gate p * q) (col3 m c t y) (congrArg (m ((c : Thread nD τ).loc main_arg1)) (Shape.idx_ext₂
      (congrArg (· * 768 + 1 * (y 0).val) b0) (congrArg (· * 1024 + 1 * (y 1).val) (b1.trans e1.symm))))))

/-- The array after the run. -/
theorem array : (dats m 0 c).arrAt 4 cfg0.N = G m c :=
  (dats m 0 c).arrAt_eq_of_cover 4 _ (fun t _ => wrote m c t) fun (i : S8448x1024.Idx) => by
    have h0 : (i 0).val < 8448 := (i 0).isLt
    have h1 : (i 1).val < 1024 := (i 1).isLt
    obtain ⟨t, e0⟩ := onto ⟨(i 0).val / 768, by omega⟩
    have e1 : win0_4.index t (1 : Fin 2) = (i 1).val / 1024 := (moves t).2.2.2.2.2.2.2.2.trans (by omega)
    refine ⟨t, flush0_4 t, ?_⟩
    show i ∈ ((View.whole main_v0).slice (win0_4.rect t)).set
    rw [View.set_slice_whole, Rect.mem_set_unit]
    exact fun a => match a with
      | ⟨0, _⟩ => Prod.within 768 e0 (by decide)
      | ⟨1, _⟩ => Prod.within 1024 e1 (by decide)

/-- The kernel's array is the reference's. -/
theorem equal : Cert.algebraic_MergeFwIdeal_MergeFwRefIdeal (hMergeFwIdeal := Cert.MergeFwIdeal.Gen.facts) (hMergeFwRefIdeal := Cert.MergeFwRefIdeal.Gen.facts) :=
  fun m g m' g' _ he => ⟨G m, (θ_run defs _ _).mono (fun r h c => ⟨(h c).1.trans (array m c), (h c).2⟩) (Value.run_blocks m g),
    (θ_run Cert.MergeFwRefIdeal.defs _ _).mono (fun r h c => ⟨(h c).1.trans ((funext fun (i : S8448x1024.Idx) =>
        congrArg₂ (fun p q : EReal => p * m' ((c : Thread nD τ).loc Cert.MergeFwRefIdeal.main_arg0) i + q * m' ((c : Thread nD τ).loc Cert.MergeFwRefIdeal.main_arg1) i)
          (Prod.gate_cols _ _ _ _ (by decide) _ i) (Prod.gate_cols _ _ _ _ (by decide) _ i)).trans
      ((congr (congrArg₂ sum (he c).1 (he c).2.1) (he c).2.2))), (h c).2⟩) (Cert.MergeFwRefIdeal.Value.run m' g')⟩

/-- The frames of the kernel, of the ideal kernel and of the reference. -/
theorem frames : Cert.quiescent_MergeFw (hMergeFw := Cert.MergeFw.Gen.facts) ∧ Cert.quiescent_MergeFwIdeal (hMergeFwIdeal := Cert.MergeFwIdeal.Gen.facts)
    ∧ Cert.quiescent_MergeFwRefIdeal (hMergeFwRefIdeal := Cert.MergeFwRefIdeal.Gen.facts) :=
  ⟨fun m g _ => Cert.MergeFw.Gen.frame m g, fun m g _ => Cert.MergeFwIdeal.Gen.frame m g, fun m g _ =>
    (θ_run Cert.MergeFwRefIdeal.defs _ _).mono (fun r h => ⟨fun c => (h c).2, sem_eq_zero_of_no_sems (by decide) r.2⟩) (Cert.MergeFwRefIdeal.Value.run m g)⟩

end Cert.MergeFwIdeal.Plain

end
-- ==== Proof.MergeBw.lean ====
module

public import proofs.«01_k».proof.Defs
public import proofs.«01_k».proof.Proof.Prod
public import proofs.«01_k».proof.Proof.Gen.MergeBw.Frame
public import proofs.«01_k».proof.Proof.Gen.MergeBwIdeal.Value
public import proofs.«01_k».proof.Proof.Gen.MergeBwRefIdeal.Run
public import Idealize.ShloMosaic.Lib.WritesUnit

@[expose] public section

/-! The gradients of the gated sum, the gates' written into the gradient of the projections. -/

noncomputable section

namespace Cert.MergeBwIdeal.Plain

open Cert.MergeBwIdeal Cert.MergeBwIdeal.Gen Idealize.ShloMosaic Idealize.ShloMosaic.ValueIdx Idealize.ShloMosaic.TcCoe

variable (m : (ℓ : Loc nD τ sig) → Buf (Elt Ideal) ℓ) (c : Dev nD)

/-- The gradient of a summand. -/
def side (o : ℕ) (ho : o + 1024 ≤ 10368) (d : Prod.Arr 8448 1024) (p : Prod.Arr 8448 10368) : Prod.Arr 8448 1024 := fun i =>
  Prod.gate (p (Prod.shift 8448 10368 o ho i)) * d i

/-- The gradient of a gate. -/
def turn (o : ℕ) (ho : o + 1024 ≤ 10368) (d x : Prod.Arr 8448 1024) (p : Prod.Arr 8448 10368) : Prod.Arr 8448 1024 := fun i =>
  d i * x i * Prod.slope (p (Prod.shift 8448 10368 o ho i))

/-- The gradient of the projections. -/
def all (d x y : Prod.Arr 8448 1024) (p q : Prod.Arr 8448 10368) : Prod.Arr 8448 10368 :=
  Prod.patch 8192 9216 (turn 8192 (by decide) d x p) (turn 9216 (by decide) d y p) q

/-- The first summand's gradient. -/
abbrev G5 : Prod.Arr 8448 1024 := side 8192 (by decide) (m ((c : Thread nD τ).loc main_arg0)) (m ((c : Thread nD τ).loc main_arg3))

/-- The second summand's gradient. -/
abbrev G6 : Prod.Arr 8448 1024 := side 9216 (by decide) (m ((c : Thread nD τ).loc main_arg0)) (m ((c : Thread nD τ).loc main_arg3))

/-- The projections' gradient. -/
abbrev G7 : Prod.Arr 8448 10368 := all (m ((c : Thread nD τ).loc main_arg0)) (m ((c : Thread nD τ).loc main_arg1)) (m ((c : Thread nD τ).loc main_arg2))
  (m ((c : Thread nD τ).loc main_arg3)) (m ((c : Thread nD τ).loc main_arg4))

/-- The windows move together. -/
theorem moves : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 8) ∧ (win0_4.index t (0 : Fin 2) = t.val ∧ win0_4.index t (1 : Fin 2) = 9)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 4) :=
  (by decide +kernel : ∀ t : Fin grid0.N, _)

/-- An index of a point's block, in the whole array. -/
def spot (t : Fin cfg0.N) (y : S768x1024.Idx) : (⟨2, ![8448, 1024]⟩ : Shape).Idx :=
  ix2 ⟨t.val * 768 + (y 0).val, by have h0 : (y 0).val < 768 := (y 0).isLt; have ht : t.val < 11 := lt_of_lt_of_eq t.isLt N_0; omega⟩ (y 1)

/-- Its column. -/
theorem spot_col (t : Fin cfg0.N) (y : S768x1024.Idx) : (spot t y 1).val = (y 1).val := rfl

/-- A block at the start of the columns, at an index. -/
theorem place (t : Fin cfg0.N) (y : S768x1024.Idx) {p q : ℕ} (hp : p = t.val) (hq : q = 0) (j : (⟨2, ![8448, 1024]⟩ : Shape).Idx)
    (h0 : (j 0).val = p * 768 + 1 * (y 0).val) (h1 : (j 1).val = q * 1024 + 1 * (y 1).val) : j = spot t y :=
  Shape.idx_ext₂ (h0.trans ((Prod.number 768 _ hp).trans rfl)) (h1.trans (by rw [hq, Prod.start]; rfl))

/-- The first input's block, at an index. -/
theorem in0 (t : Fin cfg0.N) (y : S768x1024.Idx) : iblk m c 0 t y = m ((c : Thread nD τ).loc main_arg0) (spot t y) :=
  congrArg (m ((c : Thread nD τ).loc main_arg0)) (place t y (moves t).1.1 (moves t).1.2 _ rfl rfl)

/-- The second input's block, at an index. -/
theorem in1 (t : Fin cfg0.N) (y : S768x1024.Idx) : iblk m c 1 t y = m ((c : Thread nD τ).loc main_arg1) (spot t y) :=
  congrArg (m ((c : Thread nD τ).loc main_arg1)) (place t y (moves t).2.1.1 (moves t).2.1.2 _ rfl rfl)

/-- The third input's block, at an index. -/
theorem in2 (t : Fin cfg0.N) (y : S768x1024.Idx) : iblk m c 2 t y = m ((c : Thread nD τ).loc main_arg2) (spot t y) :=
  congrArg (m ((c : Thread nD τ).loc main_arg2)) (place t y (moves t).2.2.1.1 (moves t).2.2.1.2 _ rfl rfl)

/-- The first gate's block, at an index. -/
theorem in3 (t : Fin cfg0.N) (y : S768x1024.Idx) :
    X0_3 m c t y = m ((c : Thread nD τ).loc main_arg3) (Prod.shift 8448 10368 8192 (by decide) (spot t y)) := by
  obtain ⟨a, b⟩ := (moves t).2.2.2.1
  unfold X0_3 Pipeline.Window.fill
  rw [dif_pos (moved0_3 t y)]
  exact congrArg (m ((c : Thread nD τ).loc main_arg3)) (Shape.idx_ext₂
    (by show win0_3.index t (0 : Fin 2) * 768 + 1 * (y 0).val = t.val * 768 + (y 0).val; rw [a]; omega)
    (by show win0_3.index t (1 : Fin 2) * 1024 + 1 * (y 1).val = 8192 + (y 1).val; rw [b]; omega))

/-- The second gate's block, at an index. -/
theorem in4 (t : Fin cfg0.N) (y : S768x1024.Idx) :
    X0_4 m c t y = m ((c : Thread nD τ).loc main_arg3) (Prod.shift 8448 10368 9216 (by decide) (spot t y)) := by
  obtain ⟨a, b⟩ := (moves t).2.2.2.2.1
  unfold X0_4 Pipeline.Window.fill
  rw [dif_pos (moved0_4 t y)]
  exact congrArg (m ((c : Thread nD τ).loc main_arg3)) (Shape.idx_ext₂
    (by show win0_4.index t (0 : Fin 2) * 768 + 1 * (y 0).val = t.val * 768 + (y 0).val; rw [a]; omega)
    (by show win0_4.index t (1 : Fin 2) * 1024 + 1 * (y 1).val = 9216 + (y 1).val; rw [b]; omega))

/-- A summand's gradient as the body writes it, at an index. -/
theorem pay5 (d p : Vec Ideal S768x1024 .bf16) (y : S768x1024.Idx) : k0_pay5 (F := Ideal) d p y = Prod.gate (p y) * d y :=
  (congrArg (fun q : EReal => d y * q) (Prod.gate_kernel bitsLt_bf16_f32 p y)).trans (mul_comm (d y : EReal) _)

/-- The other summand's. -/
theorem pay6 (d p : Vec Ideal S768x1024 .bf16) (y : S768x1024.Idx) : k0_pay6 (F := Ideal) d p y = Prod.gate (p y) * d y :=
  pay5 d p y

/-- The kernel's product of the gate's derivative. -/
theorem times (a b g o : EReal) (ho : o = 1) : a * b * g * (o - g) = a * b * (g * (1 - g)) := by
  rw [ho, mul_assoc (a * b)]

/-- A gate's gradient as the body writes it, at an index. -/
theorem pay7 (d p x : Vec Ideal S768x1024 .bf16) (y : S768x1024.Idx) : k0_pay7 (F := Ideal) d p x y = d y * x y * Prod.slope (p y) :=
  (times (d y) (x y) (k0_pay3 (F := Ideal) p y) _ Ideal.ofBits_one_f32).trans
    (congrArg (fun g : EReal => d y * x y * (g * (1 - g))) (Prod.gate_kernel bitsLt_bf16_f32 p y))

/-- The other gate's. -/
theorem pay1 (d p x : Vec Ideal S768x1024 .bf16) (y : S768x1024.Idx) :
    k0_pay1 (F := Ideal) (k0_pay2 d) (k0_pay4 p) x y = d y * x y * Prod.slope (p y) :=
  pay7 d p x y

/-- What a point writes of the first summand's gradient. -/
theorem wrote5 (t : Fin cfg0.N) : (dats m 0 c).flushed 5 t = ((cfg0.win 5).blk t).view.read (Elt Ideal) (G5 m c) := by
  have hz : (![0, 0] : Fin 2 → Nat) = fun _ => 0 := funext fun a => by fin_cases a <;> rfl
  rw [Value.flushed5_A]
  unfold out0_A_5
  rw [View.read_writes_eq_canon _ _ _ (fun y => cover0_A_5 _ _ _ _ _ _ _ _ _ _ _ _ _ _ _ _ _ _ _ _ _ _ _ y)]
  unfold kernelRun0_A
  dsimp only
  rw [View.canon_unit_zero hz]
  simp only [View.readAt_eq_ld, (hs0_0 t).read_unread, (hs0_3 t).read_unread, View.ld_unit_zero (S := S768x1024) hz]
  refine funext fun (y : S768x1024.Idx) => (pay5 _ _ y).trans ((congrArg₂ (fun p q : EReal => Prod.gate p * q) (in3 m c t y) (in0 m c t y)).trans ?_)
  exact congrArg (G5 m c) (place t y (moves t).2.2.2.2.2.1.1 (moves t).2.2.2.2.2.1.2 _ rfl rfl).symm

/-- What a point writes of the second summand's gradient. -/
theorem wrote6 (t : Fin cfg0.N) : (dats m 0 c).flushed 6 t = ((cfg0.win 6).blk t).view.read (Elt Ideal) (G6 m c) := by
  have hz : (![0, 0] : Fin 2 → Nat) = fun _ => 0 := funext fun a => by fin_cases a <;> rfl
  rw [Value.flushed6_A]
  unfold out0_A_6
  rw [View.read_writes_eq_canon _ _ _ (fun y => cover0_A_6 _ _ _ _ _ _ _ _ _ _ _ _ _ _ _ _ _ _ _ _ _ _ _ y)]
  unfold kernelRun0_A
  dsimp only
  rw [View.canon_unit_zero hz]
  simp only [View.readAt_eq_ld, (hs0_0 t).read_unread, (hs0_4 t).read_unread, View.ld_unit_zero (S := S768x1024) hz]
  refine funext fun (y : S768x1024.Idx) => (pay6 _ _ y).trans ((congrArg₂ (fun p q : EReal => Prod.gate p * q) (in4 m c t y) (in0 m c t y)).trans ?_)
  exact congrArg (G6 m c) (place t y (moves t).2.2.2.2.2.2.1.1 (moves t).2.2.2.2.2.2.1.2 _ rfl rfl).symm

/-- The first summand's gradient after the run. -/
theorem array5 : (dats m 0 c).arrAt 5 cfg0.N = G5 m c :=
  (dats m 0 c).arrAt_eq_of_cover 5 _ (fun t _ => wrote5 m c t) fun (i : S8448x1024.Idx) => by
    have h0 : (i 0).val < 8448 := (i 0).isLt
    have h1 : (i 1).val < 1024 := (i 1).isLt
    have ht : (i 0).val / 768 < cfg0.N := lt_of_lt_of_eq (by omega) N_0.symm
    refine ⟨⟨(i 0).val / 768, ht⟩, flush0_5 _, ?_⟩
    show i ∈ ((View.whole main_v0_0).slice (win0_5.rect ⟨(i 0).val / 768, ht⟩)).set
    rw [View.set_slice_whole, Rect.mem_set_unit]
    exact fun a => match a with
      | ⟨0, _⟩ => Prod.within 768 (moves ⟨_, ht⟩).2.2.2.2.2.1.1 (by decide)
      | ⟨1, _⟩ => Prod.within 1024 ((moves ⟨_, ht⟩).2.2.2.2.2.1.2.trans (Nat.div_eq_of_lt h1).symm) (by decide)

/-- The second summand's gradient after the run. -/
theorem array6 : (dats m 0 c).arrAt 6 cfg0.N = G6 m c :=
  (dats m 0 c).arrAt_eq_of_cover 6 _ (fun t _ => wrote6 m c t) fun (i : S8448x1024.Idx) => by
    have h0 : (i 0).val < 8448 := (i 0).isLt
    have h1 : (i 1).val < 1024 := (i 1).isLt
    have ht : (i 0).val / 768 < cfg0.N := lt_of_lt_of_eq (by omega) N_0.symm
    refine ⟨⟨(i 0).val / 768, ht⟩, flush0_6 _, ?_⟩
    show i ∈ ((View.whole main_v0_1).slice (win0_6.rect ⟨(i 0).val / 768, ht⟩)).set
    rw [View.set_slice_whole, Rect.mem_set_unit]
    exact fun a => match a with
      | ⟨0, _⟩ => Prod.within 768 (moves ⟨_, ht⟩).2.2.2.2.2.2.1.1 (by decide)
      | ⟨1, _⟩ => Prod.within 1024 ((moves ⟨_, ht⟩).2.2.2.2.2.2.1.2.trans (Nat.div_eq_of_lt h1).symm) (by decide)

/-- What the body leaves of the gates' gradients, at an index of the first. -/
theorem left (t : Fin cfg0.N) (y : S768x2048.Idx) (x : S768x1024.Idx) (h0 : (y 0).val = (x 0).val) (h1 : (y 1).val = (x 1).val) :
    (outsAt0 m c t).2.2 y = turn 8192 (by decide) (m ((c : Thread nD τ).loc main_arg0)) (m ((c : Thread nD τ).loc main_arg1)) (m ((c : Thread nD τ).loc main_arg3)) (spot t x) := by
  have hz : (![0, 0] : Fin 2 → Nat) = fun _ => 0 := funext fun a => by fin_cases a <;> rfl
  have hx : (x 1).val < 1024 := (x 1).isLt
  unfold outsAt0
  dsimp only
  unfold out0_A_7 kernelRun0_A
  dsimp only [kernelRun0_A.sl.r, kernelRun0_A.sl.r_1]
  rw [View.read_writes_cons_unit_of_not_mem (off' := ![0, 1024]) VO0_7 _ inb_S768x2048_S768x1024_0_1024 _ _ y rfl (1 : Fin 2) (.inl (by show (y 1).val < 1024; omega)),
    View.read_writes_cons_unit_of_mem (off' := ![0, 0]) VO0_7 _ inb_S768x2048_S768x1024_0_0 _ _ y x rfl (Fin.forall_fin_two.mpr
      ⟨h0.trans (Nat.zero_add _).symm, h1.trans (Nat.zero_add _).symm⟩)]
  simp only [View.readAt_eq_ld, (hs0_0 t).read_unread, (hs0_1 t).read_unread, (hs0_3 t).read_unread, View.ld_unit_zero (S := S768x1024) hz]
  refine (pay7 _ _ _ x).trans ?_
  rw [in0, in1, in3, turn]

/-- … and of the second. -/
theorem right (t : Fin cfg0.N) (y : S768x2048.Idx) (x : S768x1024.Idx) (h0 : (y 0).val = (x 0).val) (h1 : (y 1).val = 1024 + (x 1).val) :
    (outsAt0 m c t).2.2 y = turn 9216 (by decide) (m ((c : Thread nD τ).loc main_arg0)) (m ((c : Thread nD τ).loc main_arg2)) (m ((c : Thread nD τ).loc main_arg3)) (spot t x) := by
  have hz : (![0, 0] : Fin 2 → Nat) = fun _ => 0 := funext fun a => by fin_cases a <;> rfl
  unfold outsAt0
  dsimp only
  unfold out0_A_7 kernelRun0_A
  dsimp only [kernelRun0_A.sl.r, kernelRun0_A.sl.r_1]
  rw [View.read_writes_cons_unit_of_mem (off' := ![0, 1024]) VO0_7 _ inb_S768x2048_S768x1024_0_1024 _ _ y x rfl (Fin.forall_fin_two.mpr ⟨h0.trans (Nat.zero_add _).symm, h1⟩)]
  simp only [View.readAt_eq_ld, (hs0_0 t).read_unread, (hs0_2 t).read_unread, (hs0_4 t).read_unread, View.ld_unit_zero (S := S768x1024) hz]
  refine (pay1 _ _ _ x).trans ?_
  rw [in0, in2, in4, turn]

/-- The projections' gradient is there before the run. -/
theorem before (i : S8448x10368.Idx) : V m c main_v0_2 i = m ((c : Thread nD τ).loc main_arg4) i := by
  refine congrFun (?_ : V m c main_v0_2 = m ((c : Thread nD τ).loc main_arg4)) i
  simp only [V, hostOps0]
  after_results
  rfl

/-- No block is cut short. -/
theorem full : ∀ t : Fin cfg0.N, win0_7.xsize (grid0.coords t) (0 : Fin 2) = 768 ∧ win0_7.xsize (grid0.coords t) (1 : Fin 2) = 2048 :=
  (by decide +kernel : ∀ t : Fin grid0.N, _)

/-- The rectangle a block covers. -/
theorem over (t : Fin cfg0.N) (i : S8448x10368.Idx) : i ∈ ((cfg0.win 7).blk t).view.set ↔
    (t.val * 768 ≤ (i 0).val ∧ (i 0).val < t.val * 768 + 768) ∧ 8192 ≤ (i 1).val ∧ (i 1).val < 10240 := by
  show i ∈ ((View.whole main_v0_2).slice (win0_7.rect t)).set ↔ _
  obtain ⟨a, b⟩ := (moves t).2.2.2.2.2.2.2
  rw [View.set_slice_whole, Rect.mem_set_unit]
  refine Fin.forall_fin_two.trans ?_
  show (win0_7.index t (0 : Fin 2) * 768 ≤ (i 0).val ∧ (i 0).val < win0_7.index t (0 : Fin 2) * 768 + win0_7.xsize (grid0.coords t) (0 : Fin 2))
    ∧ (win0_7.index t (1 : Fin 2) * 2048 ≤ (i 1).val ∧ (i 1).val < win0_7.index t (1 : Fin 2) * 2048 + win0_7.xsize (grid0.coords t) (1 : Fin 2)) ↔ _
  rw [a, b, (full t).1, (full t).2]

/-- The projections' gradient after the run. -/
theorem array7 : (dats m 0 c).arrAt 7 cfg0.N = G7 m c := by
  refine funext fun (i : S8448x10368.Idx) => ?_
  have h0 : (i 0).val < 8448 := (i 0).isLt
  have ht : (i 0).val / 768 < cfg0.N := lt_of_lt_of_eq (by omega) N_0.symm
  by_cases h : (i 1).val < 8192 ∨ 10240 ≤ (i 1).val
  · refine (Value.entry7 m c i fun t _ hi => ?_).trans ((before m c i).trans (Prod.patch_out 8192 9216 _ _ _ i rfl h).symm)
    have h1 := ((over t i).mp hi).2
    omega
  · obtain ⟨t, tv⟩ : ∃ t : Fin cfg0.N, t.val = (i 0).val / 768 := ⟨⟨_, ht⟩, rfl⟩
    have hi := (over t i).mpr ⟨Prod.within 768 tv (by decide), by omega⟩
    obtain ⟨y, -, hy⟩ := Finset.mem_map.mp hi
    obtain ⟨a, b⟩ := (moves t).2.2.2.2.2.2.2
    have e0 : t.val * 768 + 1 * (y (0 : Fin 2)).val = (i 0).val :=
      (congrArg (· * 768 + 1 * (y (0 : Fin 2)).val) a).symm.trans (congrArg (fun j : S8448x10368.Idx => (j 0).val) hy)
    have e1 : 4 * 2048 + 1 * (y (1 : Fin 2)).val = (i 1).val :=
      (congrArg (· * 2048 + 1 * (y (1 : Fin 2)).val) b).symm.trans (congrArg (fun j : S8448x10368.Idx => (j 1).val) hy)
    have y0 : (y (0 : Fin 2)).val < 768 := by omega
    rw [← hy]
    refine (congrFun (Value.blocks7 m c t (flush0_7 _)) y).trans ?_
    rw [hy, Value.flushed7]
    by_cases h1 : (i 1).val < 9216
    · have y1 : (y (1 : Fin 2)).val < 1024 := by omega
      refine (left m c t _ (ix2 ⟨(y (0 : Fin 2)).val, y0⟩ ⟨(y (1 : Fin 2)).val, y1⟩) rfl rfl).trans ?_
      refine (Prod.patch_fst 8192 9216 _ _ _ i (spot t _) ?_ ?_).symm
      · show t.val * 768 + (y (0 : Fin 2)).val = (i 0).val
        omega
      · have e2 : 8192 + (y (1 : Fin 2)).val = (i 1).val := by omega
        exact (congrArg (8192 + ·) (spot_col t _)).trans e2
    · have y1 : (y (1 : Fin 2)).val - 1024 < 1024 := by omega
      have y2 : (y (1 : Fin 2)).val = 1024 + ((y (1 : Fin 2)).val - 1024) := by omega
      refine (right m c t _ (ix2 ⟨(y (0 : Fin 2)).val, y0⟩ ⟨(y (1 : Fin 2)).val - 1024, y1⟩) rfl y2).trans ?_
      refine (Prod.patch_snd 8192 9216 _ _ _ i (spot t _) ?_ ?_ (by decide)).symm
      · show t.val * 768 + (y (0 : Fin 2)).val = (i 0).val
        omega
      · have e2 : 9216 + ((y (1 : Fin 2)).val - 1024) = (i 1).val := by omega
        exact (congrArg (9216 + ·) (spot_col t _)).trans e2

/-- The reference's array of the projections, from its pieces. -/
theorem pieces (d x y : Prod.Arr 8448 1024) (p q : Prod.Arr 8448 10368) (u : Cert.MergeBwRefIdeal.S8448x8192.Idx → EReal) (v w : Prod.Arr 8448 1024)
    (z : Cert.MergeBwRefIdeal.S8448x128.Idx → EReal)
    (hu : ∀ (i : Cert.MergeBwRefIdeal.S8448x8192.Idx) (j : S8448x10368.Idx), (j 0).val = (i 0).val → (j 1).val = (i 1).val → u i = q j)
    (hz : ∀ (a : Fin 8448) (b : Fin 128) (j : S8448x10368.Idx), (j 0).val = a.val → 10240 + b.val = (j 1).val → z (ix2 a b) = q j)
    (hv : v = turn 8192 (by decide) d x p) (hw : w = turn 9216 (by decide) d y p)
    (h : Shape.Concatenates (([⟨Cert.MergeBwRefIdeal.S8448x8192, u⟩, ⟨Cert.MergeBwRefIdeal.S8448x1024, v⟩, ⟨Cert.MergeBwRefIdeal.S8448x1024, w⟩, ⟨Cert.MergeBwRefIdeal.S8448x128, z⟩] : List ((s : Shape) × (s.Idx → EReal))).map (·.1)) Cert.MergeBwRefIdeal.S8448x10368 1) :
    concatenate Cert.MergeBwRefIdeal.S8448x10368 1 [⟨Cert.MergeBwRefIdeal.S8448x8192, u⟩, ⟨Cert.MergeBwRefIdeal.S8448x1024, v⟩, ⟨Cert.MergeBwRefIdeal.S8448x1024, w⟩, ⟨Cert.MergeBwRefIdeal.S8448x128, z⟩] h = all d x y p q := by
  subst hv hw
  refine funext fun (i : Cert.MergeBwRefIdeal.S8448x10368.Idx) => ?_
  have h1 : (i 1).val < 10368 := (i 1).isLt
  by_cases c0 : (i 1).val < 8192
  · refine (concatenate_apply_piece 1 _ h i 0 (by decide : 0 < 4) Cert.MergeBwRefIdeal.S8448x8192 u rfl rfl 0 rfl (ix2 (i 0) ⟨(i 1).val, c0⟩)
      (Fin.forall_fin_two.mpr ⟨fun _ => rfl, fun hb => absurd rfl hb⟩) (Nat.zero_add _)).trans ?_
    exact (hu _ i rfl rfl).trans (Prod.patch_out 8192 9216 _ _ _ i rfl (.inl c0)).symm
  by_cases c1 : (i 1).val < 9216
  · have e : (i 1).val - 8192 < 1024 := by omega
    have f : 8192 + ((i 1).val - 8192) = (i 1).val := by omega
    refine (concatenate_apply_piece 1 _ h i 1 (by decide : 1 < 4) Cert.MergeBwRefIdeal.S8448x1024 _ rfl rfl 8192 rfl (ix2 (i 0) ⟨(i 1).val - 8192, e⟩)
      (Fin.forall_fin_two.mpr ⟨fun _ => rfl, fun hb => absurd rfl hb⟩) f).trans ?_
    exact (Prod.patch_fst_at 8192 9216 _ _ _ i e f).symm
  by_cases c2 : (i 1).val < 10240
  · have e : (i 1).val - 9216 < 1024 := by omega
    have f : 9216 + ((i 1).val - 9216) = (i 1).val := by omega
    refine (concatenate_apply_piece 1 _ h i 2 (by decide : 2 < 4) Cert.MergeBwRefIdeal.S8448x1024 _ rfl rfl 9216 rfl (ix2 (i 0) ⟨(i 1).val - 9216, e⟩)
      (Fin.forall_fin_two.mpr ⟨fun _ => rfl, fun hb => absurd rfl hb⟩) f).trans ?_
    exact (Prod.patch_snd_at 8192 9216 _ _ _ i e f (by decide)).symm
  · have e : (i 1).val - 10240 < 128 := by omega
    have f : 10240 + ((i 1).val - 10240) = (i 1).val := by omega
    refine (concatenate_apply_piece 1 _ h i 3 (by decide : 3 < 4) Cert.MergeBwRefIdeal.S8448x128 z rfl rfl 10240 rfl (ix2 (i 0) ⟨(i 1).val - 10240, e⟩)
      (Fin.forall_fin_two.mpr ⟨fun _ => rfl, fun hb => absurd rfl hb⟩) f).trans ?_
    exact (hz (i 0) ⟨(i 1).val - 10240, e⟩ i rfl f).trans (Prod.patch_out 8192 9216 _ _ _ i rfl (.inr (by omega))).symm

/-- A reference gate's gradient. -/
theorem turned (o : ℕ) (ho : o + 1024 ≤ 10368) (d x : Prod.Arr 8448 1024) (p : Prod.Arr 8448 10368) (g one : Prod.Arr 8448 1024)
    (hg : ∀ i, g i = Prod.gate (p (Prod.shift 8448 10368 o ho i))) (h1 : ∀ i, one i = 1) :
    (fun i => d i * x i * (g i * (one i - g i))) = turn o ho d x p :=
  funext fun i => by rw [hg i, h1 i, turn, Prod.slope]

/-- The kernel's arrays are the reference's. -/
theorem equal : Cert.algebraic_MergeBwIdeal_MergeBwRefIdeal (hMergeBwIdeal := Cert.MergeBwIdeal.Gen.facts) (hMergeBwRefIdeal := Cert.MergeBwRefIdeal.Gen.facts) :=
  fun m g m' g' _ he => ⟨G5 m, G6 m, G7 m, (θ_run defs _ _).mono (fun r h c => ⟨(h c).1.trans (array5 m c), (h c).2.1.trans (array6 m c), (h c).2.2.1.trans (array7 m c), (h c).2.2.2⟩)
      (Value.run_blocks m g),
    (θ_run Cert.MergeBwRefIdeal.defs _ _).mono (fun r h c => ⟨(h c).1.trans ((funext fun (i : S8448x1024.Idx) =>
        congrArg (fun p : EReal => p * m' ((c : Thread nD τ).loc Cert.MergeBwRefIdeal.main_arg0) i) (Prod.gate_cols _ _ _ _ (by decide) _ i)).trans
          (congrArg₂ (side 8192 (by decide)) (he c).1 (he c).2.2.2.1)),
      (h c).2.1.trans ((funext fun (i : S8448x1024.Idx) =>
        congrArg (fun p : EReal => p * m' ((c : Thread nD τ).loc Cert.MergeBwRefIdeal.main_arg0) i) (Prod.gate_cols _ _ _ _ (by decide) _ i)).trans
          (congrArg₂ (side 9216 (by decide)) (he c).1 (he c).2.2.2.1)),
      (h c).2.2.1.trans ((pieces (m' ((c : Thread nD τ).loc Cert.MergeBwRefIdeal.main_arg0)) (m' ((c : Thread nD τ).loc Cert.MergeBwRefIdeal.main_arg1))
          (m' ((c : Thread nD τ).loc Cert.MergeBwRefIdeal.main_arg2)) (m' ((c : Thread nD τ).loc Cert.MergeBwRefIdeal.main_arg3))
          (m' ((c : Thread nD τ).loc Cert.MergeBwRefIdeal.main_arg4)) _ _ _ _
          (fun i j h0 h1 => congrArg (m' ((c : Thread nD τ).loc Cert.MergeBwRefIdeal.main_arg4)) (Shape.idx_ext₂ ((Nat.zero_add _).trans h0.symm) ((Nat.zero_add _).trans h1.symm)))
          (fun a b j h0 h1 => congrArg (m' ((c : Thread nD τ).loc Cert.MergeBwRefIdeal.main_arg4)) (Shape.idx_ext₂ ((Nat.zero_add _).trans h0.symm) h1))
          (turned 8192 (by decide) _ _ _ _ _ (fun i => Prod.gate_cols _ _ _ _ (by decide) _ i) (fun _ => Ideal.ofBits_one_f32))
          (turned 9216 (by decide) _ _ _ _ _ (fun i => Prod.gate_cols _ _ _ _ (by decide) _ i) (fun _ => Ideal.ofBits_one_f32)) _).trans
        (congr (congr (congr (congrArg₂ all (he c).1 (he c).2.1) (he c).2.2.1) (he c).2.2.2.1) (he c).2.2.2.2)), (h c).2.2.2⟩) (Cert.MergeBwRefIdeal.Value.run m' g')⟩

/-- The frames of the kernel, of the ideal kernel and of the reference. -/
theorem frames : Cert.quiescent_MergeBw (hMergeBw := Cert.MergeBw.Gen.facts) ∧ Cert.quiescent_MergeBwIdeal (hMergeBwIdeal := Cert.MergeBwIdeal.Gen.facts)
    ∧ Cert.quiescent_MergeBwRefIdeal (hMergeBwRefIdeal := Cert.MergeBwRefIdeal.Gen.facts) :=
  ⟨fun m g _ => Cert.MergeBw.Gen.frame m g, fun m g _ => Cert.MergeBwIdeal.Gen.frame m g, fun m g _ =>
    (θ_run Cert.MergeBwRefIdeal.defs _ _).mono (fun r h => ⟨fun c => (h c).2.2.2, sem_eq_zero_of_no_sems (by decide) r.2⟩) (Cert.MergeBwRefIdeal.Value.run m g)⟩

end Cert.MergeBwIdeal.Plain

end
-- ==== Proof.SmallFw.lean ====
module

public import proofs.«01_k».proof.Defs
public import proofs.«01_k».proof.Proof.Prod
public import proofs.«01_k».proof.Proof.Gen.SmallFw.Frame
public import proofs.«01_k».proof.Proof.Gen.SmallFwIdeal.Value
public import proofs.«01_k».proof.Proof.Gen.SmallFwRefIdeal.Run

@[expose] public section

/-! The last 128 columns of the input projection once more, kept in float32. -/

noncomputable section

namespace Cert.SmallFwIdeal.Plain

open Cert.SmallFwIdeal Cert.SmallFwIdeal.Gen Idealize.ShloMosaic Idealize.ShloMosaic.ValueIdx Idealize.ShloMosaic.TcCoe

variable (m : (ℓ : Loc nD τ sig) → Buf (Elt Ideal) ℓ) (c : Dev nD)

/-- The product of the arguments. -/
abbrev G : Prod.Arr 8448 128 := Prod.nn (M := 8448) (N := 128) (K := 1024) (m ((c : Thread nD τ).loc main_arg0)) (m ((c : Thread nD τ).loc main_arg1))

/-- The windows move together. -/
theorem moves : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every block of the result is some point's. -/
theorem onto : ∀ (p : Fin 6) (q : Fin 1), ∃ t : Fin cfg0.N, win0_2.index t (0 : Fin 2) = p.val ∧ win0_2.index t (1 : Fin 2) = q.val :=
  (by decide +kernel : ∀ (p : Fin 6) (q : Fin 1), ∃ t : Fin grid0.N, _)

/-- What a point writes. -/
theorem wrote (t : Fin cfg0.N) : (dats m 0 c).flushed 2 t = ((cfg0.win 2).blk t).view.read (Elt Ideal) (G m c) := by
  have hz : (![0, 0] : Fin 2 → Nat) = fun _ => 0 := funext fun a => by fin_cases a <;> rfl
  rw [Value.flushed2, out0_2, View.canon_unit_zero hz, View.ld_unit_zero (S := S1408x1024) hz, View.ld_unit_zero (S := S1024x128) hz]
  obtain ⟨a0, a1, b0, b1⟩ := moves t
  exact funext fun (y : S1408x128.Idx) => (Prod.mm (φ₁ := .bf16) (φ₂ := .bf16) dot_S1408x1024_S1024x128_S1408x128_1_0_0_1_n_n 1024 rfl rfl
      (iblk m c 0 t) (iblk m c 1 t) y (fun k => ix2 (y 0) k) (fun k => ix2 k (y 1)) (fun k => Shape.idx_ext₂ rfl rfl) (fun k => Shape.idx_ext₂ rfl rfl)).trans
    (Prod.nn_cut _ _ y ((cfg0.win 0).blk t).view.emb ((cfg0.win 1).blk t).view.emb (((cfg0.win 2).blk t).view.emb y)
      (fun k => Shape.idx_ext₂ (congrArg (· * 1408 + 1 * (y 0).val) a0) ((congrArg (· * 1024 + 1 * k.val) a1).trans (Prod.start _ _)))
      (fun k => Shape.idx_ext₂ ((congrArg (· * 1024 + 1 * k.val) b0).trans (Prod.start _ _)) (congrArg (· * 128 + 1 * (y 1).val) b1)))

/-- The array after the run. -/
theorem array : (dats m 0 c).arrAt 2 cfg0.N = G m c :=
  (dats m 0 c).arrAt_eq_of_cover 2 _ (fun t _ => wrote m c t) fun (i : S8448x128.Idx) => by
    have h0 : (i 0).val < 8448 := (i 0).isLt
    have h1 : (i 1).val < 128 := (i 1).isLt
    obtain ⟨t, e0, e1⟩ := onto ⟨(i 0).val / 1408, by omega⟩ ⟨(i 1).val / 128, by omega⟩
    refine ⟨t, flush0_2 t, ?_⟩
    show i ∈ ((View.whole main_v0).slice (win0_2.rect t)).set
    rw [View.set_slice_whole, Rect.mem_set_unit]
    exact fun a => match a with
      | ⟨0, _⟩ => Prod.within 1408 e0 (by decide)
      | ⟨1, _⟩ => Prod.within 128 e1 (by decide)

/-- The kernel's array is the reference's. -/
theorem equal : Cert.algebraic_SmallFwIdeal_SmallFwRefIdeal (hSmallFwIdeal := Cert.SmallFwIdeal.Gen.facts) (hSmallFwRefIdeal := Cert.SmallFwRefIdeal.Gen.facts) :=
  fun m g m' g' _ he => ⟨G m, (θ_run defs _ _).mono (fun r h c => ⟨(h c).1.trans (array m c), (h c).2⟩) (Value.run_blocks m g),
    (θ_run Cert.SmallFwRefIdeal.defs _ _).mono (fun r h c => ⟨(h c).1.trans ((funext fun (i : S8448x128.Idx) =>
        Prod.dot (φ₁ := .f32) (φ₂ := .f32) Cert.SmallFwRefIdeal.dot_S8448x1024_S1024x128_S8448x128_1_0_0_1_n_n 1024 rfl rfl _ _ i (fun k => ix2 (i 0) k)
          (fun k => ix2 k (i 1)) (fun k => Shape.idx_ext₂ rfl rfl) (fun k => Shape.idx_ext₂ rfl rfl)).trans
      (congrArg₂ (Prod.nn (M := 8448) (N := 128) (K := 1024)) (he c).1 (he c).2)), (h c).2⟩) (Cert.SmallFwRefIdeal.Value.run m' g')⟩

/-- The frames of the kernel, of the ideal kernel and of the reference. -/
theorem frames : Cert.quiescent_SmallFw (hSmallFw := Cert.SmallFw.Gen.facts) ∧ Cert.quiescent_SmallFwIdeal (hSmallFwIdeal := Cert.SmallFwIdeal.Gen.facts)
    ∧ Cert.quiescent_SmallFwRefIdeal (hSmallFwRefIdeal := Cert.SmallFwRefIdeal.Gen.facts) :=
  ⟨fun m g _ => Cert.SmallFw.Gen.frame m g, fun m g _ => Cert.SmallFwIdeal.Gen.frame m g, fun m g _ =>
    (θ_run Cert.SmallFwRefIdeal.defs _ _).mono (fun r h => ⟨fun c => (h c).2, sem_eq_zero_of_no_sems (by decide) r.2⟩) (Cert.SmallFwRefIdeal.Value.run m g)⟩

end Cert.SmallFwIdeal.Plain

end
-- ==== Proof.NormFw.lean ====
module

public import proofs.«01_k».proof.Defs
public import proofs.«01_k».proof.Proof.Prod
public import proofs.«01_k».proof.Proof.Gen.NormFw.Frame
public import proofs.«01_k».proof.Proof.Gen.NormFwIdeal.Value
public import proofs.«01_k».proof.Proof.Gen.NormFwRefIdeal.Run
public import Idealize.ShloMosaic.Lib.ValueLayout
public import Idealize.ShloMosaic.Lib.ValueLayoutCasts
public import Idealize.ShloMosaic.Lib.KernelVsHost

@[expose] public section

/-! The residual sum of the latent and the context rows, and its modulated norm. -/

noncomputable section

namespace Cert.NormFwIdeal.Plain

open Idealize.ShloMosaic Idealize.ShloMosaic.ValueIdx

/-- The latent rows, then the context's. -/
def join (x : Prod.Arr 8192 1024) (z : Prod.Arr 256 1024) : Prod.Arr 8448 1024 := fun i =>
  if h : (i 0).val < 8192 then x (ix2 ⟨(i 0).val, h⟩ (i 1))
  else z (ix2 ⟨(i 0).val - 8192, by have h0 : (i 0).val < 8448 := (i 0).isLt; omega⟩ (i 1))

/-- The residual sum. -/
def stream (x : Prod.Arr 8192 1024) (z : Prod.Arr 256 1024) (d : Prod.Arr 8448 1024) (g : Prod.Arr 1 1024) : Prod.Arr 8448 1024 := fun i =>
  join x z i + g (ix2 0 (i 1)) * d i

/-- A row's factor, from the sum of its squares. -/
def factor (s : EReal) : EReal := Ideal.rsqrt (Ideal.div s (Ideal.ofBits .f32 0x44800000#32) + Ideal.ofBits .f32 0x358637BD#32)

/-- The modulated norm of rows. -/
def normed {M : ℕ} (h : Prod.Arr M 1024) (w b s : Prod.Arr 1 1024) : Prod.Arr M 1024 := fun i =>
  h i * factor (∑ k : Fin 1024, h (ix2 (i 0) k) * h (ix2 (i 0) k)) * w (ix2 0 (i 1)) * (Ideal.ofBits .f32 0x3F800000#32 + s (ix2 0 (i 1))) + b (ix2 0 (i 1))

/-- The norm's arithmetic, from that of its parts. -/
theorem parts {h r r' w w' s s' b b' : EReal} (hr : r = r') (hw : w = w') (hs : s = s') (hb : b = b') : h * r * w * s + b = h * r' * w' * s' + b' := by
  rw [hr, hw, hs, hb]

end Cert.NormFwIdeal.Plain

/-! ## The reference -/

namespace Cert.NormFwRefIdeal.Plain

open Cert.NormFwRefIdeal Cert.NormFwRefIdeal.Gen Idealize.ShloMosaic Idealize.ShloMosaic.ValueIdx Cert.NormFwIdeal.Plain

/-- A row spread over all rows, at an index. -/
theorem row (v : FVec Ideal S1x1024 .f32) (i : S8448x1024.Idx) :
    broadcastInDim S8448x1024 ![0, 1] bcast_S1x1024_S8448x1024_0_1 v i = v (ix2 0 (i 1)) :=
  broadcastInDim_apply _ _ v i (ix2 0 (i 1)) (Fin.forall_fin_two.mpr ⟨rfl, rfl⟩)

/-- A column spread over all columns, at an index. -/
theorem col (v : FVec Ideal S8448x1 .f32) (i : S8448x1024.Idx) :
    broadcastInDim S8448x1024 ![0, 1] bcast_S8448x1_S8448x1024_0_1 v i = v (ix2 (i 0) 0) :=
  broadcastInDim_apply _ _ v i (ix2 (i 0) 0) (Fin.forall_fin_two.mpr ⟨rfl, rfl⟩)

/-- A column from a list, at an index. -/
theorem up (v : FVec Ideal S8448 .f32) (i : Fin 8448) :
    broadcastInDim S8448x1 ![0] bcast_S8448_S8448x1_0 v (ix2 i 0) = v (ix1 i) :=
  broadcastInDim_apply _ _ v _ (ix1 i) (fun a => match a with | ⟨0, _⟩ => rfl)

/-- The sums of the rows, at an index. -/
theorem rowsum (x : FVec Ideal S8448x1024 .f32) (i : Fin 8448) :
    Host.reduceAdd (F := Ideal) x (constant S_ .f32 0x00000000#32) reducesTo_S8448x1024_S8448_d1 h_S_ (ix1 i) = (∑ k : Fin 1024, x (ix2 i k) : EReal) := by
  have hr : S8448x1024.Reduces [1] S8448 := by decide
  refine (Ideal.hostReduceAdd_single reducesTo_S8448x1024_S8448_d1 hr x (Ideal.ofBits .f32 0x00000000#32) (ix1 i)).trans ?_
  rw [Ideal.ofBits_zero_f32, zero_add]
  exact Finset.sum_congr rfl fun k _ => congrArg x (show hr.lift (ix1 i) k = ix2 i (k : Fin 1024) from funext fun a => by fin_cases a <;> rfl)

/-- The two arrays set one under the other. -/
theorem joined (x : FVec Ideal S8192x1024 .f32) (z : FVec Ideal S256x1024 .f32) (i : S8448x1024.Idx) :
    concatenate S8448x1024 0 [⟨S8192x1024, x⟩, ⟨S256x1024, z⟩] concatenates_S8192x1024_S256x1024_S8448x1024_d0 i = join x z i := by
  have h0 : (i 0).val < 8448 := (i 0).isLt
  unfold join
  by_cases h : (i 0).val < 8192
  · rw [dif_pos h]
    exact concatenate_pair_apply_left (t := S8448x1024) (s₁ := S8192x1024) (s₂ := S256x1024) 0 x z concatenates_S8192x1024_S256x1024_S8448x1024_d0 i rfl
      (ix2 ⟨(i 0).val, h⟩ (i 1)) (Fin.forall_fin_two.mpr ⟨rfl, rfl⟩)
  · rw [dif_neg h]
    exact concatenate_pair_apply_right (t := S8448x1024) (s₁ := S8192x1024) (s₂ := S256x1024) 0 x z concatenates_S8192x1024_S256x1024_S8448x1024_d0 i rfl rfl
      (ix2 ⟨(i 0).val - 8192, by omega⟩ (i 1)) (Fin.forall_fin_two.mpr ⟨fun hb => absurd rfl hb, fun _ => rfl⟩)
      (by show (i 0).val - 8192 + 8192 = (i 0).val; omega)

/-- The residual sum as the reference takes it. -/
theorem streamed (x : FVec Ideal S8192x1024 .f32) (z : FVec Ideal S256x1024 .f32) (d : FVec Ideal S8448x1024 .bf16) (g : FVec Ideal S1x1024 .f32) :
    addf (concatenate S8448x1024 0 [⟨S8192x1024, x⟩, ⟨S256x1024, z⟩] concatenates_S8192x1024_S256x1024_S8448x1024_d0)
      (mulf (broadcastInDim S8448x1024 ![0, 1] bcast_S1x1024_S8448x1024_0_1 g) (extf .f32 d bitsLt_bf16_f32)) = stream x z d g :=
  funext fun i => congrArg₂ (fun p q : EReal => p + q * d i) (joined x z i) (row g i)

/-- A row's factor as the reference takes it. -/
theorem factored (x : FVec Ideal S8448 .f32) (i : Fin 8448) :
    Host.rsqrt (F := Ideal) (addf (Host.divf (broadcastInDim S8448x1 ![0] bcast_S8448_S8448x1_0 x) (broadcastInDim S8448x1 ![] bcast_S_S8448x1 (constant S_ .f32 0x44800000#32)))
      (broadcastInDim S8448x1 ![] bcast_S_S8448x1 (constant S_ .f32 0x358637BD#32))) (ix2 i 0) = factor (x (ix1 i)) := by
  show Ideal.rsqrt (Ideal.div (broadcastInDim S8448x1 ![0] bcast_S8448_S8448x1_0 x (ix2 i 0)) (Ideal.ofBits .f32 0x44800000#32) + Ideal.ofBits .f32 0x358637BD#32) = _
  rw [up, factor]

/-- The second scale as the reference takes it. -/
theorem scaled (s : FVec Ideal S1x1024 .f32) (i : S8448x1024.Idx) :
    broadcastInDim S8448x1024 ![0, 1] bcast_S1x1024_S8448x1024_0_1 (addf (broadcastInDim S1x1024 ![] bcast_S_S1x1024 (constant S_ .f32 0x3F800000#32)) s) i
      = (Ideal.ofBits .f32 0x3F800000#32 + s (ix2 0 (i 1)) : EReal) :=
  (row _ i).trans rfl

/-- The norm as the reference takes it. -/
theorem norm (h : FVec Ideal S8448x1024 .f32) (w b s : FVec Ideal S1x1024 .f32) :
    truncf .bf16 (addf (mulf (mulf (mulf h (broadcastInDim S8448x1024 ![0, 1] bcast_S8448x1_S8448x1024_0_1 (Host.rsqrt (addf (Host.divf
        (broadcastInDim S8448x1 ![0] bcast_S8448_S8448x1_0 (Host.reduceAdd (mulf h h) (constant S_ .f32 0x00000000#32) reducesTo_S8448x1024_S8448_d1 h_S_))
        (broadcastInDim S8448x1 ![] bcast_S_S8448x1 (constant S_ .f32 0x44800000#32))) (broadcastInDim S8448x1 ![] bcast_S_S8448x1 (constant S_ .f32 0x358637BD#32))))))
      (broadcastInDim S8448x1024 ![0, 1] bcast_S1x1024_S8448x1024_0_1 w))
      (broadcastInDim S8448x1024 ![0, 1] bcast_S1x1024_S8448x1024_0_1 (addf (broadcastInDim S1x1024 ![] bcast_S_S1x1024 (constant S_ .f32 0x3F800000#32)) s)))
      (broadcastInDim S8448x1024 ![0, 1] bcast_S1x1024_S8448x1024_0_1 b)) bitsLt_bf16_f32 = normed h w b s := by
  refine funext fun (i : S8448x1024.Idx) => ?_
  exact parts ((col _ i).trans ((factored _ (i 0)).trans (congrArg factor (rowsum (mulf h h) (i 0))))) (row w i) (scaled s i) (row b i)

end Cert.NormFwRefIdeal.Plain

/-! ## The kernel -/

namespace Cert.NormFwIdeal.Plain

open Cert.NormFwIdeal Cert.NormFwIdeal.Gen Idealize.ShloMosaic Idealize.ShloMosaic.ValueIdx Idealize.ShloMosaic.TcCoe

variable (m : (ℓ : Loc nD τ sig) → Buf (Elt Ideal) ℓ) (c : Dev nD)

/-- The residual sum of the arguments. -/
abbrev G7 : Prod.Arr 8448 1024 := stream (m ((c : Thread nD τ).loc main_arg0)) (m ((c : Thread nD τ).loc main_arg1)) (m ((c : Thread nD τ).loc main_arg2))
  (m ((c : Thread nD τ).loc main_arg3))

/-- Its norm. -/
abbrev G8 : Prod.Arr 8448 1024 := normed (G7 m c) (m ((c : Thread nD τ).loc main_arg4)) (m ((c : Thread nD τ).loc main_arg5)) (m ((c : Thread nD τ).loc main_arg6))

/-- The windows move together. -/
theorem moves : ∀ t : Fin cfg0.N, (win0_2.index t (0 : Fin 2) = t.val ∧ win0_2.index t (1 : Fin 2) = 0)
    ∧ (win0_7.index t (0 : Fin 2) = t.val ∧ win0_7.index t (1 : Fin 2) = 0) ∧ (win0_8.index t (0 : Fin 2) = t.val ∧ win0_8.index t (1 : Fin 2) = 0) :=
  (by decide +kernel : ∀ t : Fin grid0.N, _)

/-- The vectors' windows rest. -/
theorem rests : ∀ t : Fin cfg0.N, (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0) :=
  (by decide +kernel : ∀ t : Fin grid0.N, _)

/-- Before the last point the latent rows are taken … -/
theorem early : ∀ t : Fin cfg0.N, t.val < 32 → win0_0.index t (0 : Fin 2) = t.val ∧ win0_0.index t (1 : Fin 2) = 0
    ∧ Scalar.cmpi .sge (BitVec.ofNat 32 (grid0.coords t 0).val) 32#32 = 0#1 :=
  (by decide +kernel : ∀ t : Fin grid0.N, _)

/-- … and at the last the context's. -/
theorem late : ∀ t : Fin cfg0.N, ¬ t.val < 32 → t.val = 32 ∧ win0_1.index t (0 : Fin 2) = 0 ∧ win0_1.index t (1 : Fin 2) = 0
    ∧ Scalar.cmpi .sge (BitVec.ofNat 32 (grid0.coords t 0).val) 32#32 = 1#1 :=
  (by decide +kernel : ∀ t : Fin grid0.N, _)

/-- An index of a point's block, in the whole array. -/
def spot (t : Fin cfg0.N) (y : S256x1024.Idx) : (⟨2, ![8448, 1024]⟩ : Shape).Idx :=
  ix2 ⟨t.val * 256 + (y 0).val, by have h0 : (y 0).val < 256 := (y 0).isLt; have ht : t.val < 33 := lt_of_lt_of_eq t.isLt N_0; omega⟩ (y 1)

/-- A block at the start of the columns, at an index. -/
theorem place (t : Fin cfg0.N) (y : S256x1024.Idx) {p q : ℕ} (hp : p = t.val) (hq : q = 0) (j : (⟨2, ![8448, 1024]⟩ : Shape).Idx)
    (h0 : (j 0).val = p * 256 + 1 * (y 0).val) (h1 : (j 1).val = q * 1024 + 1 * (y 1).val) : j = spot t y :=
  Shape.idx_ext₂ (h0.trans ((Prod.number 256 _ hp).trans rfl)) (h1.trans (by rw [hq, Prod.start]; rfl))

/-- The mixer's block, at an index. -/
theorem in2 (t : Fin cfg0.N) (y : S256x1024.Idx) : iblk m c 2 t y = m ((c : Thread nD τ).loc main_arg2) (spot t y) :=
  congrArg (m ((c : Thread nD τ).loc main_arg2)) (place t y (moves t).1.1 (moves t).1.2 _ rfl rfl)

/-- A resting window's block is the whole vector. -/
theorem rest {p q : ℕ} (hp : p = 0) (hq : q = 0) (y j : S1x1024.Idx) (h0 : (j 0).val = p * 1 + 1 * (y 0).val) (h1 : (j 1).val = q * 1024 + 1 * (y 1).val) : j = y :=
  Shape.idx_ext₂ (h0.trans (by rw [hp, Prod.start])) (h1.trans (by rw [hq, Prod.start]))

theorem in3 (t : Fin cfg0.N) : iblk m c 3 t = m ((c : Thread nD τ).loc main_arg3) :=
  funext fun (y : S1x1024.Idx) => congrArg (m ((c : Thread nD τ).loc main_arg3)) (rest (rests t).1.1 (rests t).1.2 y _ rfl rfl)

theorem in4 (t : Fin cfg0.N) : iblk m c 4 t = m ((c : Thread nD τ).loc main_arg4) :=
  funext fun (y : S1x1024.Idx) => congrArg (m ((c : Thread nD τ).loc main_arg4)) (rest (rests t).2.1.1 (rests t).2.1.2 y _ rfl rfl)

theorem in5 (t : Fin cfg0.N) : iblk m c 5 t = m ((c : Thread nD τ).loc main_arg5) :=
  funext fun (y : S1x1024.Idx) => congrArg (m ((c : Thread nD τ).loc main_arg5)) (rest (rests t).2.2.1.1 (rests t).2.2.1.2 y _ rfl rfl)

theorem in6 (t : Fin cfg0.N) : iblk m c 6 t = m ((c : Thread nD τ).loc main_arg6) :=
  funext fun (y : S1x1024.Idx) => congrArg (m ((c : Thread nD τ).loc main_arg6)) (rest (rests t).2.2.2.1 (rests t).2.2.2.2 y _ rfl rfl)

/-- The rows that a point takes. -/
theorem rows (t : Fin cfg0.N) (y : S256x1024.Idx) :
    (Scalar.select (Scalar.cmpi .sge (BitVec.ofNat 32 (grid0.coords t 0).val) 32#32) (iblk m c 1 t) (iblk m c 0 t) : Vec Ideal S256x1024 .f32) y
      = join (m ((c : Thread nD τ).loc main_arg0)) (m ((c : Thread nD τ).loc main_arg1)) (spot t y) := by
  have h0 : (y 0).val < 256 := (y 0).isLt
  have hv : (spot t y 0).val = t.val * 256 + (y 0).val := rfl
  unfold join
  by_cases h : t.val < 32
  · obtain ⟨a, b, e⟩ := early t h
    rw [e, dif_pos (by rw [hv]; omega)]
    exact congrArg (m ((c : Thread nD τ).loc main_arg0)) (Shape.idx_ext₂
      (by show win0_0.index t (0 : Fin 2) * 256 + 1 * (y 0).val = t.val * 256 + (y 0).val; rw [a]; omega)
      (by show win0_0.index t (1 : Fin 2) * 1024 + 1 * (y 1).val = (y 1).val; rw [b]; omega))
  · obtain ⟨n, a, b, e⟩ := late t h
    rw [e, dif_neg (by rw [hv]; omega)]
    exact congrArg (m ((c : Thread nD τ).loc main_arg1)) (Shape.idx_ext₂
      (by show win0_1.index t (0 : Fin 2) * 256 + 1 * (y 0).val = t.val * 256 + (y 0).val - 8192; rw [a, n]; omega)
      (by show win0_1.index t (1 : Fin 2) * 1024 + 1 * (y 1).val = (y 1).val; rw [b]; omega))

/-- A row spread over a block's rows, at an index. -/
theorem row (v : FVec Ideal S1x1024 .f32) (y : S256x1024.Idx) : broadcastTo S256x1024 v broadcasts_S1x1024_S256x1024 y = v (ix2 0 (y 1)) :=
  (congrArg (broadcastTo S256x1024 v broadcasts_S1x1024_S256x1024) (Shape.idx_ext₂ rfl rfl : y = ix2 (y 0) (y 1))).trans (broadcastTo_1b_ab_apply v _ (y 0) (y 1))

/-- A column spread over the columns, at an index. -/
theorem col (v : FVec Ideal S256x1 .f32) (y : S256x1024.Idx) : broadcastTo S256x1024 v broadcasts_S256x1_S256x1024 y = v (ix2 (y 0) 0) :=
  broadcastTo_apply v _ y (ix2 (y 0) 0) (Fin.forall_fin_two.mpr ⟨rfl, rfl⟩)

/-- The sums of a block's rows, at an index. -/
theorem rowsum (x : FVec Ideal S256x1024 .f32) (i : Fin 256) :
    shapeCast S256x1 (multiReduction .add [1] S256 x 0x00000000#32 reduces_S256x1024_S256 (.inl rfl) rfl) shapeCasts_S256_S256x1 (ix2 i 0) = (∑ k : Fin 1024, x (ix2 i k) : EReal) := by
  rw [shapeCast_a_a1_apply]
  refine (Ideal.multiReduction_add_single _ _ _ _ _ _).trans ?_
  exact Finset.sum_congr rfl fun k _ => congrArg x (show reduces_S256x1024_S256.lift (ix1 i) k = ix2 i (k : Fin 1024) from funext fun a => by fin_cases a <;> rfl)

/-- The residual sum that the body takes, at an index. -/
theorem pay1 (i : grid0.Coords) (a b : Vec Ideal S256x1024 .f32) (g : Vec Ideal S1x1024 .f32) (d : Vec Ideal S256x1024 .bf16) (y : S256x1024.Idx) :
    k0_pay1 (F := Ideal) i a b g d y = (Scalar.select (Scalar.cmpi .sge (BitVec.ofNat 32 (i 0).val) 32#32) a b : Vec Ideal S256x1024 .f32) y + g (ix2 0 (y 1)) * d y :=
  congrArg (fun p : EReal => (Scalar.select (Scalar.cmpi .sge (BitVec.ofNat 32 (i 0).val) 32#32) a b : Vec Ideal S256x1024 .f32) y + p * d y) (row g y)

/-- A row's factor as the body takes it. -/
theorem factored (x : FVec Ideal S256x1 .f32) (i : Fin 256) :
    rsqrt (F := Ideal) (addf (divf x (broadcast S256x1 (Scalar.ofBits .f32 0x44800000#32))) (broadcast S256x1 (Scalar.ofBits .f32 0x358637BD#32))) (ix2 i 0)
      = factor (x (ix2 i 0)) := rfl

/-- The second scale as the body takes it. -/
theorem scaled (s : FVec Ideal S1x1024 .f32) (y : S256x1024.Idx) :
    broadcastTo S256x1024 (addf (broadcast S1x1024 (Scalar.ofBits (F := Ideal) .f32 0x3F800000#32)) s) broadcasts_S1x1024_S256x1024 y
      = (Ideal.ofBits .f32 0x3F800000#32 + s (ix2 0 (y 1)) : EReal) :=
  (row _ y).trans rfl

/-- The norm that the body takes. -/
theorem pay2 (i : grid0.Coords) (a b' : Vec Ideal S256x1024 .f32) (g : Vec Ideal S1x1024 .f32) (d : Vec Ideal S256x1024 .bf16) (w s b : Vec Ideal S1x1024 .f32)
    (y : S256x1024.Idx) : k0_pay2 (F := Ideal) i a b' g d w s b y = normed (M := 256) (k0_pay1 (F := Ideal) i a b' g d) w b s y := by
  unfold k0_pay2
  generalize k0_pay1 (F := Ideal) i a b' g d = h
  exact parts ((col _ y).trans ((factored _ (y 0)).trans (congrArg factor (rowsum (mulf h h) (y 0))))) (row w y) (scaled s y) (row b y)

/-- The norm of a block of rows is the block of the norm. -/
theorem cut (h : Prod.Arr 8448 1024) (h' : Prod.Arr 256 1024) (w b s : Prod.Arr 1 1024) (t : Fin cfg0.N) (e : ∀ y, h' y = h (spot t y)) (y : S256x1024.Idx) :
    normed h' w b s y = normed h w b s (spot t y) := by
  unfold normed
  simp only [e]
  rfl

/-- The residual sum of a point's blocks. -/
theorem part (t : Fin cfg0.N) (y : S256x1024.Idx) :
    k0_pay1 (F := Ideal) (grid0.coords t) (iblk m c 1 t) (iblk m c 0 t) (iblk m c 3 t) (iblk m c 2 t) y = G7 m c (spot t y) :=
  (pay1 _ _ _ _ _ y).trans (congrArg₂ (fun p q : EReal => p + q) (rows m c t y)
    (congrArg₂ (fun p q : EReal => p * q) (congrFun (in3 m c t) (ix2 0 (y 1))) (in2 m c t y)))

/-- What a point writes of the residual sum. -/
theorem wrote7 (t : Fin cfg0.N) : (dats m 0 c).flushed 7 t = ((cfg0.win 7).blk t).view.read (Elt Ideal) (G7 m c) := by
  have hz : (![0, 0] : Fin 2 → Nat) = fun _ => 0 := funext fun a => by fin_cases a <;> rfl
  rw [Value.flushed7, out0_7, View.canon_unit_zero hz]
  simp only [View.ld_unit_zero (S := S256x1024) hz, View.ld_unit_zero (S := S1x1024) hz]
  exact funext fun (y : S256x1024.Idx) => (part m c t y).trans (congrArg (G7 m c) (place t y (moves t).2.1.1 (moves t).2.1.2 _ rfl rfl).symm)

/-- What a point writes of the norm. -/
theorem wrote8 (t : Fin cfg0.N) : (dats m 0 c).flushed 8 t = ((cfg0.win 8).blk t).view.read (Elt Ideal) (G8 m c) := by
  have hz : (![0, 0] : Fin 2 → Nat) = fun _ => 0 := funext fun a => by fin_cases a <;> rfl
  rw [Value.flushed8, out0_8, View.canon_unit_zero hz]
  simp only [View.ld_unit_zero (S := S256x1024) hz, View.ld_unit_zero (S := S1x1024) hz]
  rw [in4, in5, in6]
  exact funext fun (y : S256x1024.Idx) => (pay2 _ _ _ _ _ _ _ _ y).trans ((cut _ _ _ _ _ t (part m c t) y).trans
    (congrArg (G8 m c) (place t y (moves t).2.2.1 (moves t).2.2.2 _ rfl rfl).symm))

/-- The residual sum after the run. -/
theorem array7 : (dats m 0 c).arrAt 7 cfg0.N = G7 m c :=
  (dats m 0 c).arrAt_eq_of_cover 7 _ (fun t _ => wrote7 m c t) fun (i : S8448x1024.Idx) => by
    have h0 : (i 0).val < 8448 := (i 0).isLt
    have h1 : (i 1).val < 1024 := (i 1).isLt
    have ht : (i 0).val / 256 < cfg0.N := lt_of_lt_of_eq (by omega) N_0.symm
    refine ⟨⟨(i 0).val / 256, ht⟩, flush0_7 _, ?_⟩
    show i ∈ ((View.whole main_v0_0).slice (win0_7.rect ⟨(i 0).val / 256, ht⟩)).set
    rw [View.set_slice_whole, Rect.mem_set_unit]
    exact fun a => match a with
      | ⟨0, _⟩ => Prod.within 256 (moves ⟨_, ht⟩).2.1.1 (by decide)
      | ⟨1, _⟩ => Prod.within 1024 ((moves ⟨_, ht⟩).2.1.2.trans (Nat.div_eq_of_lt h1).symm) (by decide)

/-- The norm after the run. -/
theorem array8 : (dats m 0 c).arrAt 8 cfg0.N = G8 m c :=
  (dats m 0 c).arrAt_eq_of_cover 8 _ (fun t _ => wrote8 m c t) fun (i : S8448x1024.Idx) => by
    have h0 : (i 0).val < 8448 := (i 0).isLt
    have h1 : (i 1).val < 1024 := (i 1).isLt
    have ht : (i 0).val / 256 < cfg0.N := lt_of_lt_of_eq (by omega) N_0.symm
    refine ⟨⟨(i 0).val / 256, ht⟩, flush0_8 _, ?_⟩
    show i ∈ ((View.whole main_v0_1).slice (win0_8.rect ⟨(i 0).val / 256, ht⟩)).set
    rw [View.set_slice_whole, Rect.mem_set_unit]
    exact fun a => match a with
      | ⟨0, _⟩ => Prod.within 256 (moves ⟨_, ht⟩).2.2.1 (by decide)
      | ⟨1, _⟩ => Prod.within 1024 ((moves ⟨_, ht⟩).2.2.2.trans (Nat.div_eq_of_lt h1).symm) (by decide)

/-- The kernel's arrays are the reference's. -/
theorem equal : Cert.algebraic_NormFwIdeal_NormFwRefIdeal (hNormFwIdeal := Cert.NormFwIdeal.Gen.facts) (hNormFwRefIdeal := Cert.NormFwRefIdeal.Gen.facts) :=
  fun m g m' g' _ he => ⟨G7 m, G8 m, (θ_run defs _ _).mono (fun r h c => ⟨(h c).1.trans (array7 m c), (h c).2.1.trans (array8 m c), (h c).2.2⟩) (Value.run_blocks m g),
    (θ_run Cert.NormFwRefIdeal.defs _ _).mono (fun r h c => by
      have e : stream (m' ((c : Thread nD τ).loc Cert.NormFwRefIdeal.main_arg0)) (m' ((c : Thread nD τ).loc Cert.NormFwRefIdeal.main_arg1))
          (m' ((c : Thread nD τ).loc Cert.NormFwRefIdeal.main_arg2)) (m' ((c : Thread nD τ).loc Cert.NormFwRefIdeal.main_arg3)) = G7 m c :=
        congr (congr (congrArg₂ stream (he c).1 (he c).2.1) (he c).2.2.1) (he c).2.2.2.1
      have s := (Cert.NormFwRefIdeal.Plain.streamed (m' ((c : Thread nD τ).loc Cert.NormFwRefIdeal.main_arg0)) (m' ((c : Thread nD τ).loc Cert.NormFwRefIdeal.main_arg1))
          (m' ((c : Thread nD τ).loc Cert.NormFwRefIdeal.main_arg2)) (m' ((c : Thread nD τ).loc Cert.NormFwRefIdeal.main_arg3))).trans e
      exact ⟨(h c).1.trans s, (h c).2.1.trans ((Cert.NormFwRefIdeal.Plain.norm _ (m' ((c : Thread nD τ).loc Cert.NormFwRefIdeal.main_arg4))
          (m' ((c : Thread nD τ).loc Cert.NormFwRefIdeal.main_arg5)) (m' ((c : Thread nD τ).loc Cert.NormFwRefIdeal.main_arg6))).trans
        (congr (congr (congrArg₂ (normed (M := 8448)) s (he c).2.2.2.2.1) (he c).2.2.2.2.2.1) (he c).2.2.2.2.2.2)), (h c).2.2⟩) (Cert.NormFwRefIdeal.Value.run m' g')⟩

/-- The frames of the kernel, of the ideal kernel and of the reference. -/
theorem frames : Cert.quiescent_NormFw (hNormFw := Cert.NormFw.Gen.facts) ∧ Cert.quiescent_NormFwIdeal (hNormFwIdeal := Cert.NormFwIdeal.Gen.facts)
    ∧ Cert.quiescent_NormFwRefIdeal (hNormFwRefIdeal := Cert.NormFwRefIdeal.Gen.facts) :=
  ⟨fun m g _ => Cert.NormFw.Gen.frame m g, fun m g _ => Cert.NormFwIdeal.Gen.frame m g, fun m g _ =>
    (θ_run Cert.NormFwRefIdeal.defs _ _).mono (fun r h => ⟨fun c => (h c).2.2, sem_eq_zero_of_no_sems (by decide) r.2⟩) (Cert.NormFwRefIdeal.Value.run m g)⟩

end Cert.NormFwIdeal.Plain

end
-- ==== Proof.NormGrad.lean ====
module

public import proofs.«01_k».proof.Proof.Prod

@[expose] public section

/-! The gradient of a row's norm in its two written forms, over the extended reals. No finiteness is needed. -/

noncomputable section

namespace Cert.NormGrad

open Idealize.ShloMosaic

/-- A row's mean square with its offset, from the sum of its squares. -/
def mean (s : EReal) : EReal := Ideal.div s (Ideal.ofBits .f32 0x44800000#32) + Ideal.ofBits .f32 0x358637BD#32

/-- A row's factor. -/
def factor (s : EReal) : EReal := Ideal.rsqrt (mean s)

theorem count : Ideal.ofBits .f32 0x44800000#32 = ((1024 : ℝ) : EReal) := by
  simp [Ideal.ofBits, Ideal.ieee, -EReal.coe_mul]
  norm_num

theorem half : Ideal.ofBits .f32 0xBF000000#32 = ((-(1 / 2) : ℝ) : EReal) := by
  simp [Ideal.ofBits, Ideal.ieee, -EReal.coe_mul, -EReal.coe_neg]
  norm_num

theorem offset : ∃ e : ℝ, 0 < e ∧ Ideal.ofBits .f32 0x358637BD#32 = ((e : ℝ) : EReal) := by
  refine ⟨8796093 * 2 ^ (-43 : ℤ), by positivity, ?_⟩
  simp [Ideal.ofBits, Ideal.ieee, -EReal.coe_mul]

/-- A square is not negative. -/
theorem square (x : EReal) : 0 ≤ x * x := by
  induction x using EReal.rec with
  | bot => simp
  | top => simp
  | coe x => rw [← EReal.coe_mul]; exact_mod_cast mul_self_nonneg x

/-- A sum of squares is not negative. -/
theorem squares {n : ℕ} (h : Fin n → EReal) : 0 ≤ ∑ k, h k * h k := Finset.sum_nonneg fun k _ => square (h k)

/-- The mean is infinite or a positive number. -/
theorem mean_cases {s : EReal} (hs : 0 ≤ s) : mean s = ⊤ ∨ ∃ v : ℝ, 0 < v ∧ mean s = ((v : ℝ) : EReal) := by
  obtain ⟨e, he, hb⟩ := offset
  rw [mean, count, hb, Ideal.div_coe (by norm_num)]
  induction s using EReal.rec with
  | bot => simp at hs
  | top => left; rw [EReal.top_mul_coe_of_pos (by norm_num), EReal.top_add_coe]
  | coe x =>
    have hx : 0 ≤ x := by exact_mod_cast hs
    exact .inr ⟨x * (1 / 1024) + e, by positivity, by rw [EReal.coe_add, EReal.coe_mul]⟩

/-- A number that is not negative may be taken out of a sum. -/
theorem pull {n : ℕ} (r : ℝ) (hr : 0 ≤ r) (f : Fin n → EReal) : ∑ k, f k * ((r : ℝ) : EReal) = (∑ k, f k) * ((r : ℝ) : EReal) := by
  have h0 : (0 : EReal) ≤ ((r : ℝ) : EReal) := by exact_mod_cast hr
  induction (Finset.univ : Finset (Fin n)) using Finset.induction_on with
  | empty => simp
  | insert a s ha ih => rw [Finset.sum_insert ha, Finset.sum_insert ha, ih, EReal.right_distrib_of_nonneg_of_ne_top h0 (EReal.coe_ne_top r)]

/-- The factor is a number that is not negative, and with the mean gives the two forms' equality. -/
theorem forms {s : EReal} (hs : 0 ≤ s) : ∃ r q : ℝ, 0 ≤ r ∧ factor s = ((r : ℝ) : EReal)
    ∧ Ideal.ofBits .f32 0xBF000000#32 * Ideal.div (factor s) (mean s) = ((q : ℝ) : EReal) ∧ q + q = - (r * r * r) := by
  rcases mean_cases hs with h | ⟨v, hv, h⟩
  · refine ⟨0, 0, le_rfl, by rw [factor, h]; rfl, ?_, by ring⟩
    rw [factor, h, Ideal.rsqrt_top, Ideal.div]
    simp
  · have hf : factor s = (((Real.sqrt v)⁻¹ : ℝ) : EReal) := by
      rw [factor, h, Ideal.rsqrt_coe, if_neg (not_lt.mpr hv.le), if_neg hv.ne']
    refine ⟨(Real.sqrt v)⁻¹, -(1 / 2) * ((Real.sqrt v)⁻¹ * (1 / v)), by positivity, hf, ?_, ?_⟩
    · rw [hf, h, half, Ideal.div_coe hv.ne', ← EReal.coe_mul, ← EReal.coe_mul]
    · have hs2 : (Real.sqrt v)⁻¹ * (Real.sqrt v)⁻¹ = 1 / v := by rw [← mul_inv, Real.mul_self_sqrt hv.le, one_div]
      rw [hs2]
      ring

/-- A number twice. -/
theorem twice (x : EReal) (q : ℝ) : x * ((q : ℝ) : EReal) + x * ((q : ℝ) : EReal) = x * ((q + q : ℝ) : EReal) := by
  have h : (x * ((q : ℝ) : EReal)) + (x * ((q : ℝ) : EReal)) = (x * ((q : ℝ) : EReal)) * ((2 : ℝ) : EReal) := by
    generalize x * ((q : ℝ) : EReal) = y
    induction y using EReal.rec with
    | bot => rw [EReal.bot_mul_coe_of_pos (by norm_num)]; rfl
    | top => rw [EReal.top_mul_coe_of_pos (by norm_num)]; rfl
    | coe y => rw [← EReal.coe_add, ← EReal.coe_mul]; congr 1; ring
  rw [h, mul_assoc, ← EReal.coe_mul]
  congr 2
  ring

/-- The two forms of the gradient. -/
theorem agree {s : EReal} (hs : 0 ≤ s) {n : ℕ} (h d : Fin n → EReal) (j : Fin n) :
    d j * factor s + (h j * Ideal.div ((∑ k, h k * d k) * (Ideal.ofBits .f32 0xBF000000#32 * Ideal.div (factor s) (mean s))) (Ideal.ofBits .f32 0x44800000#32)
        + Ideal.div ((∑ k, h k * d k) * (Ideal.ofBits .f32 0xBF000000#32 * Ideal.div (factor s) (mean s))) (Ideal.ofBits .f32 0x44800000#32) * h j)
      = factor s * (d j - h j * factor s * Ideal.div (∑ k, d k * (h k * factor s)) (Ideal.ofBits .f32 0x44800000#32)) := by
  obtain ⟨r, q, hr, hf, hq, e⟩ := forms hs
  have hT : ∑ k, d k * (h k * ((r : ℝ) : EReal)) = (∑ k, h k * d k) * ((r : ℝ) : EReal) := by
    rw [← pull r hr]
    exact Finset.sum_congr rfl fun k _ => by rw [← mul_assoc, mul_comm (d k)]
  rw [hq, hf, hT, count, Ideal.div_coe (by norm_num), Ideal.div_coe (by norm_num)]
  generalize ∑ k, h k * d k = T
  have h0 : (0 : EReal) ≤ ((r : ℝ) : EReal) := by exact_mod_cast hr
  have hl : h j * (T * ((q : ℝ) : EReal) * ((1 / 1024 : ℝ) : EReal)) = h j * T * ((q * (1 / 1024) : ℝ) : EReal) := by
    rw [EReal.coe_mul]; simp only [mul_assoc]
  rw [mul_comm (T * ((q : ℝ) : EReal) * ((1 / 1024 : ℝ) : EReal)) (h j), hl, twice]
  have hk : h j * ((r : ℝ) : EReal) * (T * ((r : ℝ) : EReal) * ((1 / 1024 : ℝ) : EReal)) = h j * T * ((r * (r * (1 / 1024)) : ℝ) : EReal) := by
    rw [EReal.coe_mul, EReal.coe_mul, mul_assoc (h j), mul_assoc (h j), mul_assoc T, mul_left_comm ((r : ℝ) : EReal) T]
  have hn : -(h j * T * ((r * (r * (1 / 1024)) : ℝ) : EReal)) = h j * T * ((-(r * (r * (1 / 1024))) : ℝ) : EReal) := by
    rw [EReal.coe_neg, mul_neg]
  rw [hk, sub_eq_add_neg, hn, EReal.left_distrib_of_nonneg_of_ne_top h0 (EReal.coe_ne_top r), mul_comm _ (d j), mul_left_comm, ← EReal.coe_mul]
  congr 3
  linarith

end Cert.NormGrad

end
-- ==== Proof.NormBw.lean ====
module

public import proofs.«01_k».proof.Defs
public import proofs.«01_k».proof.Proof.NormGrad
public import proofs.«01_k».proof.Proof.Gen.NormBw.Frame
public import proofs.«01_k».proof.Proof.Gen.NormBwIdeal.Value
public import proofs.«01_k».proof.Proof.Gen.NormBwRefIdeal.Run
public import Idealize.ShloMosaic.Lib.ValueLayout
public import Idealize.ShloMosaic.Lib.ValueLayoutCasts
public import Idealize.ShloMosaic.Lib.KernelVsHost
public import Idealize.ShloMosaic.Lib.WritesUnit
public import Idealize.ShloMosaic.Lib.Pipeline.ReadBack

@[expose] public section

/-! The gradient of the residual sum and its modulated norm: of the rows, of the mixer's rows, and of the four vectors. -/

noncomputable section

namespace Cert.NormBwIdeal.Plain

open Idealize.ShloMosaic Idealize.ShloMosaic.ValueIdx

variable {M : ℕ}

/-- The rows' cotangent: the sum of its two parts. -/
def both (a b : Prod.Arr M 1024) : Prod.Arr M 1024 := fun i => a i + b i

/-- The cotangent before the second scale. -/
def wide (a b : Prod.Arr M 1024) (s : Prod.Arr 1 1024) : Prod.Arr M 1024 := fun i => both a b i * (Ideal.ofBits .f32 0x3F800000#32 + s (ix2 0 (i 1)))

/-- The cotangent before the weight. -/
def drive (a b : Prod.Arr M 1024) (s w : Prod.Arr 1 1024) : Prod.Arr M 1024 := fun i => wide a b s i * w (ix2 0 (i 1))

/-- The sum of a row's squares. -/
def power (h : Prod.Arr M 1024) (p : Fin M) : EReal := ∑ k : Fin 1024, h (ix2 p k) * h (ix2 p k)

/-- The rows over their norms. -/
def unit (h : Prod.Arr M 1024) : Prod.Arr M 1024 := fun i => h i * NormGrad.factor (power h (i 0))

/-- The rows' gradient. -/
def back (a b h d : Prod.Arr M 1024) (s w : Prod.Arr 1 1024) : Prod.Arr M 1024 := fun i =>
  d i + NormGrad.factor (power h (i 0)) * (drive a b s w i - unit h i * Ideal.div (∑ k : Fin 1024, drive a b s w (ix2 (i 0) k) * unit h (ix2 (i 0) k)) (Ideal.ofBits .f32 0x44800000#32))

/-- The mixer's gradient. -/
def mixed (a b h d : Prod.Arr M 1024) (s g w : Prod.Arr 1 1024) : Prod.Arr M 1024 := fun i => g (ix2 0 (i 1)) * back a b h d s w i

/-- The terms of a vector's gradient, by the vector's number. -/
def term (a b h d x : Prod.Arr M 1024) (s w : Prod.Arr 1 1024) : ℕ → Prod.Arr M 1024
  | 0 => fun i => both a b i * unit h i * w (ix2 0 (i 1))
  | 1 => both a b
  | 2 => fun i => wide a b s i * unit h i
  | 3 => fun i => back a b h d s w i * x i
  | _ => fun _ => 0

/-- The vectors' gradients. -/
def vectors (a b h d x : Prod.Arr M 1024) (s w : Prod.Arr 1 1024) : Prod.Arr 8 1024 := fun i => ∑ k : Fin M, term a b h d x s w (i 0).val (ix2 k (i 1))

end Cert.NormBwIdeal.Plain

/-! ## The reference -/

namespace Cert.NormBwRefIdeal.Plain

open Cert.NormBwRefIdeal Cert.NormBwRefIdeal.Gen Idealize.ShloMosaic Idealize.ShloMosaic.ValueIdx Cert.NormBwIdeal.Plain

/-- A row spread over all rows, at an index. -/
theorem row (v : FVec Ideal S1x1024 .f32) (i : S8448x1024.Idx) :
    broadcastInDim S8448x1024 ![0, 1] bcast_S1x1024_S8448x1024_0_1 v i = v (ix2 0 (i 1)) :=
  broadcastInDim_apply _ _ v i (ix2 0 (i 1)) (Fin.forall_fin_two.mpr ⟨rfl, rfl⟩)

/-- A column spread over all columns, at an index. -/
theorem col (v : FVec Ideal S8448x1 .f32) (i : S8448x1024.Idx) :
    broadcastInDim S8448x1024 ![0, 1] bcast_S8448x1_S8448x1024_0_1 v i = v (ix2 (i 0) 0) :=
  broadcastInDim_apply _ _ v i (ix2 (i 0) 0) (Fin.forall_fin_two.mpr ⟨rfl, rfl⟩)

/-- A list spread over all columns, at an index. -/
theorem list (v : FVec Ideal S8448 .f32) (i : S8448x1024.Idx) :
    broadcastInDim S8448x1024 ![0] bcast_S8448_S8448x1024_0 v i = v (ix1 (i 0)) :=
  broadcastInDim_apply _ _ v i (ix1 (i 0)) (fun a => match a with | ⟨0, _⟩ => rfl)

/-- A column from a list, at an index. -/
theorem up (v : FVec Ideal S8448 .f32) (i : Fin 8448) :
    broadcastInDim S8448x1 ![0] bcast_S8448_S8448x1_0 v (ix2 i 0) = v (ix1 i) :=
  broadcastInDim_apply _ _ v _ (ix1 i) (fun a => match a with | ⟨0, _⟩ => rfl)

/-- The sums of the rows, at an index. -/
theorem rowsum (x : FVec Ideal S8448x1024 .f32) (i : Fin 8448) :
    Host.reduceAdd (F := Ideal) x (constant S_ .f32 0x00000000#32) reducesTo_S8448x1024_S8448_d1 h_S_ (ix1 i) = (∑ k : Fin 1024, x (ix2 i k) : EReal) := by
  have hr : S8448x1024.Reduces [1] S8448 := by decide
  refine (Ideal.hostReduceAdd_single reducesTo_S8448x1024_S8448_d1 hr x (Ideal.ofBits .f32 0x00000000#32) (ix1 i)).trans ?_
  rw [Ideal.ofBits_zero_f32, zero_add]
  exact Finset.sum_congr rfl fun k _ => congrArg x (show hr.lift (ix1 i) k = ix2 i (k : Fin 1024) from funext fun a => by fin_cases a <;> rfl)

/-- The sums of the columns, at an index. -/
theorem colsum (x : FVec Ideal S8448x1024 .f32) (j : Fin 1024) :
    shapeCast S1x1024 (Host.reduceAdd (F := Ideal) x (constant S_ .f32 0x00000000#32) reducesTo_S8448x1024_S1024_d0 h_S_) shapeCasts_S1024_S1x1024 (ix2 0 j) = (∑ k : Fin 8448, x (ix2 k j) : EReal) := by
  have hr : S8448x1024.Reduces [0] S1024 := by decide
  refine (shapeCast_a_1a_apply (a := 1024) _ _ 0 j).trans ?_
  refine (Ideal.hostReduceAdd_single reducesTo_S8448x1024_S1024_d0 hr x (Ideal.ofBits .f32 0x00000000#32) (ix1 j)).trans ?_
  rw [Ideal.ofBits_zero_f32, zero_add]
  exact Finset.sum_congr rfl fun k _ => congrArg x (show hr.lift (ix1 j) k = ix2 (k : Fin 8448) j from funext fun a => by fin_cases a <;> rfl)

/-- A column's sums over its one entry. -/
theorem only (x : FVec Ideal S8448x1 .f32) (i : Fin 8448) :
    Host.reduceAdd (F := Ideal) x (constant S_ .f32 0x00000000#32) reducesTo_S8448x1_S8448_d1 h_S_ (ix1 i) = (x (ix2 i 0) : EReal) := by
  have hr : S8448x1.Reduces [1] S8448 := by decide
  refine (Ideal.hostReduceAdd_single reducesTo_S8448x1_S8448_d1 hr x (Ideal.ofBits .f32 0x00000000#32) (ix1 i)).trans ?_
  rw [Ideal.ofBits_zero_f32, zero_add]
  refine (Fin.sum_univ_one (fun k : Fin 1 => (x (hr.lift (ix1 i) k) : EReal))).trans (congrArg x (show hr.lift (ix1 i) (0 : Fin 1) = ix2 i 0 from funext fun a => by fin_cases a <;> rfl))

variable (a b : FVec Ideal S8448x1024 .bf16) (h d : FVec Ideal S8448x1024 .f32) (x : FVec Ideal S8448x1024 .bf16) (s g w : FVec Ideal S1x1024 .f32)

/-- The two parts' sum, in the reference's operations. -/
abbrev rboth : FVec Ideal S8448x1024 .f32 := addf (extf .f32 a bitsLt_bf16_f32) (extf .f32 b bitsLt_bf16_f32)

/-- The cotangent before the second scale. -/
abbrev rwide : FVec Ideal S8448x1024 .f32 := mulf (rboth a b) (broadcastInDim S8448x1024 ![0, 1] bcast_S1x1024_S8448x1024_0_1 (addf (broadcastInDim S1x1024 ![] bcast_S_S1x1024 (constant S_ .f32 0x3F800000#32)) s))

/-- The cotangent before the weight. -/
abbrev rdrive : FVec Ideal S8448x1024 .f32 := mulf (rwide a b s) (broadcastInDim S8448x1024 ![0, 1] bcast_S1x1024_S8448x1024_0_1 w)

/-- The rows' means. -/
abbrev rmean : FVec Ideal S8448x1 .f32 := addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32))

/-- The rows over their norms. -/
abbrev runit : FVec Ideal S8448x1024 .f32 := mulf h (broadcastInDim S8448x1024 ![0, 1] bcast_S8448x1_S8448x1024_0_1 (Host.rsqrt (rmean h)))

/-- The rows' corrections. -/
abbrev rturn : FVec Ideal S8448x1024 .f32 := broadcastInDim S8448x1024 ![0] bcast_S8448_S8448x1024_0 (Host.reduceAdd (Host.divf (mulf (shapeCast S8448x1 (Host.reduceAdd (mulf h (rdrive a b s w)) (constant S_ .f32 0x00000000#32) reducesTo_S8448x1024_S8448_d1 h_S_) shapeCasts_S8448_S8448x1)
  (mulf (broadcastInDim S8448x1 ![] bcast_S_S8448x1 (constant S_ .f32 0xBF000000#32)) (Host.divf (Host.rsqrt (rmean h)) (rmean h)))) (broadcastInDim S8448x1 ![] bcast_S_S8448x1 (constant S_ .f32 0x44800000#32))) (constant S_ .f32 0x00000000#32) reducesTo_S8448x1_S8448_d1 h_S_)

/-- The rows' gradient. -/
abbrev rback : FVec Ideal S8448x1024 .f32 := addf d (addf (addf (mulf (rdrive a b s w) (broadcastInDim S8448x1024 ![0, 1] bcast_S8448x1_S8448x1024_0_1 (Host.rsqrt (rmean h)))) (mulf h (rturn a b h s w))) (mulf (rturn a b h s w) h))

/-- The second scale as the reference takes it. -/
theorem scaled (i : S8448x1024.Idx) :
    broadcastInDim S8448x1024 ![0, 1] bcast_S1x1024_S8448x1024_0_1 (addf (broadcastInDim S1x1024 ![] bcast_S_S1x1024 (constant S_ .f32 0x3F800000#32)) s) i
      = (Ideal.ofBits .f32 0x3F800000#32 + s (ix2 0 (i 1)) : EReal) :=
  (row _ i).trans rfl

theorem rwide_eq : rwide a b s = wide (M := 8448) a b s :=
  funext fun i => congrArg (fun p : EReal => (a i + b i) * p) (scaled s i)

theorem rdrive_eq : rdrive a b s w = drive (M := 8448) a b s w :=
  funext fun i => congrArg₂ (fun p q : EReal => p * q) (congrFun (rwide_eq a b s) i) (row w i)

theorem rmean_eq (i : Fin 8448) : rmean h (ix2 i 0) = NormGrad.mean (power (M := 8448) h i) := by
  show Ideal.div (broadcastInDim S8448x1 ![0] bcast_S8448_S8448x1_0 (Host.reduceAdd (F := Ideal) (mulf h h) (constant S_ .f32 0x00000000#32) reducesTo_S8448x1024_S8448_d1 h_S_) (ix2 i 0)) (Ideal.ofBits .f32 0x44800000#32) + Ideal.ofBits .f32 0x358637BD#32 = _
  rw [up, rowsum]
  rfl

theorem rfactor_eq (i : S8448x1024.Idx) : broadcastInDim S8448x1024 ![0, 1] bcast_S8448x1_S8448x1024_0_1 (Host.rsqrt (F := Ideal) (rmean h)) i = NormGrad.factor (power (M := 8448) h (i 0)) :=
  (col _ i).trans (congrArg Ideal.rsqrt (rmean_eq h (i 0)))

theorem runit_eq : runit h = unit (M := 8448) h :=
  funext fun i => congrArg (fun p : EReal => h i * p) (rfactor_eq h i)

theorem rturn_eq (i : S8448x1024.Idx) : rturn a b h s w i = Ideal.div ((∑ k : Fin 1024, h (ix2 (i 0) k) * drive (M := 8448) a b s w (ix2 (i 0) k))
    * (Ideal.ofBits .f32 0xBF000000#32 * Ideal.div (NormGrad.factor (power (M := 8448) h (i 0))) (NormGrad.mean (power (M := 8448) h (i 0))))) (Ideal.ofBits .f32 0x44800000#32) := by
  refine (list _ i).trans ((only _ (i 0)).trans ?_)
  have e1 : shapeCast S8448x1 (Host.reduceAdd (F := Ideal) (mulf h (rdrive a b s w)) (constant S_ .f32 0x00000000#32) reducesTo_S8448x1024_S8448_d1 h_S_) shapeCasts_S8448_S8448x1 (ix2 (i 0) 0)
      = (∑ k : Fin 1024, h (ix2 (i 0) k) * drive (M := 8448) a b s w (ix2 (i 0) k) : EReal) := by
    refine (shapeCast_a_a1_apply (a := 8448) _ _ (i 0) 0).trans ?_
    refine (rowsum _ _).trans ?_
    rw [rdrive_eq]
    rfl
  exact congrArg₂ (fun p q : EReal => Ideal.div (p * (Ideal.ofBits .f32 0xBF000000#32 * Ideal.div (Ideal.rsqrt q) q)) (Ideal.ofBits .f32 0x44800000#32)) e1 (rmean_eq h (i 0))

theorem rback_eq : rback a b h d s w = back (M := 8448) a b h d s w := by
  refine funext fun (i : S8448x1024.Idx) => ?_
  obtain ⟨p, q, rfl⟩ : ∃ (p : Fin 8448) (q : Fin 1024), i = ix2 p q := ⟨i 0, i 1, Shape.idx_ext₂ rfl rfl⟩
  show d (ix2 p q) + (rdrive a b s w (ix2 p q) * broadcastInDim S8448x1024 ![0, 1] bcast_S8448x1_S8448x1024_0_1 (Host.rsqrt (F := Ideal) (rmean h)) (ix2 p q)
    + h (ix2 p q) * rturn a b h s w (ix2 p q) + rturn a b h s w (ix2 p q) * h (ix2 p q) : EReal) = _
  rw [rdrive_eq, rfactor_eq, rturn_eq, add_assoc (_ * _ : EReal)]
  exact congrArg (fun r : EReal => d (ix2 p q) + r) (NormGrad.agree (NormGrad.squares fun k : Fin 1024 => (h (ix2 p k) : EReal)) (fun k : Fin 1024 => (h (ix2 p k) : EReal)) (fun k => drive (M := 8448) a b s w (ix2 p k)) q)

/-- The concatenation of five pieces, of which the last is zero. -/
theorem pieces (u0 u1 u2 u3 : S1x1024.Idx → EReal) (u4 : S4x1024.Idx → EReal) (V : Prod.Arr 8 1024) (h0 : ∀ j : Fin 1024, u0 (ix2 0 j) = V (ix2 0 j)) (h1 : ∀ j : Fin 1024, u1 (ix2 0 j) = V (ix2 1 j))
    (h2 : ∀ j : Fin 1024, u2 (ix2 0 j) = V (ix2 2 j)) (h3 : ∀ j : Fin 1024, u3 (ix2 0 j) = V (ix2 3 j)) (h4 : ∀ (i : Fin 4) (j : Fin 1024) (k : Fin 8), 4 + i.val = k.val → u4 (ix2 i j) = V (ix2 k j))
    (h : Shape.Concatenates (([⟨S1x1024, u0⟩, ⟨S1x1024, u1⟩, ⟨S1x1024, u2⟩, ⟨S1x1024, u3⟩, ⟨S4x1024, u4⟩] : List ((s : Shape) × (s.Idx → EReal))).map (·.1)) S8x1024 0) :
    concatenate S8x1024 0 [⟨S1x1024, u0⟩, ⟨S1x1024, u1⟩, ⟨S1x1024, u2⟩, ⟨S1x1024, u3⟩, ⟨S4x1024, u4⟩] h = V := by
  refine funext fun (i : S8x1024.Idx) => ?_
  have hi : i = ix2 (i 0) (i 1) := Shape.idx_ext₂ rfl rfl
  have hlt : (i 0).val < 8 := (i 0).isLt
  have at0 {k : Fin 8} (e : (i 0).val = k.val) : V (ix2 k (i 1)) = V i := congrArg V (Shape.idx_ext₂ e.symm rfl)
  by_cases c0 : (i 0).val = 0
  · exact (concatenate_apply_piece 0 _ h i 0 (by decide : 0 < 5) S1x1024 u0 rfl rfl 0 rfl (ix2 0 (i 1)) (Fin.forall_fin_two.mpr ⟨fun hb => absurd rfl hb, fun _ => rfl⟩) c0.symm).trans ((h0 _).trans (at0 c0))
  by_cases c1 : (i 0).val = 1
  · exact (concatenate_apply_piece 0 _ h i 1 (by decide : 1 < 5) S1x1024 u1 rfl rfl 1 rfl (ix2 0 (i 1)) (Fin.forall_fin_two.mpr ⟨fun hb => absurd rfl hb, fun _ => rfl⟩) c1.symm).trans ((h1 _).trans (at0 c1))
  by_cases c2 : (i 0).val = 2
  · exact (concatenate_apply_piece 0 _ h i 2 (by decide : 2 < 5) S1x1024 u2 rfl rfl 2 rfl (ix2 0 (i 1)) (Fin.forall_fin_two.mpr ⟨fun hb => absurd rfl hb, fun _ => rfl⟩) c2.symm).trans ((h2 _).trans (at0 c2))
  by_cases c3 : (i 0).val = 3
  · exact (concatenate_apply_piece 0 _ h i 3 (by decide : 3 < 5) S1x1024 u3 rfl rfl 3 rfl (ix2 0 (i 1)) (Fin.forall_fin_two.mpr ⟨fun hb => absurd rfl hb, fun _ => rfl⟩) c3.symm).trans ((h3 _).trans (at0 c3))
  · have e : (i 0).val - 4 < 4 := by omega
    have f : 4 + ((i 0).val - 4) = (i 0).val := by omega
    exact (concatenate_apply_piece 0 _ h i 4 (by decide : 4 < 5) S4x1024 u4 rfl rfl 4 rfl (ix2 ⟨(i 0).val - 4, e⟩ (i 1)) (Fin.forall_fin_two.mpr ⟨fun hb => absurd rfl hb, fun _ => rfl⟩) f).trans ((h4 _ _ (i 0) f).trans (at0 rfl))

theorem rmixed_eq : mulf (broadcastInDim S8448x1024 ![0, 1] bcast_S1x1024_S8448x1024_0_1 g) (rback a b h d s w) = mixed (M := 8448) a b h d s g w :=
  funext fun (i : S8448x1024.Idx) => congrArg₂ (fun p q : EReal => p * q) (row g i) (congrFun (rback_eq a b h d s w) i)

/-- The terms of the first vector's gradient, in the reference's order. -/
theorem rterm0 : mulf (mulf (runit h) (broadcastInDim S8448x1024 ![0, 1] bcast_S1x1024_S8448x1024_0_1 w)) (rboth a b) = term (M := 8448) a b h d x s w 0 := by
  refine funext fun (i : S8448x1024.Idx) => ?_
  refine (congrArg₂ (fun p q : EReal => p * q * both (M := 8448) a b i) (congrFun (runit_eq h) i) (row w i)).trans ?_
  exact (mul_comm _ _).trans (mul_assoc _ _ _).symm

theorem rterm2 : mulf (runit h) (rwide a b s) = term (M := 8448) a b h d x s w 2 :=
  funext fun (i : S8448x1024.Idx) => (congrArg₂ (fun p q : EReal => p * q) (congrFun (runit_eq h) i) (congrFun (rwide_eq a b s) i)).trans (mul_comm _ _)

theorem rterm3 : mulf (rback a b h d s w) (extf .f32 x bitsLt_bf16_f32) = term (M := 8448) a b h d x s w 3 :=
  funext fun (i : S8448x1024.Idx) => congrArg (fun p : EReal => p * x i) (congrFun (rback_eq a b h d s w) i)

/-- The sums of the columns of an array, spread as a row. -/
abbrev rsum (y : FVec Ideal S8448x1024 .f32) : FVec Ideal S1x1024 .f32 :=
  shapeCast S1x1024 (Host.reduceAdd (F := Ideal) y (constant S_ .f32 0x00000000#32) reducesTo_S8448x1024_S1024_d0 h_S_) shapeCasts_S1024_S1x1024

/-- The sums of the terms are the vectors' gradient. -/
theorem rrow (y : FVec Ideal S8448x1024 .f32) (q : Fin 8) (hy : y = term (M := 8448) a b h d x s w q.val) (j : Fin 1024) :
    rsum y (ix2 0 j) = vectors (M := 8448) a b h d x s w (ix2 q j) := by
  subst hy
  exact colsum _ j

/-- The vectors' gradients. -/
theorem rvectors (hc : Shape.Concatenates (([⟨S1x1024, rsum (mulf (mulf (runit h) (broadcastInDim S8448x1024 ![0, 1] bcast_S1x1024_S8448x1024_0_1 w)) (rboth a b))⟩, ⟨S1x1024, rsum (rboth a b)⟩,
      ⟨S1x1024, rsum (mulf (runit h) (rwide a b s))⟩, ⟨S1x1024, rsum (mulf (rback a b h d s w) (extf .f32 x bitsLt_bf16_f32))⟩,
      ⟨S4x1024, broadcastInDim S4x1024 ![] bcast_S_S4x1024 (constant (F := Ideal) S_ .f32 0x00000000#32)⟩] : List ((s : Shape) × (s.Idx → EReal))).map (·.1)) S8x1024 0) :
    concatenate S8x1024 0 [⟨S1x1024, rsum (mulf (mulf (runit h) (broadcastInDim S8448x1024 ![0, 1] bcast_S1x1024_S8448x1024_0_1 w)) (rboth a b))⟩, ⟨S1x1024, rsum (rboth a b)⟩,
      ⟨S1x1024, rsum (mulf (runit h) (rwide a b s))⟩, ⟨S1x1024, rsum (mulf (rback a b h d s w) (extf .f32 x bitsLt_bf16_f32))⟩,
      ⟨S4x1024, broadcastInDim S4x1024 ![] bcast_S_S4x1024 (constant (F := Ideal) S_ .f32 0x00000000#32)⟩] hc = vectors (M := 8448) a b h d x s w :=
  pieces _ _ _ _ _ _ (rrow a b h d x s w _ 0 (rterm0 a b h d x s w)) (rrow a b h d x s w _ 1 rfl) (rrow a b h d x s w _ 2 (rterm2 a b h d x s w)) (rrow a b h d x s w _ 3 (rterm3 a b h d x s w))
    (fun i j k e => by
      obtain ⟨q, f⟩ : ∃ q, k.val = q + 4 := ⟨i.val, by omega⟩
      refine Ideal.ofBits_zero_f32.trans (Eq.symm ?_)
      show (∑ r : Fin 8448, term (M := 8448) a b h d x s w k.val (ix2 r j) : EReal) = 0
      rw [f]
      exact Finset.sum_eq_zero fun _ _ => rfl) hc

end Cert.NormBwRefIdeal.Plain

/-! ## The kernel -/

namespace Cert.NormBwIdeal.Plain

open Cert.NormBwIdeal Cert.NormBwIdeal.Gen Idealize.ShloMosaic Idealize.ShloMosaic.ValueIdx Idealize.ShloMosaic.TcCoe

variable (m : (ℓ : Loc nD τ sig) → Buf (Elt Ideal) ℓ) (c : Dev nD)

/-- The rows' gradient. -/
abbrev G8 : Prod.Arr 8448 1024 := back (m ((c : Thread nD τ).loc main_arg0)) (m ((c : Thread nD τ).loc main_arg1)) (m ((c : Thread nD τ).loc main_arg2))
  (m ((c : Thread nD τ).loc main_arg3)) (m ((c : Thread nD τ).loc main_arg5)) (m ((c : Thread nD τ).loc main_arg7))

/-- The mixer's gradient. -/
abbrev G9 : Prod.Arr 8448 1024 := mixed (m ((c : Thread nD τ).loc main_arg0)) (m ((c : Thread nD τ).loc main_arg1)) (m ((c : Thread nD τ).loc main_arg2))
  (m ((c : Thread nD τ).loc main_arg3)) (m ((c : Thread nD τ).loc main_arg5)) (m ((c : Thread nD τ).loc main_arg6)) (m ((c : Thread nD τ).loc main_arg7))

/-- The vectors' terms. -/
abbrev T10 : ℕ → Prod.Arr 8448 1024 := term (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg7))

/-- The vectors' gradients. -/
abbrev G10 : Prod.Arr 8 1024 := vectors (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg7))

/-- The rows' windows move together. -/
theorem moves : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0)
    ∧ (win0_8.index t (0 : Fin 2) = t.val ∧ win0_8.index t (1 : Fin 2) = 0) ∧ (win0_9.index t (0 : Fin 2) = t.val ∧ win0_9.index t (1 : Fin 2) = 0) :=
  (by decide +kernel : ∀ t : Fin grid0.N, _)

/-- The vectors' windows rest. -/
theorem rests : ∀ t : Fin cfg0.N, (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_10.index t (0 : Fin 2) = 0 ∧ win0_10.index t (1 : Fin 2) = 0) :=
  (by decide +kernel : ∀ t : Fin grid0.N, _)

/-- An index of a point's block, in the whole array. -/
def spot (t : Fin cfg0.N) (y : S768x1024.Idx) : (⟨2, ![8448, 1024]⟩ : Shape).Idx :=
  ix2 ⟨t.val * 768 + (y 0).val, by have h0 : (y 0).val < 768 := (y 0).isLt; have ht : t.val < 11 := lt_of_lt_of_eq t.isLt N_0; omega⟩ (y 1)

/-- A block at the start of the columns, at an index. -/
theorem place (t : Fin cfg0.N) (y : S768x1024.Idx) {p q : ℕ} (hp : p = t.val) (hq : q = 0) (j : (⟨2, ![8448, 1024]⟩ : Shape).Idx)
    (h0 : (j 0).val = p * 768 + 1 * (y 0).val) (h1 : (j 1).val = q * 1024 + 1 * (y 1).val) : j = spot t y :=
  Shape.idx_ext₂ (h0.trans ((Prod.number 768 _ hp).trans rfl)) (h1.trans (by rw [hq, Prod.start]; rfl))

theorem in0 (t : Fin cfg0.N) : iblk m c 0 t = fun y => m ((c : Thread nD τ).loc main_arg0) (spot t y) :=
  funext fun (y : S768x1024.Idx) => congrArg (m ((c : Thread nD τ).loc main_arg0)) (place t y (moves t).1.1 (moves t).1.2 _ rfl rfl)

theorem in1 (t : Fin cfg0.N) : iblk m c 1 t = fun y => m ((c : Thread nD τ).loc main_arg1) (spot t y) :=
  funext fun (y : S768x1024.Idx) => congrArg (m ((c : Thread nD τ).loc main_arg1)) (place t y (moves t).2.1.1 (moves t).2.1.2 _ rfl rfl)

theorem in2 (t : Fin cfg0.N) : iblk m c 2 t = fun y => m ((c : Thread nD τ).loc main_arg2) (spot t y) :=
  funext fun (y : S768x1024.Idx) => congrArg (m ((c : Thread nD τ).loc main_arg2)) (place t y (moves t).2.2.1.1 (moves t).2.2.1.2 _ rfl rfl)

theorem in3 (t : Fin cfg0.N) : iblk m c 3 t = fun y => m ((c : Thread nD τ).loc main_arg3) (spot t y) :=
  funext fun (y : S768x1024.Idx) => congrArg (m ((c : Thread nD τ).loc main_arg3)) (place t y (moves t).2.2.2.1.1 (moves t).2.2.2.1.2 _ rfl rfl)

theorem in4 (t : Fin cfg0.N) : iblk m c 4 t = fun y => m ((c : Thread nD τ).loc main_arg4) (spot t y) :=
  funext fun (y : S768x1024.Idx) => congrArg (m ((c : Thread nD τ).loc main_arg4)) (place t y (moves t).2.2.2.2.1.1 (moves t).2.2.2.2.1.2 _ rfl rfl)

/-- A resting window's block is the whole vector. -/
theorem rest {p q : ℕ} (hp : p = 0) (hq : q = 0) (y j : S1x1024.Idx) (h0 : (j 0).val = p * 1 + 1 * (y 0).val) (h1 : (j 1).val = q * 1024 + 1 * (y 1).val) : j = y :=
  Shape.idx_ext₂ (h0.trans (by rw [hp, Prod.start])) (h1.trans (by rw [hq, Prod.start]))

theorem in5 (t : Fin cfg0.N) : iblk m c 5 t = m ((c : Thread nD τ).loc main_arg5) :=
  funext fun (y : S1x1024.Idx) => congrArg (m ((c : Thread nD τ).loc main_arg5)) (rest (rests t).1.1 (rests t).1.2 y _ rfl rfl)

theorem in6 (t : Fin cfg0.N) : iblk m c 6 t = m ((c : Thread nD τ).loc main_arg6) :=
  funext fun (y : S1x1024.Idx) => congrArg (m ((c : Thread nD τ).loc main_arg6)) (rest (rests t).2.1.1 (rests t).2.1.2 y _ rfl rfl)

theorem in7 (t : Fin cfg0.N) : iblk m c 7 t = m ((c : Thread nD τ).loc main_arg7) :=
  funext fun (y : S1x1024.Idx) => congrArg (m ((c : Thread nD τ).loc main_arg7)) (rest (rests t).2.2.1.1 (rests t).2.2.1.2 y _ rfl rfl)

/-- A row spread over a block's rows, at an index. -/
theorem row (v : FVec Ideal S1x1024 .f32) (y : S768x1024.Idx) : broadcastTo S768x1024 v broadcasts_S1x1024_S768x1024 y = v (ix2 0 (y 1)) :=
  (congrArg (broadcastTo S768x1024 v broadcasts_S1x1024_S768x1024) (Shape.idx_ext₂ rfl rfl : y = ix2 (y 0) (y 1))).trans (broadcastTo_1b_ab_apply v _ (y 0) (y 1))

/-- A column spread over the columns, at an index. -/
theorem col (v : FVec Ideal S768x1 .f32) (y : S768x1024.Idx) : broadcastTo S768x1024 v broadcasts_S768x1_S768x1024 y = v (ix2 (y 0) 0) :=
  broadcastTo_apply v _ y (ix2 (y 0) 0) (Fin.forall_fin_two.mpr ⟨rfl, rfl⟩)

/-- The sums of a block's rows, at an index. -/
theorem rowsum (x : FVec Ideal S768x1024 .f32) (i : Fin 768) :
    shapeCast S768x1 (multiReduction .add [1] S768 x 0x00000000#32 reduces_S768x1024_S768 (.inl rfl) rfl) shapeCasts_S768_S768x1 (ix2 i 0) = (∑ k : Fin 1024, x (ix2 i k) : EReal) := by
  rw [shapeCast_a_a1_apply]
  refine (Ideal.multiReduction_add_single _ _ _ _ _ _).trans ?_
  exact Finset.sum_congr rfl fun k _ => congrArg x (show reduces_S768x1024_S768.lift (ix1 i) k = ix2 i (k : Fin 1024) from funext fun a => by fin_cases a <;> rfl)

/-- The sums of a block's columns, at an index. -/
theorem colsum (x : FVec Ideal S768x1024 .f32) (z : S1x1024.Idx) :
    shapeCast S1x1024 (multiReduction .add [0] S1024 x 0x00000000#32 reduces_S768x1024_S1024 (.inl rfl) rfl) shapeCasts_S1024_S1x1024 z = (∑ k : Fin 768, x (ix2 k (z 1)) : EReal) := by
  refine (congrArg (shapeCast S1x1024 _ _) (Shape.idx_ext₂ (by have : (z 0).val < 1 := (z 0).isLt; show (z 0).val = 0; omega) rfl : z = ix2 0 (z 1))).trans ?_
  refine (shapeCast_a_1a_apply (a := 1024) _ _ 0 (z 1)).trans ?_
  refine (Ideal.multiReduction_add_single _ _ _ _ _ _).trans ?_
  exact Finset.sum_congr rfl fun k _ => congrArg x (show reduces_S768x1024_S1024.lift (ix1 (z 1)) k = ix2 (k : Fin 768) (z 1) from funext fun a => by fin_cases a <;> rfl)

variable (a b : Vec Ideal S768x1024 .bf16) (h d : Vec Ideal S768x1024 .f32) (x : Vec Ideal S768x1024 .bf16) (s g w : Vec Ideal S1x1024 .f32)

theorem pay3 : k0_pay3 (F := Ideal) a b = both (M := 768) a b := rfl

theorem pay4 (i : Fin 768) : k0_pay4 (F := Ideal) h (ix2 i 0) = NormGrad.factor (power (M := 768) h i) :=
  congrArg NormGrad.factor (rowsum (mulf h h) i)

theorem pay5 : k0_pay5 (F := Ideal) h = unit (M := 768) h :=
  funext fun (y : S768x1024.Idx) => congrArg (fun p : EReal => h y * p) ((col _ y).trans (pay4 h (y 0)))

theorem pay6 : k0_pay6 (F := Ideal) a b s = wide (M := 768) a b s :=
  funext fun (y : S768x1024.Idx) => congrArg (fun p : EReal => both (M := 768) a b y * p) ((row _ y).trans rfl)

/-- The cotangent before the weight, as the body takes it. -/
theorem driven : mulf (F := Ideal) (k0_pay6 a b s) (broadcastTo S768x1024 w broadcasts_S1x1024_S768x1024) = drive (M := 768) a b s w :=
  funext fun (y : S768x1024.Idx) => congrArg₂ (fun p q : EReal => p * q) (congrFun (pay6 a b s) y) (row w y)

/-- The rows' gradient as the body takes it. -/
theorem pay8 : k0_pay8 (F := Ideal) d (k0_pay7 a b h s w) = back (M := 768) a b h d s w := by
  refine funext fun (y : S768x1024.Idx) => ?_
  unfold k0_pay8 k0_pay7
  dsimp only
  rw [driven, pay5]
  refine congrArg (fun p : EReal => d y + p) (congrArg₂ (fun p q : EReal => p * (drive (M := 768) a b s w y - unit (M := 768) h y * q)) ((col _ y).trans (pay4 h (y 0))) ((col _ y).trans ?_))
  exact congrArg (fun p : EReal => Ideal.div p (Ideal.ofBits .f32 0x44800000#32)) (rowsum _ (y 0))

theorem pay9 : k0_pay9 (F := Ideal) d (k0_pay7 a b h s w) g = mixed (M := 768) a b h d s g w :=
  funext fun (y : S768x1024.Idx) => congrArg₂ (fun p q : EReal => p * q) (row g y) (congrFun (pay8 a b h d s w) y)

variable (o : Vec Ideal S1x1024 .f32) (z : S1x1024.Idx)

theorem pay10 : k0_pay10 (F := Ideal) (k0_pay3 a b) (k0_pay5 h) o w z = (o z + ∑ k : Fin 768, term (M := 768) a b h d x s w 0 (ix2 k (z 1)) : EReal) := by
  unfold k0_pay10
  rw [shapeCast_self, pay5, pay3]
  refine congrArg (fun p : EReal => o z + p) ((colsum _ z).trans (Finset.sum_congr rfl fun k _ => ?_))
  exact congrArg (fun p : EReal => both (M := 768) a b (ix2 k (z 1)) * unit (M := 768) h (ix2 k (z 1)) * p) (row w _)

theorem pay11 : k0_pay11 (F := Ideal) (k0_pay3 a b) o z = (o z + ∑ k : Fin 768, term (M := 768) a b h d x s w 1 (ix2 k (z 1)) : EReal) := by
  unfold k0_pay11
  rw [shapeCast_self, pay3]
  exact congrArg (fun p : EReal => o z + p) (colsum _ z)

theorem pay12 : k0_pay12 (F := Ideal) (k0_pay5 h) (k0_pay6 a b s) o z = (o z + ∑ k : Fin 768, term (M := 768) a b h d x s w 2 (ix2 k (z 1)) : EReal) := by
  unfold k0_pay12
  rw [shapeCast_self, pay5, pay6]
  exact congrArg (fun p : EReal => o z + p) (colsum _ z)

theorem pay1 : k0_pay1 (F := Ideal) (k0_pay8 d (k0_pay7 a b h s w)) o x z = (o z + ∑ k : Fin 768, term (M := 768) a b h d x s w 3 (ix2 k (z 1)) : EReal) := by
  unfold k0_pay1
  rw [shapeCast_self, pay8]
  exact congrArg (fun p : EReal => o z + p) (colsum _ z)

/-! ### A point's blocks, as cuts of the arrays -/

theorem back_cut (t : Fin cfg0.N) (A B H D : Prod.Arr 8448 1024) (p q : Prod.Arr 1 1024) (y : S768x1024.Idx) :
    back (M := 768) (fun y => A (spot t y)) (fun y => B (spot t y)) (fun y => H (spot t y)) (fun y => D (spot t y)) p q y = back A B H D p q (spot t y) := rfl

theorem mixed_cut (t : Fin cfg0.N) (A B H D : Prod.Arr 8448 1024) (p r q : Prod.Arr 1 1024) (y : S768x1024.Idx) :
    mixed (M := 768) (fun y => A (spot t y)) (fun y => B (spot t y)) (fun y => H (spot t y)) (fun y => D (spot t y)) p r q y = mixed A B H D p r q (spot t y) := rfl

theorem term_cut (t : Fin cfg0.N) (A B H D X : Prod.Arr 8448 1024) (p q : Prod.Arr 1 1024) (n : ℕ) (y : S768x1024.Idx) :
    term (M := 768) (fun y => A (spot t y)) (fun y => B (spot t y)) (fun y => H (spot t y)) (fun y => D (spot t y)) (fun y => X (spot t y)) p q n y = term A B H D X p q n (spot t y) :=
  match n with
  | 0 => rfl
  | 1 => rfl
  | 2 => rfl
  | 3 => rfl
  | _ + 4 => rfl

theorem hz : (![0, 0] : Fin 2 → Nat) = fun _ => 0 := funext fun a => by fin_cases a <;> rfl

/-- The rows' gradient that a point computes. -/
theorem made8 (t : Fin cfg0.N) (y : S768x1024.Idx) : k0_pay8 (F := Ideal) (iblk m c 3 t) (k0_pay7 (iblk m c 0 t) (iblk m c 1 t) (iblk m c 2 t) (iblk m c 5 t) (iblk m c 7 t)) y = G8 m c (spot t y) := by
  refine (congrFun (pay8 _ _ _ _ _ _) y).trans ?_
  rw [in0, in1, in2, in3, in5, in7]
  exact back_cut t _ _ _ _ _ _ y

/-- The mixer's gradient that a point computes. -/
theorem made9 (t : Fin cfg0.N) (y : S768x1024.Idx) :
    k0_pay9 (F := Ideal) (iblk m c 3 t) (k0_pay7 (iblk m c 0 t) (iblk m c 1 t) (iblk m c 2 t) (iblk m c 5 t) (iblk m c 7 t)) (iblk m c 6 t) y = G9 m c (spot t y) := by
  refine (congrFun (pay9 _ _ _ _ _ _ _) y).trans ?_
  rw [in0, in1, in2, in3, in5, in6, in7]
  exact mixed_cut t _ _ _ _ _ _ _ y

/-- What a point writes of the rows' gradient. -/
theorem wrote8 (t : Fin cfg0.N) : (dats m 0 c).flushed 8 t = ((cfg0.win 8).blk t).view.read (Elt Ideal) (G8 m c) := by
  have key : ∀ y : S768x1024.Idx, k0_pay8 (F := Ideal) (iblk m c 3 t) (k0_pay7 (iblk m c 0 t) (iblk m c 1 t) (iblk m c 2 t) (iblk m c 5 t) (iblk m c 7 t)) y = G8 m c (((cfg0.win 8).blk t).view.emb y) :=
    fun y => (made8 m c t y).trans (congrArg (G8 m c) (place t y (moves t).2.2.2.2.2.1.1 (moves t).2.2.2.2.2.1.2 _ rfl rfl).symm)
  by_cases h : t.val % 11 = 0
  · rw [Value.flushed8_A m c t h]
    unfold out0_A_8
    rw [View.read_writes_junk_eq_canon]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_5 t).read_unread, (hs0_7 t).read_unread,
      View.ld_unit_zero (S := S768x1024) hz, View.ld_unit_zero (S := S1x1024) hz]
    exact funext key
  · rw [Value.flushed8_B m c t h]
    unfold out0_B_8
    rw [View.read_writes_junk_eq_canon]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_5 t).read_unread, (hs0_7 t).read_unread,
      View.ld_unit_zero (S := S768x1024) hz, View.ld_unit_zero (S := S1x1024) hz]
    exact funext key

/-- What a point writes of the mixer's gradient. -/
theorem wrote9 (t : Fin cfg0.N) : (dats m 0 c).flushed 9 t = ((cfg0.win 9).blk t).view.read (Elt Ideal) (G9 m c) := by
  have key : ∀ y : S768x1024.Idx, k0_pay9 (F := Ideal) (iblk m c 3 t) (k0_pay7 (iblk m c 0 t) (iblk m c 1 t) (iblk m c 2 t) (iblk m c 5 t) (iblk m c 7 t)) (iblk m c 6 t) y = G9 m c (((cfg0.win 9).blk t).view.emb y) :=
    fun y => (made9 m c t y).trans (congrArg (G9 m c) (place t y (moves t).2.2.2.2.2.2.1 (moves t).2.2.2.2.2.2.2 _ rfl rfl).symm)
  by_cases h : t.val % 11 = 0
  · rw [Value.flushed9_A m c t h]
    unfold out0_A_9
    rw [View.read_writes_junk_eq_canon]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_5 t).read_unread, (hs0_6 t).read_unread, (hs0_7 t).read_unread,
      View.ld_unit_zero (S := S768x1024) hz, View.ld_unit_zero (S := S1x1024) hz]
    exact funext key
  · rw [Value.flushed9_B m c t h]
    unfold out0_B_9
    rw [View.read_writes_junk_eq_canon]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_5 t).read_unread, (hs0_6 t).read_unread, (hs0_7 t).read_unread,
      View.ld_unit_zero (S := S768x1024) hz, View.ld_unit_zero (S := S1x1024) hz]
    exact funext key

/-- The rows' gradient after the run. -/
theorem array8 : (dats m 0 c).arrAt 8 cfg0.N = G8 m c :=
  (dats m 0 c).arrAt_eq_of_cover 8 _ (fun t _ => wrote8 m c t) fun (i : S8448x1024.Idx) => by
    have h0 : (i 0).val < 8448 := (i 0).isLt
    have h1 : (i 1).val < 1024 := (i 1).isLt
    have ht : (i 0).val / 768 < cfg0.N := lt_of_lt_of_eq (by omega) N_0.symm
    refine ⟨⟨(i 0).val / 768, ht⟩, flush0_8 _, ?_⟩
    show i ∈ ((View.whole main_v0_0).slice (win0_8.rect ⟨(i 0).val / 768, ht⟩)).set
    rw [View.set_slice_whole, Rect.mem_set_unit]
    exact fun a => match a with
      | ⟨0, _⟩ => Prod.within 768 (moves ⟨_, ht⟩).2.2.2.2.2.1.1 (by decide)
      | ⟨1, _⟩ => Prod.within 1024 ((moves ⟨_, ht⟩).2.2.2.2.2.1.2.trans (Nat.div_eq_of_lt h1).symm) (by decide)

/-- The mixer's gradient after the run. -/
theorem array9 : (dats m 0 c).arrAt 9 cfg0.N = G9 m c :=
  (dats m 0 c).arrAt_eq_of_cover 9 _ (fun t _ => wrote9 m c t) fun (i : S8448x1024.Idx) => by
    have h0 : (i 0).val < 8448 := (i 0).isLt
    have h1 : (i 1).val < 1024 := (i 1).isLt
    have ht : (i 0).val / 768 < cfg0.N := lt_of_lt_of_eq (by omega) N_0.symm
    refine ⟨⟨(i 0).val / 768, ht⟩, flush0_9 _, ?_⟩
    show i ∈ ((View.whole main_v0_1).slice (win0_9.rect ⟨(i 0).val / 768, ht⟩)).set
    rw [View.set_slice_whole, Rect.mem_set_unit]
    exact fun a => match a with
      | ⟨0, _⟩ => Prod.within 768 (moves ⟨_, ht⟩).2.2.2.2.2.2.1 (by decide)
      | ⟨1, _⟩ => Prod.within 1024 ((moves ⟨_, ht⟩).2.2.2.2.2.2.2.trans (Nat.div_eq_of_lt h1).symm) (by decide)

/-! ### The vectors' gradients, gathered over the points -/

/-- What a point adds. -/
abbrev part (n : ℕ) (h : n < cfg0.N) (y : S8x1024.Idx) : EReal := ∑ k : Fin 768, T10 m c (y 0).val (spot ⟨n, h⟩ (ix2 k (y 1)))

/-- The blocks' terms are the arrays'. -/
theorem cut (t : Fin cfg0.N) (q : ℕ) (y : S768x1024.Idx) :
    term (M := 768) (iblk m c 0 t) (iblk m c 1 t) (iblk m c 2 t) (iblk m c 3 t) (iblk m c 4 t) (iblk m c 5 t) (iblk m c 7 t) q y = T10 m c q (spot t y) := by
  rw [in0, in1, in2, in3, in4, in5, in7]
  exact term_cut t _ _ _ _ _ _ _ q y

theorem gain0 (t : Fin cfg0.N) : k0_pay10 (F := Ideal) (k0_pay3 (iblk m c 0 t) (iblk m c 1 t)) (k0_pay5 (iblk m c 2 t)) o (iblk m c 7 t) z
    = (o z + ∑ k : Fin 768, T10 m c 0 (spot t (ix2 k (z 1))) : EReal) :=
  (pay10 _ _ _ (iblk m c 3 t) (iblk m c 4 t) (iblk m c 5 t) _ _ _).trans (congrArg (fun p : EReal => o z + p) (Finset.sum_congr rfl fun k _ => cut m c t 0 (ix2 k (z 1))))

theorem gain1 (t : Fin cfg0.N) : k0_pay11 (F := Ideal) (k0_pay3 (iblk m c 0 t) (iblk m c 1 t)) o z
    = (o z + ∑ k : Fin 768, T10 m c 1 (spot t (ix2 k (z 1))) : EReal) :=
  (pay11 _ _ (iblk m c 2 t) (iblk m c 3 t) (iblk m c 4 t) (iblk m c 5 t) (iblk m c 7 t) _ _).trans (congrArg (fun p : EReal => o z + p) (Finset.sum_congr rfl fun k _ => cut m c t 1 (ix2 k (z 1))))

theorem gain2 (t : Fin cfg0.N) : k0_pay12 (F := Ideal) (k0_pay5 (iblk m c 2 t)) (k0_pay6 (iblk m c 0 t) (iblk m c 1 t) (iblk m c 5 t)) o z
    = (o z + ∑ k : Fin 768, T10 m c 2 (spot t (ix2 k (z 1))) : EReal) :=
  (pay12 _ _ _ (iblk m c 3 t) (iblk m c 4 t) _ (iblk m c 7 t) _ _).trans (congrArg (fun p : EReal => o z + p) (Finset.sum_congr rfl fun k _ => cut m c t 2 (ix2 k (z 1))))

theorem gain3 (t : Fin cfg0.N) : k0_pay1 (F := Ideal) (k0_pay8 (iblk m c 3 t) (k0_pay7 (iblk m c 0 t) (iblk m c 1 t) (iblk m c 2 t) (iblk m c 5 t) (iblk m c 7 t))) o (iblk m c 4 t) z
    = (o z + ∑ k : Fin 768, T10 m c 3 (spot t (ix2 k (z 1))) : EReal) :=
  (pay1 _ _ _ _ _ _ _ _ _).trans (congrArg (fun p : EReal => o z + p) (Finset.sum_congr rfl fun k _ => cut m c t 3 (ix2 k (z 1))))

/-- A row past the fourth gains nothing. -/
theorem idle (n : ℕ) (h : n < cfg0.N) (y : S8x1024.Idx) (hy : 4 ≤ (y 0).val) : part m c n h y = 0 := by
  obtain ⟨q, e⟩ : ∃ q, (y 0).val = q + 4 := ⟨(y 0).val - 4, by omega⟩
  unfold part
  rw [e]
  exact Finset.sum_eq_zero fun _ _ => rfl

/-- Four rows stored over a list of eight, read at an index. -/
theorem rows (v : View sig .tc .vmem S8x1024 .f32) (f : v.ty.Contents (Elt Ideal)) (L : List (View.Piece (Elt Ideal) S8x1024 .f32)) (w0 w1 w2 w3 : S1x1024.Idx → Elt Ideal .f32)
    (V : S8x1024.Idx → EReal) (y : S8x1024.Idx) (h0 : (y 0).val = 0 → w0 (ix2 0 (y 1)) = V y) (h1 : (y 0).val = 1 → w1 (ix2 0 (y 1)) = V y)
    (h2 : (y 0).val = 2 → w2 (ix2 0 (y 1)) = V y) (h3 : (y 0).val = 3 → w3 (ix2 0 (y 1)) = V y) (h4 : 4 ≤ (y 0).val → v.read (Elt Ideal) (v.writes (Elt Ideal) f L) y = V y) :
    v.read (Elt Ideal) (v.writes (Elt Ideal) f (⟨Rect.unit ![3, 0] ![1, 1024] inb_S8x1024_S1x1024_3_0, w3⟩ :: ⟨Rect.unit ![2, 0] ![1, 1024] inb_S8x1024_S1x1024_2_0, w2⟩
      :: ⟨Rect.unit ![1, 0] ![1, 1024] inb_S8x1024_S1x1024_1_0, w1⟩ :: ⟨Rect.unit ![0, 0] ![1, 1024] inb_S8x1024_S1x1024_0_0, w0⟩ :: L)) y = V y := by
  have hlt : (y 0).val < 8 := (y 0).isLt
  by_cases c3 : (y 0).val = 3
  · exact (View.read_writes_cons_unit_of_mem v f inb_S8x1024_S1x1024_3_0 w3 _ y (ix2 0 (y 1)) rfl (Fin.forall_fin_two.mpr ⟨c3, (Nat.zero_add _).symm⟩)).trans (h3 c3)
  rw [View.read_writes_cons_unit_of_not_mem (off' := ![3, 0]) v f inb_S8x1024_S1x1024_3_0 w3 _ y rfl (0 : Fin 2) (by show (y 0).val < 3 ∨ 3 + 1 ≤ (y 0).val; omega)]
  by_cases c2 : (y 0).val = 2
  · exact (View.read_writes_cons_unit_of_mem v f inb_S8x1024_S1x1024_2_0 w2 _ y (ix2 0 (y 1)) rfl (Fin.forall_fin_two.mpr ⟨c2, (Nat.zero_add _).symm⟩)).trans (h2 c2)
  rw [View.read_writes_cons_unit_of_not_mem (off' := ![2, 0]) v f inb_S8x1024_S1x1024_2_0 w2 _ y rfl (0 : Fin 2) (by show (y 0).val < 2 ∨ 2 + 1 ≤ (y 0).val; omega)]
  by_cases c1 : (y 0).val = 1
  · exact (View.read_writes_cons_unit_of_mem v f inb_S8x1024_S1x1024_1_0 w1 _ y (ix2 0 (y 1)) rfl (Fin.forall_fin_two.mpr ⟨c1, (Nat.zero_add _).symm⟩)).trans (h1 c1)
  rw [View.read_writes_cons_unit_of_not_mem (off' := ![1, 0]) v f inb_S8x1024_S1x1024_1_0 w1 _ y rfl (0 : Fin 2) (by show (y 0).val < 1 ∨ 1 + 1 ≤ (y 0).val; omega)]
  by_cases c0 : (y 0).val = 0
  · exact (View.read_writes_cons_unit_of_mem v f inb_S8x1024_S1x1024_0_0 w0 _ y (ix2 0 (y 1)) rfl (Fin.forall_fin_two.mpr ⟨c0, (Nat.zero_add _).symm⟩)).trans (h0 c0)
  rw [View.read_writes_cons_unit_of_not_mem (off' := ![0, 0]) v f inb_S8x1024_S1x1024_0_0 w0 _ y rfl (0 : Fin 2) (by show (y 0).val < 0 ∨ 0 + 1 ≤ (y 0).val; omega)]
  exact h4 (by omega)

/-- A row's new value, from its number. -/
theorem grown (n : ℕ) (h : n < cfg0.N) (V : S8x1024.Idx → EReal) (y : S8x1024.Idx) (q : ℕ) (hq : (y 0).val = q) (r : EReal) (hr : r = V y) :
    r + ∑ k : Fin 768, T10 m c q (spot ⟨n, h⟩ (ix2 k (y 1))) = V y + part m c n h y := by
  subst hq hr
  rfl

/-- The first point's stores. -/
theorem first (t : Fin cfg0.N) (h : t.val % 11 = 0) (y : S8x1024.Idx) : (outsAt0 m c t.val t.isLt).2.2 y = part m c t.val t.isLt y := by
  rw [outsAt0_A m c t h]
  dsimp only
  unfold out0_A_10
  unfold kernelRun0_A
  dsimp only
  sl_unfold_words
  refine (rows _ _ _ _ _ _ _ (fun y => 0 + part m c t.val t.isLt y) y (fun e => ?_) (fun e => ?_) (fun e => ?_) (fun e => ?_) (fun e => ?_)).trans (zero_add _)
  case refine_5 =>
    rw [idle m c _ _ _ e, add_zero]
    exact (View.read_writes_cons_unit_of_mem _ _ _ _ _ y y rfl (Fin.forall_fin_two.mpr ⟨(Nat.zero_add _).symm, (Nat.zero_add _).symm⟩)).trans Ideal.ofBits_zero_f32
  all_goals simp only [View.readAt_eq_ld, (hs0_0 _).read_unread, (hs0_1 _).read_unread, (hs0_2 _).read_unread, (hs0_3 _).read_unread, (hs0_4 _).read_unread, (hs0_5 _).read_unread, (hs0_7 _).read_unread,
      View.ld_unit_zero (S := S768x1024) hz, View.ld_unit_zero (S := S1x1024) hz]
  · refine (gain0 m c _ _ _).trans (grown m c _ _ (fun _ => 0) y 0 e _ ?_)
    rw [View.readCov_fill]
    · exact Ideal.ofBits_zero_f32
    · decide
  · refine (gain1 m c _ _ _).trans (grown m c _ _ (fun _ => 0) y 1 e _ ?_)
    rw [View.readCov_skip, View.readCov_fill]
    · exact Ideal.ofBits_zero_f32
    · decide
    · decide
  · refine (gain2 m c _ _ _).trans (grown m c _ _ (fun _ => 0) y 2 e _ ?_)
    rw [View.readCov_skip, View.readCov_skip, View.readCov_fill]
    · exact Ideal.ofBits_zero_f32
    · decide
    · decide
    · decide
  · refine (gain3 m c _ _ _).trans (grown m c _ _ (fun _ => 0) y 3 e _ ?_)
    rw [View.readCov_skip, View.readCov_skip, View.readCov_skip, View.readCov_fill]
    · exact Ideal.ofBits_zero_f32
    · decide
    · decide
    · decide
    · decide

/-- A later point's. -/
theorem later (n : ℕ) (h : n < cfg0.N) (h' : n + 1 < cfg0.N) (hn : (n + 1) % 11 ≠ 0) (y : S8x1024.Idx) :
    (outsAt0 m c (n + 1) h').2.2 y = (outsAt0 m c n h).2.2 y + part m c (n + 1) h' y := by
  rw [outsAt0_B m c ⟨n + 1, h'⟩ hn]
  dsimp only
  unfold out0_B_10
  unfold kernelRun0_B
  dsimp only
  sl_unfold_words
  refine rows _ _ [] _ _ _ _ (fun y => (outsAt0 m c n h).2.2 y + part m c (n + 1) h' y) y (fun e => ?_) (fun e => ?_) (fun e => ?_) (fun e => ?_) (fun e => ?_)
  case refine_5 =>
    rw [idle m c _ _ _ e, add_zero]
    exact congrFun ((hs0_10 _).read_unread _) y
  all_goals simp only [View.readAt_eq_ld, (hs0_0 _).read_unread, (hs0_1 _).read_unread, (hs0_2 _).read_unread, (hs0_3 _).read_unread, (hs0_4 _).read_unread, (hs0_5 _).read_unread, (hs0_7 _).read_unread,
      (hs0_10 _).read_unread, View.ld_unit_zero (S := S768x1024) hz, View.ld_unit_zero (S := S1x1024) hz]
  · exact (gain0 m c _ _ _).trans (grown m c _ _ _ y 0 e _ (congrArg (outsAt0 m c n h).2.2 (Shape.idx_ext₂ e.symm (by show 0 + 1 * (y 1).val = (y 1).val; omega))))
  · exact (gain1 m c _ _ _).trans (grown m c _ _ _ y 1 e _ (congrArg (outsAt0 m c n h).2.2 (Shape.idx_ext₂ e.symm (by show 0 + 1 * (y 1).val = (y 1).val; omega))))
  · exact (gain2 m c _ _ _).trans (grown m c _ _ _ y 2 e _ (congrArg (outsAt0 m c n h).2.2 (Shape.idx_ext₂ e.symm (by show 0 + 1 * (y 1).val = (y 1).val; omega))))
  · exact (gain3 m c _ _ _).trans (grown m c _ _ _ y 3 e _ (congrArg (outsAt0 m c n h).2.2 (Shape.idx_ext₂ e.symm (by show 0 + 1 * (y 1).val = (y 1).val; omega))))

/-- An index of the vectors' block, in the whole array. -/
theorem same (t : Fin cfg0.N) (y j : S8x1024.Idx) {p q : ℕ} (hp : p = 0) (hq : q = 0) (h0 : (j 0).val = p * 8 + 1 * (y 0).val) (h1 : (j 1).val = q * 1024 + 1 * (y 1).val) : j = y :=
  Shape.idx_ext₂ (h0.trans (by rw [hp, Prod.start])) (h1.trans (by rw [hq, Prod.start]))

set_option maxRecDepth 65536 in
/-- What the last point writes of the vectors' gradients. -/
theorem wrote10 (t : Fin cfg0.N) (h : t.val % 11 = 10) : (dats m 0 c).flushed 10 t = ((cfg0.win 10).blk t).view.read (Elt Ideal) (G10 m c) := by
  rw [Value.flushed10]
  suffices hs : ∀ y : S8x1024.Idx, (outsAt0 m c t.val t.isLt).2.2 y = G10 m c (((cfg0.win 10).blk t).view.emb y) by
    generalize (outsAt0 m c t.val t.isLt).2.2 = acc at hs
    exact funext hs
  intro y
  rw [same t y (((cfg0.win 10).blk t).view.emb y) (rests t).2.2.2.1 (rests t).2.2.2.2 rfl rfl]
  refine Prod.run (T := cfg0.N) (J := 11) (K' := 768) (K := 8448) (by decide) (by norm_num) (fun n h => (outsAt0 m c n h).2.2 y) (fun n h => part m c n h y)
    (fun k => T10 m c (y 0).val (ix2 k (y 1))) (fun n h hn => first m c ⟨n, h⟩ hn y) (fun n h h' hn => later m c n h h' hn y) t.val t.isLt h fun u hu _ => ?_
  have hu' : u < 11 := lt_of_lt_of_eq hu N_0
  refine Finset.sum_congr rfl fun k _ => congrArg (T10 m c (y 0).val) (Shape.idx_ext₂ ?_ rfl)
  show u * 768 + k.val = u % 11 * 768 + k.val
  rw [Nat.mod_eq_of_lt hu']

/-- The vectors' gradients after the run. -/
theorem array10 : (dats m 0 c).arrAt 10 cfg0.N = G10 m c :=
  (dats m 0 c).arrAt_eq_of_cover 10 _ (fun t h => wrote10 m c t ((flush0_10 t).mp h)) fun (i : S8x1024.Idx) => by
    have ht : 10 < cfg0.N := lt_of_lt_of_eq (by decide) N_0.symm
    refine ⟨⟨10, ht⟩, (flush0_10 _).mpr rfl, ?_⟩
    show i ∈ ((View.whole main_v0_2).slice (win0_10.rect ⟨10, ht⟩)).set
    rw [View.set_slice_whole, Rect.mem_set_unit]
    have h0 : (i 0).val < 8 := (i 0).isLt
    have h1 : (i 1).val < 1024 := (i 1).isLt
    exact fun a => match a with
      | ⟨0, _⟩ => Prod.within 8 ((rests ⟨_, ht⟩).2.2.2.1.trans (Nat.div_eq_of_lt h0).symm) (by decide)
      | ⟨1, _⟩ => Prod.within 1024 ((rests ⟨_, ht⟩).2.2.2.2.trans (Nat.div_eq_of_lt h1).symm) (by decide)

/-- The kernel's arrays are the reference's. -/
theorem equal : Cert.algebraic_NormBwIdeal_NormBwRefIdeal (hNormBwIdeal := Cert.NormBwIdeal.Gen.facts) (hNormBwRefIdeal := Cert.NormBwRefIdeal.Gen.facts) :=
  fun m g m' g' _ he => ⟨G8 m, G9 m, G10 m,
    (θ_run defs _ _).mono (fun r h c => ⟨(h c).1.trans (array8 m c), (h c).2.1.trans (array9 m c), (h c).2.2.1.trans (array10 m c), (h c).2.2.2⟩) (Value.run_blocks m g),
    (θ_run Cert.NormBwRefIdeal.defs _ _).mono (fun r h c => by
      obtain ⟨e0, e1, e2, e3, e4, e5, e6, e7⟩ := he c
      refine ⟨(h c).1.trans ((Cert.NormBwRefIdeal.Plain.rback_eq (m' ((c : Thread nD τ).loc Cert.NormBwRefIdeal.main_arg0)) (m' ((c : Thread nD τ).loc Cert.NormBwRefIdeal.main_arg1)) (m' ((c : Thread nD τ).loc Cert.NormBwRefIdeal.main_arg2)) (m' ((c : Thread nD τ).loc Cert.NormBwRefIdeal.main_arg3)) (m' ((c : Thread nD τ).loc Cert.NormBwRefIdeal.main_arg5)) (m' ((c : Thread nD τ).loc Cert.NormBwRefIdeal.main_arg7))).trans ?_),
        (h c).2.1.trans ((Cert.NormBwRefIdeal.Plain.rmixed_eq (m' ((c : Thread nD τ).loc Cert.NormBwRefIdeal.main_arg0)) (m' ((c : Thread nD τ).loc Cert.NormBwRefIdeal.main_arg1)) (m' ((c : Thread nD τ).loc Cert.NormBwRefIdeal.main_arg2)) (m' ((c : Thread nD τ).loc Cert.NormBwRefIdeal.main_arg3)) (m' ((c : Thread nD τ).loc Cert.NormBwRefIdeal.main_arg5)) (m' ((c : Thread nD τ).loc Cert.NormBwRefIdeal.main_arg6)) (m' ((c : Thread nD τ).loc Cert.NormBwRefIdeal.main_arg7))).trans ?_),
        (h c).2.2.1.trans ((Cert.NormBwRefIdeal.Plain.rvectors (m' ((c : Thread nD τ).loc Cert.NormBwRefIdeal.main_arg0)) (m' ((c : Thread nD τ).loc Cert.NormBwRefIdeal.main_arg1)) (m' ((c : Thread nD τ).loc Cert.NormBwRefIdeal.main_arg2)) (m' ((c : Thread nD τ).loc Cert.NormBwRefIdeal.main_arg3)) (m' ((c : Thread nD τ).loc Cert.NormBwRefIdeal.main_arg4)) (m' ((c : Thread nD τ).loc Cert.NormBwRefIdeal.main_arg5)) (m' ((c : Thread nD τ).loc Cert.NormBwRefIdeal.main_arg7)) _).trans ?_), (h c).2.2.2⟩
      · exact congr (congr (congr (congr (congrArg₂ (back (M := 8448)) e0 e1) e2) e3) e5) e7
      · exact congr (congr (congr (congr (congr (congrArg₂ (mixed (M := 8448)) e0 e1) e2) e3) e5) e6) e7
      · exact congr (congr (congr (congr (congr (congrArg₂ (vectors (M := 8448)) e0 e1) e2) e3) e4) e5) e7)
      (Cert.NormBwRefIdeal.Value.run m' g')⟩

/-- The frames of the kernel, of the ideal kernel and of the reference. -/
theorem frames : Cert.quiescent_NormBw (hNormBw := Cert.NormBw.Gen.facts) ∧ Cert.quiescent_NormBwIdeal (hNormBwIdeal := Cert.NormBwIdeal.Gen.facts)
    ∧ Cert.quiescent_NormBwRefIdeal (hNormBwRefIdeal := Cert.NormBwRefIdeal.Gen.facts) :=
  ⟨fun m g _ => Cert.NormBw.Gen.frame m g, fun m g _ => Cert.NormBwIdeal.Gen.frame m g, fun m g _ =>
    (θ_run Cert.NormBwRefIdeal.defs _ _).mono (fun r h => ⟨fun c => (h c).2.2.2, sem_eq_zero_of_no_sems (by decide) r.2⟩) (Cert.NormBwRefIdeal.Value.run m g)⟩

end Cert.NormBwIdeal.Plain

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Sweep
public import proofs.«01_k».proof.Proof.Text
public import proofs.«01_k».proof.Proof.Kern
public import proofs.«01_k».proof.Proof.RefRun
public import proofs.«01_k».proof.Proof.Tame
public import proofs.«01_k».proof.Proof.InDw
public import proofs.«01_k».proof.Proof.UpDw
public import proofs.«01_k».proof.Proof.DownDw
public import proofs.«01_k».proof.Proof.OutDw
public import proofs.«01_k».proof.Proof.PbDw
public import proofs.«01_k».proof.Proof.UpDx
public import proofs.«01_k».proof.Proof.DownDx
public import proofs.«01_k».proof.Proof.OutDx
public import proofs.«01_k».proof.Proof.PbDx
public import proofs.«01_k».proof.Proof.InFw
public import proofs.«01_k».proof.Proof.UpFw
public import proofs.«01_k».proof.Proof.DownFw
public import proofs.«01_k».proof.Proof.OutFw
public import proofs.«01_k».proof.Proof.PbFw
public import proofs.«01_k».proof.Proof.ActBw
public import proofs.«01_k».proof.Proof.MergeFw
public import proofs.«01_k».proof.Proof.MergeBw
public import proofs.«01_k».proof.Proof.SmallFw
public import proofs.«01_k».proof.Proof.NormFw
public import proofs.«01_k».proof.Proof.NormBw

@[expose] public section

noncomputable section

namespace Cert.Proof

open Idealize.ShloMosaic Idealize.SL.Sem

set_option maxHeartbeats 8000000 in
/-- The kernel's frame at machine numbers: its text is the ideal program's text, so the run proved over any numbers is its run. -/
theorem frame_kernel : Cert.quiescent_Kernel (hKernel := Cert.Kernel.Gen.facts) := fun m ρ _ => by
  rw [Cert.Text.run_eq]
  exact Cert.KernelIdeal.Sweep.frame (F := Bits) m ρ

/-- The ideal kernel's frame. -/
theorem frame_ideal : Cert.quiescent_KernelIdeal (hKernelIdeal := Cert.KernelIdeal.Gen.facts) :=
  fun m ρ _ => Cert.KernelIdeal.Sweep.frame m ρ

/-- The reference's frame. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2.2.2.2.2.2.2, sem_eq_zero_of_no_sems (by decide) r.2⟩)
    (Cert.ReferenceIdeal.Value.run m ρ)

open Cert.Gla Cert.KernelIdeal.Chunk Idealize.ShloMosaic.ValueIdx Idealize.ShloMosaic.StableHlo

/-- Two arrays equal at every row, head and column of the head are equal. -/
theorem ext_k (A B : (⟨2, ![8448, 512]⟩ : Shape).Idx → EReal) (h : ∀ t e k, A (ix2 t (ck e k)) = B (ix2 t (ck e k))) : A = B :=
  funext fun i => by
    obtain ⟨e, k, hj⟩ := exists_ck (i 1)
    have hi : i = ix2 (i 0) (ck e k) := by rw [← hj]; exact eq_ix2 i
    rw [hi]
    exact h (i 0) e k
theorem ext_v (A B : (⟨2, ![8448, 1024]⟩ : Shape).Idx → EReal) (h : ∀ t e k, A (ix2 t (cv e k)) = B (ix2 t (cv e k))) : A = B :=
  funext fun i => by
    obtain ⟨e, k, hj⟩ := exists_cv (i 1)
    have hi : i = ix2 (i 0) (cv e k) := by rw [← hj]; exact eq_ix2 i
    rw [hi]
    exact h (i 0) e k

/-- An array given at the forward scan's rows, and at the backward scan's, is given at every row. -/
theorem at_fwd {n : ℕ} {A : (⟨2, ![8448, n]⟩ : Shape).Idx → EReal} {j : Fin n} {f : Fin 8448 → EReal} (h : ∀ x, A (ix2 (rowF x) j) = f x) (t : Fin 8448) :
    A (ix2 t j) = f (timeF t) := by
  rw [← h, rowF_timeF]
theorem at_bwd {n : ℕ} {A : (⟨2, ![8448, n]⟩ : Shape).Idx → EReal} {j : Fin n} {f : Fin 8448 → EReal} (h : ∀ x, A (ix2 (Fin.rev x) j) = f x) (t : Fin 8448) :
    A (ix2 t j) = f (Fin.rev t) := by
  rw [← h, Fin.rev_rev]

/-- Equal arguments hold the same data. -/
theorem holds_congr {D : Data} {a0 b0 : FVec Ideal (⟨2, ![8448, 10368]⟩ : Shape) .bf16} {a1 b1 : FVec Ideal (⟨2, ![8448, 128]⟩ : Shape) .f32}
    {a2 b2 : FVec Ideal (⟨2, ![16, 512]⟩ : Shape) .f32} {a3 b3 : FVec Ideal (⟨2, ![1, 512]⟩ : Shape) .f32} {a4 b4 : FVec Ideal (⟨2, ![16, 512]⟩ : Shape) .f32}
    {a5 b5 : FVec Ideal (⟨2, ![1, 512]⟩ : Shape) .f32} {a6 b6 : FVec Ideal (⟨2, ![8448, 1024]⟩ : Shape) .bf16}
    (e0 : b0 = a0) (e1 : b1 = a1) (e2 : b2 = a2) (e3 : b3 = a3) (e4 : b4 = a4) (e5 : b5 = a5) (e6 : b6 = a6) (h : Holds D a0 a1 a2 a3 a4 a5 a6) :
    Holds D b0 b1 b2 b3 b4 b5 b6 := by
  subst e0 e1 e2 e3 e4 e5 e6
  exact h

set_option maxHeartbeats 4000000 in
/-- The kernel's eight gradients are the reference's. -/
theorem equal : Cert.algebraic_KernelIdeal_ReferenceIdeal_pre_tame (hKernelIdeal := Cert.KernelIdeal.Gen.facts) (hReferenceIdeal := Cert.ReferenceIdeal.Gen.facts)
    (hPre_tame := Cert.Pre_tame.facts) := fun m g m' g' hpre harg => by
  have hk : ∀ c : Dev Cert.KernelIdeal.nD, Cert.KernelIdeal.Sweep.Given m c (Cert.Pre_tame.dataOf _ _ _ _ _ _ _) := fun c => Cert.Pre_tame.holds_of (hpre c)
  have hr : ∀ c : Dev Cert.ReferenceIdeal.nD, Cert.ReferenceIdeal.Plain.Given (launchContents m' c) (Cert.Pre_tame.dataOf
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6))) := fun c => by
    obtain ⟨e0, e1, e2, e3, e4, e5, e6⟩ := harg c
    exact holds_congr e0 e1 e2 e3 e4 e5 e6 (hk c)
  refine ⟨fun c => (Cert.KernelIdeal.Sweep.dats m 0 c).arrAt 14 Cert.KernelIdeal.cfg0.N, fun c => (Cert.KernelIdeal.Sweep.dats m 0 c).arrAt 18 Cert.KernelIdeal.cfg0.N,
    fun c => (Cert.KernelIdeal.Sweep.dats m 0 c).arrAt 15 Cert.KernelIdeal.cfg0.N, fun c => (Cert.KernelIdeal.Sweep.dats m 0 c).arrAt 19 Cert.KernelIdeal.cfg0.N,
    fun c => (Cert.KernelIdeal.Sweep.dats m 0 c).arrAt 16 Cert.KernelIdeal.cfg0.N, fun c => (Cert.KernelIdeal.Sweep.dats m 0 c).arrAt 20 Cert.KernelIdeal.cfg0.N,
    fun c => (Cert.KernelIdeal.Sweep.dats m 0 c).arrAt 17 Cert.KernelIdeal.cfg0.N, fun c => (Cert.KernelIdeal.Sweep.dats m 0 c).arrAt 21 Cert.KernelIdeal.cfg0.N, ?_, ?_⟩
  · exact (θ_run Cert.KernelIdeal.defs _ _).mono (fun r h c => ⟨(h.1 c).1 14, (h.1 c).1 18, (h.1 c).1 15, (h.1 c).1 19, (h.1 c).1 16, (h.1 c).1 20, (h.1 c).1 17, (h.1 c).1 21, h.2 c⟩)
      (θ_run_and (Cert.KernelIdeal.Sweep.run_main m g) (Cert.KernelIdeal.Sweep.unchanged m g))
  · exact (θ_run Cert.ReferenceIdeal.defs _ _).mono (fun r h c => ⟨
      ext_k _ _ fun t e k => ((h c).1.1 t e k).trans (at_fwd (fun x => Cert.KernelIdeal.Sweep.dq_fwd (hk c) x e k) t).symm,
      ext_k _ _ fun t e k => ((h c).1.2.1 t e k).trans (at_bwd (fun x => Cert.KernelIdeal.Sweep.dq_bwd (hk c) x e k) t).symm,
      ext_k _ _ fun t e k => ((h c).1.2.2.1 t e k).trans (at_fwd (fun x => Cert.KernelIdeal.Sweep.dk_fwd (hk c) x e k) t).symm,
      ext_k _ _ fun t e k => ((h c).1.2.2.2.1 t e k).trans (at_bwd (fun x => Cert.KernelIdeal.Sweep.dk_bwd (hk c) x e k) t).symm,
      ext_v _ _ fun t e k => ((h c).1.2.2.2.2.1 t e k).trans (at_fwd (fun x => Cert.KernelIdeal.Sweep.dv_fwd (hk c) x e k) t).symm,
      ext_v _ _ fun t e k => ((h c).1.2.2.2.2.2.1 t e k).trans (at_bwd (fun x => Cert.KernelIdeal.Sweep.dv_bwd (hk c) x e k) t).symm,
      ext_k _ _ fun t e k => ((h c).1.2.2.2.2.2.2.1 t e k).trans (at_fwd (fun x => Cert.KernelIdeal.Sweep.dp_fwd (hk c) x e k) t).symm,
      ext_k _ _ fun t e k => ((h c).1.2.2.2.2.2.2.2 t e k).trans (at_bwd (fun x => Cert.KernelIdeal.Sweep.dp_bwd (hk c) x e k) t).symm,
      (h c).2⟩)
      (Cert.ReferenceIdeal.Plain.run_results m' g' _ hr)

/-- All claims: the gradient of the gated linear attention first, then the products, then the activation, the gated sum and the norm. -/
theorem claim : Cert.Claim := ⟨Cert.Kernel.Gen.facts, Cert.KernelIdeal.Gen.facts, Cert.ReferenceIdeal.Gen.facts,
  Cert.InDw.Gen.facts, Cert.InDwIdeal.Gen.facts, Cert.InDwRefIdeal.Gen.facts,
  Cert.UpDw.Gen.facts, Cert.UpDwIdeal.Gen.facts, Cert.UpDwRefIdeal.Gen.facts,
  Cert.DownDw.Gen.facts, Cert.DownDwIdeal.Gen.facts, Cert.DownDwRefIdeal.Gen.facts,
  Cert.OutDw.Gen.facts, Cert.OutDwIdeal.Gen.facts, Cert.OutDwRefIdeal.Gen.facts,
  Cert.PbDw.Gen.facts, Cert.PbDwIdeal.Gen.facts, Cert.PbDwRefIdeal.Gen.facts,
  Cert.UpDx.Gen.facts, Cert.UpDxIdeal.Gen.facts, Cert.UpDxRefIdeal.Gen.facts,
  Cert.DownDx.Gen.facts, Cert.DownDxIdeal.Gen.facts, Cert.DownDxRefIdeal.Gen.facts,
  Cert.OutDx.Gen.facts, Cert.OutDxIdeal.Gen.facts, Cert.OutDxRefIdeal.Gen.facts,
  Cert.PbDx.Gen.facts, Cert.PbDxIdeal.Gen.facts, Cert.PbDxRefIdeal.Gen.facts,
  Cert.InFw.Gen.facts, Cert.InFwIdeal.Gen.facts, Cert.InFwRefIdeal.Gen.facts,
  Cert.UpFw.Gen.facts, Cert.UpFwIdeal.Gen.facts, Cert.UpFwRefIdeal.Gen.facts,
  Cert.DownFw.Gen.facts, Cert.DownFwIdeal.Gen.facts, Cert.DownFwRefIdeal.Gen.facts,
  Cert.OutFw.Gen.facts, Cert.OutFwIdeal.Gen.facts, Cert.OutFwRefIdeal.Gen.facts,
  Cert.PbFw.Gen.facts, Cert.PbFwIdeal.Gen.facts, Cert.PbFwRefIdeal.Gen.facts,
  Cert.ActBw.Gen.facts, Cert.ActBwIdeal.Gen.facts, Cert.ActBwRefIdeal.Gen.facts,
  Cert.MergeFw.Gen.facts, Cert.MergeFwIdeal.Gen.facts, Cert.MergeFwRefIdeal.Gen.facts,
  Cert.MergeBw.Gen.facts, Cert.MergeBwIdeal.Gen.facts, Cert.MergeBwRefIdeal.Gen.facts,
  Cert.SmallFw.Gen.facts, Cert.SmallFwIdeal.Gen.facts, Cert.SmallFwRefIdeal.Gen.facts,
  Cert.NormFw.Gen.facts, Cert.NormFwIdeal.Gen.facts, Cert.NormFwRefIdeal.Gen.facts,
  Cert.NormBw.Gen.facts, Cert.NormBwIdeal.Gen.facts, Cert.NormBwRefIdeal.Gen.facts,
  Cert.Pre_tame.facts, Cert.Pre_bounded.facts,
  frame_kernel, frame_ideal, fun m g _ => frame_ideal m g trivial, frame_reference, fun m g _ => frame_reference m g trivial,
  Cert.InDwIdeal.Plain.frames.1, Cert.InDwIdeal.Plain.frames.2.1, Cert.InDwIdeal.Plain.frames.2.2,
  Cert.UpDwIdeal.Plain.frames.1, Cert.UpDwIdeal.Plain.frames.2.1, Cert.UpDwIdeal.Plain.frames.2.2,
  Cert.DownDwIdeal.Plain.frames.1, Cert.DownDwIdeal.Plain.frames.2.1, Cert.DownDwIdeal.Plain.frames.2.2,
  Cert.OutDwIdeal.Plain.frames.1, Cert.OutDwIdeal.Plain.frames.2.1, Cert.OutDwIdeal.Plain.frames.2.2,
  Cert.PbDwIdeal.Plain.frames.1, Cert.PbDwIdeal.Plain.frames.2.1, Cert.PbDwIdeal.Plain.frames.2.2,
  Cert.UpDxIdeal.Plain.frames.1, Cert.UpDxIdeal.Plain.frames.2.1, Cert.UpDxIdeal.Plain.frames.2.2,
  Cert.DownDxIdeal.Plain.frames.1, Cert.DownDxIdeal.Plain.frames.2.1, Cert.DownDxIdeal.Plain.frames.2.2,
  Cert.OutDxIdeal.Plain.frames.1, Cert.OutDxIdeal.Plain.frames.2.1, Cert.OutDxIdeal.Plain.frames.2.2,
  Cert.PbDxIdeal.Plain.frames.1, Cert.PbDxIdeal.Plain.frames.2.1, Cert.PbDxIdeal.Plain.frames.2.2,
  Cert.InFwIdeal.Plain.frames.1, Cert.InFwIdeal.Plain.frames.2.1, Cert.InFwIdeal.Plain.frames.2.2,
  Cert.UpFwIdeal.Plain.frames.1, Cert.UpFwIdeal.Plain.frames.2.1, Cert.UpFwIdeal.Plain.frames.2.2,
  Cert.DownFwIdeal.Plain.frames.1, Cert.DownFwIdeal.Plain.frames.2.1, Cert.DownFwIdeal.Plain.frames.2.2,
  Cert.OutFwIdeal.Plain.frames.1, Cert.OutFwIdeal.Plain.frames.2.1, Cert.OutFwIdeal.Plain.frames.2.2,
  Cert.PbFwIdeal.Plain.frames.1, Cert.PbFwIdeal.Plain.frames.2.1, Cert.PbFwIdeal.Plain.frames.2.2,
  Cert.ActBwIdeal.Plain.frames.1, Cert.ActBwIdeal.Plain.frames.2.1, fun m g _ => Cert.ActBwIdeal.Plain.frames.2.1 m g trivial,
  Cert.ActBwIdeal.Plain.frames.2.2, fun m g _ => Cert.ActBwIdeal.Plain.frames.2.2 m g trivial,
  Cert.MergeFwIdeal.Plain.frames.1, Cert.MergeFwIdeal.Plain.frames.2.1, Cert.MergeFwIdeal.Plain.frames.2.2,
  Cert.MergeBwIdeal.Plain.frames.1, Cert.MergeBwIdeal.Plain.frames.2.1, Cert.MergeBwIdeal.Plain.frames.2.2,
  Cert.SmallFwIdeal.Plain.frames.1, Cert.SmallFwIdeal.Plain.frames.2.1, Cert.SmallFwIdeal.Plain.frames.2.2,
  Cert.NormFwIdeal.Plain.frames.1, Cert.NormFwIdeal.Plain.frames.2.1, Cert.NormFwIdeal.Plain.frames.2.2,
  Cert.NormBwIdeal.Plain.frames.1, Cert.NormBwIdeal.Plain.frames.2.1, Cert.NormBwIdeal.Plain.frames.2.2,
  trivial, equal,
  trivial, Cert.InDwIdeal.Plain.equal,
  trivial, Cert.UpDwIdeal.Plain.equal,
  trivial, Cert.DownDwIdeal.Plain.equal,
  trivial, Cert.OutDwIdeal.Plain.equal,
  trivial, Cert.PbDwIdeal.Plain.equal,
  trivial, Cert.UpDxIdeal.Plain.equal,
  trivial, Cert.DownDxIdeal.Plain.equal,
  trivial, Cert.OutDxIdeal.Plain.equal,
  trivial, Cert.PbDxIdeal.Plain.equal,
  trivial, Cert.InFwIdeal.Plain.equal,
  trivial, Cert.UpFwIdeal.Plain.equal,
  trivial, Cert.DownFwIdeal.Plain.equal,
  trivial, Cert.OutFwIdeal.Plain.equal,
  trivial, Cert.PbFwIdeal.Plain.equal,
  trivial, Cert.ActBwIdeal.Plain.equal,
  trivial, Cert.MergeFwIdeal.Plain.equal,
  trivial, Cert.MergeBwIdeal.Plain.equal,
  trivial, Cert.SmallFwIdeal.Plain.equal,
  trivial, Cert.NormFwIdeal.Plain.equal,
  trivial, Cert.NormBwIdeal.Plain.equal⟩

end Cert.Proof

end
